-- ==== Defs.lean ====
def Pre_DiscKernel (m : (ℓ : Loc Cert.DiscKernel.nD Cert.DiscKernel.τ Cert.DiscKernel.sig) → Buf (Elt Bits) ℓ) : Prop :=
  True

def Pre_DiscKernelIdeal (m : (ℓ : Loc Cert.DiscKernelIdeal.nD Cert.DiscKernelIdeal.τ Cert.DiscKernelIdeal.sig) → Buf (Elt Ideal) ℓ) : Prop :=
  True

def Pre_DiscReferenceIdeal (m : (ℓ : Loc Cert.DiscReferenceIdeal.nD Cert.DiscReferenceIdeal.τ Cert.DiscReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def Pre_WdnKernel (m : (ℓ : Loc Cert.WdnKernel.nD Cert.WdnKernel.τ Cert.WdnKernel.sig) → Buf (Elt Bits) ℓ) : Prop :=
  True

def Pre_WdnKernelIdeal (m : (ℓ : Loc Cert.WdnKernelIdeal.nD Cert.WdnKernelIdeal.τ Cert.WdnKernelIdeal.sig) → Buf (Elt Ideal) ℓ) : Prop :=
  True

def Pre_WdnReferenceIdeal (m : (ℓ : Loc Cert.WdnReferenceIdeal.nD Cert.WdnReferenceIdeal.τ Cert.WdnReferenceIdeal.sig) → Buf (Elt Ideal) ℓ) : Prop :=
  True

def Pre_WgtKernel (m : (ℓ : Loc Cert.WgtKernel.nD Cert.WgtKernel.τ Cert.WgtKernel.sig) → Buf (Elt Bits) ℓ) : Prop :=
  True

def Pre_WgtKernelIdeal (m : (ℓ : Loc Cert.WgtKernelIdeal.nD Cert.WgtKernelIdeal.τ Cert.WgtKernelIdeal.sig) → Buf (Elt Ideal) ℓ) : Prop :=
  True

def Pre_WgtReferenceIdeal (m : (ℓ : Loc Cert.WgtReferenceIdeal.nD Cert.WgtReferenceIdeal.τ Cert.WgtReferenceIdeal.sig) → Buf (Elt Ideal) ℓ) : Prop :=
  True

def Pre_InbKernel (m : (ℓ : Loc Cert.InbKernel.nD Cert.InbKernel.τ Cert.InbKernel.sig) → Buf (Elt Bits) ℓ) : Prop :=
  True

def Pre_InbKernelIdeal (m : (ℓ : Loc Cert.InbKernelIdeal.nD Cert.InbKernelIdeal.τ Cert.InbKernelIdeal.sig) → Buf (Elt Ideal) ℓ) : Prop :=
  True

def Pre_InbReferenceIdeal (m : (ℓ : Loc Cert.InbReferenceIdeal.nD Cert.InbReferenceIdeal.τ Cert.InbReferenceIdeal.sig) → Buf (Elt Ideal) ℓ) : Prop :=
  True

def Pre_InfKernel (m : (ℓ : Loc Cert.InfKernel.nD Cert.InfKernel.τ Cert.InfKernel.sig) → Buf (Elt Bits) ℓ) : Prop :=
  True

def Pre_InfKernelIdeal (m : (ℓ : Loc Cert.InfKernelIdeal.nD Cert.InfKernelIdeal.τ Cert.InfKernelIdeal.sig) → Buf (Elt Ideal) ℓ) : Prop :=
  True

def Pre_InfReferenceIdeal (m : (ℓ : Loc Cert.InfReferenceIdeal.nD Cert.InfReferenceIdeal.τ Cert.InfReferenceIdeal.sig) → Buf (Elt Ideal) ℓ) : Prop :=
  True

def Pre_WiuKernel (m : (ℓ : Loc Cert.WiuKernel.nD Cert.WiuKernel.τ Cert.WiuKernel.sig) → Buf (Elt Bits) ℓ) : Prop :=
  True

def Pre_WiuKernelIdeal (m : (ℓ : Loc Cert.WiuKernelIdeal.nD Cert.WiuKernelIdeal.τ Cert.WiuKernelIdeal.sig) → Buf (Elt Ideal) ℓ) : Prop :=
  True

def Pre_WiuReferenceIdeal (m : (ℓ : Loc Cert.WiuReferenceIdeal.nD Cert.WiuReferenceIdeal.τ Cert.WiuReferenceIdeal.sig) → Buf (Elt Ideal) ℓ) : Prop :=
  True

def Pre_WixKernel (m : (ℓ : Loc Cert.WixKernel.nD Cert.WixKernel.τ Cert.WixKernel.sig) → Buf (Elt Bits) ℓ) : Prop :=
  True

def Pre_WixKernelIdeal (m : (ℓ : Loc Cert.WixKernelIdeal.nD Cert.WixKernelIdeal.τ Cert.WixKernelIdeal.sig) → Buf (Elt Ideal) ℓ) : Prop :=
  True

def Pre_WixReferenceIdeal (m : (ℓ : Loc Cert.WixReferenceIdeal.nD Cert.WixReferenceIdeal.τ Cert.WixReferenceIdeal.sig) → Buf (Elt Ideal) ℓ) : Prop :=
  True

def Pre_WidKernel (m : (ℓ : Loc Cert.WidKernel.nD Cert.WidKernel.τ Cert.WidKernel.sig) → Buf (Elt Bits) ℓ) : Prop :=
  True

def Pre_WidKernelIdeal (m : (ℓ : Loc Cert.WidKernelIdeal.nD Cert.WidKernelIdeal.τ Cert.WidKernelIdeal.sig) → Buf (Elt Ideal) ℓ) : Prop :=
  True

def Pre_WidReferenceIdeal (m : (ℓ : Loc Cert.WidReferenceIdeal.nD Cert.WidReferenceIdeal.τ Cert.WidReferenceIdeal.sig) → Buf (Elt Ideal) ℓ) : Prop :=
  True

def Pre_WopKernel (m : (ℓ : Loc Cert.WopKernel.nD Cert.WopKernel.τ Cert.WopKernel.sig) → Buf (Elt Bits) ℓ) : Prop :=
  True

def Pre_WopKernelIdeal (m : (ℓ : Loc Cert.WopKernelIdeal.nD Cert.WopKernelIdeal.τ Cert.WopKernelIdeal.sig) → Buf (Elt Ideal) ℓ) : Prop :=
  True

def Pre_WopReferenceIdeal (m : (ℓ : Loc Cert.WopReferenceIdeal.nD Cert.WopReferenceIdeal.τ Cert.WopReferenceIdeal.sig) → Buf (Elt Ideal) ℓ) : Prop :=
  True

def Pre_LosKernel (m : (ℓ : Loc Cert.LosKernel.nD Cert.LosKernel.τ Cert.LosKernel.sig) → Buf (Elt Bits) ℓ) : Prop :=
  True

def Pre_LosKernelIdeal (m : (ℓ : Loc Cert.LosKernelIdeal.nD Cert.LosKernelIdeal.τ Cert.LosKernelIdeal.sig) → Buf (Elt Ideal) ℓ) : Prop :=
  True

def Pre_LosReferenceIdeal (m : (ℓ : Loc Cert.LosReferenceIdeal.nD Cert.LosReferenceIdeal.τ Cert.LosReferenceIdeal.sig) → Buf (Elt Ideal) ℓ) : Prop :=
  True

def Pre_AdNKernel (m : (ℓ : Loc Cert.AdNKernel.nD Cert.AdNKernel.τ Cert.AdNKernel.sig) → Buf (Elt Bits) ℓ) : Prop :=
  True

def Pre_AdNKernelIdeal (m : (ℓ : Loc Cert.AdNKernelIdeal.nD Cert.AdNKernelIdeal.τ Cert.AdNKernelIdeal.sig) → Buf (Elt Ideal) ℓ) : Prop :=
  True

def Pre_AdNReferenceIdeal (m : (ℓ : Loc Cert.AdNReferenceIdeal.nD Cert.AdNReferenceIdeal.τ Cert.AdNReferenceIdeal.sig) → Buf (Elt Ideal) ℓ) : Prop :=
  True

def Pre_AdLKernel (m : (ℓ : Loc Cert.AdLKernel.nD Cert.AdLKernel.τ Cert.AdLKernel.sig) → Buf (Elt Bits) ℓ) : Prop :=
  True

def Pre_AdLKernelIdeal (m : (ℓ : Loc Cert.AdLKernelIdeal.nD Cert.AdLKernelIdeal.τ Cert.AdLKernelIdeal.sig) → Buf (Elt Ideal) ℓ) : Prop :=
  True

def Pre_AdLReferenceIdeal (m : (ℓ : Loc Cert.AdLReferenceIdeal.nD Cert.AdLReferenceIdeal.τ Cert.AdLReferenceIdeal.sig) → Buf (Elt Ideal) ℓ) : Prop :=
  True

def Pre_AdSKernel (m : (ℓ : Loc Cert.AdSKernel.nD Cert.AdSKernel.τ Cert.AdSKernel.sig) → Buf (Elt Bits) ℓ) : Prop :=
  True

def Pre_AdSKernelIdeal (m : (ℓ : Loc Cert.AdSKernelIdeal.nD Cert.AdSKernelIdeal.τ Cert.AdSKernelIdeal.sig) → Buf (Elt Ideal) ℓ) : Prop :=
  True

def Pre_AdSReferenceIdeal (m : (ℓ : Loc Cert.AdSReferenceIdeal.nD Cert.AdSReferenceIdeal.τ Cert.AdSReferenceIdeal.sig) → Buf (Elt Ideal) ℓ) : Prop :=
  True

def Pre_AdBKernel (m : (ℓ : Loc Cert.AdBKernel.nD Cert.AdBKernel.τ Cert.AdBKernel.sig) → Buf (Elt Bits) ℓ) : Prop :=
  True

def Pre_AdBKernelIdeal (m : (ℓ : Loc Cert.AdBKernelIdeal.nD Cert.AdBKernelIdeal.τ Cert.AdBKernelIdeal.sig) → Buf (Elt Ideal) ℓ) : Prop :=
  True

def Pre_AdBReferenceIdeal (m : (ℓ : Loc Cert.AdBReferenceIdeal.nD Cert.AdBReferenceIdeal.τ Cert.AdBReferenceIdeal.sig) → Buf (Elt Ideal) ℓ) : Prop :=
  True

def Pre_AdCKernel (m : (ℓ : Loc Cert.AdCKernel.nD Cert.AdCKernel.τ Cert.AdCKernel.sig) → Buf (Elt Bits) ℓ) : Prop :=
  True

def Pre_AdCKernelIdeal (m : (ℓ : Loc Cert.AdCKernelIdeal.nD Cert.AdCKernelIdeal.τ Cert.AdCKernelIdeal.sig) → Buf (Elt Ideal) ℓ) : Prop :=
  True

def Pre_AdCReferenceIdeal (m : (ℓ : Loc Cert.AdCReferenceIdeal.nD Cert.AdCReferenceIdeal.τ Cert.AdCReferenceIdeal.sig) → Buf (Elt Ideal) ℓ) : Prop :=
  True

def Pre_AdVKernel (m : (ℓ : Loc Cert.AdVKernel.nD Cert.AdVKernel.τ Cert.AdVKernel.sig) → Buf (Elt Bits) ℓ) : Prop :=
  True

def Pre_AdVKernelIdeal (m : (ℓ : Loc Cert.AdVKernelIdeal.nD Cert.AdVKernelIdeal.τ Cert.AdVKernelIdeal.sig) → Buf (Elt Ideal) ℓ) : Prop :=
  True

def Pre_AdVReferenceIdeal (m : (ℓ : Loc Cert.AdVReferenceIdeal.nD Cert.AdVReferenceIdeal.τ Cert.AdVReferenceIdeal.sig) → Buf (Elt Ideal) ℓ) : Prop :=
  True

def Pre_AdHKernel (m : (ℓ : Loc Cert.AdHKernel.nD Cert.AdHKernel.τ Cert.AdHKernel.sig) → Buf (Elt Bits) ℓ) : Prop :=
  True

def Pre_AdHKernelIdeal (m : (ℓ : Loc Cert.AdHKernelIdeal.nD Cert.AdHKernelIdeal.τ Cert.AdHKernelIdeal.sig) → Buf (Elt Ideal) ℓ) : Prop :=
  True

def Pre_AdHReferenceIdeal (m : (ℓ : Loc Cert.AdHReferenceIdeal.nD Cert.AdHReferenceIdeal.τ Cert.AdHReferenceIdeal.sig) → Buf (Elt Ideal) ℓ) : Prop :=
  True

def Pre_AdFKernel (m : (ℓ : Loc Cert.AdFKernel.nD Cert.AdFKernel.τ Cert.AdFKernel.sig) → Buf (Elt Bits) ℓ) : Prop :=
  True

def Pre_AdFKernelIdeal (m : (ℓ : Loc Cert.AdFKernelIdeal.nD Cert.AdFKernelIdeal.τ Cert.AdFKernelIdeal.sig) → Buf (Elt Ideal) ℓ) : Prop :=
  True

def Pre_AdFReferenceIdeal (m : (ℓ : Loc Cert.AdFReferenceIdeal.nD Cert.AdFReferenceIdeal.τ Cert.AdFReferenceIdeal.sig) → Buf (Elt Ideal) ℓ) : Prop :=
  True

def Pre_AdGKernel (m : (ℓ : Loc Cert.AdGKernel.nD Cert.AdGKernel.τ Cert.AdGKernel.sig) → Buf (Elt Bits) ℓ) : Prop :=
  True

def Pre_AdGKernelIdeal (m : (ℓ : Loc Cert.AdGKernelIdeal.nD Cert.AdGKernelIdeal.τ Cert.AdGKernelIdeal.sig) → Buf (Elt Ideal) ℓ) : Prop :=
  True

def Pre_AdGReferenceIdeal (m : (ℓ : Loc Cert.AdGReferenceIdeal.nD Cert.AdGReferenceIdeal.τ Cert.AdGReferenceIdeal.sig) → Buf (Elt Ideal) ℓ) : Prop :=
  True

def Pre_SmIKernel (m : (ℓ : Loc Cert.SmIKernel.nD Cert.SmIKernel.τ Cert.SmIKernel.sig) → Buf (Elt Bits) ℓ) : Prop :=
  True

def Pre_SmIKernelIdeal (m : (ℓ : Loc Cert.SmIKernelIdeal.nD Cert.SmIKernelIdeal.τ Cert.SmIKernelIdeal.sig) → Buf (Elt Ideal) ℓ) : Prop :=
  True

def Pre_SmIReferenceIdeal (m : (ℓ : Loc Cert.SmIReferenceIdeal.nD Cert.SmIReferenceIdeal.τ Cert.SmIReferenceIdeal.sig) → Buf (Elt Ideal) ℓ) : Prop :=
  True

def Pre_SmUKernel (m : (ℓ : Loc Cert.SmUKernel.nD Cert.SmUKernel.τ Cert.SmUKernel.sig) → Buf (Elt Bits) ℓ) : Prop :=
  True

def Pre_SmUKernelIdeal (m : (ℓ : Loc Cert.SmUKernelIdeal.nD Cert.SmUKernelIdeal.τ Cert.SmUKernelIdeal.sig) → Buf (Elt Ideal) ℓ) : Prop :=
  True

def Pre_SmUReferenceIdeal (m : (ℓ : Loc Cert.SmUReferenceIdeal.nD Cert.SmUReferenceIdeal.τ Cert.SmUReferenceIdeal.sig) → Buf (Elt Ideal) ℓ) : Prop :=
  True

def Pre_SmVKernel (m : (ℓ : Loc Cert.SmVKernel.nD Cert.SmVKernel.τ Cert.SmVKernel.sig) → Buf (Elt Bits) ℓ) : Prop :=
  True

def Pre_SmVKernelIdeal (m : (ℓ : Loc Cert.SmVKernelIdeal.nD Cert.SmVKernelIdeal.τ Cert.SmVKernelIdeal.sig) → Buf (Elt Ideal) ℓ) : Prop :=
  True

def Pre_SmVReferenceIdeal (m : (ℓ : Loc Cert.SmVReferenceIdeal.nD Cert.SmVReferenceIdeal.τ Cert.SmVReferenceIdeal.sig) → Buf (Elt Ideal) ℓ) : Prop :=
  True

def Pre_SmOKernel (m : (ℓ : Loc Cert.SmOKernel.nD Cert.SmOKernel.τ Cert.SmOKernel.sig) → Buf (Elt Bits) ℓ) : Prop :=
  True

def Pre_SmOKernelIdeal (m : (ℓ : Loc Cert.SmOKernelIdeal.nD Cert.SmOKernelIdeal.τ Cert.SmOKernelIdeal.sig) → Buf (Elt Ideal) ℓ) : Prop :=
  True

def Pre_SmOReferenceIdeal (m : (ℓ : Loc Cert.SmOReferenceIdeal.nD Cert.SmOReferenceIdeal.τ Cert.SmOReferenceIdeal.sig) → Buf (Elt Ideal) ℓ) : Prop :=
  True

def Pre_SmDKernel (m : (ℓ : Loc Cert.SmDKernel.nD Cert.SmDKernel.τ Cert.SmDKernel.sig) → Buf (Elt Bits) ℓ) : Prop :=
  True

def Pre_SmDKernelIdeal (m : (ℓ : Loc Cert.SmDKernelIdeal.nD Cert.SmDKernelIdeal.τ Cert.SmDKernelIdeal.sig) → Buf (Elt Ideal) ℓ) : Prop :=
  True

def Pre_SmDReferenceIdeal (m : (ℓ : Loc Cert.SmDReferenceIdeal.nD Cert.SmDReferenceIdeal.τ Cert.SmDReferenceIdeal.sig) → Buf (Elt Ideal) ℓ) : Prop :=
  True

def Pre_SmGKernel (m : (ℓ : Loc Cert.SmGKernel.nD Cert.SmGKernel.τ Cert.SmGKernel.sig) → Buf (Elt Bits) ℓ) : Prop :=
  True

def Pre_SmGKernelIdeal (m : (ℓ : Loc Cert.SmGKernelIdeal.nD Cert.SmGKernelIdeal.τ Cert.SmGKernelIdeal.sig) → Buf (Elt Ideal) ℓ) : Prop :=
  True

def Pre_SmGReferenceIdeal (m : (ℓ : Loc Cert.SmGReferenceIdeal.nD Cert.SmGReferenceIdeal.τ Cert.SmGReferenceIdeal.sig) → Buf (Elt Ideal) ℓ) : Prop :=
  True

def quiescent_DiscKernel [hDiscKernel : Cert.DiscKernel.Facts] : Prop :=
  ∀ (m : (ℓ : Loc Cert.DiscKernel.nD Cert.DiscKernel.τ Cert.DiscKernel.sig) → Buf (Elt Bits) ℓ) (g : Dev Cert.DiscKernel.nD → PrngReg), Pre_DiscKernel m →
    θ_run (Cert.DiscKernel.defs (F := Bits)) (onTc (τ := Cert.DiscKernel.τ) (Cert.DiscKernel.main (F := Bits))) ⟨m, fun _ => 0, g⟩ (fun r => (∀ c : Dev Cert.DiscKernel.nD,
      r.2.mem ((c.tc : Thread Cert.DiscKernel.nD Cert.DiscKernel.τ).loc Cert.DiscKernel.main_arg0) = m ((c.tc : Thread Cert.DiscKernel.nD Cert.DiscKernel.τ).loc Cert.DiscKernel.main_arg0)
      ∧ r.2.mem ((c.tc : Thread Cert.DiscKernel.nD Cert.DiscKernel.τ).loc Cert.DiscKernel.main_arg1) = m ((c.tc : Thread Cert.DiscKernel.nD Cert.DiscKernel.τ).loc Cert.DiscKernel.main_arg1)
      ∧ r.2.mem ((c.tc : Thread Cert.DiscKernel.nD Cert.DiscKernel.τ).loc Cert.DiscKernel.main_arg2) = m ((c.tc : Thread Cert.DiscKernel.nD Cert.DiscKernel.τ).loc Cert.DiscKernel.main_arg2)
      ∧ r.2.mem ((c.tc : Thread Cert.DiscKernel.nD Cert.DiscKernel.τ).loc Cert.DiscKernel.main_arg3) = m ((c.tc : Thread Cert.DiscKernel.nD Cert.DiscKernel.τ).loc Cert.DiscKernel.main_arg3)
      ∧ r.2.mem ((c.tc : Thread Cert.DiscKernel.nD Cert.DiscKernel.τ).loc Cert.DiscKernel.main_arg4) = m ((c.tc : Thread Cert.DiscKernel.nD Cert.DiscKernel.τ).loc Cert.DiscKernel.main_arg4)
      ∧ r.2.mem ((c.tc : Thread Cert.DiscKernel.nD Cert.DiscKernel.τ).loc Cert.DiscKernel.main_arg5) = m ((c.tc : Thread Cert.DiscKernel.nD Cert.DiscKernel.τ).loc Cert.DiscKernel.main_arg5)
      ∧ r.2.mem ((c.tc : Thread Cert.DiscKernel.nD Cert.DiscKernel.τ).loc Cert.DiscKernel.main_arg6) = m ((c.tc : Thread Cert.DiscKernel.nD Cert.DiscKernel.τ).loc Cert.DiscKernel.main_arg6)
      ∧ r.2.mem ((c.tc : Thread Cert.DiscKernel.nD Cert.DiscKernel.τ).loc Cert.DiscKernel.main_arg7) = m ((c.tc : Thread Cert.DiscKernel.nD Cert.DiscKernel.τ).loc Cert.DiscKernel.main_arg7)
      ∧ r.2.mem ((c.tc : Thread Cert.DiscKernel.nD Cert.DiscKernel.τ).loc Cert.DiscKernel.main_arg8) = m ((c.tc : Thread Cert.DiscKernel.nD Cert.DiscKernel.τ).loc Cert.DiscKernel.main_arg8)
      ∧ r.2.mem ((c.tc : Thread Cert.DiscKernel.nD Cert.DiscKernel.τ).loc Cert.DiscKernel.main_arg9) = m ((c.tc : Thread Cert.DiscKernel.nD Cert.DiscKernel.τ).loc Cert.DiscKernel.main_arg9))
      ∧ r.2.sem = fun _ => 0)

def quiescent_DiscKernelIdeal [hDiscKernelIdeal : Cert.DiscKernelIdeal.Facts] : Prop :=
  ∀ (m : (ℓ : Loc Cert.DiscKernelIdeal.nD Cert.DiscKernelIdeal.τ Cert.DiscKernelIdeal.sig) → Buf (Elt Ideal) ℓ) (g : Dev Cert.DiscKernelIdeal.nD → PrngReg), Pre_DiscKernelIdeal m →
    θ_run (Cert.DiscKernelIdeal.defs (F := Ideal)) (onTc (τ := Cert.DiscKernelIdeal.τ) (Cert.DiscKernelIdeal.main (F := Ideal))) ⟨m, fun _ => 0, g⟩ (fun r => (∀ c : Dev Cert.DiscKernelIdeal.nD,
      r.2.mem ((c.tc : Thread Cert.DiscKernelIdeal.nD Cert.DiscKernelIdeal.τ).loc Cert.DiscKernelIdeal.main_arg0) = m ((c.tc : Thread Cert.DiscKernelIdeal.nD Cert.DiscKernelIdeal.τ).loc Cert.DiscKernelIdeal.main_arg0)
      ∧ r.2.mem ((c.tc : Thread Cert.DiscKernelIdeal.nD Cert.DiscKernelIdeal.τ).loc Cert.DiscKernelIdeal.main_arg1) = m ((c.tc : Thread Cert.DiscKernelIdeal.nD Cert.DiscKernelIdeal.τ).loc Cert.DiscKernelIdeal.main_arg1)
      ∧ r.2.mem ((c.tc : Thread Cert.DiscKernelIdeal.nD Cert.DiscKernelIdeal.τ).loc Cert.DiscKernelIdeal.main_arg2) = m ((c.tc : Thread Cert.DiscKernelIdeal.nD Cert.DiscKernelIdeal.τ).loc Cert.DiscKernelIdeal.main_arg2)
      ∧ r.2.mem ((c.tc : Thread Cert.DiscKernelIdeal.nD Cert.DiscKernelIdeal.τ).loc Cert.DiscKernelIdeal.main_arg3) = m ((c.tc : Thread Cert.DiscKernelIdeal.nD Cert.DiscKernelIdeal.τ).loc Cert.DiscKernelIdeal.main_arg3)
      ∧ r.2.mem ((c.tc : Thread Cert.DiscKernelIdeal.nD Cert.DiscKernelIdeal.τ).loc Cert.DiscKernelIdeal.main_arg4) = m ((c.tc : Thread Cert.DiscKernelIdeal.nD Cert.DiscKernelIdeal.τ).loc Cert.DiscKernelIdeal.main_arg4)
      ∧ r.2.mem ((c.tc : Thread Cert.DiscKernelIdeal.nD Cert.DiscKernelIdeal.τ).loc Cert.DiscKernelIdeal.main_arg5) = m ((c.tc : Thread Cert.DiscKernelIdeal.nD Cert.DiscKernelIdeal.τ).loc Cert.DiscKernelIdeal.main_arg5)
      ∧ r.2.mem ((c.tc : Thread Cert.DiscKernelIdeal.nD Cert.DiscKernelIdeal.τ).loc Cert.DiscKernelIdeal.main_arg6) = m ((c.tc : Thread Cert.DiscKernelIdeal.nD Cert.DiscKernelIdeal.τ).loc Cert.DiscKernelIdeal.main_arg6)
      ∧ r.2.mem ((c.tc : Thread Cert.DiscKernelIdeal.nD Cert.DiscKernelIdeal.τ).loc Cert.DiscKernelIdeal.main_arg7) = m ((c.tc : Thread Cert.DiscKernelIdeal.nD Cert.DiscKernelIdeal.τ).loc Cert.DiscKernelIdeal.main_arg7)
      ∧ r.2.mem ((c.tc : Thread Cert.DiscKernelIdeal.nD Cert.DiscKernelIdeal.τ).loc Cert.DiscKernelIdeal.main_arg8) = m ((c.tc : Thread Cert.DiscKernelIdeal.nD Cert.DiscKernelIdeal.τ).loc Cert.DiscKernelIdeal.main_arg8)
      ∧ r.2.mem ((c.tc : Thread Cert.DiscKernelIdeal.nD Cert.DiscKernelIdeal.τ).loc Cert.DiscKernelIdeal.main_arg9) = m ((c.tc : Thread Cert.DiscKernelIdeal.nD Cert.DiscKernelIdeal.τ).loc Cert.DiscKernelIdeal.main_arg9))
      ∧ r.2.sem = fun _ => 0)

def quiescent_DiscReferenceIdeal [hDiscReferenceIdeal : Cert.DiscReferenceIdeal.Facts] : Prop :=
  ∀ (m : (ℓ : Loc Cert.DiscReferenceIdeal.nD Cert.DiscReferenceIdeal.τ Cert.DiscReferenceIdeal.sig) → Buf (Elt Ideal) ℓ) (g : Dev Cert.DiscReferenceIdeal.nD → PrngReg), Pre_DiscReferenceIdeal m →
    θ_run (Cert.DiscReferenceIdeal.defs (F := Ideal)) (onTc (τ := Cert.DiscReferenceIdeal.τ) (Cert.DiscReferenceIdeal.main (F := Ideal))) ⟨m, fun _ => 0, g⟩ (fun r => (∀ c : Dev Cert.DiscReferenceIdeal.nD,
      r.2.mem ((c.tc : Thread Cert.DiscReferenceIdeal.nD Cert.DiscReferenceIdeal.τ).loc Cert.DiscReferenceIdeal.main_arg0) = m ((c.tc : Thread Cert.DiscReferenceIdeal.nD Cert.DiscReferenceIdeal.τ).loc Cert.DiscReferenceIdeal.main_arg0)
      ∧ r.2.mem ((c.tc : Thread Cert.DiscReferenceIdeal.nD Cert.DiscReferenceIdeal.τ).loc Cert.DiscReferenceIdeal.main_arg1) = m ((c.tc : Thread Cert.DiscReferenceIdeal.nD Cert.DiscReferenceIdeal.τ).loc Cert.DiscReferenceIdeal.main_arg1)
      ∧ r.2.mem ((c.tc : Thread Cert.DiscReferenceIdeal.nD Cert.DiscReferenceIdeal.τ).loc Cert.DiscReferenceIdeal.main_arg2) = m ((c.tc : Thread Cert.DiscReferenceIdeal.nD Cert.DiscReferenceIdeal.τ).loc Cert.DiscReferenceIdeal.main_arg2)
      ∧ r.2.mem ((c.tc : Thread Cert.DiscReferenceIdeal.nD Cert.DiscReferenceIdeal.τ).loc Cert.DiscReferenceIdeal.main_arg3) = m ((c.tc : Thread Cert.DiscReferenceIdeal.nD Cert.DiscReferenceIdeal.τ).loc Cert.DiscReferenceIdeal.main_arg3)
      ∧ r.2.mem ((c.tc : Thread Cert.DiscReferenceIdeal.nD Cert.DiscReferenceIdeal.τ).loc Cert.DiscReferenceIdeal.main_arg4) = m ((c.tc : Thread Cert.DiscReferenceIdeal.nD Cert.DiscReferenceIdeal.τ).loc Cert.DiscReferenceIdeal.main_arg4)
      ∧ r.2.mem ((c.tc : Thread Cert.DiscReferenceIdeal.nD Cert.DiscReferenceIdeal.τ).loc Cert.DiscReferenceIdeal.main_arg5) = m ((c.tc : Thread Cert.DiscReferenceIdeal.nD Cert.DiscReferenceIdeal.τ).loc Cert.DiscReferenceIdeal.main_arg5)
      ∧ r.2.mem ((c.tc : Thread Cert.DiscReferenceIdeal.nD Cert.DiscReferenceIdeal.τ).loc Cert.DiscReferenceIdeal.main_arg6) = m ((c.tc : Thread Cert.DiscReferenceIdeal.nD Cert.DiscReferenceIdeal.τ).loc Cert.DiscReferenceIdeal.main_arg6)
      ∧ r.2.mem ((c.tc : Thread Cert.DiscReferenceIdeal.nD Cert.DiscReferenceIdeal.τ).loc Cert.DiscReferenceIdeal.main_arg7) = m ((c.tc : Thread Cert.DiscReferenceIdeal.nD Cert.DiscReferenceIdeal.τ).loc Cert.DiscReferenceIdeal.main_arg7)
      ∧ r.2.mem ((c.tc : Thread Cert.DiscReferenceIdeal.nD Cert.DiscReferenceIdeal.τ).loc Cert.DiscReferenceIdeal.main_arg8) = m ((c.tc : Thread Cert.DiscReferenceIdeal.nD Cert.DiscReferenceIdeal.τ).loc Cert.DiscReferenceIdeal.main_arg8)
      ∧ r.2.mem ((c.tc : Thread Cert.DiscReferenceIdeal.nD Cert.DiscReferenceIdeal.τ).loc Cert.DiscReferenceIdeal.main_arg9) = m ((c.tc : Thread Cert.DiscReferenceIdeal.nD Cert.DiscReferenceIdeal.τ).loc Cert.DiscReferenceIdeal.main_arg9))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6)
      ∧ r.2.mem ((c.tc : Thread Cert.FfnKernel.nD Cert.FfnKernel.τ).loc Cert.FfnKernel.main_arg7) = m ((c.tc : Thread Cert.FfnKernel.nD Cert.FfnKernel.τ).loc Cert.FfnKernel.main_arg7))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
      ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2)
      ∧ r.2.mem ((c.tc : Thread Cert.FwdKernel.nD Cert.FwdKernel.τ).loc Cert.FwdKernel.main_arg3) = m ((c.tc : Thread Cert.FwdKernel.nD Cert.FwdKernel.τ).loc Cert.FwdKernel.main_arg3)
      ∧ r.2.mem ((c.tc : Thread Cert.FwdKernel.nD Cert.FwdKernel.τ).loc Cert.FwdKernel.main_arg4) = m ((c.tc : Thread Cert.FwdKernel.nD Cert.FwdKernel.τ).loc Cert.FwdKernel.main_arg4)
      ∧ r.2.mem ((c.tc : Thread Cert.FwdKernel.nD Cert.FwdKernel.τ).loc Cert.FwdKernel.main_arg5) = m ((c.tc : Thread Cert.FwdKernel.nD Cert.FwdKernel.τ).loc Cert.FwdKernel.main_arg5)
      ∧ r.2.mem ((c.tc : Thread Cert.FwdKernel.nD Cert.FwdKernel.τ).loc Cert.FwdKernel.main_arg6) = m ((c.tc : Thread Cert.FwdKernel.nD Cert.FwdKernel.τ).loc Cert.FwdKernel.main_arg6)
      ∧ r.2.mem ((c.tc : Thread Cert.FwdKernel.nD Cert.FwdKernel.τ).loc Cert.FwdKernel.main_arg7) = m ((c.tc : Thread Cert.FwdKernel.nD Cert.FwdKernel.τ).loc Cert.FwdKernel.main_arg7))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
      ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
      ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5)
      ∧ r.2.mem ((c.tc : Thread Cert.FwdKernelIdeal.nD Cert.FwdKernelIdeal.τ).loc Cert.FwdKernelIdeal.main_arg6) = m ((c.tc : Thread Cert.FwdKernelIdeal.nD Cert.FwdKernelIdeal.τ).loc Cert.FwdKernelIdeal.main_arg6)
      ∧ r.2.mem ((c.tc : Thread Cert.FwdKernelIdeal.nD Cert.FwdKernelIdeal.τ).loc Cert.FwdKernelIdeal.main_arg7) = m ((c.tc : Thread Cert.FwdKernelIdeal.nD Cert.FwdKernelIdeal.τ).loc Cert.FwdKernelIdeal.main_arg7))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4)
      ∧ r.2.mem ((c.tc : Thread Cert.FwdReferenceIdeal.nD Cert.FwdReferenceIdeal.τ).loc Cert.FwdReferenceIdeal.main_arg5) = m ((c.tc : Thread Cert.FwdReferenceIdeal.nD Cert.FwdReferenceIdeal.τ).loc Cert.FwdReferenceIdeal.main_arg5)
      ∧ r.2.mem ((c.tc : Thread Cert.FwdReferenceIdeal.nD Cert.FwdReferenceIdeal.τ).loc Cert.FwdReferenceIdeal.main_arg6) = m ((c.tc : Thread Cert.FwdReferenceIdeal.nD Cert.FwdReferenceIdeal.τ).loc Cert.FwdReferenceIdeal.main_arg6)
      ∧ r.2.mem ((c.tc : Thread Cert.FwdReferenceIdeal.nD Cert.FwdReferenceIdeal.τ).loc Cert.FwdReferenceIdeal.main_arg7) = m ((c.tc : Thread Cert.FwdReferenceIdeal.nD Cert.FwdReferenceIdeal.τ).loc Cert.FwdReferenceIdeal.main_arg7))
      ∧ r.2.sem = fun _ => 0)

def quiescent_WdnKernel [hWdnKernel : Cert.WdnKernel.Facts] : Prop :=
  ∀ (m : (ℓ : Loc Cert.WdnKernel.nD Cert.WdnKernel.τ Cert.WdnKernel.sig) → Buf (Elt Bits) ℓ) (g : Dev Cert.WdnKernel.nD → PrngReg), Pre_WdnKernel m →
    θ_run (Cert.WdnKernel.defs (F := Bits)) (onTc (τ := Cert.WdnKernel.τ) (Cert.WdnKernel.main (F := Bits))) ⟨m, fun _ => 0, g⟩ (fun r => (∀ c : Dev Cert.WdnKernel.nD,
      r.2.mem ((c.tc : Thread Cert.WdnKernel.nD Cert.WdnKernel.τ).loc Cert.WdnKernel.main_arg0) = m ((c.tc : Thread Cert.WdnKernel.nD Cert.WdnKernel.τ).loc Cert.WdnKernel.main_arg0)
      ∧ r.2.mem ((c.tc : Thread Cert.WdnKernel.nD Cert.WdnKernel.τ).loc Cert.WdnKernel.main_arg1) = m ((c.tc : Thread Cert.WdnKernel.nD Cert.WdnKernel.τ).loc Cert.WdnKernel.main_arg1))
      ∧ r.2.sem = fun _ => 0)

def quiescent_WdnKernelIdeal [hWdnKernelIdeal : Cert.WdnKernelIdeal.Facts] : Prop :=
  ∀ (m : (ℓ : Loc Cert.WdnKernelIdeal.nD Cert.WdnKernelIdeal.τ Cert.WdnKernelIdeal.sig) → Buf (Elt Ideal) ℓ) (g : Dev Cert.WdnKernelIdeal.nD → PrngReg), Pre_WdnKernelIdeal m →
    θ_run (Cert.WdnKernelIdeal.defs (F := Ideal)) (onTc (τ := Cert.WdnKernelIdeal.τ) (Cert.WdnKernelIdeal.main (F := Ideal))) ⟨m, fun _ => 0, g⟩ (fun r => (∀ c : Dev Cert.WdnKernelIdeal.nD,
      r.2.mem ((c.tc : Thread Cert.WdnKernelIdeal.nD Cert.WdnKernelIdeal.τ).loc Cert.WdnKernelIdeal.main_arg0) = m ((c.tc : Thread Cert.WdnKernelIdeal.nD Cert.WdnKernelIdeal.τ).loc Cert.WdnKernelIdeal.main_arg0)
      ∧ r.2.mem ((c.tc : Thread Cert.WdnKernelIdeal.nD Cert.WdnKernelIdeal.τ).loc Cert.WdnKernelIdeal.main_arg1) = m ((c.tc : Thread Cert.WdnKernelIdeal.nD Cert.WdnKernelIdeal.τ).loc Cert.WdnKernelIdeal.main_arg1))
      ∧ r.2.sem = fun _ => 0)

def quiescent_WdnReferenceIdeal [hWdnReferenceIdeal : Cert.WdnReferenceIdeal.Facts] : Prop :=
  ∀ (m : (ℓ : Loc Cert.WdnReferenceIdeal.nD Cert.WdnReferenceIdeal.τ Cert.WdnReferenceIdeal.sig) → Buf (Elt Ideal) ℓ) (g : Dev Cert.WdnReferenceIdeal.nD → PrngReg), Pre_WdnReferenceIdeal m →
    θ_run (Cert.WdnReferenceIdeal.defs (F := Ideal)) (onTc (τ := Cert.WdnReferenceIdeal.τ) (Cert.WdnReferenceIdeal.main (F := Ideal))) ⟨m, fun _ => 0, g⟩ (fun r => (∀ c : Dev Cert.WdnReferenceIdeal.nD,
      r.2.mem ((c.tc : Thread Cert.WdnReferenceIdeal.nD Cert.WdnReferenceIdeal.τ).loc Cert.WdnReferenceIdeal.main_arg0) = m ((c.tc : Thread Cert.WdnReferenceIdeal.nD Cert.WdnReferenceIdeal.τ).loc Cert.WdnReferenceIdeal.main_arg0)
      ∧ r.2.mem ((c.tc : Thread Cert.WdnReferenceIdeal.nD Cert.WdnReferenceIdeal.τ).loc Cert.WdnReferenceIdeal.main_arg1) = m ((c.tc : Thread Cert.WdnReferenceIdeal.nD Cert.WdnReferenceIdeal.τ).loc Cert.WdnReferenceIdeal.main_arg1))
      ∧ r.2.sem = fun _ => 0)

def quiescent_WgtKernel [hWgtKernel : Cert.WgtKernel.Facts] : Prop :=
  ∀ (m : (ℓ : Loc Cert.WgtKernel.nD Cert.WgtKernel.τ Cert.WgtKernel.sig) → Buf (Elt Bits) ℓ) (g : Dev Cert.WgtKernel.nD → PrngReg), Pre_WgtKernel m →
    θ_run (Cert.WgtKernel.defs (F := Bits)) (onTc (τ := Cert.WgtKernel.τ) (Cert.WgtKernel.main (F := Bits))) ⟨m, fun _ => 0, g⟩ (fun r => (∀ c : Dev Cert.WgtKernel.nD,
      r.2.mem ((c.tc : Thread Cert.WgtKernel.nD Cert.WgtKernel.τ).loc Cert.WgtKernel.main_arg0) = m ((c.tc : Thread Cert.WgtKernel.nD Cert.WgtKernel.τ).loc Cert.WgtKernel.main_arg0)
      ∧ r.2.mem ((c.tc : Thread Cert.WgtKernel.nD Cert.WgtKernel.τ).loc Cert.WgtKernel.main_arg1) = m ((c.tc : Thread Cert.WgtKernel.nD Cert.WgtKernel.τ).loc Cert.WgtKernel.main_arg1))
      ∧ r.2.sem = fun _ => 0)

def quiescent_WgtKernelIdeal [hWgtKernelIdeal : Cert.WgtKernelIdeal.Facts] : Prop :=
  ∀ (m : (ℓ : Loc Cert.WgtKernelIdeal.nD Cert.WgtKernelIdeal.τ Cert.WgtKernelIdeal.sig) → Buf (Elt Ideal) ℓ) (g : Dev Cert.WgtKernelIdeal.nD → PrngReg), Pre_WgtKernelIdeal m →
    θ_run (Cert.WgtKernelIdeal.defs (F := Ideal)) (onTc (τ := Cert.WgtKernelIdeal.τ) (Cert.WgtKernelIdeal.main (F := Ideal))) ⟨m, fun _ => 0, g⟩ (fun r => (∀ c : Dev Cert.WgtKernelIdeal.nD,
      r.2.mem ((c.tc : Thread Cert.WgtKernelIdeal.nD Cert.WgtKernelIdeal.τ).loc Cert.WgtKernelIdeal.main_arg0) = m ((c.tc : Thread Cert.WgtKernelIdeal.nD Cert.WgtKernelIdeal.τ).loc Cert.WgtKernelIdeal.main_arg0)
      ∧ r.2.mem ((c.tc : Thread Cert.WgtKernelIdeal.nD Cert.WgtKernelIdeal.τ).loc Cert.WgtKernelIdeal.main_arg1) = m ((c.tc : Thread Cert.WgtKernelIdeal.nD Cert.WgtKernelIdeal.τ).loc Cert.WgtKernelIdeal.main_arg1))
      ∧ r.2.sem = fun _ => 0)

def quiescent_WgtReferenceIdeal [hWgtReferenceIdeal : Cert.WgtReferenceIdeal.Facts] : Prop :=
  ∀ (m : (ℓ : Loc Cert.WgtReferenceIdeal.nD Cert.WgtReferenceIdeal.τ Cert.WgtReferenceIdeal.sig) → Buf (Elt Ideal) ℓ) (g : Dev Cert.WgtReferenceIdeal.nD → PrngReg), Pre_WgtReferenceIdeal m →
    θ_run (Cert.WgtReferenceIdeal.defs (F := Ideal)) (onTc (τ := Cert.WgtReferenceIdeal.τ) (Cert.WgtReferenceIdeal.main (F := Ideal))) ⟨m, fun _ => 0, g⟩ (fun r => (∀ c : Dev Cert.WgtReferenceIdeal.nD,
      r.2.mem ((c.tc : Thread Cert.WgtReferenceIdeal.nD Cert.WgtReferenceIdeal.τ).loc Cert.WgtReferenceIdeal.main_arg0) = m ((c.tc : Thread Cert.WgtReferenceIdeal.nD Cert.WgtReferenceIdeal.τ).loc Cert.WgtReferenceIdeal.main_arg0)
      ∧ r.2.mem ((c.tc : Thread Cert.WgtReferenceIdeal.nD Cert.WgtReferenceIdeal.τ).loc Cert.WgtReferenceIdeal.main_arg1) = m ((c.tc : Thread Cert.WgtReferenceIdeal.nD Cert.WgtReferenceIdeal.τ).loc Cert.WgtReferenceIdeal.main_arg1))
      ∧ r.2.sem = fun _ => 0)

def quiescent_InbKernel [hInbKernel : Cert.InbKernel.Facts] : Prop :=
  ∀ (m : (ℓ : Loc Cert.InbKernel.nD Cert.InbKernel.τ Cert.InbKernel.sig) → Buf (Elt Bits) ℓ) (g : Dev Cert.InbKernel.nD → PrngReg), Pre_InbKernel m →
    θ_run (Cert.InbKernel.defs (F := Bits)) (onTc (τ := Cert.InbKernel.τ) (Cert.InbKernel.main (F := Bits))) ⟨m, fun _ => 0, g⟩ (fun r => (∀ c : Dev Cert.InbKernel.nD,
      r.2.mem ((c.tc : Thread Cert.InbKernel.nD Cert.InbKernel.τ).loc Cert.InbKernel.main_arg0) = m ((c.tc : Thread Cert.InbKernel.nD Cert.InbKernel.τ).loc Cert.InbKernel.main_arg0)
      ∧ r.2.mem ((c.tc : Thread Cert.InbKernel.nD Cert.InbKernel.τ).loc Cert.InbKernel.main_arg1) = m ((c.tc : Thread Cert.InbKernel.nD Cert.InbKernel.τ).loc Cert.InbKernel.main_arg1)
      ∧ r.2.mem ((c.tc : Thread Cert.InbKernel.nD Cert.InbKernel.τ).loc Cert.InbKernel.main_arg2) = m ((c.tc : Thread Cert.InbKernel.nD Cert.InbKernel.τ).loc Cert.InbKernel.main_arg2)
      ∧ r.2.mem ((c.tc : Thread Cert.InbKernel.nD Cert.InbKernel.τ).loc Cert.InbKernel.main_arg3) = m ((c.tc : Thread Cert.InbKernel.nD Cert.InbKernel.τ).loc Cert.InbKernel.main_arg3)
      ∧ r.2.mem ((c.tc : Thread Cert.InbKernel.nD Cert.InbKernel.τ).loc Cert.InbKernel.main_arg4) = m ((c.tc : Thread Cert.InbKernel.nD Cert.InbKernel.τ).loc Cert.InbKernel.main_arg4)
      ∧ r.2.mem ((c.tc : Thread Cert.InbKernel.nD Cert.InbKernel.τ).loc Cert.InbKernel.main_arg5) = m ((c.tc : Thread Cert.InbKernel.nD Cert.InbKernel.τ).loc Cert.InbKernel.main_arg5)
      ∧ r.2.mem ((c.tc : Thread Cert.InbKernel.nD Cert.InbKernel.τ).loc Cert.InbKernel.main_arg6) = m ((c.tc : Thread Cert.InbKernel.nD Cert.InbKernel.τ).loc Cert.InbKernel.main_arg6)
      ∧ r.2.mem ((c.tc : Thread Cert.InbKernel.nD Cert.InbKernel.τ).loc Cert.InbKernel.main_arg7) = m ((c.tc : Thread Cert.InbKernel.nD Cert.InbKernel.τ).loc Cert.InbKernel.main_arg7))
      ∧ r.2.sem = fun _ => 0)

def quiescent_InbKernelIdeal [hInbKernelIdeal : Cert.InbKernelIdeal.Facts] : Prop :=
  ∀ (m : (ℓ : Loc Cert.InbKernelIdeal.nD Cert.InbKernelIdeal.τ Cert.InbKernelIdeal.sig) → Buf (Elt Ideal) ℓ) (g : Dev Cert.InbKernelIdeal.nD → PrngReg), Pre_InbKernelIdeal m →
    θ_run (Cert.InbKernelIdeal.defs (F := Ideal)) (onTc (τ := Cert.InbKernelIdeal.τ) (Cert.InbKernelIdeal.main (F := Ideal))) ⟨m, fun _ => 0, g⟩ (fun r => (∀ c : Dev Cert.InbKernelIdeal.nD,
      r.2.mem ((c.tc : Thread Cert.InbKernelIdeal.nD Cert.InbKernelIdeal.τ).loc Cert.InbKernelIdeal.main_arg0) = m ((c.tc : Thread Cert.InbKernelIdeal.nD Cert.InbKernelIdeal.τ).loc Cert.InbKernelIdeal.main_arg0)
      ∧ r.2.mem ((c.tc : Thread Cert.InbKernelIdeal.nD Cert.InbKernelIdeal.τ).loc Cert.InbKernelIdeal.main_arg1) = m ((c.tc : Thread Cert.InbKernelIdeal.nD Cert.InbKernelIdeal.τ).loc Cert.InbKernelIdeal.main_arg1)
      ∧ r.2.mem ((c.tc : Thread Cert.InbKernelIdeal.nD Cert.InbKernelIdeal.τ).loc Cert.InbKernelIdeal.main_arg2) = m ((c.tc : Thread Cert.InbKernelIdeal.nD Cert.InbKernelIdeal.τ).loc Cert.InbKernelIdeal.main_arg2)
      ∧ r.2.mem ((c.tc : Thread Cert.InbKernelIdeal.nD Cert.InbKernelIdeal.τ).loc Cert.InbKernelIdeal.main_arg3) = m ((c.tc : Thread Cert.InbKernelIdeal.nD Cert.InbKernelIdeal.τ).loc Cert.InbKernelIdeal.main_arg3)
      ∧ r.2.mem ((c.tc : Thread Cert.InbKernelIdeal.nD Cert.InbKernelIdeal.τ).loc Cert.InbKernelIdeal.main_arg4) = m ((c.tc : Thread Cert.InbKernelIdeal.nD Cert.InbKernelIdeal.τ).loc Cert.InbKernelIdeal.main_arg4)
      ∧ r.2.mem ((c.tc : Thread Cert.InbKernelIdeal.nD Cert.InbKernelIdeal.τ).loc Cert.InbKernelIdeal.main_arg5) = m ((c.tc : Thread Cert.InbKernelIdeal.nD Cert.InbKernelIdeal.τ).loc Cert.InbKernelIdeal.main_arg5)
      ∧ r.2.mem ((c.tc : Thread Cert.InbKernelIdeal.nD Cert.InbKernelIdeal.τ).loc Cert.InbKernelIdeal.main_arg6) = m ((c.tc : Thread Cert.InbKernelIdeal.nD Cert.InbKernelIdeal.τ).loc Cert.InbKernelIdeal.main_arg6)
      ∧ r.2.mem ((c.tc : Thread Cert.InbKernelIdeal.nD Cert.InbKernelIdeal.τ).loc Cert.InbKernelIdeal.main_arg7) = m ((c.tc : Thread Cert.InbKernelIdeal.nD Cert.InbKernelIdeal.τ).loc Cert.InbKernelIdeal.main_arg7))
      ∧ r.2.sem = fun _ => 0)

def quiescent_InbReferenceIdeal [hInbReferenceIdeal : Cert.InbReferenceIdeal.Facts] : Prop :=
  ∀ (m : (ℓ : Loc Cert.InbReferenceIdeal.nD Cert.InbReferenceIdeal.τ Cert.InbReferenceIdeal.sig) → Buf (Elt Ideal) ℓ) (g : Dev Cert.InbReferenceIdeal.nD → PrngReg), Pre_InbReferenceIdeal m →
    θ_run (Cert.InbReferenceIdeal.defs (F := Ideal)) (onTc (τ := Cert.InbReferenceIdeal.τ) (Cert.InbReferenceIdeal.main (F := Ideal))) ⟨m, fun _ => 0, g⟩ (fun r => (∀ c : Dev Cert.InbReferenceIdeal.nD,
      r.2.mem ((c.tc : Thread Cert.InbReferenceIdeal.nD Cert.InbReferenceIdeal.τ).loc Cert.InbReferenceIdeal.main_arg0) = m ((c.tc : Thread Cert.InbReferenceIdeal.nD Cert.InbReferenceIdeal.τ).loc Cert.InbReferenceIdeal.main_arg0)
      ∧ r.2.mem ((c.tc : Thread Cert.InbReferenceIdeal.nD Cert.InbReferenceIdeal.τ).loc Cert.InbReferenceIdeal.main_arg1) = m ((c.tc : Thread Cert.InbReferenceIdeal.nD Cert.InbReferenceIdeal.τ).loc Cert.InbReferenceIdeal.main_arg1)
      ∧ r.2.mem ((c.tc : Thread Cert.InbReferenceIdeal.nD Cert.InbReferenceIdeal.τ).loc Cert.InbReferenceIdeal.main_arg2) = m ((c.tc : Thread Cert.InbReferenceIdeal.nD Cert.InbReferenceIdeal.τ).loc Cert.InbReferenceIdeal.main_arg2)
      ∧ r.2.mem ((c.tc : Thread Cert.InbReferenceIdeal.nD Cert.InbReferenceIdeal.τ).loc Cert.InbReferenceIdeal.main_arg3) = m ((c.tc : Thread Cert.InbReferenceIdeal.nD Cert.InbReferenceIdeal.τ).loc Cert.InbReferenceIdeal.main_arg3)
      ∧ r.2.mem ((c.tc : Thread Cert.InbReferenceIdeal.nD Cert.InbReferenceIdeal.τ).loc Cert.InbReferenceIdeal.main_arg4) = m ((c.tc : Thread Cert.InbReferenceIdeal.nD Cert.InbReferenceIdeal.τ).loc Cert.InbReferenceIdeal.main_arg4)
      ∧ r.2.mem ((c.tc : Thread Cert.InbReferenceIdeal.nD Cert.InbReferenceIdeal.τ).loc Cert.InbReferenceIdeal.main_arg5) = m ((c.tc : Thread Cert.InbReferenceIdeal.nD Cert.InbReferenceIdeal.τ).loc Cert.InbReferenceIdeal.main_arg5)
      ∧ r.2.mem ((c.tc : Thread Cert.InbReferenceIdeal.nD Cert.InbReferenceIdeal.τ).loc Cert.InbReferenceIdeal.main_arg6) = m ((c.tc : Thread Cert.InbReferenceIdeal.nD Cert.InbReferenceIdeal.τ).loc Cert.InbReferenceIdeal.main_arg6)
      ∧ r.2.mem ((c.tc : Thread Cert.InbReferenceIdeal.nD Cert.InbReferenceIdeal.τ).loc Cert.InbReferenceIdeal.main_arg7) = m ((c.tc : Thread Cert.InbReferenceIdeal.nD Cert.InbReferenceIdeal.τ).loc Cert.InbReferenceIdeal.main_arg7))
      ∧ r.2.sem = fun _ => 0)

def quiescent_InfKernel [hInfKernel : Cert.InfKernel.Facts] : Prop :=
  ∀ (m : (ℓ : Loc Cert.InfKernel.nD Cert.InfKernel.τ Cert.InfKernel.sig) → Buf (Elt Bits) ℓ) (g : Dev Cert.InfKernel.nD → PrngReg), Pre_InfKernel m →
    θ_run (Cert.InfKernel.defs (F := Bits)) (onTc (τ := Cert.InfKernel.τ) (Cert.InfKernel.main (F := Bits))) ⟨m, fun _ => 0, g⟩ (fun r => (∀ c : Dev Cert.InfKernel.nD,
      r.2.mem ((c.tc : Thread Cert.InfKernel.nD Cert.InfKernel.τ).loc Cert.InfKernel.main_arg0) = m ((c.tc : Thread Cert.InfKernel.nD Cert.InfKernel.τ).loc Cert.InfKernel.main_arg0)
      ∧ r.2.mem ((c.tc : Thread Cert.InfKernel.nD Cert.InfKernel.τ).loc Cert.InfKernel.main_arg1) = m ((c.tc : Thread Cert.InfKernel.nD Cert.InfKernel.τ).loc Cert.InfKernel.main_arg1)
      ∧ r.2.mem ((c.tc : Thread Cert.InfKernel.nD Cert.InfKernel.τ).loc Cert.InfKernel.main_arg2) = m ((c.tc : Thread Cert.InfKernel.nD Cert.InfKernel.τ).loc Cert.InfKernel.main_arg2))
      ∧ r.2.sem = fun _ => 0)

def quiescent_InfKernelIdeal [hInfKernelIdeal : Cert.InfKernelIdeal.Facts] : Prop :=
  ∀ (m : (ℓ : Loc Cert.InfKernelIdeal.nD Cert.InfKernelIdeal.τ Cert.InfKernelIdeal.sig) → Buf (Elt Ideal) ℓ) (g : Dev Cert.InfKernelIdeal.nD → PrngReg), Pre_InfKernelIdeal m →
    θ_run (Cert.InfKernelIdeal.defs (F := Ideal)) (onTc (τ := Cert.InfKernelIdeal.τ) (Cert.InfKernelIdeal.main (F := Ideal))) ⟨m, fun _ => 0, g⟩ (fun r => (∀ c : Dev Cert.InfKernelIdeal.nD,
      r.2.mem ((c.tc : Thread Cert.InfKernelIdeal.nD Cert.InfKernelIdeal.τ).loc Cert.InfKernelIdeal.main_arg0) = m ((c.tc : Thread Cert.InfKernelIdeal.nD Cert.InfKernelIdeal.τ).loc Cert.InfKernelIdeal.main_arg0)
      ∧ r.2.mem ((c.tc : Thread Cert.InfKernelIdeal.nD Cert.InfKernelIdeal.τ).loc Cert.InfKernelIdeal.main_arg1) = m ((c.tc : Thread Cert.InfKernelIdeal.nD Cert.InfKernelIdeal.τ).loc Cert.InfKernelIdeal.main_arg1)
      ∧ r.2.mem ((c.tc : Thread Cert.InfKernelIdeal.nD Cert.InfKernelIdeal.τ).loc Cert.InfKernelIdeal.main_arg2) = m ((c.tc : Thread Cert.InfKernelIdeal.nD Cert.InfKernelIdeal.τ).loc Cert.InfKernelIdeal.main_arg2))
      ∧ r.2.sem = fun _ => 0)

def quiescent_InfReferenceIdeal [hInfReferenceIdeal : Cert.InfReferenceIdeal.Facts] : Prop :=
  ∀ (m : (ℓ : Loc Cert.InfReferenceIdeal.nD Cert.InfReferenceIdeal.τ Cert.InfReferenceIdeal.sig) → Buf (Elt Ideal) ℓ) (g : Dev Cert.InfReferenceIdeal.nD → PrngReg), Pre_InfReferenceIdeal m →
    θ_run (Cert.InfReferenceIdeal.defs (F := Ideal)) (onTc (τ := Cert.InfReferenceIdeal.τ) (Cert.InfReferenceIdeal.main (F := Ideal))) ⟨m, fun _ => 0, g⟩ (fun r => (∀ c : Dev Cert.InfReferenceIdeal.nD,
      r.2.mem ((c.tc : Thread Cert.InfReferenceIdeal.nD Cert.InfReferenceIdeal.τ).loc Cert.InfReferenceIdeal.main_arg0) = m ((c.tc : Thread Cert.InfReferenceIdeal.nD Cert.InfReferenceIdeal.τ).loc Cert.InfReferenceIdeal.main_arg0)
      ∧ r.2.mem ((c.tc : Thread Cert.InfReferenceIdeal.nD Cert.InfReferenceIdeal.τ).loc Cert.InfReferenceIdeal.main_arg1) = m ((c.tc : Thread Cert.InfReferenceIdeal.nD Cert.InfReferenceIdeal.τ).loc Cert.InfReferenceIdeal.main_arg1)
      ∧ r.2.mem ((c.tc : Thread Cert.InfReferenceIdeal.nD Cert.InfReferenceIdeal.τ).loc Cert.InfReferenceIdeal.main_arg2) = m ((c.tc : Thread Cert.InfReferenceIdeal.nD Cert.InfReferenceIdeal.τ).loc Cert.InfReferenceIdeal.main_arg2))
      ∧ r.2.sem = fun _ => 0)

def quiescent_WiuKernel [hWiuKernel : Cert.WiuKernel.Facts] : Prop :=
  ∀ (m : (ℓ : Loc Cert.WiuKernel.nD Cert.WiuKernel.τ Cert.WiuKernel.sig) → Buf (Elt Bits) ℓ) (g : Dev Cert.WiuKernel.nD → PrngReg), Pre_WiuKernel m →
    θ_run (Cert.WiuKernel.defs (F := Bits)) (onTc (τ := Cert.WiuKernel.τ) (Cert.WiuKernel.main (F := Bits))) ⟨m, fun _ => 0, g⟩ (fun r => (∀ c : Dev Cert.WiuKernel.nD,
      r.2.mem ((c.tc : Thread Cert.WiuKernel.nD Cert.WiuKernel.τ).loc Cert.WiuKernel.main_arg0) = m ((c.tc : Thread Cert.WiuKernel.nD Cert.WiuKernel.τ).loc Cert.WiuKernel.main_arg0)
      ∧ r.2.mem ((c.tc : Thread Cert.WiuKernel.nD Cert.WiuKernel.τ).loc Cert.WiuKernel.main_arg1) = m ((c.tc : Thread Cert.WiuKernel.nD Cert.WiuKernel.τ).loc Cert.WiuKernel.main_arg1))
      ∧ r.2.sem = fun _ => 0)

def quiescent_WiuKernelIdeal [hWiuKernelIdeal : Cert.WiuKernelIdeal.Facts] : Prop :=
  ∀ (m : (ℓ : Loc Cert.WiuKernelIdeal.nD Cert.WiuKernelIdeal.τ Cert.WiuKernelIdeal.sig) → Buf (Elt Ideal) ℓ) (g : Dev Cert.WiuKernelIdeal.nD → PrngReg), Pre_WiuKernelIdeal m →
    θ_run (Cert.WiuKernelIdeal.defs (F := Ideal)) (onTc (τ := Cert.WiuKernelIdeal.τ) (Cert.WiuKernelIdeal.main (F := Ideal))) ⟨m, fun _ => 0, g⟩ (fun r => (∀ c : Dev Cert.WiuKernelIdeal.nD,
      r.2.mem ((c.tc : Thread Cert.WiuKernelIdeal.nD Cert.WiuKernelIdeal.τ).loc Cert.WiuKernelIdeal.main_arg0) = m ((c.tc : Thread Cert.WiuKernelIdeal.nD Cert.WiuKernelIdeal.τ).loc Cert.WiuKernelIdeal.main_arg0)
      ∧ r.2.mem ((c.tc : Thread Cert.WiuKernelIdeal.nD Cert.WiuKernelIdeal.τ).loc Cert.WiuKernelIdeal.main_arg1) = m ((c.tc : Thread Cert.WiuKernelIdeal.nD Cert.WiuKernelIdeal.τ).loc Cert.WiuKernelIdeal.main_arg1))
      ∧ r.2.sem = fun _ => 0)

def quiescent_WiuReferenceIdeal [hWiuReferenceIdeal : Cert.WiuReferenceIdeal.Facts] : Prop :=
  ∀ (m : (ℓ : Loc Cert.WiuReferenceIdeal.nD Cert.WiuReferenceIdeal.τ Cert.WiuReferenceIdeal.sig) → Buf (Elt Ideal) ℓ) (g : Dev Cert.WiuReferenceIdeal.nD → PrngReg), Pre_WiuReferenceIdeal m →
    θ_run (Cert.WiuReferenceIdeal.defs (F := Ideal)) (onTc (τ := Cert.WiuReferenceIdeal.τ) (Cert.WiuReferenceIdeal.main (F := Ideal))) ⟨m, fun _ => 0, g⟩ (fun r => (∀ c : Dev Cert.WiuReferenceIdeal.nD,
      r.2.mem ((c.tc : Thread Cert.WiuReferenceIdeal.nD Cert.WiuReferenceIdeal.τ).loc Cert.WiuReferenceIdeal.main_arg0) = m ((c.tc : Thread Cert.WiuReferenceIdeal.nD Cert.WiuReferenceIdeal.τ).loc Cert.WiuReferenceIdeal.main_arg0)
      ∧ r.2.mem ((c.tc : Thread Cert.WiuReferenceIdeal.nD Cert.WiuReferenceIdeal.τ).loc Cert.WiuReferenceIdeal.main_arg1) = m ((c.tc : Thread Cert.WiuReferenceIdeal.nD Cert.WiuReferenceIdeal.τ).loc Cert.WiuReferenceIdeal.main_arg1))
      ∧ r.2.sem = fun _ => 0)

def quiescent_WixKernel [hWixKernel : Cert.WixKernel.Facts] : Prop :=
  ∀ (m : (ℓ : Loc Cert.WixKernel.nD Cert.WixKernel.τ Cert.WixKernel.sig) → Buf (Elt Bits) ℓ) (g : Dev Cert.WixKernel.nD → PrngReg), Pre_WixKernel m →
    θ_run (Cert.WixKernel.defs (F := Bits)) (onTc (τ := Cert.WixKernel.τ) (Cert.WixKernel.main (F := Bits))) ⟨m, fun _ => 0, g⟩ (fun r => (∀ c : Dev Cert.WixKernel.nD,
      r.2.mem ((c.tc : Thread Cert.WixKernel.nD Cert.WixKernel.τ).loc Cert.WixKernel.main_arg0) = m ((c.tc : Thread Cert.WixKernel.nD Cert.WixKernel.τ).loc Cert.WixKernel.main_arg0)
      ∧ r.2.mem ((c.tc : Thread Cert.WixKernel.nD Cert.WixKernel.τ).loc Cert.WixKernel.main_arg1) = m ((c.tc : Thread Cert.WixKernel.nD Cert.WixKernel.τ).loc Cert.WixKernel.main_arg1))
      ∧ r.2.sem = fun _ => 0)

def quiescent_WixKernelIdeal [hWixKernelIdeal : Cert.WixKernelIdeal.Facts] : Prop :=
  ∀ (m : (ℓ : Loc Cert.WixKernelIdeal.nD Cert.WixKernelIdeal.τ Cert.WixKernelIdeal.sig) → Buf (Elt Ideal) ℓ) (g : Dev Cert.WixKernelIdeal.nD → PrngReg), Pre_WixKernelIdeal m →
    θ_run (Cert.WixKernelIdeal.defs (F := Ideal)) (onTc (τ := Cert.WixKernelIdeal.τ) (Cert.WixKernelIdeal.main (F := Ideal))) ⟨m, fun _ => 0, g⟩ (fun r => (∀ c : Dev Cert.WixKernelIdeal.nD,
      r.2.mem ((c.tc : Thread Cert.WixKernelIdeal.nD Cert.WixKernelIdeal.τ).loc Cert.WixKernelIdeal.main_arg0) = m ((c.tc : Thread Cert.WixKernelIdeal.nD Cert.WixKernelIdeal.τ).loc Cert.WixKernelIdeal.main_arg0)
      ∧ r.2.mem ((c.tc : Thread Cert.WixKernelIdeal.nD Cert.WixKernelIdeal.τ).loc Cert.WixKernelIdeal.main_arg1) = m ((c.tc : Thread Cert.WixKernelIdeal.nD Cert.WixKernelIdeal.τ).loc Cert.WixKernelIdeal.main_arg1))
      ∧ r.2.sem = fun _ => 0)

def quiescent_WixReferenceIdeal [hWixReferenceIdeal : Cert.WixReferenceIdeal.Facts] : Prop :=
  ∀ (m : (ℓ : Loc Cert.WixReferenceIdeal.nD Cert.WixReferenceIdeal.τ Cert.WixReferenceIdeal.sig) → Buf (Elt Ideal) ℓ) (g : Dev Cert.WixReferenceIdeal.nD → PrngReg), Pre_WixReferenceIdeal m →
    θ_run (Cert.WixReferenceIdeal.defs (F := Ideal)) (onTc (τ := Cert.WixReferenceIdeal.τ) (Cert.WixReferenceIdeal.main (F := Ideal))) ⟨m, fun _ => 0, g⟩ (fun r => (∀ c : Dev Cert.WixReferenceIdeal.nD,
      r.2.mem ((c.tc : Thread Cert.WixReferenceIdeal.nD Cert.WixReferenceIdeal.τ).loc Cert.WixReferenceIdeal.main_arg0) = m ((c.tc : Thread Cert.WixReferenceIdeal.nD Cert.WixReferenceIdeal.τ).loc Cert.WixReferenceIdeal.main_arg0)
      ∧ r.2.mem ((c.tc : Thread Cert.WixReferenceIdeal.nD Cert.WixReferenceIdeal.τ).loc Cert.WixReferenceIdeal.main_arg1) = m ((c.tc : Thread Cert.WixReferenceIdeal.nD Cert.WixReferenceIdeal.τ).loc Cert.WixReferenceIdeal.main_arg1))
      ∧ r.2.sem = fun _ => 0)

def quiescent_WidKernel [hWidKernel : Cert.WidKernel.Facts] : Prop :=
  ∀ (m : (ℓ : Loc Cert.WidKernel.nD Cert.WidKernel.τ Cert.WidKernel.sig) → Buf (Elt Bits) ℓ) (g : Dev Cert.WidKernel.nD → PrngReg), Pre_WidKernel m →
    θ_run (Cert.WidKernel.defs (F := Bits)) (onTc (τ := Cert.WidKernel.τ) (Cert.WidKernel.main (F := Bits))) ⟨m, fun _ => 0, g⟩ (fun r => (∀ c : Dev Cert.WidKernel.nD,
      r.2.mem ((c.tc : Thread Cert.WidKernel.nD Cert.WidKernel.τ).loc Cert.WidKernel.main_arg0) = m ((c.tc : Thread Cert.WidKernel.nD Cert.WidKernel.τ).loc Cert.WidKernel.main_arg0)
      ∧ r.2.mem ((c.tc : Thread Cert.WidKernel.nD Cert.WidKernel.τ).loc Cert.WidKernel.main_arg1) = m ((c.tc : Thread Cert.WidKernel.nD Cert.WidKernel.τ).loc Cert.WidKernel.main_arg1))
      ∧ r.2.sem = fun _ => 0)

def quiescent_WidKernelIdeal [hWidKernelIdeal : Cert.WidKernelIdeal.Facts] : Prop :=
  ∀ (m : (ℓ : Loc Cert.WidKernelIdeal.nD Cert.WidKernelIdeal.τ Cert.WidKernelIdeal.sig) → Buf (Elt Ideal) ℓ) (g : Dev Cert.WidKernelIdeal.nD → PrngReg), Pre_WidKernelIdeal m →
    θ_run (Cert.WidKernelIdeal.defs (F := Ideal)) (onTc (τ := Cert.WidKernelIdeal.τ) (Cert.WidKernelIdeal.main (F := Ideal))) ⟨m, fun _ => 0, g⟩ (fun r => (∀ c : Dev Cert.WidKernelIdeal.nD,
      r.2.mem ((c.tc : Thread Cert.WidKernelIdeal.nD Cert.WidKernelIdeal.τ).loc Cert.WidKernelIdeal.main_arg0) = m ((c.tc : Thread Cert.WidKernelIdeal.nD Cert.WidKernelIdeal.τ).loc Cert.WidKernelIdeal.main_arg0)
      ∧ r.2.mem ((c.tc : Thread Cert.WidKernelIdeal.nD Cert.WidKernelIdeal.τ).loc Cert.WidKernelIdeal.main_arg1) = m ((c.tc : Thread Cert.WidKernelIdeal.nD Cert.WidKernelIdeal.τ).loc Cert.WidKernelIdeal.main_arg1))
      ∧ r.2.sem = fun _ => 0)

def quiescent_WidReferenceIdeal [hWidReferenceIdeal : Cert.WidReferenceIdeal.Facts] : Prop :=
  ∀ (m : (ℓ : Loc Cert.WidReferenceIdeal.nD Cert.WidReferenceIdeal.τ Cert.WidReferenceIdeal.sig) → Buf (Elt Ideal) ℓ) (g : Dev Cert.WidReferenceIdeal.nD → PrngReg), Pre_WidReferenceIdeal m →
    θ_run (Cert.WidReferenceIdeal.defs (F := Ideal)) (onTc (τ := Cert.WidReferenceIdeal.τ) (Cert.WidReferenceIdeal.main (F := Ideal))) ⟨m, fun _ => 0, g⟩ (fun r => (∀ c : Dev Cert.WidReferenceIdeal.nD,
      r.2.mem ((c.tc : Thread Cert.WidReferenceIdeal.nD Cert.WidReferenceIdeal.τ).loc Cert.WidReferenceIdeal.main_arg0) = m ((c.tc : Thread Cert.WidReferenceIdeal.nD Cert.WidReferenceIdeal.τ).loc Cert.WidReferenceIdeal.main_arg0)
      ∧ r.2.mem ((c.tc : Thread Cert.WidReferenceIdeal.nD Cert.WidReferenceIdeal.τ).loc Cert.WidReferenceIdeal.main_arg1) = m ((c.tc : Thread Cert.WidReferenceIdeal.nD Cert.WidReferenceIdeal.τ).loc Cert.WidReferenceIdeal.main_arg1))
      ∧ r.2.sem = fun _ => 0)

def quiescent_WopKernel [hWopKernel : Cert.WopKernel.Facts] : Prop :=
  ∀ (m : (ℓ : Loc Cert.WopKernel.nD Cert.WopKernel.τ Cert.WopKernel.sig) → Buf (Elt Bits) ℓ) (g : Dev Cert.WopKernel.nD → PrngReg), Pre_WopKernel m →
    θ_run (Cert.WopKernel.defs (F := Bits)) (onTc (τ := Cert.WopKernel.τ) (Cert.WopKernel.main (F := Bits))) ⟨m, fun _ => 0, g⟩ (fun r => (∀ c : Dev Cert.WopKernel.nD,
      r.2.mem ((c.tc : Thread Cert.WopKernel.nD Cert.WopKernel.τ).loc Cert.WopKernel.main_arg0) = m ((c.tc : Thread Cert.WopKernel.nD Cert.WopKernel.τ).loc Cert.WopKernel.main_arg0)
      ∧ r.2.mem ((c.tc : Thread Cert.WopKernel.nD Cert.WopKernel.τ).loc Cert.WopKernel.main_arg1) = m ((c.tc : Thread Cert.WopKernel.nD Cert.WopKernel.τ).loc Cert.WopKernel.main_arg1)
      ∧ r.2.mem ((c.tc : Thread Cert.WopKernel.nD Cert.WopKernel.τ).loc Cert.WopKernel.main_arg2) = m ((c.tc : Thread Cert.WopKernel.nD Cert.WopKernel.τ).loc Cert.WopKernel.main_arg2))
      ∧ r.2.sem = fun _ => 0)

def quiescent_WopKernelIdeal [hWopKernelIdeal : Cert.WopKernelIdeal.Facts] : Prop :=
  ∀ (m : (ℓ : Loc Cert.WopKernelIdeal.nD Cert.WopKernelIdeal.τ Cert.WopKernelIdeal.sig) → Buf (Elt Ideal) ℓ) (g : Dev Cert.WopKernelIdeal.nD → PrngReg), Pre_WopKernelIdeal m →
    θ_run (Cert.WopKernelIdeal.defs (F := Ideal)) (onTc (τ := Cert.WopKernelIdeal.τ) (Cert.WopKernelIdeal.main (F := Ideal))) ⟨m, fun _ => 0, g⟩ (fun r => (∀ c : Dev Cert.WopKernelIdeal.nD,
      r.2.mem ((c.tc : Thread Cert.WopKernelIdeal.nD Cert.WopKernelIdeal.τ).loc Cert.WopKernelIdeal.main_arg0) = m ((c.tc : Thread Cert.WopKernelIdeal.nD Cert.WopKernelIdeal.τ).loc Cert.WopKernelIdeal.main_arg0)
      ∧ r.2.mem ((c.tc : Thread Cert.WopKernelIdeal.nD Cert.WopKernelIdeal.τ).loc Cert.WopKernelIdeal.main_arg1) = m ((c.tc : Thread Cert.WopKernelIdeal.nD Cert.WopKernelIdeal.τ).loc Cert.WopKernelIdeal.main_arg1)
      ∧ r.2.mem ((c.tc : Thread Cert.WopKernelIdeal.nD Cert.WopKernelIdeal.τ).loc Cert.WopKernelIdeal.main_arg2) = m ((c.tc : Thread Cert.WopKernelIdeal.nD Cert.WopKernelIdeal.τ).loc Cert.WopKernelIdeal.main_arg2))
      ∧ r.2.sem = fun _ => 0)

def quiescent_WopReferenceIdeal [hWopReferenceIdeal : Cert.WopReferenceIdeal.Facts] : Prop :=
  ∀ (m : (ℓ : Loc Cert.WopReferenceIdeal.nD Cert.WopReferenceIdeal.τ Cert.WopReferenceIdeal.sig) → Buf (Elt Ideal) ℓ) (g : Dev Cert.WopReferenceIdeal.nD → PrngReg), Pre_WopReferenceIdeal m →
    θ_run (Cert.WopReferenceIdeal.defs (F := Ideal)) (onTc (τ := Cert.WopReferenceIdeal.τ) (Cert.WopReferenceIdeal.main (F := Ideal))) ⟨m, fun _ => 0, g⟩ (fun r => (∀ c : Dev Cert.WopReferenceIdeal.nD,
      r.2.mem ((c.tc : Thread Cert.WopReferenceIdeal.nD Cert.WopReferenceIdeal.τ).loc Cert.WopReferenceIdeal.main_arg0) = m ((c.tc : Thread Cert.WopReferenceIdeal.nD Cert.WopReferenceIdeal.τ).loc Cert.WopReferenceIdeal.main_arg0)
      ∧ r.2.mem ((c.tc : Thread Cert.WopReferenceIdeal.nD Cert.WopReferenceIdeal.τ).loc Cert.WopReferenceIdeal.main_arg1) = m ((c.tc : Thread Cert.WopReferenceIdeal.nD Cert.WopReferenceIdeal.τ).loc Cert.WopReferenceIdeal.main_arg1)
      ∧ r.2.mem ((c.tc : Thread Cert.WopReferenceIdeal.nD Cert.WopReferenceIdeal.τ).loc Cert.WopReferenceIdeal.main_arg2) = m ((c.tc : Thread Cert.WopReferenceIdeal.nD Cert.WopReferenceIdeal.τ).loc Cert.WopReferenceIdeal.main_arg2))
      ∧ r.2.sem = fun _ => 0)

def quiescent_LosKernel [hLosKernel : Cert.LosKernel.Facts] : Prop :=
  ∀ (m : (ℓ : Loc Cert.LosKernel.nD Cert.LosKernel.τ Cert.LosKernel.sig) → Buf (Elt Bits) ℓ) (g : Dev Cert.LosKernel.nD → PrngReg), Pre_LosKernel m →
    θ_run (Cert.LosKernel.defs (F := Bits)) (onTc (τ := Cert.LosKernel.τ) (Cert.LosKernel.main (F := Bits))) ⟨m, fun _ => 0, g⟩ (fun r => (∀ c : Dev Cert.LosKernel.nD,
      r.2.mem ((c.tc : Thread Cert.LosKernel.nD Cert.LosKernel.τ).loc Cert.LosKernel.main_arg0) = m ((c.tc : Thread Cert.LosKernel.nD Cert.LosKernel.τ).loc Cert.LosKernel.main_arg0)
      ∧ r.2.mem ((c.tc : Thread Cert.LosKernel.nD Cert.LosKernel.τ).loc Cert.LosKernel.main_arg1) = m ((c.tc : Thread Cert.LosKernel.nD Cert.LosKernel.τ).loc Cert.LosKernel.main_arg1)
      ∧ r.2.mem ((c.tc : Thread Cert.LosKernel.nD Cert.LosKernel.τ).loc Cert.LosKernel.main_arg2) = m ((c.tc : Thread Cert.LosKernel.nD Cert.LosKernel.τ).loc Cert.LosKernel.main_arg2))
      ∧ r.2.sem = fun _ => 0)

def quiescent_LosKernelIdeal [hLosKernelIdeal : Cert.LosKernelIdeal.Facts] : Prop :=
  ∀ (m : (ℓ : Loc Cert.LosKernelIdeal.nD Cert.LosKernelIdeal.τ Cert.LosKernelIdeal.sig) → Buf (Elt Ideal) ℓ) (g : Dev Cert.LosKernelIdeal.nD → PrngReg), Pre_LosKernelIdeal m →
    θ_run (Cert.LosKernelIdeal.defs (F := Ideal)) (onTc (τ := Cert.LosKernelIdeal.τ) (Cert.LosKernelIdeal.main (F := Ideal))) ⟨m, fun _ => 0, g⟩ (fun r => (∀ c : Dev Cert.LosKernelIdeal.nD,
      r.2.mem ((c.tc : Thread Cert.LosKernelIdeal.nD Cert.LosKernelIdeal.τ).loc Cert.LosKernelIdeal.main_arg0) = m ((c.tc : Thread Cert.LosKernelIdeal.nD Cert.LosKernelIdeal.τ).loc Cert.LosKernelIdeal.main_arg0)
      ∧ r.2.mem ((c.tc : Thread Cert.LosKernelIdeal.nD Cert.LosKernelIdeal.τ).loc Cert.LosKernelIdeal.main_arg1) = m ((c.tc : Thread Cert.LosKernelIdeal.nD Cert.LosKernelIdeal.τ).loc Cert.LosKernelIdeal.main_arg1)
      ∧ r.2.mem ((c.tc : Thread Cert.LosKernelIdeal.nD Cert.LosKernelIdeal.τ).loc Cert.LosKernelIdeal.main_arg2) = m ((c.tc : Thread Cert.LosKernelIdeal.nD Cert.LosKernelIdeal.τ).loc Cert.LosKernelIdeal.main_arg2))
      ∧ r.2.sem = fun _ => 0)

def quiescent_LosReferenceIdeal [hLosReferenceIdeal : Cert.LosReferenceIdeal.Facts] : Prop :=
  ∀ (m : (ℓ : Loc Cert.LosReferenceIdeal.nD Cert.LosReferenceIdeal.τ Cert.LosReferenceIdeal.sig) → Buf (Elt Ideal) ℓ) (g : Dev Cert.LosReferenceIdeal.nD → PrngReg), Pre_LosReferenceIdeal m →
    θ_run (Cert.LosReferenceIdeal.defs (F := Ideal)) (onTc (τ := Cert.LosReferenceIdeal.τ) (Cert.LosReferenceIdeal.main (F := Ideal))) ⟨m, fun _ => 0, g⟩ (fun r => (∀ c : Dev Cert.LosReferenceIdeal.nD,
      r.2.mem ((c.tc : Thread Cert.LosReferenceIdeal.nD Cert.LosReferenceIdeal.τ).loc Cert.LosReferenceIdeal.main_arg0) = m ((c.tc : Thread Cert.LosReferenceIdeal.nD Cert.LosReferenceIdeal.τ).loc Cert.LosReferenceIdeal.main_arg0)
      ∧ r.2.mem ((c.tc : Thread Cert.LosReferenceIdeal.nD Cert.LosReferenceIdeal.τ).loc Cert.LosReferenceIdeal.main_arg1) = m ((c.tc : Thread Cert.LosReferenceIdeal.nD Cert.LosReferenceIdeal.τ).loc Cert.LosReferenceIdeal.main_arg1)
      ∧ r.2.mem ((c.tc : Thread Cert.LosReferenceIdeal.nD Cert.LosReferenceIdeal.τ).loc Cert.LosReferenceIdeal.main_arg2) = m ((c.tc : Thread Cert.LosReferenceIdeal.nD Cert.LosReferenceIdeal.τ).loc Cert.LosReferenceIdeal.main_arg2))
      ∧ r.2.sem = fun _ => 0)

def quiescent_AdNKernel [hAdNKernel : Cert.AdNKernel.Facts] : Prop :=
  ∀ (m : (ℓ : Loc Cert.AdNKernel.nD Cert.AdNKernel.τ Cert.AdNKernel.sig) → Buf (Elt Bits) ℓ) (g : Dev Cert.AdNKernel.nD → PrngReg), Pre_AdNKernel m →
    θ_run (Cert.AdNKernel.defs (F := Bits)) (onTc (τ := Cert.AdNKernel.τ) (Cert.AdNKernel.main (F := Bits))) ⟨m, fun _ => 0, g⟩ (fun r => (∀ c : Dev Cert.AdNKernel.nD,
      r.2.mem ((c.tc : Thread Cert.AdNKernel.nD Cert.AdNKernel.τ).loc Cert.AdNKernel.main_arg0) = m ((c.tc : Thread Cert.AdNKernel.nD Cert.AdNKernel.τ).loc Cert.AdNKernel.main_arg0)
      ∧ r.2.mem ((c.tc : Thread Cert.AdNKernel.nD Cert.AdNKernel.τ).loc Cert.AdNKernel.main_arg1) = m ((c.tc : Thread Cert.AdNKernel.nD Cert.AdNKernel.τ).loc Cert.AdNKernel.main_arg1)
      ∧ r.2.mem ((c.tc : Thread Cert.AdNKernel.nD Cert.AdNKernel.τ).loc Cert.AdNKernel.main_arg2) = m ((c.tc : Thread Cert.AdNKernel.nD Cert.AdNKernel.τ).loc Cert.AdNKernel.main_arg2)
      ∧ r.2.mem ((c.tc : Thread Cert.AdNKernel.nD Cert.AdNKernel.τ).loc Cert.AdNKernel.main_arg3) = m ((c.tc : Thread Cert.AdNKernel.nD Cert.AdNKernel.τ).loc Cert.AdNKernel.main_arg3))
      ∧ r.2.sem = fun _ => 0)

def quiescent_AdNKernelIdeal [hAdNKernelIdeal : Cert.AdNKernelIdeal.Facts] : Prop :=
  ∀ (m : (ℓ : Loc Cert.AdNKernelIdeal.nD Cert.AdNKernelIdeal.τ Cert.AdNKernelIdeal.sig) → Buf (Elt Ideal) ℓ) (g : Dev Cert.AdNKernelIdeal.nD → PrngReg), Pre_AdNKernelIdeal m →
    θ_run (Cert.AdNKernelIdeal.defs (F := Ideal)) (onTc (τ := Cert.AdNKernelIdeal.τ) (Cert.AdNKernelIdeal.main (F := Ideal))) ⟨m, fun _ => 0, g⟩ (fun r => (∀ c : Dev Cert.AdNKernelIdeal.nD,
      r.2.mem ((c.tc : Thread Cert.AdNKernelIdeal.nD Cert.AdNKernelIdeal.τ).loc Cert.AdNKernelIdeal.main_arg0) = m ((c.tc : Thread Cert.AdNKernelIdeal.nD Cert.AdNKernelIdeal.τ).loc Cert.AdNKernelIdeal.main_arg0)
      ∧ r.2.mem ((c.tc : Thread Cert.AdNKernelIdeal.nD Cert.AdNKernelIdeal.τ).loc Cert.AdNKernelIdeal.main_arg1) = m ((c.tc : Thread Cert.AdNKernelIdeal.nD Cert.AdNKernelIdeal.τ).loc Cert.AdNKernelIdeal.main_arg1)
      ∧ r.2.mem ((c.tc : Thread Cert.AdNKernelIdeal.nD Cert.AdNKernelIdeal.τ).loc Cert.AdNKernelIdeal.main_arg2) = m ((c.tc : Thread Cert.AdNKernelIdeal.nD Cert.AdNKernelIdeal.τ).loc Cert.AdNKernelIdeal.main_arg2)
      ∧ r.2.mem ((c.tc : Thread Cert.AdNKernelIdeal.nD Cert.AdNKernelIdeal.τ).loc Cert.AdNKernelIdeal.main_arg3) = m ((c.tc : Thread Cert.AdNKernelIdeal.nD Cert.AdNKernelIdeal.τ).loc Cert.AdNKernelIdeal.main_arg3))
      ∧ r.2.sem = fun _ => 0)

def quiescent_AdNReferenceIdeal [hAdNReferenceIdeal : Cert.AdNReferenceIdeal.Facts] : Prop :=
  ∀ (m : (ℓ : Loc Cert.AdNReferenceIdeal.nD Cert.AdNReferenceIdeal.τ Cert.AdNReferenceIdeal.sig) → Buf (Elt Ideal) ℓ) (g : Dev Cert.AdNReferenceIdeal.nD → PrngReg), Pre_AdNReferenceIdeal m →
    θ_run (Cert.AdNReferenceIdeal.defs (F := Ideal)) (onTc (τ := Cert.AdNReferenceIdeal.τ) (Cert.AdNReferenceIdeal.main (F := Ideal))) ⟨m, fun _ => 0, g⟩ (fun r => (∀ c : Dev Cert.AdNReferenceIdeal.nD,
      r.2.mem ((c.tc : Thread Cert.AdNReferenceIdeal.nD Cert.AdNReferenceIdeal.τ).loc Cert.AdNReferenceIdeal.main_arg0) = m ((c.tc : Thread Cert.AdNReferenceIdeal.nD Cert.AdNReferenceIdeal.τ).loc Cert.AdNReferenceIdeal.main_arg0)
      ∧ r.2.mem ((c.tc : Thread Cert.AdNReferenceIdeal.nD Cert.AdNReferenceIdeal.τ).loc Cert.AdNReferenceIdeal.main_arg1) = m ((c.tc : Thread Cert.AdNReferenceIdeal.nD Cert.AdNReferenceIdeal.τ).loc Cert.AdNReferenceIdeal.main_arg1)
      ∧ r.2.mem ((c.tc : Thread Cert.AdNReferenceIdeal.nD Cert.AdNReferenceIdeal.τ).loc Cert.AdNReferenceIdeal.main_arg2) = m ((c.tc : Thread Cert.AdNReferenceIdeal.nD Cert.AdNReferenceIdeal.τ).loc Cert.AdNReferenceIdeal.main_arg2)
      ∧ r.2.mem ((c.tc : Thread Cert.AdNReferenceIdeal.nD Cert.AdNReferenceIdeal.τ).loc Cert.AdNReferenceIdeal.main_arg3) = m ((c.tc : Thread Cert.AdNReferenceIdeal.nD Cert.AdNReferenceIdeal.τ).loc Cert.AdNReferenceIdeal.main_arg3))
      ∧ r.2.sem = fun _ => 0)

def quiescent_AdLKernel [hAdLKernel : Cert.AdLKernel.Facts] : Prop :=
  ∀ (m : (ℓ : Loc Cert.AdLKernel.nD Cert.AdLKernel.τ Cert.AdLKernel.sig) → Buf (Elt Bits) ℓ) (g : Dev Cert.AdLKernel.nD → PrngReg), Pre_AdLKernel m →
    θ_run (Cert.AdLKernel.defs (F := Bits)) (onTc (τ := Cert.AdLKernel.τ) (Cert.AdLKernel.main (F := Bits))) ⟨m, fun _ => 0, g⟩ (fun r => (∀ c : Dev Cert.AdLKernel.nD,
      r.2.mem ((c.tc : Thread Cert.AdLKernel.nD Cert.AdLKernel.τ).loc Cert.AdLKernel.main_arg0) = m ((c.tc : Thread Cert.AdLKernel.nD Cert.AdLKernel.τ).loc Cert.AdLKernel.main_arg0)
      ∧ r.2.mem ((c.tc : Thread Cert.AdLKernel.nD Cert.AdLKernel.τ).loc Cert.AdLKernel.main_arg1) = m ((c.tc : Thread Cert.AdLKernel.nD Cert.AdLKernel.τ).loc Cert.AdLKernel.main_arg1)
      ∧ r.2.mem ((c.tc : Thread Cert.AdLKernel.nD Cert.AdLKernel.τ).loc Cert.AdLKernel.main_arg2) = m ((c.tc : Thread Cert.AdLKernel.nD Cert.AdLKernel.τ).loc Cert.AdLKernel.main_arg2)
      ∧ r.2.mem ((c.tc : Thread Cert.AdLKernel.nD Cert.AdLKernel.τ).loc Cert.AdLKernel.main_arg3) = m ((c.tc : Thread Cert.AdLKernel.nD Cert.AdLKernel.τ).loc Cert.AdLKernel.main_arg3))
      ∧ r.2.sem = fun _ => 0)

def quiescent_AdLKernelIdeal [hAdLKernelIdeal : Cert.AdLKernelIdeal.Facts] : Prop :=
  ∀ (m : (ℓ : Loc Cert.AdLKernelIdeal.nD Cert.AdLKernelIdeal.τ Cert.AdLKernelIdeal.sig) → Buf (Elt Ideal) ℓ) (g : Dev Cert.AdLKernelIdeal.nD → PrngReg), Pre_AdLKernelIdeal m →
    θ_run (Cert.AdLKernelIdeal.defs (F := Ideal)) (onTc (τ := Cert.AdLKernelIdeal.τ) (Cert.AdLKernelIdeal.main (F := Ideal))) ⟨m, fun _ => 0, g⟩ (fun r => (∀ c : Dev Cert.AdLKernelIdeal.nD,
      r.2.mem ((c.tc : Thread Cert.AdLKernelIdeal.nD Cert.AdLKernelIdeal.τ).loc Cert.AdLKernelIdeal.main_arg0) = m ((c.tc : Thread Cert.AdLKernelIdeal.nD Cert.AdLKernelIdeal.τ).loc Cert.AdLKernelIdeal.main_arg0)
      ∧ r.2.mem ((c.tc : Thread Cert.AdLKernelIdeal.nD Cert.AdLKernelIdeal.τ).loc Cert.AdLKernelIdeal.main_arg1) = m ((c.tc : Thread Cert.AdLKernelIdeal.nD Cert.AdLKernelIdeal.τ).loc Cert.AdLKernelIdeal.main_arg1)
      ∧ r.2.mem ((c.tc : Thread Cert.AdLKernelIdeal.nD Cert.AdLKernelIdeal.τ).loc Cert.AdLKernelIdeal.main_arg2) = m ((c.tc : Thread Cert.AdLKernelIdeal.nD Cert.AdLKernelIdeal.τ).loc Cert.AdLKernelIdeal.main_arg2)
      ∧ r.2.mem ((c.tc : Thread Cert.AdLKernelIdeal.nD Cert.AdLKernelIdeal.τ).loc Cert.AdLKernelIdeal.main_arg3) = m ((c.tc : Thread Cert.AdLKernelIdeal.nD Cert.AdLKernelIdeal.τ).loc Cert.AdLKernelIdeal.main_arg3))
      ∧ r.2.sem = fun _ => 0)

def quiescent_AdLReferenceIdeal [hAdLReferenceIdeal : Cert.AdLReferenceIdeal.Facts] : Prop :=
  ∀ (m : (ℓ : Loc Cert.AdLReferenceIdeal.nD Cert.AdLReferenceIdeal.τ Cert.AdLReferenceIdeal.sig) → Buf (Elt Ideal) ℓ) (g : Dev Cert.AdLReferenceIdeal.nD → PrngReg), Pre_AdLReferenceIdeal m →
    θ_run (Cert.AdLReferenceIdeal.defs (F := Ideal)) (onTc (τ := Cert.AdLReferenceIdeal.τ) (Cert.AdLReferenceIdeal.main (F := Ideal))) ⟨m, fun _ => 0, g⟩ (fun r => (∀ c : Dev Cert.AdLReferenceIdeal.nD,
      r.2.mem ((c.tc : Thread Cert.AdLReferenceIdeal.nD Cert.AdLReferenceIdeal.τ).loc Cert.AdLReferenceIdeal.main_arg0) = m ((c.tc : Thread Cert.AdLReferenceIdeal.nD Cert.AdLReferenceIdeal.τ).loc Cert.AdLReferenceIdeal.main_arg0)
      ∧ r.2.mem ((c.tc : Thread Cert.AdLReferenceIdeal.nD Cert.AdLReferenceIdeal.τ).loc Cert.AdLReferenceIdeal.main_arg1) = m ((c.tc : Thread Cert.AdLReferenceIdeal.nD Cert.AdLReferenceIdeal.τ).loc Cert.AdLReferenceIdeal.main_arg1)
      ∧ r.2.mem ((c.tc : Thread Cert.AdLReferenceIdeal.nD Cert.AdLReferenceIdeal.τ).loc Cert.AdLReferenceIdeal.main_arg2) = m ((c.tc : Thread Cert.AdLReferenceIdeal.nD Cert.AdLReferenceIdeal.τ).loc Cert.AdLReferenceIdeal.main_arg2)
      ∧ r.2.mem ((c.tc : Thread Cert.AdLReferenceIdeal.nD Cert.AdLReferenceIdeal.τ).loc Cert.AdLReferenceIdeal.main_arg3) = m ((c.tc : Thread Cert.AdLReferenceIdeal.nD Cert.AdLReferenceIdeal.τ).loc Cert.AdLReferenceIdeal.main_arg3))
      ∧ r.2.sem = fun _ => 0)

def quiescent_AdSKernel [hAdSKernel : Cert.AdSKernel.Facts] : Prop :=
  ∀ (m : (ℓ : Loc Cert.AdSKernel.nD Cert.AdSKernel.τ Cert.AdSKernel.sig) → Buf (Elt Bits) ℓ) (g : Dev Cert.AdSKernel.nD → PrngReg), Pre_AdSKernel m →
    θ_run (Cert.AdSKernel.defs (F := Bits)) (onTc (τ := Cert.AdSKernel.τ) (Cert.AdSKernel.main (F := Bits))) ⟨m, fun _ => 0, g⟩ (fun r => (∀ c : Dev Cert.AdSKernel.nD,
      r.2.mem ((c.tc : Thread Cert.AdSKernel.nD Cert.AdSKernel.τ).loc Cert.AdSKernel.main_arg0) = m ((c.tc : Thread Cert.AdSKernel.nD Cert.AdSKernel.τ).loc Cert.AdSKernel.main_arg0)
      ∧ r.2.mem ((c.tc : Thread Cert.AdSKernel.nD Cert.AdSKernel.τ).loc Cert.AdSKernel.main_arg1) = m ((c.tc : Thread Cert.AdSKernel.nD Cert.AdSKernel.τ).loc Cert.AdSKernel.main_arg1)
      ∧ r.2.mem ((c.tc : Thread Cert.AdSKernel.nD Cert.AdSKernel.τ).loc Cert.AdSKernel.main_arg2) = m ((c.tc : Thread Cert.AdSKernel.nD Cert.AdSKernel.τ).loc Cert.AdSKernel.main_arg2)
      ∧ r.2.mem ((c.tc : Thread Cert.AdSKernel.nD Cert.AdSKernel.τ).loc Cert.AdSKernel.main_arg3) = m ((c.tc : Thread Cert.AdSKernel.nD Cert.AdSKernel.τ).loc Cert.AdSKernel.main_arg3))
      ∧ r.2.sem = fun _ => 0)

def quiescent_AdSKernelIdeal [hAdSKernelIdeal : Cert.AdSKernelIdeal.Facts] : Prop :=
  ∀ (m : (ℓ : Loc Cert.AdSKernelIdeal.nD Cert.AdSKernelIdeal.τ Cert.AdSKernelIdeal.sig) → Buf (Elt Ideal) ℓ) (g : Dev Cert.AdSKernelIdeal.nD → PrngReg), Pre_AdSKernelIdeal m →
    θ_run (Cert.AdSKernelIdeal.defs (F := Ideal)) (onTc (τ := Cert.AdSKernelIdeal.τ) (Cert.AdSKernelIdeal.main (F := Ideal))) ⟨m, fun _ => 0, g⟩ (fun r => (∀ c : Dev Cert.AdSKernelIdeal.nD,
      r.2.mem ((c.tc : Thread Cert.AdSKernelIdeal.nD Cert.AdSKernelIdeal.τ).loc Cert.AdSKernelIdeal.main_arg0) = m ((c.tc : Thread Cert.AdSKernelIdeal.nD Cert.AdSKernelIdeal.τ).loc Cert.AdSKernelIdeal.main_arg0)
      ∧ r.2.mem ((c.tc : Thread Cert.AdSKernelIdeal.nD Cert.AdSKernelIdeal.τ).loc Cert.AdSKernelIdeal.main_arg1) = m ((c.tc : Thread Cert.AdSKernelIdeal.nD Cert.AdSKernelIdeal.τ).loc Cert.AdSKernelIdeal.main_arg1)
      ∧ r.2.mem ((c.tc : Thread Cert.AdSKernelIdeal.nD Cert.AdSKernelIdeal.τ).loc Cert.AdSKernelIdeal.main_arg2) = m ((c.tc : Thread Cert.AdSKernelIdeal.nD Cert.AdSKernelIdeal.τ).loc Cert.AdSKernelIdeal.main_arg2)
      ∧ r.2.mem ((c.tc : Thread Cert.AdSKernelIdeal.nD Cert.AdSKernelIdeal.τ).loc Cert.AdSKernelIdeal.main_arg3) = m ((c.tc : Thread Cert.AdSKernelIdeal.nD Cert.AdSKernelIdeal.τ).loc Cert.AdSKernelIdeal.main_arg3))
      ∧ r.2.sem = fun _ => 0)

def quiescent_AdSReferenceIdeal [hAdSReferenceIdeal : Cert.AdSReferenceIdeal.Facts] : Prop :=
  ∀ (m : (ℓ : Loc Cert.AdSReferenceIdeal.nD Cert.AdSReferenceIdeal.τ Cert.AdSReferenceIdeal.sig) → Buf (Elt Ideal) ℓ) (g : Dev Cert.AdSReferenceIdeal.nD → PrngReg), Pre_AdSReferenceIdeal m →
    θ_run (Cert.AdSReferenceIdeal.defs (F := Ideal)) (onTc (τ := Cert.AdSReferenceIdeal.τ) (Cert.AdSReferenceIdeal.main (F := Ideal))) ⟨m, fun _ => 0, g⟩ (fun r => (∀ c : Dev Cert.AdSReferenceIdeal.nD,
      r.2.mem ((c.tc : Thread Cert.AdSReferenceIdeal.nD Cert.AdSReferenceIdeal.τ).loc Cert.AdSReferenceIdeal.main_arg0) = m ((c.tc : Thread Cert.AdSReferenceIdeal.nD Cert.AdSReferenceIdeal.τ).loc Cert.AdSReferenceIdeal.main_arg0)
      ∧ r.2.mem ((c.tc : Thread Cert.AdSReferenceIdeal.nD Cert.AdSReferenceIdeal.τ).loc Cert.AdSReferenceIdeal.main_arg1) = m ((c.tc : Thread Cert.AdSReferenceIdeal.nD Cert.AdSReferenceIdeal.τ).loc Cert.AdSReferenceIdeal.main_arg1)
      ∧ r.2.mem ((c.tc : Thread Cert.AdSReferenceIdeal.nD Cert.AdSReferenceIdeal.τ).loc Cert.AdSReferenceIdeal.main_arg2) = m ((c.tc : Thread Cert.AdSReferenceIdeal.nD Cert.AdSReferenceIdeal.τ).loc Cert.AdSReferenceIdeal.main_arg2)
      ∧ r.2.mem ((c.tc : Thread Cert.AdSReferenceIdeal.nD Cert.AdSReferenceIdeal.τ).loc Cert.AdSReferenceIdeal.main_arg3) = m ((c.tc : Thread Cert.AdSReferenceIdeal.nD Cert.AdSReferenceIdeal.τ).loc Cert.AdSReferenceIdeal.main_arg3))
      ∧ r.2.sem = fun _ => 0)

def quiescent_AdBKernel [hAdBKernel : Cert.AdBKernel.Facts] : Prop :=
  ∀ (m : (ℓ : Loc Cert.AdBKernel.nD Cert.AdBKernel.τ Cert.AdBKernel.sig) → Buf (Elt Bits) ℓ) (g : Dev Cert.AdBKernel.nD → PrngReg), Pre_AdBKernel m →
    θ_run (Cert.AdBKernel.defs (F := Bits)) (onTc (τ := Cert.AdBKernel.τ) (Cert.AdBKernel.main (F := Bits))) ⟨m, fun _ => 0, g⟩ (fun r => (∀ c : Dev Cert.AdBKernel.nD,
      r.2.mem ((c.tc : Thread Cert.AdBKernel.nD Cert.AdBKernel.τ).loc Cert.AdBKernel.main_arg0) = m ((c.tc : Thread Cert.AdBKernel.nD Cert.AdBKernel.τ).loc Cert.AdBKernel.main_arg0)
      ∧ r.2.mem ((c.tc : Thread Cert.AdBKernel.nD Cert.AdBKernel.τ).loc Cert.AdBKernel.main_arg1) = m ((c.tc : Thread Cert.AdBKernel.nD Cert.AdBKernel.τ).loc Cert.AdBKernel.main_arg1)
      ∧ r.2.mem ((c.tc : Thread Cert.AdBKernel.nD Cert.AdBKernel.τ).loc Cert.AdBKernel.main_arg2) = m ((c.tc : Thread Cert.AdBKernel.nD Cert.AdBKernel.τ).loc Cert.AdBKernel.main_arg2)
      ∧ r.2.mem ((c.tc : Thread Cert.AdBKernel.nD Cert.AdBKernel.τ).loc Cert.AdBKernel.main_arg3) = m ((c.tc : Thread Cert.AdBKernel.nD Cert.AdBKernel.τ).loc Cert.AdBKernel.main_arg3))
      ∧ r.2.sem = fun _ => 0)

def quiescent_AdBKernelIdeal [hAdBKernelIdeal : Cert.AdBKernelIdeal.Facts] : Prop :=
  ∀ (m : (ℓ : Loc Cert.AdBKernelIdeal.nD Cert.AdBKernelIdeal.τ Cert.AdBKernelIdeal.sig) → Buf (Elt Ideal) ℓ) (g : Dev Cert.AdBKernelIdeal.nD → PrngReg), Pre_AdBKernelIdeal m →
    θ_run (Cert.AdBKernelIdeal.defs (F := Ideal)) (onTc (τ := Cert.AdBKernelIdeal.τ) (Cert.AdBKernelIdeal.main (F := Ideal))) ⟨m, fun _ => 0, g⟩ (fun r => (∀ c : Dev Cert.AdBKernelIdeal.nD,
      r.2.mem ((c.tc : Thread Cert.AdBKernelIdeal.nD Cert.AdBKernelIdeal.τ).loc Cert.AdBKernelIdeal.main_arg0) = m ((c.tc : Thread Cert.AdBKernelIdeal.nD Cert.AdBKernelIdeal.τ).loc Cert.AdBKernelIdeal.main_arg0)
      ∧ r.2.mem ((c.tc : Thread Cert.AdBKernelIdeal.nD Cert.AdBKernelIdeal.τ).loc Cert.AdBKernelIdeal.main_arg1) = m ((c.tc : Thread Cert.AdBKernelIdeal.nD Cert.AdBKernelIdeal.τ).loc Cert.AdBKernelIdeal.main_arg1)
      ∧ r.2.mem ((c.tc : Thread Cert.AdBKernelIdeal.nD Cert.AdBKernelIdeal.τ).loc Cert.AdBKernelIdeal.main_arg2) = m ((c.tc : Thread Cert.AdBKernelIdeal.nD Cert.AdBKernelIdeal.τ).loc Cert.AdBKernelIdeal.main_arg2)
      ∧ r.2.mem ((c.tc : Thread Cert.AdBKernelIdeal.nD Cert.AdBKernelIdeal.τ).loc Cert.AdBKernelIdeal.main_arg3) = m ((c.tc : Thread Cert.AdBKernelIdeal.nD Cert.AdBKernelIdeal.τ).loc Cert.AdBKernelIdeal.main_arg3))
      ∧ r.2.sem = fun _ => 0)

def quiescent_AdBReferenceIdeal [hAdBReferenceIdeal : Cert.AdBReferenceIdeal.Facts] : Prop :=
  ∀ (m : (ℓ : Loc Cert.AdBReferenceIdeal.nD Cert.AdBReferenceIdeal.τ Cert.AdBReferenceIdeal.sig) → Buf (Elt Ideal) ℓ) (g : Dev Cert.AdBReferenceIdeal.nD → PrngReg), Pre_AdBReferenceIdeal m →
    θ_run (Cert.AdBReferenceIdeal.defs (F := Ideal)) (onTc (τ := Cert.AdBReferenceIdeal.τ) (Cert.AdBReferenceIdeal.main (F := Ideal))) ⟨m, fun _ => 0, g⟩ (fun r => (∀ c : Dev Cert.AdBReferenceIdeal.nD,
      r.2.mem ((c.tc : Thread Cert.AdBReferenceIdeal.nD Cert.AdBReferenceIdeal.τ).loc Cert.AdBReferenceIdeal.main_arg0) = m ((c.tc : Thread Cert.AdBReferenceIdeal.nD Cert.AdBReferenceIdeal.τ).loc Cert.AdBReferenceIdeal.main_arg0)
      ∧ r.2.mem ((c.tc : Thread Cert.AdBReferenceIdeal.nD Cert.AdBReferenceIdeal.τ).loc Cert.AdBReferenceIdeal.main_arg1) = m ((c.tc : Thread Cert.AdBReferenceIdeal.nD Cert.AdBReferenceIdeal.τ).loc Cert.AdBReferenceIdeal.main_arg1)
      ∧ r.2.mem ((c.tc : Thread Cert.AdBReferenceIdeal.nD Cert.AdBReferenceIdeal.τ).loc Cert.AdBReferenceIdeal.main_arg2) = m ((c.tc : Thread Cert.AdBReferenceIdeal.nD Cert.AdBReferenceIdeal.τ).loc Cert.AdBReferenceIdeal.main_arg2)
      ∧ r.2.mem ((c.tc : Thread Cert.AdBReferenceIdeal.nD Cert.AdBReferenceIdeal.τ).loc Cert.AdBReferenceIdeal.main_arg3) = m ((c.tc : Thread Cert.AdBReferenceIdeal.nD Cert.AdBReferenceIdeal.τ).loc Cert.AdBReferenceIdeal.main_arg3))
      ∧ r.2.sem = fun _ => 0)

def quiescent_AdCKernel [hAdCKernel : Cert.AdCKernel.Facts] : Prop :=
  ∀ (m : (ℓ : Loc Cert.AdCKernel.nD Cert.AdCKernel.τ Cert.AdCKernel.sig) → Buf (Elt Bits) ℓ) (g : Dev Cert.AdCKernel.nD → PrngReg), Pre_AdCKernel m →
    θ_run (Cert.AdCKernel.defs (F := Bits)) (onTc (τ := Cert.AdCKernel.τ) (Cert.AdCKernel.main (F := Bits))) ⟨m, fun _ => 0, g⟩ (fun r => (∀ c : Dev Cert.AdCKernel.nD,
      r.2.mem ((c.tc : Thread Cert.AdCKernel.nD Cert.AdCKernel.τ).loc Cert.AdCKernel.main_arg0) = m ((c.tc : Thread Cert.AdCKernel.nD Cert.AdCKernel.τ).loc Cert.AdCKernel.main_arg0)
      ∧ r.2.mem ((c.tc : Thread Cert.AdCKernel.nD Cert.AdCKernel.τ).loc Cert.AdCKernel.main_arg1) = m ((c.tc : Thread Cert.AdCKernel.nD Cert.AdCKernel.τ).loc Cert.AdCKernel.main_arg1)
      ∧ r.2.mem ((c.tc : Thread Cert.AdCKernel.nD Cert.AdCKernel.τ).loc Cert.AdCKernel.main_arg2) = m ((c.tc : Thread Cert.AdCKernel.nD Cert.AdCKernel.τ).loc Cert.AdCKernel.main_arg2)
      ∧ r.2.mem ((c.tc : Thread Cert.AdCKernel.nD Cert.AdCKernel.τ).loc Cert.AdCKernel.main_arg3) = m ((c.tc : Thread Cert.AdCKernel.nD Cert.AdCKernel.τ).loc Cert.AdCKernel.main_arg3))
      ∧ r.2.sem = fun _ => 0)

def quiescent_AdCKernelIdeal [hAdCKernelIdeal : Cert.AdCKernelIdeal.Facts] : Prop :=
  ∀ (m : (ℓ : Loc Cert.AdCKernelIdeal.nD Cert.AdCKernelIdeal.τ Cert.AdCKernelIdeal.sig) → Buf (Elt Ideal) ℓ) (g : Dev Cert.AdCKernelIdeal.nD → PrngReg), Pre_AdCKernelIdeal m →
    θ_run (Cert.AdCKernelIdeal.defs (F := Ideal)) (onTc (τ := Cert.AdCKernelIdeal.τ) (Cert.AdCKernelIdeal.main (F := Ideal))) ⟨m, fun _ => 0, g⟩ (fun r => (∀ c : Dev Cert.AdCKernelIdeal.nD,
      r.2.mem ((c.tc : Thread Cert.AdCKernelIdeal.nD Cert.AdCKernelIdeal.τ).loc Cert.AdCKernelIdeal.main_arg0) = m ((c.tc : Thread Cert.AdCKernelIdeal.nD Cert.AdCKernelIdeal.τ).loc Cert.AdCKernelIdeal.main_arg0)
      ∧ r.2.mem ((c.tc : Thread Cert.AdCKernelIdeal.nD Cert.AdCKernelIdeal.τ).loc Cert.AdCKernelIdeal.main_arg1) = m ((c.tc : Thread Cert.AdCKernelIdeal.nD Cert.AdCKernelIdeal.τ).loc Cert.AdCKernelIdeal.main_arg1)
      ∧ r.2.mem ((c.tc : Thread Cert.AdCKernelIdeal.nD Cert.AdCKernelIdeal.τ).loc Cert.AdCKernelIdeal.main_arg2) = m ((c.tc : Thread Cert.AdCKernelIdeal.nD Cert.AdCKernelIdeal.τ).loc Cert.AdCKernelIdeal.main_arg2)
      ∧ r.2.mem ((c.tc : Thread Cert.AdCKernelIdeal.nD Cert.AdCKernelIdeal.τ).loc Cert.AdCKernelIdeal.main_arg3) = m ((c.tc : Thread Cert.AdCKernelIdeal.nD Cert.AdCKernelIdeal.τ).loc Cert.AdCKernelIdeal.main_arg3))
      ∧ r.2.sem = fun _ => 0)

def quiescent_AdCReferenceIdeal [hAdCReferenceIdeal : Cert.AdCReferenceIdeal.Facts] : Prop :=
  ∀ (m : (ℓ : Loc Cert.AdCReferenceIdeal.nD Cert.AdCReferenceIdeal.τ Cert.AdCReferenceIdeal.sig) → Buf (Elt Ideal) ℓ) (g : Dev Cert.AdCReferenceIdeal.nD → PrngReg), Pre_AdCReferenceIdeal m →
    θ_run (Cert.AdCReferenceIdeal.defs (F := Ideal)) (onTc (τ := Cert.AdCReferenceIdeal.τ) (Cert.AdCReferenceIdeal.main (F := Ideal))) ⟨m, fun _ => 0, g⟩ (fun r => (∀ c : Dev Cert.AdCReferenceIdeal.nD,
      r.2.mem ((c.tc : Thread Cert.AdCReferenceIdeal.nD Cert.AdCReferenceIdeal.τ).loc Cert.AdCReferenceIdeal.main_arg0) = m ((c.tc : Thread Cert.AdCReferenceIdeal.nD Cert.AdCReferenceIdeal.τ).loc Cert.AdCReferenceIdeal.main_arg0)
      ∧ r.2.mem ((c.tc : Thread Cert.AdCReferenceIdeal.nD Cert.AdCReferenceIdeal.τ).loc Cert.AdCReferenceIdeal.main_arg1) = m ((c.tc : Thread Cert.AdCReferenceIdeal.nD Cert.AdCReferenceIdeal.τ).loc Cert.AdCReferenceIdeal.main_arg1)
      ∧ r.2.mem ((c.tc : Thread Cert.AdCReferenceIdeal.nD Cert.AdCReferenceIdeal.τ).loc Cert.AdCReferenceIdeal.main_arg2) = m ((c.tc : Thread Cert.AdCReferenceIdeal.nD Cert.AdCReferenceIdeal.τ).loc Cert.AdCReferenceIdeal.main_arg2)
      ∧ r.2.mem ((c.tc : Thread Cert.AdCReferenceIdeal.nD Cert.AdCReferenceIdeal.τ).loc Cert.AdCReferenceIdeal.main_arg3) = m ((c.tc : Thread Cert.AdCReferenceIdeal.nD Cert.AdCReferenceIdeal.τ).loc Cert.AdCReferenceIdeal.main_arg3))
      ∧ r.2.sem = fun _ => 0)

def quiescent_AdVKernel [hAdVKernel : Cert.AdVKernel.Facts] : Prop :=
  ∀ (m : (ℓ : Loc Cert.AdVKernel.nD Cert.AdVKernel.τ Cert.AdVKernel.sig) → Buf (Elt Bits) ℓ) (g : Dev Cert.AdVKernel.nD → PrngReg), Pre_AdVKernel m →
    θ_run (Cert.AdVKernel.defs (F := Bits)) (onTc (τ := Cert.AdVKernel.τ) (Cert.AdVKernel.main (F := Bits))) ⟨m, fun _ => 0, g⟩ (fun r => (∀ c : Dev Cert.AdVKernel.nD,
      r.2.mem ((c.tc : Thread Cert.AdVKernel.nD Cert.AdVKernel.τ).loc Cert.AdVKernel.main_arg0) = m ((c.tc : Thread Cert.AdVKernel.nD Cert.AdVKernel.τ).loc Cert.AdVKernel.main_arg0)
      ∧ r.2.mem ((c.tc : Thread Cert.AdVKernel.nD Cert.AdVKernel.τ).loc Cert.AdVKernel.main_arg1) = m ((c.tc : Thread Cert.AdVKernel.nD Cert.AdVKernel.τ).loc Cert.AdVKernel.main_arg1)
      ∧ r.2.mem ((c.tc : Thread Cert.AdVKernel.nD Cert.AdVKernel.τ).loc Cert.AdVKernel.main_arg2) = m ((c.tc : Thread Cert.AdVKernel.nD Cert.AdVKernel.τ).loc Cert.AdVKernel.main_arg2)
      ∧ r.2.mem ((c.tc : Thread Cert.AdVKernel.nD Cert.AdVKernel.τ).loc Cert.AdVKernel.main_arg3) = m ((c.tc : Thread Cert.AdVKernel.nD Cert.AdVKernel.τ).loc Cert.AdVKernel.main_arg3))
      ∧ r.2.sem = fun _ => 0)

def quiescent_AdVKernelIdeal [hAdVKernelIdeal : Cert.AdVKernelIdeal.Facts] : Prop :=
  ∀ (m : (ℓ : Loc Cert.AdVKernelIdeal.nD Cert.AdVKernelIdeal.τ Cert.AdVKernelIdeal.sig) → Buf (Elt Ideal) ℓ) (g : Dev Cert.AdVKernelIdeal.nD → PrngReg), Pre_AdVKernelIdeal m →
    θ_run (Cert.AdVKernelIdeal.defs (F := Ideal)) (onTc (τ := Cert.AdVKernelIdeal.τ) (Cert.AdVKernelIdeal.main (F := Ideal))) ⟨m, fun _ => 0, g⟩ (fun r => (∀ c : Dev Cert.AdVKernelIdeal.nD,
      r.2.mem ((c.tc : Thread Cert.AdVKernelIdeal.nD Cert.AdVKernelIdeal.τ).loc Cert.AdVKernelIdeal.main_arg0) = m ((c.tc : Thread Cert.AdVKernelIdeal.nD Cert.AdVKernelIdeal.τ).loc Cert.AdVKernelIdeal.main_arg0)
      ∧ r.2.mem ((c.tc : Thread Cert.AdVKernelIdeal.nD Cert.AdVKernelIdeal.τ).loc Cert.AdVKernelIdeal.main_arg1) = m ((c.tc : Thread Cert.AdVKernelIdeal.nD Cert.AdVKernelIdeal.τ).loc Cert.AdVKernelIdeal.main_arg1)
      ∧ r.2.mem ((c.tc : Thread Cert.AdVKernelIdeal.nD Cert.AdVKernelIdeal.τ).loc Cert.AdVKernelIdeal.main_arg2) = m ((c.tc : Thread Cert.AdVKernelIdeal.nD Cert.AdVKernelIdeal.τ).loc Cert.AdVKernelIdeal.main_arg2)
      ∧ r.2.mem ((c.tc : Thread Cert.AdVKernelIdeal.nD Cert.AdVKernelIdeal.τ).loc Cert.AdVKernelIdeal.main_arg3) = m ((c.tc : Thread Cert.AdVKernelIdeal.nD Cert.AdVKernelIdeal.τ).loc Cert.AdVKernelIdeal.main_arg3))
      ∧ r.2.sem = fun _ => 0)

def quiescent_AdVReferenceIdeal [hAdVReferenceIdeal : Cert.AdVReferenceIdeal.Facts] : Prop :=
  ∀ (m : (ℓ : Loc Cert.AdVReferenceIdeal.nD Cert.AdVReferenceIdeal.τ Cert.AdVReferenceIdeal.sig) → Buf (Elt Ideal) ℓ) (g : Dev Cert.AdVReferenceIdeal.nD → PrngReg), Pre_AdVReferenceIdeal m →
    θ_run (Cert.AdVReferenceIdeal.defs (F := Ideal)) (onTc (τ := Cert.AdVReferenceIdeal.τ) (Cert.AdVReferenceIdeal.main (F := Ideal))) ⟨m, fun _ => 0, g⟩ (fun r => (∀ c : Dev Cert.AdVReferenceIdeal.nD,
      r.2.mem ((c.tc : Thread Cert.AdVReferenceIdeal.nD Cert.AdVReferenceIdeal.τ).loc Cert.AdVReferenceIdeal.main_arg0) = m ((c.tc : Thread Cert.AdVReferenceIdeal.nD Cert.AdVReferenceIdeal.τ).loc Cert.AdVReferenceIdeal.main_arg0)
      ∧ r.2.mem ((c.tc : Thread Cert.AdVReferenceIdeal.nD Cert.AdVReferenceIdeal.τ).loc Cert.AdVReferenceIdeal.main_arg1) = m ((c.tc : Thread Cert.AdVReferenceIdeal.nD Cert.AdVReferenceIdeal.τ).loc Cert.AdVReferenceIdeal.main_arg1)
      ∧ r.2.mem ((c.tc : Thread Cert.AdVReferenceIdeal.nD Cert.AdVReferenceIdeal.τ).loc Cert.AdVReferenceIdeal.main_arg2) = m ((c.tc : Thread Cert.AdVReferenceIdeal.nD Cert.AdVReferenceIdeal.τ).loc Cert.AdVReferenceIdeal.main_arg2)
      ∧ r.2.mem ((c.tc : Thread Cert.AdVReferenceIdeal.nD Cert.AdVReferenceIdeal.τ).loc Cert.AdVReferenceIdeal.main_arg3) = m ((c.tc : Thread Cert.AdVReferenceIdeal.nD Cert.AdVReferenceIdeal.τ).loc Cert.AdVReferenceIdeal.main_arg3))
      ∧ r.2.sem = fun _ => 0)

def quiescent_AdHKernel [hAdHKernel : Cert.AdHKernel.Facts] : Prop :=
  ∀ (m : (ℓ : Loc Cert.AdHKernel.nD Cert.AdHKernel.τ Cert.AdHKernel.sig) → Buf (Elt Bits) ℓ) (g : Dev Cert.AdHKernel.nD → PrngReg), Pre_AdHKernel m →
    θ_run (Cert.AdHKernel.defs (F := Bits)) (onTc (τ := Cert.AdHKernel.τ) (Cert.AdHKernel.main (F := Bits))) ⟨m, fun _ => 0, g⟩ (fun r => (∀ c : Dev Cert.AdHKernel.nD,
      r.2.mem ((c.tc : Thread Cert.AdHKernel.nD Cert.AdHKernel.τ).loc Cert.AdHKernel.main_arg0) = m ((c.tc : Thread Cert.AdHKernel.nD Cert.AdHKernel.τ).loc Cert.AdHKernel.main_arg0)
      ∧ r.2.mem ((c.tc : Thread Cert.AdHKernel.nD Cert.AdHKernel.τ).loc Cert.AdHKernel.main_arg1) = m ((c.tc : Thread Cert.AdHKernel.nD Cert.AdHKernel.τ).loc Cert.AdHKernel.main_arg1)
      ∧ r.2.mem ((c.tc : Thread Cert.AdHKernel.nD Cert.AdHKernel.τ).loc Cert.AdHKernel.main_arg2) = m ((c.tc : Thread Cert.AdHKernel.nD Cert.AdHKernel.τ).loc Cert.AdHKernel.main_arg2)
      ∧ r.2.mem ((c.tc : Thread Cert.AdHKernel.nD Cert.AdHKernel.τ).loc Cert.AdHKernel.main_arg3) = m ((c.tc : Thread Cert.AdHKernel.nD Cert.AdHKernel.τ).loc Cert.AdHKernel.main_arg3))
      ∧ r.2.sem = fun _ => 0)

def quiescent_AdHKernelIdeal [hAdHKernelIdeal : Cert.AdHKernelIdeal.Facts] : Prop :=
  ∀ (m : (ℓ : Loc Cert.AdHKernelIdeal.nD Cert.AdHKernelIdeal.τ Cert.AdHKernelIdeal.sig) → Buf (Elt Ideal) ℓ) (g : Dev Cert.AdHKernelIdeal.nD → PrngReg), Pre_AdHKernelIdeal m →
    θ_run (Cert.AdHKernelIdeal.defs (F := Ideal)) (onTc (τ := Cert.AdHKernelIdeal.τ) (Cert.AdHKernelIdeal.main (F := Ideal))) ⟨m, fun _ => 0, g⟩ (fun r => (∀ c : Dev Cert.AdHKernelIdeal.nD,
      r.2.mem ((c.tc : Thread Cert.AdHKernelIdeal.nD Cert.AdHKernelIdeal.τ).loc Cert.AdHKernelIdeal.main_arg0) = m ((c.tc : Thread Cert.AdHKernelIdeal.nD Cert.AdHKernelIdeal.τ).loc Cert.AdHKernelIdeal.main_arg0)
      ∧ r.2.mem ((c.tc : Thread Cert.AdHKernelIdeal.nD Cert.AdHKernelIdeal.τ).loc Cert.AdHKernelIdeal.main_arg1) = m ((c.tc : Thread Cert.AdHKernelIdeal.nD Cert.AdHKernelIdeal.τ).loc Cert.AdHKernelIdeal.main_arg1)
      ∧ r.2.mem ((c.tc : Thread Cert.AdHKernelIdeal.nD Cert.AdHKernelIdeal.τ).loc Cert.AdHKernelIdeal.main_arg2) = m ((c.tc : Thread Cert.AdHKernelIdeal.nD Cert.AdHKernelIdeal.τ).loc Cert.AdHKernelIdeal.main_arg2)
      ∧ r.2.mem ((c.tc : Thread Cert.AdHKernelIdeal.nD Cert.AdHKernelIdeal.τ).loc Cert.AdHKernelIdeal.main_arg3) = m ((c.tc : Thread Cert.AdHKernelIdeal.nD Cert.AdHKernelIdeal.τ).loc Cert.AdHKernelIdeal.main_arg3))
      ∧ r.2.sem = fun _ => 0)

def quiescent_AdHReferenceIdeal [hAdHReferenceIdeal : Cert.AdHReferenceIdeal.Facts] : Prop :=
  ∀ (m : (ℓ : Loc Cert.AdHReferenceIdeal.nD Cert.AdHReferenceIdeal.τ Cert.AdHReferenceIdeal.sig) → Buf (Elt Ideal) ℓ) (g : Dev Cert.AdHReferenceIdeal.nD → PrngReg), Pre_AdHReferenceIdeal m →
    θ_run (Cert.AdHReferenceIdeal.defs (F := Ideal)) (onTc (τ := Cert.AdHReferenceIdeal.τ) (Cert.AdHReferenceIdeal.main (F := Ideal))) ⟨m, fun _ => 0, g⟩ (fun r => (∀ c : Dev Cert.AdHReferenceIdeal.nD,
      r.2.mem ((c.tc : Thread Cert.AdHReferenceIdeal.nD Cert.AdHReferenceIdeal.τ).loc Cert.AdHReferenceIdeal.main_arg0) = m ((c.tc : Thread Cert.AdHReferenceIdeal.nD Cert.AdHReferenceIdeal.τ).loc Cert.AdHReferenceIdeal.main_arg0)
      ∧ r.2.mem ((c.tc : Thread Cert.AdHReferenceIdeal.nD Cert.AdHReferenceIdeal.τ).loc Cert.AdHReferenceIdeal.main_arg1) = m ((c.tc : Thread Cert.AdHReferenceIdeal.nD Cert.AdHReferenceIdeal.τ).loc Cert.AdHReferenceIdeal.main_arg1)
      ∧ r.2.mem ((c.tc : Thread Cert.AdHReferenceIdeal.nD Cert.AdHReferenceIdeal.τ).loc Cert.AdHReferenceIdeal.main_arg2) = m ((c.tc : Thread Cert.AdHReferenceIdeal.nD Cert.AdHReferenceIdeal.τ).loc Cert.AdHReferenceIdeal.main_arg2)
      ∧ r.2.mem ((c.tc : Thread Cert.AdHReferenceIdeal.nD Cert.AdHReferenceIdeal.τ).loc Cert.AdHReferenceIdeal.main_arg3) = m ((c.tc : Thread Cert.AdHReferenceIdeal.nD Cert.AdHReferenceIdeal.τ).loc Cert.AdHReferenceIdeal.main_arg3))
      ∧ r.2.sem = fun _ => 0)

def quiescent_AdFKernel [hAdFKernel : Cert.AdFKernel.Facts] : Prop :=
  ∀ (m : (ℓ : Loc Cert.AdFKernel.nD Cert.AdFKernel.τ Cert.AdFKernel.sig) → Buf (Elt Bits) ℓ) (g : Dev Cert.AdFKernel.nD → PrngReg), Pre_AdFKernel m →
    θ_run (Cert.AdFKernel.defs (F := Bits)) (onTc (τ := Cert.AdFKernel.τ) (Cert.AdFKernel.main (F := Bits))) ⟨m, fun _ => 0, g⟩ (fun r => (∀ c : Dev Cert.AdFKernel.nD,
      r.2.mem ((c.tc : Thread Cert.AdFKernel.nD Cert.AdFKernel.τ).loc Cert.AdFKernel.main_arg0) = m ((c.tc : Thread Cert.AdFKernel.nD Cert.AdFKernel.τ).loc Cert.AdFKernel.main_arg0)
      ∧ r.2.mem ((c.tc : Thread Cert.AdFKernel.nD Cert.AdFKernel.τ).loc Cert.AdFKernel.main_arg1) = m ((c.tc : Thread Cert.AdFKernel.nD Cert.AdFKernel.τ).loc Cert.AdFKernel.main_arg1)
      ∧ r.2.mem ((c.tc : Thread Cert.AdFKernel.nD Cert.AdFKernel.τ).loc Cert.AdFKernel.main_arg2) = m ((c.tc : Thread Cert.AdFKernel.nD Cert.AdFKernel.τ).loc Cert.AdFKernel.main_arg2)
      ∧ r.2.mem ((c.tc : Thread Cert.AdFKernel.nD Cert.AdFKernel.τ).loc Cert.AdFKernel.main_arg3) = m ((c.tc : Thread Cert.AdFKernel.nD Cert.AdFKernel.τ).loc Cert.AdFKernel.main_arg3))
      ∧ r.2.sem = fun _ => 0)

def quiescent_AdFKernelIdeal [hAdFKernelIdeal : Cert.AdFKernelIdeal.Facts] : Prop :=
  ∀ (m : (ℓ : Loc Cert.AdFKernelIdeal.nD Cert.AdFKernelIdeal.τ Cert.AdFKernelIdeal.sig) → Buf (Elt Ideal) ℓ) (g : Dev Cert.AdFKernelIdeal.nD → PrngReg), Pre_AdFKernelIdeal m →
    θ_run (Cert.AdFKernelIdeal.defs (F := Ideal)) (onTc (τ := Cert.AdFKernelIdeal.τ) (Cert.AdFKernelIdeal.main (F := Ideal))) ⟨m, fun _ => 0, g⟩ (fun r => (∀ c : Dev Cert.AdFKernelIdeal.nD,
      r.2.mem ((c.tc : Thread Cert.AdFKernelIdeal.nD Cert.AdFKernelIdeal.τ).loc Cert.AdFKernelIdeal.main_arg0) = m ((c.tc : Thread Cert.AdFKernelIdeal.nD Cert.AdFKernelIdeal.τ).loc Cert.AdFKernelIdeal.main_arg0)
      ∧ r.2.mem ((c.tc : Thread Cert.AdFKernelIdeal.nD Cert.AdFKernelIdeal.τ).loc Cert.AdFKernelIdeal.main_arg1) = m ((c.tc : Thread Cert.AdFKernelIdeal.nD Cert.AdFKernelIdeal.τ).loc Cert.AdFKernelIdeal.main_arg1)
      ∧ r.2.mem ((c.tc : Thread Cert.AdFKernelIdeal.nD Cert.AdFKernelIdeal.τ).loc Cert.AdFKernelIdeal.main_arg2) = m ((c.tc : Thread Cert.AdFKernelIdeal.nD Cert.AdFKernelIdeal.τ).loc Cert.AdFKernelIdeal.main_arg2)
      ∧ r.2.mem ((c.tc : Thread Cert.AdFKernelIdeal.nD Cert.AdFKernelIdeal.τ).loc Cert.AdFKernelIdeal.main_arg3) = m ((c.tc : Thread Cert.AdFKernelIdeal.nD Cert.AdFKernelIdeal.τ).loc Cert.AdFKernelIdeal.main_arg3))
      ∧ r.2.sem = fun _ => 0)

def quiescent_AdFReferenceIdeal [hAdFReferenceIdeal : Cert.AdFReferenceIdeal.Facts] : Prop :=
  ∀ (m : (ℓ : Loc Cert.AdFReferenceIdeal.nD Cert.AdFReferenceIdeal.τ Cert.AdFReferenceIdeal.sig) → Buf (Elt Ideal) ℓ) (g : Dev Cert.AdFReferenceIdeal.nD → PrngReg), Pre_AdFReferenceIdeal m →
    θ_run (Cert.AdFReferenceIdeal.defs (F := Ideal)) (onTc (τ := Cert.AdFReferenceIdeal.τ) (Cert.AdFReferenceIdeal.main (F := Ideal))) ⟨m, fun _ => 0, g⟩ (fun r => (∀ c : Dev Cert.AdFReferenceIdeal.nD,
      r.2.mem ((c.tc : Thread Cert.AdFReferenceIdeal.nD Cert.AdFReferenceIdeal.τ).loc Cert.AdFReferenceIdeal.main_arg0) = m ((c.tc : Thread Cert.AdFReferenceIdeal.nD Cert.AdFReferenceIdeal.τ).loc Cert.AdFReferenceIdeal.main_arg0)
      ∧ r.2.mem ((c.tc : Thread Cert.AdFReferenceIdeal.nD Cert.AdFReferenceIdeal.τ).loc Cert.AdFReferenceIdeal.main_arg1) = m ((c.tc : Thread Cert.AdFReferenceIdeal.nD Cert.AdFReferenceIdeal.τ).loc Cert.AdFReferenceIdeal.main_arg1)
      ∧ r.2.mem ((c.tc : Thread Cert.AdFReferenceIdeal.nD Cert.AdFReferenceIdeal.τ).loc Cert.AdFReferenceIdeal.main_arg2) = m ((c.tc : Thread Cert.AdFReferenceIdeal.nD Cert.AdFReferenceIdeal.τ).loc Cert.AdFReferenceIdeal.main_arg2)
      ∧ r.2.mem ((c.tc : Thread Cert.AdFReferenceIdeal.nD Cert.AdFReferenceIdeal.τ).loc Cert.AdFReferenceIdeal.main_arg3) = m ((c.tc : Thread Cert.AdFReferenceIdeal.nD Cert.AdFReferenceIdeal.τ).loc Cert.AdFReferenceIdeal.main_arg3))
      ∧ r.2.sem = fun _ => 0)

def quiescent_AdGKernel [hAdGKernel : Cert.AdGKernel.Facts] : Prop :=
  ∀ (m : (ℓ : Loc Cert.AdGKernel.nD Cert.AdGKernel.τ Cert.AdGKernel.sig) → Buf (Elt Bits) ℓ) (g : Dev Cert.AdGKernel.nD → PrngReg), Pre_AdGKernel m →
    θ_run (Cert.AdGKernel.defs (F := Bits)) (onTc (τ := Cert.AdGKernel.τ) (Cert.AdGKernel.main (F := Bits))) ⟨m, fun _ => 0, g⟩ (fun r => (∀ c : Dev Cert.AdGKernel.nD,
      r.2.mem ((c.tc : Thread Cert.AdGKernel.nD Cert.AdGKernel.τ).loc Cert.AdGKernel.main_arg0) = m ((c.tc : Thread Cert.AdGKernel.nD Cert.AdGKernel.τ).loc Cert.AdGKernel.main_arg0)
      ∧ r.2.mem ((c.tc : Thread Cert.AdGKernel.nD Cert.AdGKernel.τ).loc Cert.AdGKernel.main_arg1) = m ((c.tc : Thread Cert.AdGKernel.nD Cert.AdGKernel.τ).loc Cert.AdGKernel.main_arg1)
      ∧ r.2.mem ((c.tc : Thread Cert.AdGKernel.nD Cert.AdGKernel.τ).loc Cert.AdGKernel.main_arg2) = m ((c.tc : Thread Cert.AdGKernel.nD Cert.AdGKernel.τ).loc Cert.AdGKernel.main_arg2)
      ∧ r.2.mem ((c.tc : Thread Cert.AdGKernel.nD Cert.AdGKernel.τ).loc Cert.AdGKernel.main_arg3) = m ((c.tc : Thread Cert.AdGKernel.nD Cert.AdGKernel.τ).loc Cert.AdGKernel.main_arg3))
      ∧ r.2.sem = fun _ => 0)

def quiescent_AdGKernelIdeal [hAdGKernelIdeal : Cert.AdGKernelIdeal.Facts] : Prop :=
  ∀ (m : (ℓ : Loc Cert.AdGKernelIdeal.nD Cert.AdGKernelIdeal.τ Cert.AdGKernelIdeal.sig) → Buf (Elt Ideal) ℓ) (g : Dev Cert.AdGKernelIdeal.nD → PrngReg), Pre_AdGKernelIdeal m →
    θ_run (Cert.AdGKernelIdeal.defs (F := Ideal)) (onTc (τ := Cert.AdGKernelIdeal.τ) (Cert.AdGKernelIdeal.main (F := Ideal))) ⟨m, fun _ => 0, g⟩ (fun r => (∀ c : Dev Cert.AdGKernelIdeal.nD,
      r.2.mem ((c.tc : Thread Cert.AdGKernelIdeal.nD Cert.AdGKernelIdeal.τ).loc Cert.AdGKernelIdeal.main_arg0) = m ((c.tc : Thread Cert.AdGKernelIdeal.nD Cert.AdGKernelIdeal.τ).loc Cert.AdGKernelIdeal.main_arg0)
      ∧ r.2.mem ((c.tc : Thread Cert.AdGKernelIdeal.nD Cert.AdGKernelIdeal.τ).loc Cert.AdGKernelIdeal.main_arg1) = m ((c.tc : Thread Cert.AdGKernelIdeal.nD Cert.AdGKernelIdeal.τ).loc Cert.AdGKernelIdeal.main_arg1)
      ∧ r.2.mem ((c.tc : Thread Cert.AdGKernelIdeal.nD Cert.AdGKernelIdeal.τ).loc Cert.AdGKernelIdeal.main_arg2) = m ((c.tc : Thread Cert.AdGKernelIdeal.nD Cert.AdGKernelIdeal.τ).loc Cert.AdGKernelIdeal.main_arg2)
      ∧ r.2.mem ((c.tc : Thread Cert.AdGKernelIdeal.nD Cert.AdGKernelIdeal.τ).loc Cert.AdGKernelIdeal.main_arg3) = m ((c.tc : Thread Cert.AdGKernelIdeal.nD Cert.AdGKernelIdeal.τ).loc Cert.AdGKernelIdeal.main_arg3))
      ∧ r.2.sem = fun _ => 0)

def quiescent_AdGReferenceIdeal [hAdGReferenceIdeal : Cert.AdGReferenceIdeal.Facts] : Prop :=
  ∀ (m : (ℓ : Loc Cert.AdGReferenceIdeal.nD Cert.AdGReferenceIdeal.τ Cert.AdGReferenceIdeal.sig) → Buf (Elt Ideal) ℓ) (g : Dev Cert.AdGReferenceIdeal.nD → PrngReg), Pre_AdGReferenceIdeal m →
    θ_run (Cert.AdGReferenceIdeal.defs (F := Ideal)) (onTc (τ := Cert.AdGReferenceIdeal.τ) (Cert.AdGReferenceIdeal.main (F := Ideal))) ⟨m, fun _ => 0, g⟩ (fun r => (∀ c : Dev Cert.AdGReferenceIdeal.nD,
      r.2.mem ((c.tc : Thread Cert.AdGReferenceIdeal.nD Cert.AdGReferenceIdeal.τ).loc Cert.AdGReferenceIdeal.main_arg0) = m ((c.tc : Thread Cert.AdGReferenceIdeal.nD Cert.AdGReferenceIdeal.τ).loc Cert.AdGReferenceIdeal.main_arg0)
      ∧ r.2.mem ((c.tc : Thread Cert.AdGReferenceIdeal.nD Cert.AdGReferenceIdeal.τ).loc Cert.AdGReferenceIdeal.main_arg1) = m ((c.tc : Thread Cert.AdGReferenceIdeal.nD Cert.AdGReferenceIdeal.τ).loc Cert.AdGReferenceIdeal.main_arg1)
      ∧ r.2.mem ((c.tc : Thread Cert.AdGReferenceIdeal.nD Cert.AdGReferenceIdeal.τ).loc Cert.AdGReferenceIdeal.main_arg2) = m ((c.tc : Thread Cert.AdGReferenceIdeal.nD Cert.AdGReferenceIdeal.τ).loc Cert.AdGReferenceIdeal.main_arg2)
      ∧ r.2.mem ((c.tc : Thread Cert.AdGReferenceIdeal.nD Cert.AdGReferenceIdeal.τ).loc Cert.AdGReferenceIdeal.main_arg3) = m ((c.tc : Thread Cert.AdGReferenceIdeal.nD Cert.AdGReferenceIdeal.τ).loc Cert.AdGReferenceIdeal.main_arg3))
      ∧ r.2.sem = fun _ => 0)

def quiescent_SmIKernel [hSmIKernel : Cert.SmIKernel.Facts] : Prop :=
  ∀ (m : (ℓ : Loc Cert.SmIKernel.nD Cert.SmIKernel.τ Cert.SmIKernel.sig) → Buf (Elt Bits) ℓ) (g : Dev Cert.SmIKernel.nD → PrngReg), Pre_SmIKernel m →
    θ_run (Cert.SmIKernel.defs (F := Bits)) (onTc (τ := Cert.SmIKernel.τ) (Cert.SmIKernel.main (F := Bits))) ⟨m, fun _ => 0, g⟩ (fun r => (∀ c : Dev Cert.SmIKernel.nD,
      r.2.mem ((c.tc : Thread Cert.SmIKernel.nD Cert.SmIKernel.τ).loc Cert.SmIKernel.main_arg0) = m ((c.tc : Thread Cert.SmIKernel.nD Cert.SmIKernel.τ).loc Cert.SmIKernel.main_arg0)
      ∧ r.2.mem ((c.tc : Thread Cert.SmIKernel.nD Cert.SmIKernel.τ).loc Cert.SmIKernel.main_arg1) = m ((c.tc : Thread Cert.SmIKernel.nD Cert.SmIKernel.τ).loc Cert.SmIKernel.main_arg1)
      ∧ r.2.mem ((c.tc : Thread Cert.SmIKernel.nD Cert.SmIKernel.τ).loc Cert.SmIKernel.main_arg2) = m ((c.tc : Thread Cert.SmIKernel.nD Cert.SmIKernel.τ).loc Cert.SmIKernel.main_arg2)
      ∧ r.2.mem ((c.tc : Thread Cert.SmIKernel.nD Cert.SmIKernel.τ).loc Cert.SmIKernel.main_arg3) = m ((c.tc : Thread Cert.SmIKernel.nD Cert.SmIKernel.τ).loc Cert.SmIKernel.main_arg3)
      ∧ r.2.mem ((c.tc : Thread Cert.SmIKernel.nD Cert.SmIKernel.τ).loc Cert.SmIKernel.main_arg4) = m ((c.tc : Thread Cert.SmIKernel.nD Cert.SmIKernel.τ).loc Cert.SmIKernel.main_arg4)
      ∧ r.2.mem ((c.tc : Thread Cert.SmIKernel.nD Cert.SmIKernel.τ).loc Cert.SmIKernel.main_arg5) = m ((c.tc : Thread Cert.SmIKernel.nD Cert.SmIKernel.τ).loc Cert.SmIKernel.main_arg5)
      ∧ r.2.mem ((c.tc : Thread Cert.SmIKernel.nD Cert.SmIKernel.τ).loc Cert.SmIKernel.main_arg6) = m ((c.tc : Thread Cert.SmIKernel.nD Cert.SmIKernel.τ).loc Cert.SmIKernel.main_arg6)
      ∧ r.2.mem ((c.tc : Thread Cert.SmIKernel.nD Cert.SmIKernel.τ).loc Cert.SmIKernel.main_arg7) = m ((c.tc : Thread Cert.SmIKernel.nD Cert.SmIKernel.τ).loc Cert.SmIKernel.main_arg7))
      ∧ r.2.sem = fun _ => 0)

def quiescent_SmIKernelIdeal [hSmIKernelIdeal : Cert.SmIKernelIdeal.Facts] : Prop :=
  ∀ (m : (ℓ : Loc Cert.SmIKernelIdeal.nD Cert.SmIKernelIdeal.τ Cert.SmIKernelIdeal.sig) → Buf (Elt Ideal) ℓ) (g : Dev Cert.SmIKernelIdeal.nD → PrngReg), Pre_SmIKernelIdeal m →
    θ_run (Cert.SmIKernelIdeal.defs (F := Ideal)) (onTc (τ := Cert.SmIKernelIdeal.τ) (Cert.SmIKernelIdeal.main (F := Ideal))) ⟨m, fun _ => 0, g⟩ (fun r => (∀ c : Dev Cert.SmIKernelIdeal.nD,
      r.2.mem ((c.tc : Thread Cert.SmIKernelIdeal.nD Cert.SmIKernelIdeal.τ).loc Cert.SmIKernelIdeal.main_arg0) = m ((c.tc : Thread Cert.SmIKernelIdeal.nD Cert.SmIKernelIdeal.τ).loc Cert.SmIKernelIdeal.main_arg0)
      ∧ r.2.mem ((c.tc : Thread Cert.SmIKernelIdeal.nD Cert.SmIKernelIdeal.τ).loc Cert.SmIKernelIdeal.main_arg1) = m ((c.tc : Thread Cert.SmIKernelIdeal.nD Cert.SmIKernelIdeal.τ).loc Cert.SmIKernelIdeal.main_arg1)
      ∧ r.2.mem ((c.tc : Thread Cert.SmIKernelIdeal.nD Cert.SmIKernelIdeal.τ).loc Cert.SmIKernelIdeal.main_arg2) = m ((c.tc : Thread Cert.SmIKernelIdeal.nD Cert.SmIKernelIdeal.τ).loc Cert.SmIKernelIdeal.main_arg2)
      ∧ r.2.mem ((c.tc : Thread Cert.SmIKernelIdeal.nD Cert.SmIKernelIdeal.τ).loc Cert.SmIKernelIdeal.main_arg3) = m ((c.tc : Thread Cert.SmIKernelIdeal.nD Cert.SmIKernelIdeal.τ).loc Cert.SmIKernelIdeal.main_arg3)
      ∧ r.2.mem ((c.tc : Thread Cert.SmIKernelIdeal.nD Cert.SmIKernelIdeal.τ).loc Cert.SmIKernelIdeal.main_arg4) = m ((c.tc : Thread Cert.SmIKernelIdeal.nD Cert.SmIKernelIdeal.τ).loc Cert.SmIKernelIdeal.main_arg4)
      ∧ r.2.mem ((c.tc : Thread Cert.SmIKernelIdeal.nD Cert.SmIKernelIdeal.τ).loc Cert.SmIKernelIdeal.main_arg5) = m ((c.tc : Thread Cert.SmIKernelIdeal.nD Cert.SmIKernelIdeal.τ).loc Cert.SmIKernelIdeal.main_arg5)
      ∧ r.2.mem ((c.tc : Thread Cert.SmIKernelIdeal.nD Cert.SmIKernelIdeal.τ).loc Cert.SmIKernelIdeal.main_arg6) = m ((c.tc : Thread Cert.SmIKernelIdeal.nD Cert.SmIKernelIdeal.τ).loc Cert.SmIKernelIdeal.main_arg6)
      ∧ r.2.mem ((c.tc : Thread Cert.SmIKernelIdeal.nD Cert.SmIKernelIdeal.τ).loc Cert.SmIKernelIdeal.main_arg7) = m ((c.tc : Thread Cert.SmIKernelIdeal.nD Cert.SmIKernelIdeal.τ).loc Cert.SmIKernelIdeal.main_arg7))
      ∧ r.2.sem = fun _ => 0)

def quiescent_SmIReferenceIdeal [hSmIReferenceIdeal : Cert.SmIReferenceIdeal.Facts] : Prop :=
  ∀ (m : (ℓ : Loc Cert.SmIReferenceIdeal.nD Cert.SmIReferenceIdeal.τ Cert.SmIReferenceIdeal.sig) → Buf (Elt Ideal) ℓ) (g : Dev Cert.SmIReferenceIdeal.nD → PrngReg), Pre_SmIReferenceIdeal m →
    θ_run (Cert.SmIReferenceIdeal.defs (F := Ideal)) (onTc (τ := Cert.SmIReferenceIdeal.τ) (Cert.SmIReferenceIdeal.main (F := Ideal))) ⟨m, fun _ => 0, g⟩ (fun r => (∀ c : Dev Cert.SmIReferenceIdeal.nD,
      r.2.mem ((c.tc : Thread Cert.SmIReferenceIdeal.nD Cert.SmIReferenceIdeal.τ).loc Cert.SmIReferenceIdeal.main_arg0) = m ((c.tc : Thread Cert.SmIReferenceIdeal.nD Cert.SmIReferenceIdeal.τ).loc Cert.SmIReferenceIdeal.main_arg0)
      ∧ r.2.mem ((c.tc : Thread Cert.SmIReferenceIdeal.nD Cert.SmIReferenceIdeal.τ).loc Cert.SmIReferenceIdeal.main_arg1) = m ((c.tc : Thread Cert.SmIReferenceIdeal.nD Cert.SmIReferenceIdeal.τ).loc Cert.SmIReferenceIdeal.main_arg1)
      ∧ r.2.mem ((c.tc : Thread Cert.SmIReferenceIdeal.nD Cert.SmIReferenceIdeal.τ).loc Cert.SmIReferenceIdeal.main_arg2) = m ((c.tc : Thread Cert.SmIReferenceIdeal.nD Cert.SmIReferenceIdeal.τ).loc Cert.SmIReferenceIdeal.main_arg2)
      ∧ r.2.mem ((c.tc : Thread Cert.SmIReferenceIdeal.nD Cert.SmIReferenceIdeal.τ).loc Cert.SmIReferenceIdeal.main_arg3) = m ((c.tc : Thread Cert.SmIReferenceIdeal.nD Cert.SmIReferenceIdeal.τ).loc Cert.SmIReferenceIdeal.main_arg3)
      ∧ r.2.mem ((c.tc : Thread Cert.SmIReferenceIdeal.nD Cert.SmIReferenceIdeal.τ).loc Cert.SmIReferenceIdeal.main_arg4) = m ((c.tc : Thread Cert.SmIReferenceIdeal.nD Cert.SmIReferenceIdeal.τ).loc Cert.SmIReferenceIdeal.main_arg4)
      ∧ r.2.mem ((c.tc : Thread Cert.SmIReferenceIdeal.nD Cert.SmIReferenceIdeal.τ).loc Cert.SmIReferenceIdeal.main_arg5) = m ((c.tc : Thread Cert.SmIReferenceIdeal.nD Cert.SmIReferenceIdeal.τ).loc Cert.SmIReferenceIdeal.main_arg5)
      ∧ r.2.mem ((c.tc : Thread Cert.SmIReferenceIdeal.nD Cert.SmIReferenceIdeal.τ).loc Cert.SmIReferenceIdeal.main_arg6) = m ((c.tc : Thread Cert.SmIReferenceIdeal.nD Cert.SmIReferenceIdeal.τ).loc Cert.SmIReferenceIdeal.main_arg6)
      ∧ r.2.mem ((c.tc : Thread Cert.SmIReferenceIdeal.nD Cert.SmIReferenceIdeal.τ).loc Cert.SmIReferenceIdeal.main_arg7) = m ((c.tc : Thread Cert.SmIReferenceIdeal.nD Cert.SmIReferenceIdeal.τ).loc Cert.SmIReferenceIdeal.main_arg7))
      ∧ r.2.sem = fun _ => 0)

def quiescent_SmUKernel [hSmUKernel : Cert.SmUKernel.Facts] : Prop :=
  ∀ (m : (ℓ : Loc Cert.SmUKernel.nD Cert.SmUKernel.τ Cert.SmUKernel.sig) → Buf (Elt Bits) ℓ) (g : Dev Cert.SmUKernel.nD → PrngReg), Pre_SmUKernel m →
    θ_run (Cert.SmUKernel.defs (F := Bits)) (onTc (τ := Cert.SmUKernel.τ) (Cert.SmUKernel.main (F := Bits))) ⟨m, fun _ => 0, g⟩ (fun r => (∀ c : Dev Cert.SmUKernel.nD,
      r.2.mem ((c.tc : Thread Cert.SmUKernel.nD Cert.SmUKernel.τ).loc Cert.SmUKernel.main_arg0) = m ((c.tc : Thread Cert.SmUKernel.nD Cert.SmUKernel.τ).loc Cert.SmUKernel.main_arg0)
      ∧ r.2.mem ((c.tc : Thread Cert.SmUKernel.nD Cert.SmUKernel.τ).loc Cert.SmUKernel.main_arg1) = m ((c.tc : Thread Cert.SmUKernel.nD Cert.SmUKernel.τ).loc Cert.SmUKernel.main_arg1)
      ∧ r.2.mem ((c.tc : Thread Cert.SmUKernel.nD Cert.SmUKernel.τ).loc Cert.SmUKernel.main_arg2) = m ((c.tc : Thread Cert.SmUKernel.nD Cert.SmUKernel.τ).loc Cert.SmUKernel.main_arg2)
      ∧ r.2.mem ((c.tc : Thread Cert.SmUKernel.nD Cert.SmUKernel.τ).loc Cert.SmUKernel.main_arg3) = m ((c.tc : Thread Cert.SmUKernel.nD Cert.SmUKernel.τ).loc Cert.SmUKernel.main_arg3)
      ∧ r.2.mem ((c.tc : Thread Cert.SmUKernel.nD Cert.SmUKernel.τ).loc Cert.SmUKernel.main_arg4) = m ((c.tc : Thread Cert.SmUKernel.nD Cert.SmUKernel.τ).loc Cert.SmUKernel.main_arg4)
      ∧ r.2.mem ((c.tc : Thread Cert.SmUKernel.nD Cert.SmUKernel.τ).loc Cert.SmUKernel.main_arg5) = m ((c.tc : Thread Cert.SmUKernel.nD Cert.SmUKernel.τ).loc Cert.SmUKernel.main_arg5)
      ∧ r.2.mem ((c.tc : Thread Cert.SmUKernel.nD Cert.SmUKernel.τ).loc Cert.SmUKernel.main_arg6) = m ((c.tc : Thread Cert.SmUKernel.nD Cert.SmUKernel.τ).loc Cert.SmUKernel.main_arg6)
      ∧ r.2.mem ((c.tc : Thread Cert.SmUKernel.nD Cert.SmUKernel.τ).loc Cert.SmUKernel.main_arg7) = m ((c.tc : Thread Cert.SmUKernel.nD Cert.SmUKernel.τ).loc Cert.SmUKernel.main_arg7))
      ∧ r.2.sem = fun _ => 0)

def quiescent_SmUKernelIdeal [hSmUKernelIdeal : Cert.SmUKernelIdeal.Facts] : Prop :=
  ∀ (m : (ℓ : Loc Cert.SmUKernelIdeal.nD Cert.SmUKernelIdeal.τ Cert.SmUKernelIdeal.sig) → Buf (Elt Ideal) ℓ) (g : Dev Cert.SmUKernelIdeal.nD → PrngReg), Pre_SmUKernelIdeal m →
    θ_run (Cert.SmUKernelIdeal.defs (F := Ideal)) (onTc (τ := Cert.SmUKernelIdeal.τ) (Cert.SmUKernelIdeal.main (F := Ideal))) ⟨m, fun _ => 0, g⟩ (fun r => (∀ c : Dev Cert.SmUKernelIdeal.nD,
      r.2.mem ((c.tc : Thread Cert.SmUKernelIdeal.nD Cert.SmUKernelIdeal.τ).loc Cert.SmUKernelIdeal.main_arg0) = m ((c.tc : Thread Cert.SmUKernelIdeal.nD Cert.SmUKernelIdeal.τ).loc Cert.SmUKernelIdeal.main_arg0)
      ∧ r.2.mem ((c.tc : Thread Cert.SmUKernelIdeal.nD Cert.SmUKernelIdeal.τ).loc Cert.SmUKernelIdeal.main_arg1) = m ((c.tc : Thread Cert.SmUKernelIdeal.nD Cert.SmUKernelIdeal.τ).loc Cert.SmUKernelIdeal.main_arg1)
      ∧ r.2.mem ((c.tc : Thread Cert.SmUKernelIdeal.nD Cert.SmUKernelIdeal.τ).loc Cert.SmUKernelIdeal.main_arg2) = m ((c.tc : Thread Cert.SmUKernelIdeal.nD Cert.SmUKernelIdeal.τ).loc Cert.SmUKernelIdeal.main_arg2)
      ∧ r.2.mem ((c.tc : Thread Cert.SmUKernelIdeal.nD Cert.SmUKernelIdeal.τ).loc Cert.SmUKernelIdeal.main_arg3) = m ((c.tc : Thread Cert.SmUKernelIdeal.nD Cert.SmUKernelIdeal.τ).loc Cert.SmUKernelIdeal.main_arg3)
      ∧ r.2.mem ((c.tc : Thread Cert.SmUKernelIdeal.nD Cert.SmUKernelIdeal.τ).loc Cert.SmUKernelIdeal.main_arg4) = m ((c.tc : Thread Cert.SmUKernelIdeal.nD Cert.SmUKernelIdeal.τ).loc Cert.SmUKernelIdeal.main_arg4)
      ∧ r.2.mem ((c.tc : Thread Cert.SmUKernelIdeal.nD Cert.SmUKernelIdeal.τ).loc Cert.SmUKernelIdeal.main_arg5) = m ((c.tc : Thread Cert.SmUKernelIdeal.nD Cert.SmUKernelIdeal.τ).loc Cert.SmUKernelIdeal.main_arg5)
      ∧ r.2.mem ((c.tc : Thread Cert.SmUKernelIdeal.nD Cert.SmUKernelIdeal.τ).loc Cert.SmUKernelIdeal.main_arg6) = m ((c.tc : Thread Cert.SmUKernelIdeal.nD Cert.SmUKernelIdeal.τ).loc Cert.SmUKernelIdeal.main_arg6)
      ∧ r.2.mem ((c.tc : Thread Cert.SmUKernelIdeal.nD Cert.SmUKernelIdeal.τ).loc Cert.SmUKernelIdeal.main_arg7) = m ((c.tc : Thread Cert.SmUKernelIdeal.nD Cert.SmUKernelIdeal.τ).loc Cert.SmUKernelIdeal.main_arg7))
      ∧ r.2.sem = fun _ => 0)

def quiescent_SmUReferenceIdeal [hSmUReferenceIdeal : Cert.SmUReferenceIdeal.Facts] : Prop :=
  ∀ (m : (ℓ : Loc Cert.SmUReferenceIdeal.nD Cert.SmUReferenceIdeal.τ Cert.SmUReferenceIdeal.sig) → Buf (Elt Ideal) ℓ) (g : Dev Cert.SmUReferenceIdeal.nD → PrngReg), Pre_SmUReferenceIdeal m →
    θ_run (Cert.SmUReferenceIdeal.defs (F := Ideal)) (onTc (τ := Cert.SmUReferenceIdeal.τ) (Cert.SmUReferenceIdeal.main (F := Ideal))) ⟨m, fun _ => 0, g⟩ (fun r => (∀ c : Dev Cert.SmUReferenceIdeal.nD,
      r.2.mem ((c.tc : Thread Cert.SmUReferenceIdeal.nD Cert.SmUReferenceIdeal.τ).loc Cert.SmUReferenceIdeal.main_arg0) = m ((c.tc : Thread Cert.SmUReferenceIdeal.nD Cert.SmUReferenceIdeal.τ).loc Cert.SmUReferenceIdeal.main_arg0)
      ∧ r.2.mem ((c.tc : Thread Cert.SmUReferenceIdeal.nD Cert.SmUReferenceIdeal.τ).loc Cert.SmUReferenceIdeal.main_arg1) = m ((c.tc : Thread Cert.SmUReferenceIdeal.nD Cert.SmUReferenceIdeal.τ).loc Cert.SmUReferenceIdeal.main_arg1)
      ∧ r.2.mem ((c.tc : Thread Cert.SmUReferenceIdeal.nD Cert.SmUReferenceIdeal.τ).loc Cert.SmUReferenceIdeal.main_arg2) = m ((c.tc : Thread Cert.SmUReferenceIdeal.nD Cert.SmUReferenceIdeal.τ).loc Cert.SmUReferenceIdeal.main_arg2)
      ∧ r.2.mem ((c.tc : Thread Cert.SmUReferenceIdeal.nD Cert.SmUReferenceIdeal.τ).loc Cert.SmUReferenceIdeal.main_arg3) = m ((c.tc : Thread Cert.SmUReferenceIdeal.nD Cert.SmUReferenceIdeal.τ).loc Cert.SmUReferenceIdeal.main_arg3)
      ∧ r.2.mem ((c.tc : Thread Cert.SmUReferenceIdeal.nD Cert.SmUReferenceIdeal.τ).loc Cert.SmUReferenceIdeal.main_arg4) = m ((c.tc : Thread Cert.SmUReferenceIdeal.nD Cert.SmUReferenceIdeal.τ).loc Cert.SmUReferenceIdeal.main_arg4)
      ∧ r.2.mem ((c.tc : Thread Cert.SmUReferenceIdeal.nD Cert.SmUReferenceIdeal.τ).loc Cert.SmUReferenceIdeal.main_arg5) = m ((c.tc : Thread Cert.SmUReferenceIdeal.nD Cert.SmUReferenceIdeal.τ).loc Cert.SmUReferenceIdeal.main_arg5)
      ∧ r.2.mem ((c.tc : Thread Cert.SmUReferenceIdeal.nD Cert.SmUReferenceIdeal.τ).loc Cert.SmUReferenceIdeal.main_arg6) = m ((c.tc : Thread Cert.SmUReferenceIdeal.nD Cert.SmUReferenceIdeal.τ).loc Cert.SmUReferenceIdeal.main_arg6)
      ∧ r.2.mem ((c.tc : Thread Cert.SmUReferenceIdeal.nD Cert.SmUReferenceIdeal.τ).loc Cert.SmUReferenceIdeal.main_arg7) = m ((c.tc : Thread Cert.SmUReferenceIdeal.nD Cert.SmUReferenceIdeal.τ).loc Cert.SmUReferenceIdeal.main_arg7))
      ∧ r.2.sem = fun _ => 0)

def quiescent_SmVKernel [hSmVKernel : Cert.SmVKernel.Facts] : Prop :=
  ∀ (m : (ℓ : Loc Cert.SmVKernel.nD Cert.SmVKernel.τ Cert.SmVKernel.sig) → Buf (Elt Bits) ℓ) (g : Dev Cert.SmVKernel.nD → PrngReg), Pre_SmVKernel m →
    θ_run (Cert.SmVKernel.defs (F := Bits)) (onTc (τ := Cert.SmVKernel.τ) (Cert.SmVKernel.main (F := Bits))) ⟨m, fun _ => 0, g⟩ (fun r => (∀ c : Dev Cert.SmVKernel.nD,
      r.2.mem ((c.tc : Thread Cert.SmVKernel.nD Cert.SmVKernel.τ).loc Cert.SmVKernel.main_arg0) = m ((c.tc : Thread Cert.SmVKernel.nD Cert.SmVKernel.τ).loc Cert.SmVKernel.main_arg0)
      ∧ r.2.mem ((c.tc : Thread Cert.SmVKernel.nD Cert.SmVKernel.τ).loc Cert.SmVKernel.main_arg1) = m ((c.tc : Thread Cert.SmVKernel.nD Cert.SmVKernel.τ).loc Cert.SmVKernel.main_arg1)
      ∧ r.2.mem ((c.tc : Thread Cert.SmVKernel.nD Cert.SmVKernel.τ).loc Cert.SmVKernel.main_arg2) = m ((c.tc : Thread Cert.SmVKernel.nD Cert.SmVKernel.τ).loc Cert.SmVKernel.main_arg2)
      ∧ r.2.mem ((c.tc : Thread Cert.SmVKernel.nD Cert.SmVKernel.τ).loc Cert.SmVKernel.main_arg3) = m ((c.tc : Thread Cert.SmVKernel.nD Cert.SmVKernel.τ).loc Cert.SmVKernel.main_arg3)
      ∧ r.2.mem ((c.tc : Thread Cert.SmVKernel.nD Cert.SmVKernel.τ).loc Cert.SmVKernel.main_arg4) = m ((c.tc : Thread Cert.SmVKernel.nD Cert.SmVKernel.τ).loc Cert.SmVKernel.main_arg4)
      ∧ r.2.mem ((c.tc : Thread Cert.SmVKernel.nD Cert.SmVKernel.τ).loc Cert.SmVKernel.main_arg5) = m ((c.tc : Thread Cert.SmVKernel.nD Cert.SmVKernel.τ).loc Cert.SmVKernel.main_arg5)
      ∧ r.2.mem ((c.tc : Thread Cert.SmVKernel.nD Cert.SmVKernel.τ).loc Cert.SmVKernel.main_arg6) = m ((c.tc : Thread Cert.SmVKernel.nD Cert.SmVKernel.τ).loc Cert.SmVKernel.main_arg6)
      ∧ r.2.mem ((c.tc : Thread Cert.SmVKernel.nD Cert.SmVKernel.τ).loc Cert.SmVKernel.main_arg7) = m ((c.tc : Thread Cert.SmVKernel.nD Cert.SmVKernel.τ).loc Cert.SmVKernel.main_arg7))
      ∧ r.2.sem = fun _ => 0)

def quiescent_SmVKernelIdeal [hSmVKernelIdeal : Cert.SmVKernelIdeal.Facts] : Prop :=
  ∀ (m : (ℓ : Loc Cert.SmVKernelIdeal.nD Cert.SmVKernelIdeal.τ Cert.SmVKernelIdeal.sig) → Buf (Elt Ideal) ℓ) (g : Dev Cert.SmVKernelIdeal.nD → PrngReg), Pre_SmVKernelIdeal m →
    θ_run (Cert.SmVKernelIdeal.defs (F := Ideal)) (onTc (τ := Cert.SmVKernelIdeal.τ) (Cert.SmVKernelIdeal.main (F := Ideal))) ⟨m, fun _ => 0, g⟩ (fun r => (∀ c : Dev Cert.SmVKernelIdeal.nD,
      r.2.mem ((c.tc : Thread Cert.SmVKernelIdeal.nD Cert.SmVKernelIdeal.τ).loc Cert.SmVKernelIdeal.main_arg0) = m ((c.tc : Thread Cert.SmVKernelIdeal.nD Cert.SmVKernelIdeal.τ).loc Cert.SmVKernelIdeal.main_arg0)
      ∧ r.2.mem ((c.tc : Thread Cert.SmVKernelIdeal.nD Cert.SmVKernelIdeal.τ).loc Cert.SmVKernelIdeal.main_arg1) = m ((c.tc : Thread Cert.SmVKernelIdeal.nD Cert.SmVKernelIdeal.τ).loc Cert.SmVKernelIdeal.main_arg1)
      ∧ r.2.mem ((c.tc : Thread Cert.SmVKernelIdeal.nD Cert.SmVKernelIdeal.τ).loc Cert.SmVKernelIdeal.main_arg2) = m ((c.tc : Thread Cert.SmVKernelIdeal.nD Cert.SmVKernelIdeal.τ).loc Cert.SmVKernelIdeal.main_arg2)
      ∧ r.2.mem ((c.tc : Thread Cert.SmVKernelIdeal.nD Cert.SmVKernelIdeal.τ).loc Cert.SmVKernelIdeal.main_arg3) = m ((c.tc : Thread Cert.SmVKernelIdeal.nD Cert.SmVKernelIdeal.τ).loc Cert.SmVKernelIdeal.main_arg3)
      ∧ r.2.mem ((c.tc : Thread Cert.SmVKernelIdeal.nD Cert.SmVKernelIdeal.τ).loc Cert.SmVKernelIdeal.main_arg4) = m ((c.tc : Thread Cert.SmVKernelIdeal.nD Cert.SmVKernelIdeal.τ).loc Cert.SmVKernelIdeal.main_arg4)
      ∧ r.2.mem ((c.tc : Thread Cert.SmVKernelIdeal.nD Cert.SmVKernelIdeal.τ).loc Cert.SmVKernelIdeal.main_arg5) = m ((c.tc : Thread Cert.SmVKernelIdeal.nD Cert.SmVKernelIdeal.τ).loc Cert.SmVKernelIdeal.main_arg5)
      ∧ r.2.mem ((c.tc : Thread Cert.SmVKernelIdeal.nD Cert.SmVKernelIdeal.τ).loc Cert.SmVKernelIdeal.main_arg6) = m ((c.tc : Thread Cert.SmVKernelIdeal.nD Cert.SmVKernelIdeal.τ).loc Cert.SmVKernelIdeal.main_arg6)
      ∧ r.2.mem ((c.tc : Thread Cert.SmVKernelIdeal.nD Cert.SmVKernelIdeal.τ).loc Cert.SmVKernelIdeal.main_arg7) = m ((c.tc : Thread Cert.SmVKernelIdeal.nD Cert.SmVKernelIdeal.τ).loc Cert.SmVKernelIdeal.main_arg7))
      ∧ r.2.sem = fun _ => 0)

def quiescent_SmVReferenceIdeal [hSmVReferenceIdeal : Cert.SmVReferenceIdeal.Facts] : Prop :=
  ∀ (m : (ℓ : Loc Cert.SmVReferenceIdeal.nD Cert.SmVReferenceIdeal.τ Cert.SmVReferenceIdeal.sig) → Buf (Elt Ideal) ℓ) (g : Dev Cert.SmVReferenceIdeal.nD → PrngReg), Pre_SmVReferenceIdeal m →
    θ_run (Cert.SmVReferenceIdeal.defs (F := Ideal)) (onTc (τ := Cert.SmVReferenceIdeal.τ) (Cert.SmVReferenceIdeal.main (F := Ideal))) ⟨m, fun _ => 0, g⟩ (fun r => (∀ c : Dev Cert.SmVReferenceIdeal.nD,
      r.2.mem ((c.tc : Thread Cert.SmVReferenceIdeal.nD Cert.SmVReferenceIdeal.τ).loc Cert.SmVReferenceIdeal.main_arg0) = m ((c.tc : Thread Cert.SmVReferenceIdeal.nD Cert.SmVReferenceIdeal.τ).loc Cert.SmVReferenceIdeal.main_arg0)
      ∧ r.2.mem ((c.tc : Thread Cert.SmVReferenceIdeal.nD Cert.SmVReferenceIdeal.τ).loc Cert.SmVReferenceIdeal.main_arg1) = m ((c.tc : Thread Cert.SmVReferenceIdeal.nD Cert.SmVReferenceIdeal.τ).loc Cert.SmVReferenceIdeal.main_arg1)
      ∧ r.2.mem ((c.tc : Thread Cert.SmVReferenceIdeal.nD Cert.SmVReferenceIdeal.τ).loc Cert.SmVReferenceIdeal.main_arg2) = m ((c.tc : Thread Cert.SmVReferenceIdeal.nD Cert.SmVReferenceIdeal.τ).loc Cert.SmVReferenceIdeal.main_arg2)
      ∧ r.2.mem ((c.tc : Thread Cert.SmVReferenceIdeal.nD Cert.SmVReferenceIdeal.τ).loc Cert.SmVReferenceIdeal.main_arg3) = m ((c.tc : Thread Cert.SmVReferenceIdeal.nD Cert.SmVReferenceIdeal.τ).loc Cert.SmVReferenceIdeal.main_arg3)
      ∧ r.2.mem ((c.tc : Thread Cert.SmVReferenceIdeal.nD Cert.SmVReferenceIdeal.τ).loc Cert.SmVReferenceIdeal.main_arg4) = m ((c.tc : Thread Cert.SmVReferenceIdeal.nD Cert.SmVReferenceIdeal.τ).loc Cert.SmVReferenceIdeal.main_arg4)
      ∧ r.2.mem ((c.tc : Thread Cert.SmVReferenceIdeal.nD Cert.SmVReferenceIdeal.τ).loc Cert.SmVReferenceIdeal.main_arg5) = m ((c.tc : Thread Cert.SmVReferenceIdeal.nD Cert.SmVReferenceIdeal.τ).loc Cert.SmVReferenceIdeal.main_arg5)
      ∧ r.2.mem ((c.tc : Thread Cert.SmVReferenceIdeal.nD Cert.SmVReferenceIdeal.τ).loc Cert.SmVReferenceIdeal.main_arg6) = m ((c.tc : Thread Cert.SmVReferenceIdeal.nD Cert.SmVReferenceIdeal.τ).loc Cert.SmVReferenceIdeal.main_arg6)
      ∧ r.2.mem ((c.tc : Thread Cert.SmVReferenceIdeal.nD Cert.SmVReferenceIdeal.τ).loc Cert.SmVReferenceIdeal.main_arg7) = m ((c.tc : Thread Cert.SmVReferenceIdeal.nD Cert.SmVReferenceIdeal.τ).loc Cert.SmVReferenceIdeal.main_arg7))
      ∧ r.2.sem = fun _ => 0)

def quiescent_SmOKernel [hSmOKernel : Cert.SmOKernel.Facts] : Prop :=
  ∀ (m : (ℓ : Loc Cert.SmOKernel.nD Cert.SmOKernel.τ Cert.SmOKernel.sig) → Buf (Elt Bits) ℓ) (g : Dev Cert.SmOKernel.nD → PrngReg), Pre_SmOKernel m →
    θ_run (Cert.SmOKernel.defs (F := Bits)) (onTc (τ := Cert.SmOKernel.τ) (Cert.SmOKernel.main (F := Bits))) ⟨m, fun _ => 0, g⟩ (fun r => (∀ c : Dev Cert.SmOKernel.nD,
      r.2.mem ((c.tc : Thread Cert.SmOKernel.nD Cert.SmOKernel.τ).loc Cert.SmOKernel.main_arg0) = m ((c.tc : Thread Cert.SmOKernel.nD Cert.SmOKernel.τ).loc Cert.SmOKernel.main_arg0)
      ∧ r.2.mem ((c.tc : Thread Cert.SmOKernel.nD Cert.SmOKernel.τ).loc Cert.SmOKernel.main_arg1) = m ((c.tc : Thread Cert.SmOKernel.nD Cert.SmOKernel.τ).loc Cert.SmOKernel.main_arg1)
      ∧ r.2.mem ((c.tc : Thread Cert.SmOKernel.nD Cert.SmOKernel.τ).loc Cert.SmOKernel.main_arg2) = m ((c.tc : Thread Cert.SmOKernel.nD Cert.SmOKernel.τ).loc Cert.SmOKernel.main_arg2)
      ∧ r.2.mem ((c.tc : Thread Cert.SmOKernel.nD Cert.SmOKernel.τ).loc Cert.SmOKernel.main_arg3) = m ((c.tc : Thread Cert.SmOKernel.nD Cert.SmOKernel.τ).loc Cert.SmOKernel.main_arg3)
      ∧ r.2.mem ((c.tc : Thread Cert.SmOKernel.nD Cert.SmOKernel.τ).loc Cert.SmOKernel.main_arg4) = m ((c.tc : Thread Cert.SmOKernel.nD Cert.SmOKernel.τ).loc Cert.SmOKernel.main_arg4)
      ∧ r.2.mem ((c.tc : Thread Cert.SmOKernel.nD Cert.SmOKernel.τ).loc Cert.SmOKernel.main_arg5) = m ((c.tc : Thread Cert.SmOKernel.nD Cert.SmOKernel.τ).loc Cert.SmOKernel.main_arg5)
      ∧ r.2.mem ((c.tc : Thread Cert.SmOKernel.nD Cert.SmOKernel.τ).loc Cert.SmOKernel.main_arg6) = m ((c.tc : Thread Cert.SmOKernel.nD Cert.SmOKernel.τ).loc Cert.SmOKernel.main_arg6)
      ∧ r.2.mem ((c.tc : Thread Cert.SmOKernel.nD Cert.SmOKernel.τ).loc Cert.SmOKernel.main_arg7) = m ((c.tc : Thread Cert.SmOKernel.nD Cert.SmOKernel.τ).loc Cert.SmOKernel.main_arg7))
      ∧ r.2.sem = fun _ => 0)

def quiescent_SmOKernelIdeal [hSmOKernelIdeal : Cert.SmOKernelIdeal.Facts] : Prop :=
  ∀ (m : (ℓ : Loc Cert.SmOKernelIdeal.nD Cert.SmOKernelIdeal.τ Cert.SmOKernelIdeal.sig) → Buf (Elt Ideal) ℓ) (g : Dev Cert.SmOKernelIdeal.nD → PrngReg), Pre_SmOKernelIdeal m →
    θ_run (Cert.SmOKernelIdeal.defs (F := Ideal)) (onTc (τ := Cert.SmOKernelIdeal.τ) (Cert.SmOKernelIdeal.main (F := Ideal))) ⟨m, fun _ => 0, g⟩ (fun r => (∀ c : Dev Cert.SmOKernelIdeal.nD,
      r.2.mem ((c.tc : Thread Cert.SmOKernelIdeal.nD Cert.SmOKernelIdeal.τ).loc Cert.SmOKernelIdeal.main_arg0) = m ((c.tc : Thread Cert.SmOKernelIdeal.nD Cert.SmOKernelIdeal.τ).loc Cert.SmOKernelIdeal.main_arg0)
      ∧ r.2.mem ((c.tc : Thread Cert.SmOKernelIdeal.nD Cert.SmOKernelIdeal.τ).loc Cert.SmOKernelIdeal.main_arg1) = m ((c.tc : Thread Cert.SmOKernelIdeal.nD Cert.SmOKernelIdeal.τ).loc Cert.SmOKernelIdeal.main_arg1)
      ∧ r.2.mem ((c.tc : Thread Cert.SmOKernelIdeal.nD Cert.SmOKernelIdeal.τ).loc Cert.SmOKernelIdeal.main_arg2) = m ((c.tc : Thread Cert.SmOKernelIdeal.nD Cert.SmOKernelIdeal.τ).loc Cert.SmOKernelIdeal.main_arg2)
      ∧ r.2.mem ((c.tc : Thread Cert.SmOKernelIdeal.nD Cert.SmOKernelIdeal.τ).loc Cert.SmOKernelIdeal.main_arg3) = m ((c.tc : Thread Cert.SmOKernelIdeal.nD Cert.SmOKernelIdeal.τ).loc Cert.SmOKernelIdeal.main_arg3)
      ∧ r.2.mem ((c.tc : Thread Cert.SmOKernelIdeal.nD Cert.SmOKernelIdeal.τ).loc Cert.SmOKernelIdeal.main_arg4) = m ((c.tc : Thread Cert.SmOKernelIdeal.nD Cert.SmOKernelIdeal.τ).loc Cert.SmOKernelIdeal.main_arg4)
      ∧ r.2.mem ((c.tc : Thread Cert.SmOKernelIdeal.nD Cert.SmOKernelIdeal.τ).loc Cert.SmOKernelIdeal.main_arg5) = m ((c.tc : Thread Cert.SmOKernelIdeal.nD Cert.SmOKernelIdeal.τ).loc Cert.SmOKernelIdeal.main_arg5)
      ∧ r.2.mem ((c.tc : Thread Cert.SmOKernelIdeal.nD Cert.SmOKernelIdeal.τ).loc Cert.SmOKernelIdeal.main_arg6) = m ((c.tc : Thread Cert.SmOKernelIdeal.nD Cert.SmOKernelIdeal.τ).loc Cert.SmOKernelIdeal.main_arg6)
      ∧ r.2.mem ((c.tc : Thread Cert.SmOKernelIdeal.nD Cert.SmOKernelIdeal.τ).loc Cert.SmOKernelIdeal.main_arg7) = m ((c.tc : Thread Cert.SmOKernelIdeal.nD Cert.SmOKernelIdeal.τ).loc Cert.SmOKernelIdeal.main_arg7))
      ∧ r.2.sem = fun _ => 0)

def quiescent_SmOReferenceIdeal [hSmOReferenceIdeal : Cert.SmOReferenceIdeal.Facts] : Prop :=
  ∀ (m : (ℓ : Loc Cert.SmOReferenceIdeal.nD Cert.SmOReferenceIdeal.τ Cert.SmOReferenceIdeal.sig) → Buf (Elt Ideal) ℓ) (g : Dev Cert.SmOReferenceIdeal.nD → PrngReg), Pre_SmOReferenceIdeal m →
    θ_run (Cert.SmOReferenceIdeal.defs (F := Ideal)) (onTc (τ := Cert.SmOReferenceIdeal.τ) (Cert.SmOReferenceIdeal.main (F := Ideal))) ⟨m, fun _ => 0, g⟩ (fun r => (∀ c : Dev Cert.SmOReferenceIdeal.nD,
      r.2.mem ((c.tc : Thread Cert.SmOReferenceIdeal.nD Cert.SmOReferenceIdeal.τ).loc Cert.SmOReferenceIdeal.main_arg0) = m ((c.tc : Thread Cert.SmOReferenceIdeal.nD Cert.SmOReferenceIdeal.τ).loc Cert.SmOReferenceIdeal.main_arg0)
      ∧ r.2.mem ((c.tc : Thread Cert.SmOReferenceIdeal.nD Cert.SmOReferenceIdeal.τ).loc Cert.SmOReferenceIdeal.main_arg1) = m ((c.tc : Thread Cert.SmOReferenceIdeal.nD Cert.SmOReferenceIdeal.τ).loc Cert.SmOReferenceIdeal.main_arg1)
      ∧ r.2.mem ((c.tc : Thread Cert.SmOReferenceIdeal.nD Cert.SmOReferenceIdeal.τ).loc Cert.SmOReferenceIdeal.main_arg2) = m ((c.tc : Thread Cert.SmOReferenceIdeal.nD Cert.SmOReferenceIdeal.τ).loc Cert.SmOReferenceIdeal.main_arg2)
      ∧ r.2.mem ((c.tc : Thread Cert.SmOReferenceIdeal.nD Cert.SmOReferenceIdeal.τ).loc Cert.SmOReferenceIdeal.main_arg3) = m ((c.tc : Thread Cert.SmOReferenceIdeal.nD Cert.SmOReferenceIdeal.τ).loc Cert.SmOReferenceIdeal.main_arg3)
      ∧ r.2.mem ((c.tc : Thread Cert.SmOReferenceIdeal.nD Cert.SmOReferenceIdeal.τ).loc Cert.SmOReferenceIdeal.main_arg4) = m ((c.tc : Thread Cert.SmOReferenceIdeal.nD Cert.SmOReferenceIdeal.τ).loc Cert.SmOReferenceIdeal.main_arg4)
      ∧ r.2.mem ((c.tc : Thread Cert.SmOReferenceIdeal.nD Cert.SmOReferenceIdeal.τ).loc Cert.SmOReferenceIdeal.main_arg5) = m ((c.tc : Thread Cert.SmOReferenceIdeal.nD Cert.SmOReferenceIdeal.τ).loc Cert.SmOReferenceIdeal.main_arg5)
      ∧ r.2.mem ((c.tc : Thread Cert.SmOReferenceIdeal.nD Cert.SmOReferenceIdeal.τ).loc Cert.SmOReferenceIdeal.main_arg6) = m ((c.tc : Thread Cert.SmOReferenceIdeal.nD Cert.SmOReferenceIdeal.τ).loc Cert.SmOReferenceIdeal.main_arg6)
      ∧ r.2.mem ((c.tc : Thread Cert.SmOReferenceIdeal.nD Cert.SmOReferenceIdeal.τ).loc Cert.SmOReferenceIdeal.main_arg7) = m ((c.tc : Thread Cert.SmOReferenceIdeal.nD Cert.SmOReferenceIdeal.τ).loc Cert.SmOReferenceIdeal.main_arg7))
      ∧ r.2.sem = fun _ => 0)

def quiescent_SmDKernel [hSmDKernel : Cert.SmDKernel.Facts] : Prop :=
  ∀ (m : (ℓ : Loc Cert.SmDKernel.nD Cert.SmDKernel.τ Cert.SmDKernel.sig) → Buf (Elt Bits) ℓ) (g : Dev Cert.SmDKernel.nD → PrngReg), Pre_SmDKernel m →
    θ_run (Cert.SmDKernel.defs (F := Bits)) (onTc (τ := Cert.SmDKernel.τ) (Cert.SmDKernel.main (F := Bits))) ⟨m, fun _ => 0, g⟩ (fun r => (∀ c : Dev Cert.SmDKernel.nD,
      r.2.mem ((c.tc : Thread Cert.SmDKernel.nD Cert.SmDKernel.τ).loc Cert.SmDKernel.main_arg0) = m ((c.tc : Thread Cert.SmDKernel.nD Cert.SmDKernel.τ).loc Cert.SmDKernel.main_arg0)
      ∧ r.2.mem ((c.tc : Thread Cert.SmDKernel.nD Cert.SmDKernel.τ).loc Cert.SmDKernel.main_arg1) = m ((c.tc : Thread Cert.SmDKernel.nD Cert.SmDKernel.τ).loc Cert.SmDKernel.main_arg1)
      ∧ r.2.mem ((c.tc : Thread Cert.SmDKernel.nD Cert.SmDKernel.τ).loc Cert.SmDKernel.main_arg2) = m ((c.tc : Thread Cert.SmDKernel.nD Cert.SmDKernel.τ).loc Cert.SmDKernel.main_arg2)
      ∧ r.2.mem ((c.tc : Thread Cert.SmDKernel.nD Cert.SmDKernel.τ).loc Cert.SmDKernel.main_arg3) = m ((c.tc : Thread Cert.SmDKernel.nD Cert.SmDKernel.τ).loc Cert.SmDKernel.main_arg3)
      ∧ r.2.mem ((c.tc : Thread Cert.SmDKernel.nD Cert.SmDKernel.τ).loc Cert.SmDKernel.main_arg4) = m ((c.tc : Thread Cert.SmDKernel.nD Cert.SmDKernel.τ).loc Cert.SmDKernel.main_arg4)
      ∧ r.2.mem ((c.tc : Thread Cert.SmDKernel.nD Cert.SmDKernel.τ).loc Cert.SmDKernel.main_arg5) = m ((c.tc : Thread Cert.SmDKernel.nD Cert.SmDKernel.τ).loc Cert.SmDKernel.main_arg5)
      ∧ r.2.mem ((c.tc : Thread Cert.SmDKernel.nD Cert.SmDKernel.τ).loc Cert.SmDKernel.main_arg6) = m ((c.tc : Thread Cert.SmDKernel.nD Cert.SmDKernel.τ).loc Cert.SmDKernel.main_arg6)
      ∧ r.2.mem ((c.tc : Thread Cert.SmDKernel.nD Cert.SmDKernel.τ).loc Cert.SmDKernel.main_arg7) = m ((c.tc : Thread Cert.SmDKernel.nD Cert.SmDKernel.τ).loc Cert.SmDKernel.main_arg7))
      ∧ r.2.sem = fun _ => 0)

def quiescent_SmDKernelIdeal [hSmDKernelIdeal : Cert.SmDKernelIdeal.Facts] : Prop :=
  ∀ (m : (ℓ : Loc Cert.SmDKernelIdeal.nD Cert.SmDKernelIdeal.τ Cert.SmDKernelIdeal.sig) → Buf (Elt Ideal) ℓ) (g : Dev Cert.SmDKernelIdeal.nD → PrngReg), Pre_SmDKernelIdeal m →
    θ_run (Cert.SmDKernelIdeal.defs (F := Ideal)) (onTc (τ := Cert.SmDKernelIdeal.τ) (Cert.SmDKernelIdeal.main (F := Ideal))) ⟨m, fun _ => 0, g⟩ (fun r => (∀ c : Dev Cert.SmDKernelIdeal.nD,
      r.2.mem ((c.tc : Thread Cert.SmDKernelIdeal.nD Cert.SmDKernelIdeal.τ).loc Cert.SmDKernelIdeal.main_arg0) = m ((c.tc : Thread Cert.SmDKernelIdeal.nD Cert.SmDKernelIdeal.τ).loc Cert.SmDKernelIdeal.main_arg0)
      ∧ r.2.mem ((c.tc : Thread Cert.SmDKernelIdeal.nD Cert.SmDKernelIdeal.τ).loc Cert.SmDKernelIdeal.main_arg1) = m ((c.tc : Thread Cert.SmDKernelIdeal.nD Cert.SmDKernelIdeal.τ).loc Cert.SmDKernelIdeal.main_arg1)
      ∧ r.2.mem ((c.tc : Thread Cert.SmDKernelIdeal.nD Cert.SmDKernelIdeal.τ).loc Cert.SmDKernelIdeal.main_arg2) = m ((c.tc : Thread Cert.SmDKernelIdeal.nD Cert.SmDKernelIdeal.τ).loc Cert.SmDKernelIdeal.main_arg2)
      ∧ r.2.mem ((c.tc : Thread Cert.SmDKernelIdeal.nD Cert.SmDKernelIdeal.τ).loc Cert.SmDKernelIdeal.main_arg3) = m ((c.tc : Thread Cert.SmDKernelIdeal.nD Cert.SmDKernelIdeal.τ).loc Cert.SmDKernelIdeal.main_arg3)
      ∧ r.2.mem ((c.tc : Thread Cert.SmDKernelIdeal.nD Cert.SmDKernelIdeal.τ).loc Cert.SmDKernelIdeal.main_arg4) = m ((c.tc : Thread Cert.SmDKernelIdeal.nD Cert.SmDKernelIdeal.τ).loc Cert.SmDKernelIdeal.main_arg4)
      ∧ r.2.mem ((c.tc : Thread Cert.SmDKernelIdeal.nD Cert.SmDKernelIdeal.τ).loc Cert.SmDKernelIdeal.main_arg5) = m ((c.tc : Thread Cert.SmDKernelIdeal.nD Cert.SmDKernelIdeal.τ).loc Cert.SmDKernelIdeal.main_arg5)
      ∧ r.2.mem ((c.tc : Thread Cert.SmDKernelIdeal.nD Cert.SmDKernelIdeal.τ).loc Cert.SmDKernelIdeal.main_arg6) = m ((c.tc : Thread Cert.SmDKernelIdeal.nD Cert.SmDKernelIdeal.τ).loc Cert.SmDKernelIdeal.main_arg6)
      ∧ r.2.mem ((c.tc : Thread Cert.SmDKernelIdeal.nD Cert.SmDKernelIdeal.τ).loc Cert.SmDKernelIdeal.main_arg7) = m ((c.tc : Thread Cert.SmDKernelIdeal.nD Cert.SmDKernelIdeal.τ).loc Cert.SmDKernelIdeal.main_arg7))
      ∧ r.2.sem = fun _ => 0)

def quiescent_SmDReferenceIdeal [hSmDReferenceIdeal : Cert.SmDReferenceIdeal.Facts] : Prop :=
  ∀ (m : (ℓ : Loc Cert.SmDReferenceIdeal.nD Cert.SmDReferenceIdeal.τ Cert.SmDReferenceIdeal.sig) → Buf (Elt Ideal) ℓ) (g : Dev Cert.SmDReferenceIdeal.nD → PrngReg), Pre_SmDReferenceIdeal m →
    θ_run (Cert.SmDReferenceIdeal.defs (F := Ideal)) (onTc (τ := Cert.SmDReferenceIdeal.τ) (Cert.SmDReferenceIdeal.main (F := Ideal))) ⟨m, fun _ => 0, g⟩ (fun r => (∀ c : Dev Cert.SmDReferenceIdeal.nD,
      r.2.mem ((c.tc : Thread Cert.SmDReferenceIdeal.nD Cert.SmDReferenceIdeal.τ).loc Cert.SmDReferenceIdeal.main_arg0) = m ((c.tc : Thread Cert.SmDReferenceIdeal.nD Cert.SmDReferenceIdeal.τ).loc Cert.SmDReferenceIdeal.main_arg0)
      ∧ r.2.mem ((c.tc : Thread Cert.SmDReferenceIdeal.nD Cert.SmDReferenceIdeal.τ).loc Cert.SmDReferenceIdeal.main_arg1) = m ((c.tc : Thread Cert.SmDReferenceIdeal.nD Cert.SmDReferenceIdeal.τ).loc Cert.SmDReferenceIdeal.main_arg1)
      ∧ r.2.mem ((c.tc : Thread Cert.SmDReferenceIdeal.nD Cert.SmDReferenceIdeal.τ).loc Cert.SmDReferenceIdeal.main_arg2) = m ((c.tc : Thread Cert.SmDReferenceIdeal.nD Cert.SmDReferenceIdeal.τ).loc Cert.SmDReferenceIdeal.main_arg2)
      ∧ r.2.mem ((c.tc : Thread Cert.SmDReferenceIdeal.nD Cert.SmDReferenceIdeal.τ).loc Cert.SmDReferenceIdeal.main_arg3) = m ((c.tc : Thread Cert.SmDReferenceIdeal.nD Cert.SmDReferenceIdeal.τ).loc Cert.SmDReferenceIdeal.main_arg3)
      ∧ r.2.mem ((c.tc : Thread Cert.SmDReferenceIdeal.nD Cert.SmDReferenceIdeal.τ).loc Cert.SmDReferenceIdeal.main_arg4) = m ((c.tc : Thread Cert.SmDReferenceIdeal.nD Cert.SmDReferenceIdeal.τ).loc Cert.SmDReferenceIdeal.main_arg4)
      ∧ r.2.mem ((c.tc : Thread Cert.SmDReferenceIdeal.nD Cert.SmDReferenceIdeal.τ).loc Cert.SmDReferenceIdeal.main_arg5) = m ((c.tc : Thread Cert.SmDReferenceIdeal.nD Cert.SmDReferenceIdeal.τ).loc Cert.SmDReferenceIdeal.main_arg5)
      ∧ r.2.mem ((c.tc : Thread Cert.SmDReferenceIdeal.nD Cert.SmDReferenceIdeal.τ).loc Cert.SmDReferenceIdeal.main_arg6) = m ((c.tc : Thread Cert.SmDReferenceIdeal.nD Cert.SmDReferenceIdeal.τ).loc Cert.SmDReferenceIdeal.main_arg6)
      ∧ r.2.mem ((c.tc : Thread Cert.SmDReferenceIdeal.nD Cert.SmDReferenceIdeal.τ).loc Cert.SmDReferenceIdeal.main_arg7) = m ((c.tc : Thread Cert.SmDReferenceIdeal.nD Cert.SmDReferenceIdeal.τ).loc Cert.SmDReferenceIdeal.main_arg7))
      ∧ r.2.sem = fun _ => 0)

def quiescent_SmGKernel [hSmGKernel : Cert.SmGKernel.Facts] : Prop :=
  ∀ (m : (ℓ : Loc Cert.SmGKernel.nD Cert.SmGKernel.τ Cert.SmGKernel.sig) → Buf (Elt Bits) ℓ) (g : Dev Cert.SmGKernel.nD → PrngReg), Pre_SmGKernel m →
    θ_run (Cert.SmGKernel.defs (F := Bits)) (onTc (τ := Cert.SmGKernel.τ) (Cert.SmGKernel.main (F := Bits))) ⟨m, fun _ => 0, g⟩ (fun r => (∀ c : Dev Cert.SmGKernel.nD,
      r.2.mem ((c.tc : Thread Cert.SmGKernel.nD Cert.SmGKernel.τ).loc Cert.SmGKernel.main_arg0) = m ((c.tc : Thread Cert.SmGKernel.nD Cert.SmGKernel.τ).loc Cert.SmGKernel.main_arg0))
      ∧ r.2.sem = fun _ => 0)

def quiescent_SmGKernelIdeal [hSmGKernelIdeal : Cert.SmGKernelIdeal.Facts] : Prop :=
  ∀ (m : (ℓ : Loc Cert.SmGKernelIdeal.nD Cert.SmGKernelIdeal.τ Cert.SmGKernelIdeal.sig) → Buf (Elt Ideal) ℓ) (g : Dev Cert.SmGKernelIdeal.nD → PrngReg), Pre_SmGKernelIdeal m →
    θ_run (Cert.SmGKernelIdeal.defs (F := Ideal)) (onTc (τ := Cert.SmGKernelIdeal.τ) (Cert.SmGKernelIdeal.main (F := Ideal))) ⟨m, fun _ => 0, g⟩ (fun r => (∀ c : Dev Cert.SmGKernelIdeal.nD,
      r.2.mem ((c.tc : Thread Cert.SmGKernelIdeal.nD Cert.SmGKernelIdeal.τ).loc Cert.SmGKernelIdeal.main_arg0) = m ((c.tc : Thread Cert.SmGKernelIdeal.nD Cert.SmGKernelIdeal.τ).loc Cert.SmGKernelIdeal.main_arg0))
      ∧ r.2.sem = fun _ => 0)

def quiescent_SmGReferenceIdeal [hSmGReferenceIdeal : Cert.SmGReferenceIdeal.Facts] : Prop :=
  ∀ (m : (ℓ : Loc Cert.SmGReferenceIdeal.nD Cert.SmGReferenceIdeal.τ Cert.SmGReferenceIdeal.sig) → Buf (Elt Ideal) ℓ) (g : Dev Cert.SmGReferenceIdeal.nD → PrngReg), Pre_SmGReferenceIdeal m →
    θ_run (Cert.SmGReferenceIdeal.defs (F := Ideal)) (onTc (τ := Cert.SmGReferenceIdeal.τ) (Cert.SmGReferenceIdeal.main (F := Ideal))) ⟨m, fun _ => 0, g⟩ (fun r => (∀ c : Dev Cert.SmGReferenceIdeal.nD,
      r.2.mem ((c.tc : Thread Cert.SmGReferenceIdeal.nD Cert.SmGReferenceIdeal.τ).loc Cert.SmGReferenceIdeal.main_arg0) = m ((c.tc : Thread Cert.SmGReferenceIdeal.nD Cert.SmGReferenceIdeal.τ).loc Cert.SmGReferenceIdeal.main_arg0))
      ∧ r.2.sem = fun _ => 0)

def preserves_DiscKernel_DiscKernelIdeal : Prop :=
  True

def algebraic_DiscKernelIdeal_DiscReferenceIdeal [hDiscKernelIdeal : Cert.DiscKernelIdeal.Facts] [hDiscReferenceIdeal : Cert.DiscReferenceIdeal.Facts] : Prop :=
  ∀ (m : (ℓ : Loc Cert.DiscKernelIdeal.nD Cert.DiscKernelIdeal.τ Cert.DiscKernelIdeal.sig) → Buf (Elt Ideal) ℓ) (g : Dev Cert.DiscKernelIdeal.nD → PrngReg)
    (m' : (ℓ : Loc Cert.DiscReferenceIdeal.nD Cert.DiscReferenceIdeal.τ Cert.DiscReferenceIdeal.sig) → Buf (Elt Ideal) ℓ) (g' : Dev Cert.DiscReferenceIdeal.nD → PrngReg), Pre_DiscKernelIdeal m →
    (∀ c : Dev Cert.DiscKernelIdeal.nD,
      m' ((c.tc : Thread Cert.DiscReferenceIdeal.nD Cert.DiscReferenceIdeal.τ).loc Cert.DiscReferenceIdeal.main_arg0) = m ((c.tc : Thread Cert.DiscKernelIdeal.nD Cert.DiscKernelIdeal.τ).loc Cert.DiscKernelIdeal.main_arg0)
      ∧ m' ((c.tc : Thread Cert.DiscReferenceIdeal.nD Cert.DiscReferenceIdeal.τ).loc Cert.DiscReferenceIdeal.main_arg1) = m ((c.tc : Thread Cert.DiscKernelIdeal.nD Cert.DiscKernelIdeal.τ).loc Cert.DiscKernelIdeal.main_arg1)
      ∧ m' ((c.tc : Thread Cert.DiscReferenceIdeal.nD Cert.DiscReferenceIdeal.τ).loc Cert.DiscReferenceIdeal.main_arg2) = m ((c.tc : Thread Cert.DiscKernelIdeal.nD Cert.DiscKernelIdeal.τ).loc Cert.DiscKernelIdeal.main_arg2)
      ∧ m' ((c.tc : Thread Cert.DiscReferenceIdeal.nD Cert.DiscReferenceIdeal.τ).loc Cert.DiscReferenceIdeal.main_arg3) = m ((c.tc : Thread Cert.DiscKernelIdeal.nD Cert.DiscKernelIdeal.τ).loc Cert.DiscKernelIdeal.main_arg3)
      ∧ m' ((c.tc : Thread Cert.DiscReferenceIdeal.nD Cert.DiscReferenceIdeal.τ).loc Cert.DiscReferenceIdeal.main_arg4) = m ((c.tc : Thread Cert.DiscKernelIdeal.nD Cert.DiscKernelIdeal.τ).loc Cert.DiscKernelIdeal.main_arg4)
      ∧ m' ((c.tc : Thread Cert.DiscReferenceIdeal.nD Cert.DiscReferenceIdeal.τ).loc Cert.DiscReferenceIdeal.main_arg5) = m ((c.tc : Thread Cert.DiscKernelIdeal.nD Cert.DiscKernelIdeal.τ).loc Cert.DiscKernelIdeal.main_arg5)
      ∧ m' ((c.tc : Thread Cert.DiscReferenceIdeal.nD Cert.DiscReferenceIdeal.τ).loc Cert.DiscReferenceIdeal.main_arg6) = m ((c.tc : Thread Cert.DiscKernelIdeal.nD Cert.DiscKernelIdeal.τ).loc Cert.DiscKernelIdeal.main_arg6)
      ∧ m' ((c.tc : Thread Cert.DiscReferenceIdeal.nD Cert.DiscReferenceIdeal.τ).loc Cert.DiscReferenceIdeal.main_arg7) = m ((c.tc : Thread Cert.DiscKernelIdeal.nD Cert.DiscKernelIdeal.τ).loc Cert.DiscKernelIdeal.main_arg7)
      ∧ m' ((c.tc : Thread Cert.DiscReferenceIdeal.nD Cert.DiscReferenceIdeal.τ).loc Cert.DiscReferenceIdeal.main_arg8) = m ((c.tc : Thread Cert.DiscKernelIdeal.nD Cert.DiscKernelIdeal.τ).loc Cert.DiscKernelIdeal.main_arg8)
      ∧ m' ((c.tc : Thread Cert.DiscReferenceIdeal.nD Cert.DiscReferenceIdeal.τ).loc Cert.DiscReferenceIdeal.main_arg9) = m ((c.tc : Thread Cert.DiscKernelIdeal.nD Cert.DiscKernelIdeal.τ).loc Cert.DiscKernelIdeal.main_arg9)) →
    ∃ (v0 : (c : Dev Cert.DiscKernelIdeal.nD) → Buf (Elt Ideal) ((c.tc : Thread Cert.DiscKernelIdeal.nD Cert.DiscKernelIdeal.τ).loc Cert.DiscKernelIdeal.main_v5_0)) (v1 : (c : Dev Cert.DiscKernelIdeal.nD) → Buf (Elt Ideal) ((c.tc : Thread Cert.DiscKernelIdeal.nD Cert.DiscKernelIdeal.τ).loc Cert.DiscKernelIdeal.main_v5_1)) (v2 : (c : Dev Cert.DiscKernelIdeal.nD) → Buf (Elt Ideal) ((c.tc : Thread Cert.DiscKernelIdeal.nD Cert.DiscKernelIdeal.τ).loc Cert.DiscKernelIdeal.main_v5_2)) (v3 : (c : Dev Cert.DiscKernelIdeal.nD) → Buf (Elt Ideal) ((c.tc : Thread Cert.DiscKernelIdeal.nD Cert.DiscKernelIdeal.τ).loc Cert.DiscKernelIdeal.main_v5_3)) (v4 : (c : Dev Cert.DiscKernelIdeal.nD) → Buf (Elt Ideal) ((c.tc : Thread Cert.DiscKernelIdeal.nD Cert.DiscKernelIdeal.τ).loc Cert.DiscKernelIdeal.main_v5_4)),
      θ_run (Cert.DiscKernelIdeal.defs (F := Ideal)) (onTc (τ := Cert.DiscKernelIdeal.τ) (Cert.DiscKernelIdeal.main (F := Ideal))) ⟨m, fun _ => 0, g⟩ (fun r => ∀ c : Dev Cert.DiscKernelIdeal.nD,
          r.2.mem ((c.tc : Thread Cert.DiscKernelIdeal.nD Cert.DiscKernelIdeal.τ).loc Cert.DiscKernelIdeal.main_v5_0) = v0 c
          ∧ r.2.mem ((c.tc : Thread Cert.DiscKernelIdeal.nD Cert.DiscKernelIdeal.τ).loc Cert.DiscKernelIdeal.main_v5_1) = v1 c
          ∧ r.2.mem ((c.tc : Thread Cert.DiscKernelIdeal.nD Cert.DiscKernelIdeal.τ).loc Cert.DiscKernelIdeal.main_v5_2) = v2 c
          ∧ r.2.mem ((c.tc : Thread Cert.DiscKernelIdeal.nD Cert.DiscKernelIdeal.τ).loc Cert.DiscKernelIdeal.main_v5_3) = v3 c
          ∧ r.2.mem ((c.tc : Thread Cert.DiscKernelIdeal.nD Cert.DiscKernelIdeal.τ).loc Cert.DiscKernelIdeal.main_v5_4) = v4 c
          ∧ r.2.mem ((c.tc : Thread Cert.DiscKernelIdeal.nD Cert.DiscKernelIdeal.τ).loc Cert.DiscKernelIdeal.main_arg0) = m ((c.tc : Thread Cert.DiscKernelIdeal.nD Cert.DiscKernelIdeal.τ).loc Cert.DiscKernelIdeal.main_arg0)
          ∧ r.2.mem ((c.tc : Thread Cert.DiscKernelIdeal.nD Cert.DiscKernelIdeal.τ).loc Cert.DiscKernelIdeal.main_arg1) = m ((c.tc : Thread Cert.DiscKernelIdeal.nD Cert.DiscKernelIdeal.τ).loc Cert.DiscKernelIdeal.main_arg1)
          ∧ r.2.mem ((c.tc : Thread Cert.DiscKernelIdeal.nD Cert.DiscKernelIdeal.τ).loc Cert.DiscKernelIdeal.main_arg2) = m ((c.tc : Thread Cert.DiscKernelIdeal.nD Cert.DiscKernelIdeal.τ).loc Cert.DiscKernelIdeal.main_arg2)
          ∧ r.2.mem ((c.tc : Thread Cert.DiscKernelIdeal.nD Cert.DiscKernelIdeal.τ).loc Cert.DiscKernelIdeal.main_arg3) = m ((c.tc : Thread Cert.DiscKernelIdeal.nD Cert.DiscKernelIdeal.τ).loc Cert.DiscKernelIdeal.main_arg3)
          ∧ r.2.mem ((c.tc : Thread Cert.DiscKernelIdeal.nD Cert.DiscKernelIdeal.τ).loc Cert.DiscKernelIdeal.main_arg4) = m ((c.tc : Thread Cert.DiscKernelIdeal.nD Cert.DiscKernelIdeal.τ).loc Cert.DiscKernelIdeal.main_arg4)
          ∧ r.2.mem ((c.tc : Thread Cert.DiscKernelIdeal.nD Cert.DiscKernelIdeal.τ).loc Cert.DiscKernelIdeal.main_arg5) = m ((c.tc : Thread Cert.DiscKernelIdeal.nD Cert.DiscKernelIdeal.τ).loc Cert.DiscKernelIdeal.main_arg5)
          ∧ r.2.mem ((c.tc : Thread Cert.DiscKernelIdeal.nD Cert.DiscKernelIdeal.τ).loc Cert.DiscKernelIdeal.main_arg6) = m ((c.tc : Thread Cert.DiscKernelIdeal.nD Cert.DiscKernelIdeal.τ).loc Cert.DiscKernelIdeal.main_arg6)
          ∧ r.2.mem ((c.tc : Thread Cert.DiscKernelIdeal.nD Cert.DiscKernelIdeal.τ).loc Cert.DiscKernelIdeal.main_arg7) = m ((c.tc : Thread Cert.DiscKernelIdeal.nD Cert.DiscKernelIdeal.τ).loc Cert.DiscKernelIdeal.main_arg7)
          ∧ r.2.mem ((c.tc : Thread Cert.DiscKernelIdeal.nD Cert.DiscKernelIdeal.τ).loc Cert.DiscKernelIdeal.main_arg8) = m ((c.tc : Thread Cert.DiscKernelIdeal.nD Cert.DiscKernelIdeal.τ).loc Cert.DiscKernelIdeal.main_arg8)
          ∧ r.2.mem ((c.tc : Thread Cert.DiscKernelIdeal.nD Cert.DiscKernelIdeal.τ).loc Cert.DiscKernelIdeal.main_arg9) = m ((c.tc : Thread Cert.DiscKernelIdeal.nD Cert.DiscKernelIdeal.τ).loc Cert.DiscKernelIdeal.main_arg9))
      ∧ θ_run (Cert.DiscReferenceIdeal.defs (F := Ideal)) (onTc (τ := Cert.DiscReferenceIdeal.τ) (Cert.DiscReferenceIdeal.main (F := Ideal))) ⟨m', fun _ => 0, g'⟩ (fun r => ∀ c : Dev Cert.DiscReferenceIdeal.nD,
          r.2.mem ((c.tc : Thread Cert.DiscReferenceIdeal.nD Cert.DiscReferenceIdeal.τ).loc Cert.DiscReferenceIdeal.main_v134) = v0 c
          ∧ r.2.mem ((c.tc : Thread Cert.DiscReferenceIdeal.nD Cert.DiscReferenceIdeal.τ).loc Cert.DiscReferenceIdeal.main_v126) = v1 c
          ∧ r.2.mem ((c.tc : Thread Cert.DiscReferenceIdeal.nD Cert.DiscReferenceIdeal.τ).loc Cert.DiscReferenceIdeal.main_v137) = v2 c
          ∧ r.2.mem ((c.tc : Thread Cert.DiscReferenceIdeal.nD Cert.DiscReferenceIdeal.τ).loc Cert.DiscReferenceIdeal.main_v138) = v3 c
          ∧ r.2.mem ((c.tc : Thread Cert.DiscReferenceIdeal.nD Cert.DiscReferenceIdeal.τ).loc Cert.DiscReferenceIdeal.main_v139) = v4 c
          ∧ r.2.mem ((c.tc : Thread Cert.DiscReferenceIdeal.nD Cert.DiscReferenceIdeal.τ).loc Cert.DiscReferenceIdeal.main_arg0) = m' ((c.tc : Thread Cert.DiscReferenceIdeal.nD Cert.DiscReferenceIdeal.τ).loc Cert.DiscReferenceIdeal.main_arg0)
          ∧ r.2.mem ((c.tc : Thread Cert.DiscReferenceIdeal.nD Cert.DiscReferenceIdeal.τ).loc Cert.DiscReferenceIdeal.main_arg1) = m' ((c.tc : Thread Cert.DiscReferenceIdeal.nD Cert.DiscReferenceIdeal.τ).loc Cert.DiscReferenceIdeal.main_arg1)
          ∧ r.2.mem ((c.tc : Thread Cert.DiscReferenceIdeal.nD Cert.DiscReferenceIdeal.τ).loc Cert.DiscReferenceIdeal.main_arg2) = m' ((c.tc : Thread Cert.DiscReferenceIdeal.nD Cert.DiscReferenceIdeal.τ).loc Cert.DiscReferenceIdeal.main_arg2)
          ∧ r.2.mem ((c.tc : Thread Cert.DiscReferenceIdeal.nD Cert.DiscReferenceIdeal.τ).loc Cert.DiscReferenceIdeal.main_arg3) = m' ((c.tc : Thread Cert.DiscReferenceIdeal.nD Cert.DiscReferenceIdeal.τ).loc Cert.DiscReferenceIdeal.main_arg3)
          ∧ r.2.mem ((c.tc : Thread Cert.DiscReferenceIdeal.nD Cert.DiscReferenceIdeal.τ).loc Cert.DiscReferenceIdeal.main_arg4) = m' ((c.tc : Thread Cert.DiscReferenceIdeal.nD Cert.DiscReferenceIdeal.τ).loc Cert.DiscReferenceIdeal.main_arg4)
          ∧ r.2.mem ((c.tc : Thread Cert.DiscReferenceIdeal.nD Cert.DiscReferenceIdeal.τ).loc Cert.DiscReferenceIdeal.main_arg5) = m' ((c.tc : Thread Cert.DiscReferenceIdeal.nD Cert.DiscReferenceIdeal.τ).loc Cert.DiscReferenceIdeal.main_arg5)
          ∧ r.2.mem ((c.tc : Thread Cert.DiscReferenceIdeal.nD Cert.DiscReferenceIdeal.τ).loc Cert.DiscReferenceIdeal.main_arg6) = m' ((c.tc : Thread Cert.DiscReferenceIdeal.nD Cert.DiscReferenceIdeal.τ).loc Cert.DiscReferenceIdeal.main_arg6)
          ∧ r.2.mem ((c.tc : Thread Cert.DiscReferenceIdeal.nD Cert.DiscReferenceIdeal.τ).loc Cert.DiscReferenceIdeal.main_arg7) = m' ((c.tc : Thread Cert.DiscReferenceIdeal.nD Cert.DiscReferenceIdeal.τ).loc Cert.DiscReferenceIdeal.main_arg7)
          ∧ r.2.mem ((c.tc : Thread Cert.DiscReferenceIdeal.nD Cert.DiscReferenceIdeal.τ).loc Cert.DiscReferenceIdeal.main_arg8) = m' ((c.tc : Thread Cert.DiscReferenceIdeal.nD Cert.DiscReferenceIdeal.τ).loc Cert.DiscReferenceIdeal.main_arg8)
          ∧ r.2.mem ((c.tc : Thread Cert.DiscReferenceIdeal.nD Cert.DiscReferenceIdeal.τ).loc Cert.DiscReferenceIdeal.main_arg9) = m' ((c.tc : Thread Cert.DiscReferenceIdeal.nD Cert.DiscReferenceIdeal.τ).loc Cert.DiscReferenceIdeal.main_arg9))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)
      ∧ m' ((c.tc : Thread Cert.FfnReferenceIdeal.nD Cert.FfnReferenceIdeal.τ).loc Cert.FfnReferenceIdeal.main_arg7) = m ((c.tc : Thread Cert.FfnKernelIdeal.nD Cert.FfnKernelIdeal.τ).loc Cert.FfnKernelIdeal.main_arg7)) →
    ∃ (v0 : (c : Dev Cert.FfnKernelIdeal.nD) → Buf (Elt Ideal) ((c.tc : Thread Cert.FfnKernelIdeal.nD Cert.FfnKernelIdeal.τ).loc Cert.FfnKernelIdeal.main_v16_0)) (v1 : (c : Dev Cert.FfnKernelIdeal.nD) → Buf (Elt Ideal) ((c.tc : Thread Cert.FfnKernelIdeal.nD Cert.FfnKernelIdeal.τ).loc Cert.FfnKernelIdeal.main_v16_1)) (v2 : (c : Dev Cert.FfnKernelIdeal.nD) → Buf (Elt Ideal) ((c.tc : Thread Cert.FfnKernelIdeal.nD Cert.FfnKernelIdeal.τ).loc Cert.FfnKernelIdeal.main_v16_2)) (v3 : (c : Dev Cert.FfnKernelIdeal.nD) → Buf (Elt Ideal) ((c.tc : Thread Cert.FfnKernelIdeal.nD Cert.FfnKernelIdeal.τ).loc Cert.FfnKernelIdeal.main_v16_9)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v16_0) = v0 c
          ∧ r.2.mem ((c.tc : Thread Cert.FfnKernelIdeal.nD Cert.FfnKernelIdeal.τ).loc Cert.FfnKernelIdeal.main_v16_1) = v1 c
          ∧ r.2.mem ((c.tc : Thread Cert.FfnKernelIdeal.nD Cert.FfnKernelIdeal.τ).loc Cert.FfnKernelIdeal.main_v16_2) = v2 c
          ∧ r.2.mem ((c.tc : Thread Cert.FfnKernelIdeal.nD Cert.FfnKernelIdeal.τ).loc Cert.FfnKernelIdeal.main_v16_9) = v3 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
          ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v50) = v0 c
          ∧ r.2.mem ((c.tc : Thread Cert.FfnReferenceIdeal.nD Cert.FfnReferenceIdeal.τ).loc Cert.FfnReferenceIdeal.main_v55) = v1 c
          ∧ r.2.mem ((c.tc : Thread Cert.FfnReferenceIdeal.nD Cert.FfnReferenceIdeal.τ).loc Cert.FfnReferenceIdeal.main_v56) = v2 c
          ∧ r.2.mem ((c.tc : Thread Cert.FfnReferenceIdeal.nD Cert.FfnReferenceIdeal.τ).loc Cert.FfnReferenceIdeal.main_v57) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_FwdKernel_FwdKernelIdeal : Prop :=
  True

def algebraic_FwdKernelIdeal_FwdReferenceIdeal [hFwdKernelIdeal : Cert.FwdKernelIdeal.Facts] [hFwdReferenceIdeal : Cert.FwdReferenceIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)
      ∧ m' ((c.tc : Thread Cert.FwdReferenceIdeal.nD Cert.FwdReferenceIdeal.τ).loc Cert.FwdReferenceIdeal.main_arg3) = m ((c.tc : Thread Cert.FwdKernelIdeal.nD Cert.FwdKernelIdeal.τ).loc Cert.FwdKernelIdeal.main_arg3)
      ∧ m' ((c.tc : Thread Cert.FwdReferenceIdeal.nD Cert.FwdReferenceIdeal.τ).loc Cert.FwdReferenceIdeal.main_arg4) = m ((c.tc : Thread Cert.FwdKernelIdeal.nD Cert.FwdKernelIdeal.τ).loc Cert.FwdKernelIdeal.main_arg4)
      ∧ m' ((c.tc : Thread Cert.FwdReferenceIdeal.nD Cert.FwdReferenceIdeal.τ).loc Cert.FwdReferenceIdeal.main_arg5) = m ((c.tc : Thread Cert.FwdKernelIdeal.nD Cert.FwdKernelIdeal.τ).loc Cert.FwdKernelIdeal.main_arg5)
      ∧ m' ((c.tc : Thread Cert.FwdReferenceIdeal.nD Cert.FwdReferenceIdeal.τ).loc Cert.FwdReferenceIdeal.main_arg6) = m ((c.tc : Thread Cert.FwdKernelIdeal.nD Cert.FwdKernelIdeal.τ).loc Cert.FwdKernelIdeal.main_arg6)
      ∧ m' ((c.tc : Thread Cert.FwdReferenceIdeal.nD Cert.FwdReferenceIdeal.τ).loc Cert.FwdReferenceIdeal.main_arg7) = m ((c.tc : Thread Cert.FwdKernelIdeal.nD Cert.FwdKernelIdeal.τ).loc Cert.FwdKernelIdeal.main_arg7)) →
    ∃ (v0 : (c : Dev Cert.FwdKernelIdeal.nD) → Buf (Elt Ideal) ((c.tc : Thread Cert.FwdKernelIdeal.nD Cert.FwdKernelIdeal.τ).loc Cert.FwdKernelIdeal.main_v18_0)) (v1 : (c : Dev Cert.FwdKernelIdeal.nD) → Buf (Elt Ideal) ((c.tc : Thread Cert.FwdKernelIdeal.nD Cert.FwdKernelIdeal.τ).loc Cert.FwdKernelIdeal.main_v18_1)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v18_0) = v0 c
          ∧ r.2.mem ((c.tc : Thread Cert.FwdKernelIdeal.nD Cert.FwdKernelIdeal.τ).loc Cert.FwdKernelIdeal.main_v18_1) = v1 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
          ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
          ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
          ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5)
          ∧ r.2.mem ((c.tc : Thread Cert.FwdKernelIdeal.nD Cert.FwdKernelIdeal.τ).loc Cert.FwdKernelIdeal.main_arg6) = m ((c.tc : Thread Cert.FwdKernelIdeal.nD Cert.FwdKernelIdeal.τ).loc Cert.FwdKernelIdeal.main_arg6)
          ∧ r.2.mem ((c.tc : Thread Cert.FwdKernelIdeal.nD Cert.FwdKernelIdeal.τ).loc Cert.FwdKernelIdeal.main_arg7) = m ((c.tc : Thread Cert.FwdKernelIdeal.nD Cert.FwdKernelIdeal.τ).loc Cert.FwdKernelIdeal.main_arg7))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v2) = v0 c
          ∧ r.2.mem ((c.tc : Thread Cert.FwdReferenceIdeal.nD Cert.FwdReferenceIdeal.τ).loc Cert.FwdReferenceIdeal.main_v21) = v1 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4)
          ∧ r.2.mem ((c.tc : Thread Cert.FwdReferenceIdeal.nD Cert.FwdReferenceIdeal.τ).loc Cert.FwdReferenceIdeal.main_arg5) = m' ((c.tc : Thread Cert.FwdReferenceIdeal.nD Cert.FwdReferenceIdeal.τ).loc Cert.FwdReferenceIdeal.main_arg5)
          ∧ r.2.mem ((c.tc : Thread Cert.FwdReferenceIdeal.nD Cert.FwdReferenceIdeal.τ).loc Cert.FwdReferenceIdeal.main_arg6) = m' ((c.tc : Thread Cert.FwdReferenceIdeal.nD Cert.FwdReferenceIdeal.τ).loc Cert.FwdReferenceIdeal.main_arg6)
          ∧ r.2.mem ((c.tc : Thread Cert.FwdReferenceIdeal.nD Cert.FwdReferenceIdeal.τ).loc Cert.FwdReferenceIdeal.main_arg7) = m' ((c.tc : Thread Cert.FwdReferenceIdeal.nD Cert.FwdReferenceIdeal.τ).loc Cert.FwdReferenceIdeal.main_arg7))

def preserves_WdnKernel_WdnKernelIdeal : Prop :=
  True

def algebraic_WdnKernelIdeal_WdnReferenceIdeal [hWdnKernelIdeal : Cert.WdnKernelIdeal.Facts] [hWdnReferenceIdeal : Cert.WdnReferenceIdeal.Facts] : Prop :=
  ∀ (m : (ℓ : Loc Cert.WdnKernelIdeal.nD Cert.WdnKernelIdeal.τ Cert.WdnKernelIdeal.sig) → Buf (Elt Ideal) ℓ) (g : Dev Cert.WdnKernelIdeal.nD → PrngReg)
    (m' : (ℓ : Loc Cert.WdnReferenceIdeal.nD Cert.WdnReferenceIdeal.τ Cert.WdnReferenceIdeal.sig) → Buf (Elt Ideal) ℓ) (g' : Dev Cert.WdnReferenceIdeal.nD → PrngReg), Pre_WdnKernelIdeal m →
    (∀ c : Dev Cert.WdnKernelIdeal.nD,
      m' ((c.tc : Thread Cert.WdnReferenceIdeal.nD Cert.WdnReferenceIdeal.τ).loc Cert.WdnReferenceIdeal.main_arg0) = m ((c.tc : Thread Cert.WdnKernelIdeal.nD Cert.WdnKernelIdeal.τ).loc Cert.WdnKernelIdeal.main_arg0)
      ∧ m' ((c.tc : Thread Cert.WdnReferenceIdeal.nD Cert.WdnReferenceIdeal.τ).loc Cert.WdnReferenceIdeal.main_arg1) = m ((c.tc : Thread Cert.WdnKernelIdeal.nD Cert.WdnKernelIdeal.τ).loc Cert.WdnKernelIdeal.main_arg1)) →
    ∃ (v0 : (c : Dev Cert.WdnKernelIdeal.nD) → Buf (Elt Ideal) ((c.tc : Thread Cert.WdnKernelIdeal.nD Cert.WdnKernelIdeal.τ).loc Cert.WdnKernelIdeal.main_v5)),
      θ_run (Cert.WdnKernelIdeal.defs (F := Ideal)) (onTc (τ := Cert.WdnKernelIdeal.τ) (Cert.WdnKernelIdeal.main (F := Ideal))) ⟨m, fun _ => 0, g⟩ (fun r => ∀ c : Dev Cert.WdnKernelIdeal.nD,
          r.2.mem ((c.tc : Thread Cert.WdnKernelIdeal.nD Cert.WdnKernelIdeal.τ).loc Cert.WdnKernelIdeal.main_v5) = v0 c
          ∧ r.2.mem ((c.tc : Thread Cert.WdnKernelIdeal.nD Cert.WdnKernelIdeal.τ).loc Cert.WdnKernelIdeal.main_arg0) = m ((c.tc : Thread Cert.WdnKernelIdeal.nD Cert.WdnKernelIdeal.τ).loc Cert.WdnKernelIdeal.main_arg0)
          ∧ r.2.mem ((c.tc : Thread Cert.WdnKernelIdeal.nD Cert.WdnKernelIdeal.τ).loc Cert.WdnKernelIdeal.main_arg1) = m ((c.tc : Thread Cert.WdnKernelIdeal.nD Cert.WdnKernelIdeal.τ).loc Cert.WdnKernelIdeal.main_arg1))
      ∧ θ_run (Cert.WdnReferenceIdeal.defs (F := Ideal)) (onTc (τ := Cert.WdnReferenceIdeal.τ) (Cert.WdnReferenceIdeal.main (F := Ideal))) ⟨m', fun _ => 0, g'⟩ (fun r => ∀ c : Dev Cert.WdnReferenceIdeal.nD,
          r.2.mem ((c.tc : Thread Cert.WdnReferenceIdeal.nD Cert.WdnReferenceIdeal.τ).loc Cert.WdnReferenceIdeal.main_v5) = v0 c
          ∧ r.2.mem ((c.tc : Thread Cert.WdnReferenceIdeal.nD Cert.WdnReferenceIdeal.τ).loc Cert.WdnReferenceIdeal.main_arg0) = m' ((c.tc : Thread Cert.WdnReferenceIdeal.nD Cert.WdnReferenceIdeal.τ).loc Cert.WdnReferenceIdeal.main_arg0)
          ∧ r.2.mem ((c.tc : Thread Cert.WdnReferenceIdeal.nD Cert.WdnReferenceIdeal.τ).loc Cert.WdnReferenceIdeal.main_arg1) = m' ((c.tc : Thread Cert.WdnReferenceIdeal.nD Cert.WdnReferenceIdeal.τ).loc Cert.WdnReferenceIdeal.main_arg1))

def preserves_WgtKernel_WgtKernelIdeal : Prop :=
  True

def algebraic_WgtKernelIdeal_WgtReferenceIdeal [hWgtKernelIdeal : Cert.WgtKernelIdeal.Facts] [hWgtReferenceIdeal : Cert.WgtReferenceIdeal.Facts] : Prop :=
  ∀ (m : (ℓ : Loc Cert.WgtKernelIdeal.nD Cert.WgtKernelIdeal.τ Cert.WgtKernelIdeal.sig) → Buf (Elt Ideal) ℓ) (g : Dev Cert.WgtKernelIdeal.nD → PrngReg)
    (m' : (ℓ : Loc Cert.WgtReferenceIdeal.nD Cert.WgtReferenceIdeal.τ Cert.WgtReferenceIdeal.sig) → Buf (Elt Ideal) ℓ) (g' : Dev Cert.WgtReferenceIdeal.nD → PrngReg), Pre_WgtKernelIdeal m →
    (∀ c : Dev Cert.WgtKernelIdeal.nD,
      m' ((c.tc : Thread Cert.WgtReferenceIdeal.nD Cert.WgtReferenceIdeal.τ).loc Cert.WgtReferenceIdeal.main_arg0) = m ((c.tc : Thread Cert.WgtKernelIdeal.nD Cert.WgtKernelIdeal.τ).loc Cert.WgtKernelIdeal.main_arg0)
      ∧ m' ((c.tc : Thread Cert.WgtReferenceIdeal.nD Cert.WgtReferenceIdeal.τ).loc Cert.WgtReferenceIdeal.main_arg1) = m ((c.tc : Thread Cert.WgtKernelIdeal.nD Cert.WgtKernelIdeal.τ).loc Cert.WgtKernelIdeal.main_arg1)) →
    ∃ (v0 : (c : Dev Cert.WgtKernelIdeal.nD) → Buf (Elt Ideal) ((c.tc : Thread Cert.WgtKernelIdeal.nD Cert.WgtKernelIdeal.τ).loc Cert.WgtKernelIdeal.main_v5)),
      θ_run (Cert.WgtKernelIdeal.defs (F := Ideal)) (onTc (τ := Cert.WgtKernelIdeal.τ) (Cert.WgtKernelIdeal.main (F := Ideal))) ⟨m, fun _ => 0, g⟩ (fun r => ∀ c : Dev Cert.WgtKernelIdeal.nD,
          r.2.mem ((c.tc : Thread Cert.WgtKernelIdeal.nD Cert.WgtKernelIdeal.τ).loc Cert.WgtKernelIdeal.main_v5) = v0 c
          ∧ r.2.mem ((c.tc : Thread Cert.WgtKernelIdeal.nD Cert.WgtKernelIdeal.τ).loc Cert.WgtKernelIdeal.main_arg0) = m ((c.tc : Thread Cert.WgtKernelIdeal.nD Cert.WgtKernelIdeal.τ).loc Cert.WgtKernelIdeal.main_arg0)
          ∧ r.2.mem ((c.tc : Thread Cert.WgtKernelIdeal.nD Cert.WgtKernelIdeal.τ).loc Cert.WgtKernelIdeal.main_arg1) = m ((c.tc : Thread Cert.WgtKernelIdeal.nD Cert.WgtKernelIdeal.τ).loc Cert.WgtKernelIdeal.main_arg1))
      ∧ θ_run (Cert.WgtReferenceIdeal.defs (F := Ideal)) (onTc (τ := Cert.WgtReferenceIdeal.τ) (Cert.WgtReferenceIdeal.main (F := Ideal))) ⟨m', fun _ => 0, g'⟩ (fun r => ∀ c : Dev Cert.WgtReferenceIdeal.nD,
          r.2.mem ((c.tc : Thread Cert.WgtReferenceIdeal.nD Cert.WgtReferenceIdeal.τ).loc Cert.WgtReferenceIdeal.main_v6) = v0 c
          ∧ r.2.mem ((c.tc : Thread Cert.WgtReferenceIdeal.nD Cert.WgtReferenceIdeal.τ).loc Cert.WgtReferenceIdeal.main_arg0) = m' ((c.tc : Thread Cert.WgtReferenceIdeal.nD Cert.WgtReferenceIdeal.τ).loc Cert.WgtReferenceIdeal.main_arg0)
          ∧ r.2.mem ((c.tc : Thread Cert.WgtReferenceIdeal.nD Cert.WgtReferenceIdeal.τ).loc Cert.WgtReferenceIdeal.main_arg1) = m' ((c.tc : Thread Cert.WgtReferenceIdeal.nD Cert.WgtReferenceIdeal.τ).loc Cert.WgtReferenceIdeal.main_arg1))

def preserves_InbKernel_InbKernelIdeal : Prop :=
  True

def algebraic_InbKernelIdeal_InbReferenceIdeal [hInbKernelIdeal : Cert.InbKernelIdeal.Facts] [hInbReferenceIdeal : Cert.InbReferenceIdeal.Facts] : Prop :=
  ∀ (m : (ℓ : Loc Cert.InbKernelIdeal.nD Cert.InbKernelIdeal.τ Cert.InbKernelIdeal.sig) → Buf (Elt Ideal) ℓ) (g : Dev Cert.InbKernelIdeal.nD → PrngReg)
    (m' : (ℓ : Loc Cert.InbReferenceIdeal.nD Cert.InbReferenceIdeal.τ Cert.InbReferenceIdeal.sig) → Buf (Elt Ideal) ℓ) (g' : Dev Cert.InbReferenceIdeal.nD → PrngReg), Pre_InbKernelIdeal m →
    (∀ c : Dev Cert.InbKernelIdeal.nD,
      m' ((c.tc : Thread Cert.InbReferenceIdeal.nD Cert.InbReferenceIdeal.τ).loc Cert.InbReferenceIdeal.main_arg0) = m ((c.tc : Thread Cert.InbKernelIdeal.nD Cert.InbKernelIdeal.τ).loc Cert.InbKernelIdeal.main_arg0)
      ∧ m' ((c.tc : Thread Cert.InbReferenceIdeal.nD Cert.InbReferenceIdeal.τ).loc Cert.InbReferenceIdeal.main_arg1) = m ((c.tc : Thread Cert.InbKernelIdeal.nD Cert.InbKernelIdeal.τ).loc Cert.InbKernelIdeal.main_arg1)
      ∧ m' ((c.tc : Thread Cert.InbReferenceIdeal.nD Cert.InbReferenceIdeal.τ).loc Cert.InbReferenceIdeal.main_arg2) = m ((c.tc : Thread Cert.InbKernelIdeal.nD Cert.InbKernelIdeal.τ).loc Cert.InbKernelIdeal.main_arg2)
      ∧ m' ((c.tc : Thread Cert.InbReferenceIdeal.nD Cert.InbReferenceIdeal.τ).loc Cert.InbReferenceIdeal.main_arg3) = m ((c.tc : Thread Cert.InbKernelIdeal.nD Cert.InbKernelIdeal.τ).loc Cert.InbKernelIdeal.main_arg3)
      ∧ m' ((c.tc : Thread Cert.InbReferenceIdeal.nD Cert.InbReferenceIdeal.τ).loc Cert.InbReferenceIdeal.main_arg4) = m ((c.tc : Thread Cert.InbKernelIdeal.nD Cert.InbKernelIdeal.τ).loc Cert.InbKernelIdeal.main_arg4)
      ∧ m' ((c.tc : Thread Cert.InbReferenceIdeal.nD Cert.InbReferenceIdeal.τ).loc Cert.InbReferenceIdeal.main_arg5) = m ((c.tc : Thread Cert.InbKernelIdeal.nD Cert.InbKernelIdeal.τ).loc Cert.InbKernelIdeal.main_arg5)
      ∧ m' ((c.tc : Thread Cert.InbReferenceIdeal.nD Cert.InbReferenceIdeal.τ).loc Cert.InbReferenceIdeal.main_arg6) = m ((c.tc : Thread Cert.InbKernelIdeal.nD Cert.InbKernelIdeal.τ).loc Cert.InbKernelIdeal.main_arg6)
      ∧ m' ((c.tc : Thread Cert.InbReferenceIdeal.nD Cert.InbReferenceIdeal.τ).loc Cert.InbReferenceIdeal.main_arg7) = m ((c.tc : Thread Cert.InbKernelIdeal.nD Cert.InbKernelIdeal.τ).loc Cert.InbKernelIdeal.main_arg7)) →
    ∃ (v0 : (c : Dev Cert.InbKernelIdeal.nD) → Buf (Elt Ideal) ((c.tc : Thread Cert.InbKernelIdeal.nD Cert.InbKernelIdeal.τ).loc Cert.InbKernelIdeal.main_v12_0)) (v1 : (c : Dev Cert.InbKernelIdeal.nD) → Buf (Elt Ideal) ((c.tc : Thread Cert.InbKernelIdeal.nD Cert.InbKernelIdeal.τ).loc Cert.InbKernelIdeal.main_v12_1)) (v2 : (c : Dev Cert.InbKernelIdeal.nD) → Buf (Elt Ideal) ((c.tc : Thread Cert.InbKernelIdeal.nD Cert.InbKernelIdeal.τ).loc Cert.InbKernelIdeal.main_v12_2)),
      θ_run (Cert.InbKernelIdeal.defs (F := Ideal)) (onTc (τ := Cert.InbKernelIdeal.τ) (Cert.InbKernelIdeal.main (F := Ideal))) ⟨m, fun _ => 0, g⟩ (fun r => ∀ c : Dev Cert.InbKernelIdeal.nD,
          r.2.mem ((c.tc : Thread Cert.InbKernelIdeal.nD Cert.InbKernelIdeal.τ).loc Cert.InbKernelIdeal.main_v12_0) = v0 c
          ∧ r.2.mem ((c.tc : Thread Cert.InbKernelIdeal.nD Cert.InbKernelIdeal.τ).loc Cert.InbKernelIdeal.main_v12_1) = v1 c
          ∧ r.2.mem ((c.tc : Thread Cert.InbKernelIdeal.nD Cert.InbKernelIdeal.τ).loc Cert.InbKernelIdeal.main_v12_2) = v2 c
          ∧ r.2.mem ((c.tc : Thread Cert.InbKernelIdeal.nD Cert.InbKernelIdeal.τ).loc Cert.InbKernelIdeal.main_arg0) = m ((c.tc : Thread Cert.InbKernelIdeal.nD Cert.InbKernelIdeal.τ).loc Cert.InbKernelIdeal.main_arg0)
          ∧ r.2.mem ((c.tc : Thread Cert.InbKernelIdeal.nD Cert.InbKernelIdeal.τ).loc Cert.InbKernelIdeal.main_arg1) = m ((c.tc : Thread Cert.InbKernelIdeal.nD Cert.InbKernelIdeal.τ).loc Cert.InbKernelIdeal.main_arg1)
          ∧ r.2.mem ((c.tc : Thread Cert.InbKernelIdeal.nD Cert.InbKernelIdeal.τ).loc Cert.InbKernelIdeal.main_arg2) = m ((c.tc : Thread Cert.InbKernelIdeal.nD Cert.InbKernelIdeal.τ).loc Cert.InbKernelIdeal.main_arg2)
          ∧ r.2.mem ((c.tc : Thread Cert.InbKernelIdeal.nD Cert.InbKernelIdeal.τ).loc Cert.InbKernelIdeal.main_arg3) = m ((c.tc : Thread Cert.InbKernelIdeal.nD Cert.InbKernelIdeal.τ).loc Cert.InbKernelIdeal.main_arg3)
          ∧ r.2.mem ((c.tc : Thread Cert.InbKernelIdeal.nD Cert.InbKernelIdeal.τ).loc Cert.InbKernelIdeal.main_arg4) = m ((c.tc : Thread Cert.InbKernelIdeal.nD Cert.InbKernelIdeal.τ).loc Cert.InbKernelIdeal.main_arg4)
          ∧ r.2.mem ((c.tc : Thread Cert.InbKernelIdeal.nD Cert.InbKernelIdeal.τ).loc Cert.InbKernelIdeal.main_arg5) = m ((c.tc : Thread Cert.InbKernelIdeal.nD Cert.InbKernelIdeal.τ).loc Cert.InbKernelIdeal.main_arg5)
          ∧ r.2.mem ((c.tc : Thread Cert.InbKernelIdeal.nD Cert.InbKernelIdeal.τ).loc Cert.InbKernelIdeal.main_arg6) = m ((c.tc : Thread Cert.InbKernelIdeal.nD Cert.InbKernelIdeal.τ).loc Cert.InbKernelIdeal.main_arg6)
          ∧ r.2.mem ((c.tc : Thread Cert.InbKernelIdeal.nD Cert.InbKernelIdeal.τ).loc Cert.InbKernelIdeal.main_arg7) = m ((c.tc : Thread Cert.InbKernelIdeal.nD Cert.InbKernelIdeal.τ).loc Cert.InbKernelIdeal.main_arg7))
      ∧ θ_run (Cert.InbReferenceIdeal.defs (F := Ideal)) (onTc (τ := Cert.InbReferenceIdeal.τ) (Cert.InbReferenceIdeal.main (F := Ideal))) ⟨m', fun _ => 0, g'⟩ (fun r => ∀ c : Dev Cert.InbReferenceIdeal.nD,
          r.2.mem ((c.tc : Thread Cert.InbReferenceIdeal.nD Cert.InbReferenceIdeal.τ).loc Cert.InbReferenceIdeal.main_v49) = v0 c
          ∧ r.2.mem ((c.tc : Thread Cert.InbReferenceIdeal.nD Cert.InbReferenceIdeal.τ).loc Cert.InbReferenceIdeal.main_v63) = v1 c
          ∧ r.2.mem ((c.tc : Thread Cert.InbReferenceIdeal.nD Cert.InbReferenceIdeal.τ).loc Cert.InbReferenceIdeal.main_v64) = v2 c
          ∧ r.2.mem ((c.tc : Thread Cert.InbReferenceIdeal.nD Cert.InbReferenceIdeal.τ).loc Cert.InbReferenceIdeal.main_arg0) = m' ((c.tc : Thread Cert.InbReferenceIdeal.nD Cert.InbReferenceIdeal.τ).loc Cert.InbReferenceIdeal.main_arg0)
          ∧ r.2.mem ((c.tc : Thread Cert.InbReferenceIdeal.nD Cert.InbReferenceIdeal.τ).loc Cert.InbReferenceIdeal.main_arg1) = m' ((c.tc : Thread Cert.InbReferenceIdeal.nD Cert.InbReferenceIdeal.τ).loc Cert.InbReferenceIdeal.main_arg1)
          ∧ r.2.mem ((c.tc : Thread Cert.InbReferenceIdeal.nD Cert.InbReferenceIdeal.τ).loc Cert.InbReferenceIdeal.main_arg2) = m' ((c.tc : Thread Cert.InbReferenceIdeal.nD Cert.InbReferenceIdeal.τ).loc Cert.InbReferenceIdeal.main_arg2)
          ∧ r.2.mem ((c.tc : Thread Cert.InbReferenceIdeal.nD Cert.InbReferenceIdeal.τ).loc Cert.InbReferenceIdeal.main_arg3) = m' ((c.tc : Thread Cert.InbReferenceIdeal.nD Cert.InbReferenceIdeal.τ).loc Cert.InbReferenceIdeal.main_arg3)
          ∧ r.2.mem ((c.tc : Thread Cert.InbReferenceIdeal.nD Cert.InbReferenceIdeal.τ).loc Cert.InbReferenceIdeal.main_arg4) = m' ((c.tc : Thread Cert.InbReferenceIdeal.nD Cert.InbReferenceIdeal.τ).loc Cert.InbReferenceIdeal.main_arg4)
          ∧ r.2.mem ((c.tc : Thread Cert.InbReferenceIdeal.nD Cert.InbReferenceIdeal.τ).loc Cert.InbReferenceIdeal.main_arg5) = m' ((c.tc : Thread Cert.InbReferenceIdeal.nD Cert.InbReferenceIdeal.τ).loc Cert.InbReferenceIdeal.main_arg5)
          ∧ r.2.mem ((c.tc : Thread Cert.InbReferenceIdeal.nD Cert.InbReferenceIdeal.τ).loc Cert.InbReferenceIdeal.main_arg6) = m' ((c.tc : Thread Cert.InbReferenceIdeal.nD Cert.InbReferenceIdeal.τ).loc Cert.InbReferenceIdeal.main_arg6)
          ∧ r.2.mem ((c.tc : Thread Cert.InbReferenceIdeal.nD Cert.InbReferenceIdeal.τ).loc Cert.InbReferenceIdeal.main_arg7) = m' ((c.tc : Thread Cert.InbReferenceIdeal.nD Cert.InbReferenceIdeal.τ).loc Cert.InbReferenceIdeal.main_arg7))

def preserves_InfKernel_InfKernelIdeal : Prop :=
  True

def algebraic_InfKernelIdeal_InfReferenceIdeal [hInfKernelIdeal : Cert.InfKernelIdeal.Facts] [hInfReferenceIdeal : Cert.InfReferenceIdeal.Facts] : Prop :=
  ∀ (m : (ℓ : Loc Cert.InfKernelIdeal.nD Cert.InfKernelIdeal.τ Cert.InfKernelIdeal.sig) → Buf (Elt Ideal) ℓ) (g : Dev Cert.InfKernelIdeal.nD → PrngReg)
    (m' : (ℓ : Loc Cert.InfReferenceIdeal.nD Cert.InfReferenceIdeal.τ Cert.InfReferenceIdeal.sig) → Buf (Elt Ideal) ℓ) (g' : Dev Cert.InfReferenceIdeal.nD → PrngReg), Pre_InfKernelIdeal m →
    (∀ c : Dev Cert.InfKernelIdeal.nD,
      m' ((c.tc : Thread Cert.InfReferenceIdeal.nD Cert.InfReferenceIdeal.τ).loc Cert.InfReferenceIdeal.main_arg0) = m ((c.tc : Thread Cert.InfKernelIdeal.nD Cert.InfKernelIdeal.τ).loc Cert.InfKernelIdeal.main_arg0)
      ∧ m' ((c.tc : Thread Cert.InfReferenceIdeal.nD Cert.InfReferenceIdeal.τ).loc Cert.InfReferenceIdeal.main_arg1) = m ((c.tc : Thread Cert.InfKernelIdeal.nD Cert.InfKernelIdeal.τ).loc Cert.InfKernelIdeal.main_arg1)
      ∧ m' ((c.tc : Thread Cert.InfReferenceIdeal.nD Cert.InfReferenceIdeal.τ).loc Cert.InfReferenceIdeal.main_arg2) = m ((c.tc : Thread Cert.InfKernelIdeal.nD Cert.InfKernelIdeal.τ).loc Cert.InfKernelIdeal.main_arg2)) →
    ∃ (v0 : (c : Dev Cert.InfKernelIdeal.nD) → Buf (Elt Ideal) ((c.tc : Thread Cert.InfKernelIdeal.nD Cert.InfKernelIdeal.τ).loc Cert.InfKernelIdeal.main_v7_0)) (v1 : (c : Dev Cert.InfKernelIdeal.nD) → Buf (Elt Ideal) ((c.tc : Thread Cert.InfKernelIdeal.nD Cert.InfKernelIdeal.τ).loc Cert.InfKernelIdeal.main_v7_1)) (v2 : (c : Dev Cert.InfKernelIdeal.nD) → Buf (Elt Ideal) ((c.tc : Thread Cert.InfKernelIdeal.nD Cert.InfKernelIdeal.τ).loc Cert.InfKernelIdeal.main_v7_2)) (v3 : (c : Dev Cert.InfKernelIdeal.nD) → Buf (Elt Ideal) ((c.tc : Thread Cert.InfKernelIdeal.nD Cert.InfKernelIdeal.τ).loc Cert.InfKernelIdeal.main_v7_3)),
      θ_run (Cert.InfKernelIdeal.defs (F := Ideal)) (onTc (τ := Cert.InfKernelIdeal.τ) (Cert.InfKernelIdeal.main (F := Ideal))) ⟨m, fun _ => 0, g⟩ (fun r => ∀ c : Dev Cert.InfKernelIdeal.nD,
          r.2.mem ((c.tc : Thread Cert.InfKernelIdeal.nD Cert.InfKernelIdeal.τ).loc Cert.InfKernelIdeal.main_v7_0) = v0 c
          ∧ r.2.mem ((c.tc : Thread Cert.InfKernelIdeal.nD Cert.InfKernelIdeal.τ).loc Cert.InfKernelIdeal.main_v7_1) = v1 c
          ∧ r.2.mem ((c.tc : Thread Cert.InfKernelIdeal.nD Cert.InfKernelIdeal.τ).loc Cert.InfKernelIdeal.main_v7_2) = v2 c
          ∧ r.2.mem ((c.tc : Thread Cert.InfKernelIdeal.nD Cert.InfKernelIdeal.τ).loc Cert.InfKernelIdeal.main_v7_3) = v3 c
          ∧ r.2.mem ((c.tc : Thread Cert.InfKernelIdeal.nD Cert.InfKernelIdeal.τ).loc Cert.InfKernelIdeal.main_arg0) = m ((c.tc : Thread Cert.InfKernelIdeal.nD Cert.InfKernelIdeal.τ).loc Cert.InfKernelIdeal.main_arg0)
          ∧ r.2.mem ((c.tc : Thread Cert.InfKernelIdeal.nD Cert.InfKernelIdeal.τ).loc Cert.InfKernelIdeal.main_arg1) = m ((c.tc : Thread Cert.InfKernelIdeal.nD Cert.InfKernelIdeal.τ).loc Cert.InfKernelIdeal.main_arg1)
          ∧ r.2.mem ((c.tc : Thread Cert.InfKernelIdeal.nD Cert.InfKernelIdeal.τ).loc Cert.InfKernelIdeal.main_arg2) = m ((c.tc : Thread Cert.InfKernelIdeal.nD Cert.InfKernelIdeal.τ).loc Cert.InfKernelIdeal.main_arg2))
      ∧ θ_run (Cert.InfReferenceIdeal.defs (F := Ideal)) (onTc (τ := Cert.InfReferenceIdeal.τ) (Cert.InfReferenceIdeal.main (F := Ideal))) ⟨m', fun _ => 0, g'⟩ (fun r => ∀ c : Dev Cert.InfReferenceIdeal.nD,
          r.2.mem ((c.tc : Thread Cert.InfReferenceIdeal.nD Cert.InfReferenceIdeal.τ).loc Cert.InfReferenceIdeal.main_v14) = v0 c
          ∧ r.2.mem ((c.tc : Thread Cert.InfReferenceIdeal.nD Cert.InfReferenceIdeal.τ).loc Cert.InfReferenceIdeal.main_v15) = v1 c
          ∧ r.2.mem ((c.tc : Thread Cert.InfReferenceIdeal.nD Cert.InfReferenceIdeal.τ).loc Cert.InfReferenceIdeal.main_v16) = v2 c
          ∧ r.2.mem ((c.tc : Thread Cert.InfReferenceIdeal.nD Cert.InfReferenceIdeal.τ).loc Cert.InfReferenceIdeal.main_v18) = v3 c
          ∧ r.2.mem ((c.tc : Thread Cert.InfReferenceIdeal.nD Cert.InfReferenceIdeal.τ).loc Cert.InfReferenceIdeal.main_arg0) = m' ((c.tc : Thread Cert.InfReferenceIdeal.nD Cert.InfReferenceIdeal.τ).loc Cert.InfReferenceIdeal.main_arg0)
          ∧ r.2.mem ((c.tc : Thread Cert.InfReferenceIdeal.nD Cert.InfReferenceIdeal.τ).loc Cert.InfReferenceIdeal.main_arg1) = m' ((c.tc : Thread Cert.InfReferenceIdeal.nD Cert.InfReferenceIdeal.τ).loc Cert.InfReferenceIdeal.main_arg1)
          ∧ r.2.mem ((c.tc : Thread Cert.InfReferenceIdeal.nD Cert.InfReferenceIdeal.τ).loc Cert.InfReferenceIdeal.main_arg2) = m' ((c.tc : Thread Cert.InfReferenceIdeal.nD Cert.InfReferenceIdeal.τ).loc Cert.InfReferenceIdeal.main_arg2))

def preserves_WiuKernel_WiuKernelIdeal : Prop :=
  True

def algebraic_WiuKernelIdeal_WiuReferenceIdeal [hWiuKernelIdeal : Cert.WiuKernelIdeal.Facts] [hWiuReferenceIdeal : Cert.WiuReferenceIdeal.Facts] : Prop :=
  ∀ (m : (ℓ : Loc Cert.WiuKernelIdeal.nD Cert.WiuKernelIdeal.τ Cert.WiuKernelIdeal.sig) → Buf (Elt Ideal) ℓ) (g : Dev Cert.WiuKernelIdeal.nD → PrngReg)
    (m' : (ℓ : Loc Cert.WiuReferenceIdeal.nD Cert.WiuReferenceIdeal.τ Cert.WiuReferenceIdeal.sig) → Buf (Elt Ideal) ℓ) (g' : Dev Cert.WiuReferenceIdeal.nD → PrngReg), Pre_WiuKernelIdeal m →
    (∀ c : Dev Cert.WiuKernelIdeal.nD,
      m' ((c.tc : Thread Cert.WiuReferenceIdeal.nD Cert.WiuReferenceIdeal.τ).loc Cert.WiuReferenceIdeal.main_arg0) = m ((c.tc : Thread Cert.WiuKernelIdeal.nD Cert.WiuKernelIdeal.τ).loc Cert.WiuKernelIdeal.main_arg0)
      ∧ m' ((c.tc : Thread Cert.WiuReferenceIdeal.nD Cert.WiuReferenceIdeal.τ).loc Cert.WiuReferenceIdeal.main_arg1) = m ((c.tc : Thread Cert.WiuKernelIdeal.nD Cert.WiuKernelIdeal.τ).loc Cert.WiuKernelIdeal.main_arg1)) →
    ∃ (v0 : (c : Dev Cert.WiuKernelIdeal.nD) → Buf (Elt Ideal) ((c.tc : Thread Cert.WiuKernelIdeal.nD Cert.WiuKernelIdeal.τ).loc Cert.WiuKernelIdeal.main_v2)),
      θ_run (Cert.WiuKernelIdeal.defs (F := Ideal)) (onTc (τ := Cert.WiuKernelIdeal.τ) (Cert.WiuKernelIdeal.main (F := Ideal))) ⟨m, fun _ => 0, g⟩ (fun r => ∀ c : Dev Cert.WiuKernelIdeal.nD,
          r.2.mem ((c.tc : Thread Cert.WiuKernelIdeal.nD Cert.WiuKernelIdeal.τ).loc Cert.WiuKernelIdeal.main_v2) = v0 c
          ∧ r.2.mem ((c.tc : Thread Cert.WiuKernelIdeal.nD Cert.WiuKernelIdeal.τ).loc Cert.WiuKernelIdeal.main_arg0) = m ((c.tc : Thread Cert.WiuKernelIdeal.nD Cert.WiuKernelIdeal.τ).loc Cert.WiuKernelIdeal.main_arg0)
          ∧ r.2.mem ((c.tc : Thread Cert.WiuKernelIdeal.nD Cert.WiuKernelIdeal.τ).loc Cert.WiuKernelIdeal.main_arg1) = m ((c.tc : Thread Cert.WiuKernelIdeal.nD Cert.WiuKernelIdeal.τ).loc Cert.WiuKernelIdeal.main_arg1))
      ∧ θ_run (Cert.WiuReferenceIdeal.defs (F := Ideal)) (onTc (τ := Cert.WiuReferenceIdeal.τ) (Cert.WiuReferenceIdeal.main (F := Ideal))) ⟨m', fun _ => 0, g'⟩ (fun r => ∀ c : Dev Cert.WiuReferenceIdeal.nD,
          r.2.mem ((c.tc : Thread Cert.WiuReferenceIdeal.nD Cert.WiuReferenceIdeal.τ).loc Cert.WiuReferenceIdeal.main_v4) = v0 c
          ∧ r.2.mem ((c.tc : Thread Cert.WiuReferenceIdeal.nD Cert.WiuReferenceIdeal.τ).loc Cert.WiuReferenceIdeal.main_arg0) = m' ((c.tc : Thread Cert.WiuReferenceIdeal.nD Cert.WiuReferenceIdeal.τ).loc Cert.WiuReferenceIdeal.main_arg0)
          ∧ r.2.mem ((c.tc : Thread Cert.WiuReferenceIdeal.nD Cert.WiuReferenceIdeal.τ).loc Cert.WiuReferenceIdeal.main_arg1) = m' ((c.tc : Thread Cert.WiuReferenceIdeal.nD Cert.WiuReferenceIdeal.τ).loc Cert.WiuReferenceIdeal.main_arg1))

def preserves_WixKernel_WixKernelIdeal : Prop :=
  True

def algebraic_WixKernelIdeal_WixReferenceIdeal [hWixKernelIdeal : Cert.WixKernelIdeal.Facts] [hWixReferenceIdeal : Cert.WixReferenceIdeal.Facts] : Prop :=
  ∀ (m : (ℓ : Loc Cert.WixKernelIdeal.nD Cert.WixKernelIdeal.τ Cert.WixKernelIdeal.sig) → Buf (Elt Ideal) ℓ) (g : Dev Cert.WixKernelIdeal.nD → PrngReg)
    (m' : (ℓ : Loc Cert.WixReferenceIdeal.nD Cert.WixReferenceIdeal.τ Cert.WixReferenceIdeal.sig) → Buf (Elt Ideal) ℓ) (g' : Dev Cert.WixReferenceIdeal.nD → PrngReg), Pre_WixKernelIdeal m →
    (∀ c : Dev Cert.WixKernelIdeal.nD,
      m' ((c.tc : Thread Cert.WixReferenceIdeal.nD Cert.WixReferenceIdeal.τ).loc Cert.WixReferenceIdeal.main_arg0) = m ((c.tc : Thread Cert.WixKernelIdeal.nD Cert.WixKernelIdeal.τ).loc Cert.WixKernelIdeal.main_arg0)
      ∧ m' ((c.tc : Thread Cert.WixReferenceIdeal.nD Cert.WixReferenceIdeal.τ).loc Cert.WixReferenceIdeal.main_arg1) = m ((c.tc : Thread Cert.WixKernelIdeal.nD Cert.WixKernelIdeal.τ).loc Cert.WixKernelIdeal.main_arg1)) →
    ∃ (v0 : (c : Dev Cert.WixKernelIdeal.nD) → Buf (Elt Ideal) ((c.tc : Thread Cert.WixKernelIdeal.nD Cert.WixKernelIdeal.τ).loc Cert.WixKernelIdeal.main_v2)),
      θ_run (Cert.WixKernelIdeal.defs (F := Ideal)) (onTc (τ := Cert.WixKernelIdeal.τ) (Cert.WixKernelIdeal.main (F := Ideal))) ⟨m, fun _ => 0, g⟩ (fun r => ∀ c : Dev Cert.WixKernelIdeal.nD,
          r.2.mem ((c.tc : Thread Cert.WixKernelIdeal.nD Cert.WixKernelIdeal.τ).loc Cert.WixKernelIdeal.main_v2) = v0 c
          ∧ r.2.mem ((c.tc : Thread Cert.WixKernelIdeal.nD Cert.WixKernelIdeal.τ).loc Cert.WixKernelIdeal.main_arg0) = m ((c.tc : Thread Cert.WixKernelIdeal.nD Cert.WixKernelIdeal.τ).loc Cert.WixKernelIdeal.main_arg0)
          ∧ r.2.mem ((c.tc : Thread Cert.WixKernelIdeal.nD Cert.WixKernelIdeal.τ).loc Cert.WixKernelIdeal.main_arg1) = m ((c.tc : Thread Cert.WixKernelIdeal.nD Cert.WixKernelIdeal.τ).loc Cert.WixKernelIdeal.main_arg1))
      ∧ θ_run (Cert.WixReferenceIdeal.defs (F := Ideal)) (onTc (τ := Cert.WixReferenceIdeal.τ) (Cert.WixReferenceIdeal.main (F := Ideal))) ⟨m', fun _ => 0, g'⟩ (fun r => ∀ c : Dev Cert.WixReferenceIdeal.nD,
          r.2.mem ((c.tc : Thread Cert.WixReferenceIdeal.nD Cert.WixReferenceIdeal.τ).loc Cert.WixReferenceIdeal.main_v4) = v0 c
          ∧ r.2.mem ((c.tc : Thread Cert.WixReferenceIdeal.nD Cert.WixReferenceIdeal.τ).loc Cert.WixReferenceIdeal.main_arg0) = m' ((c.tc : Thread Cert.WixReferenceIdeal.nD Cert.WixReferenceIdeal.τ).loc Cert.WixReferenceIdeal.main_arg0)
          ∧ r.2.mem ((c.tc : Thread Cert.WixReferenceIdeal.nD Cert.WixReferenceIdeal.τ).loc Cert.WixReferenceIdeal.main_arg1) = m' ((c.tc : Thread Cert.WixReferenceIdeal.nD Cert.WixReferenceIdeal.τ).loc Cert.WixReferenceIdeal.main_arg1))

def preserves_WidKernel_WidKernelIdeal : Prop :=
  True

def algebraic_WidKernelIdeal_WidReferenceIdeal [hWidKernelIdeal : Cert.WidKernelIdeal.Facts] [hWidReferenceIdeal : Cert.WidReferenceIdeal.Facts] : Prop :=
  ∀ (m : (ℓ : Loc Cert.WidKernelIdeal.nD Cert.WidKernelIdeal.τ Cert.WidKernelIdeal.sig) → Buf (Elt Ideal) ℓ) (g : Dev Cert.WidKernelIdeal.nD → PrngReg)
    (m' : (ℓ : Loc Cert.WidReferenceIdeal.nD Cert.WidReferenceIdeal.τ Cert.WidReferenceIdeal.sig) → Buf (Elt Ideal) ℓ) (g' : Dev Cert.WidReferenceIdeal.nD → PrngReg), Pre_WidKernelIdeal m →
    (∀ c : Dev Cert.WidKernelIdeal.nD,
      m' ((c.tc : Thread Cert.WidReferenceIdeal.nD Cert.WidReferenceIdeal.τ).loc Cert.WidReferenceIdeal.main_arg0) = m ((c.tc : Thread Cert.WidKernelIdeal.nD Cert.WidKernelIdeal.τ).loc Cert.WidKernelIdeal.main_arg0)
      ∧ m' ((c.tc : Thread Cert.WidReferenceIdeal.nD Cert.WidReferenceIdeal.τ).loc Cert.WidReferenceIdeal.main_arg1) = m ((c.tc : Thread Cert.WidKernelIdeal.nD Cert.WidKernelIdeal.τ).loc Cert.WidKernelIdeal.main_arg1)) →
    ∃ (v0 : (c : Dev Cert.WidKernelIdeal.nD) → Buf (Elt Ideal) ((c.tc : Thread Cert.WidKernelIdeal.nD Cert.WidKernelIdeal.τ).loc Cert.WidKernelIdeal.main_v3)),
      θ_run (Cert.WidKernelIdeal.defs (F := Ideal)) (onTc (τ := Cert.WidKernelIdeal.τ) (Cert.WidKernelIdeal.main (F := Ideal))) ⟨m, fun _ => 0, g⟩ (fun r => ∀ c : Dev Cert.WidKernelIdeal.nD,
          r.2.mem ((c.tc : Thread Cert.WidKernelIdeal.nD Cert.WidKernelIdeal.τ).loc Cert.WidKernelIdeal.main_v3) = v0 c
          ∧ r.2.mem ((c.tc : Thread Cert.WidKernelIdeal.nD Cert.WidKernelIdeal.τ).loc Cert.WidKernelIdeal.main_arg0) = m ((c.tc : Thread Cert.WidKernelIdeal.nD Cert.WidKernelIdeal.τ).loc Cert.WidKernelIdeal.main_arg0)
          ∧ r.2.mem ((c.tc : Thread Cert.WidKernelIdeal.nD Cert.WidKernelIdeal.τ).loc Cert.WidKernelIdeal.main_arg1) = m ((c.tc : Thread Cert.WidKernelIdeal.nD Cert.WidKernelIdeal.τ).loc Cert.WidKernelIdeal.main_arg1))
      ∧ θ_run (Cert.WidReferenceIdeal.defs (F := Ideal)) (onTc (τ := Cert.WidReferenceIdeal.τ) (Cert.WidReferenceIdeal.main (F := Ideal))) ⟨m', fun _ => 0, g'⟩ (fun r => ∀ c : Dev Cert.WidReferenceIdeal.nD,
          r.2.mem ((c.tc : Thread Cert.WidReferenceIdeal.nD Cert.WidReferenceIdeal.τ).loc Cert.WidReferenceIdeal.main_v5) = v0 c
          ∧ r.2.mem ((c.tc : Thread Cert.WidReferenceIdeal.nD Cert.WidReferenceIdeal.τ).loc Cert.WidReferenceIdeal.main_arg0) = m' ((c.tc : Thread Cert.WidReferenceIdeal.nD Cert.WidReferenceIdeal.τ).loc Cert.WidReferenceIdeal.main_arg0)
          ∧ r.2.mem ((c.tc : Thread Cert.WidReferenceIdeal.nD Cert.WidReferenceIdeal.τ).loc Cert.WidReferenceIdeal.main_arg1) = m' ((c.tc : Thread Cert.WidReferenceIdeal.nD Cert.WidReferenceIdeal.τ).loc Cert.WidReferenceIdeal.main_arg1))

def preserves_WopKernel_WopKernelIdeal : Prop :=
  True

def algebraic_WopKernelIdeal_WopReferenceIdeal [hWopKernelIdeal : Cert.WopKernelIdeal.Facts] [hWopReferenceIdeal : Cert.WopReferenceIdeal.Facts] : Prop :=
  ∀ (m : (ℓ : Loc Cert.WopKernelIdeal.nD Cert.WopKernelIdeal.τ Cert.WopKernelIdeal.sig) → Buf (Elt Ideal) ℓ) (g : Dev Cert.WopKernelIdeal.nD → PrngReg)
    (m' : (ℓ : Loc Cert.WopReferenceIdeal.nD Cert.WopReferenceIdeal.τ Cert.WopReferenceIdeal.sig) → Buf (Elt Ideal) ℓ) (g' : Dev Cert.WopReferenceIdeal.nD → PrngReg), Pre_WopKernelIdeal m →
    (∀ c : Dev Cert.WopKernelIdeal.nD,
      m' ((c.tc : Thread Cert.WopReferenceIdeal.nD Cert.WopReferenceIdeal.τ).loc Cert.WopReferenceIdeal.main_arg0) = m ((c.tc : Thread Cert.WopKernelIdeal.nD Cert.WopKernelIdeal.τ).loc Cert.WopKernelIdeal.main_arg0)
      ∧ m' ((c.tc : Thread Cert.WopReferenceIdeal.nD Cert.WopReferenceIdeal.τ).loc Cert.WopReferenceIdeal.main_arg1) = m ((c.tc : Thread Cert.WopKernelIdeal.nD Cert.WopKernelIdeal.τ).loc Cert.WopKernelIdeal.main_arg1)
      ∧ m' ((c.tc : Thread Cert.WopReferenceIdeal.nD Cert.WopReferenceIdeal.τ).loc Cert.WopReferenceIdeal.main_arg2) = m ((c.tc : Thread Cert.WopKernelIdeal.nD Cert.WopKernelIdeal.τ).loc Cert.WopKernelIdeal.main_arg2)) →
    ∃ (v0 : (c : Dev Cert.WopKernelIdeal.nD) → Buf (Elt Ideal) ((c.tc : Thread Cert.WopKernelIdeal.nD Cert.WopKernelIdeal.τ).loc Cert.WopKernelIdeal.main_v3)),
      θ_run (Cert.WopKernelIdeal.defs (F := Ideal)) (onTc (τ := Cert.WopKernelIdeal.τ) (Cert.WopKernelIdeal.main (F := Ideal))) ⟨m, fun _ => 0, g⟩ (fun r => ∀ c : Dev Cert.WopKernelIdeal.nD,
          r.2.mem ((c.tc : Thread Cert.WopKernelIdeal.nD Cert.WopKernelIdeal.τ).loc Cert.WopKernelIdeal.main_v3) = v0 c
          ∧ r.2.mem ((c.tc : Thread Cert.WopKernelIdeal.nD Cert.WopKernelIdeal.τ).loc Cert.WopKernelIdeal.main_arg0) = m ((c.tc : Thread Cert.WopKernelIdeal.nD Cert.WopKernelIdeal.τ).loc Cert.WopKernelIdeal.main_arg0)
          ∧ r.2.mem ((c.tc : Thread Cert.WopKernelIdeal.nD Cert.WopKernelIdeal.τ).loc Cert.WopKernelIdeal.main_arg1) = m ((c.tc : Thread Cert.WopKernelIdeal.nD Cert.WopKernelIdeal.τ).loc Cert.WopKernelIdeal.main_arg1)
          ∧ r.2.mem ((c.tc : Thread Cert.WopKernelIdeal.nD Cert.WopKernelIdeal.τ).loc Cert.WopKernelIdeal.main_arg2) = m ((c.tc : Thread Cert.WopKernelIdeal.nD Cert.WopKernelIdeal.τ).loc Cert.WopKernelIdeal.main_arg2))
      ∧ θ_run (Cert.WopReferenceIdeal.defs (F := Ideal)) (onTc (τ := Cert.WopReferenceIdeal.τ) (Cert.WopReferenceIdeal.main (F := Ideal))) ⟨m', fun _ => 0, g'⟩ (fun r => ∀ c : Dev Cert.WopReferenceIdeal.nD,
          r.2.mem ((c.tc : Thread Cert.WopReferenceIdeal.nD Cert.WopReferenceIdeal.τ).loc Cert.WopReferenceIdeal.main_v6) = v0 c
          ∧ r.2.mem ((c.tc : Thread Cert.WopReferenceIdeal.nD Cert.WopReferenceIdeal.τ).loc Cert.WopReferenceIdeal.main_arg0) = m' ((c.tc : Thread Cert.WopReferenceIdeal.nD Cert.WopReferenceIdeal.τ).loc Cert.WopReferenceIdeal.main_arg0)
          ∧ r.2.mem ((c.tc : Thread Cert.WopReferenceIdeal.nD Cert.WopReferenceIdeal.τ).loc Cert.WopReferenceIdeal.main_arg1) = m' ((c.tc : Thread Cert.WopReferenceIdeal.nD Cert.WopReferenceIdeal.τ).loc Cert.WopReferenceIdeal.main_arg1)
          ∧ r.2.mem ((c.tc : Thread Cert.WopReferenceIdeal.nD Cert.WopReferenceIdeal.τ).loc Cert.WopReferenceIdeal.main_arg2) = m' ((c.tc : Thread Cert.WopReferenceIdeal.nD Cert.WopReferenceIdeal.τ).loc Cert.WopReferenceIdeal.main_arg2))

def preserves_LosKernel_LosKernelIdeal : Prop :=
  True

def algebraic_LosKernelIdeal_LosReferenceIdeal [hLosKernelIdeal : Cert.LosKernelIdeal.Facts] [hLosReferenceIdeal : Cert.LosReferenceIdeal.Facts] : Prop :=
  ∀ (m : (ℓ : Loc Cert.LosKernelIdeal.nD Cert.LosKernelIdeal.τ Cert.LosKernelIdeal.sig) → Buf (Elt Ideal) ℓ) (g : Dev Cert.LosKernelIdeal.nD → PrngReg)
    (m' : (ℓ : Loc Cert.LosReferenceIdeal.nD Cert.LosReferenceIdeal.τ Cert.LosReferenceIdeal.sig) → Buf (Elt Ideal) ℓ) (g' : Dev Cert.LosReferenceIdeal.nD → PrngReg), Pre_LosKernelIdeal m →
    (∀ c : Dev Cert.LosKernelIdeal.nD,
      m' ((c.tc : Thread Cert.LosReferenceIdeal.nD Cert.LosReferenceIdeal.τ).loc Cert.LosReferenceIdeal.main_arg0) = m ((c.tc : Thread Cert.LosKernelIdeal.nD Cert.LosKernelIdeal.τ).loc Cert.LosKernelIdeal.main_arg0)
      ∧ m' ((c.tc : Thread Cert.LosReferenceIdeal.nD Cert.LosReferenceIdeal.τ).loc Cert.LosReferenceIdeal.main_arg1) = m ((c.tc : Thread Cert.LosKernelIdeal.nD Cert.LosKernelIdeal.τ).loc Cert.LosKernelIdeal.main_arg1)
      ∧ m' ((c.tc : Thread Cert.LosReferenceIdeal.nD Cert.LosReferenceIdeal.τ).loc Cert.LosReferenceIdeal.main_arg2) = m ((c.tc : Thread Cert.LosKernelIdeal.nD Cert.LosKernelIdeal.τ).loc Cert.LosKernelIdeal.main_arg2)) →
    ∃ (v0 : (c : Dev Cert.LosKernelIdeal.nD) → Buf (Elt Ideal) ((c.tc : Thread Cert.LosKernelIdeal.nD Cert.LosKernelIdeal.τ).loc Cert.LosKernelIdeal.main_v1_0)) (v1 : (c : Dev Cert.LosKernelIdeal.nD) → Buf (Elt Ideal) ((c.tc : Thread Cert.LosKernelIdeal.nD Cert.LosKernelIdeal.τ).loc Cert.LosKernelIdeal.main_v1_1)) (v2 : (c : Dev Cert.LosKernelIdeal.nD) → Buf (Elt Ideal) ((c.tc : Thread Cert.LosKernelIdeal.nD Cert.LosKernelIdeal.τ).loc Cert.LosKernelIdeal.main_v1_2)),
      θ_run (Cert.LosKernelIdeal.defs (F := Ideal)) (onTc (τ := Cert.LosKernelIdeal.τ) (Cert.LosKernelIdeal.main (F := Ideal))) ⟨m, fun _ => 0, g⟩ (fun r => ∀ c : Dev Cert.LosKernelIdeal.nD,
          r.2.mem ((c.tc : Thread Cert.LosKernelIdeal.nD Cert.LosKernelIdeal.τ).loc Cert.LosKernelIdeal.main_v1_0) = v0 c
          ∧ r.2.mem ((c.tc : Thread Cert.LosKernelIdeal.nD Cert.LosKernelIdeal.τ).loc Cert.LosKernelIdeal.main_v1_1) = v1 c
          ∧ r.2.mem ((c.tc : Thread Cert.LosKernelIdeal.nD Cert.LosKernelIdeal.τ).loc Cert.LosKernelIdeal.main_v1_2) = v2 c
          ∧ r.2.mem ((c.tc : Thread Cert.LosKernelIdeal.nD Cert.LosKernelIdeal.τ).loc Cert.LosKernelIdeal.main_arg0) = m ((c.tc : Thread Cert.LosKernelIdeal.nD Cert.LosKernelIdeal.τ).loc Cert.LosKernelIdeal.main_arg0)
          ∧ r.2.mem ((c.tc : Thread Cert.LosKernelIdeal.nD Cert.LosKernelIdeal.τ).loc Cert.LosKernelIdeal.main_arg1) = m ((c.tc : Thread Cert.LosKernelIdeal.nD Cert.LosKernelIdeal.τ).loc Cert.LosKernelIdeal.main_arg1)
          ∧ r.2.mem ((c.tc : Thread Cert.LosKernelIdeal.nD Cert.LosKernelIdeal.τ).loc Cert.LosKernelIdeal.main_arg2) = m ((c.tc : Thread Cert.LosKernelIdeal.nD Cert.LosKernelIdeal.τ).loc Cert.LosKernelIdeal.main_arg2))
      ∧ θ_run (Cert.LosReferenceIdeal.defs (F := Ideal)) (onTc (τ := Cert.LosReferenceIdeal.τ) (Cert.LosReferenceIdeal.main (F := Ideal))) ⟨m', fun _ => 0, g'⟩ (fun r => ∀ c : Dev Cert.LosReferenceIdeal.nD,
          r.2.mem ((c.tc : Thread Cert.LosReferenceIdeal.nD Cert.LosReferenceIdeal.τ).loc Cert.LosReferenceIdeal.main_v51) = v0 c
          ∧ r.2.mem ((c.tc : Thread Cert.LosReferenceIdeal.nD Cert.LosReferenceIdeal.τ).loc Cert.LosReferenceIdeal.main_v50) = v1 c
          ∧ r.2.mem ((c.tc : Thread Cert.LosReferenceIdeal.nD Cert.LosReferenceIdeal.τ).loc Cert.LosReferenceIdeal.main_v52) = v2 c
          ∧ r.2.mem ((c.tc : Thread Cert.LosReferenceIdeal.nD Cert.LosReferenceIdeal.τ).loc Cert.LosReferenceIdeal.main_arg0) = m' ((c.tc : Thread Cert.LosReferenceIdeal.nD Cert.LosReferenceIdeal.τ).loc Cert.LosReferenceIdeal.main_arg0)
          ∧ r.2.mem ((c.tc : Thread Cert.LosReferenceIdeal.nD Cert.LosReferenceIdeal.τ).loc Cert.LosReferenceIdeal.main_arg1) = m' ((c.tc : Thread Cert.LosReferenceIdeal.nD Cert.LosReferenceIdeal.τ).loc Cert.LosReferenceIdeal.main_arg1)
          ∧ r.2.mem ((c.tc : Thread Cert.LosReferenceIdeal.nD Cert.LosReferenceIdeal.τ).loc Cert.LosReferenceIdeal.main_arg2) = m' ((c.tc : Thread Cert.LosReferenceIdeal.nD Cert.LosReferenceIdeal.τ).loc Cert.LosReferenceIdeal.main_arg2))

def preserves_AdNKernel_AdNKernelIdeal : Prop :=
  True

def algebraic_AdNKernelIdeal_AdNReferenceIdeal [hAdNKernelIdeal : Cert.AdNKernelIdeal.Facts] [hAdNReferenceIdeal : Cert.AdNReferenceIdeal.Facts] : Prop :=
  ∀ (m : (ℓ : Loc Cert.AdNKernelIdeal.nD Cert.AdNKernelIdeal.τ Cert.AdNKernelIdeal.sig) → Buf (Elt Ideal) ℓ) (g : Dev Cert.AdNKernelIdeal.nD → PrngReg)
    (m' : (ℓ : Loc Cert.AdNReferenceIdeal.nD Cert.AdNReferenceIdeal.τ Cert.AdNReferenceIdeal.sig) → Buf (Elt Ideal) ℓ) (g' : Dev Cert.AdNReferenceIdeal.nD → PrngReg), Pre_AdNKernelIdeal m →
    (∀ c : Dev Cert.AdNKernelIdeal.nD,
      m' ((c.tc : Thread Cert.AdNReferenceIdeal.nD Cert.AdNReferenceIdeal.τ).loc Cert.AdNReferenceIdeal.main_arg0) = m ((c.tc : Thread Cert.AdNKernelIdeal.nD Cert.AdNKernelIdeal.τ).loc Cert.AdNKernelIdeal.main_arg0)
      ∧ m' ((c.tc : Thread Cert.AdNReferenceIdeal.nD Cert.AdNReferenceIdeal.τ).loc Cert.AdNReferenceIdeal.main_arg1) = m ((c.tc : Thread Cert.AdNKernelIdeal.nD Cert.AdNKernelIdeal.τ).loc Cert.AdNKernelIdeal.main_arg1)
      ∧ m' ((c.tc : Thread Cert.AdNReferenceIdeal.nD Cert.AdNReferenceIdeal.τ).loc Cert.AdNReferenceIdeal.main_arg2) = m ((c.tc : Thread Cert.AdNKernelIdeal.nD Cert.AdNKernelIdeal.τ).loc Cert.AdNKernelIdeal.main_arg2)
      ∧ m' ((c.tc : Thread Cert.AdNReferenceIdeal.nD Cert.AdNReferenceIdeal.τ).loc Cert.AdNReferenceIdeal.main_arg3) = m ((c.tc : Thread Cert.AdNKernelIdeal.nD Cert.AdNKernelIdeal.τ).loc Cert.AdNKernelIdeal.main_arg3)) →
    ∃ (v0 : (c : Dev Cert.AdNKernelIdeal.nD) → Buf (Elt Ideal) ((c.tc : Thread Cert.AdNKernelIdeal.nD Cert.AdNKernelIdeal.τ).loc Cert.AdNKernelIdeal.main_v0_0)) (v1 : (c : Dev Cert.AdNKernelIdeal.nD) → Buf (Elt Ideal) ((c.tc : Thread Cert.AdNKernelIdeal.nD Cert.AdNKernelIdeal.τ).loc Cert.AdNKernelIdeal.main_v0_1)) (v2 : (c : Dev Cert.AdNKernelIdeal.nD) → Buf (Elt Ideal) ((c.tc : Thread Cert.AdNKernelIdeal.nD Cert.AdNKernelIdeal.τ).loc Cert.AdNKernelIdeal.main_v0_2)),
      θ_run (Cert.AdNKernelIdeal.defs (F := Ideal)) (onTc (τ := Cert.AdNKernelIdeal.τ) (Cert.AdNKernelIdeal.main (F := Ideal))) ⟨m, fun _ => 0, g⟩ (fun r => ∀ c : Dev Cert.AdNKernelIdeal.nD,
          r.2.mem ((c.tc : Thread Cert.AdNKernelIdeal.nD Cert.AdNKernelIdeal.τ).loc Cert.AdNKernelIdeal.main_v0_0) = v0 c
          ∧ r.2.mem ((c.tc : Thread Cert.AdNKernelIdeal.nD Cert.AdNKernelIdeal.τ).loc Cert.AdNKernelIdeal.main_v0_1) = v1 c
          ∧ r.2.mem ((c.tc : Thread Cert.AdNKernelIdeal.nD Cert.AdNKernelIdeal.τ).loc Cert.AdNKernelIdeal.main_v0_2) = v2 c
          ∧ r.2.mem ((c.tc : Thread Cert.AdNKernelIdeal.nD Cert.AdNKernelIdeal.τ).loc Cert.AdNKernelIdeal.main_arg0) = m ((c.tc : Thread Cert.AdNKernelIdeal.nD Cert.AdNKernelIdeal.τ).loc Cert.AdNKernelIdeal.main_arg0)
          ∧ r.2.mem ((c.tc : Thread Cert.AdNKernelIdeal.nD Cert.AdNKernelIdeal.τ).loc Cert.AdNKernelIdeal.main_arg1) = m ((c.tc : Thread Cert.AdNKernelIdeal.nD Cert.AdNKernelIdeal.τ).loc Cert.AdNKernelIdeal.main_arg1)
          ∧ r.2.mem ((c.tc : Thread Cert.AdNKernelIdeal.nD Cert.AdNKernelIdeal.τ).loc Cert.AdNKernelIdeal.main_arg2) = m ((c.tc : Thread Cert.AdNKernelIdeal.nD Cert.AdNKernelIdeal.τ).loc Cert.AdNKernelIdeal.main_arg2)
          ∧ r.2.mem ((c.tc : Thread Cert.AdNKernelIdeal.nD Cert.AdNKernelIdeal.τ).loc Cert.AdNKernelIdeal.main_arg3) = m ((c.tc : Thread Cert.AdNKernelIdeal.nD Cert.AdNKernelIdeal.τ).loc Cert.AdNKernelIdeal.main_arg3))
      ∧ θ_run (Cert.AdNReferenceIdeal.defs (F := Ideal)) (onTc (τ := Cert.AdNReferenceIdeal.τ) (Cert.AdNReferenceIdeal.main (F := Ideal))) ⟨m', fun _ => 0, g'⟩ (fun r => ∀ c : Dev Cert.AdNReferenceIdeal.nD,
          r.2.mem ((c.tc : Thread Cert.AdNReferenceIdeal.nD Cert.AdNReferenceIdeal.τ).loc Cert.AdNReferenceIdeal.main_v23) = v0 c
          ∧ r.2.mem ((c.tc : Thread Cert.AdNReferenceIdeal.nD Cert.AdNReferenceIdeal.τ).loc Cert.AdNReferenceIdeal.main_v4) = v1 c
          ∧ r.2.mem ((c.tc : Thread Cert.AdNReferenceIdeal.nD Cert.AdNReferenceIdeal.τ).loc Cert.AdNReferenceIdeal.main_v10) = v2 c
          ∧ r.2.mem ((c.tc : Thread Cert.AdNReferenceIdeal.nD Cert.AdNReferenceIdeal.τ).loc Cert.AdNReferenceIdeal.main_arg0) = m' ((c.tc : Thread Cert.AdNReferenceIdeal.nD Cert.AdNReferenceIdeal.τ).loc Cert.AdNReferenceIdeal.main_arg0)
          ∧ r.2.mem ((c.tc : Thread Cert.AdNReferenceIdeal.nD Cert.AdNReferenceIdeal.τ).loc Cert.AdNReferenceIdeal.main_arg1) = m' ((c.tc : Thread Cert.AdNReferenceIdeal.nD Cert.AdNReferenceIdeal.τ).loc Cert.AdNReferenceIdeal.main_arg1)
          ∧ r.2.mem ((c.tc : Thread Cert.AdNReferenceIdeal.nD Cert.AdNReferenceIdeal.τ).loc Cert.AdNReferenceIdeal.main_arg2) = m' ((c.tc : Thread Cert.AdNReferenceIdeal.nD Cert.AdNReferenceIdeal.τ).loc Cert.AdNReferenceIdeal.main_arg2)
          ∧ r.2.mem ((c.tc : Thread Cert.AdNReferenceIdeal.nD Cert.AdNReferenceIdeal.τ).loc Cert.AdNReferenceIdeal.main_arg3) = m' ((c.tc : Thread Cert.AdNReferenceIdeal.nD Cert.AdNReferenceIdeal.τ).loc Cert.AdNReferenceIdeal.main_arg3))

def preserves_AdLKernel_AdLKernelIdeal : Prop :=
  True

def algebraic_AdLKernelIdeal_AdLReferenceIdeal [hAdLKernelIdeal : Cert.AdLKernelIdeal.Facts] [hAdLReferenceIdeal : Cert.AdLReferenceIdeal.Facts] : Prop :=
  ∀ (m : (ℓ : Loc Cert.AdLKernelIdeal.nD Cert.AdLKernelIdeal.τ Cert.AdLKernelIdeal.sig) → Buf (Elt Ideal) ℓ) (g : Dev Cert.AdLKernelIdeal.nD → PrngReg)
    (m' : (ℓ : Loc Cert.AdLReferenceIdeal.nD Cert.AdLReferenceIdeal.τ Cert.AdLReferenceIdeal.sig) → Buf (Elt Ideal) ℓ) (g' : Dev Cert.AdLReferenceIdeal.nD → PrngReg), Pre_AdLKernelIdeal m →
    (∀ c : Dev Cert.AdLKernelIdeal.nD,
      m' ((c.tc : Thread Cert.AdLReferenceIdeal.nD Cert.AdLReferenceIdeal.τ).loc Cert.AdLReferenceIdeal.main_arg0) = m ((c.tc : Thread Cert.AdLKernelIdeal.nD Cert.AdLKernelIdeal.τ).loc Cert.AdLKernelIdeal.main_arg0)
      ∧ m' ((c.tc : Thread Cert.AdLReferenceIdeal.nD Cert.AdLReferenceIdeal.τ).loc Cert.AdLReferenceIdeal.main_arg1) = m ((c.tc : Thread Cert.AdLKernelIdeal.nD Cert.AdLKernelIdeal.τ).loc Cert.AdLKernelIdeal.main_arg1)
      ∧ m' ((c.tc : Thread Cert.AdLReferenceIdeal.nD Cert.AdLReferenceIdeal.τ).loc Cert.AdLReferenceIdeal.main_arg2) = m ((c.tc : Thread Cert.AdLKernelIdeal.nD Cert.AdLKernelIdeal.τ).loc Cert.AdLKernelIdeal.main_arg2)
      ∧ m' ((c.tc : Thread Cert.AdLReferenceIdeal.nD Cert.AdLReferenceIdeal.τ).loc Cert.AdLReferenceIdeal.main_arg3) = m ((c.tc : Thread Cert.AdLKernelIdeal.nD Cert.AdLKernelIdeal.τ).loc Cert.AdLKernelIdeal.main_arg3)) →
    ∃ (v0 : (c : Dev Cert.AdLKernelIdeal.nD) → Buf (Elt Ideal) ((c.tc : Thread Cert.AdLKernelIdeal.nD Cert.AdLKernelIdeal.τ).loc Cert.AdLKernelIdeal.main_v4_0)) (v1 : (c : Dev Cert.AdLKernelIdeal.nD) → Buf (Elt Ideal) ((c.tc : Thread Cert.AdLKernelIdeal.nD Cert.AdLKernelIdeal.τ).loc Cert.AdLKernelIdeal.main_v4_1)) (v2 : (c : Dev Cert.AdLKernelIdeal.nD) → Buf (Elt Ideal) ((c.tc : Thread Cert.AdLKernelIdeal.nD Cert.AdLKernelIdeal.τ).loc Cert.AdLKernelIdeal.main_v4_2)),
      θ_run (Cert.AdLKernelIdeal.defs (F := Ideal)) (onTc (τ := Cert.AdLKernelIdeal.τ) (Cert.AdLKernelIdeal.main (F := Ideal))) ⟨m, fun _ => 0, g⟩ (fun r => ∀ c : Dev Cert.AdLKernelIdeal.nD,
          r.2.mem ((c.tc : Thread Cert.AdLKernelIdeal.nD Cert.AdLKernelIdeal.τ).loc Cert.AdLKernelIdeal.main_v4_0) = v0 c
          ∧ r.2.mem ((c.tc : Thread Cert.AdLKernelIdeal.nD Cert.AdLKernelIdeal.τ).loc Cert.AdLKernelIdeal.main_v4_1) = v1 c
          ∧ r.2.mem ((c.tc : Thread Cert.AdLKernelIdeal.nD Cert.AdLKernelIdeal.τ).loc Cert.AdLKernelIdeal.main_v4_2) = v2 c
          ∧ r.2.mem ((c.tc : Thread Cert.AdLKernelIdeal.nD Cert.AdLKernelIdeal.τ).loc Cert.AdLKernelIdeal.main_arg0) = m ((c.tc : Thread Cert.AdLKernelIdeal.nD Cert.AdLKernelIdeal.τ).loc Cert.AdLKernelIdeal.main_arg0)
          ∧ r.2.mem ((c.tc : Thread Cert.AdLKernelIdeal.nD Cert.AdLKernelIdeal.τ).loc Cert.AdLKernelIdeal.main_arg1) = m ((c.tc : Thread Cert.AdLKernelIdeal.nD Cert.AdLKernelIdeal.τ).loc Cert.AdLKernelIdeal.main_arg1)
          ∧ r.2.mem ((c.tc : Thread Cert.AdLKernelIdeal.nD Cert.AdLKernelIdeal.τ).loc Cert.AdLKernelIdeal.main_arg2) = m ((c.tc : Thread Cert.AdLKernelIdeal.nD Cert.AdLKernelIdeal.τ).loc Cert.AdLKernelIdeal.main_arg2)
          ∧ r.2.mem ((c.tc : Thread Cert.AdLKernelIdeal.nD Cert.AdLKernelIdeal.τ).loc Cert.AdLKernelIdeal.main_arg3) = m ((c.tc : Thread Cert.AdLKernelIdeal.nD Cert.AdLKernelIdeal.τ).loc Cert.AdLKernelIdeal.main_arg3))
      ∧ θ_run (Cert.AdLReferenceIdeal.defs (F := Ideal)) (onTc (τ := Cert.AdLReferenceIdeal.τ) (Cert.AdLReferenceIdeal.main (F := Ideal))) ⟨m', fun _ => 0, g'⟩ (fun r => ∀ c : Dev Cert.AdLReferenceIdeal.nD,
          r.2.mem ((c.tc : Thread Cert.AdLReferenceIdeal.nD Cert.AdLReferenceIdeal.τ).loc Cert.AdLReferenceIdeal.main_v24) = v0 c
          ∧ r.2.mem ((c.tc : Thread Cert.AdLReferenceIdeal.nD Cert.AdLReferenceIdeal.τ).loc Cert.AdLReferenceIdeal.main_v25) = v1 c
          ∧ r.2.mem ((c.tc : Thread Cert.AdLReferenceIdeal.nD Cert.AdLReferenceIdeal.τ).loc Cert.AdLReferenceIdeal.main_v26) = v2 c
          ∧ r.2.mem ((c.tc : Thread Cert.AdLReferenceIdeal.nD Cert.AdLReferenceIdeal.τ).loc Cert.AdLReferenceIdeal.main_arg0) = m' ((c.tc : Thread Cert.AdLReferenceIdeal.nD Cert.AdLReferenceIdeal.τ).loc Cert.AdLReferenceIdeal.main_arg0)
          ∧ r.2.mem ((c.tc : Thread Cert.AdLReferenceIdeal.nD Cert.AdLReferenceIdeal.τ).loc Cert.AdLReferenceIdeal.main_arg1) = m' ((c.tc : Thread Cert.AdLReferenceIdeal.nD Cert.AdLReferenceIdeal.τ).loc Cert.AdLReferenceIdeal.main_arg1)
          ∧ r.2.mem ((c.tc : Thread Cert.AdLReferenceIdeal.nD Cert.AdLReferenceIdeal.τ).loc Cert.AdLReferenceIdeal.main_arg2) = m' ((c.tc : Thread Cert.AdLReferenceIdeal.nD Cert.AdLReferenceIdeal.τ).loc Cert.AdLReferenceIdeal.main_arg2)
          ∧ r.2.mem ((c.tc : Thread Cert.AdLReferenceIdeal.nD Cert.AdLReferenceIdeal.τ).loc Cert.AdLReferenceIdeal.main_arg3) = m' ((c.tc : Thread Cert.AdLReferenceIdeal.nD Cert.AdLReferenceIdeal.τ).loc Cert.AdLReferenceIdeal.main_arg3))

def preserves_AdSKernel_AdSKernelIdeal : Prop :=
  True

def algebraic_AdSKernelIdeal_AdSReferenceIdeal [hAdSKernelIdeal : Cert.AdSKernelIdeal.Facts] [hAdSReferenceIdeal : Cert.AdSReferenceIdeal.Facts] : Prop :=
  ∀ (m : (ℓ : Loc Cert.AdSKernelIdeal.nD Cert.AdSKernelIdeal.τ Cert.AdSKernelIdeal.sig) → Buf (Elt Ideal) ℓ) (g : Dev Cert.AdSKernelIdeal.nD → PrngReg)
    (m' : (ℓ : Loc Cert.AdSReferenceIdeal.nD Cert.AdSReferenceIdeal.τ Cert.AdSReferenceIdeal.sig) → Buf (Elt Ideal) ℓ) (g' : Dev Cert.AdSReferenceIdeal.nD → PrngReg), Pre_AdSKernelIdeal m →
    (∀ c : Dev Cert.AdSKernelIdeal.nD,
      m' ((c.tc : Thread Cert.AdSReferenceIdeal.nD Cert.AdSReferenceIdeal.τ).loc Cert.AdSReferenceIdeal.main_arg0) = m ((c.tc : Thread Cert.AdSKernelIdeal.nD Cert.AdSKernelIdeal.τ).loc Cert.AdSKernelIdeal.main_arg0)
      ∧ m' ((c.tc : Thread Cert.AdSReferenceIdeal.nD Cert.AdSReferenceIdeal.τ).loc Cert.AdSReferenceIdeal.main_arg1) = m ((c.tc : Thread Cert.AdSKernelIdeal.nD Cert.AdSKernelIdeal.τ).loc Cert.AdSKernelIdeal.main_arg1)
      ∧ m' ((c.tc : Thread Cert.AdSReferenceIdeal.nD Cert.AdSReferenceIdeal.τ).loc Cert.AdSReferenceIdeal.main_arg2) = m ((c.tc : Thread Cert.AdSKernelIdeal.nD Cert.AdSKernelIdeal.τ).loc Cert.AdSKernelIdeal.main_arg2)
      ∧ m' ((c.tc : Thread Cert.AdSReferenceIdeal.nD Cert.AdSReferenceIdeal.τ).loc Cert.AdSReferenceIdeal.main_arg3) = m ((c.tc : Thread Cert.AdSKernelIdeal.nD Cert.AdSKernelIdeal.τ).loc Cert.AdSKernelIdeal.main_arg3)) →
    ∃ (v0 : (c : Dev Cert.AdSKernelIdeal.nD) → Buf (Elt Ideal) ((c.tc : Thread Cert.AdSKernelIdeal.nD Cert.AdSKernelIdeal.τ).loc Cert.AdSKernelIdeal.main_v0_0)) (v1 : (c : Dev Cert.AdSKernelIdeal.nD) → Buf (Elt Ideal) ((c.tc : Thread Cert.AdSKernelIdeal.nD Cert.AdSKernelIdeal.τ).loc Cert.AdSKernelIdeal.main_v0_1)) (v2 : (c : Dev Cert.AdSKernelIdeal.nD) → Buf (Elt Ideal) ((c.tc : Thread Cert.AdSKernelIdeal.nD Cert.AdSKernelIdeal.τ).loc Cert.AdSKernelIdeal.main_v0_2)),
      θ_run (Cert.AdSKernelIdeal.defs (F := Ideal)) (onTc (τ := Cert.AdSKernelIdeal.τ) (Cert.AdSKernelIdeal.main (F := Ideal))) ⟨m, fun _ => 0, g⟩ (fun r => ∀ c : Dev Cert.AdSKernelIdeal.nD,
          r.2.mem ((c.tc : Thread Cert.AdSKernelIdeal.nD Cert.AdSKernelIdeal.τ).loc Cert.AdSKernelIdeal.main_v0_0) = v0 c
          ∧ r.2.mem ((c.tc : Thread Cert.AdSKernelIdeal.nD Cert.AdSKernelIdeal.τ).loc Cert.AdSKernelIdeal.main_v0_1) = v1 c
          ∧ r.2.mem ((c.tc : Thread Cert.AdSKernelIdeal.nD Cert.AdSKernelIdeal.τ).loc Cert.AdSKernelIdeal.main_v0_2) = v2 c
          ∧ r.2.mem ((c.tc : Thread Cert.AdSKernelIdeal.nD Cert.AdSKernelIdeal.τ).loc Cert.AdSKernelIdeal.main_arg0) = m ((c.tc : Thread Cert.AdSKernelIdeal.nD Cert.AdSKernelIdeal.τ).loc Cert.AdSKernelIdeal.main_arg0)
          ∧ r.2.mem ((c.tc : Thread Cert.AdSKernelIdeal.nD Cert.AdSKernelIdeal.τ).loc Cert.AdSKernelIdeal.main_arg1) = m ((c.tc : Thread Cert.AdSKernelIdeal.nD Cert.AdSKernelIdeal.τ).loc Cert.AdSKernelIdeal.main_arg1)
          ∧ r.2.mem ((c.tc : Thread Cert.AdSKernelIdeal.nD Cert.AdSKernelIdeal.τ).loc Cert.AdSKernelIdeal.main_arg2) = m ((c.tc : Thread Cert.AdSKernelIdeal.nD Cert.AdSKernelIdeal.τ).loc Cert.AdSKernelIdeal.main_arg2)
          ∧ r.2.mem ((c.tc : Thread Cert.AdSKernelIdeal.nD Cert.AdSKernelIdeal.τ).loc Cert.AdSKernelIdeal.main_arg3) = m ((c.tc : Thread Cert.AdSKernelIdeal.nD Cert.AdSKernelIdeal.τ).loc Cert.AdSKernelIdeal.main_arg3))
      ∧ θ_run (Cert.AdSReferenceIdeal.defs (F := Ideal)) (onTc (τ := Cert.AdSReferenceIdeal.τ) (Cert.AdSReferenceIdeal.main (F := Ideal))) ⟨m', fun _ => 0, g'⟩ (fun r => ∀ c : Dev Cert.AdSReferenceIdeal.nD,
          r.2.mem ((c.tc : Thread Cert.AdSReferenceIdeal.nD Cert.AdSReferenceIdeal.τ).loc Cert.AdSReferenceIdeal.main_v23) = v0 c
          ∧ r.2.mem ((c.tc : Thread Cert.AdSReferenceIdeal.nD Cert.AdSReferenceIdeal.τ).loc Cert.AdSReferenceIdeal.main_v4) = v1 c
          ∧ r.2.mem ((c.tc : Thread Cert.AdSReferenceIdeal.nD Cert.AdSReferenceIdeal.τ).loc Cert.AdSReferenceIdeal.main_v10) = v2 c
          ∧ r.2.mem ((c.tc : Thread Cert.AdSReferenceIdeal.nD Cert.AdSReferenceIdeal.τ).loc Cert.AdSReferenceIdeal.main_arg0) = m' ((c.tc : Thread Cert.AdSReferenceIdeal.nD Cert.AdSReferenceIdeal.τ).loc Cert.AdSReferenceIdeal.main_arg0)
          ∧ r.2.mem ((c.tc : Thread Cert.AdSReferenceIdeal.nD Cert.AdSReferenceIdeal.τ).loc Cert.AdSReferenceIdeal.main_arg1) = m' ((c.tc : Thread Cert.AdSReferenceIdeal.nD Cert.AdSReferenceIdeal.τ).loc Cert.AdSReferenceIdeal.main_arg1)
          ∧ r.2.mem ((c.tc : Thread Cert.AdSReferenceIdeal.nD Cert.AdSReferenceIdeal.τ).loc Cert.AdSReferenceIdeal.main_arg2) = m' ((c.tc : Thread Cert.AdSReferenceIdeal.nD Cert.AdSReferenceIdeal.τ).loc Cert.AdSReferenceIdeal.main_arg2)
          ∧ r.2.mem ((c.tc : Thread Cert.AdSReferenceIdeal.nD Cert.AdSReferenceIdeal.τ).loc Cert.AdSReferenceIdeal.main_arg3) = m' ((c.tc : Thread Cert.AdSReferenceIdeal.nD Cert.AdSReferenceIdeal.τ).loc Cert.AdSReferenceIdeal.main_arg3))

def preserves_AdBKernel_AdBKernelIdeal : Prop :=
  True

def algebraic_AdBKernelIdeal_AdBReferenceIdeal [hAdBKernelIdeal : Cert.AdBKernelIdeal.Facts] [hAdBReferenceIdeal : Cert.AdBReferenceIdeal.Facts] : Prop :=
  ∀ (m : (ℓ : Loc Cert.AdBKernelIdeal.nD Cert.AdBKernelIdeal.τ Cert.AdBKernelIdeal.sig) → Buf (Elt Ideal) ℓ) (g : Dev Cert.AdBKernelIdeal.nD → PrngReg)
    (m' : (ℓ : Loc Cert.AdBReferenceIdeal.nD Cert.AdBReferenceIdeal.τ Cert.AdBReferenceIdeal.sig) → Buf (Elt Ideal) ℓ) (g' : Dev Cert.AdBReferenceIdeal.nD → PrngReg), Pre_AdBKernelIdeal m →
    (∀ c : Dev Cert.AdBKernelIdeal.nD,
      m' ((c.tc : Thread Cert.AdBReferenceIdeal.nD Cert.AdBReferenceIdeal.τ).loc Cert.AdBReferenceIdeal.main_arg0) = m ((c.tc : Thread Cert.AdBKernelIdeal.nD Cert.AdBKernelIdeal.τ).loc Cert.AdBKernelIdeal.main_arg0)
      ∧ m' ((c.tc : Thread Cert.AdBReferenceIdeal.nD Cert.AdBReferenceIdeal.τ).loc Cert.AdBReferenceIdeal.main_arg1) = m ((c.tc : Thread Cert.AdBKernelIdeal.nD Cert.AdBKernelIdeal.τ).loc Cert.AdBKernelIdeal.main_arg1)
      ∧ m' ((c.tc : Thread Cert.AdBReferenceIdeal.nD Cert.AdBReferenceIdeal.τ).loc Cert.AdBReferenceIdeal.main_arg2) = m ((c.tc : Thread Cert.AdBKernelIdeal.nD Cert.AdBKernelIdeal.τ).loc Cert.AdBKernelIdeal.main_arg2)
      ∧ m' ((c.tc : Thread Cert.AdBReferenceIdeal.nD Cert.AdBReferenceIdeal.τ).loc Cert.AdBReferenceIdeal.main_arg3) = m ((c.tc : Thread Cert.AdBKernelIdeal.nD Cert.AdBKernelIdeal.τ).loc Cert.AdBKernelIdeal.main_arg3)) →
    ∃ (v0 : (c : Dev Cert.AdBKernelIdeal.nD) → Buf (Elt Ideal) ((c.tc : Thread Cert.AdBKernelIdeal.nD Cert.AdBKernelIdeal.τ).loc Cert.AdBKernelIdeal.main_v4_0)) (v1 : (c : Dev Cert.AdBKernelIdeal.nD) → Buf (Elt Ideal) ((c.tc : Thread Cert.AdBKernelIdeal.nD Cert.AdBKernelIdeal.τ).loc Cert.AdBKernelIdeal.main_v4_1)) (v2 : (c : Dev Cert.AdBKernelIdeal.nD) → Buf (Elt Ideal) ((c.tc : Thread Cert.AdBKernelIdeal.nD Cert.AdBKernelIdeal.τ).loc Cert.AdBKernelIdeal.main_v4_2)),
      θ_run (Cert.AdBKernelIdeal.defs (F := Ideal)) (onTc (τ := Cert.AdBKernelIdeal.τ) (Cert.AdBKernelIdeal.main (F := Ideal))) ⟨m, fun _ => 0, g⟩ (fun r => ∀ c : Dev Cert.AdBKernelIdeal.nD,
          r.2.mem ((c.tc : Thread Cert.AdBKernelIdeal.nD Cert.AdBKernelIdeal.τ).loc Cert.AdBKernelIdeal.main_v4_0) = v0 c
          ∧ r.2.mem ((c.tc : Thread Cert.AdBKernelIdeal.nD Cert.AdBKernelIdeal.τ).loc Cert.AdBKernelIdeal.main_v4_1) = v1 c
          ∧ r.2.mem ((c.tc : Thread Cert.AdBKernelIdeal.nD Cert.AdBKernelIdeal.τ).loc Cert.AdBKernelIdeal.main_v4_2) = v2 c
          ∧ r.2.mem ((c.tc : Thread Cert.AdBKernelIdeal.nD Cert.AdBKernelIdeal.τ).loc Cert.AdBKernelIdeal.main_arg0) = m ((c.tc : Thread Cert.AdBKernelIdeal.nD Cert.AdBKernelIdeal.τ).loc Cert.AdBKernelIdeal.main_arg0)
          ∧ r.2.mem ((c.tc : Thread Cert.AdBKernelIdeal.nD Cert.AdBKernelIdeal.τ).loc Cert.AdBKernelIdeal.main_arg1) = m ((c.tc : Thread Cert.AdBKernelIdeal.nD Cert.AdBKernelIdeal.τ).loc Cert.AdBKernelIdeal.main_arg1)
          ∧ r.2.mem ((c.tc : Thread Cert.AdBKernelIdeal.nD Cert.AdBKernelIdeal.τ).loc Cert.AdBKernelIdeal.main_arg2) = m ((c.tc : Thread Cert.AdBKernelIdeal.nD Cert.AdBKernelIdeal.τ).loc Cert.AdBKernelIdeal.main_arg2)
          ∧ r.2.mem ((c.tc : Thread Cert.AdBKernelIdeal.nD Cert.AdBKernelIdeal.τ).loc Cert.AdBKernelIdeal.main_arg3) = m ((c.tc : Thread Cert.AdBKernelIdeal.nD Cert.AdBKernelIdeal.τ).loc Cert.AdBKernelIdeal.main_arg3))
      ∧ θ_run (Cert.AdBReferenceIdeal.defs (F := Ideal)) (onTc (τ := Cert.AdBReferenceIdeal.τ) (Cert.AdBReferenceIdeal.main (F := Ideal))) ⟨m', fun _ => 0, g'⟩ (fun r => ∀ c : Dev Cert.AdBReferenceIdeal.nD,
          r.2.mem ((c.tc : Thread Cert.AdBReferenceIdeal.nD Cert.AdBReferenceIdeal.τ).loc Cert.AdBReferenceIdeal.main_v24) = v0 c
          ∧ r.2.mem ((c.tc : Thread Cert.AdBReferenceIdeal.nD Cert.AdBReferenceIdeal.τ).loc Cert.AdBReferenceIdeal.main_v25) = v1 c
          ∧ r.2.mem ((c.tc : Thread Cert.AdBReferenceIdeal.nD Cert.AdBReferenceIdeal.τ).loc Cert.AdBReferenceIdeal.main_v26) = v2 c
          ∧ r.2.mem ((c.tc : Thread Cert.AdBReferenceIdeal.nD Cert.AdBReferenceIdeal.τ).loc Cert.AdBReferenceIdeal.main_arg0) = m' ((c.tc : Thread Cert.AdBReferenceIdeal.nD Cert.AdBReferenceIdeal.τ).loc Cert.AdBReferenceIdeal.main_arg0)
          ∧ r.2.mem ((c.tc : Thread Cert.AdBReferenceIdeal.nD Cert.AdBReferenceIdeal.τ).loc Cert.AdBReferenceIdeal.main_arg1) = m' ((c.tc : Thread Cert.AdBReferenceIdeal.nD Cert.AdBReferenceIdeal.τ).loc Cert.AdBReferenceIdeal.main_arg1)
          ∧ r.2.mem ((c.tc : Thread Cert.AdBReferenceIdeal.nD Cert.AdBReferenceIdeal.τ).loc Cert.AdBReferenceIdeal.main_arg2) = m' ((c.tc : Thread Cert.AdBReferenceIdeal.nD Cert.AdBReferenceIdeal.τ).loc Cert.AdBReferenceIdeal.main_arg2)
          ∧ r.2.mem ((c.tc : Thread Cert.AdBReferenceIdeal.nD Cert.AdBReferenceIdeal.τ).loc Cert.AdBReferenceIdeal.main_arg3) = m' ((c.tc : Thread Cert.AdBReferenceIdeal.nD Cert.AdBReferenceIdeal.τ).loc Cert.AdBReferenceIdeal.main_arg3))

def preserves_AdCKernel_AdCKernelIdeal : Prop :=
  True

def algebraic_AdCKernelIdeal_AdCReferenceIdeal [hAdCKernelIdeal : Cert.AdCKernelIdeal.Facts] [hAdCReferenceIdeal : Cert.AdCReferenceIdeal.Facts] : Prop :=
  ∀ (m : (ℓ : Loc Cert.AdCKernelIdeal.nD Cert.AdCKernelIdeal.τ Cert.AdCKernelIdeal.sig) → Buf (Elt Ideal) ℓ) (g : Dev Cert.AdCKernelIdeal.nD → PrngReg)
    (m' : (ℓ : Loc Cert.AdCReferenceIdeal.nD Cert.AdCReferenceIdeal.τ Cert.AdCReferenceIdeal.sig) → Buf (Elt Ideal) ℓ) (g' : Dev Cert.AdCReferenceIdeal.nD → PrngReg), Pre_AdCKernelIdeal m →
    (∀ c : Dev Cert.AdCKernelIdeal.nD,
      m' ((c.tc : Thread Cert.AdCReferenceIdeal.nD Cert.AdCReferenceIdeal.τ).loc Cert.AdCReferenceIdeal.main_arg0) = m ((c.tc : Thread Cert.AdCKernelIdeal.nD Cert.AdCKernelIdeal.τ).loc Cert.AdCKernelIdeal.main_arg0)
      ∧ m' ((c.tc : Thread Cert.AdCReferenceIdeal.nD Cert.AdCReferenceIdeal.τ).loc Cert.AdCReferenceIdeal.main_arg1) = m ((c.tc : Thread Cert.AdCKernelIdeal.nD Cert.AdCKernelIdeal.τ).loc Cert.AdCKernelIdeal.main_arg1)
      ∧ m' ((c.tc : Thread Cert.AdCReferenceIdeal.nD Cert.AdCReferenceIdeal.τ).loc Cert.AdCReferenceIdeal.main_arg2) = m ((c.tc : Thread Cert.AdCKernelIdeal.nD Cert.AdCKernelIdeal.τ).loc Cert.AdCKernelIdeal.main_arg2)
      ∧ m' ((c.tc : Thread Cert.AdCReferenceIdeal.nD Cert.AdCReferenceIdeal.τ).loc Cert.AdCReferenceIdeal.main_arg3) = m ((c.tc : Thread Cert.AdCKernelIdeal.nD Cert.AdCKernelIdeal.τ).loc Cert.AdCKernelIdeal.main_arg3)) →
    ∃ (v0 : (c : Dev Cert.AdCKernelIdeal.nD) → Buf (Elt Ideal) ((c.tc : Thread Cert.AdCKernelIdeal.nD Cert.AdCKernelIdeal.τ).loc Cert.AdCKernelIdeal.main_v4_0)) (v1 : (c : Dev Cert.AdCKernelIdeal.nD) → Buf (Elt Ideal) ((c.tc : Thread Cert.AdCKernelIdeal.nD Cert.AdCKernelIdeal.τ).loc Cert.AdCKernelIdeal.main_v4_1)) (v2 : (c : Dev Cert.AdCKernelIdeal.nD) → Buf (Elt Ideal) ((c.tc : Thread Cert.AdCKernelIdeal.nD Cert.AdCKernelIdeal.τ).loc Cert.AdCKernelIdeal.main_v4_2)),
      θ_run (Cert.AdCKernelIdeal.defs (F := Ideal)) (onTc (τ := Cert.AdCKernelIdeal.τ) (Cert.AdCKernelIdeal.main (F := Ideal))) ⟨m, fun _ => 0, g⟩ (fun r => ∀ c : Dev Cert.AdCKernelIdeal.nD,
          r.2.mem ((c.tc : Thread Cert.AdCKernelIdeal.nD Cert.AdCKernelIdeal.τ).loc Cert.AdCKernelIdeal.main_v4_0) = v0 c
          ∧ r.2.mem ((c.tc : Thread Cert.AdCKernelIdeal.nD Cert.AdCKernelIdeal.τ).loc Cert.AdCKernelIdeal.main_v4_1) = v1 c
          ∧ r.2.mem ((c.tc : Thread Cert.AdCKernelIdeal.nD Cert.AdCKernelIdeal.τ).loc Cert.AdCKernelIdeal.main_v4_2) = v2 c
          ∧ r.2.mem ((c.tc : Thread Cert.AdCKernelIdeal.nD Cert.AdCKernelIdeal.τ).loc Cert.AdCKernelIdeal.main_arg0) = m ((c.tc : Thread Cert.AdCKernelIdeal.nD Cert.AdCKernelIdeal.τ).loc Cert.AdCKernelIdeal.main_arg0)
          ∧ r.2.mem ((c.tc : Thread Cert.AdCKernelIdeal.nD Cert.AdCKernelIdeal.τ).loc Cert.AdCKernelIdeal.main_arg1) = m ((c.tc : Thread Cert.AdCKernelIdeal.nD Cert.AdCKernelIdeal.τ).loc Cert.AdCKernelIdeal.main_arg1)
          ∧ r.2.mem ((c.tc : Thread Cert.AdCKernelIdeal.nD Cert.AdCKernelIdeal.τ).loc Cert.AdCKernelIdeal.main_arg2) = m ((c.tc : Thread Cert.AdCKernelIdeal.nD Cert.AdCKernelIdeal.τ).loc Cert.AdCKernelIdeal.main_arg2)
          ∧ r.2.mem ((c.tc : Thread Cert.AdCKernelIdeal.nD Cert.AdCKernelIdeal.τ).loc Cert.AdCKernelIdeal.main_arg3) = m ((c.tc : Thread Cert.AdCKernelIdeal.nD Cert.AdCKernelIdeal.τ).loc Cert.AdCKernelIdeal.main_arg3))
      ∧ θ_run (Cert.AdCReferenceIdeal.defs (F := Ideal)) (onTc (τ := Cert.AdCReferenceIdeal.τ) (Cert.AdCReferenceIdeal.main (F := Ideal))) ⟨m', fun _ => 0, g'⟩ (fun r => ∀ c : Dev Cert.AdCReferenceIdeal.nD,
          r.2.mem ((c.tc : Thread Cert.AdCReferenceIdeal.nD Cert.AdCReferenceIdeal.τ).loc Cert.AdCReferenceIdeal.main_v24) = v0 c
          ∧ r.2.mem ((c.tc : Thread Cert.AdCReferenceIdeal.nD Cert.AdCReferenceIdeal.τ).loc Cert.AdCReferenceIdeal.main_v25) = v1 c
          ∧ r.2.mem ((c.tc : Thread Cert.AdCReferenceIdeal.nD Cert.AdCReferenceIdeal.τ).loc Cert.AdCReferenceIdeal.main_v26) = v2 c
          ∧ r.2.mem ((c.tc : Thread Cert.AdCReferenceIdeal.nD Cert.AdCReferenceIdeal.τ).loc Cert.AdCReferenceIdeal.main_arg0) = m' ((c.tc : Thread Cert.AdCReferenceIdeal.nD Cert.AdCReferenceIdeal.τ).loc Cert.AdCReferenceIdeal.main_arg0)
          ∧ r.2.mem ((c.tc : Thread Cert.AdCReferenceIdeal.nD Cert.AdCReferenceIdeal.τ).loc Cert.AdCReferenceIdeal.main_arg1) = m' ((c.tc : Thread Cert.AdCReferenceIdeal.nD Cert.AdCReferenceIdeal.τ).loc Cert.AdCReferenceIdeal.main_arg1)
          ∧ r.2.mem ((c.tc : Thread Cert.AdCReferenceIdeal.nD Cert.AdCReferenceIdeal.τ).loc Cert.AdCReferenceIdeal.main_arg2) = m' ((c.tc : Thread Cert.AdCReferenceIdeal.nD Cert.AdCReferenceIdeal.τ).loc Cert.AdCReferenceIdeal.main_arg2)
          ∧ r.2.mem ((c.tc : Thread Cert.AdCReferenceIdeal.nD Cert.AdCReferenceIdeal.τ).loc Cert.AdCReferenceIdeal.main_arg3) = m' ((c.tc : Thread Cert.AdCReferenceIdeal.nD Cert.AdCReferenceIdeal.τ).loc Cert.AdCReferenceIdeal.main_arg3))

def preserves_AdVKernel_AdVKernelIdeal : Prop :=
  True

def algebraic_AdVKernelIdeal_AdVReferenceIdeal [hAdVKernelIdeal : Cert.AdVKernelIdeal.Facts] [hAdVReferenceIdeal : Cert.AdVReferenceIdeal.Facts] : Prop :=
  ∀ (m : (ℓ : Loc Cert.AdVKernelIdeal.nD Cert.AdVKernelIdeal.τ Cert.AdVKernelIdeal.sig) → Buf (Elt Ideal) ℓ) (g : Dev Cert.AdVKernelIdeal.nD → PrngReg)
    (m' : (ℓ : Loc Cert.AdVReferenceIdeal.nD Cert.AdVReferenceIdeal.τ Cert.AdVReferenceIdeal.sig) → Buf (Elt Ideal) ℓ) (g' : Dev Cert.AdVReferenceIdeal.nD → PrngReg), Pre_AdVKernelIdeal m →
    (∀ c : Dev Cert.AdVKernelIdeal.nD,
      m' ((c.tc : Thread Cert.AdVReferenceIdeal.nD Cert.AdVReferenceIdeal.τ).loc Cert.AdVReferenceIdeal.main_arg0) = m ((c.tc : Thread Cert.AdVKernelIdeal.nD Cert.AdVKernelIdeal.τ).loc Cert.AdVKernelIdeal.main_arg0)
      ∧ m' ((c.tc : Thread Cert.AdVReferenceIdeal.nD Cert.AdVReferenceIdeal.τ).loc Cert.AdVReferenceIdeal.main_arg1) = m ((c.tc : Thread Cert.AdVKernelIdeal.nD Cert.AdVKernelIdeal.τ).loc Cert.AdVKernelIdeal.main_arg1)
      ∧ m' ((c.tc : Thread Cert.AdVReferenceIdeal.nD Cert.AdVReferenceIdeal.τ).loc Cert.AdVReferenceIdeal.main_arg2) = m ((c.tc : Thread Cert.AdVKernelIdeal.nD Cert.AdVKernelIdeal.τ).loc Cert.AdVKernelIdeal.main_arg2)
      ∧ m' ((c.tc : Thread Cert.AdVReferenceIdeal.nD Cert.AdVReferenceIdeal.τ).loc Cert.AdVReferenceIdeal.main_arg3) = m ((c.tc : Thread Cert.AdVKernelIdeal.nD Cert.AdVKernelIdeal.τ).loc Cert.AdVKernelIdeal.main_arg3)) →
    ∃ (v0 : (c : Dev Cert.AdVKernelIdeal.nD) → Buf (Elt Ideal) ((c.tc : Thread Cert.AdVKernelIdeal.nD Cert.AdVKernelIdeal.τ).loc Cert.AdVKernelIdeal.main_v0_0)) (v1 : (c : Dev Cert.AdVKernelIdeal.nD) → Buf (Elt Ideal) ((c.tc : Thread Cert.AdVKernelIdeal.nD Cert.AdVKernelIdeal.τ).loc Cert.AdVKernelIdeal.main_v0_1)) (v2 : (c : Dev Cert.AdVKernelIdeal.nD) → Buf (Elt Ideal) ((c.tc : Thread Cert.AdVKernelIdeal.nD Cert.AdVKernelIdeal.τ).loc Cert.AdVKernelIdeal.main_v0_2)),
      θ_run (Cert.AdVKernelIdeal.defs (F := Ideal)) (onTc (τ := Cert.AdVKernelIdeal.τ) (Cert.AdVKernelIdeal.main (F := Ideal))) ⟨m, fun _ => 0, g⟩ (fun r => ∀ c : Dev Cert.AdVKernelIdeal.nD,
          r.2.mem ((c.tc : Thread Cert.AdVKernelIdeal.nD Cert.AdVKernelIdeal.τ).loc Cert.AdVKernelIdeal.main_v0_0) = v0 c
          ∧ r.2.mem ((c.tc : Thread Cert.AdVKernelIdeal.nD Cert.AdVKernelIdeal.τ).loc Cert.AdVKernelIdeal.main_v0_1) = v1 c
          ∧ r.2.mem ((c.tc : Thread Cert.AdVKernelIdeal.nD Cert.AdVKernelIdeal.τ).loc Cert.AdVKernelIdeal.main_v0_2) = v2 c
          ∧ r.2.mem ((c.tc : Thread Cert.AdVKernelIdeal.nD Cert.AdVKernelIdeal.τ).loc Cert.AdVKernelIdeal.main_arg0) = m ((c.tc : Thread Cert.AdVKernelIdeal.nD Cert.AdVKernelIdeal.τ).loc Cert.AdVKernelIdeal.main_arg0)
          ∧ r.2.mem ((c.tc : Thread Cert.AdVKernelIdeal.nD Cert.AdVKernelIdeal.τ).loc Cert.AdVKernelIdeal.main_arg1) = m ((c.tc : Thread Cert.AdVKernelIdeal.nD Cert.AdVKernelIdeal.τ).loc Cert.AdVKernelIdeal.main_arg1)
          ∧ r.2.mem ((c.tc : Thread Cert.AdVKernelIdeal.nD Cert.AdVKernelIdeal.τ).loc Cert.AdVKernelIdeal.main_arg2) = m ((c.tc : Thread Cert.AdVKernelIdeal.nD Cert.AdVKernelIdeal.τ).loc Cert.AdVKernelIdeal.main_arg2)
          ∧ r.2.mem ((c.tc : Thread Cert.AdVKernelIdeal.nD Cert.AdVKernelIdeal.τ).loc Cert.AdVKernelIdeal.main_arg3) = m ((c.tc : Thread Cert.AdVKernelIdeal.nD Cert.AdVKernelIdeal.τ).loc Cert.AdVKernelIdeal.main_arg3))
      ∧ θ_run (Cert.AdVReferenceIdeal.defs (F := Ideal)) (onTc (τ := Cert.AdVReferenceIdeal.τ) (Cert.AdVReferenceIdeal.main (F := Ideal))) ⟨m', fun _ => 0, g'⟩ (fun r => ∀ c : Dev Cert.AdVReferenceIdeal.nD,
          r.2.mem ((c.tc : Thread Cert.AdVReferenceIdeal.nD Cert.AdVReferenceIdeal.τ).loc Cert.AdVReferenceIdeal.main_v23) = v0 c
          ∧ r.2.mem ((c.tc : Thread Cert.AdVReferenceIdeal.nD Cert.AdVReferenceIdeal.τ).loc Cert.AdVReferenceIdeal.main_v4) = v1 c
          ∧ r.2.mem ((c.tc : Thread Cert.AdVReferenceIdeal.nD Cert.AdVReferenceIdeal.τ).loc Cert.AdVReferenceIdeal.main_v10) = v2 c
          ∧ r.2.mem ((c.tc : Thread Cert.AdVReferenceIdeal.nD Cert.AdVReferenceIdeal.τ).loc Cert.AdVReferenceIdeal.main_arg0) = m' ((c.tc : Thread Cert.AdVReferenceIdeal.nD Cert.AdVReferenceIdeal.τ).loc Cert.AdVReferenceIdeal.main_arg0)
          ∧ r.2.mem ((c.tc : Thread Cert.AdVReferenceIdeal.nD Cert.AdVReferenceIdeal.τ).loc Cert.AdVReferenceIdeal.main_arg1) = m' ((c.tc : Thread Cert.AdVReferenceIdeal.nD Cert.AdVReferenceIdeal.τ).loc Cert.AdVReferenceIdeal.main_arg1)
          ∧ r.2.mem ((c.tc : Thread Cert.AdVReferenceIdeal.nD Cert.AdVReferenceIdeal.τ).loc Cert.AdVReferenceIdeal.main_arg2) = m' ((c.tc : Thread Cert.AdVReferenceIdeal.nD Cert.AdVReferenceIdeal.τ).loc Cert.AdVReferenceIdeal.main_arg2)
          ∧ r.2.mem ((c.tc : Thread Cert.AdVReferenceIdeal.nD Cert.AdVReferenceIdeal.τ).loc Cert.AdVReferenceIdeal.main_arg3) = m' ((c.tc : Thread Cert.AdVReferenceIdeal.nD Cert.AdVReferenceIdeal.τ).loc Cert.AdVReferenceIdeal.main_arg3))

def preserves_AdHKernel_AdHKernelIdeal : Prop :=
  True

def algebraic_AdHKernelIdeal_AdHReferenceIdeal [hAdHKernelIdeal : Cert.AdHKernelIdeal.Facts] [hAdHReferenceIdeal : Cert.AdHReferenceIdeal.Facts] : Prop :=
  ∀ (m : (ℓ : Loc Cert.AdHKernelIdeal.nD Cert.AdHKernelIdeal.τ Cert.AdHKernelIdeal.sig) → Buf (Elt Ideal) ℓ) (g : Dev Cert.AdHKernelIdeal.nD → PrngReg)
    (m' : (ℓ : Loc Cert.AdHReferenceIdeal.nD Cert.AdHReferenceIdeal.τ Cert.AdHReferenceIdeal.sig) → Buf (Elt Ideal) ℓ) (g' : Dev Cert.AdHReferenceIdeal.nD → PrngReg), Pre_AdHKernelIdeal m →
    (∀ c : Dev Cert.AdHKernelIdeal.nD,
      m' ((c.tc : Thread Cert.AdHReferenceIdeal.nD Cert.AdHReferenceIdeal.τ).loc Cert.AdHReferenceIdeal.main_arg0) = m ((c.tc : Thread Cert.AdHKernelIdeal.nD Cert.AdHKernelIdeal.τ).loc Cert.AdHKernelIdeal.main_arg0)
      ∧ m' ((c.tc : Thread Cert.AdHReferenceIdeal.nD Cert.AdHReferenceIdeal.τ).loc Cert.AdHReferenceIdeal.main_arg1) = m ((c.tc : Thread Cert.AdHKernelIdeal.nD Cert.AdHKernelIdeal.τ).loc Cert.AdHKernelIdeal.main_arg1)
      ∧ m' ((c.tc : Thread Cert.AdHReferenceIdeal.nD Cert.AdHReferenceIdeal.τ).loc Cert.AdHReferenceIdeal.main_arg2) = m ((c.tc : Thread Cert.AdHKernelIdeal.nD Cert.AdHKernelIdeal.τ).loc Cert.AdHKernelIdeal.main_arg2)
      ∧ m' ((c.tc : Thread Cert.AdHReferenceIdeal.nD Cert.AdHReferenceIdeal.τ).loc Cert.AdHReferenceIdeal.main_arg3) = m ((c.tc : Thread Cert.AdHKernelIdeal.nD Cert.AdHKernelIdeal.τ).loc Cert.AdHKernelIdeal.main_arg3)) →
    ∃ (v0 : (c : Dev Cert.AdHKernelIdeal.nD) → Buf (Elt Ideal) ((c.tc : Thread Cert.AdHKernelIdeal.nD Cert.AdHKernelIdeal.τ).loc Cert.AdHKernelIdeal.main_v0_0)) (v1 : (c : Dev Cert.AdHKernelIdeal.nD) → Buf (Elt Ideal) ((c.tc : Thread Cert.AdHKernelIdeal.nD Cert.AdHKernelIdeal.τ).loc Cert.AdHKernelIdeal.main_v0_1)) (v2 : (c : Dev Cert.AdHKernelIdeal.nD) → Buf (Elt Ideal) ((c.tc : Thread Cert.AdHKernelIdeal.nD Cert.AdHKernelIdeal.τ).loc Cert.AdHKernelIdeal.main_v0_2)),
      θ_run (Cert.AdHKernelIdeal.defs (F := Ideal)) (onTc (τ := Cert.AdHKernelIdeal.τ) (Cert.AdHKernelIdeal.main (F := Ideal))) ⟨m, fun _ => 0, g⟩ (fun r => ∀ c : Dev Cert.AdHKernelIdeal.nD,
          r.2.mem ((c.tc : Thread Cert.AdHKernelIdeal.nD Cert.AdHKernelIdeal.τ).loc Cert.AdHKernelIdeal.main_v0_0) = v0 c
          ∧ r.2.mem ((c.tc : Thread Cert.AdHKernelIdeal.nD Cert.AdHKernelIdeal.τ).loc Cert.AdHKernelIdeal.main_v0_1) = v1 c
          ∧ r.2.mem ((c.tc : Thread Cert.AdHKernelIdeal.nD Cert.AdHKernelIdeal.τ).loc Cert.AdHKernelIdeal.main_v0_2) = v2 c
          ∧ r.2.mem ((c.tc : Thread Cert.AdHKernelIdeal.nD Cert.AdHKernelIdeal.τ).loc Cert.AdHKernelIdeal.main_arg0) = m ((c.tc : Thread Cert.AdHKernelIdeal.nD Cert.AdHKernelIdeal.τ).loc Cert.AdHKernelIdeal.main_arg0)
          ∧ r.2.mem ((c.tc : Thread Cert.AdHKernelIdeal.nD Cert.AdHKernelIdeal.τ).loc Cert.AdHKernelIdeal.main_arg1) = m ((c.tc : Thread Cert.AdHKernelIdeal.nD Cert.AdHKernelIdeal.τ).loc Cert.AdHKernelIdeal.main_arg1)
          ∧ r.2.mem ((c.tc : Thread Cert.AdHKernelIdeal.nD Cert.AdHKernelIdeal.τ).loc Cert.AdHKernelIdeal.main_arg2) = m ((c.tc : Thread Cert.AdHKernelIdeal.nD Cert.AdHKernelIdeal.τ).loc Cert.AdHKernelIdeal.main_arg2)
          ∧ r.2.mem ((c.tc : Thread Cert.AdHKernelIdeal.nD Cert.AdHKernelIdeal.τ).loc Cert.AdHKernelIdeal.main_arg3) = m ((c.tc : Thread Cert.AdHKernelIdeal.nD Cert.AdHKernelIdeal.τ).loc Cert.AdHKernelIdeal.main_arg3))
      ∧ θ_run (Cert.AdHReferenceIdeal.defs (F := Ideal)) (onTc (τ := Cert.AdHReferenceIdeal.τ) (Cert.AdHReferenceIdeal.main (F := Ideal))) ⟨m', fun _ => 0, g'⟩ (fun r => ∀ c : Dev Cert.AdHReferenceIdeal.nD,
          r.2.mem ((c.tc : Thread Cert.AdHReferenceIdeal.nD Cert.AdHReferenceIdeal.τ).loc Cert.AdHReferenceIdeal.main_v23) = v0 c
          ∧ r.2.mem ((c.tc : Thread Cert.AdHReferenceIdeal.nD Cert.AdHReferenceIdeal.τ).loc Cert.AdHReferenceIdeal.main_v4) = v1 c
          ∧ r.2.mem ((c.tc : Thread Cert.AdHReferenceIdeal.nD Cert.AdHReferenceIdeal.τ).loc Cert.AdHReferenceIdeal.main_v10) = v2 c
          ∧ r.2.mem ((c.tc : Thread Cert.AdHReferenceIdeal.nD Cert.AdHReferenceIdeal.τ).loc Cert.AdHReferenceIdeal.main_arg0) = m' ((c.tc : Thread Cert.AdHReferenceIdeal.nD Cert.AdHReferenceIdeal.τ).loc Cert.AdHReferenceIdeal.main_arg0)
          ∧ r.2.mem ((c.tc : Thread Cert.AdHReferenceIdeal.nD Cert.AdHReferenceIdeal.τ).loc Cert.AdHReferenceIdeal.main_arg1) = m' ((c.tc : Thread Cert.AdHReferenceIdeal.nD Cert.AdHReferenceIdeal.τ).loc Cert.AdHReferenceIdeal.main_arg1)
          ∧ r.2.mem ((c.tc : Thread Cert.AdHReferenceIdeal.nD Cert.AdHReferenceIdeal.τ).loc Cert.AdHReferenceIdeal.main_arg2) = m' ((c.tc : Thread Cert.AdHReferenceIdeal.nD Cert.AdHReferenceIdeal.τ).loc Cert.AdHReferenceIdeal.main_arg2)
          ∧ r.2.mem ((c.tc : Thread Cert.AdHReferenceIdeal.nD Cert.AdHReferenceIdeal.τ).loc Cert.AdHReferenceIdeal.main_arg3) = m' ((c.tc : Thread Cert.AdHReferenceIdeal.nD Cert.AdHReferenceIdeal.τ).loc Cert.AdHReferenceIdeal.main_arg3))

def preserves_AdFKernel_AdFKernelIdeal : Prop :=
  True

def algebraic_AdFKernelIdeal_AdFReferenceIdeal [hAdFKernelIdeal : Cert.AdFKernelIdeal.Facts] [hAdFReferenceIdeal : Cert.AdFReferenceIdeal.Facts] : Prop :=
  ∀ (m : (ℓ : Loc Cert.AdFKernelIdeal.nD Cert.AdFKernelIdeal.τ Cert.AdFKernelIdeal.sig) → Buf (Elt Ideal) ℓ) (g : Dev Cert.AdFKernelIdeal.nD → PrngReg)
    (m' : (ℓ : Loc Cert.AdFReferenceIdeal.nD Cert.AdFReferenceIdeal.τ Cert.AdFReferenceIdeal.sig) → Buf (Elt Ideal) ℓ) (g' : Dev Cert.AdFReferenceIdeal.nD → PrngReg), Pre_AdFKernelIdeal m →
    (∀ c : Dev Cert.AdFKernelIdeal.nD,
      m' ((c.tc : Thread Cert.AdFReferenceIdeal.nD Cert.AdFReferenceIdeal.τ).loc Cert.AdFReferenceIdeal.main_arg0) = m ((c.tc : Thread Cert.AdFKernelIdeal.nD Cert.AdFKernelIdeal.τ).loc Cert.AdFKernelIdeal.main_arg0)
      ∧ m' ((c.tc : Thread Cert.AdFReferenceIdeal.nD Cert.AdFReferenceIdeal.τ).loc Cert.AdFReferenceIdeal.main_arg1) = m ((c.tc : Thread Cert.AdFKernelIdeal.nD Cert.AdFKernelIdeal.τ).loc Cert.AdFKernelIdeal.main_arg1)
      ∧ m' ((c.tc : Thread Cert.AdFReferenceIdeal.nD Cert.AdFReferenceIdeal.τ).loc Cert.AdFReferenceIdeal.main_arg2) = m ((c.tc : Thread Cert.AdFKernelIdeal.nD Cert.AdFKernelIdeal.τ).loc Cert.AdFKernelIdeal.main_arg2)
      ∧ m' ((c.tc : Thread Cert.AdFReferenceIdeal.nD Cert.AdFReferenceIdeal.τ).loc Cert.AdFReferenceIdeal.main_arg3) = m ((c.tc : Thread Cert.AdFKernelIdeal.nD Cert.AdFKernelIdeal.τ).loc Cert.AdFKernelIdeal.main_arg3)) →
    ∃ (v0 : (c : Dev Cert.AdFKernelIdeal.nD) → Buf (Elt Ideal) ((c.tc : Thread Cert.AdFKernelIdeal.nD Cert.AdFKernelIdeal.τ).loc Cert.AdFKernelIdeal.main_v4_0)) (v1 : (c : Dev Cert.AdFKernelIdeal.nD) → Buf (Elt Ideal) ((c.tc : Thread Cert.AdFKernelIdeal.nD Cert.AdFKernelIdeal.τ).loc Cert.AdFKernelIdeal.main_v4_1)) (v2 : (c : Dev Cert.AdFKernelIdeal.nD) → Buf (Elt Ideal) ((c.tc : Thread Cert.AdFKernelIdeal.nD Cert.AdFKernelIdeal.τ).loc Cert.AdFKernelIdeal.main_v4_2)),
      θ_run (Cert.AdFKernelIdeal.defs (F := Ideal)) (onTc (τ := Cert.AdFKernelIdeal.τ) (Cert.AdFKernelIdeal.main (F := Ideal))) ⟨m, fun _ => 0, g⟩ (fun r => ∀ c : Dev Cert.AdFKernelIdeal.nD,
          r.2.mem ((c.tc : Thread Cert.AdFKernelIdeal.nD Cert.AdFKernelIdeal.τ).loc Cert.AdFKernelIdeal.main_v4_0) = v0 c
          ∧ r.2.mem ((c.tc : Thread Cert.AdFKernelIdeal.nD Cert.AdFKernelIdeal.τ).loc Cert.AdFKernelIdeal.main_v4_1) = v1 c
          ∧ r.2.mem ((c.tc : Thread Cert.AdFKernelIdeal.nD Cert.AdFKernelIdeal.τ).loc Cert.AdFKernelIdeal.main_v4_2) = v2 c
          ∧ r.2.mem ((c.tc : Thread Cert.AdFKernelIdeal.nD Cert.AdFKernelIdeal.τ).loc Cert.AdFKernelIdeal.main_arg0) = m ((c.tc : Thread Cert.AdFKernelIdeal.nD Cert.AdFKernelIdeal.τ).loc Cert.AdFKernelIdeal.main_arg0)
          ∧ r.2.mem ((c.tc : Thread Cert.AdFKernelIdeal.nD Cert.AdFKernelIdeal.τ).loc Cert.AdFKernelIdeal.main_arg1) = m ((c.tc : Thread Cert.AdFKernelIdeal.nD Cert.AdFKernelIdeal.τ).loc Cert.AdFKernelIdeal.main_arg1)
          ∧ r.2.mem ((c.tc : Thread Cert.AdFKernelIdeal.nD Cert.AdFKernelIdeal.τ).loc Cert.AdFKernelIdeal.main_arg2) = m ((c.tc : Thread Cert.AdFKernelIdeal.nD Cert.AdFKernelIdeal.τ).loc Cert.AdFKernelIdeal.main_arg2)
          ∧ r.2.mem ((c.tc : Thread Cert.AdFKernelIdeal.nD Cert.AdFKernelIdeal.τ).loc Cert.AdFKernelIdeal.main_arg3) = m ((c.tc : Thread Cert.AdFKernelIdeal.nD Cert.AdFKernelIdeal.τ).loc Cert.AdFKernelIdeal.main_arg3))
      ∧ θ_run (Cert.AdFReferenceIdeal.defs (F := Ideal)) (onTc (τ := Cert.AdFReferenceIdeal.τ) (Cert.AdFReferenceIdeal.main (F := Ideal))) ⟨m', fun _ => 0, g'⟩ (fun r => ∀ c : Dev Cert.AdFReferenceIdeal.nD,
          r.2.mem ((c.tc : Thread Cert.AdFReferenceIdeal.nD Cert.AdFReferenceIdeal.τ).loc Cert.AdFReferenceIdeal.main_v24) = v0 c
          ∧ r.2.mem ((c.tc : Thread Cert.AdFReferenceIdeal.nD Cert.AdFReferenceIdeal.τ).loc Cert.AdFReferenceIdeal.main_v25) = v1 c
          ∧ r.2.mem ((c.tc : Thread Cert.AdFReferenceIdeal.nD Cert.AdFReferenceIdeal.τ).loc Cert.AdFReferenceIdeal.main_v26) = v2 c
          ∧ r.2.mem ((c.tc : Thread Cert.AdFReferenceIdeal.nD Cert.AdFReferenceIdeal.τ).loc Cert.AdFReferenceIdeal.main_arg0) = m' ((c.tc : Thread Cert.AdFReferenceIdeal.nD Cert.AdFReferenceIdeal.τ).loc Cert.AdFReferenceIdeal.main_arg0)
          ∧ r.2.mem ((c.tc : Thread Cert.AdFReferenceIdeal.nD Cert.AdFReferenceIdeal.τ).loc Cert.AdFReferenceIdeal.main_arg1) = m' ((c.tc : Thread Cert.AdFReferenceIdeal.nD Cert.AdFReferenceIdeal.τ).loc Cert.AdFReferenceIdeal.main_arg1)
          ∧ r.2.mem ((c.tc : Thread Cert.AdFReferenceIdeal.nD Cert.AdFReferenceIdeal.τ).loc Cert.AdFReferenceIdeal.main_arg2) = m' ((c.tc : Thread Cert.AdFReferenceIdeal.nD Cert.AdFReferenceIdeal.τ).loc Cert.AdFReferenceIdeal.main_arg2)
          ∧ r.2.mem ((c.tc : Thread Cert.AdFReferenceIdeal.nD Cert.AdFReferenceIdeal.τ).loc Cert.AdFReferenceIdeal.main_arg3) = m' ((c.tc : Thread Cert.AdFReferenceIdeal.nD Cert.AdFReferenceIdeal.τ).loc Cert.AdFReferenceIdeal.main_arg3))

def preserves_AdGKernel_AdGKernelIdeal : Prop :=
  True

def algebraic_AdGKernelIdeal_AdGReferenceIdeal [hAdGKernelIdeal : Cert.AdGKernelIdeal.Facts] [hAdGReferenceIdeal : Cert.AdGReferenceIdeal.Facts] : Prop :=
  ∀ (m : (ℓ : Loc Cert.AdGKernelIdeal.nD Cert.AdGKernelIdeal.τ Cert.AdGKernelIdeal.sig) → Buf (Elt Ideal) ℓ) (g : Dev Cert.AdGKernelIdeal.nD → PrngReg)
    (m' : (ℓ : Loc Cert.AdGReferenceIdeal.nD Cert.AdGReferenceIdeal.τ Cert.AdGReferenceIdeal.sig) → Buf (Elt Ideal) ℓ) (g' : Dev Cert.AdGReferenceIdeal.nD → PrngReg), Pre_AdGKernelIdeal m →
    (∀ c : Dev Cert.AdGKernelIdeal.nD,
      m' ((c.tc : Thread Cert.AdGReferenceIdeal.nD Cert.AdGReferenceIdeal.τ).loc Cert.AdGReferenceIdeal.main_arg0) = m ((c.tc : Thread Cert.AdGKernelIdeal.nD Cert.AdGKernelIdeal.τ).loc Cert.AdGKernelIdeal.main_arg0)
      ∧ m' ((c.tc : Thread Cert.AdGReferenceIdeal.nD Cert.AdGReferenceIdeal.τ).loc Cert.AdGReferenceIdeal.main_arg1) = m ((c.tc : Thread Cert.AdGKernelIdeal.nD Cert.AdGKernelIdeal.τ).loc Cert.AdGKernelIdeal.main_arg1)
      ∧ m' ((c.tc : Thread Cert.AdGReferenceIdeal.nD Cert.AdGReferenceIdeal.τ).loc Cert.AdGReferenceIdeal.main_arg2) = m ((c.tc : Thread Cert.AdGKernelIdeal.nD Cert.AdGKernelIdeal.τ).loc Cert.AdGKernelIdeal.main_arg2)
      ∧ m' ((c.tc : Thread Cert.AdGReferenceIdeal.nD Cert.AdGReferenceIdeal.τ).loc Cert.AdGReferenceIdeal.main_arg3) = m ((c.tc : Thread Cert.AdGKernelIdeal.nD Cert.AdGKernelIdeal.τ).loc Cert.AdGKernelIdeal.main_arg3)) →
    ∃ (v0 : (c : Dev Cert.AdGKernelIdeal.nD) → Buf (Elt Ideal) ((c.tc : Thread Cert.AdGKernelIdeal.nD Cert.AdGKernelIdeal.τ).loc Cert.AdGKernelIdeal.main_v0_0)) (v1 : (c : Dev Cert.AdGKernelIdeal.nD) → Buf (Elt Ideal) ((c.tc : Thread Cert.AdGKernelIdeal.nD Cert.AdGKernelIdeal.τ).loc Cert.AdGKernelIdeal.main_v0_1)) (v2 : (c : Dev Cert.AdGKernelIdeal.nD) → Buf (Elt Ideal) ((c.tc : Thread Cert.AdGKernelIdeal.nD Cert.AdGKernelIdeal.τ).loc Cert.AdGKernelIdeal.main_v0_2)),
      θ_run (Cert.AdGKernelIdeal.defs (F := Ideal)) (onTc (τ := Cert.AdGKernelIdeal.τ) (Cert.AdGKernelIdeal.main (F := Ideal))) ⟨m, fun _ => 0, g⟩ (fun r => ∀ c : Dev Cert.AdGKernelIdeal.nD,
          r.2.mem ((c.tc : Thread Cert.AdGKernelIdeal.nD Cert.AdGKernelIdeal.τ).loc Cert.AdGKernelIdeal.main_v0_0) = v0 c
          ∧ r.2.mem ((c.tc : Thread Cert.AdGKernelIdeal.nD Cert.AdGKernelIdeal.τ).loc Cert.AdGKernelIdeal.main_v0_1) = v1 c
          ∧ r.2.mem ((c.tc : Thread Cert.AdGKernelIdeal.nD Cert.AdGKernelIdeal.τ).loc Cert.AdGKernelIdeal.main_v0_2) = v2 c
          ∧ r.2.mem ((c.tc : Thread Cert.AdGKernelIdeal.nD Cert.AdGKernelIdeal.τ).loc Cert.AdGKernelIdeal.main_arg0) = m ((c.tc : Thread Cert.AdGKernelIdeal.nD Cert.AdGKernelIdeal.τ).loc Cert.AdGKernelIdeal.main_arg0)
          ∧ r.2.mem ((c.tc : Thread Cert.AdGKernelIdeal.nD Cert.AdGKernelIdeal.τ).loc Cert.AdGKernelIdeal.main_arg1) = m ((c.tc : Thread Cert.AdGKernelIdeal.nD Cert.AdGKernelIdeal.τ).loc Cert.AdGKernelIdeal.main_arg1)
          ∧ r.2.mem ((c.tc : Thread Cert.AdGKernelIdeal.nD Cert.AdGKernelIdeal.τ).loc Cert.AdGKernelIdeal.main_arg2) = m ((c.tc : Thread Cert.AdGKernelIdeal.nD Cert.AdGKernelIdeal.τ).loc Cert.AdGKernelIdeal.main_arg2)
          ∧ r.2.mem ((c.tc : Thread Cert.AdGKernelIdeal.nD Cert.AdGKernelIdeal.τ).loc Cert.AdGKernelIdeal.main_arg3) = m ((c.tc : Thread Cert.AdGKernelIdeal.nD Cert.AdGKernelIdeal.τ).loc Cert.AdGKernelIdeal.main_arg3))
      ∧ θ_run (Cert.AdGReferenceIdeal.defs (F := Ideal)) (onTc (τ := Cert.AdGReferenceIdeal.τ) (Cert.AdGReferenceIdeal.main (F := Ideal))) ⟨m', fun _ => 0, g'⟩ (fun r => ∀ c : Dev Cert.AdGReferenceIdeal.nD,
          r.2.mem ((c.tc : Thread Cert.AdGReferenceIdeal.nD Cert.AdGReferenceIdeal.τ).loc Cert.AdGReferenceIdeal.main_v23) = v0 c
          ∧ r.2.mem ((c.tc : Thread Cert.AdGReferenceIdeal.nD Cert.AdGReferenceIdeal.τ).loc Cert.AdGReferenceIdeal.main_v4) = v1 c
          ∧ r.2.mem ((c.tc : Thread Cert.AdGReferenceIdeal.nD Cert.AdGReferenceIdeal.τ).loc Cert.AdGReferenceIdeal.main_v10) = v2 c
          ∧ r.2.mem ((c.tc : Thread Cert.AdGReferenceIdeal.nD Cert.AdGReferenceIdeal.τ).loc Cert.AdGReferenceIdeal.main_arg0) = m' ((c.tc : Thread Cert.AdGReferenceIdeal.nD Cert.AdGReferenceIdeal.τ).loc Cert.AdGReferenceIdeal.main_arg0)
          ∧ r.2.mem ((c.tc : Thread Cert.AdGReferenceIdeal.nD Cert.AdGReferenceIdeal.τ).loc Cert.AdGReferenceIdeal.main_arg1) = m' ((c.tc : Thread Cert.AdGReferenceIdeal.nD Cert.AdGReferenceIdeal.τ).loc Cert.AdGReferenceIdeal.main_arg1)
          ∧ r.2.mem ((c.tc : Thread Cert.AdGReferenceIdeal.nD Cert.AdGReferenceIdeal.τ).loc Cert.AdGReferenceIdeal.main_arg2) = m' ((c.tc : Thread Cert.AdGReferenceIdeal.nD Cert.AdGReferenceIdeal.τ).loc Cert.AdGReferenceIdeal.main_arg2)
          ∧ r.2.mem ((c.tc : Thread Cert.AdGReferenceIdeal.nD Cert.AdGReferenceIdeal.τ).loc Cert.AdGReferenceIdeal.main_arg3) = m' ((c.tc : Thread Cert.AdGReferenceIdeal.nD Cert.AdGReferenceIdeal.τ).loc Cert.AdGReferenceIdeal.main_arg3))

def preserves_SmIKernel_SmIKernelIdeal : Prop :=
  True

def algebraic_SmIKernelIdeal_SmIReferenceIdeal [hSmIKernelIdeal : Cert.SmIKernelIdeal.Facts] [hSmIReferenceIdeal : Cert.SmIReferenceIdeal.Facts] : Prop :=
  ∀ (m : (ℓ : Loc Cert.SmIKernelIdeal.nD Cert.SmIKernelIdeal.τ Cert.SmIKernelIdeal.sig) → Buf (Elt Ideal) ℓ) (g : Dev Cert.SmIKernelIdeal.nD → PrngReg)
    (m' : (ℓ : Loc Cert.SmIReferenceIdeal.nD Cert.SmIReferenceIdeal.τ Cert.SmIReferenceIdeal.sig) → Buf (Elt Ideal) ℓ) (g' : Dev Cert.SmIReferenceIdeal.nD → PrngReg), Pre_SmIKernelIdeal m →
    (∀ c : Dev Cert.SmIKernelIdeal.nD,
      m' ((c.tc : Thread Cert.SmIReferenceIdeal.nD Cert.SmIReferenceIdeal.τ).loc Cert.SmIReferenceIdeal.main_arg0) = m ((c.tc : Thread Cert.SmIKernelIdeal.nD Cert.SmIKernelIdeal.τ).loc Cert.SmIKernelIdeal.main_arg0)
      ∧ m' ((c.tc : Thread Cert.SmIReferenceIdeal.nD Cert.SmIReferenceIdeal.τ).loc Cert.SmIReferenceIdeal.main_arg1) = m ((c.tc : Thread Cert.SmIKernelIdeal.nD Cert.SmIKernelIdeal.τ).loc Cert.SmIKernelIdeal.main_arg1)
      ∧ m' ((c.tc : Thread Cert.SmIReferenceIdeal.nD Cert.SmIReferenceIdeal.τ).loc Cert.SmIReferenceIdeal.main_arg2) = m ((c.tc : Thread Cert.SmIKernelIdeal.nD Cert.SmIKernelIdeal.τ).loc Cert.SmIKernelIdeal.main_arg2)
      ∧ m' ((c.tc : Thread Cert.SmIReferenceIdeal.nD Cert.SmIReferenceIdeal.τ).loc Cert.SmIReferenceIdeal.main_arg3) = m ((c.tc : Thread Cert.SmIKernelIdeal.nD Cert.SmIKernelIdeal.τ).loc Cert.SmIKernelIdeal.main_arg3)
      ∧ m' ((c.tc : Thread Cert.SmIReferenceIdeal.nD Cert.SmIReferenceIdeal.τ).loc Cert.SmIReferenceIdeal.main_arg4) = m ((c.tc : Thread Cert.SmIKernelIdeal.nD Cert.SmIKernelIdeal.τ).loc Cert.SmIKernelIdeal.main_arg4)
      ∧ m' ((c.tc : Thread Cert.SmIReferenceIdeal.nD Cert.SmIReferenceIdeal.τ).loc Cert.SmIReferenceIdeal.main_arg5) = m ((c.tc : Thread Cert.SmIKernelIdeal.nD Cert.SmIKernelIdeal.τ).loc Cert.SmIKernelIdeal.main_arg5)
      ∧ m' ((c.tc : Thread Cert.SmIReferenceIdeal.nD Cert.SmIReferenceIdeal.τ).loc Cert.SmIReferenceIdeal.main_arg6) = m ((c.tc : Thread Cert.SmIKernelIdeal.nD Cert.SmIKernelIdeal.τ).loc Cert.SmIKernelIdeal.main_arg6)
      ∧ m' ((c.tc : Thread Cert.SmIReferenceIdeal.nD Cert.SmIReferenceIdeal.τ).loc Cert.SmIReferenceIdeal.main_arg7) = m ((c.tc : Thread Cert.SmIKernelIdeal.nD Cert.SmIKernelIdeal.τ).loc Cert.SmIKernelIdeal.main_arg7)) →
    ∃ (v0 : (c : Dev Cert.SmIKernelIdeal.nD) → Buf (Elt Ideal) ((c.tc : Thread Cert.SmIKernelIdeal.nD Cert.SmIKernelIdeal.τ).loc Cert.SmIKernelIdeal.main_v1_0)) (v1 : (c : Dev Cert.SmIKernelIdeal.nD) → Buf (Elt Ideal) ((c.tc : Thread Cert.SmIKernelIdeal.nD Cert.SmIKernelIdeal.τ).loc Cert.SmIKernelIdeal.main_v1_1)) (v2 : (c : Dev Cert.SmIKernelIdeal.nD) → Buf (Elt Ideal) ((c.tc : Thread Cert.SmIKernelIdeal.nD Cert.SmIKernelIdeal.τ).loc Cert.SmIKernelIdeal.main_v1_2)) (v3 : (c : Dev Cert.SmIKernelIdeal.nD) → Buf (Elt Ideal) ((c.tc : Thread Cert.SmIKernelIdeal.nD Cert.SmIKernelIdeal.τ).loc Cert.SmIKernelIdeal.main_v1_3)),
      θ_run (Cert.SmIKernelIdeal.defs (F := Ideal)) (onTc (τ := Cert.SmIKernelIdeal.τ) (Cert.SmIKernelIdeal.main (F := Ideal))) ⟨m, fun _ => 0, g⟩ (fun r => ∀ c : Dev Cert.SmIKernelIdeal.nD,
          r.2.mem ((c.tc : Thread Cert.SmIKernelIdeal.nD Cert.SmIKernelIdeal.τ).loc Cert.SmIKernelIdeal.main_v1_0) = v0 c
          ∧ r.2.mem ((c.tc : Thread Cert.SmIKernelIdeal.nD Cert.SmIKernelIdeal.τ).loc Cert.SmIKernelIdeal.main_v1_1) = v1 c
          ∧ r.2.mem ((c.tc : Thread Cert.SmIKernelIdeal.nD Cert.SmIKernelIdeal.τ).loc Cert.SmIKernelIdeal.main_v1_2) = v2 c
          ∧ r.2.mem ((c.tc : Thread Cert.SmIKernelIdeal.nD Cert.SmIKernelIdeal.τ).loc Cert.SmIKernelIdeal.main_v1_3) = v3 c
          ∧ r.2.mem ((c.tc : Thread Cert.SmIKernelIdeal.nD Cert.SmIKernelIdeal.τ).loc Cert.SmIKernelIdeal.main_arg0) = m ((c.tc : Thread Cert.SmIKernelIdeal.nD Cert.SmIKernelIdeal.τ).loc Cert.SmIKernelIdeal.main_arg0)
          ∧ r.2.mem ((c.tc : Thread Cert.SmIKernelIdeal.nD Cert.SmIKernelIdeal.τ).loc Cert.SmIKernelIdeal.main_arg1) = m ((c.tc : Thread Cert.SmIKernelIdeal.nD Cert.SmIKernelIdeal.τ).loc Cert.SmIKernelIdeal.main_arg1)
          ∧ r.2.mem ((c.tc : Thread Cert.SmIKernelIdeal.nD Cert.SmIKernelIdeal.τ).loc Cert.SmIKernelIdeal.main_arg2) = m ((c.tc : Thread Cert.SmIKernelIdeal.nD Cert.SmIKernelIdeal.τ).loc Cert.SmIKernelIdeal.main_arg2)
          ∧ r.2.mem ((c.tc : Thread Cert.SmIKernelIdeal.nD Cert.SmIKernelIdeal.τ).loc Cert.SmIKernelIdeal.main_arg3) = m ((c.tc : Thread Cert.SmIKernelIdeal.nD Cert.SmIKernelIdeal.τ).loc Cert.SmIKernelIdeal.main_arg3)
          ∧ r.2.mem ((c.tc : Thread Cert.SmIKernelIdeal.nD Cert.SmIKernelIdeal.τ).loc Cert.SmIKernelIdeal.main_arg4) = m ((c.tc : Thread Cert.SmIKernelIdeal.nD Cert.SmIKernelIdeal.τ).loc Cert.SmIKernelIdeal.main_arg4)
          ∧ r.2.mem ((c.tc : Thread Cert.SmIKernelIdeal.nD Cert.SmIKernelIdeal.τ).loc Cert.SmIKernelIdeal.main_arg5) = m ((c.tc : Thread Cert.SmIKernelIdeal.nD Cert.SmIKernelIdeal.τ).loc Cert.SmIKernelIdeal.main_arg5)
          ∧ r.2.mem ((c.tc : Thread Cert.SmIKernelIdeal.nD Cert.SmIKernelIdeal.τ).loc Cert.SmIKernelIdeal.main_arg6) = m ((c.tc : Thread Cert.SmIKernelIdeal.nD Cert.SmIKernelIdeal.τ).loc Cert.SmIKernelIdeal.main_arg6)
          ∧ r.2.mem ((c.tc : Thread Cert.SmIKernelIdeal.nD Cert.SmIKernelIdeal.τ).loc Cert.SmIKernelIdeal.main_arg7) = m ((c.tc : Thread Cert.SmIKernelIdeal.nD Cert.SmIKernelIdeal.τ).loc Cert.SmIKernelIdeal.main_arg7))
      ∧ θ_run (Cert.SmIReferenceIdeal.defs (F := Ideal)) (onTc (τ := Cert.SmIReferenceIdeal.τ) (Cert.SmIReferenceIdeal.main (F := Ideal))) ⟨m', fun _ => 0, g'⟩ (fun r => ∀ c : Dev Cert.SmIReferenceIdeal.nD,
          r.2.mem ((c.tc : Thread Cert.SmIReferenceIdeal.nD Cert.SmIReferenceIdeal.τ).loc Cert.SmIReferenceIdeal.main_v35) = v0 c
          ∧ r.2.mem ((c.tc : Thread Cert.SmIReferenceIdeal.nD Cert.SmIReferenceIdeal.τ).loc Cert.SmIReferenceIdeal.main_v40) = v1 c
          ∧ r.2.mem ((c.tc : Thread Cert.SmIReferenceIdeal.nD Cert.SmIReferenceIdeal.τ).loc Cert.SmIReferenceIdeal.main_v45) = v2 c
          ∧ r.2.mem ((c.tc : Thread Cert.SmIReferenceIdeal.nD Cert.SmIReferenceIdeal.τ).loc Cert.SmIReferenceIdeal.main_v50) = v3 c
          ∧ r.2.mem ((c.tc : Thread Cert.SmIReferenceIdeal.nD Cert.SmIReferenceIdeal.τ).loc Cert.SmIReferenceIdeal.main_arg0) = m' ((c.tc : Thread Cert.SmIReferenceIdeal.nD Cert.SmIReferenceIdeal.τ).loc Cert.SmIReferenceIdeal.main_arg0)
          ∧ r.2.mem ((c.tc : Thread Cert.SmIReferenceIdeal.nD Cert.SmIReferenceIdeal.τ).loc Cert.SmIReferenceIdeal.main_arg1) = m' ((c.tc : Thread Cert.SmIReferenceIdeal.nD Cert.SmIReferenceIdeal.τ).loc Cert.SmIReferenceIdeal.main_arg1)
          ∧ r.2.mem ((c.tc : Thread Cert.SmIReferenceIdeal.nD Cert.SmIReferenceIdeal.τ).loc Cert.SmIReferenceIdeal.main_arg2) = m' ((c.tc : Thread Cert.SmIReferenceIdeal.nD Cert.SmIReferenceIdeal.τ).loc Cert.SmIReferenceIdeal.main_arg2)
          ∧ r.2.mem ((c.tc : Thread Cert.SmIReferenceIdeal.nD Cert.SmIReferenceIdeal.τ).loc Cert.SmIReferenceIdeal.main_arg3) = m' ((c.tc : Thread Cert.SmIReferenceIdeal.nD Cert.SmIReferenceIdeal.τ).loc Cert.SmIReferenceIdeal.main_arg3)
          ∧ r.2.mem ((c.tc : Thread Cert.SmIReferenceIdeal.nD Cert.SmIReferenceIdeal.τ).loc Cert.SmIReferenceIdeal.main_arg4) = m' ((c.tc : Thread Cert.SmIReferenceIdeal.nD Cert.SmIReferenceIdeal.τ).loc Cert.SmIReferenceIdeal.main_arg4)
          ∧ r.2.mem ((c.tc : Thread Cert.SmIReferenceIdeal.nD Cert.SmIReferenceIdeal.τ).loc Cert.SmIReferenceIdeal.main_arg5) = m' ((c.tc : Thread Cert.SmIReferenceIdeal.nD Cert.SmIReferenceIdeal.τ).loc Cert.SmIReferenceIdeal.main_arg5)
          ∧ r.2.mem ((c.tc : Thread Cert.SmIReferenceIdeal.nD Cert.SmIReferenceIdeal.τ).loc Cert.SmIReferenceIdeal.main_arg6) = m' ((c.tc : Thread Cert.SmIReferenceIdeal.nD Cert.SmIReferenceIdeal.τ).loc Cert.SmIReferenceIdeal.main_arg6)
          ∧ r.2.mem ((c.tc : Thread Cert.SmIReferenceIdeal.nD Cert.SmIReferenceIdeal.τ).loc Cert.SmIReferenceIdeal.main_arg7) = m' ((c.tc : Thread Cert.SmIReferenceIdeal.nD Cert.SmIReferenceIdeal.τ).loc Cert.SmIReferenceIdeal.main_arg7))

def preserves_SmUKernel_SmUKernelIdeal : Prop :=
  True

def algebraic_SmUKernelIdeal_SmUReferenceIdeal [hSmUKernelIdeal : Cert.SmUKernelIdeal.Facts] [hSmUReferenceIdeal : Cert.SmUReferenceIdeal.Facts] : Prop :=
  ∀ (m : (ℓ : Loc Cert.SmUKernelIdeal.nD Cert.SmUKernelIdeal.τ Cert.SmUKernelIdeal.sig) → Buf (Elt Ideal) ℓ) (g : Dev Cert.SmUKernelIdeal.nD → PrngReg)
    (m' : (ℓ : Loc Cert.SmUReferenceIdeal.nD Cert.SmUReferenceIdeal.τ Cert.SmUReferenceIdeal.sig) → Buf (Elt Ideal) ℓ) (g' : Dev Cert.SmUReferenceIdeal.nD → PrngReg), Pre_SmUKernelIdeal m →
    (∀ c : Dev Cert.SmUKernelIdeal.nD,
      m' ((c.tc : Thread Cert.SmUReferenceIdeal.nD Cert.SmUReferenceIdeal.τ).loc Cert.SmUReferenceIdeal.main_arg0) = m ((c.tc : Thread Cert.SmUKernelIdeal.nD Cert.SmUKernelIdeal.τ).loc Cert.SmUKernelIdeal.main_arg0)
      ∧ m' ((c.tc : Thread Cert.SmUReferenceIdeal.nD Cert.SmUReferenceIdeal.τ).loc Cert.SmUReferenceIdeal.main_arg1) = m ((c.tc : Thread Cert.SmUKernelIdeal.nD Cert.SmUKernelIdeal.τ).loc Cert.SmUKernelIdeal.main_arg1)
      ∧ m' ((c.tc : Thread Cert.SmUReferenceIdeal.nD Cert.SmUReferenceIdeal.τ).loc Cert.SmUReferenceIdeal.main_arg2) = m ((c.tc : Thread Cert.SmUKernelIdeal.nD Cert.SmUKernelIdeal.τ).loc Cert.SmUKernelIdeal.main_arg2)
      ∧ m' ((c.tc : Thread Cert.SmUReferenceIdeal.nD Cert.SmUReferenceIdeal.τ).loc Cert.SmUReferenceIdeal.main_arg3) = m ((c.tc : Thread Cert.SmUKernelIdeal.nD Cert.SmUKernelIdeal.τ).loc Cert.SmUKernelIdeal.main_arg3)
      ∧ m' ((c.tc : Thread Cert.SmUReferenceIdeal.nD Cert.SmUReferenceIdeal.τ).loc Cert.SmUReferenceIdeal.main_arg4) = m ((c.tc : Thread Cert.SmUKernelIdeal.nD Cert.SmUKernelIdeal.τ).loc Cert.SmUKernelIdeal.main_arg4)
      ∧ m' ((c.tc : Thread Cert.SmUReferenceIdeal.nD Cert.SmUReferenceIdeal.τ).loc Cert.SmUReferenceIdeal.main_arg5) = m ((c.tc : Thread Cert.SmUKernelIdeal.nD Cert.SmUKernelIdeal.τ).loc Cert.SmUKernelIdeal.main_arg5)
      ∧ m' ((c.tc : Thread Cert.SmUReferenceIdeal.nD Cert.SmUReferenceIdeal.τ).loc Cert.SmUReferenceIdeal.main_arg6) = m ((c.tc : Thread Cert.SmUKernelIdeal.nD Cert.SmUKernelIdeal.τ).loc Cert.SmUKernelIdeal.main_arg6)
      ∧ m' ((c.tc : Thread Cert.SmUReferenceIdeal.nD Cert.SmUReferenceIdeal.τ).loc Cert.SmUReferenceIdeal.main_arg7) = m ((c.tc : Thread Cert.SmUKernelIdeal.nD Cert.SmUKernelIdeal.τ).loc Cert.SmUKernelIdeal.main_arg7)) →
    ∃ (v0 : (c : Dev Cert.SmUKernelIdeal.nD) → Buf (Elt Ideal) ((c.tc : Thread Cert.SmUKernelIdeal.nD Cert.SmUKernelIdeal.τ).loc Cert.SmUKernelIdeal.main_v1_0)) (v1 : (c : Dev Cert.SmUKernelIdeal.nD) → Buf (Elt Ideal) ((c.tc : Thread Cert.SmUKernelIdeal.nD Cert.SmUKernelIdeal.τ).loc Cert.SmUKernelIdeal.main_v1_1)) (v2 : (c : Dev Cert.SmUKernelIdeal.nD) → Buf (Elt Ideal) ((c.tc : Thread Cert.SmUKernelIdeal.nD Cert.SmUKernelIdeal.τ).loc Cert.SmUKernelIdeal.main_v1_2)) (v3 : (c : Dev Cert.SmUKernelIdeal.nD) → Buf (Elt Ideal) ((c.tc : Thread Cert.SmUKernelIdeal.nD Cert.SmUKernelIdeal.τ).loc Cert.SmUKernelIdeal.main_v1_3)),
      θ_run (Cert.SmUKernelIdeal.defs (F := Ideal)) (onTc (τ := Cert.SmUKernelIdeal.τ) (Cert.SmUKernelIdeal.main (F := Ideal))) ⟨m, fun _ => 0, g⟩ (fun r => ∀ c : Dev Cert.SmUKernelIdeal.nD,
          r.2.mem ((c.tc : Thread Cert.SmUKernelIdeal.nD Cert.SmUKernelIdeal.τ).loc Cert.SmUKernelIdeal.main_v1_0) = v0 c
          ∧ r.2.mem ((c.tc : Thread Cert.SmUKernelIdeal.nD Cert.SmUKernelIdeal.τ).loc Cert.SmUKernelIdeal.main_v1_1) = v1 c
          ∧ r.2.mem ((c.tc : Thread Cert.SmUKernelIdeal.nD Cert.SmUKernelIdeal.τ).loc Cert.SmUKernelIdeal.main_v1_2) = v2 c
          ∧ r.2.mem ((c.tc : Thread Cert.SmUKernelIdeal.nD Cert.SmUKernelIdeal.τ).loc Cert.SmUKernelIdeal.main_v1_3) = v3 c
          ∧ r.2.mem ((c.tc : Thread Cert.SmUKernelIdeal.nD Cert.SmUKernelIdeal.τ).loc Cert.SmUKernelIdeal.main_arg0) = m ((c.tc : Thread Cert.SmUKernelIdeal.nD Cert.SmUKernelIdeal.τ).loc Cert.SmUKernelIdeal.main_arg0)
          ∧ r.2.mem ((c.tc : Thread Cert.SmUKernelIdeal.nD Cert.SmUKernelIdeal.τ).loc Cert.SmUKernelIdeal.main_arg1) = m ((c.tc : Thread Cert.SmUKernelIdeal.nD Cert.SmUKernelIdeal.τ).loc Cert.SmUKernelIdeal.main_arg1)
          ∧ r.2.mem ((c.tc : Thread Cert.SmUKernelIdeal.nD Cert.SmUKernelIdeal.τ).loc Cert.SmUKernelIdeal.main_arg2) = m ((c.tc : Thread Cert.SmUKernelIdeal.nD Cert.SmUKernelIdeal.τ).loc Cert.SmUKernelIdeal.main_arg2)
          ∧ r.2.mem ((c.tc : Thread Cert.SmUKernelIdeal.nD Cert.SmUKernelIdeal.τ).loc Cert.SmUKernelIdeal.main_arg3) = m ((c.tc : Thread Cert.SmUKernelIdeal.nD Cert.SmUKernelIdeal.τ).loc Cert.SmUKernelIdeal.main_arg3)
          ∧ r.2.mem ((c.tc : Thread Cert.SmUKernelIdeal.nD Cert.SmUKernelIdeal.τ).loc Cert.SmUKernelIdeal.main_arg4) = m ((c.tc : Thread Cert.SmUKernelIdeal.nD Cert.SmUKernelIdeal.τ).loc Cert.SmUKernelIdeal.main_arg4)
          ∧ r.2.mem ((c.tc : Thread Cert.SmUKernelIdeal.nD Cert.SmUKernelIdeal.τ).loc Cert.SmUKernelIdeal.main_arg5) = m ((c.tc : Thread Cert.SmUKernelIdeal.nD Cert.SmUKernelIdeal.τ).loc Cert.SmUKernelIdeal.main_arg5)
          ∧ r.2.mem ((c.tc : Thread Cert.SmUKernelIdeal.nD Cert.SmUKernelIdeal.τ).loc Cert.SmUKernelIdeal.main_arg6) = m ((c.tc : Thread Cert.SmUKernelIdeal.nD Cert.SmUKernelIdeal.τ).loc Cert.SmUKernelIdeal.main_arg6)
          ∧ r.2.mem ((c.tc : Thread Cert.SmUKernelIdeal.nD Cert.SmUKernelIdeal.τ).loc Cert.SmUKernelIdeal.main_arg7) = m ((c.tc : Thread Cert.SmUKernelIdeal.nD Cert.SmUKernelIdeal.τ).loc Cert.SmUKernelIdeal.main_arg7))
      ∧ θ_run (Cert.SmUReferenceIdeal.defs (F := Ideal)) (onTc (τ := Cert.SmUReferenceIdeal.τ) (Cert.SmUReferenceIdeal.main (F := Ideal))) ⟨m', fun _ => 0, g'⟩ (fun r => ∀ c : Dev Cert.SmUReferenceIdeal.nD,
          r.2.mem ((c.tc : Thread Cert.SmUReferenceIdeal.nD Cert.SmUReferenceIdeal.τ).loc Cert.SmUReferenceIdeal.main_v35) = v0 c
          ∧ r.2.mem ((c.tc : Thread Cert.SmUReferenceIdeal.nD Cert.SmUReferenceIdeal.τ).loc Cert.SmUReferenceIdeal.main_v40) = v1 c
          ∧ r.2.mem ((c.tc : Thread Cert.SmUReferenceIdeal.nD Cert.SmUReferenceIdeal.τ).loc Cert.SmUReferenceIdeal.main_v45) = v2 c
          ∧ r.2.mem ((c.tc : Thread Cert.SmUReferenceIdeal.nD Cert.SmUReferenceIdeal.τ).loc Cert.SmUReferenceIdeal.main_v50) = v3 c
          ∧ r.2.mem ((c.tc : Thread Cert.SmUReferenceIdeal.nD Cert.SmUReferenceIdeal.τ).loc Cert.SmUReferenceIdeal.main_arg0) = m' ((c.tc : Thread Cert.SmUReferenceIdeal.nD Cert.SmUReferenceIdeal.τ).loc Cert.SmUReferenceIdeal.main_arg0)
          ∧ r.2.mem ((c.tc : Thread Cert.SmUReferenceIdeal.nD Cert.SmUReferenceIdeal.τ).loc Cert.SmUReferenceIdeal.main_arg1) = m' ((c.tc : Thread Cert.SmUReferenceIdeal.nD Cert.SmUReferenceIdeal.τ).loc Cert.SmUReferenceIdeal.main_arg1)
          ∧ r.2.mem ((c.tc : Thread Cert.SmUReferenceIdeal.nD Cert.SmUReferenceIdeal.τ).loc Cert.SmUReferenceIdeal.main_arg2) = m' ((c.tc : Thread Cert.SmUReferenceIdeal.nD Cert.SmUReferenceIdeal.τ).loc Cert.SmUReferenceIdeal.main_arg2)
          ∧ r.2.mem ((c.tc : Thread Cert.SmUReferenceIdeal.nD Cert.SmUReferenceIdeal.τ).loc Cert.SmUReferenceIdeal.main_arg3) = m' ((c.tc : Thread Cert.SmUReferenceIdeal.nD Cert.SmUReferenceIdeal.τ).loc Cert.SmUReferenceIdeal.main_arg3)
          ∧ r.2.mem ((c.tc : Thread Cert.SmUReferenceIdeal.nD Cert.SmUReferenceIdeal.τ).loc Cert.SmUReferenceIdeal.main_arg4) = m' ((c.tc : Thread Cert.SmUReferenceIdeal.nD Cert.SmUReferenceIdeal.τ).loc Cert.SmUReferenceIdeal.main_arg4)
          ∧ r.2.mem ((c.tc : Thread Cert.SmUReferenceIdeal.nD Cert.SmUReferenceIdeal.τ).loc Cert.SmUReferenceIdeal.main_arg5) = m' ((c.tc : Thread Cert.SmUReferenceIdeal.nD Cert.SmUReferenceIdeal.τ).loc Cert.SmUReferenceIdeal.main_arg5)
          ∧ r.2.mem ((c.tc : Thread Cert.SmUReferenceIdeal.nD Cert.SmUReferenceIdeal.τ).loc Cert.SmUReferenceIdeal.main_arg6) = m' ((c.tc : Thread Cert.SmUReferenceIdeal.nD Cert.SmUReferenceIdeal.τ).loc Cert.SmUReferenceIdeal.main_arg6)
          ∧ r.2.mem ((c.tc : Thread Cert.SmUReferenceIdeal.nD Cert.SmUReferenceIdeal.τ).loc Cert.SmUReferenceIdeal.main_arg7) = m' ((c.tc : Thread Cert.SmUReferenceIdeal.nD Cert.SmUReferenceIdeal.τ).loc Cert.SmUReferenceIdeal.main_arg7))

def preserves_SmVKernel_SmVKernelIdeal : Prop :=
  True

def algebraic_SmVKernelIdeal_SmVReferenceIdeal [hSmVKernelIdeal : Cert.SmVKernelIdeal.Facts] [hSmVReferenceIdeal : Cert.SmVReferenceIdeal.Facts] : Prop :=
  ∀ (m : (ℓ : Loc Cert.SmVKernelIdeal.nD Cert.SmVKernelIdeal.τ Cert.SmVKernelIdeal.sig) → Buf (Elt Ideal) ℓ) (g : Dev Cert.SmVKernelIdeal.nD → PrngReg)
    (m' : (ℓ : Loc Cert.SmVReferenceIdeal.nD Cert.SmVReferenceIdeal.τ Cert.SmVReferenceIdeal.sig) → Buf (Elt Ideal) ℓ) (g' : Dev Cert.SmVReferenceIdeal.nD → PrngReg), Pre_SmVKernelIdeal m →
    (∀ c : Dev Cert.SmVKernelIdeal.nD,
      m' ((c.tc : Thread Cert.SmVReferenceIdeal.nD Cert.SmVReferenceIdeal.τ).loc Cert.SmVReferenceIdeal.main_arg0) = m ((c.tc : Thread Cert.SmVKernelIdeal.nD Cert.SmVKernelIdeal.τ).loc Cert.SmVKernelIdeal.main_arg0)
      ∧ m' ((c.tc : Thread Cert.SmVReferenceIdeal.nD Cert.SmVReferenceIdeal.τ).loc Cert.SmVReferenceIdeal.main_arg1) = m ((c.tc : Thread Cert.SmVKernelIdeal.nD Cert.SmVKernelIdeal.τ).loc Cert.SmVKernelIdeal.main_arg1)
      ∧ m' ((c.tc : Thread Cert.SmVReferenceIdeal.nD Cert.SmVReferenceIdeal.τ).loc Cert.SmVReferenceIdeal.main_arg2) = m ((c.tc : Thread Cert.SmVKernelIdeal.nD Cert.SmVKernelIdeal.τ).loc Cert.SmVKernelIdeal.main_arg2)
      ∧ m' ((c.tc : Thread Cert.SmVReferenceIdeal.nD Cert.SmVReferenceIdeal.τ).loc Cert.SmVReferenceIdeal.main_arg3) = m ((c.tc : Thread Cert.SmVKernelIdeal.nD Cert.SmVKernelIdeal.τ).loc Cert.SmVKernelIdeal.main_arg3)
      ∧ m' ((c.tc : Thread Cert.SmVReferenceIdeal.nD Cert.SmVReferenceIdeal.τ).loc Cert.SmVReferenceIdeal.main_arg4) = m ((c.tc : Thread Cert.SmVKernelIdeal.nD Cert.SmVKernelIdeal.τ).loc Cert.SmVKernelIdeal.main_arg4)
      ∧ m' ((c.tc : Thread Cert.SmVReferenceIdeal.nD Cert.SmVReferenceIdeal.τ).loc Cert.SmVReferenceIdeal.main_arg5) = m ((c.tc : Thread Cert.SmVKernelIdeal.nD Cert.SmVKernelIdeal.τ).loc Cert.SmVKernelIdeal.main_arg5)
      ∧ m' ((c.tc : Thread Cert.SmVReferenceIdeal.nD Cert.SmVReferenceIdeal.τ).loc Cert.SmVReferenceIdeal.main_arg6) = m ((c.tc : Thread Cert.SmVKernelIdeal.nD Cert.SmVKernelIdeal.τ).loc Cert.SmVKernelIdeal.main_arg6)
      ∧ m' ((c.tc : Thread Cert.SmVReferenceIdeal.nD Cert.SmVReferenceIdeal.τ).loc Cert.SmVReferenceIdeal.main_arg7) = m ((c.tc : Thread Cert.SmVKernelIdeal.nD Cert.SmVKernelIdeal.τ).loc Cert.SmVKernelIdeal.main_arg7)) →
    ∃ (v0 : (c : Dev Cert.SmVKernelIdeal.nD) → Buf (Elt Ideal) ((c.tc : Thread Cert.SmVKernelIdeal.nD Cert.SmVKernelIdeal.τ).loc Cert.SmVKernelIdeal.main_v0_0)) (v1 : (c : Dev Cert.SmVKernelIdeal.nD) → Buf (Elt Ideal) ((c.tc : Thread Cert.SmVKernelIdeal.nD Cert.SmVKernelIdeal.τ).loc Cert.SmVKernelIdeal.main_v0_1)) (v2 : (c : Dev Cert.SmVKernelIdeal.nD) → Buf (Elt Ideal) ((c.tc : Thread Cert.SmVKernelIdeal.nD Cert.SmVKernelIdeal.τ).loc Cert.SmVKernelIdeal.main_v0_2)) (v3 : (c : Dev Cert.SmVKernelIdeal.nD) → Buf (Elt Ideal) ((c.tc : Thread Cert.SmVKernelIdeal.nD Cert.SmVKernelIdeal.τ).loc Cert.SmVKernelIdeal.main_v0_3)),
      θ_run (Cert.SmVKernelIdeal.defs (F := Ideal)) (onTc (τ := Cert.SmVKernelIdeal.τ) (Cert.SmVKernelIdeal.main (F := Ideal))) ⟨m, fun _ => 0, g⟩ (fun r => ∀ c : Dev Cert.SmVKernelIdeal.nD,
          r.2.mem ((c.tc : Thread Cert.SmVKernelIdeal.nD Cert.SmVKernelIdeal.τ).loc Cert.SmVKernelIdeal.main_v0_0) = v0 c
          ∧ r.2.mem ((c.tc : Thread Cert.SmVKernelIdeal.nD Cert.SmVKernelIdeal.τ).loc Cert.SmVKernelIdeal.main_v0_1) = v1 c
          ∧ r.2.mem ((c.tc : Thread Cert.SmVKernelIdeal.nD Cert.SmVKernelIdeal.τ).loc Cert.SmVKernelIdeal.main_v0_2) = v2 c
          ∧ r.2.mem ((c.tc : Thread Cert.SmVKernelIdeal.nD Cert.SmVKernelIdeal.τ).loc Cert.SmVKernelIdeal.main_v0_3) = v3 c
          ∧ r.2.mem ((c.tc : Thread Cert.SmVKernelIdeal.nD Cert.SmVKernelIdeal.τ).loc Cert.SmVKernelIdeal.main_arg0) = m ((c.tc : Thread Cert.SmVKernelIdeal.nD Cert.SmVKernelIdeal.τ).loc Cert.SmVKernelIdeal.main_arg0)
          ∧ r.2.mem ((c.tc : Thread Cert.SmVKernelIdeal.nD Cert.SmVKernelIdeal.τ).loc Cert.SmVKernelIdeal.main_arg1) = m ((c.tc : Thread Cert.SmVKernelIdeal.nD Cert.SmVKernelIdeal.τ).loc Cert.SmVKernelIdeal.main_arg1)
          ∧ r.2.mem ((c.tc : Thread Cert.SmVKernelIdeal.nD Cert.SmVKernelIdeal.τ).loc Cert.SmVKernelIdeal.main_arg2) = m ((c.tc : Thread Cert.SmVKernelIdeal.nD Cert.SmVKernelIdeal.τ).loc Cert.SmVKernelIdeal.main_arg2)
          ∧ r.2.mem ((c.tc : Thread Cert.SmVKernelIdeal.nD Cert.SmVKernelIdeal.τ).loc Cert.SmVKernelIdeal.main_arg3) = m ((c.tc : Thread Cert.SmVKernelIdeal.nD Cert.SmVKernelIdeal.τ).loc Cert.SmVKernelIdeal.main_arg3)
          ∧ r.2.mem ((c.tc : Thread Cert.SmVKernelIdeal.nD Cert.SmVKernelIdeal.τ).loc Cert.SmVKernelIdeal.main_arg4) = m ((c.tc : Thread Cert.SmVKernelIdeal.nD Cert.SmVKernelIdeal.τ).loc Cert.SmVKernelIdeal.main_arg4)
          ∧ r.2.mem ((c.tc : Thread Cert.SmVKernelIdeal.nD Cert.SmVKernelIdeal.τ).loc Cert.SmVKernelIdeal.main_arg5) = m ((c.tc : Thread Cert.SmVKernelIdeal.nD Cert.SmVKernelIdeal.τ).loc Cert.SmVKernelIdeal.main_arg5)
          ∧ r.2.mem ((c.tc : Thread Cert.SmVKernelIdeal.nD Cert.SmVKernelIdeal.τ).loc Cert.SmVKernelIdeal.main_arg6) = m ((c.tc : Thread Cert.SmVKernelIdeal.nD Cert.SmVKernelIdeal.τ).loc Cert.SmVKernelIdeal.main_arg6)
          ∧ r.2.mem ((c.tc : Thread Cert.SmVKernelIdeal.nD Cert.SmVKernelIdeal.τ).loc Cert.SmVKernelIdeal.main_arg7) = m ((c.tc : Thread Cert.SmVKernelIdeal.nD Cert.SmVKernelIdeal.τ).loc Cert.SmVKernelIdeal.main_arg7))
      ∧ θ_run (Cert.SmVReferenceIdeal.defs (F := Ideal)) (onTc (τ := Cert.SmVReferenceIdeal.τ) (Cert.SmVReferenceIdeal.main (F := Ideal))) ⟨m', fun _ => 0, g'⟩ (fun r => ∀ c : Dev Cert.SmVReferenceIdeal.nD,
          r.2.mem ((c.tc : Thread Cert.SmVReferenceIdeal.nD Cert.SmVReferenceIdeal.τ).loc Cert.SmVReferenceIdeal.main_v35) = v0 c
          ∧ r.2.mem ((c.tc : Thread Cert.SmVReferenceIdeal.nD Cert.SmVReferenceIdeal.τ).loc Cert.SmVReferenceIdeal.main_v40) = v1 c
          ∧ r.2.mem ((c.tc : Thread Cert.SmVReferenceIdeal.nD Cert.SmVReferenceIdeal.τ).loc Cert.SmVReferenceIdeal.main_v45) = v2 c
          ∧ r.2.mem ((c.tc : Thread Cert.SmVReferenceIdeal.nD Cert.SmVReferenceIdeal.τ).loc Cert.SmVReferenceIdeal.main_v50) = v3 c
          ∧ r.2.mem ((c.tc : Thread Cert.SmVReferenceIdeal.nD Cert.SmVReferenceIdeal.τ).loc Cert.SmVReferenceIdeal.main_arg0) = m' ((c.tc : Thread Cert.SmVReferenceIdeal.nD Cert.SmVReferenceIdeal.τ).loc Cert.SmVReferenceIdeal.main_arg0)
          ∧ r.2.mem ((c.tc : Thread Cert.SmVReferenceIdeal.nD Cert.SmVReferenceIdeal.τ).loc Cert.SmVReferenceIdeal.main_arg1) = m' ((c.tc : Thread Cert.SmVReferenceIdeal.nD Cert.SmVReferenceIdeal.τ).loc Cert.SmVReferenceIdeal.main_arg1)
          ∧ r.2.mem ((c.tc : Thread Cert.SmVReferenceIdeal.nD Cert.SmVReferenceIdeal.τ).loc Cert.SmVReferenceIdeal.main_arg2) = m' ((c.tc : Thread Cert.SmVReferenceIdeal.nD Cert.SmVReferenceIdeal.τ).loc Cert.SmVReferenceIdeal.main_arg2)
          ∧ r.2.mem ((c.tc : Thread Cert.SmVReferenceIdeal.nD Cert.SmVReferenceIdeal.τ).loc Cert.SmVReferenceIdeal.main_arg3) = m' ((c.tc : Thread Cert.SmVReferenceIdeal.nD Cert.SmVReferenceIdeal.τ).loc Cert.SmVReferenceIdeal.main_arg3)
          ∧ r.2.mem ((c.tc : Thread Cert.SmVReferenceIdeal.nD Cert.SmVReferenceIdeal.τ).loc Cert.SmVReferenceIdeal.main_arg4) = m' ((c.tc : Thread Cert.SmVReferenceIdeal.nD Cert.SmVReferenceIdeal.τ).loc Cert.SmVReferenceIdeal.main_arg4)
          ∧ r.2.mem ((c.tc : Thread Cert.SmVReferenceIdeal.nD Cert.SmVReferenceIdeal.τ).loc Cert.SmVReferenceIdeal.main_arg5) = m' ((c.tc : Thread Cert.SmVReferenceIdeal.nD Cert.SmVReferenceIdeal.τ).loc Cert.SmVReferenceIdeal.main_arg5)
          ∧ r.2.mem ((c.tc : Thread Cert.SmVReferenceIdeal.nD Cert.SmVReferenceIdeal.τ).loc Cert.SmVReferenceIdeal.main_arg6) = m' ((c.tc : Thread Cert.SmVReferenceIdeal.nD Cert.SmVReferenceIdeal.τ).loc Cert.SmVReferenceIdeal.main_arg6)
          ∧ r.2.mem ((c.tc : Thread Cert.SmVReferenceIdeal.nD Cert.SmVReferenceIdeal.τ).loc Cert.SmVReferenceIdeal.main_arg7) = m' ((c.tc : Thread Cert.SmVReferenceIdeal.nD Cert.SmVReferenceIdeal.τ).loc Cert.SmVReferenceIdeal.main_arg7))

def preserves_SmOKernel_SmOKernelIdeal : Prop :=
  True

def algebraic_SmOKernelIdeal_SmOReferenceIdeal [hSmOKernelIdeal : Cert.SmOKernelIdeal.Facts] [hSmOReferenceIdeal : Cert.SmOReferenceIdeal.Facts] : Prop :=
  ∀ (m : (ℓ : Loc Cert.SmOKernelIdeal.nD Cert.SmOKernelIdeal.τ Cert.SmOKernelIdeal.sig) → Buf (Elt Ideal) ℓ) (g : Dev Cert.SmOKernelIdeal.nD → PrngReg)
    (m' : (ℓ : Loc Cert.SmOReferenceIdeal.nD Cert.SmOReferenceIdeal.τ Cert.SmOReferenceIdeal.sig) → Buf (Elt Ideal) ℓ) (g' : Dev Cert.SmOReferenceIdeal.nD → PrngReg), Pre_SmOKernelIdeal m →
    (∀ c : Dev Cert.SmOKernelIdeal.nD,
      m' ((c.tc : Thread Cert.SmOReferenceIdeal.nD Cert.SmOReferenceIdeal.τ).loc Cert.SmOReferenceIdeal.main_arg0) = m ((c.tc : Thread Cert.SmOKernelIdeal.nD Cert.SmOKernelIdeal.τ).loc Cert.SmOKernelIdeal.main_arg0)
      ∧ m' ((c.tc : Thread Cert.SmOReferenceIdeal.nD Cert.SmOReferenceIdeal.τ).loc Cert.SmOReferenceIdeal.main_arg1) = m ((c.tc : Thread Cert.SmOKernelIdeal.nD Cert.SmOKernelIdeal.τ).loc Cert.SmOKernelIdeal.main_arg1)
      ∧ m' ((c.tc : Thread Cert.SmOReferenceIdeal.nD Cert.SmOReferenceIdeal.τ).loc Cert.SmOReferenceIdeal.main_arg2) = m ((c.tc : Thread Cert.SmOKernelIdeal.nD Cert.SmOKernelIdeal.τ).loc Cert.SmOKernelIdeal.main_arg2)
      ∧ m' ((c.tc : Thread Cert.SmOReferenceIdeal.nD Cert.SmOReferenceIdeal.τ).loc Cert.SmOReferenceIdeal.main_arg3) = m ((c.tc : Thread Cert.SmOKernelIdeal.nD Cert.SmOKernelIdeal.τ).loc Cert.SmOKernelIdeal.main_arg3)
      ∧ m' ((c.tc : Thread Cert.SmOReferenceIdeal.nD Cert.SmOReferenceIdeal.τ).loc Cert.SmOReferenceIdeal.main_arg4) = m ((c.tc : Thread Cert.SmOKernelIdeal.nD Cert.SmOKernelIdeal.τ).loc Cert.SmOKernelIdeal.main_arg4)
      ∧ m' ((c.tc : Thread Cert.SmOReferenceIdeal.nD Cert.SmOReferenceIdeal.τ).loc Cert.SmOReferenceIdeal.main_arg5) = m ((c.tc : Thread Cert.SmOKernelIdeal.nD Cert.SmOKernelIdeal.τ).loc Cert.SmOKernelIdeal.main_arg5)
      ∧ m' ((c.tc : Thread Cert.SmOReferenceIdeal.nD Cert.SmOReferenceIdeal.τ).loc Cert.SmOReferenceIdeal.main_arg6) = m ((c.tc : Thread Cert.SmOKernelIdeal.nD Cert.SmOKernelIdeal.τ).loc Cert.SmOKernelIdeal.main_arg6)
      ∧ m' ((c.tc : Thread Cert.SmOReferenceIdeal.nD Cert.SmOReferenceIdeal.τ).loc Cert.SmOReferenceIdeal.main_arg7) = m ((c.tc : Thread Cert.SmOKernelIdeal.nD Cert.SmOKernelIdeal.τ).loc Cert.SmOKernelIdeal.main_arg7)) →
    ∃ (v0 : (c : Dev Cert.SmOKernelIdeal.nD) → Buf (Elt Ideal) ((c.tc : Thread Cert.SmOKernelIdeal.nD Cert.SmOKernelIdeal.τ).loc Cert.SmOKernelIdeal.main_v1_0)) (v1 : (c : Dev Cert.SmOKernelIdeal.nD) → Buf (Elt Ideal) ((c.tc : Thread Cert.SmOKernelIdeal.nD Cert.SmOKernelIdeal.τ).loc Cert.SmOKernelIdeal.main_v1_1)) (v2 : (c : Dev Cert.SmOKernelIdeal.nD) → Buf (Elt Ideal) ((c.tc : Thread Cert.SmOKernelIdeal.nD Cert.SmOKernelIdeal.τ).loc Cert.SmOKernelIdeal.main_v1_2)) (v3 : (c : Dev Cert.SmOKernelIdeal.nD) → Buf (Elt Ideal) ((c.tc : Thread Cert.SmOKernelIdeal.nD Cert.SmOKernelIdeal.τ).loc Cert.SmOKernelIdeal.main_v1_3)),
      θ_run (Cert.SmOKernelIdeal.defs (F := Ideal)) (onTc (τ := Cert.SmOKernelIdeal.τ) (Cert.SmOKernelIdeal.main (F := Ideal))) ⟨m, fun _ => 0, g⟩ (fun r => ∀ c : Dev Cert.SmOKernelIdeal.nD,
          r.2.mem ((c.tc : Thread Cert.SmOKernelIdeal.nD Cert.SmOKernelIdeal.τ).loc Cert.SmOKernelIdeal.main_v1_0) = v0 c
          ∧ r.2.mem ((c.tc : Thread Cert.SmOKernelIdeal.nD Cert.SmOKernelIdeal.τ).loc Cert.SmOKernelIdeal.main_v1_1) = v1 c
          ∧ r.2.mem ((c.tc : Thread Cert.SmOKernelIdeal.nD Cert.SmOKernelIdeal.τ).loc Cert.SmOKernelIdeal.main_v1_2) = v2 c
          ∧ r.2.mem ((c.tc : Thread Cert.SmOKernelIdeal.nD Cert.SmOKernelIdeal.τ).loc Cert.SmOKernelIdeal.main_v1_3) = v3 c
          ∧ r.2.mem ((c.tc : Thread Cert.SmOKernelIdeal.nD Cert.SmOKernelIdeal.τ).loc Cert.SmOKernelIdeal.main_arg0) = m ((c.tc : Thread Cert.SmOKernelIdeal.nD Cert.SmOKernelIdeal.τ).loc Cert.SmOKernelIdeal.main_arg0)
          ∧ r.2.mem ((c.tc : Thread Cert.SmOKernelIdeal.nD Cert.SmOKernelIdeal.τ).loc Cert.SmOKernelIdeal.main_arg1) = m ((c.tc : Thread Cert.SmOKernelIdeal.nD Cert.SmOKernelIdeal.τ).loc Cert.SmOKernelIdeal.main_arg1)
          ∧ r.2.mem ((c.tc : Thread Cert.SmOKernelIdeal.nD Cert.SmOKernelIdeal.τ).loc Cert.SmOKernelIdeal.main_arg2) = m ((c.tc : Thread Cert.SmOKernelIdeal.nD Cert.SmOKernelIdeal.τ).loc Cert.SmOKernelIdeal.main_arg2)
          ∧ r.2.mem ((c.tc : Thread Cert.SmOKernelIdeal.nD Cert.SmOKernelIdeal.τ).loc Cert.SmOKernelIdeal.main_arg3) = m ((c.tc : Thread Cert.SmOKernelIdeal.nD Cert.SmOKernelIdeal.τ).loc Cert.SmOKernelIdeal.main_arg3)
          ∧ r.2.mem ((c.tc : Thread Cert.SmOKernelIdeal.nD Cert.SmOKernelIdeal.τ).loc Cert.SmOKernelIdeal.main_arg4) = m ((c.tc : Thread Cert.SmOKernelIdeal.nD Cert.SmOKernelIdeal.τ).loc Cert.SmOKernelIdeal.main_arg4)
          ∧ r.2.mem ((c.tc : Thread Cert.SmOKernelIdeal.nD Cert.SmOKernelIdeal.τ).loc Cert.SmOKernelIdeal.main_arg5) = m ((c.tc : Thread Cert.SmOKernelIdeal.nD Cert.SmOKernelIdeal.τ).loc Cert.SmOKernelIdeal.main_arg5)
          ∧ r.2.mem ((c.tc : Thread Cert.SmOKernelIdeal.nD Cert.SmOKernelIdeal.τ).loc Cert.SmOKernelIdeal.main_arg6) = m ((c.tc : Thread Cert.SmOKernelIdeal.nD Cert.SmOKernelIdeal.τ).loc Cert.SmOKernelIdeal.main_arg6)
          ∧ r.2.mem ((c.tc : Thread Cert.SmOKernelIdeal.nD Cert.SmOKernelIdeal.τ).loc Cert.SmOKernelIdeal.main_arg7) = m ((c.tc : Thread Cert.SmOKernelIdeal.nD Cert.SmOKernelIdeal.τ).loc Cert.SmOKernelIdeal.main_arg7))
      ∧ θ_run (Cert.SmOReferenceIdeal.defs (F := Ideal)) (onTc (τ := Cert.SmOReferenceIdeal.τ) (Cert.SmOReferenceIdeal.main (F := Ideal))) ⟨m', fun _ => 0, g'⟩ (fun r => ∀ c : Dev Cert.SmOReferenceIdeal.nD,
          r.2.mem ((c.tc : Thread Cert.SmOReferenceIdeal.nD Cert.SmOReferenceIdeal.τ).loc Cert.SmOReferenceIdeal.main_v35) = v0 c
          ∧ r.2.mem ((c.tc : Thread Cert.SmOReferenceIdeal.nD Cert.SmOReferenceIdeal.τ).loc Cert.SmOReferenceIdeal.main_v40) = v1 c
          ∧ r.2.mem ((c.tc : Thread Cert.SmOReferenceIdeal.nD Cert.SmOReferenceIdeal.τ).loc Cert.SmOReferenceIdeal.main_v45) = v2 c
          ∧ r.2.mem ((c.tc : Thread Cert.SmOReferenceIdeal.nD Cert.SmOReferenceIdeal.τ).loc Cert.SmOReferenceIdeal.main_v50) = v3 c
          ∧ r.2.mem ((c.tc : Thread Cert.SmOReferenceIdeal.nD Cert.SmOReferenceIdeal.τ).loc Cert.SmOReferenceIdeal.main_arg0) = m' ((c.tc : Thread Cert.SmOReferenceIdeal.nD Cert.SmOReferenceIdeal.τ).loc Cert.SmOReferenceIdeal.main_arg0)
          ∧ r.2.mem ((c.tc : Thread Cert.SmOReferenceIdeal.nD Cert.SmOReferenceIdeal.τ).loc Cert.SmOReferenceIdeal.main_arg1) = m' ((c.tc : Thread Cert.SmOReferenceIdeal.nD Cert.SmOReferenceIdeal.τ).loc Cert.SmOReferenceIdeal.main_arg1)
          ∧ r.2.mem ((c.tc : Thread Cert.SmOReferenceIdeal.nD Cert.SmOReferenceIdeal.τ).loc Cert.SmOReferenceIdeal.main_arg2) = m' ((c.tc : Thread Cert.SmOReferenceIdeal.nD Cert.SmOReferenceIdeal.τ).loc Cert.SmOReferenceIdeal.main_arg2)
          ∧ r.2.mem ((c.tc : Thread Cert.SmOReferenceIdeal.nD Cert.SmOReferenceIdeal.τ).loc Cert.SmOReferenceIdeal.main_arg3) = m' ((c.tc : Thread Cert.SmOReferenceIdeal.nD Cert.SmOReferenceIdeal.τ).loc Cert.SmOReferenceIdeal.main_arg3)
          ∧ r.2.mem ((c.tc : Thread Cert.SmOReferenceIdeal.nD Cert.SmOReferenceIdeal.τ).loc Cert.SmOReferenceIdeal.main_arg4) = m' ((c.tc : Thread Cert.SmOReferenceIdeal.nD Cert.SmOReferenceIdeal.τ).loc Cert.SmOReferenceIdeal.main_arg4)
          ∧ r.2.mem ((c.tc : Thread Cert.SmOReferenceIdeal.nD Cert.SmOReferenceIdeal.τ).loc Cert.SmOReferenceIdeal.main_arg5) = m' ((c.tc : Thread Cert.SmOReferenceIdeal.nD Cert.SmOReferenceIdeal.τ).loc Cert.SmOReferenceIdeal.main_arg5)
          ∧ r.2.mem ((c.tc : Thread Cert.SmOReferenceIdeal.nD Cert.SmOReferenceIdeal.τ).loc Cert.SmOReferenceIdeal.main_arg6) = m' ((c.tc : Thread Cert.SmOReferenceIdeal.nD Cert.SmOReferenceIdeal.τ).loc Cert.SmOReferenceIdeal.main_arg6)
          ∧ r.2.mem ((c.tc : Thread Cert.SmOReferenceIdeal.nD Cert.SmOReferenceIdeal.τ).loc Cert.SmOReferenceIdeal.main_arg7) = m' ((c.tc : Thread Cert.SmOReferenceIdeal.nD Cert.SmOReferenceIdeal.τ).loc Cert.SmOReferenceIdeal.main_arg7))

def preserves_SmDKernel_SmDKernelIdeal : Prop :=
  True

def algebraic_SmDKernelIdeal_SmDReferenceIdeal [hSmDKernelIdeal : Cert.SmDKernelIdeal.Facts] [hSmDReferenceIdeal : Cert.SmDReferenceIdeal.Facts] : Prop :=
  ∀ (m : (ℓ : Loc Cert.SmDKernelIdeal.nD Cert.SmDKernelIdeal.τ Cert.SmDKernelIdeal.sig) → Buf (Elt Ideal) ℓ) (g : Dev Cert.SmDKernelIdeal.nD → PrngReg)
    (m' : (ℓ : Loc Cert.SmDReferenceIdeal.nD Cert.SmDReferenceIdeal.τ Cert.SmDReferenceIdeal.sig) → Buf (Elt Ideal) ℓ) (g' : Dev Cert.SmDReferenceIdeal.nD → PrngReg), Pre_SmDKernelIdeal m →
    (∀ c : Dev Cert.SmDKernelIdeal.nD,
      m' ((c.tc : Thread Cert.SmDReferenceIdeal.nD Cert.SmDReferenceIdeal.τ).loc Cert.SmDReferenceIdeal.main_arg0) = m ((c.tc : Thread Cert.SmDKernelIdeal.nD Cert.SmDKernelIdeal.τ).loc Cert.SmDKernelIdeal.main_arg0)
      ∧ m' ((c.tc : Thread Cert.SmDReferenceIdeal.nD Cert.SmDReferenceIdeal.τ).loc Cert.SmDReferenceIdeal.main_arg1) = m ((c.tc : Thread Cert.SmDKernelIdeal.nD Cert.SmDKernelIdeal.τ).loc Cert.SmDKernelIdeal.main_arg1)
      ∧ m' ((c.tc : Thread Cert.SmDReferenceIdeal.nD Cert.SmDReferenceIdeal.τ).loc Cert.SmDReferenceIdeal.main_arg2) = m ((c.tc : Thread Cert.SmDKernelIdeal.nD Cert.SmDKernelIdeal.τ).loc Cert.SmDKernelIdeal.main_arg2)
      ∧ m' ((c.tc : Thread Cert.SmDReferenceIdeal.nD Cert.SmDReferenceIdeal.τ).loc Cert.SmDReferenceIdeal.main_arg3) = m ((c.tc : Thread Cert.SmDKernelIdeal.nD Cert.SmDKernelIdeal.τ).loc Cert.SmDKernelIdeal.main_arg3)
      ∧ m' ((c.tc : Thread Cert.SmDReferenceIdeal.nD Cert.SmDReferenceIdeal.τ).loc Cert.SmDReferenceIdeal.main_arg4) = m ((c.tc : Thread Cert.SmDKernelIdeal.nD Cert.SmDKernelIdeal.τ).loc Cert.SmDKernelIdeal.main_arg4)
      ∧ m' ((c.tc : Thread Cert.SmDReferenceIdeal.nD Cert.SmDReferenceIdeal.τ).loc Cert.SmDReferenceIdeal.main_arg5) = m ((c.tc : Thread Cert.SmDKernelIdeal.nD Cert.SmDKernelIdeal.τ).loc Cert.SmDKernelIdeal.main_arg5)
      ∧ m' ((c.tc : Thread Cert.SmDReferenceIdeal.nD Cert.SmDReferenceIdeal.τ).loc Cert.SmDReferenceIdeal.main_arg6) = m ((c.tc : Thread Cert.SmDKernelIdeal.nD Cert.SmDKernelIdeal.τ).loc Cert.SmDKernelIdeal.main_arg6)
      ∧ m' ((c.tc : Thread Cert.SmDReferenceIdeal.nD Cert.SmDReferenceIdeal.τ).loc Cert.SmDReferenceIdeal.main_arg7) = m ((c.tc : Thread Cert.SmDKernelIdeal.nD Cert.SmDKernelIdeal.τ).loc Cert.SmDKernelIdeal.main_arg7)) →
    ∃ (v0 : (c : Dev Cert.SmDKernelIdeal.nD) → Buf (Elt Ideal) ((c.tc : Thread Cert.SmDKernelIdeal.nD Cert.SmDKernelIdeal.τ).loc Cert.SmDKernelIdeal.main_v1_0)) (v1 : (c : Dev Cert.SmDKernelIdeal.nD) → Buf (Elt Ideal) ((c.tc : Thread Cert.SmDKernelIdeal.nD Cert.SmDKernelIdeal.τ).loc Cert.SmDKernelIdeal.main_v1_1)) (v2 : (c : Dev Cert.SmDKernelIdeal.nD) → Buf (Elt Ideal) ((c.tc : Thread Cert.SmDKernelIdeal.nD Cert.SmDKernelIdeal.τ).loc Cert.SmDKernelIdeal.main_v1_2)) (v3 : (c : Dev Cert.SmDKernelIdeal.nD) → Buf (Elt Ideal) ((c.tc : Thread Cert.SmDKernelIdeal.nD Cert.SmDKernelIdeal.τ).loc Cert.SmDKernelIdeal.main_v1_3)),
      θ_run (Cert.SmDKernelIdeal.defs (F := Ideal)) (onTc (τ := Cert.SmDKernelIdeal.τ) (Cert.SmDKernelIdeal.main (F := Ideal))) ⟨m, fun _ => 0, g⟩ (fun r => ∀ c : Dev Cert.SmDKernelIdeal.nD,
          r.2.mem ((c.tc : Thread Cert.SmDKernelIdeal.nD Cert.SmDKernelIdeal.τ).loc Cert.SmDKernelIdeal.main_v1_0) = v0 c
          ∧ r.2.mem ((c.tc : Thread Cert.SmDKernelIdeal.nD Cert.SmDKernelIdeal.τ).loc Cert.SmDKernelIdeal.main_v1_1) = v1 c
          ∧ r.2.mem ((c.tc : Thread Cert.SmDKernelIdeal.nD Cert.SmDKernelIdeal.τ).loc Cert.SmDKernelIdeal.main_v1_2) = v2 c
          ∧ r.2.mem ((c.tc : Thread Cert.SmDKernelIdeal.nD Cert.SmDKernelIdeal.τ).loc Cert.SmDKernelIdeal.main_v1_3) = v3 c
          ∧ r.2.mem ((c.tc : Thread Cert.SmDKernelIdeal.nD Cert.SmDKernelIdeal.τ).loc Cert.SmDKernelIdeal.main_arg0) = m ((c.tc : Thread Cert.SmDKernelIdeal.nD Cert.SmDKernelIdeal.τ).loc Cert.SmDKernelIdeal.main_arg0)
          ∧ r.2.mem ((c.tc : Thread Cert.SmDKernelIdeal.nD Cert.SmDKernelIdeal.τ).loc Cert.SmDKernelIdeal.main_arg1) = m ((c.tc : Thread Cert.SmDKernelIdeal.nD Cert.SmDKernelIdeal.τ).loc Cert.SmDKernelIdeal.main_arg1)
          ∧ r.2.mem ((c.tc : Thread Cert.SmDKernelIdeal.nD Cert.SmDKernelIdeal.τ).loc Cert.SmDKernelIdeal.main_arg2) = m ((c.tc : Thread Cert.SmDKernelIdeal.nD Cert.SmDKernelIdeal.τ).loc Cert.SmDKernelIdeal.main_arg2)
          ∧ r.2.mem ((c.tc : Thread Cert.SmDKernelIdeal.nD Cert.SmDKernelIdeal.τ).loc Cert.SmDKernelIdeal.main_arg3) = m ((c.tc : Thread Cert.SmDKernelIdeal.nD Cert.SmDKernelIdeal.τ).loc Cert.SmDKernelIdeal.main_arg3)
          ∧ r.2.mem ((c.tc : Thread Cert.SmDKernelIdeal.nD Cert.SmDKernelIdeal.τ).loc Cert.SmDKernelIdeal.main_arg4) = m ((c.tc : Thread Cert.SmDKernelIdeal.nD Cert.SmDKernelIdeal.τ).loc Cert.SmDKernelIdeal.main_arg4)
          ∧ r.2.mem ((c.tc : Thread Cert.SmDKernelIdeal.nD Cert.SmDKernelIdeal.τ).loc Cert.SmDKernelIdeal.main_arg5) = m ((c.tc : Thread Cert.SmDKernelIdeal.nD Cert.SmDKernelIdeal.τ).loc Cert.SmDKernelIdeal.main_arg5)
          ∧ r.2.mem ((c.tc : Thread Cert.SmDKernelIdeal.nD Cert.SmDKernelIdeal.τ).loc Cert.SmDKernelIdeal.main_arg6) = m ((c.tc : Thread Cert.SmDKernelIdeal.nD Cert.SmDKernelIdeal.τ).loc Cert.SmDKernelIdeal.main_arg6)
          ∧ r.2.mem ((c.tc : Thread Cert.SmDKernelIdeal.nD Cert.SmDKernelIdeal.τ).loc Cert.SmDKernelIdeal.main_arg7) = m ((c.tc : Thread Cert.SmDKernelIdeal.nD Cert.SmDKernelIdeal.τ).loc Cert.SmDKernelIdeal.main_arg7))
      ∧ θ_run (Cert.SmDReferenceIdeal.defs (F := Ideal)) (onTc (τ := Cert.SmDReferenceIdeal.τ) (Cert.SmDReferenceIdeal.main (F := Ideal))) ⟨m', fun _ => 0, g'⟩ (fun r => ∀ c : Dev Cert.SmDReferenceIdeal.nD,
          r.2.mem ((c.tc : Thread Cert.SmDReferenceIdeal.nD Cert.SmDReferenceIdeal.τ).loc Cert.SmDReferenceIdeal.main_v35) = v0 c
          ∧ r.2.mem ((c.tc : Thread Cert.SmDReferenceIdeal.nD Cert.SmDReferenceIdeal.τ).loc Cert.SmDReferenceIdeal.main_v40) = v1 c
          ∧ r.2.mem ((c.tc : Thread Cert.SmDReferenceIdeal.nD Cert.SmDReferenceIdeal.τ).loc Cert.SmDReferenceIdeal.main_v45) = v2 c
          ∧ r.2.mem ((c.tc : Thread Cert.SmDReferenceIdeal.nD Cert.SmDReferenceIdeal.τ).loc Cert.SmDReferenceIdeal.main_v50) = v3 c
          ∧ r.2.mem ((c.tc : Thread Cert.SmDReferenceIdeal.nD Cert.SmDReferenceIdeal.τ).loc Cert.SmDReferenceIdeal.main_arg0) = m' ((c.tc : Thread Cert.SmDReferenceIdeal.nD Cert.SmDReferenceIdeal.τ).loc Cert.SmDReferenceIdeal.main_arg0)
          ∧ r.2.mem ((c.tc : Thread Cert.SmDReferenceIdeal.nD Cert.SmDReferenceIdeal.τ).loc Cert.SmDReferenceIdeal.main_arg1) = m' ((c.tc : Thread Cert.SmDReferenceIdeal.nD Cert.SmDReferenceIdeal.τ).loc Cert.SmDReferenceIdeal.main_arg1)
          ∧ r.2.mem ((c.tc : Thread Cert.SmDReferenceIdeal.nD Cert.SmDReferenceIdeal.τ).loc Cert.SmDReferenceIdeal.main_arg2) = m' ((c.tc : Thread Cert.SmDReferenceIdeal.nD Cert.SmDReferenceIdeal.τ).loc Cert.SmDReferenceIdeal.main_arg2)
          ∧ r.2.mem ((c.tc : Thread Cert.SmDReferenceIdeal.nD Cert.SmDReferenceIdeal.τ).loc Cert.SmDReferenceIdeal.main_arg3) = m' ((c.tc : Thread Cert.SmDReferenceIdeal.nD Cert.SmDReferenceIdeal.τ).loc Cert.SmDReferenceIdeal.main_arg3)
          ∧ r.2.mem ((c.tc : Thread Cert.SmDReferenceIdeal.nD Cert.SmDReferenceIdeal.τ).loc Cert.SmDReferenceIdeal.main_arg4) = m' ((c.tc : Thread Cert.SmDReferenceIdeal.nD Cert.SmDReferenceIdeal.τ).loc Cert.SmDReferenceIdeal.main_arg4)
          ∧ r.2.mem ((c.tc : Thread Cert.SmDReferenceIdeal.nD Cert.SmDReferenceIdeal.τ).loc Cert.SmDReferenceIdeal.main_arg5) = m' ((c.tc : Thread Cert.SmDReferenceIdeal.nD Cert.SmDReferenceIdeal.τ).loc Cert.SmDReferenceIdeal.main_arg5)
          ∧ r.2.mem ((c.tc : Thread Cert.SmDReferenceIdeal.nD Cert.SmDReferenceIdeal.τ).loc Cert.SmDReferenceIdeal.main_arg6) = m' ((c.tc : Thread Cert.SmDReferenceIdeal.nD Cert.SmDReferenceIdeal.τ).loc Cert.SmDReferenceIdeal.main_arg6)
          ∧ r.2.mem ((c.tc : Thread Cert.SmDReferenceIdeal.nD Cert.SmDReferenceIdeal.τ).loc Cert.SmDReferenceIdeal.main_arg7) = m' ((c.tc : Thread Cert.SmDReferenceIdeal.nD Cert.SmDReferenceIdeal.τ).loc Cert.SmDReferenceIdeal.main_arg7))

def preserves_SmGKernel_SmGKernelIdeal : Prop :=
  True

def algebraic_SmGKernelIdeal_SmGReferenceIdeal [hSmGKernelIdeal : Cert.SmGKernelIdeal.Facts] [hSmGReferenceIdeal : Cert.SmGReferenceIdeal.Facts] : Prop :=
  ∀ (m : (ℓ : Loc Cert.SmGKernelIdeal.nD Cert.SmGKernelIdeal.τ Cert.SmGKernelIdeal.sig) → Buf (Elt Ideal) ℓ) (g : Dev Cert.SmGKernelIdeal.nD → PrngReg)
    (m' : (ℓ : Loc Cert.SmGReferenceIdeal.nD Cert.SmGReferenceIdeal.τ Cert.SmGReferenceIdeal.sig) → Buf (Elt Ideal) ℓ) (g' : Dev Cert.SmGReferenceIdeal.nD → PrngReg), Pre_SmGKernelIdeal m →
    (∀ c : Dev Cert.SmGKernelIdeal.nD,
      m' ((c.tc : Thread Cert.SmGReferenceIdeal.nD Cert.SmGReferenceIdeal.τ).loc Cert.SmGReferenceIdeal.main_arg0) = m ((c.tc : Thread Cert.SmGKernelIdeal.nD Cert.SmGKernelIdeal.τ).loc Cert.SmGKernelIdeal.main_arg0)) →
    ∃ (v0 : (c : Dev Cert.SmGKernelIdeal.nD) → Buf (Elt Ideal) ((c.tc : Thread Cert.SmGKernelIdeal.nD Cert.SmGKernelIdeal.τ).loc Cert.SmGKernelIdeal.main_v1)),
      θ_run (Cert.SmGKernelIdeal.defs (F := Ideal)) (onTc (τ := Cert.SmGKernelIdeal.τ) (Cert.SmGKernelIdeal.main (F := Ideal))) ⟨m, fun _ => 0, g⟩ (fun r => ∀ c : Dev Cert.SmGKernelIdeal.nD,
          r.2.mem ((c.tc : Thread Cert.SmGKernelIdeal.nD Cert.SmGKernelIdeal.τ).loc Cert.SmGKernelIdeal.main_v1) = v0 c
          ∧ r.2.mem ((c.tc : Thread Cert.SmGKernelIdeal.nD Cert.SmGKernelIdeal.τ).loc Cert.SmGKernelIdeal.main_arg0) = m ((c.tc : Thread Cert.SmGKernelIdeal.nD Cert.SmGKernelIdeal.τ).loc Cert.SmGKernelIdeal.main_arg0))
      ∧ θ_run (Cert.SmGReferenceIdeal.defs (F := Ideal)) (onTc (τ := Cert.SmGReferenceIdeal.τ) (Cert.SmGReferenceIdeal.main (F := Ideal))) ⟨m', fun _ => 0, g'⟩ (fun r => ∀ c : Dev Cert.SmGReferenceIdeal.nD,
          r.2.mem ((c.tc : Thread Cert.SmGReferenceIdeal.nD Cert.SmGReferenceIdeal.τ).loc Cert.SmGReferenceIdeal.main_v0) = v0 c
          ∧ r.2.mem ((c.tc : Thread Cert.SmGReferenceIdeal.nD Cert.SmGReferenceIdeal.τ).loc Cert.SmGReferenceIdeal.main_arg0) = m' ((c.tc : Thread Cert.SmGReferenceIdeal.nD Cert.SmGReferenceIdeal.τ).loc Cert.SmGReferenceIdeal.main_arg0))

def Claim : Prop :=
  ∃ (hDiscKernel : Cert.DiscKernel.Facts) (hDiscKernelIdeal : Cert.DiscKernelIdeal.Facts) (hDiscReferenceIdeal : Cert.DiscReferenceIdeal.Facts) (hFfnKernel : Cert.FfnKernel.Facts) (hFfnKernelIdeal : Cert.FfnKernelIdeal.Facts) (hFfnReferenceIdeal : Cert.FfnReferenceIdeal.Facts) (hFwdKernel : Cert.FwdKernel.Facts) (hFwdKernelIdeal : Cert.FwdKernelIdeal.Facts) (hFwdReferenceIdeal : Cert.FwdReferenceIdeal.Facts) (hWdnKernel : Cert.WdnKernel.Facts) (hWdnKernelIdeal : Cert.WdnKernelIdeal.Facts) (hWdnReferenceIdeal : Cert.WdnReferenceIdeal.Facts) (hWgtKernel : Cert.WgtKernel.Facts) (hWgtKernelIdeal : Cert.WgtKernelIdeal.Facts) (hWgtReferenceIdeal : Cert.WgtReferenceIdeal.Facts) (hInbKernel : Cert.InbKernel.Facts) (hInbKernelIdeal : Cert.InbKernelIdeal.Facts) (hInbReferenceIdeal : Cert.InbReferenceIdeal.Facts) (hInfKernel : Cert.InfKernel.Facts) (hInfKernelIdeal : Cert.InfKernelIdeal.Facts) (hInfReferenceIdeal : Cert.InfReferenceIdeal.Facts) (hWiuKernel : Cert.WiuKernel.Facts) (hWiuKernelIdeal : Cert.WiuKernelIdeal.Facts) (hWiuReferenceIdeal : Cert.WiuReferenceIdeal.Facts) (hWixKernel : Cert.WixKernel.Facts) (hWixKernelIdeal : Cert.WixKernelIdeal.Facts) (hWixReferenceIdeal : Cert.WixReferenceIdeal.Facts) (hWidKernel : Cert.WidKernel.Facts) (hWidKernelIdeal : Cert.WidKernelIdeal.Facts) (hWidReferenceIdeal : Cert.WidReferenceIdeal.Facts) (hWopKernel : Cert.WopKernel.Facts) (hWopKernelIdeal : Cert.WopKernelIdeal.Facts) (hWopReferenceIdeal : Cert.WopReferenceIdeal.Facts) (hLosKernel : Cert.LosKernel.Facts) (hLosKernelIdeal : Cert.LosKernelIdeal.Facts) (hLosReferenceIdeal : Cert.LosReferenceIdeal.Facts) (hAdNKernel : Cert.AdNKernel.Facts) (hAdNKernelIdeal : Cert.AdNKernelIdeal.Facts) (hAdNReferenceIdeal : Cert.AdNReferenceIdeal.Facts) (hAdLKernel : Cert.AdLKernel.Facts) (hAdLKernelIdeal : Cert.AdLKernelIdeal.Facts) (hAdLReferenceIdeal : Cert.AdLReferenceIdeal.Facts) (hAdSKernel : Cert.AdSKernel.Facts) (hAdSKernelIdeal : Cert.AdSKernelIdeal.Facts) (hAdSReferenceIdeal : Cert.AdSReferenceIdeal.Facts) (hAdBKernel : Cert.AdBKernel.Facts) (hAdBKernelIdeal : Cert.AdBKernelIdeal.Facts) (hAdBReferenceIdeal : Cert.AdBReferenceIdeal.Facts) (hAdCKernel : Cert.AdCKernel.Facts) (hAdCKernelIdeal : Cert.AdCKernelIdeal.Facts) (hAdCReferenceIdeal : Cert.AdCReferenceIdeal.Facts) (hAdVKernel : Cert.AdVKernel.Facts) (hAdVKernelIdeal : Cert.AdVKernelIdeal.Facts) (hAdVReferenceIdeal : Cert.AdVReferenceIdeal.Facts) (hAdHKernel : Cert.AdHKernel.Facts) (hAdHKernelIdeal : Cert.AdHKernelIdeal.Facts) (hAdHReferenceIdeal : Cert.AdHReferenceIdeal.Facts) (hAdFKernel : Cert.AdFKernel.Facts) (hAdFKernelIdeal : Cert.AdFKernelIdeal.Facts) (hAdFReferenceIdeal : Cert.AdFReferenceIdeal.Facts) (hAdGKernel : Cert.AdGKernel.Facts) (hAdGKernelIdeal : Cert.AdGKernelIdeal.Facts) (hAdGReferenceIdeal : Cert.AdGReferenceIdeal.Facts) (hSmIKernel : Cert.SmIKernel.Facts) (hSmIKernelIdeal : Cert.SmIKernelIdeal.Facts) (hSmIReferenceIdeal : Cert.SmIReferenceIdeal.Facts) (hSmUKernel : Cert.SmUKernel.Facts) (hSmUKernelIdeal : Cert.SmUKernelIdeal.Facts) (hSmUReferenceIdeal : Cert.SmUReferenceIdeal.Facts) (hSmVKernel : Cert.SmVKernel.Facts) (hSmVKernelIdeal : Cert.SmVKernelIdeal.Facts) (hSmVReferenceIdeal : Cert.SmVReferenceIdeal.Facts) (hSmOKernel : Cert.SmOKernel.Facts) (hSmOKernelIdeal : Cert.SmOKernelIdeal.Facts) (hSmOReferenceIdeal : Cert.SmOReferenceIdeal.Facts) (hSmDKernel : Cert.SmDKernel.Facts) (hSmDKernelIdeal : Cert.SmDKernelIdeal.Facts) (hSmDReferenceIdeal : Cert.SmDReferenceIdeal.Facts) (hSmGKernel : Cert.SmGKernel.Facts) (hSmGKernelIdeal : Cert.SmGKernelIdeal.Facts) (hSmGReferenceIdeal : Cert.SmGReferenceIdeal.Facts),
    quiescent_DiscKernel (hDiscKernel := hDiscKernel)
    ∧ quiescent_DiscKernelIdeal (hDiscKernelIdeal := hDiscKernelIdeal)
    ∧ quiescent_DiscReferenceIdeal (hDiscReferenceIdeal := hDiscReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_FwdKernel (hFwdKernel := hFwdKernel)
    ∧ quiescent_FwdKernelIdeal (hFwdKernelIdeal := hFwdKernelIdeal)
    ∧ quiescent_FwdReferenceIdeal (hFwdReferenceIdeal := hFwdReferenceIdeal)
    ∧ quiescent_WdnKernel (hWdnKernel := hWdnKernel)
    ∧ quiescent_WdnKernelIdeal (hWdnKernelIdeal := hWdnKernelIdeal)
    ∧ quiescent_WdnReferenceIdeal (hWdnReferenceIdeal := hWdnReferenceIdeal)
    ∧ quiescent_WgtKernel (hWgtKernel := hWgtKernel)
    ∧ quiescent_WgtKernelIdeal (hWgtKernelIdeal := hWgtKernelIdeal)
    ∧ quiescent_WgtReferenceIdeal (hWgtReferenceIdeal := hWgtReferenceIdeal)
    ∧ quiescent_InbKernel (hInbKernel := hInbKernel)
    ∧ quiescent_InbKernelIdeal (hInbKernelIdeal := hInbKernelIdeal)
    ∧ quiescent_InbReferenceIdeal (hInbReferenceIdeal := hInbReferenceIdeal)
    ∧ quiescent_InfKernel (hInfKernel := hInfKernel)
    ∧ quiescent_InfKernelIdeal (hInfKernelIdeal := hInfKernelIdeal)
    ∧ quiescent_InfReferenceIdeal (hInfReferenceIdeal := hInfReferenceIdeal)
    ∧ quiescent_WiuKernel (hWiuKernel := hWiuKernel)
    ∧ quiescent_WiuKernelIdeal (hWiuKernelIdeal := hWiuKernelIdeal)
    ∧ quiescent_WiuReferenceIdeal (hWiuReferenceIdeal := hWiuReferenceIdeal)
    ∧ quiescent_WixKernel (hWixKernel := hWixKernel)
    ∧ quiescent_WixKernelIdeal (hWixKernelIdeal := hWixKernelIdeal)
    ∧ quiescent_WixReferenceIdeal (hWixReferenceIdeal := hWixReferenceIdeal)
    ∧ quiescent_WidKernel (hWidKernel := hWidKernel)
    ∧ quiescent_WidKernelIdeal (hWidKernelIdeal := hWidKernelIdeal)
    ∧ quiescent_WidReferenceIdeal (hWidReferenceIdeal := hWidReferenceIdeal)
    ∧ quiescent_WopKernel (hWopKernel := hWopKernel)
    ∧ quiescent_WopKernelIdeal (hWopKernelIdeal := hWopKernelIdeal)
    ∧ quiescent_WopReferenceIdeal (hWopReferenceIdeal := hWopReferenceIdeal)
    ∧ quiescent_LosKernel (hLosKernel := hLosKernel)
    ∧ quiescent_LosKernelIdeal (hLosKernelIdeal := hLosKernelIdeal)
    ∧ quiescent_LosReferenceIdeal (hLosReferenceIdeal := hLosReferenceIdeal)
    ∧ quiescent_AdNKernel (hAdNKernel := hAdNKernel)
    ∧ quiescent_AdNKernelIdeal (hAdNKernelIdeal := hAdNKernelIdeal)
    ∧ quiescent_AdNReferenceIdeal (hAdNReferenceIdeal := hAdNReferenceIdeal)
    ∧ quiescent_AdLKernel (hAdLKernel := hAdLKernel)
    ∧ quiescent_AdLKernelIdeal (hAdLKernelIdeal := hAdLKernelIdeal)
    ∧ quiescent_AdLReferenceIdeal (hAdLReferenceIdeal := hAdLReferenceIdeal)
    ∧ quiescent_AdSKernel (hAdSKernel := hAdSKernel)
    ∧ quiescent_AdSKernelIdeal (hAdSKernelIdeal := hAdSKernelIdeal)
    ∧ quiescent_AdSReferenceIdeal (hAdSReferenceIdeal := hAdSReferenceIdeal)
    ∧ quiescent_AdBKernel (hAdBKernel := hAdBKernel)
    ∧ quiescent_AdBKernelIdeal (hAdBKernelIdeal := hAdBKernelIdeal)
    ∧ quiescent_AdBReferenceIdeal (hAdBReferenceIdeal := hAdBReferenceIdeal)
    ∧ quiescent_AdCKernel (hAdCKernel := hAdCKernel)
    ∧ quiescent_AdCKernelIdeal (hAdCKernelIdeal := hAdCKernelIdeal)
    ∧ quiescent_AdCReferenceIdeal (hAdCReferenceIdeal := hAdCReferenceIdeal)
    ∧ quiescent_AdVKernel (hAdVKernel := hAdVKernel)
    ∧ quiescent_AdVKernelIdeal (hAdVKernelIdeal := hAdVKernelIdeal)
    ∧ quiescent_AdVReferenceIdeal (hAdVReferenceIdeal := hAdVReferenceIdeal)
    ∧ quiescent_AdHKernel (hAdHKernel := hAdHKernel)
    ∧ quiescent_AdHKernelIdeal (hAdHKernelIdeal := hAdHKernelIdeal)
    ∧ quiescent_AdHReferenceIdeal (hAdHReferenceIdeal := hAdHReferenceIdeal)
    ∧ quiescent_AdFKernel (hAdFKernel := hAdFKernel)
    ∧ quiescent_AdFKernelIdeal (hAdFKernelIdeal := hAdFKernelIdeal)
    ∧ quiescent_AdFReferenceIdeal (hAdFReferenceIdeal := hAdFReferenceIdeal)
    ∧ quiescent_AdGKernel (hAdGKernel := hAdGKernel)
    ∧ quiescent_AdGKernelIdeal (hAdGKernelIdeal := hAdGKernelIdeal)
    ∧ quiescent_AdGReferenceIdeal (hAdGReferenceIdeal := hAdGReferenceIdeal)
    ∧ quiescent_SmIKernel (hSmIKernel := hSmIKernel)
    ∧ quiescent_SmIKernelIdeal (hSmIKernelIdeal := hSmIKernelIdeal)
    ∧ quiescent_SmIReferenceIdeal (hSmIReferenceIdeal := hSmIReferenceIdeal)
    ∧ quiescent_SmUKernel (hSmUKernel := hSmUKernel)
    ∧ quiescent_SmUKernelIdeal (hSmUKernelIdeal := hSmUKernelIdeal)
    ∧ quiescent_SmUReferenceIdeal (hSmUReferenceIdeal := hSmUReferenceIdeal)
    ∧ quiescent_SmVKernel (hSmVKernel := hSmVKernel)
    ∧ quiescent_SmVKernelIdeal (hSmVKernelIdeal := hSmVKernelIdeal)
    ∧ quiescent_SmVReferenceIdeal (hSmVReferenceIdeal := hSmVReferenceIdeal)
    ∧ quiescent_SmOKernel (hSmOKernel := hSmOKernel)
    ∧ quiescent_SmOKernelIdeal (hSmOKernelIdeal := hSmOKernelIdeal)
    ∧ quiescent_SmOReferenceIdeal (hSmOReferenceIdeal := hSmOReferenceIdeal)
    ∧ quiescent_SmDKernel (hSmDKernel := hSmDKernel)
    ∧ quiescent_SmDKernelIdeal (hSmDKernelIdeal := hSmDKernelIdeal)
    ∧ quiescent_SmDReferenceIdeal (hSmDReferenceIdeal := hSmDReferenceIdeal)
    ∧ quiescent_SmGKernel (hSmGKernel := hSmGKernel)
    ∧ quiescent_SmGKernelIdeal (hSmGKernelIdeal := hSmGKernelIdeal)
    ∧ quiescent_SmGReferenceIdeal (hSmGReferenceIdeal := hSmGReferenceIdeal)
    ∧ preserves_DiscKernel_DiscKernelIdeal
    ∧ algebraic_DiscKernelIdeal_DiscReferenceIdeal (hDiscKernelIdeal := hDiscKernelIdeal) (hDiscReferenceIdeal := hDiscReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_FwdKernel_FwdKernelIdeal
    ∧ algebraic_FwdKernelIdeal_FwdReferenceIdeal (hFwdKernelIdeal := hFwdKernelIdeal) (hFwdReferenceIdeal := hFwdReferenceIdeal)
    ∧ preserves_WdnKernel_WdnKernelIdeal
    ∧ algebraic_WdnKernelIdeal_WdnReferenceIdeal (hWdnKernelIdeal := hWdnKernelIdeal) (hWdnReferenceIdeal := hWdnReferenceIdeal)
    ∧ preserves_WgtKernel_WgtKernelIdeal
    ∧ algebraic_WgtKernelIdeal_WgtReferenceIdeal (hWgtKernelIdeal := hWgtKernelIdeal) (hWgtReferenceIdeal := hWgtReferenceIdeal)
    ∧ preserves_InbKernel_InbKernelIdeal
    ∧ algebraic_InbKernelIdeal_InbReferenceIdeal (hInbKernelIdeal := hInbKernelIdeal) (hInbReferenceIdeal := hInbReferenceIdeal)
    ∧ preserves_InfKernel_InfKernelIdeal
    ∧ algebraic_InfKernelIdeal_InfReferenceIdeal (hInfKernelIdeal := hInfKernelIdeal) (hInfReferenceIdeal := hInfReferenceIdeal)
    ∧ preserves_WiuKernel_WiuKernelIdeal
    ∧ algebraic_WiuKernelIdeal_WiuReferenceIdeal (hWiuKernelIdeal := hWiuKernelIdeal) (hWiuReferenceIdeal := hWiuReferenceIdeal)
    ∧ preserves_WixKernel_WixKernelIdeal
    ∧ algebraic_WixKernelIdeal_WixReferenceIdeal (hWixKernelIdeal := hWixKernelIdeal) (hWixReferenceIdeal := hWixReferenceIdeal)
    ∧ preserves_WidKernel_WidKernelIdeal
    ∧ algebraic_WidKernelIdeal_WidReferenceIdeal (hWidKernelIdeal := hWidKernelIdeal) (hWidReferenceIdeal := hWidReferenceIdeal)
    ∧ preserves_WopKernel_WopKernelIdeal
    ∧ algebraic_WopKernelIdeal_WopReferenceIdeal (hWopKernelIdeal := hWopKernelIdeal) (hWopReferenceIdeal := hWopReferenceIdeal)
    ∧ preserves_LosKernel_LosKernelIdeal
    ∧ algebraic_LosKernelIdeal_LosReferenceIdeal (hLosKernelIdeal := hLosKernelIdeal) (hLosReferenceIdeal := hLosReferenceIdeal)
    ∧ preserves_AdNKernel_AdNKernelIdeal
    ∧ algebraic_AdNKernelIdeal_AdNReferenceIdeal (hAdNKernelIdeal := hAdNKernelIdeal) (hAdNReferenceIdeal := hAdNReferenceIdeal)
    ∧ preserves_AdLKernel_AdLKernelIdeal
    ∧ algebraic_AdLKernelIdeal_AdLReferenceIdeal (hAdLKernelIdeal := hAdLKernelIdeal) (hAdLReferenceIdeal := hAdLReferenceIdeal)
    ∧ preserves_AdSKernel_AdSKernelIdeal
    ∧ algebraic_AdSKernelIdeal_AdSReferenceIdeal (hAdSKernelIdeal := hAdSKernelIdeal) (hAdSReferenceIdeal := hAdSReferenceIdeal)
    ∧ preserves_AdBKernel_AdBKernelIdeal
    ∧ algebraic_AdBKernelIdeal_AdBReferenceIdeal (hAdBKernelIdeal := hAdBKernelIdeal) (hAdBReferenceIdeal := hAdBReferenceIdeal)
    ∧ preserves_AdCKernel_AdCKernelIdeal
    ∧ algebraic_AdCKernelIdeal_AdCReferenceIdeal (hAdCKernelIdeal := hAdCKernelIdeal) (hAdCReferenceIdeal := hAdCReferenceIdeal)
    ∧ preserves_AdVKernel_AdVKernelIdeal
    ∧ algebraic_AdVKernelIdeal_AdVReferenceIdeal (hAdVKernelIdeal := hAdVKernelIdeal) (hAdVReferenceIdeal := hAdVReferenceIdeal)
    ∧ preserves_AdHKernel_AdHKernelIdeal
    ∧ algebraic_AdHKernelIdeal_AdHReferenceIdeal (hAdHKernelIdeal := hAdHKernelIdeal) (hAdHReferenceIdeal := hAdHReferenceIdeal)
    ∧ preserves_AdFKernel_AdFKernelIdeal
    ∧ algebraic_AdFKernelIdeal_AdFReferenceIdeal (hAdFKernelIdeal := hAdFKernelIdeal) (hAdFReferenceIdeal := hAdFReferenceIdeal)
    ∧ preserves_AdGKernel_AdGKernelIdeal
    ∧ algebraic_AdGKernelIdeal_AdGReferenceIdeal (hAdGKernelIdeal := hAdGKernelIdeal) (hAdGReferenceIdeal := hAdGReferenceIdeal)
    ∧ preserves_SmIKernel_SmIKernelIdeal
    ∧ algebraic_SmIKernelIdeal_SmIReferenceIdeal (hSmIKernelIdeal := hSmIKernelIdeal) (hSmIReferenceIdeal := hSmIReferenceIdeal)
    ∧ preserves_SmUKernel_SmUKernelIdeal
    ∧ algebraic_SmUKernelIdeal_SmUReferenceIdeal (hSmUKernelIdeal := hSmUKernelIdeal) (hSmUReferenceIdeal := hSmUReferenceIdeal)
    ∧ preserves_SmVKernel_SmVKernelIdeal
    ∧ algebraic_SmVKernelIdeal_SmVReferenceIdeal (hSmVKernelIdeal := hSmVKernelIdeal) (hSmVReferenceIdeal := hSmVReferenceIdeal)
    ∧ preserves_SmOKernel_SmOKernelIdeal
    ∧ algebraic_SmOKernelIdeal_SmOReferenceIdeal (hSmOKernelIdeal := hSmOKernelIdeal) (hSmOReferenceIdeal := hSmOReferenceIdeal)
    ∧ preserves_SmDKernel_SmDKernelIdeal
    ∧ algebraic_SmDKernelIdeal_SmDReferenceIdeal (hSmDKernelIdeal := hSmDKernelIdeal) (hSmDReferenceIdeal := hSmDReferenceIdeal)
    ∧ preserves_SmGKernel_SmGKernelIdeal
    ∧ algebraic_SmGKernelIdeal_SmGReferenceIdeal (hSmGKernelIdeal := hSmGKernelIdeal) (hSmGReferenceIdeal := hSmGReferenceIdeal)
-- ==== DiscKernel.lean ====
abbrev S64x64 : Shape := ⟨2, ![64, 64]⟩
abbrev S64 : Shape := ⟨1, ![64]⟩
abbrev S64x64x16 : Shape := ⟨3, ![64, 64, 16]⟩
abbrev S8x64x64 : Shape := ⟨3, ![8, 64, 64]⟩
abbrev S8x128 : Shape := ⟨2, ![8, 128]⟩
abbrev S64x1 : Shape := ⟨2, ![64, 1]⟩
abbrev S64x1024 : Shape := ⟨2, ![64, 1024]⟩

abbrev nBuf : Space → Nat
  | .hbm => 20
  | .vmem => 14
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S8x64x64, .f32⟩
  | .hbm, ⟨6, _⟩ => ⟨S8x64x64, .f32⟩
  | .hbm, ⟨7, _⟩ => ⟨S64x64x16, .f32⟩
  | .hbm, ⟨8, _⟩ => ⟨S64x64x16, .f32⟩
  | .hbm, ⟨9, _⟩ => ⟨S8x128, .f32⟩
  | .hbm, ⟨10, _⟩ => ⟨S64x1, .f32⟩
  | .hbm, ⟨11, _⟩ => ⟨S64x1024, .f32⟩
  | .hbm, ⟨12, _⟩ => ⟨S64x1024, .f32⟩
  | .hbm, ⟨13, _⟩ => ⟨S64x1024, .f32⟩
  | .hbm, ⟨14, _⟩ => ⟨S64x1024, .f32⟩
  | .hbm, ⟨15, _⟩ => ⟨S64x64, .f32⟩
  | .hbm, ⟨16, _⟩ => ⟨S64x64, .f32⟩
  | .hbm, ⟨17, _⟩ => ⟨S64x1, .f32⟩
  | .hbm, ⟨18, _⟩ => ⟨S64x1024, .f32⟩
  | .hbm, ⟨19, _⟩ => ⟨S64x1024, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S64x1024, .f32⟩
  | .local _ .vmem, ⟨4, _⟩ => ⟨S64x1024, .f32⟩
  | .local _ .vmem, ⟨5, _⟩ => ⟨S8x64x64, .f32⟩
  | .local _ .vmem, ⟨6, _⟩ => ⟨S8x64x64, .f32⟩
  | .local _ .vmem, ⟨7, _⟩ => ⟨S64x1024, .f32⟩
  | .local _ .vmem, ⟨8, _⟩ => ⟨S64x1024, .f32⟩
  | .local _ .vmem, ⟨9, _⟩ => ⟨S64x64, .f32⟩
  | .local _ .vmem, ⟨10, _⟩ => ⟨S64x64, .f32⟩
  | .local _ .vmem, ⟨11, _⟩ => ⟨S64x1, .f32⟩
  | .local _ .vmem, ⟨12, _⟩ => ⟨S64x1024, .f32⟩
  | .local _ .vmem, ⟨13, _⟩ => ⟨S64x1024, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== DiscReferenceIdeal.lean ====
abbrev S64x64 : Shape := ⟨2, ![64, 64]⟩
abbrev S64 : Shape := ⟨1, ![64]⟩
abbrev S64x64x16 : Shape := ⟨3, ![64, 64, 16]⟩
abbrev S8x64x64 : Shape := ⟨3, ![8, 64, 64]⟩
abbrev S8x128 : Shape := ⟨2, ![8, 128]⟩
abbrev S64x1 : Shape := ⟨2, ![64, 1]⟩
abbrev S_ : Shape := ⟨0, ![]⟩
abbrev S64x64x1 : Shape := ⟨3, ![64, 64, 1]⟩
abbrev S64x1024 : Shape := ⟨2, ![64, 1024]⟩

abbrev nBuf : Space → Nat
  | .hbm => 166
  | .vmem => 0
  | .smem => 0
  | _ => 0

abbrev hbmTy0_0 (i : Nat) : BufTy := match i % 128 with
  | 0 => ⟨S64x64, .f32⟩
  | 1 => ⟨S64x64, .f32⟩
  | 2 => ⟨S64, .f32⟩
  | 3 => ⟨S64x64x16, .f32⟩
  | 4 => ⟨S64x64x16, .f32⟩
  | 5 => ⟨S8x64x64, .f32⟩
  | 6 => ⟨S8x64x64, .f32⟩
  | 7 => ⟨S64x64x16, .f32⟩
  | 8 => ⟨S64x64x16, .f32⟩
  | 9 => ⟨S8x128, .f32⟩
  | 10 => ⟨S64, .f32⟩
  | 11 => ⟨S64x1, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S_, .f32⟩
  | 27 => ⟨S64x64, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S_, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S64x64, .f32⟩
  | 42 => ⟨S_, .f32⟩
  | 43 => ⟨S64x64, .f32⟩
  | 44 => ⟨S64x64, .f32⟩
  | 45 => ⟨S64x64x1, .f32⟩
  | 46 => ⟨S64x64x16, .f32⟩
  | 47 => ⟨S64x64x16, .f32⟩
  | 48 => ⟨S64x64x1, .f32⟩
  | 49 => ⟨S64x64x16, .f32⟩
  | 50 => ⟨S64x64x16, .f32⟩
  | 51 => ⟨S64x64x16, .f32⟩
  | 52 => ⟨S64x64x1, .f32⟩
  | 53 => ⟨S64x64x16, .f32⟩
  | 54 => ⟨S64x64x16, .f32⟩
  | 55 => ⟨S64x64x1, .f32⟩
  | 56 => ⟨S64x64x16, .f32⟩
  | 57 => ⟨S64x64x16, .f32⟩
  | 58 => ⟨S64x64x16, .f32⟩
  | 59 => ⟨S_, .f32⟩
  | 60 => ⟨S64x64, .f32⟩
  | 61 => ⟨S_, .f32⟩
  | 62 => ⟨S64x64, .f32⟩
  | 63 => ⟨S64x64x16, .f32⟩
  | 64 => ⟨S64x64x16, .f32⟩
  | 65 => ⟨S64x64x16, .f32⟩
  | 66 => ⟨S64x64x16, .f32⟩
  | 67 => ⟨S64x64x16, .f32⟩
  | 68 => ⟨S_, .f32⟩
  | 69 => ⟨S64x64, .f32⟩
  | 70 => ⟨S64x64x1, .f32⟩
  | 71 => ⟨S_, .f32⟩
  | 72 => ⟨S64x64, .f32⟩
  | 73 => ⟨S64x64x16, .f32⟩
  | 74 => ⟨S64x64x16, .f32⟩
  | 75 => ⟨S64x64x16, .f32⟩
  | 76 => ⟨S_, .f32⟩
  | 77 => ⟨S64x64, .f32⟩
  | 78 => ⟨S64x64x1, .f32⟩
  | 79 => ⟨S_, .f32⟩
  | 80 => ⟨S64x64, .f32⟩
  | 81 => ⟨S64x64x16, .f32⟩
  | 82 => ⟨S64x64x16, .f32⟩
  | 83 => ⟨S64x64x16, .f32⟩
  | 84 => ⟨S64x64x16, .f32⟩
  | 85 => ⟨S64x64x16, .f32⟩
  | 86 => ⟨S64x64x16, .f32⟩
  | 87 => ⟨S_, .f32⟩
  | 88 => ⟨S64x64, .f32⟩
  | 89 => ⟨S64x64x1, .f32⟩
  | 90 => ⟨S_, .f32⟩
  | 91 => ⟨S64x64, .f32⟩
  | 92 => ⟨S64x64, .f32⟩
  | 93 => ⟨S64x64x16, .f32⟩
  | 94 => ⟨S64x64x16, .f32⟩
  | 95 => ⟨S64x64x16, .f32⟩
  | 96 => ⟨S64x64x16, .f32⟩
  | 97 => ⟨S_, .f32⟩
  | 98 => ⟨S64x64, .f32⟩
  | 99 => ⟨S64x64x1, .f32⟩
  | 100 => ⟨S_, .f32⟩
  | 101 => ⟨S64x64, .f32⟩
  | 102 => ⟨S64x64, .f32⟩
  | 103 => ⟨S64x64, .f32⟩
  | 104 => ⟨S64x64, .f32⟩
  | 105 => ⟨S64x64, .f32⟩
  | 106 => ⟨S64x64, .f32⟩
  | 107 => ⟨S64x64, .f32⟩
  | 108 => ⟨S64x64, .f32⟩
  | 109 => ⟨S64x64, .f32⟩
  | 110 => ⟨S64x64, .f32⟩
  | 111 => ⟨S64x64, .f32⟩
  | 112 => ⟨S64x64, .f32⟩
  | 113 => ⟨S64x64, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S64x64, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S64x64, .f32⟩
  | 9 => ⟨S64x64, .f32⟩
  | 10 => ⟨S64x64, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S_, .f32⟩
  | 18 => ⟨S64, .f32⟩
  | 19 => ⟨S64x1, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S_, .f32⟩
  | 26 => ⟨S64, .f32⟩
  | 27 => ⟨S64x1, .f32⟩
  | 28 => ⟨S64x1, .f32⟩
  | 29 => ⟨S64x64, .f32⟩
  | 30 => ⟨S64x64, .f32⟩
  | 31 => ⟨S64x64, .f32⟩
  | 32 => ⟨S_, .f32⟩
  | 33 => ⟨S64, .f32⟩
  | 34 => ⟨S64, .f32⟩
  | 35 => ⟨S64x1, .f32⟩
  | 36 => ⟨S64x1024, .f32⟩
  | 37 => ⟨S64x1024, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_2 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_4 : Ref sig .tc := ⟨.hbm, 68, rfl⟩
abbrev main_v53 : Ref sig .tc := ⟨.hbm, 69, rfl⟩
abbrev main_v54 : Ref sig .tc := ⟨.hbm, 70, rfl⟩
abbrev main_cst_5 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_6 : Ref sig .tc := ⟨.hbm, 76, rfl⟩
abbrev main_v59 : Ref sig .tc := ⟨.hbm, 77, rfl⟩
abbrev main_v60 : Ref sig .tc := ⟨.hbm, 78, rfl⟩
abbrev main_cst_7 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_8 : Ref sig .tc := ⟨.hbm, 87, rfl⟩
abbrev main_v68 : Ref sig .tc := ⟨.hbm, 88, rfl⟩
abbrev main_v69 : Ref sig .tc := ⟨.hbm, 89, rfl⟩
abbrev main_cst_9 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_10 : Ref sig .tc := ⟨.hbm, 97, rfl⟩
abbrev main_v76 : Ref sig .tc := ⟨.hbm, 98, rfl⟩
abbrev main_v77 : Ref sig .tc := ⟨.hbm, 99, rfl⟩
abbrev main_cst_11 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_cst_12 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_cst_13 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_cst_14 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩

abbrev nD : Nat := 1
abbrev τ : Topo := Topo.v7x

variable {F : FTy → Type} [FloatOps F]
-- ==== FfnKernel.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S8x128 : Shape := ⟨2, ![8, 128]⟩
abbrev S1x1024 : Shape := ⟨2, ![1, 1024]⟩
abbrev S8x352x1024 : Shape := ⟨3, ![8, 352, 1024]⟩
abbrev S_ : Shape := ⟨0, ![]⟩
abbrev S8x384x1024 : Shape := ⟨3, ![8, 384, 1024]⟩
abbrev S3072x1024 : Shape := ⟨2, ![3072, 1024]⟩
abbrev S2048x3072 : Shape := ⟨2, ![2048, 3072]⟩
abbrev S256x1024 : Shape := ⟨2, ![256, 1024]⟩
abbrev S256x3072 : Shape := ⟨2, ![256, 3072]⟩
abbrev S256 : Shape := ⟨1, ![256]⟩
abbrev S256x1 : Shape := ⟨2, ![256, 1]⟩
abbrev S1024x1024 : Shape := ⟨2, ![1024, 1024]⟩

abbrev nBuf : Space → Nat
  | .hbm => 40
  | .vmem => 28
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S8x128, .f32⟩
  | .hbm, ⟨8, _⟩ => ⟨S2048x1024, .bf16⟩
  | .hbm, ⟨9, _⟩ => ⟨S1x1024, .f32⟩
  | .hbm, ⟨10, _⟩ => ⟨S2816x1024, .f32⟩
  | .hbm, ⟨11, _⟩ => ⟨S8x352x1024, .f32⟩
  | .hbm, ⟨12, _⟩ => ⟨S8x352x1024, .bf16⟩
  | .hbm, ⟨13, _⟩ => ⟨S_, .i32⟩
  | .hbm, ⟨14, _⟩ => ⟨S_, .bf16⟩
  | .hbm, ⟨15, _⟩ => ⟨S8x384x1024, .bf16⟩
  | .hbm, ⟨16, _⟩ => ⟨S3072x1024, .bf16⟩
  | .hbm, ⟨17, _⟩ => ⟨S2816x1024, .f32⟩
  | .hbm, ⟨18, _⟩ => ⟨S8x352x1024, .f32⟩
  | .hbm, ⟨19, _⟩ => ⟨S8x352x1024, .bf16⟩
  | .hbm, ⟨20, _⟩ => ⟨S_, .i32⟩
  | .hbm, ⟨21, _⟩ => ⟨S_, .bf16⟩
  | .hbm, ⟨22, _⟩ => ⟨S8x384x1024, .bf16⟩
  | .hbm, ⟨23, _⟩ => ⟨S3072x1024, .bf16⟩
  | .hbm, ⟨24, _⟩ => ⟨S8x352x1024, .f32⟩
  | .hbm, ⟨25, _⟩ => ⟨S8x352x1024, .bf16⟩
  | .hbm, ⟨26, _⟩ => ⟨S_, .i32⟩
  | .hbm, ⟨27, _⟩ => ⟨S_, .bf16⟩
  | .hbm, ⟨28, _⟩ => ⟨S8x384x1024, .bf16⟩
  | .hbm, ⟨29, _⟩ => ⟨S3072x1024, .bf16⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .bf16⟩
  | .hbm, ⟨34, _⟩ => ⟨S2048x3072, .bf16⟩
  | .hbm, ⟨35, _⟩ => ⟨S2048x3072, .bf16⟩
  | .hbm, ⟨36, _⟩ => ⟨S2048x3072, .bf16⟩
  | .hbm, ⟨37, _⟩ => ⟨S2048x1024, .bf16⟩
  | .hbm, ⟨38, _⟩ => ⟨S2048x1024, .bf16⟩
  | .hbm, ⟨39, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S2048x1024, .bf16⟩
  | .local _ .vmem, ⟨5, _⟩ => ⟨S1x1024, .f32⟩
  | .local _ .vmem, ⟨6, _⟩ => ⟨S3072x1024, .bf16⟩
  | .local _ .vmem, ⟨7, _⟩ => ⟨S3072x1024, .bf16⟩
  | .local _ .vmem, ⟨8, _⟩ => ⟨S3072x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x3072, .bf16⟩
  | .local _ .vmem, ⟨18, _⟩ => ⟨S256x3072, .bf16⟩
  | .local _ .vmem, ⟨19, _⟩ => ⟨S256x3072, .bf16⟩
  | .local _ .vmem, ⟨20, _⟩ => ⟨S256x3072, .bf16⟩
  | .local _ .vmem, ⟨21, _⟩ => ⟨S256x3072, .bf16⟩
  | .local _ .vmem, ⟨22, _⟩ => ⟨S256x3072, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_call1_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_call2_v0 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v16_2 : Ref sig .tc := ⟨.hbm, 32, rfl⟩
abbrev main_v16_3 : Ref sig .tc := ⟨.hbm, 33, rfl⟩
abbrev main_v16_4 : Ref sig .tc := ⟨.hbm, 34, rfl⟩
abbrev main_v16_5 : Ref sig .tc := ⟨.hbm, 35, rfl⟩
abbrev main_v16_6 : Ref sig .tc := ⟨.hbm, 36, rfl⟩
abbrev main_v16_7 : Ref sig .tc := ⟨.hbm, 37, rfl⟩
abbrev main_v16_8 : Ref sig .tc := ⟨.hbm, 38, rfl⟩
abbrev main_v16_9 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== FfnReferenceIdeal.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S8x128 : Shape := ⟨2, ![8, 128]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2816 : Shape := ⟨2, ![2048, 2816]⟩
abbrev S2048x2048 : Shape := ⟨2, ![2048, 2048]⟩

abbrev nBuf : Space → Nat
  | .hbm => 91
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S8x128, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S_, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | .hbm, ⟨37, _⟩ => ⟨S_, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x2816, .f32⟩
  | .hbm, ⟨43, _⟩ => ⟨S2048x2816, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x2816, .f32⟩
  | .hbm, ⟨48, _⟩ => ⟨S2048x2816, .f32⟩
  | .hbm, ⟨49, _⟩ => ⟨S2048x2816, .f32⟩
  | .hbm, ⟨50, _⟩ => ⟨S2048x1024, .f32⟩
  | .hbm, ⟨51, _⟩ => ⟨S2048x2816, .f32⟩
  | .hbm, ⟨52, _⟩ => ⟨S2048x2816, .f32⟩
  | .hbm, ⟨53, _⟩ => ⟨S2048x2816, .f32⟩
  | .hbm, ⟨54, _⟩ => ⟨S2048x2816, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S1024, .f32⟩
  | .hbm, ⟨65, _⟩ => ⟨S2048x1024, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1, .f32⟩
  | .hbm, ⟨73, _⟩ => ⟨S_, .f32⟩
  | .hbm, ⟨74, _⟩ => ⟨S2048x1, .f32⟩
  | .hbm, ⟨75, _⟩ => ⟨S2048x1, .f32⟩
  | .hbm, ⟨76, _⟩ => ⟨S_, .f32⟩
  | .hbm, ⟨77, _⟩ => ⟨S2048, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S_, .f32⟩
  | .hbm, ⟨84, _⟩ => ⟨S2048x1024, .f32⟩
  | .hbm, ⟨85, _⟩ => ⟨S2048x2048, .f32⟩
  | .hbm, ⟨86, _⟩ => ⟨S2048x1024, .f32⟩
  | .hbm, ⟨87, _⟩ => ⟨S2048x2048, .f32⟩
  | .hbm, ⟨88, _⟩ => ⟨S2048x1024, .f32⟩
  | .hbm, ⟨89, _⟩ => ⟨S2048x1024, .f32⟩
  | .hbm, ⟨90, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v17_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v17_1 : Ref sig .tc := ⟨.hbm, 40, rfl⟩
abbrev main_v17_0 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_3 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_4 : Ref sig .tc := ⟨.hbm, 63, rfl⟩
abbrev main_v35 : Ref sig .tc := ⟨.hbm, 64, rfl⟩
abbrev main_v36 : Ref sig .tc := ⟨.hbm, 65, rfl⟩
abbrev main_cst_5 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_6 : Ref sig .tc := ⟨.hbm, 73, rfl⟩
abbrev main_v43 : Ref sig .tc := ⟨.hbm, 74, rfl⟩
abbrev main_v44 : Ref sig .tc := ⟨.hbm, 75, rfl⟩
abbrev main_cst_7 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_8 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩

abbrev nD : Nat := 1
abbrev τ : Topo := Topo.v7x

variable {F : FTy → Type} [FloatOps F]
-- ==== FwdKernel.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S8x352x1024 : Shape := ⟨3, ![8, 352, 1024]⟩
abbrev S_ : Shape := ⟨0, ![]⟩
abbrev S8x384x1024 : Shape := ⟨3, ![8, 384, 1024]⟩
abbrev S3072x1024 : Shape := ⟨2, ![3072, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩
abbrev S256x3072 : Shape := ⟨2, ![256, 3072]⟩

abbrev nBuf : Space → Nat
  | .hbm => 34
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S1x1024, .f32⟩
  | .hbm, ⟨12, _⟩ => ⟨S2816x1024, .f32⟩
  | .hbm, ⟨13, _⟩ => ⟨S8x352x1024, .f32⟩
  | .hbm, ⟨14, _⟩ => ⟨S8x352x1024, .bf16⟩
  | .hbm, ⟨15, _⟩ => ⟨S_, .i32⟩
  | .hbm, ⟨16, _⟩ => ⟨S_, .bf16⟩
  | .hbm, ⟨17, _⟩ => ⟨S8x384x1024, .bf16⟩
  | .hbm, ⟨18, _⟩ => ⟨S3072x1024, .bf16⟩
  | .hbm, ⟨19, _⟩ => ⟨S2816x1024, .f32⟩
  | .hbm, ⟨20, _⟩ => ⟨S8x352x1024, .f32⟩
  | .hbm, ⟨21, _⟩ => ⟨S8x352x1024, .bf16⟩
  | .hbm, ⟨22, _⟩ => ⟨S_, .i32⟩
  | .hbm, ⟨23, _⟩ => ⟨S_, .bf16⟩
  | .hbm, ⟨24, _⟩ => ⟨S8x384x1024, .bf16⟩
  | .hbm, ⟨25, _⟩ => ⟨S3072x1024, .bf16⟩
  | .hbm, ⟨26, _⟩ => ⟨S8x352x1024, .f32⟩
  | .hbm, ⟨27, _⟩ => ⟨S8x352x1024, .bf16⟩
  | .hbm, ⟨28, _⟩ => ⟨S_, .i32⟩
  | .hbm, ⟨29, _⟩ => ⟨S_, .bf16⟩
  | .hbm, ⟨30, _⟩ => ⟨S8x384x1024, .bf16⟩
  | .hbm, ⟨31, _⟩ => ⟨S3072x1024, .bf16⟩
  | .hbm, ⟨32, _⟩ => ⟨S2048x1024, .f32⟩
  | .hbm, ⟨33, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S2048x1024, .bf16⟩
  | .local _ .vmem, ⟨7, _⟩ => ⟨S1x1024, .f32⟩
  | .local _ .vmem, ⟨8, _⟩ => ⟨S3072x1024, .bf16⟩
  | .local _ .vmem, ⟨9, _⟩ => ⟨S3072x1024, .bf16⟩
  | .local _ .vmem, ⟨10, _⟩ => ⟨S3072x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_call1_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_call2_v0 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3072x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FwdReferenceIdeal.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2816 : Shape := ⟨2, ![2048, 2816]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S2048x2048, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S_, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x1024, .f32⟩
  | .hbm, ⟨40, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩

abbrev nD : Nat := 1
abbrev τ : Topo := Topo.v7x

variable {F : FTy → Type} [FloatOps F]
-- ==== WdnKernel.lean ====
abbrev S2048x2816 : Shape := ⟨2, ![2048, 2816]⟩
abbrev S2048x1024 : Shape := ⟨2, ![2048, 1024]⟩
abbrev S2048x8x352 : Shape := ⟨3, ![2048, 8, 352]⟩
abbrev S_ : Shape := ⟨0, ![]⟩
abbrev S2048x8x384 : Shape := ⟨3, ![2048, 8, 384]⟩
abbrev S2048x3072 : Shape := ⟨2, ![2048, 3072]⟩
abbrev S8x352x1024 : Shape := ⟨3, ![8, 352, 1024]⟩
abbrev S2048x384 : Shape := ⟨2, ![2048, 384]⟩
abbrev S1x352x1024 : Shape := ⟨3, ![1, 352, 1024]⟩
abbrev S384x1024 : Shape := ⟨2, ![384, 1024]⟩
abbrev S352x1024 : Shape := ⟨2, ![352, 1024]⟩

abbrev nBuf : Space → Nat
  | .hbm => 10
  | .vmem => 5
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2048x8x352, .f32⟩
  | .hbm, ⟨3, _⟩ => ⟨S2048x8x352, .bf16⟩
  | .hbm, ⟨4, _⟩ => ⟨S_, .i32⟩
  | .hbm, ⟨5, _⟩ => ⟨S_, .bf16⟩
  | .hbm, ⟨6, _⟩ => ⟨S2048x8x384, .bf16⟩
  | .hbm, ⟨7, _⟩ => ⟨S2048x3072, .bf16⟩
  | .hbm, ⟨8, _⟩ => ⟨S2048x1024, .bf16⟩
  | .hbm, ⟨9, _⟩ => ⟨S8x352x1024, .bf16⟩
  | .local _ .vmem, ⟨0, _⟩ => ⟨S2048x384, .bf16⟩
  | .local _ .vmem, ⟨1, _⟩ => ⟨S2048x384, .bf16⟩
  | .local _ .vmem, ⟨2, _⟩ => ⟨S2048x1024, .bf16⟩
  | .local _ .vmem, ⟨3, _⟩ => ⟨S1x352x1024, .bf16⟩
  | .local _ .vmem, ⟨4, _⟩ => ⟨S1x352x1024, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WdnReferenceIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩
abbrev S8x352x1024 : Shape := ⟨3, ![8, 352, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x1024, .f32⟩
  | .hbm, ⟨5, _⟩ => ⟨S1024x2816, .f32⟩
  | .hbm, ⟨6, _⟩ => ⟨S2816x1024, .f32⟩
  | .hbm, ⟨7, _⟩ => ⟨S8x352x1024, .f32⟩
  | .hbm, ⟨8, _⟩ => ⟨S8x352x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WgtKernel.lean ====
abbrev S2048x2816 : Shape := ⟨2, ![2048, 2816]⟩
abbrev S2048x1024 : Shape := ⟨2, ![2048, 1024]⟩
abbrev S2048x8x352 : Shape := ⟨3, ![2048, 8, 352]⟩
abbrev S_ : Shape := ⟨0, ![]⟩
abbrev S2048x8x384 : Shape := ⟨3, ![2048, 8, 384]⟩
abbrev S2048x3072 : Shape := ⟨2, ![2048, 3072]⟩
abbrev S8x352x1024 : Shape := ⟨3, ![8, 352, 1024]⟩
abbrev S2048x384 : Shape := ⟨2, ![2048, 384]⟩
abbrev S1x352x1024 : Shape := ⟨3, ![1, 352, 1024]⟩
abbrev S384x1024 : Shape := ⟨2, ![384, 1024]⟩
abbrev S352x1024 : Shape := ⟨2, ![352, 1024]⟩

abbrev nBuf : Space → Nat
  | .hbm => 10
  | .vmem => 5
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2048x8x352, .f32⟩
  | .hbm, ⟨3, _⟩ => ⟨S2048x8x352, .bf16⟩
  | .hbm, ⟨4, _⟩ => ⟨S_, .i32⟩
  | .hbm, ⟨5, _⟩ => ⟨S_, .bf16⟩
  | .hbm, ⟨6, _⟩ => ⟨S2048x8x384, .bf16⟩
  | .hbm, ⟨7, _⟩ => ⟨S2048x3072, .bf16⟩
  | .hbm, ⟨8, _⟩ => ⟨S2048x1024, .bf16⟩
  | .hbm, ⟨9, _⟩ => ⟨S8x352x1024, .bf16⟩
  | .local _ .vmem, ⟨0, _⟩ => ⟨S2048x384, .bf16⟩
  | .local _ .vmem, ⟨1, _⟩ => ⟨S2048x384, .bf16⟩
  | .local _ .vmem, ⟨2, _⟩ => ⟨S2048x1024, .bf16⟩
  | .local _ .vmem, ⟨3, _⟩ => ⟨S1x352x1024, .bf16⟩
  | .local _ .vmem, ⟨4, _⟩ => ⟨S1x352x1024, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WgtReferenceIdeal.lean ====
abbrev S2048x2816 : Shape := ⟨2, ![2048, 2816]⟩
abbrev S2048x1024 : Shape := ⟨2, ![2048, 1024]⟩
abbrev S_ : Shape := ⟨0, ![]⟩
abbrev S1024x2816 : Shape := ⟨2, ![1024, 2816]⟩
abbrev S2816x1024 : Shape := ⟨2, ![2816, 1024]⟩
abbrev S8x352x1024 : Shape := ⟨3, ![8, 352, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S_, .f32⟩
  | .hbm, ⟨3, _⟩ => ⟨S1024x2816, .f32⟩
  | .hbm, ⟨4, _⟩ => ⟨S2048x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S8x352x1024, .f32⟩
  | .hbm, ⟨9, _⟩ => ⟨S8x352x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InbKernel.lean ====
abbrev S2048x1024 : Shape := ⟨2, ![2048, 1024]⟩
abbrev S1024 : Shape := ⟨1, ![1024]⟩
abbrev S1024x3600 : Shape := ⟨2, ![1024, 3600]⟩
abbrev S2048x1536 : Shape := ⟨2, ![2048, 1536]⟩
abbrev S2048x16 : Shape := ⟨2, ![2048, 16]⟩
abbrev S1024x1024 : Shape := ⟨2, ![1024, 1024]⟩
abbrev S1024x1536 : Shape := ⟨2, ![1024, 1536]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S2048x128 : Shape := ⟨2, ![2048, 128]⟩
abbrev S256x1024 : Shape := ⟨2, ![256, 1024]⟩
abbrev S256x1536 : Shape := ⟨2, ![256, 1536]⟩
abbrev S256x128 : Shape := ⟨2, ![256, 128]⟩
abbrev S256 : Shape := ⟨1, ![256]⟩
abbrev S256x1 : Shape := ⟨2, ![256, 1]⟩

abbrev nBuf : Space → Nat
  | .hbm => 27
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x3600, .f32⟩
  | .hbm, ⟨3, _⟩ => ⟨S2048x1024, .f32⟩
  | .hbm, ⟨4, _⟩ => ⟨S2048x1024, .f32⟩
  | .hbm, ⟨5, _⟩ => ⟨S2048x1536, .f32⟩
  | .hbm, ⟨6, _⟩ => ⟨S2048x16, .f32⟩
  | .hbm, ⟨7, _⟩ => ⟨S2048x1024, .f32⟩
  | .hbm, ⟨8, _⟩ => ⟨S1024x3600, .bf16⟩
  | .hbm, ⟨9, _⟩ => ⟨S1024x1024, .bf16⟩
  | .hbm, ⟨10, _⟩ => ⟨S1024x1024, .bf16⟩
  | .hbm, ⟨11, _⟩ => ⟨S1024x1536, .bf16⟩
  | .hbm, ⟨12, _⟩ => ⟨S1024x16, .bf16⟩
  | .hbm, ⟨13, _⟩ => ⟨S_, .i32⟩
  | .hbm, ⟨14, _⟩ => ⟨S_, .bf16⟩
  | .hbm, ⟨15, _⟩ => ⟨S1024x128, .bf16⟩
  | .hbm, ⟨16, _⟩ => ⟨S1x1024, .f32⟩
  | .hbm, ⟨17, _⟩ => ⟨S2048x1024, .bf16⟩
  | .hbm, ⟨18, _⟩ => ⟨S2048x1024, .bf16⟩
  | .hbm, ⟨19, _⟩ => ⟨S2048x1536, .bf16⟩
  | .hbm, ⟨20, _⟩ => ⟨S2048x16, .bf16⟩
  | .hbm, ⟨21, _⟩ => ⟨S_, .i32⟩
  | .hbm, ⟨22, _⟩ => ⟨S_, .bf16⟩
  | .hbm, ⟨23, _⟩ => ⟨S2048x128, .bf16⟩
  | .hbm, ⟨24, _⟩ => ⟨S2048x1024, .f32⟩
  | .hbm, ⟨25, _⟩ => ⟨S2048x1024, .bf16⟩
  | .hbm, ⟨26, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1536, .bf16⟩
  | .local _ .vmem, ⟨8, _⟩ => ⟨S256x1536, .bf16⟩
  | .local _ .vmem, ⟨9, _⟩ => ⟨S256x128, .bf16⟩
  | .local _ .vmem, ⟨10, _⟩ => ⟨S256x128, .bf16⟩
  | .local _ .vmem, ⟨11, _⟩ => ⟨S256x1024, .f32⟩
  | .local _ .vmem, ⟨12, _⟩ => ⟨S256x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1536, .bf16⟩
  | .local _ .vmem, ⟨16, _⟩ => ⟨S1024x128, .bf16⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_call1_v0 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InbReferenceIdeal.lean ====
abbrev S2048x1024 : Shape := ⟨2, ![2048, 1024]⟩
abbrev S1024 : Shape := ⟨1, ![1024]⟩
abbrev S1024x3600 : Shape := ⟨2, ![1024, 3600]⟩
abbrev S2048x1536 : Shape := ⟨2, ![2048, 1536]⟩
abbrev S2048x16 : Shape := ⟨2, ![2048, 16]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x3600 : Shape := ⟨2, ![2048, 3600]⟩

abbrev nBuf : Space → Nat
  | .hbm => 89
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x3600, .f32⟩
  | .hbm, ⟨3, _⟩ => ⟨S2048x1024, .f32⟩
  | .hbm, ⟨4, _⟩ => ⟨S2048x1024, .f32⟩
  | .hbm, ⟨5, _⟩ => ⟨S2048x1536, .f32⟩
  | .hbm, ⟨6, _⟩ => ⟨S2048x16, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x3600, .f32⟩
  | .hbm, ⟨29, _⟩ => ⟨S2048x1024, .f32⟩
  | .hbm, ⟨30, _⟩ => ⟨S2048x1024, .f32⟩
  | .hbm, ⟨31, _⟩ => ⟨S2048x1536, .f32⟩
  | .hbm, ⟨32, _⟩ => ⟨S2048x16, .f32⟩
  | .hbm, ⟨33, _⟩ => ⟨S_, .f32⟩
  | .hbm, ⟨34, _⟩ => ⟨S2048x3600, .f32⟩
  | .hbm, ⟨35, _⟩ => ⟨S_, .f32⟩
  | .hbm, ⟨36, _⟩ => ⟨S2048x3600, .f32⟩
  | .hbm, ⟨37, _⟩ => ⟨S2048x3600, .f32⟩
  | .hbm, ⟨38, _⟩ => ⟨S_, .f32⟩
  | .hbm, ⟨39, _⟩ => ⟨S2048x3600, .f32⟩
  | .hbm, ⟨40, _⟩ => ⟨S2048x3600, .f32⟩
  | .hbm, ⟨41, _⟩ => ⟨S_, .f32⟩
  | .hbm, ⟨42, _⟩ => ⟨S2048x3600, .f32⟩
  | .hbm, ⟨43, _⟩ => ⟨S2048x3600, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S2048x1024, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S2048x1024, .f32⟩
  | .hbm, ⟨58, _⟩ => ⟨S2048x1024, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S_, .f32⟩
  | .hbm, ⟨73, _⟩ => ⟨S2048, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S_, .f32⟩
  | .hbm, ⟨79, _⟩ => ⟨S2048x1, .f32⟩
  | .hbm, ⟨80, _⟩ => ⟨S2048x1, .f32⟩
  | .hbm, ⟨81, _⟩ => ⟨S2048x1, .f32⟩
  | .hbm, ⟨82, _⟩ => ⟨S2048x1024, .f32⟩
  | .hbm, ⟨83, _⟩ => ⟨S2048x1024, .f32⟩
  | .hbm, ⟨84, _⟩ => ⟨S1x1024, .f32⟩
  | .hbm, ⟨85, _⟩ => ⟨S2048x1024, .f32⟩
  | .hbm, ⟨86, _⟩ => ⟨S2048x1024, .f32⟩
  | .hbm, ⟨87, _⟩ => ⟨S2048x1024, .bf16⟩
  | .hbm, ⟨88, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_cst_13 : Ref sig .tc := ⟨.hbm, 75, rfl⟩
abbrev main_v53 : Ref sig .tc := ⟨.hbm, 76, rfl⟩
abbrev main_v54 : Ref sig .tc := ⟨.hbm, 77, rfl⟩
abbrev main_cst_14 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]
-- ==== InfKernel.lean ====
abbrev S2048x1024 : Shape := ⟨2, ![2048, 1024]⟩
abbrev S1024 : Shape := ⟨1, ![1024]⟩
abbrev S1024x3600 : Shape := ⟨2, ![1024, 3600]⟩
abbrev S1024x1024 : Shape := ⟨2, ![1024, 1024]⟩
abbrev S1024x1536 : Shape := ⟨2, ![1024, 1536]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S2048x1536 : Shape := ⟨2, ![2048, 1536]⟩
abbrev S2048x128 : Shape := ⟨2, ![2048, 128]⟩
abbrev S256x1024 : Shape := ⟨2, ![256, 1024]⟩
abbrev S256x1536 : Shape := ⟨2, ![256, 1536]⟩
abbrev S256x128 : Shape := ⟨2, ![256, 128]⟩
abbrev S256 : Shape := ⟨1, ![256]⟩
abbrev S256x1 : Shape := ⟨2, ![256, 1]⟩

abbrev nBuf : Space → Nat
  | .hbm => 16
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x3600, .f32⟩
  | .hbm, ⟨3, _⟩ => ⟨S1024x3600, .bf16⟩
  | .hbm, ⟨4, _⟩ => ⟨S1024x1024, .bf16⟩
  | .hbm, ⟨5, _⟩ => ⟨S1024x1024, .bf16⟩
  | .hbm, ⟨6, _⟩ => ⟨S1024x1536, .bf16⟩
  | .hbm, ⟨7, _⟩ => ⟨S1024x16, .bf16⟩
  | .hbm, ⟨8, _⟩ => ⟨S_, .i32⟩
  | .hbm, ⟨9, _⟩ => ⟨S_, .bf16⟩
  | .hbm, ⟨10, _⟩ => ⟨S1024x128, .bf16⟩
  | .hbm, ⟨11, _⟩ => ⟨S1x1024, .f32⟩
  | .hbm, ⟨12, _⟩ => ⟨S2048x1024, .f32⟩
  | .hbm, ⟨13, _⟩ => ⟨S2048x1024, .f32⟩
  | .hbm, ⟨14, _⟩ => ⟨S2048x1536, .f32⟩
  | .hbm, ⟨15, _⟩ => ⟨S2048x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1536, .bf16⟩
  | .local _ .vmem, ⟨6, _⟩ => ⟨S1024x128, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1536, .f32⟩
  | .local _ .vmem, ⟨12, _⟩ => ⟨S256x1536, .f32⟩
  | .local _ .vmem, ⟨13, _⟩ => ⟨S256x128, .f32⟩
  | .local _ .vmem, ⟨14, _⟩ => ⟨S256x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InfReferenceIdeal.lean ====
abbrev S2048x1024 : Shape := ⟨2, ![2048, 1024]⟩
abbrev S1024 : Shape := ⟨1, ![1024]⟩
abbrev S1024x3600 : Shape := ⟨2, ![1024, 3600]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x3600 : Shape := ⟨2, ![2048, 3600]⟩
abbrev S2048x1536 : Shape := ⟨2, ![2048, 1536]⟩
abbrev S2048x16 : Shape := ⟨2, ![2048, 16]⟩
abbrev S2048x128 : Shape := ⟨2, ![2048, 128]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x3600, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x3600, .f32⟩
  | .hbm, ⟨20, _⟩ => ⟨S2048x1024, .f32⟩
  | .hbm, ⟨21, _⟩ => ⟨S2048x1024, .f32⟩
  | .hbm, ⟨22, _⟩ => ⟨S2048x1536, .f32⟩
  | .hbm, ⟨23, _⟩ => ⟨S2048x16, .f32⟩
  | .hbm, ⟨24, _⟩ => ⟨S_, .i32⟩
  | .hbm, ⟨25, _⟩ => ⟨S_, .f32⟩
  | .hbm, ⟨26, _⟩ => ⟨S2048x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== WiuKernel.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WiuReferenceIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WixKernel.lean ====
abbrev S2048x1024 : Shape := ⟨2, ![2048, 1024]⟩
abbrev S2048x1536 : Shape := ⟨2, ![2048, 1536]⟩
abbrev S1024x1536 : Shape := ⟨2, ![1024, 1536]⟩
abbrev S2048x512 : Shape := ⟨2, ![2048, 512]⟩
abbrev S512x1536 : Shape := ⟨2, ![512, 1536]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1536, .f32⟩
  | .hbm, ⟨2, _⟩ => ⟨S2048x1024, .bf16⟩
  | .hbm, ⟨3, _⟩ => ⟨S2048x1536, .bf16⟩
  | .hbm, ⟨4, _⟩ => ⟨S1024x1536, .bf16⟩
  | .local _ .vmem, ⟨0, _⟩ => ⟨S2048x512, .bf16⟩
  | .local _ .vmem, ⟨1, _⟩ => ⟨S2048x512, .bf16⟩
  | .local _ .vmem, ⟨2, _⟩ => ⟨S2048x1536, .bf16⟩
  | .local _ .vmem, ⟨3, _⟩ => ⟨S512x1536, .bf16⟩
  | .local _ .vmem, ⟨4, _⟩ => ⟨S512x1536, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WixReferenceIdeal.lean ====
abbrev S2048x1024 : Shape := ⟨2, ![2048, 1024]⟩
abbrev S2048x1536 : Shape := ⟨2, ![2048, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1536, .f32⟩
  | .hbm, ⟨2, _⟩ => ⟨S_, .f32⟩
  | .hbm, ⟨3, _⟩ => ⟨S1024x1536, .f32⟩
  | .hbm, ⟨4, _⟩ => ⟨S2048x1536, .f32⟩
  | .hbm, ⟨5, _⟩ => ⟨S1536x1024, .f32⟩
  | .hbm, ⟨6, _⟩ => ⟨S1024x1536, .f32⟩
  | .hbm, ⟨7, _⟩ => ⟨S1024x1536, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WidKernel.lean ====
abbrev S2048x1024 : Shape := ⟨2, ![2048, 1024]⟩
abbrev S2048x16 : Shape := ⟨2, ![2048, 16]⟩
abbrev S_ : Shape := ⟨0, ![]⟩
abbrev S2048x128 : Shape := ⟨2, ![2048, 128]⟩
abbrev S1024x128 : Shape := ⟨2, ![1024, 128]⟩
abbrev S2048x512 : Shape := ⟨2, ![2048, 512]⟩
abbrev S512x128 : Shape := ⟨2, ![512, 128]⟩

abbrev nBuf : Space → Nat
  | .hbm => 8
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x16, .f32⟩
  | .hbm, ⟨2, _⟩ => ⟨S2048x16, .bf16⟩
  | .hbm, ⟨3, _⟩ => ⟨S_, .i32⟩
  | .hbm, ⟨4, _⟩ => ⟨S_, .bf16⟩
  | .hbm, ⟨5, _⟩ => ⟨S2048x128, .bf16⟩
  | .hbm, ⟨6, _⟩ => ⟨S2048x1024, .bf16⟩
  | .hbm, ⟨7, _⟩ => ⟨S1024x128, .bf16⟩
  | .local _ .vmem, ⟨0, _⟩ => ⟨S2048x512, .bf16⟩
  | .local _ .vmem, ⟨1, _⟩ => ⟨S2048x512, .bf16⟩
  | .local _ .vmem, ⟨2, _⟩ => ⟨S2048x128, .bf16⟩
  | .local _ .vmem, ⟨3, _⟩ => ⟨S512x128, .bf16⟩
  | .local _ .vmem, ⟨4, _⟩ => ⟨S512x128, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WidReferenceIdeal.lean ====
abbrev S2048x1024 : Shape := ⟨2, ![2048, 1024]⟩
abbrev S2048x16 : Shape := ⟨2, ![2048, 16]⟩
abbrev S_ : Shape := ⟨0, ![]⟩
abbrev S1024x16 : Shape := ⟨2, ![1024, 16]⟩
abbrev S16x1024 : Shape := ⟨2, ![16, 1024]⟩
abbrev S1024x128 : Shape := ⟨2, ![1024, 128]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x16, .f32⟩
  | .hbm, ⟨2, _⟩ => ⟨S_, .f32⟩
  | .hbm, ⟨3, _⟩ => ⟨S1024x16, .f32⟩
  | .hbm, ⟨4, _⟩ => ⟨S2048x16, .f32⟩
  | .hbm, ⟨5, _⟩ => ⟨S16x1024, .f32⟩
  | .hbm, ⟨6, _⟩ => ⟨S1024x16, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x128, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== WopKernel.lean ====
abbrev S2048x1024 : Shape := ⟨2, ![2048, 1024]⟩
abbrev S2x1024x1024 : Shape := ⟨3, ![2, 1024, 1024]⟩
abbrev S2048x512 : Shape := ⟨2, ![2048, 512]⟩
abbrev S1x512x1024 : Shape := ⟨3, ![1, 512, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S2x1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .bf16⟩
  | .local _ .vmem, ⟨5, _⟩ => ⟨S1x512x1024, .bf16⟩
  | .local _ .vmem, ⟨6, _⟩ => ⟨S1x512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c2_i32_0 : BitVec 32 := 2#32
  let v3 : BitVec 1 := Scalar.cmpi .sge arg0 c2_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== WopReferenceIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S2x1024x1024 : Shape := ⟨3, ![2, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x2048, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S1024x2048, .f32⟩
  | .hbm, ⟨8, _⟩ => ⟨S2048x1024, .f32⟩
  | .hbm, ⟨9, _⟩ => ⟨S2x1024x1024, .f32⟩
  | .hbm, ⟨10, _⟩ => ⟨S2x1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== LosKernel.lean ====
abbrev S2048x1024 : Shape := ⟨2, ![2048, 1024]⟩
abbrev S1024 : Shape := ⟨1, ![1024]⟩
abbrev S1x1024 : Shape := ⟨2, ![1, 1024]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S1x1024, .f32⟩
  | .hbm, ⟨4, _⟩ => ⟨S8x128, .f32⟩
  | .hbm, ⟨5, _⟩ => ⟨S2048x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S8x128, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LosReferenceIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S8x128, .f32⟩
  | .hbm, ⟨72, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== AdNKernel.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdNReferenceIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdLKernel.lean ====
abbrev S2x64x64 : Shape := ⟨3, ![2, 64, 64]⟩
abbrev S128x64 : Shape := ⟨2, ![128, 64]⟩

abbrev nBuf : Space → Nat
  | .hbm => 11
  | .vmem => 7
  | .smem => 0
  | _ => 0

abbrev bufTy : (tb : Table) → Fin (tcTables nBuf tb) → BufTy
  | .hbm, ⟨0, _⟩ => ⟨S2x64x64, .f32⟩
  | .hbm, ⟨1, _⟩ => ⟨S2x64x64, .f32⟩
  | .hbm, ⟨2, _⟩ => ⟨S2x64x64, .f32⟩
  | .hbm, ⟨3, _⟩ => ⟨S2x64x64, .f32⟩
  | .hbm, ⟨4, _⟩ => ⟨S128x64, .f32⟩
  | .hbm, ⟨5, _⟩ => ⟨S128x64, .f32⟩
  | .hbm, ⟨6, _⟩ => ⟨S128x64, .f32⟩
  | .hbm, ⟨7, _⟩ => ⟨S128x64, .f32⟩
  | .hbm, ⟨8, _⟩ => ⟨S128x64, .f32⟩
  | .hbm, ⟨9, _⟩ => ⟨S128x64, .f32⟩
  | .hbm, ⟨10, _⟩ => ⟨S128x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | _, _ => ⟨S2x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdLReferenceIdeal.lean ====
abbrev S2x64x64 : Shape := ⟨3, ![2, 64, 64]⟩
abbrev S_ : Shape := ⟨0, ![]⟩
abbrev S128x64 : Shape := ⟨2, ![128, 64]⟩

abbrev nBuf : Space → Nat
  | .hbm => 40
  | .vmem => 0
  | .smem => 0
  | _ => 0

abbrev bufTy : (tb : Table) → Fin (tcTables nBuf tb) → BufTy
  | .hbm, ⟨0, _⟩ => ⟨S2x64x64, .f32⟩
  | .hbm, ⟨1, _⟩ => ⟨S2x64x64, .f32⟩
  | .hbm, ⟨2, _⟩ => ⟨S2x64x64, .f32⟩
  | .hbm, ⟨3, _⟩ => ⟨S2x64x64, .f32⟩
  | .hbm, ⟨4, _⟩ => ⟨S_, .f32⟩
  | .hbm, ⟨5, _⟩ => ⟨S2x64x64, .f32⟩
  | .hbm, ⟨6, _⟩ => ⟨S2x64x64, .f32⟩
  | .hbm, ⟨7, _⟩ => ⟨S_, .f32⟩
  | .hbm, ⟨8, _⟩ => ⟨S2x64x64, .f32⟩
  | .hbm, ⟨9, _⟩ => ⟨S2x64x64, .f32⟩
  | .hbm, ⟨10, _⟩ => ⟨S2x64x64, .f32⟩
  | .hbm, ⟨11, _⟩ => ⟨S_, .f32⟩
  | .hbm, ⟨12, _⟩ => ⟨S2x64x64, .f32⟩
  | .hbm, ⟨13, _⟩ => ⟨S2x64x64, .f32⟩
  | .hbm, ⟨14, _⟩ => ⟨S2x64x64, .f32⟩
  | .hbm, ⟨15, _⟩ => ⟨S_, .f32⟩
  | .hbm, ⟨16, _⟩ => ⟨S2x64x64, .f32⟩
  | .hbm, ⟨17, _⟩ => ⟨S2x64x64, .f32⟩
  | .hbm, ⟨18, _⟩ => ⟨S2x64x64, .f32⟩
  | .hbm, ⟨19, _⟩ => ⟨S_, .f32⟩
  | .hbm, ⟨20, _⟩ => ⟨S2x64x64, .f32⟩
  | .hbm, ⟨21, _⟩ => ⟨S2x64x64, .f32⟩
  | .hbm, ⟨22, _⟩ => ⟨S_, .f32⟩
  | .hbm, ⟨23, _⟩ => ⟨S2x64x64, .f32⟩
  | .hbm, ⟨24, _⟩ => ⟨S2x64x64, .f32⟩
  | .hbm, ⟨25, _⟩ => ⟨S2x64x64, .f32⟩
  | .hbm, ⟨26, _⟩ => ⟨S_, .f32⟩
  | .hbm, ⟨27, _⟩ => ⟨S2x64x64, .f32⟩
  | .hbm, ⟨28, _⟩ => ⟨S2x64x64, .f32⟩
  | .hbm, ⟨29, _⟩ => ⟨S2x64x64, .f32⟩
  | .hbm, ⟨30, _⟩ => ⟨S_, .f32⟩
  | .hbm, ⟨31, _⟩ => ⟨S2x64x64, .f32⟩
  | .hbm, ⟨32, _⟩ => ⟨S2x64x64, .f32⟩
  | .hbm, ⟨33, _⟩ => ⟨S2x64x64, .f32⟩
  | .hbm, ⟨34, _⟩ => ⟨S_, .f32⟩
  | .hbm, ⟨35, _⟩ => ⟨S2x64x64, .f32⟩
  | .hbm, ⟨36, _⟩ => ⟨S2x64x64, .f32⟩
  | .hbm, ⟨37, _⟩ => ⟨S128x64, .f32⟩
  | .hbm, ⟨38, _⟩ => ⟨S128x64, .f32⟩
  | .hbm, ⟨39, _⟩ => ⟨S128x64, .f32⟩
  | _, _ => ⟨S2x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdSKernel.lean ====
abbrev S2x64 : Shape := ⟨2, ![2, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdSReferenceIdeal.lean ====
abbrev S2x64 : Shape := ⟨2, ![2, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S_, .f32⟩
  | .hbm, ⟨5, _⟩ => ⟨S2x64, .f32⟩
  | .hbm, ⟨6, _⟩ => ⟨S2x64, .f32⟩
  | .hbm, ⟨7, _⟩ => ⟨S_, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S_, .f32⟩
  | .hbm, ⟨12, _⟩ => ⟨S2x64, .f32⟩
  | .hbm, ⟨13, _⟩ => ⟨S2x64, .f32⟩
  | .hbm, ⟨14, _⟩ => ⟨S2x64, .f32⟩
  | .hbm, ⟨15, _⟩ => ⟨S_, .f32⟩
  | .hbm, ⟨16, _⟩ => ⟨S2x64, .f32⟩
  | .hbm, ⟨17, _⟩ => ⟨S2x64, .f32⟩
  | .hbm, ⟨18, _⟩ => ⟨S2x64, .f32⟩
  | .hbm, ⟨19, _⟩ => ⟨S_, .f32⟩
  | .hbm, ⟨20, _⟩ => ⟨S2x64, .f32⟩
  | .hbm, ⟨21, _⟩ => ⟨S2x64, .f32⟩
  | .hbm, ⟨22, _⟩ => ⟨S_, .f32⟩
  | .hbm, ⟨23, _⟩ => ⟨S2x64, .f32⟩
  | .hbm, ⟨24, _⟩ => ⟨S2x64, .f32⟩
  | .hbm, ⟨25, _⟩ => ⟨S2x64, .f32⟩
  | .hbm, ⟨26, _⟩ => ⟨S_, .f32⟩
  | .hbm, ⟨27, _⟩ => ⟨S2x64, .f32⟩
  | .hbm, ⟨28, _⟩ => ⟨S2x64, .f32⟩
  | .hbm, ⟨29, _⟩ => ⟨S2x64, .f32⟩
  | .hbm, ⟨30, _⟩ => ⟨S_, .f32⟩
  | .hbm, ⟨31, _⟩ => ⟨S2x64, .f32⟩
  | .hbm, ⟨32, _⟩ => ⟨S2x64, .f32⟩
  | .hbm, ⟨33, _⟩ => ⟨S2x64, .f32⟩
  | .hbm, ⟨34, _⟩ => ⟨S_, .f32⟩
  | .hbm, ⟨35, _⟩ => ⟨S2x64, .f32⟩
  | .hbm, ⟨36, _⟩ => ⟨S2x64, .f32⟩
  | _, _ => ⟨S2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdBKernel.lean ====
abbrev S2x64x64x16 : Shape := ⟨4, ![2, 64, 64, 16]⟩
abbrev S8192x16 : Shape := ⟨2, ![8192, 16]⟩
abbrev S1024x16 : Shape := ⟨2, ![1024, 16]⟩

abbrev nBuf : Space → Nat
  | .hbm => 11
  | .vmem => 14
  | .smem => 0
  | _ => 0

abbrev bufTy : (tb : Table) → Fin (tcTables nBuf tb) → BufTy
  | .hbm, ⟨0, _⟩ => ⟨S2x64x64x16, .f32⟩
  | .hbm, ⟨1, _⟩ => ⟨S2x64x64x16, .f32⟩
  | .hbm, ⟨2, _⟩ => ⟨S2x64x64x16, .f32⟩
  | .hbm, ⟨3, _⟩ => ⟨S2x64x64x16, .f32⟩
  | .hbm, ⟨4, _⟩ => ⟨S8192x16, .f32⟩
  | .hbm, ⟨5, _⟩ => ⟨S8192x16, .f32⟩
  | .hbm, ⟨6, _⟩ => ⟨S8192x16, .f32⟩
  | .hbm, ⟨7, _⟩ => ⟨S8192x16, .f32⟩
  | .hbm, ⟨8, _⟩ => ⟨S8192x16, .f32⟩
  | .hbm, ⟨9, _⟩ => ⟨S8192x16, .f32⟩
  | .hbm, ⟨10, _⟩ => ⟨S8192x16, .f32⟩
  | .local _ .vmem, ⟨0, _⟩ => ⟨S1024x16, .f32⟩
  | .local _ .vmem, ⟨1, _⟩ => ⟨S1024x16, .f32⟩
  | .local _ .vmem, ⟨2, _⟩ => ⟨S1024x16, .f32⟩
  | .local _ .vmem, ⟨3, _⟩ => ⟨S1024x16, .f32⟩
  | .local _ .vmem, ⟨4, _⟩ => ⟨S1024x16, .f32⟩
  | .local _ .vmem, ⟨5, _⟩ => ⟨S1024x16, .f32⟩
  | .local _ .vmem, ⟨6, _⟩ => ⟨S1024x16, .f32⟩
  | .local _ .vmem, ⟨7, _⟩ => ⟨S1024x16, .f32⟩
  | .local _ .vmem, ⟨8, _⟩ => ⟨S1024x16, .f32⟩
  | .local _ .vmem, ⟨9, _⟩ => ⟨S1024x16, .f32⟩
  | .local _ .vmem, ⟨10, _⟩ => ⟨S1024x16, .f32⟩
  | .local _ .vmem, ⟨11, _⟩ => ⟨S1024x16, .f32⟩
  | .local _ .vmem, ⟨12, _⟩ => ⟨S1024x16, .f32⟩
  | .local _ .vmem, ⟨13, _⟩ => ⟨S1024x16, .f32⟩
  | _, _ => ⟨S2x64x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdBReferenceIdeal.lean ====
abbrev S2x64x64x16 : Shape := ⟨4, ![2, 64, 64, 16]⟩
abbrev S_ : Shape := ⟨0, ![]⟩
abbrev S8192x16 : Shape := ⟨2, ![8192, 16]⟩

abbrev nBuf : Space → Nat
  | .hbm => 40
  | .vmem => 0
  | .smem => 0
  | _ => 0

abbrev bufTy : (tb : Table) → Fin (tcTables nBuf tb) → BufTy
  | .hbm, ⟨0, _⟩ => ⟨S2x64x64x16, .f32⟩
  | .hbm, ⟨1, _⟩ => ⟨S2x64x64x16, .f32⟩
  | .hbm, ⟨2, _⟩ => ⟨S2x64x64x16, .f32⟩
  | .hbm, ⟨3, _⟩ => ⟨S2x64x64x16, .f32⟩
  | .hbm, ⟨4, _⟩ => ⟨S_, .f32⟩
  | .hbm, ⟨5, _⟩ => ⟨S2x64x64x16, .f32⟩
  | .hbm, ⟨6, _⟩ => ⟨S2x64x64x16, .f32⟩
  | .hbm, ⟨7, _⟩ => ⟨S_, .f32⟩
  | .hbm, ⟨8, _⟩ => ⟨S2x64x64x16, .f32⟩
  | .hbm, ⟨9, _⟩ => ⟨S2x64x64x16, .f32⟩
  | .hbm, ⟨10, _⟩ => ⟨S2x64x64x16, .f32⟩
  | .hbm, ⟨11, _⟩ => ⟨S_, .f32⟩
  | .hbm, ⟨12, _⟩ => ⟨S2x64x64x16, .f32⟩
  | .hbm, ⟨13, _⟩ => ⟨S2x64x64x16, .f32⟩
  | .hbm, ⟨14, _⟩ => ⟨S2x64x64x16, .f32⟩
  | .hbm, ⟨15, _⟩ => ⟨S_, .f32⟩
  | .hbm, ⟨16, _⟩ => ⟨S2x64x64x16, .f32⟩
  | .hbm, ⟨17, _⟩ => ⟨S2x64x64x16, .f32⟩
  | .hbm, ⟨18, _⟩ => ⟨S2x64x64x16, .f32⟩
  | .hbm, ⟨19, _⟩ => ⟨S_, .f32⟩
  | .hbm, ⟨20, _⟩ => ⟨S2x64x64x16, .f32⟩
  | .hbm, ⟨21, _⟩ => ⟨S2x64x64x16, .f32⟩
  | .hbm, ⟨22, _⟩ => ⟨S_, .f32⟩
  | .hbm, ⟨23, _⟩ => ⟨S2x64x64x16, .f32⟩
  | .hbm, ⟨24, _⟩ => ⟨S2x64x64x16, .f32⟩
  | .hbm, ⟨25, _⟩ => ⟨S2x64x64x16, .f32⟩
  | .hbm, ⟨26, _⟩ => ⟨S_, .f32⟩
  | .hbm, ⟨27, _⟩ => ⟨S2x64x64x16, .f32⟩
  | .hbm, ⟨28, _⟩ => ⟨S2x64x64x16, .f32⟩
  | .hbm, ⟨29, _⟩ => ⟨S2x64x64x16, .f32⟩
  | .hbm, ⟨30, _⟩ => ⟨S_, .f32⟩
  | .hbm, ⟨31, _⟩ => ⟨S2x64x64x16, .f32⟩
  | .hbm, ⟨32, _⟩ => ⟨S2x64x64x16, .f32⟩
  | .hbm, ⟨33, _⟩ => ⟨S2x64x64x16, .f32⟩
  | .hbm, ⟨34, _⟩ => ⟨S_, .f32⟩
  | .hbm, ⟨35, _⟩ => ⟨S2x64x64x16, .f32⟩
  | .hbm, ⟨36, _⟩ => ⟨S2x64x64x16, .f32⟩
  | .hbm, ⟨37, _⟩ => ⟨S8192x16, .f32⟩
  | .hbm, ⟨38, _⟩ => ⟨S8192x16, .f32⟩
  | .hbm, ⟨39, _⟩ => ⟨S8192x16, .f32⟩
  | _, _ => ⟨S2x64x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdCKernel.lean ====
abbrev S2x64x16x64 : Shape := ⟨4, ![2, 64, 16, 64]⟩
abbrev S2048x64 : Shape := ⟨2, ![2048, 64]⟩
abbrev S1024x64 : Shape := ⟨2, ![1024, 64]⟩

abbrev nBuf : Space → Nat
  | .hbm => 11
  | .vmem => 14
  | .smem => 0
  | _ => 0

abbrev bufTy : (tb : Table) → Fin (tcTables nBuf tb) → BufTy
  | .hbm, ⟨0, _⟩ => ⟨S2x64x16x64, .f32⟩
  | .hbm, ⟨1, _⟩ => ⟨S2x64x16x64, .f32⟩
  | .hbm, ⟨2, _⟩ => ⟨S2x64x16x64, .f32⟩
  | .hbm, ⟨3, _⟩ => ⟨S2x64x16x64, .f32⟩
  | .hbm, ⟨4, _⟩ => ⟨S2048x64, .f32⟩
  | .hbm, ⟨5, _⟩ => ⟨S2048x64, .f32⟩
  | .hbm, ⟨6, _⟩ => ⟨S2048x64, .f32⟩
  | .hbm, ⟨7, _⟩ => ⟨S2048x64, .f32⟩
  | .hbm, ⟨8, _⟩ => ⟨S2048x64, .f32⟩
  | .hbm, ⟨9, _⟩ => ⟨S2048x64, .f32⟩
  | .hbm, ⟨10, _⟩ => ⟨S2048x64, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | _, _ => ⟨S2x64x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdCReferenceIdeal.lean ====
abbrev S2x64x16x64 : Shape := ⟨4, ![2, 64, 16, 64]⟩
abbrev S_ : Shape := ⟨0, ![]⟩
abbrev S2048x64 : Shape := ⟨2, ![2048, 64]⟩

abbrev nBuf : Space → Nat
  | .hbm => 40
  | .vmem => 0
  | .smem => 0
  | _ => 0

abbrev bufTy : (tb : Table) → Fin (tcTables nBuf tb) → BufTy
  | .hbm, ⟨0, _⟩ => ⟨S2x64x16x64, .f32⟩
  | .hbm, ⟨1, _⟩ => ⟨S2x64x16x64, .f32⟩
  | .hbm, ⟨2, _⟩ => ⟨S2x64x16x64, .f32⟩
  | .hbm, ⟨3, _⟩ => ⟨S2x64x16x64, .f32⟩
  | .hbm, ⟨4, _⟩ => ⟨S_, .f32⟩
  | .hbm, ⟨5, _⟩ => ⟨S2x64x16x64, .f32⟩
  | .hbm, ⟨6, _⟩ => ⟨S2x64x16x64, .f32⟩
  | .hbm, ⟨7, _⟩ => ⟨S_, .f32⟩
  | .hbm, ⟨8, _⟩ => ⟨S2x64x16x64, .f32⟩
  | .hbm, ⟨9, _⟩ => ⟨S2x64x16x64, .f32⟩
  | .hbm, ⟨10, _⟩ => ⟨S2x64x16x64, .f32⟩
  | .hbm, ⟨11, _⟩ => ⟨S_, .f32⟩
  | .hbm, ⟨12, _⟩ => ⟨S2x64x16x64, .f32⟩
  | .hbm, ⟨13, _⟩ => ⟨S2x64x16x64, .f32⟩
  | .hbm, ⟨14, _⟩ => ⟨S2x64x16x64, .f32⟩
  | .hbm, ⟨15, _⟩ => ⟨S_, .f32⟩
  | .hbm, ⟨16, _⟩ => ⟨S2x64x16x64, .f32⟩
  | .hbm, ⟨17, _⟩ => ⟨S2x64x16x64, .f32⟩
  | .hbm, ⟨18, _⟩ => ⟨S2x64x16x64, .f32⟩
  | .hbm, ⟨19, _⟩ => ⟨S_, .f32⟩
  | .hbm, ⟨20, _⟩ => ⟨S2x64x16x64, .f32⟩
  | .hbm, ⟨21, _⟩ => ⟨S2x64x16x64, .f32⟩
  | .hbm, ⟨22, _⟩ => ⟨S_, .f32⟩
  | .hbm, ⟨23, _⟩ => ⟨S2x64x16x64, .f32⟩
  | .hbm, ⟨24, _⟩ => ⟨S2x64x16x64, .f32⟩
  | .hbm, ⟨25, _⟩ => ⟨S2x64x16x64, .f32⟩
  | .hbm, ⟨26, _⟩ => ⟨S_, .f32⟩
  | .hbm, ⟨27, _⟩ => ⟨S2x64x16x64, .f32⟩
  | .hbm, ⟨28, _⟩ => ⟨S2x64x16x64, .f32⟩
  | .hbm, ⟨29, _⟩ => ⟨S2x64x16x64, .f32⟩
  | .hbm, ⟨30, _⟩ => ⟨S_, .f32⟩
  | .hbm, ⟨31, _⟩ => ⟨S2x64x16x64, .f32⟩
  | .hbm, ⟨32, _⟩ => ⟨S2x64x16x64, .f32⟩
  | .hbm, ⟨33, _⟩ => ⟨S2x64x16x64, .f32⟩
  | .hbm, ⟨34, _⟩ => ⟨S_, .f32⟩
  | .hbm, ⟨35, _⟩ => ⟨S2x64x16x64, .f32⟩
  | .hbm, ⟨36, _⟩ => ⟨S2x64x16x64, .f32⟩
  | .hbm, ⟨37, _⟩ => ⟨S2048x64, .f32⟩
  | .hbm, ⟨38, _⟩ => ⟨S2048x64, .f32⟩
  | .hbm, ⟨39, _⟩ => ⟨S2048x64, .f32⟩
  | _, _ => ⟨S2x64x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdVKernel.lean ====
abbrev S2x1536 : Shape := ⟨2, ![2, 1536]⟩

abbrev nBuf : Space → Nat
  | .hbm => 7
  | .vmem => 7
  | .smem => 0
  | _ => 0

abbrev bufTy : (tb : Table) → Fin (tcTables nBuf tb) → BufTy
  | .hbm, ⟨0, _⟩ => ⟨S2x1536, .f32⟩
  | .hbm, ⟨1, _⟩ => ⟨S2x1536, .f32⟩
  | .hbm, ⟨2, _⟩ => ⟨S2x1536, .f32⟩
  | .hbm, ⟨3, _⟩ => ⟨S2x1536, .f32⟩
  | .hbm, ⟨4, _⟩ => ⟨S2x1536, .f32⟩
  | .hbm, ⟨5, _⟩ => ⟨S2x1536, .f32⟩
  | .hbm, ⟨6, _⟩ => ⟨S2x1536, .f32⟩
  | .local _ .vmem, ⟨0, _⟩ => ⟨S2x1536, .f32⟩
  | .local _ .vmem, ⟨1, _⟩ => ⟨S2x1536, .f32⟩
  | .local _ .vmem, ⟨2, _⟩ => ⟨S2x1536, .f32⟩
  | .local _ .vmem, ⟨3, _⟩ => ⟨S2x1536, .f32⟩
  | .local _ .vmem, ⟨4, _⟩ => ⟨S2x1536, .f32⟩
  | .local _ .vmem, ⟨5, _⟩ => ⟨S2x1536, .f32⟩
  | .local _ .vmem, ⟨6, _⟩ => ⟨S2x1536, .f32⟩
  | _, _ => ⟨S2x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdVReferenceIdeal.lean ====
abbrev S2x1536 : Shape := ⟨2, ![2, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1536, .f32⟩
  | .hbm, ⟨1, _⟩ => ⟨S2x1536, .f32⟩
  | .hbm, ⟨2, _⟩ => ⟨S2x1536, .f32⟩
  | .hbm, ⟨3, _⟩ => ⟨S2x1536, .f32⟩
  | .hbm, ⟨4, _⟩ => ⟨S_, .f32⟩
  | .hbm, ⟨5, _⟩ => ⟨S2x1536, .f32⟩
  | .hbm, ⟨6, _⟩ => ⟨S2x1536, .f32⟩
  | .hbm, ⟨7, _⟩ => ⟨S_, .f32⟩
  | .hbm, ⟨8, _⟩ => ⟨S2x1536, .f32⟩
  | .hbm, ⟨9, _⟩ => ⟨S2x1536, .f32⟩
  | .hbm, ⟨10, _⟩ => ⟨S2x1536, .f32⟩
  | .hbm, ⟨11, _⟩ => ⟨S_, .f32⟩
  | .hbm, ⟨12, _⟩ => ⟨S2x1536, .f32⟩
  | .hbm, ⟨13, _⟩ => ⟨S2x1536, .f32⟩
  | .hbm, ⟨14, _⟩ => ⟨S2x1536, .f32⟩
  | .hbm, ⟨15, _⟩ => ⟨S_, .f32⟩
  | .hbm, ⟨16, _⟩ => ⟨S2x1536, .f32⟩
  | .hbm, ⟨17, _⟩ => ⟨S2x1536, .f32⟩
  | .hbm, ⟨18, _⟩ => ⟨S2x1536, .f32⟩
  | .hbm, ⟨19, _⟩ => ⟨S_, .f32⟩
  | .hbm, ⟨20, _⟩ => ⟨S2x1536, .f32⟩
  | .hbm, ⟨21, _⟩ => ⟨S2x1536, .f32⟩
  | .hbm, ⟨22, _⟩ => ⟨S_, .f32⟩
  | .hbm, ⟨23, _⟩ => ⟨S2x1536, .f32⟩
  | .hbm, ⟨24, _⟩ => ⟨S2x1536, .f32⟩
  | .hbm, ⟨25, _⟩ => ⟨S2x1536, .f32⟩
  | .hbm, ⟨26, _⟩ => ⟨S_, .f32⟩
  | .hbm, ⟨27, _⟩ => ⟨S2x1536, .f32⟩
  | .hbm, ⟨28, _⟩ => ⟨S2x1536, .f32⟩
  | .hbm, ⟨29, _⟩ => ⟨S2x1536, .f32⟩
  | .hbm, ⟨30, _⟩ => ⟨S_, .f32⟩
  | .hbm, ⟨31, _⟩ => ⟨S2x1536, .f32⟩
  | .hbm, ⟨32, _⟩ => ⟨S2x1536, .f32⟩
  | .hbm, ⟨33, _⟩ => ⟨S2x1536, .f32⟩
  | .hbm, ⟨34, _⟩ => ⟨S_, .f32⟩
  | .hbm, ⟨35, _⟩ => ⟨S2x1536, .f32⟩
  | .hbm, ⟨36, _⟩ => ⟨S2x1536, .f32⟩
  | _, _ => ⟨S2x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdHKernel.lean ====
abbrev S2x16 : Shape := ⟨2, ![2, 16]⟩

abbrev nBuf : Space → Nat
  | .hbm => 7
  | .vmem => 7
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S2x16, .f32⟩
  | .hbm, ⟨5, _⟩ => ⟨S2x16, .f32⟩
  | .hbm, ⟨6, _⟩ => ⟨S2x16, .f32⟩
  | .local _ .vmem, ⟨0, _⟩ => ⟨S2x16, .f32⟩
  | .local _ .vmem, ⟨1, _⟩ => ⟨S2x16, .f32⟩
  | .local _ .vmem, ⟨2, _⟩ => ⟨S2x16, .f32⟩
  | .local _ .vmem, ⟨3, _⟩ => ⟨S2x16, .f32⟩
  | .local _ .vmem, ⟨4, _⟩ => ⟨S2x16, .f32⟩
  | .local _ .vmem, ⟨5, _⟩ => ⟨S2x16, .f32⟩
  | .local _ .vmem, ⟨6, _⟩ => ⟨S2x16, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdHReferenceIdeal.lean ====
abbrev S2x16 : Shape := ⟨2, ![2, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S_, .f32⟩
  | .hbm, ⟨5, _⟩ => ⟨S2x16, .f32⟩
  | .hbm, ⟨6, _⟩ => ⟨S2x16, .f32⟩
  | .hbm, ⟨7, _⟩ => ⟨S_, .f32⟩
  | .hbm, ⟨8, _⟩ => ⟨S2x16, .f32⟩
  | .hbm, ⟨9, _⟩ => ⟨S2x16, .f32⟩
  | .hbm, ⟨10, _⟩ => ⟨S2x16, .f32⟩
  | .hbm, ⟨11, _⟩ => ⟨S_, .f32⟩
  | .hbm, ⟨12, _⟩ => ⟨S2x16, .f32⟩
  | .hbm, ⟨13, _⟩ => ⟨S2x16, .f32⟩
  | .hbm, ⟨14, _⟩ => ⟨S2x16, .f32⟩
  | .hbm, ⟨15, _⟩ => ⟨S_, .f32⟩
  | .hbm, ⟨16, _⟩ => ⟨S2x16, .f32⟩
  | .hbm, ⟨17, _⟩ => ⟨S2x16, .f32⟩
  | .hbm, ⟨18, _⟩ => ⟨S2x16, .f32⟩
  | .hbm, ⟨19, _⟩ => ⟨S_, .f32⟩
  | .hbm, ⟨20, _⟩ => ⟨S2x16, .f32⟩
  | .hbm, ⟨21, _⟩ => ⟨S2x16, .f32⟩
  | .hbm, ⟨22, _⟩ => ⟨S_, .f32⟩
  | .hbm, ⟨23, _⟩ => ⟨S2x16, .f32⟩
  | .hbm, ⟨24, _⟩ => ⟨S2x16, .f32⟩
  | .hbm, ⟨25, _⟩ => ⟨S2x16, .f32⟩
  | .hbm, ⟨26, _⟩ => ⟨S_, .f32⟩
  | .hbm, ⟨27, _⟩ => ⟨S2x16, .f32⟩
  | .hbm, ⟨28, _⟩ => ⟨S2x16, .f32⟩
  | .hbm, ⟨29, _⟩ => ⟨S2x16, .f32⟩
  | .hbm, ⟨30, _⟩ => ⟨S_, .f32⟩
  | .hbm, ⟨31, _⟩ => ⟨S2x16, .f32⟩
  | .hbm, ⟨32, _⟩ => ⟨S2x16, .f32⟩
  | .hbm, ⟨33, _⟩ => ⟨S2x16, .f32⟩
  | .hbm, ⟨34, _⟩ => ⟨S_, .f32⟩
  | .hbm, ⟨35, _⟩ => ⟨S2x16, .f32⟩
  | .hbm, ⟨36, _⟩ => ⟨S2x16, .f32⟩
  | _, _ => ⟨S2x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdFKernel.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdFReferenceIdeal.lean ====
abbrev S1024 : Shape := ⟨1, ![1024]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdGKernel.lean ====
abbrev S2x1024x352 : Shape := ⟨3, ![2, 1024, 352]⟩
abbrev S1x256x352 : Shape := ⟨3, ![1, 256, 352]⟩
abbrev S256x352 : Shape := ⟨2, ![256, 352]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x352, .f32⟩
  | .hbm, ⟨1, _⟩ => ⟨S2x1024x352, .f32⟩
  | .hbm, ⟨2, _⟩ => ⟨S2x1024x352, .f32⟩
  | .hbm, ⟨3, _⟩ => ⟨S2x1024x352, .f32⟩
  | .hbm, ⟨4, _⟩ => ⟨S2x1024x352, .f32⟩
  | .hbm, ⟨5, _⟩ => ⟨S2x1024x352, .f32⟩
  | .hbm, ⟨6, _⟩ => ⟨S2x1024x352, .f32⟩
  | .local _ .vmem, ⟨0, _⟩ => ⟨S1x256x352, .f32⟩
  | .local _ .vmem, ⟨1, _⟩ => ⟨S1x256x352, .f32⟩
  | .local _ .vmem, ⟨2, _⟩ => ⟨S1x256x352, .f32⟩
  | .local _ .vmem, ⟨3, _⟩ => ⟨S1x256x352, .f32⟩
  | .local _ .vmem, ⟨4, _⟩ => ⟨S1x256x352, .f32⟩
  | .local _ .vmem, ⟨5, _⟩ => ⟨S1x256x352, .f32⟩
  | .local _ .vmem, ⟨6, _⟩ => ⟨S1x256x352, .f32⟩
  | .local _ .vmem, ⟨7, _⟩ => ⟨S1x256x352, .f32⟩
  | .local _ .vmem, ⟨8, _⟩ => ⟨S1x256x352, .f32⟩
  | .local _ .vmem, ⟨9, _⟩ => ⟨S1x256x352, .f32⟩
  | .local _ .vmem, ⟨10, _⟩ => ⟨S1x256x352, .f32⟩
  | .local _ .vmem, ⟨11, _⟩ => ⟨S1x256x352, .f32⟩
  | .local _ .vmem, ⟨12, _⟩ => ⟨S1x256x352, .f32⟩
  | .local _ .vmem, ⟨13, _⟩ => ⟨S1x256x352, .f32⟩
  | _, _ => ⟨S2x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdGReferenceIdeal.lean ====
abbrev S2x1024x352 : Shape := ⟨3, ![2, 1024, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x352, .f32⟩
  | .hbm, ⟨1, _⟩ => ⟨S2x1024x352, .f32⟩
  | .hbm, ⟨2, _⟩ => ⟨S2x1024x352, .f32⟩
  | .hbm, ⟨3, _⟩ => ⟨S2x1024x352, .f32⟩
  | .hbm, ⟨4, _⟩ => ⟨S_, .f32⟩
  | .hbm, ⟨5, _⟩ => ⟨S2x1024x352, .f32⟩
  | .hbm, ⟨6, _⟩ => ⟨S2x1024x352, .f32⟩
  | .hbm, ⟨7, _⟩ => ⟨S_, .f32⟩
  | .hbm, ⟨8, _⟩ => ⟨S2x1024x352, .f32⟩
  | .hbm, ⟨9, _⟩ => ⟨S2x1024x352, .f32⟩
  | .hbm, ⟨10, _⟩ => ⟨S2x1024x352, .f32⟩
  | .hbm, ⟨11, _⟩ => ⟨S_, .f32⟩
  | .hbm, ⟨12, _⟩ => ⟨S2x1024x352, .f32⟩
  | .hbm, ⟨13, _⟩ => ⟨S2x1024x352, .f32⟩
  | .hbm, ⟨14, _⟩ => ⟨S2x1024x352, .f32⟩
  | .hbm, ⟨15, _⟩ => ⟨S_, .f32⟩
  | .hbm, ⟨16, _⟩ => ⟨S2x1024x352, .f32⟩
  | .hbm, ⟨17, _⟩ => ⟨S2x1024x352, .f32⟩
  | .hbm, ⟨18, _⟩ => ⟨S2x1024x352, .f32⟩
  | .hbm, ⟨19, _⟩ => ⟨S_, .f32⟩
  | .hbm, ⟨20, _⟩ => ⟨S2x1024x352, .f32⟩
  | .hbm, ⟨21, _⟩ => ⟨S2x1024x352, .f32⟩
  | .hbm, ⟨22, _⟩ => ⟨S_, .f32⟩
  | .hbm, ⟨23, _⟩ => ⟨S2x1024x352, .f32⟩
  | .hbm, ⟨24, _⟩ => ⟨S2x1024x352, .f32⟩
  | .hbm, ⟨25, _⟩ => ⟨S2x1024x352, .f32⟩
  | .hbm, ⟨26, _⟩ => ⟨S_, .f32⟩
  | .hbm, ⟨27, _⟩ => ⟨S2x1024x352, .f32⟩
  | .hbm, ⟨28, _⟩ => ⟨S2x1024x352, .f32⟩
  | .hbm, ⟨29, _⟩ => ⟨S2x1024x352, .f32⟩
  | .hbm, ⟨30, _⟩ => ⟨S_, .f32⟩
  | .hbm, ⟨31, _⟩ => ⟨S2x1024x352, .f32⟩
  | .hbm, ⟨32, _⟩ => ⟨S2x1024x352, .f32⟩
  | .hbm, ⟨33, _⟩ => ⟨S2x1024x352, .f32⟩
  | .hbm, ⟨34, _⟩ => ⟨S_, .f32⟩
  | .hbm, ⟨35, _⟩ => ⟨S2x1024x352, .f32⟩
  | .hbm, ⟨36, _⟩ => ⟨S2x1024x352, .f32⟩
  | _, _ => ⟨S2x1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SmIKernel.lean ====
abbrev S8x1024x450 : Shape := ⟨3, ![8, 1024, 450]⟩
abbrev S2x1024x450 : Shape := ⟨3, ![2, 1024, 450]⟩
abbrev S8x256x450 : Shape := ⟨3, ![8, 256, 450]⟩
abbrev S1x256x450 : Shape := ⟨3, ![1, 256, 450]⟩
abbrev S256x450 : Shape := ⟨2, ![256, 450]⟩

abbrev nBuf : Space → Nat
  | .hbm => 13
  | .vmem => 16
  | .smem => 0
  | _ => 0

abbrev bufTy : (tb : Table) → Fin (tcTables nBuf tb) → BufTy
  | .hbm, ⟨0, _⟩ => ⟨S8x1024x450, .f32⟩
  | .hbm, ⟨1, _⟩ => ⟨S2x1024x450, .f32⟩
  | .hbm, ⟨2, _⟩ => ⟨S2x1024x450, .f32⟩
  | .hbm, ⟨3, _⟩ => ⟨S2x1024x450, .f32⟩
  | .hbm, ⟨4, _⟩ => ⟨S2x1024x450, .f32⟩
  | .hbm, ⟨5, _⟩ => ⟨S2x1024x450, .f32⟩
  | .hbm, ⟨6, _⟩ => ⟨S2x1024x450, .f32⟩
  | .hbm, ⟨7, _⟩ => ⟨S2x1024x450, .f32⟩
  | .hbm, ⟨8, _⟩ => ⟨S8x1024x450, .bf16⟩
  | .hbm, ⟨9, _⟩ => ⟨S2x1024x450, .f32⟩
  | .hbm, ⟨10, _⟩ => ⟨S2x1024x450, .f32⟩
  | .hbm, ⟨11, _⟩ => ⟨S2x1024x450, .f32⟩
  | .hbm, ⟨12, _⟩ => ⟨S2x1024x450, .f32⟩
  | .local _ .vmem, ⟨0, _⟩ => ⟨S8x256x450, .bf16⟩
  | .local _ .vmem, ⟨1, _⟩ => ⟨S8x256x450, .bf16⟩
  | .local _ .vmem, ⟨2, _⟩ => ⟨S1x256x450, .f32⟩
  | .local _ .vmem, ⟨3, _⟩ => ⟨S1x256x450, .f32⟩
  | .local _ .vmem, ⟨4, _⟩ => ⟨S1x256x450, .f32⟩
  | .local _ .vmem, ⟨5, _⟩ => ⟨S1x256x450, .f32⟩
  | .local _ .vmem, ⟨6, _⟩ => ⟨S1x256x450, .f32⟩
  | .local _ .vmem, ⟨7, _⟩ => ⟨S1x256x450, .f32⟩
  | .local _ .vmem, ⟨8, _⟩ => ⟨S1x256x450, .f32⟩
  | .local _ .vmem, ⟨9, _⟩ => ⟨S1x256x450, .f32⟩
  | .local _ .vmem, ⟨10, _⟩ => ⟨S1x256x450, .f32⟩
  | .local _ .vmem, ⟨11, _⟩ => ⟨S1x256x450, .f32⟩
  | .local _ .vmem, ⟨12, _⟩ => ⟨S1x256x450, .f32⟩
  | .local _ .vmem, ⟨13, _⟩ => ⟨S1x256x450, .f32⟩
  | .local _ .vmem, ⟨14, _⟩ => ⟨S1x256x450, .f32⟩
  | .local _ .vmem, ⟨15, _⟩ => ⟨S1x256x450, .f32⟩
  | _, _ => ⟨S8x1024x450, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x450 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x450 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x450 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x450 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x450 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x450 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x450 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x450 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SmIReferenceIdeal.lean ====
abbrev S8x1024x450 : Shape := ⟨3, ![8, 1024, 450]⟩
abbrev S2x1024x450 : Shape := ⟨3, ![2, 1024, 450]⟩
abbrev S_ : Shape := ⟨0, ![]⟩
abbrev S1024x450 : Shape := ⟨2, ![1024, 450]⟩
abbrev S1x1024x450 : Shape := ⟨3, ![1, 1024, 450]⟩

abbrev nBuf : Space → Nat
  | .hbm => 69
  | .vmem => 0
  | .smem => 0
  | _ => 0

abbrev bufTy : (tb : Table) → Fin (tcTables nBuf tb) → BufTy
  | .hbm, ⟨0, _⟩ => ⟨S8x1024x450, .f32⟩
  | .hbm, ⟨1, _⟩ => ⟨S2x1024x450, .f32⟩
  | .hbm, ⟨2, _⟩ => ⟨S2x1024x450, .f32⟩
  | .hbm, ⟨3, _⟩ => ⟨S2x1024x450, .f32⟩
  | .hbm, ⟨4, _⟩ => ⟨S2x1024x450, .f32⟩
  | .hbm, ⟨5, _⟩ => ⟨S2x1024x450, .f32⟩
  | .hbm, ⟨6, _⟩ => ⟨S2x1024x450, .f32⟩
  | .hbm, ⟨7, _⟩ => ⟨S2x1024x450, .f32⟩
  | .hbm, ⟨8, _⟩ => ⟨S_, .f32⟩
  | .hbm, ⟨9, _⟩ => ⟨S1024x450, .f32⟩
  | .hbm, ⟨10, _⟩ => ⟨S1x1024x450, .f32⟩
  | .hbm, ⟨11, _⟩ => ⟨S1024x450, .f32⟩
  | .hbm, ⟨12, _⟩ => ⟨S_, .f32⟩
  | .hbm, ⟨13, _⟩ => ⟨S1024x450, .f32⟩
  | .hbm, ⟨14, _⟩ => ⟨S1024x450, .f32⟩
  | .hbm, ⟨15, _⟩ => ⟨S_, .f32⟩
  | .hbm, ⟨16, _⟩ => ⟨S1024x450, .f32⟩
  | .hbm, ⟨17, _⟩ => ⟨S1024x450, .f32⟩
  | .hbm, ⟨18, _⟩ => ⟨S1024x450, .f32⟩
  | .hbm, ⟨19, _⟩ => ⟨S1x1024x450, .f32⟩
  | .hbm, ⟨20, _⟩ => ⟨S1024x450, .f32⟩
  | .hbm, ⟨21, _⟩ => ⟨S_, .f32⟩
  | .hbm, ⟨22, _⟩ => ⟨S1024x450, .f32⟩
  | .hbm, ⟨23, _⟩ => ⟨S1024x450, .f32⟩
  | .hbm, ⟨24, _⟩ => ⟨S1024x450, .f32⟩
  | .hbm, ⟨25, _⟩ => ⟨S_, .f32⟩
  | .hbm, ⟨26, _⟩ => ⟨S1024x450, .f32⟩
  | .hbm, ⟨27, _⟩ => ⟨S1024x450, .f32⟩
  | .hbm, ⟨28, _⟩ => ⟨S1024x450, .f32⟩
  | .hbm, ⟨29, _⟩ => ⟨S_, .f32⟩
  | .hbm, ⟨30, _⟩ => ⟨S1024x450, .f32⟩
  | .hbm, ⟨31, _⟩ => ⟨S1024x450, .f32⟩
  | .hbm, ⟨32, _⟩ => ⟨S_, .f32⟩
  | .hbm, ⟨33, _⟩ => ⟨S1024x450, .f32⟩
  | .hbm, ⟨34, _⟩ => ⟨S1024x450, .f32⟩
  | .hbm, ⟨35, _⟩ => ⟨S1024x450, .f32⟩
  | .hbm, ⟨36, _⟩ => ⟨S_, .f32⟩
  | .hbm, ⟨37, _⟩ => ⟨S1024x450, .f32⟩
  | .hbm, ⟨38, _⟩ => ⟨S1024x450, .f32⟩
  | .hbm, ⟨39, _⟩ => ⟨S1024x450, .f32⟩
  | .hbm, ⟨40, _⟩ => ⟨S1x1024x450, .f32⟩
  | .hbm, ⟨41, _⟩ => ⟨S1024x450, .f32⟩
  | .hbm, ⟨42, _⟩ => ⟨S_, .f32⟩
  | .hbm, ⟨43, _⟩ => ⟨S1024x450, .f32⟩
  | .hbm, ⟨44, _⟩ => ⟨S1024x450, .f32⟩
  | .hbm, ⟨45, _⟩ => ⟨S1024x450, .f32⟩
  | .hbm, ⟨46, _⟩ => ⟨S_, .f32⟩
  | .hbm, ⟨47, _⟩ => ⟨S1024x450, .f32⟩
  | .hbm, ⟨48, _⟩ => ⟨S1024x450, .f32⟩
  | .hbm, ⟨49, _⟩ => ⟨S1x1024x450, .f32⟩
  | .hbm, ⟨50, _⟩ => ⟨S1024x450, .f32⟩
  | .hbm, ⟨51, _⟩ => ⟨S1x1024x450, .f32⟩
  | .hbm, ⟨52, _⟩ => ⟨S1x1024x450, .f32⟩
  | .hbm, ⟨53, _⟩ => ⟨S2x1024x450, .f32⟩
  | .hbm, ⟨54, _⟩ => ⟨S1x1024x450, .f32⟩
  | .hbm, ⟨55, _⟩ => ⟨S1024x450, .f32⟩
  | .hbm, ⟨56, _⟩ => ⟨S1x1024x450, .f32⟩
  | .hbm, ⟨57, _⟩ => ⟨S1x1024x450, .f32⟩
  | .hbm, ⟨58, _⟩ => ⟨S2x1024x450, .f32⟩
  | .hbm, ⟨59, _⟩ => ⟨S1x1024x450, .f32⟩
  | .hbm, ⟨60, _⟩ => ⟨S1024x450, .f32⟩
  | .hbm, ⟨61, _⟩ => ⟨S1x1024x450, .f32⟩
  | .hbm, ⟨62, _⟩ => ⟨S1x1024x450, .f32⟩
  | .hbm, ⟨63, _⟩ => ⟨S2x1024x450, .f32⟩
  | .hbm, ⟨64, _⟩ => ⟨S1x1024x450, .f32⟩
  | .hbm, ⟨65, _⟩ => ⟨S1024x450, .f32⟩
  | .hbm, ⟨66, _⟩ => ⟨S1x1024x450, .f32⟩
  | .hbm, ⟨67, _⟩ => ⟨S1x1024x450, .f32⟩
  | .hbm, ⟨68, _⟩ => ⟨S2x1024x450, .f32⟩
  | _, _ => ⟨S8x1024x450, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== SmUKernel.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 13
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S8x128x1024, .bf16⟩
  | .hbm, ⟨9, _⟩ => ⟨S2x128x1024, .f32⟩
  | .hbm, ⟨10, _⟩ => ⟨S2x128x1024, .f32⟩
  | .hbm, ⟨11, _⟩ => ⟨S2x128x1024, .f32⟩
  | .hbm, ⟨12, _⟩ => ⟨S2x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== SmUReferenceIdeal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S_, .f32⟩
  | .hbm, ⟨9, _⟩ => ⟨S128x1024, .f32⟩
  | .hbm, ⟨10, _⟩ => ⟨S1x128x1024, .f32⟩
  | .hbm, ⟨11, _⟩ => ⟨S128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S1x128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S1x128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S128x1024, .f32⟩
  | .hbm, ⟨46, _⟩ => ⟨S_, .f32⟩
  | .hbm, ⟨47, _⟩ => ⟨S128x1024, .f32⟩
  | .hbm, ⟨48, _⟩ => ⟨S128x1024, .f32⟩
  | .hbm, ⟨49, _⟩ => ⟨S1x128x1024, .f32⟩
  | .hbm, ⟨50, _⟩ => ⟨S128x1024, .f32⟩
  | .hbm, ⟨51, _⟩ => ⟨S1x128x1024, .f32⟩
  | .hbm, ⟨52, _⟩ => ⟨S1x128x1024, .f32⟩
  | .hbm, ⟨53, _⟩ => ⟨S2x128x1024, .f32⟩
  | .hbm, ⟨54, _⟩ => ⟨S1x128x1024, .f32⟩
  | .hbm, ⟨55, _⟩ => ⟨S128x1024, .f32⟩
  | .hbm, ⟨56, _⟩ => ⟨S1x128x1024, .f32⟩
  | .hbm, ⟨57, _⟩ => ⟨S1x128x1024, .f32⟩
  | .hbm, ⟨58, _⟩ => ⟨S2x128x1024, .f32⟩
  | .hbm, ⟨59, _⟩ => ⟨S1x128x1024, .f32⟩
  | .hbm, ⟨60, _⟩ => ⟨S128x1024, .f32⟩
  | .hbm, ⟨61, _⟩ => ⟨S1x128x1024, .f32⟩
  | .hbm, ⟨62, _⟩ => ⟨S1x128x1024, .f32⟩
  | .hbm, ⟨63, _⟩ => ⟨S2x128x1024, .f32⟩
  | .hbm, ⟨64, _⟩ => ⟨S1x128x1024, .f32⟩
  | .hbm, ⟨65, _⟩ => ⟨S128x1024, .f32⟩
  | .hbm, ⟨66, _⟩ => ⟨S1x128x1024, .f32⟩
  | .hbm, ⟨67, _⟩ => ⟨S1x128x1024, .f32⟩
  | .hbm, ⟨68, _⟩ => ⟨S2x128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== SmVKernel.lean ====
abbrev S8x4x192 : Shape := ⟨3, ![8, 4, 192]⟩
abbrev S2x4x192 : Shape := ⟨3, ![2, 4, 192]⟩
abbrev S1x4x192 : Shape := ⟨3, ![1, 4, 192]⟩
abbrev S4x192 : Shape := ⟨2, ![4, 192]⟩

abbrev nBuf : Space → Nat
  | .hbm => 12
  | .vmem => 8
  | .smem => 0
  | _ => 0

abbrev bufTy : (tb : Table) → Fin (tcTables nBuf tb) → BufTy
  | .hbm, ⟨0, _⟩ => ⟨S8x4x192, .f32⟩
  | .hbm, ⟨1, _⟩ => ⟨S2x4x192, .f32⟩
  | .hbm, ⟨2, _⟩ => ⟨S2x4x192, .f32⟩
  | .hbm, ⟨3, _⟩ => ⟨S2x4x192, .f32⟩
  | .hbm, ⟨4, _⟩ => ⟨S2x4x192, .f32⟩
  | .hbm, ⟨5, _⟩ => ⟨S2x4x192, .f32⟩
  | .hbm, ⟨6, _⟩ => ⟨S2x4x192, .f32⟩
  | .hbm, ⟨7, _⟩ => ⟨S2x4x192, .f32⟩
  | .hbm, ⟨8, _⟩ => ⟨S2x4x192, .f32⟩
  | .hbm, ⟨9, _⟩ => ⟨S2x4x192, .f32⟩
  | .hbm, ⟨10, _⟩ => ⟨S2x4x192, .f32⟩
  | .hbm, ⟨11, _⟩ => ⟨S2x4x192, .f32⟩
  | .local _ .vmem, ⟨0, _⟩ => ⟨S8x4x192, .f32⟩
  | .local _ .vmem, ⟨1, _⟩ => ⟨S1x4x192, .f32⟩
  | .local _ .vmem, ⟨2, _⟩ => ⟨S1x4x192, .f32⟩
  | .local _ .vmem, ⟨3, _⟩ => ⟨S1x4x192, .f32⟩
  | .local _ .vmem, ⟨4, _⟩ => ⟨S1x4x192, .f32⟩
  | .local _ .vmem, ⟨5, _⟩ => ⟨S1x4x192, .f32⟩
  | .local _ .vmem, ⟨6, _⟩ => ⟨S1x4x192, .f32⟩
  | .local _ .vmem, ⟨7, _⟩ => ⟨S1x4x192, .f32⟩
  | _, _ => ⟨S8x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x4x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== SmVReferenceIdeal.lean ====
abbrev S8x4x192 : Shape := ⟨3, ![8, 4, 192]⟩
abbrev S2x4x192 : Shape := ⟨3, ![2, 4, 192]⟩
abbrev S_ : Shape := ⟨0, ![]⟩
abbrev S4x192 : Shape := ⟨2, ![4, 192]⟩
abbrev S1x4x192 : Shape := ⟨3, ![1, 4, 192]⟩

abbrev nBuf : Space → Nat
  | .hbm => 69
  | .vmem => 0
  | .smem => 0
  | _ => 0

abbrev bufTy : (tb : Table) → Fin (tcTables nBuf tb) → BufTy
  | .hbm, ⟨0, _⟩ => ⟨S8x4x192, .f32⟩
  | .hbm, ⟨1, _⟩ => ⟨S2x4x192, .f32⟩
  | .hbm, ⟨2, _⟩ => ⟨S2x4x192, .f32⟩
  | .hbm, ⟨3, _⟩ => ⟨S2x4x192, .f32⟩
  | .hbm, ⟨4, _⟩ => ⟨S2x4x192, .f32⟩
  | .hbm, ⟨5, _⟩ => ⟨S2x4x192, .f32⟩
  | .hbm, ⟨6, _⟩ => ⟨S2x4x192, .f32⟩
  | .hbm, ⟨7, _⟩ => ⟨S2x4x192, .f32⟩
  | .hbm, ⟨8, _⟩ => ⟨S_, .f32⟩
  | .hbm, ⟨9, _⟩ => ⟨S4x192, .f32⟩
  | .hbm, ⟨10, _⟩ => ⟨S1x4x192, .f32⟩
  | .hbm, ⟨11, _⟩ => ⟨S4x192, .f32⟩
  | .hbm, ⟨12, _⟩ => ⟨S_, .f32⟩
  | .hbm, ⟨13, _⟩ => ⟨S4x192, .f32⟩
  | .hbm, ⟨14, _⟩ => ⟨S4x192, .f32⟩
  | .hbm, ⟨15, _⟩ => ⟨S_, .f32⟩
  | .hbm, ⟨16, _⟩ => ⟨S4x192, .f32⟩
  | .hbm, ⟨17, _⟩ => ⟨S4x192, .f32⟩
  | .hbm, ⟨18, _⟩ => ⟨S4x192, .f32⟩
  | .hbm, ⟨19, _⟩ => ⟨S1x4x192, .f32⟩
  | .hbm, ⟨20, _⟩ => ⟨S4x192, .f32⟩
  | .hbm, ⟨21, _⟩ => ⟨S_, .f32⟩
  | .hbm, ⟨22, _⟩ => ⟨S4x192, .f32⟩
  | .hbm, ⟨23, _⟩ => ⟨S4x192, .f32⟩
  | .hbm, ⟨24, _⟩ => ⟨S4x192, .f32⟩
  | .hbm, ⟨25, _⟩ => ⟨S_, .f32⟩
  | .hbm, ⟨26, _⟩ => ⟨S4x192, .f32⟩
  | .hbm, ⟨27, _⟩ => ⟨S4x192, .f32⟩
  | .hbm, ⟨28, _⟩ => ⟨S4x192, .f32⟩
  | .hbm, ⟨29, _⟩ => ⟨S_, .f32⟩
  | .hbm, ⟨30, _⟩ => ⟨S4x192, .f32⟩
  | .hbm, ⟨31, _⟩ => ⟨S4x192, .f32⟩
  | .hbm, ⟨32, _⟩ => ⟨S_, .f32⟩
  | .hbm, ⟨33, _⟩ => ⟨S4x192, .f32⟩
  | .hbm, ⟨34, _⟩ => ⟨S4x192, .f32⟩
  | .hbm, ⟨35, _⟩ => ⟨S4x192, .f32⟩
  | .hbm, ⟨36, _⟩ => ⟨S_, .f32⟩
  | .hbm, ⟨37, _⟩ => ⟨S4x192, .f32⟩
  | .hbm, ⟨38, _⟩ => ⟨S4x192, .f32⟩
  | .hbm, ⟨39, _⟩ => ⟨S4x192, .f32⟩
  | .hbm, ⟨40, _⟩ => ⟨S1x4x192, .f32⟩
  | .hbm, ⟨41, _⟩ => ⟨S4x192, .f32⟩
  | .hbm, ⟨42, _⟩ => ⟨S_, .f32⟩
  | .hbm, ⟨43, _⟩ => ⟨S4x192, .f32⟩
  | .hbm, ⟨44, _⟩ => ⟨S4x192, .f32⟩
  | .hbm, ⟨45, _⟩ => ⟨S4x192, .f32⟩
  | .hbm, ⟨46, _⟩ => ⟨S_, .f32⟩
  | .hbm, ⟨47, _⟩ => ⟨S4x192, .f32⟩
  | .hbm, ⟨48, _⟩ => ⟨S4x192, .f32⟩
  | .hbm, ⟨49, _⟩ => ⟨S1x4x192, .f32⟩
  | .hbm, ⟨50, _⟩ => ⟨S4x192, .f32⟩
  | .hbm, ⟨51, _⟩ => ⟨S1x4x192, .f32⟩
  | .hbm, ⟨52, _⟩ => ⟨S1x4x192, .f32⟩
  | .hbm, ⟨53, _⟩ => ⟨S2x4x192, .f32⟩
  | .hbm, ⟨54, _⟩ => ⟨S1x4x192, .f32⟩
  | .hbm, ⟨55, _⟩ => ⟨S4x192, .f32⟩
  | .hbm, ⟨56, _⟩ => ⟨S1x4x192, .f32⟩
  | .hbm, ⟨57, _⟩ => ⟨S1x4x192, .f32⟩
  | .hbm, ⟨58, _⟩ => ⟨S2x4x192, .f32⟩
  | .hbm, ⟨59, _⟩ => ⟨S1x4x192, .f32⟩
  | .hbm, ⟨60, _⟩ => ⟨S4x192, .f32⟩
  | .hbm, ⟨61, _⟩ => ⟨S1x4x192, .f32⟩
  | .hbm, ⟨62, _⟩ => ⟨S1x4x192, .f32⟩
  | .hbm, ⟨63, _⟩ => ⟨S2x4x192, .f32⟩
  | .hbm, ⟨64, _⟩ => ⟨S1x4x192, .f32⟩
  | .hbm, ⟨65, _⟩ => ⟨S4x192, .f32⟩
  | .hbm, ⟨66, _⟩ => ⟨S1x4x192, .f32⟩
  | .hbm, ⟨67, _⟩ => ⟨S1x4x192, .f32⟩
  | .hbm, ⟨68, _⟩ => ⟨S2x4x192, .f32⟩
  | _, _ => ⟨S8x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== SmOKernel.lean ====
abbrev S8x256x1024 : Shape := ⟨3, ![8, 256, 1024]⟩
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 13
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S8x256x1024, .bf16⟩
  | .hbm, ⟨9, _⟩ => ⟨S2x256x1024, .f32⟩
  | .hbm, ⟨10, _⟩ => ⟨S2x256x1024, .f32⟩
  | .hbm, ⟨11, _⟩ => ⟨S2x256x1024, .f32⟩
  | .hbm, ⟨12, _⟩ => ⟨S2x256x1024, .f32⟩
  | .local _ .vmem, ⟨0, _⟩ => ⟨S8x256x1024, .bf16⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== SmOReferenceIdeal.lean ====
abbrev S8x256x1024 : Shape := ⟨3, ![8, 256, 1024]⟩
abbrev S2x256x1024 : Shape := ⟨3, ![2, 256, 1024]⟩
abbrev S_ : Shape := ⟨0, ![]⟩
abbrev S256x1024 : Shape := ⟨2, ![256, 1024]⟩
abbrev S1x256x1024 : Shape := ⟨3, ![1, 256, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S_, .f32⟩
  | .hbm, ⟨9, _⟩ => ⟨S256x1024, .f32⟩
  | .hbm, ⟨10, _⟩ => ⟨S1x256x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S1x256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S1x256x1024, .f32⟩
  | .hbm, ⟨41, _⟩ => ⟨S256x1024, .f32⟩
  | .hbm, ⟨42, _⟩ => ⟨S_, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S_, .f32⟩
  | .hbm, ⟨47, _⟩ => ⟨S256x1024, .f32⟩
  | .hbm, ⟨48, _⟩ => ⟨S256x1024, .f32⟩
  | .hbm, ⟨49, _⟩ => ⟨S1x256x1024, .f32⟩
  | .hbm, ⟨50, _⟩ => ⟨S256x1024, .f32⟩
  | .hbm, ⟨51, _⟩ => ⟨S1x256x1024, .f32⟩
  | .hbm, ⟨52, _⟩ => ⟨S1x256x1024, .f32⟩
  | .hbm, ⟨53, _⟩ => ⟨S2x256x1024, .f32⟩
  | .hbm, ⟨54, _⟩ => ⟨S1x256x1024, .f32⟩
  | .hbm, ⟨55, _⟩ => ⟨S256x1024, .f32⟩
  | .hbm, ⟨56, _⟩ => ⟨S1x256x1024, .f32⟩
  | .hbm, ⟨57, _⟩ => ⟨S1x256x1024, .f32⟩
  | .hbm, ⟨58, _⟩ => ⟨S2x256x1024, .f32⟩
  | .hbm, ⟨59, _⟩ => ⟨S1x256x1024, .f32⟩
  | .hbm, ⟨60, _⟩ => ⟨S256x1024, .f32⟩
  | .hbm, ⟨61, _⟩ => ⟨S1x256x1024, .f32⟩
  | .hbm, ⟨62, _⟩ => ⟨S1x256x1024, .f32⟩
  | .hbm, ⟨63, _⟩ => ⟨S2x256x1024, .f32⟩
  | .hbm, ⟨64, _⟩ => ⟨S1x256x1024, .f32⟩
  | .hbm, ⟨65, _⟩ => ⟨S256x1024, .f32⟩
  | .hbm, ⟨66, _⟩ => ⟨S1x256x1024, .f32⟩
  | .hbm, ⟨67, _⟩ => ⟨S1x256x1024, .f32⟩
  | .hbm, ⟨68, _⟩ => ⟨S2x256x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== SmDKernel.lean ====
abbrev S8x352x1024 : Shape := ⟨3, ![8, 352, 1024]⟩
abbrev S2x352x1024 : Shape := ⟨3, ![2, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 13
  | .vmem => 16
  | .smem => 0
  | _ => 0

abbrev bufTy : (tb : Table) → Fin (tcTables nBuf tb) → BufTy
  | .hbm, ⟨0, _⟩ => ⟨S8x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S8x352x1024, .bf16⟩
  | .hbm, ⟨9, _⟩ => ⟨S2x352x1024, .f32⟩
  | .hbm, ⟨10, _⟩ => ⟨S2x352x1024, .f32⟩
  | .hbm, ⟨11, _⟩ => ⟨S2x352x1024, .f32⟩
  | .hbm, ⟨12, _⟩ => ⟨S2x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SmDReferenceIdeal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S_, .f32⟩
  | .hbm, ⟨9, _⟩ => ⟨S352x1024, .f32⟩
  | .hbm, ⟨10, _⟩ => ⟨S1x352x1024, .f32⟩
  | .hbm, ⟨11, _⟩ => ⟨S352x1024, .f32⟩
  | .hbm, ⟨12, _⟩ => ⟨S_, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S1x352x1024, .f32⟩
  | .hbm, ⟨20, _⟩ => ⟨S352x1024, .f32⟩
  | .hbm, ⟨21, _⟩ => ⟨S_, .f32⟩
  | .hbm, ⟨22, _⟩ => ⟨S352x1024, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | .hbm, ⟨39, _⟩ => ⟨S352x1024, .f32⟩
  | .hbm, ⟨40, _⟩ => ⟨S1x352x1024, .f32⟩
  | .hbm, ⟨41, _⟩ => ⟨S352x1024, .f32⟩
  | .hbm, ⟨42, _⟩ => ⟨S_, .f32⟩
  | .hbm, ⟨43, _⟩ => ⟨S352x1024, .f32⟩
  | .hbm, ⟨44, _⟩ => ⟨S352x1024, .f32⟩
  | .hbm, ⟨45, _⟩ => ⟨S352x1024, .f32⟩
  | .hbm, ⟨46, _⟩ => ⟨S_, .f32⟩
  | .hbm, ⟨47, _⟩ => ⟨S352x1024, .f32⟩
  | .hbm, ⟨48, _⟩ => ⟨S352x1024, .f32⟩
  | .hbm, ⟨49, _⟩ => ⟨S1x352x1024, .f32⟩
  | .hbm, ⟨50, _⟩ => ⟨S352x1024, .f32⟩
  | .hbm, ⟨51, _⟩ => ⟨S1x352x1024, .f32⟩
  | .hbm, ⟨52, _⟩ => ⟨S1x352x1024, .f32⟩
  | .hbm, ⟨53, _⟩ => ⟨S2x352x1024, .f32⟩
  | .hbm, ⟨54, _⟩ => ⟨S1x352x1024, .f32⟩
  | .hbm, ⟨55, _⟩ => ⟨S352x1024, .f32⟩
  | .hbm, ⟨56, _⟩ => ⟨S1x352x1024, .f32⟩
  | .hbm, ⟨57, _⟩ => ⟨S1x352x1024, .f32⟩
  | .hbm, ⟨58, _⟩ => ⟨S2x352x1024, .f32⟩
  | .hbm, ⟨59, _⟩ => ⟨S1x352x1024, .f32⟩
  | .hbm, ⟨60, _⟩ => ⟨S352x1024, .f32⟩
  | .hbm, ⟨61, _⟩ => ⟨S1x352x1024, .f32⟩
  | .hbm, ⟨62, _⟩ => ⟨S1x352x1024, .f32⟩
  | .hbm, ⟨63, _⟩ => ⟨S2x352x1024, .f32⟩
  | .hbm, ⟨64, _⟩ => ⟨S1x352x1024, .f32⟩
  | .hbm, ⟨65, _⟩ => ⟨S352x1024, .f32⟩
  | .hbm, ⟨66, _⟩ => ⟨S1x352x1024, .f32⟩
  | .hbm, ⟨67, _⟩ => ⟨S1x352x1024, .f32⟩
  | .hbm, ⟨68, _⟩ => ⟨S2x352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== SmGKernel.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 3
  | .vmem => 4
  | .smem => 0
  | _ => 0

abbrev bufTy : (tb : Table) → Fin (tcTables nBuf tb) → BufTy
  | .hbm, ⟨0, _⟩ => ⟨S8x352x1024, .f32⟩
  | .hbm, ⟨1, _⟩ => ⟨S8x352x1024, .bf16⟩
  | .hbm, ⟨2, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SmGReferenceIdeal.lean ====
abbrev S8x352x1024 : Shape := ⟨3, ![8, 352, 1024]⟩
abbrev S_ : Shape := ⟨0, ![]⟩
abbrev S352x1024 : Shape := ⟨2, ![352, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S_, .f32⟩
  | .hbm, ⟨2, _⟩ => ⟨S352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.DiscPure.lean ====
/-
  The mathematics of the S5 discretisation's gradient: what the kernel's body stores, read at an index, is the
  reference's composed term read there.
-/
module

public import proofs.«01_k».proof.Proof.Gen.DiscKernelIdeal.Skeleton
public import proofs.«01_k».proof.Proof.Gen.DiscReferenceIdeal.Run
public import Idealize.ShloMosaic.Lib.Pointwise
public import Idealize.ShloMosaic.Lib.WordCmp

@[expose] public section

set_option maxRecDepth 16384

noncomputable section

open Idealize.ShloMosaic Idealize.ShloMosaic.TcCoe Idealize.SL.Sem
open scoped BigOperators

/-! ## The reference's terms, over its argument arrays -/

namespace Cert.DiscReferenceIdeal.Disc

open Cert.DiscReferenceIdeal Cert.DiscReferenceIdeal.Gen

variable (a0 a1 : FVec Ideal S64x64 .f32) (a2 : FVec Ideal S64 .f32) (a3 a4 : FVec Ideal S64x64x16 .f32)
  (a5 a6 : FVec Ideal S8x64x64 .f32) (a7 a8 : FVec Ideal S64x64x16 .f32)

/-- The step size of a group, copied over its states. -/
def stp : FVec Ideal S64x64 .f32 := broadcastInDim S64x64 ![0, 1] bcast_S64x1_S64x64_0_1 (broadcastInDim S64x1 ![0] bcast_S64_S64x1_0 (Host.exp a2))
/-- The modulus of `exp (lambda * step)`. -/
def mag : FVec Ideal S64x64 .f32 := Host.exp (mulf a0 (stp a2))
def sn : FVec Ideal S64x64 .f32 := Host.sin (mulf a1 (stp a2))
def cs : FVec Ideal S64x64 .f32 := Host.cos (mulf a1 (stp a2))
def one : FVec Ideal S64x64 .f32 := broadcastInDim S64x64 ![] bcast_S_S64x64 (constant S_ .f32 0x3F800000#32)
/-- The real part of the discrete multiplier, less one. -/
def ar1 : FVec Ideal S64x64 .f32 := subf (mulf (mag a0 a2) (cs a1 a2)) one
/-- The imaginary part of the discrete multiplier. -/
def ai : FVec Ideal S64x64 .f32 := mulf (mag a0 a2) (sn a1 a2)
def den : FVec Ideal S64x64 .f32 := addf (mulf a0 a0) (mulf a1 a1)
def numi : FVec Ideal S64x64 .f32 := subf (mulf (ai a0 a1 a2) a0) (mulf (ar1 a0 a1 a2) a1)
def numr : FVec Ideal S64x64 .f32 := addf (mulf (ar1 a0 a1 a2) a0) (mulf (ai a0 a1 a2) a1)

/-- The cotangent of the input coefficient's imaginary part: a sum over the group's 16 columns. -/
def gi : FVec Ideal S64x64 .f32 := addf (Host.reduceAdd (shapeCast _ (Host.reduceAdd (mulf (shapeCast _ a8 shapeCasts_S64x64x16_S64x64x16) a3) (constant S_ .f32 0x00000000#32) reducesTo_S64x64x16_S64x64_d2 h_S_) shapeCasts_S64x64_S64x64x1) (constant S_ .f32 0x00000000#32) reducesTo_S64x64x1_S64x64_d2 h_S_) (Host.reduceAdd (shapeCast _ (Host.reduceAdd (mulf (Host.negf a7) a4) (constant S_ .f32 0x00000000#32) reducesTo_S64x64x16_S64x64_d2 h_S_) shapeCasts_S64x64_S64x64x1) (constant S_ .f32 0x00000000#32) reducesTo_S64x64x1_S64x64_d2 h_S_)
/-- The cotangent of the input coefficient's real part. -/
def gr : FVec Ideal S64x64 .f32 := addf (Host.reduceAdd (shapeCast _ (Host.reduceAdd (mulf (shapeCast _ a8 shapeCasts_S64x64x16_S64x64x16) a4) (constant S_ .f32 0x00000000#32) reducesTo_S64x64x16_S64x64_d2 h_S_) shapeCasts_S64x64_S64x64x1) (constant S_ .f32 0x00000000#32) reducesTo_S64x64x1_S64x64_d2 h_S_) (Host.reduceAdd (shapeCast _ (Host.reduceAdd (mulf (shapeCast _ a7 shapeCasts_S64x64x16_S64x64x16) a3) (constant S_ .f32 0x00000000#32) reducesTo_S64x64x16_S64x64_d2 h_S_) shapeCasts_S64x64_S64x64x1) (constant S_ .f32 0x00000000#32) reducesTo_S64x64x1_S64x64_d2 h_S_)
def hi : FVec Ideal S64x64 .f32 := Host.divf (gi a3 a4 a7 a8) (den a0 a1)
def hr : FVec Ideal S64x64 .f32 := Host.divf (gr a3 a4 a7 a8) (den a0 a1)
/-- The cotangent of the denominator. -/
def dd : FVec Ideal S64x64 .f32 := addf (Host.negf (mulf (mulf (gi a3 a4 a7 a8) (Host.divf one (mulf (den a0 a1) (den a0 a1)))) (numi a0 a1 a2))) (Host.negf (mulf (mulf (gr a3 a4 a7 a8) (Host.divf one (mulf (den a0 a1) (den a0 a1)))) (numr a0 a1 a2)))
/-- The whole cotangent of the multiplier's imaginary part. -/
def ta : FVec Ideal S64x64 .f32 := addf (addf (Host.reduceAdd a6 (constant S_ .f32 0x00000000#32) reducesTo_S8x64x64_S64x64_d0 h_S_) (mulf (hi a0 a1 a3 a4 a7 a8) a0)) (mulf (hr a0 a1 a3 a4 a7 a8) a1)
/-- The whole cotangent of the multiplier's real part. -/
def tb : FVec Ideal S64x64 .f32 := addf (addf (Host.reduceAdd a5 (constant S_ .f32 0x00000000#32) reducesTo_S8x64x64_S64x64_d0 h_S_) (mulf (Host.negf (hi a0 a1 a3 a4 a7 a8)) a1)) (mulf (hr a0 a1 a3 a4 a7 a8) a0)
/-- The cotangent of the angle. -/
def dang : FVec Ideal S64x64 .f32 := addf (mulf (mulf (mag a0 a2) (ta a0 a1 a3 a4 a6 a7 a8)) (cs a1 a2)) (mulf (Host.negf (mulf (mag a0 a2) (tb a0 a1 a3 a4 a5 a7 a8))) (sn a1 a2))
/-- The cotangent of the logarithm of the modulus. -/
def dlog : FVec Ideal S64x64 .f32 := mulf (addf (mulf (ta a0 a1 a3 a4 a6 a7 a8) (sn a1 a2)) (mulf (tb a0 a1 a3 a4 a5 a7 a8) (cs a1 a2))) (mag a0 a2)

def outLr : FVec Ideal S64x64 .f32 := addf (addf (addf (addf (mulf (ai a0 a1 a2) (hi a0 a1 a3 a4 a7 a8)) (mulf (ar1 a0 a1 a2) (hr a0 a1 a3 a4 a7 a8))) (mulf a0 (dd a0 a1 a2 a3 a4 a7 a8))) (mulf (dd a0 a1 a2 a3 a4 a7 a8) a0)) (mulf (dlog a0 a1 a2 a3 a4 a5 a6 a7 a8) (stp a2))
def outLi : FVec Ideal S64x64 .f32 := addf (addf (addf (addf (mulf (ar1 a0 a1 a2) (Host.negf (hi a0 a1 a3 a4 a7 a8))) (mulf (ai a0 a1 a2) (hr a0 a1 a3 a4 a7 a8))) (mulf a1 (dd a0 a1 a2 a3 a4 a7 a8))) (mulf (dd a0 a1 a2 a3 a4 a7 a8) a1)) (mulf (dang a0 a1 a2 a3 a4 a5 a6 a7 a8) (stp a2))
def outLs : FVec Ideal S64x1 .f32 := shapeCast _ (mulf (Host.reduceAdd (addf (shapeCast _ (Host.reduceAdd (mulf a1 (dang a0 a1 a2 a3 a4 a5 a6 a7 a8)) (constant S_ .f32 0x00000000#32) reducesTo_S64x64_S64_d1 h_S_) shapeCasts_S64_S64x1) (shapeCast _ (Host.reduceAdd (mulf a0 (dlog a0 a1 a2 a3 a4 a5 a6 a7 a8)) (constant S_ .f32 0x00000000#32) reducesTo_S64x64_S64_d1 h_S_) shapeCasts_S64_S64x1)) (constant S_ .f32 0x00000000#32) reducesTo_S64x1_S64_d1 h_S_) (Host.exp a2)) shapeCasts_S64_S64x1
def outBr : FVec Ideal S64x1024 .f32 := shapeCast _ (addf (mulf (broadcastInDim S64x64x16 ![0, 1, 2] bcast_S64x64x1_S64x64x16_0_1_2 (broadcastInDim S64x64x1 ![0, 1] bcast_S64x64_S64x64x1_0_1 (Host.divf (numi a0 a1 a2) (den a0 a1)))) (shapeCast _ a8 shapeCasts_S64x64x16_S64x64x16)) (mulf (broadcastInDim S64x64x16 ![0, 1, 2] bcast_S64x64x1_S64x64x16_0_1_2 (broadcastInDim S64x64x1 ![0, 1] bcast_S64x64_S64x64x1_0_1 (Host.divf (numr a0 a1 a2) (den a0 a1)))) (shapeCast _ a7 shapeCasts_S64x64x16_S64x64x16))) shapeCasts_S64x64x16_S64x1024
def outBi : FVec Ideal S64x1024 .f32 := shapeCast _ (addf (mulf (broadcastInDim S64x64x16 ![0, 1, 2] bcast_S64x64x1_S64x64x16_0_1_2 (broadcastInDim S64x64x1 ![0, 1] bcast_S64x64_S64x64x1_0_1 (Host.divf (numr a0 a1 a2) (den a0 a1)))) (shapeCast _ a8 shapeCasts_S64x64x16_S64x64x16)) (mulf (broadcastInDim S64x64x16 ![0, 1, 2] bcast_S64x64x1_S64x64x16_0_1_2 (broadcastInDim S64x64x1 ![0, 1] bcast_S64x64_S64x64x1_0_1 (Host.divf (numi a0 a1 a2) (den a0 a1)))) (Host.negf a7))) shapeCasts_S64x64x16_S64x1024

variable (m : (ℓ : Loc nD τ sig) → Buf (Elt Ideal) ℓ) (c : Dev nD)

theorem resLr : Value.res_main_v134 m c = outLr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := rfl
theorem resLi : Value.res_main_v126 m c = outLi (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := rfl
theorem resLs : Value.res_main_v137 m c = outLs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := rfl

end Cert.DiscReferenceIdeal.Disc

/-! ## The kernel's terms, over the arrays its body loads -/

namespace Cert.DiscKernelIdeal.Disc

open Cert.DiscKernelIdeal Cert.DiscKernelIdeal.Gen

section
variable (a0 a1 : Vec Ideal S64x64 .f32) (a2 : Vec Ideal S64x1 .f32) (b d : Vec Ideal S64x1024 .f32)
  (p q : Vec Ideal S8x64x64 .f32) (g h : Vec Ideal S64x1024 .f32)

/-- The 0/1 table that copies a group's coefficient over its 16 columns. -/
abbrev E : FVec Ideal S64x1024 .f32 := k0_pay6
abbrev mag := k0_pay10 a0 a2
abbrev stp := k0_pay11 a2
abbrev sn := k0_pay15 a1 (stp a2)
abbrev cs := k0_pay13 a1 (stp a2)
abbrev ai := k0_pay17 a1 (mag a0 a2) (stp a2)
abbrev ar1 := k0_pay19 a1 (mag a0 a2) (stp a2)
abbrev den := k0_pay18 a0 a1
abbrev numr := k0_pay20 a0 a1 (mag a0 a2) (stp a2)
abbrev numi := k0_pay23 a0 a1 (mag a0 a2) (stp a2)
abbrev v124 := k0_pay45 E a1 (k0_pay7 b) (k0_pay8 d) (ai a0 a1 a2) (den a0 a1) (ar1 a0 a1 a2) (numr a0 a1 a2) (k0_pay21 a0 a1) (numi a0 a1 a2) (k0_pay24 a0 a1) (k0_pay28 g) (k0_pay31 (k0_pay7 b) h) (k0_pay33 (k0_pay8 d) h) (k0_pay34 g)
abbrev v128 := k0_pay46 E a0 (k0_pay7 b) (k0_pay8 d) (ai a0 a1 a2) (den a0 a1) (ar1 a0 a1 a2) (numr a0 a1 a2) (k0_pay21 a0 a1) (numi a0 a1 a2) (k0_pay24 a0 a1) (k0_pay28 g) (k0_pay31 (k0_pay7 b) h) (k0_pay33 (k0_pay8 d) h) (k0_pay34 g)
abbrev v131 := k0_pay47 E a0 a1 (k0_pay7 b) (k0_pay8 d) (mag a0 a2) (k0_pay16 a1 (stp a2)) (den a0 a1) (k0_pay27 q) (k0_pay28 g) (k0_pay31 (k0_pay7 b) h) (k0_pay33 (k0_pay8 d) h) (k0_pay34 g)
abbrev v134 := k0_pay48 E a0 a1 (k0_pay7 b) (k0_pay8 d) (cs a1 a2) (sn a1 a2) (den a0 a1) (k0_pay26 p) (k0_pay27 q) (k0_pay28 g) (k0_pay31 (k0_pay7 b) h) (k0_pay33 (k0_pay8 d) h) (k0_pay34 g)
abbrev v137 := k0_pay49 E a0 a1 (k0_pay7 b) (k0_pay8 d) (mag a0 a2) (k0_pay14 a1 (stp a2)) (den a0 a1) (k0_pay26 p) (k0_pay28 g) (k0_pay31 (k0_pay7 b) h) (k0_pay33 (k0_pay8 d) h) (k0_pay34 g)
abbrev outLr := k0_pay4 (k0_pay9 a2) (mag a0 a2) (v128 a0 a1 a2 b d g h) (v134 a0 a1 a2 b d p q g h)
abbrev outLi := k0_pay2 (k0_pay9 a2) (v124 a0 a1 a2 b d g h) (v131 a0 a1 a2 b d q g h) (v137 a0 a1 a2 b d p g h)
abbrev outLs := k0_pay5 a0 a1 (k0_pay9 a2) (mag a0 a2) (v131 a0 a1 a2 b d q g h) (v134 a0 a1 a2 b d p q g h) (v137 a0 a1 a2 b d p g h)
abbrev outBr := k0_pay36 (k0_pay22 E a0 a1 (mag a0 a2) (stp a2)) (k0_pay28 g) (k0_pay30 E a0 a1 (mag a0 a2) (stp a2) h)
abbrev outBi := k0_pay35 (k0_pay25 E a0 a1 (mag a0 a2) (stp a2)) (k0_pay32 E a0 a1 (mag a0 a2) (stp a2) h) (k0_pay34 g)
end

/-! ## The 0/1 table -/

/-- The floor division of a column number by 16, as the body computes it on words. -/
theorem floor16 (j : Fin 1024) : Scalar.select
            (IntOp.andi
              (IntOp.cmpi CmpIPredicate.ne
                (IntOp.subi (BitVec.setWidth 32 (IntOp.cmpi CmpIPredicate.sgt (BitVec.ofNat 32 ↑j) 0#32))
                  (BitVec.setWidth 32 (IntOp.cmpi CmpIPredicate.slt (BitVec.ofNat 32 ↑j) 0#32)))
                (Scalar.subi (Scalar.extui (Scalar.cmpi CmpIPredicate.sgt 16#32 0#32))
                  (Scalar.extui (Scalar.cmpi CmpIPredicate.slt 16#32 0#32))))
              (IntOp.cmpi CmpIPredicate.ne (IntOp.remsi ArithUnit.vector (BitVec.ofNat 32 ↑j) 16#32) 0#32))
            (IntOp.subi (IntOp.divsi ArithUnit.vector (BitVec.ofNat 32 ↑j) 16#32) 1#32)
            (IntOp.divsi ArithUnit.vector (BitVec.ofNat 32 ↑j) 16#32) = BitVec.ofNat 32 (j.val / 16) := by
  revert j
  decide +kernel

theorem pay6_apply (i : Fin 64) (j : Fin 1024) : k0_pay6 (F := Ideal) (ix2 i j) = if j.val / 16 = i.val then 1 else 0 := by
  pointwise [k0_pay6]
  rw [floor16]
  have e : IntOp.cmpi .eq (BitVec.ofNat 32 (j.val / 16)) (BitVec.ofNat 32 i.val) = BitVec.ofBool (decide (j.val / 16 = i.val)) :=
    WordCmp.cmpi_eq_ofNat (by have := j.isLt; omega) (by have := i.isLt; omega)
  rw [e]
  by_cases hq : j.val / 16 = i.val
  · rw [if_pos hq, decide_eq_true hq]
    show (((_ : ℤ) : ℝ) : EReal) = 1
    have z : (BitVec.setWidth 32 (BitVec.ofBool true)).toInt = 1 := by decide
    rw [z]; norm_num
  · rw [if_neg hq, decide_eq_false hq]
    show (((_ : ℤ) : ℝ) : EReal) = 0
    have z : (BitVec.setWidth 32 (BitVec.ofBool false)).toInt = 0 := by decide
    rw [z]; norm_num

/-- A group's coefficient, spread by the table, is read at the column's state. -/
theorem sum_spread (f : Fin 64 → EReal) (j : Fin 1024) :
    ∑ k : Fin 64, f k * (if j.val / 16 = k.val then (1 : EReal) else 0) = f ⟨j.val / 16, by have := j.isLt; omega⟩ := by
  rw [Finset.sum_eq_single ⟨j.val / 16, by have := j.isLt; omega⟩]
  · simp
  · intro k _ hk
    rw [if_neg (fun h => hk (Fin.ext h.symm)), mul_zero]
  · simp

/-- A row against the table's row of a state is the sum over that state's 16 columns. -/
theorem sum_gather (f : Fin 1024 → EReal) (j : Fin 64) :
    ∑ k : Fin 1024, f k * (if k.val / 16 = j.val then (1 : EReal) else 0)
      = ∑ t : Fin 16, f ⟨j.val * 16 + t.val, by have := j.isLt; have := t.isLt; omega⟩ := by
  rw [Fin.sum_univ_tiles 64 16 rfl]
  rw [Finset.sum_eq_single j]
  · refine Finset.sum_congr rfl fun t _ => ?_
    rw [if_pos (by show (j.val * 16 + t.val) / 16 = j.val; have := t.isLt; omega), mul_one]
  · intro k _ hk
    refine Finset.sum_eq_zero fun t _ => ?_
    rw [if_neg (fun h => hk (Fin.ext (by have h' : (k.val * 16 + t.val) / 16 = j.val := h; have := t.isLt; omega))), mul_zero]
  · simp

/-- The same over a table of states and columns that the row flattens. -/
theorem sum_gather_split (f : Fin 64 → Fin 16 → EReal) (j : Fin 64) :
    ∑ k : Fin 1024, f ⟨k.val / 16, by have := k.isLt; omega⟩ ⟨k.val % 16, by omega⟩ * (if k.val / 16 = j.val then (1 : EReal) else 0)
      = ∑ t : Fin 16, f j t := by
  rw [sum_gather (fun k => f ⟨k.val / 16, by have := k.isLt; omega⟩ ⟨k.val % 16, by omega⟩) j]
  refine Finset.sum_congr rfl fun t _ => ?_
  have := t.isLt
  exact congrArg₂ f (Fin.ext (by show (j.val * 16 + t.val) / 16 = j.val; omega)) (Fin.ext (by show (j.val * 16 + t.val) % 16 = t.val; omega))

/-! ## The two gathered cotangents and the two spread coefficients -/

/-- A group's table as the body loads it: one row of 1024 columns per group. -/
abbrev wide (x : FVec Ideal S64x64x16 .f32) : FVec Ideal S64x1024 .f32 := shapeCast S64x1024 x shapeCasts_S64x64x16_S64x1024
abbrev col (x : FVec Ideal S64 .f32) : FVec Ideal S64x1 .f32 := shapeCast S64x1 x shapeCasts_S64_S64x1

/-- The gathered cotangent of the coefficient's imaginary part is the reference's. -/
theorem pay37_eq (a3 a4 a7 a8 : FVec Ideal S64x64x16 .f32) (i j : Fin 64) :
    k0_pay37 E (k0_pay8 (wide a4))
      (k0_pay31 (k0_pay7 (wide a3)) (wide a8))
      (k0_pay34 (wide a7)) (ix2 i j)
      = Cert.DiscReferenceIdeal.Disc.gi a3 a4 a7 a8 (ix2 i j) := by
  pointwise [k0_pay37, k0_pay8, k0_pay7, k0_pay31, k0_pay29, k0_pay34, k0_pay28, pay6_apply, Cert.DiscReferenceIdeal.Disc.gi]
  rw [sum_gather_split (fun x t => a8 (ix3 i x t) * a3 (ix3 i x t) + (0 - a7 (ix3 i x t)) * a4 (ix3 i x t)) j, Finset.sum_add_distrib,
    Fin.sum_univ_one, Fin.sum_univ_one]
  simp only [zero_sub]

theorem pay40_eq (a3 a4 a7 a8 : FVec Ideal S64x64x16 .f32) (i j : Fin 64) :
    k0_pay40 E (k0_pay7 (wide a3))
      (k0_pay28 (wide a7))
      (k0_pay33 (k0_pay8 (wide a4)) (wide a8))
       (ix2 i j)
      = Cert.DiscReferenceIdeal.Disc.gr a3 a4 a7 a8 (ix2 i j) := by
  pointwise [k0_pay40, k0_pay8, k0_pay7, k0_pay33, k0_pay29, k0_pay28, pay6_apply, Cert.DiscReferenceIdeal.Disc.gr]
  rw [sum_gather_split (fun x t => a8 (ix3 i x t) * a4 (ix3 i x t) + a7 (ix3 i x t) * a3 (ix3 i x t)) j, Finset.sum_add_distrib,
    Fin.sum_univ_one, Fin.sum_univ_one]

theorem pay22_apply (v29 v30 v40 v41 : FVec Ideal S64x64 .f32) (i : Fin 64) (j : Fin 1024) :
    k0_pay22 E v29 v30 v40 v41 (ix2 i j)
      = divf (k0_pay20 v29 v30 v40 v41) (k0_pay18 v29 v30) (ix2 i ⟨j.val / 16, by have := j.isLt; omega⟩) := by
  have hs := sum_spread (fun x => divf (k0_pay20 v29 v30 v40 v41) (k0_pay18 v29 v30) (ix2 i x)) j
  pointwise at hs
  pointwise [k0_pay22, pay6_apply]
  exact hs

theorem pay25_apply (v29 v30 v40 v41 : FVec Ideal S64x64 .f32) (i : Fin 64) (j : Fin 1024) :
    k0_pay25 E v29 v30 v40 v41 (ix2 i j)
      = divf (k0_pay23 v29 v30 v40 v41) (k0_pay18 v29 v30) (ix2 i ⟨j.val / 16, by have := j.isLt; omega⟩) := by
  have hs := sum_spread (fun x => divf (k0_pay23 v29 v30 v40 v41) (k0_pay18 v29 v30) (ix2 i x)) j
  pointwise at hs
  pointwise [k0_pay25, pay6_apply]
  exact hs

/-! ## The five outputs -/

section
variable (a0 a1 : FVec Ideal S64x64 .f32) (a2 : FVec Ideal S64 .f32) (a3 a4 : FVec Ideal S64x64x16 .f32)
  (a5 a6 : FVec Ideal S8x64x64 .f32) (a7 a8 : FVec Ideal S64x64x16 .f32)

/-- The spread coefficients are the reference's. -/
theorem coefr_eq (i j : Fin 64) : divf (numr a0 a1 (col a2)) (den a0 a1) (ix2 i j)
    = Host.divf (Cert.DiscReferenceIdeal.Disc.numr a0 a1 a2) (Cert.DiscReferenceIdeal.Disc.den a0 a1) (ix2 i j) := by
  pointwise [k0_pay9, k0_pay10, k0_pay11, k0_pay12, k0_pay13, k0_pay15, k0_pay17, k0_pay18, k0_pay19, k0_pay20, k0_pay23,
    Cert.DiscReferenceIdeal.Disc.numi, Cert.DiscReferenceIdeal.Disc.numr, Cert.DiscReferenceIdeal.Disc.den, Cert.DiscReferenceIdeal.Disc.ai, Cert.DiscReferenceIdeal.Disc.ar1, Cert.DiscReferenceIdeal.Disc.one, Cert.DiscReferenceIdeal.Disc.mag, Cert.DiscReferenceIdeal.Disc.sn, Cert.DiscReferenceIdeal.Disc.cs, Cert.DiscReferenceIdeal.Disc.stp]

theorem coefi_eq (i j : Fin 64) : divf (numi a0 a1 (col a2)) (den a0 a1) (ix2 i j)
    = Host.divf (Cert.DiscReferenceIdeal.Disc.numi a0 a1 a2) (Cert.DiscReferenceIdeal.Disc.den a0 a1) (ix2 i j) := by
  pointwise [k0_pay9, k0_pay10, k0_pay11, k0_pay12, k0_pay13, k0_pay15, k0_pay17, k0_pay18, k0_pay19, k0_pay20, k0_pay23,
    Cert.DiscReferenceIdeal.Disc.numi, Cert.DiscReferenceIdeal.Disc.numr, Cert.DiscReferenceIdeal.Disc.den, Cert.DiscReferenceIdeal.Disc.ai, Cert.DiscReferenceIdeal.Disc.ar1, Cert.DiscReferenceIdeal.Disc.one, Cert.DiscReferenceIdeal.Disc.mag, Cert.DiscReferenceIdeal.Disc.sn, Cert.DiscReferenceIdeal.Disc.cs, Cert.DiscReferenceIdeal.Disc.stp]

theorem outBr_eq (i : Fin 64) (j : Fin 1024) : outBr a0 a1 (col a2) (wide a7) (wide a8) (ix2 i j)
    = Cert.DiscReferenceIdeal.Disc.outBr a0 a1 a2 a7 a8 (ix2 i j) := by
  have hr := coefr_eq a0 a1 a2 i ⟨j.val / 16, by have := j.isLt; omega⟩
  have hi := coefi_eq a0 a1 a2 i ⟨j.val / 16, by have := j.isLt; omega⟩
  rw [← pay22_apply] at hr
  rw [← pay25_apply] at hi
  pointwise at hr hi
  pointwise [outBr, k0_pay36, k0_pay30, k0_pay29, k0_pay28, hr, hi, Cert.DiscReferenceIdeal.Disc.outBr]

theorem outBi_eq (i : Fin 64) (j : Fin 1024) : outBi a0 a1 (col a2) (wide a7) (wide a8) (ix2 i j)
    = Cert.DiscReferenceIdeal.Disc.outBi a0 a1 a2 a7 a8 (ix2 i j) := by
  have hr := coefr_eq a0 a1 a2 i ⟨j.val / 16, by have := j.isLt; omega⟩
  have hi := coefi_eq a0 a1 a2 i ⟨j.val / 16, by have := j.isLt; omega⟩
  rw [← pay22_apply] at hr
  rw [← pay25_apply] at hi
  pointwise at hr hi
  pointwise [outBi, k0_pay35, k0_pay32, k0_pay34, k0_pay29, k0_pay28, hr, hi, Cert.DiscReferenceIdeal.Disc.outBi, zero_sub]

theorem outLr_eq (i j : Fin 64) : outLr a0 a1 (col a2) (wide a3) (wide a4) a5 a6 (wide a7) (wide a8) (ix2 i j)
    = Cert.DiscReferenceIdeal.Disc.outLr a0 a1 a2 a3 a4 a5 a6 a7 a8 (ix2 i j) := by
  pointwise [k0_pay2, k0_pay1, k0_pay3, k0_pay4, k0_pay5, k0_pay14, k0_pay16, k0_pay21, k0_pay24, k0_pay26, k0_pay27, k0_pay38, k0_pay39, k0_pay41, k0_pay42, k0_pay43, k0_pay44, k0_pay45, k0_pay46, k0_pay47, k0_pay48, k0_pay49,
    k0_pay9, k0_pay10, k0_pay11, k0_pay12, k0_pay13, k0_pay15, k0_pay17, k0_pay18, k0_pay19, k0_pay20, k0_pay23, zero_sub,
    Cert.DiscReferenceIdeal.Disc.outLr, Cert.DiscReferenceIdeal.Disc.outLi, Cert.DiscReferenceIdeal.Disc.outLs, Cert.DiscReferenceIdeal.Disc.dlog, Cert.DiscReferenceIdeal.Disc.dang, Cert.DiscReferenceIdeal.Disc.ta, Cert.DiscReferenceIdeal.Disc.tb, Cert.DiscReferenceIdeal.Disc.dd, Cert.DiscReferenceIdeal.Disc.hi, Cert.DiscReferenceIdeal.Disc.hr, Cert.DiscReferenceIdeal.Disc.numi, Cert.DiscReferenceIdeal.Disc.numr, Cert.DiscReferenceIdeal.Disc.den, Cert.DiscReferenceIdeal.Disc.ai, Cert.DiscReferenceIdeal.Disc.ar1, Cert.DiscReferenceIdeal.Disc.one, Cert.DiscReferenceIdeal.Disc.mag, Cert.DiscReferenceIdeal.Disc.sn, Cert.DiscReferenceIdeal.Disc.cs, Cert.DiscReferenceIdeal.Disc.stp]
  simp only [pay37_eq, pay40_eq]

theorem outLi_eq (i j : Fin 64) : outLi a0 a1 (col a2) (wide a3) (wide a4) a5 a6 (wide a7) (wide a8) (ix2 i j)
    = Cert.DiscReferenceIdeal.Disc.outLi a0 a1 a2 a3 a4 a5 a6 a7 a8 (ix2 i j) := by
  pointwise [k0_pay2, k0_pay1, k0_pay3, k0_pay4, k0_pay5, k0_pay14, k0_pay16, k0_pay21, k0_pay24, k0_pay26, k0_pay27, k0_pay38, k0_pay39, k0_pay41, k0_pay42, k0_pay43, k0_pay44, k0_pay45, k0_pay46, k0_pay47, k0_pay48, k0_pay49,
    k0_pay9, k0_pay10, k0_pay11, k0_pay12, k0_pay13, k0_pay15, k0_pay17, k0_pay18, k0_pay19, k0_pay20, k0_pay23, zero_sub,
    Cert.DiscReferenceIdeal.Disc.outLr, Cert.DiscReferenceIdeal.Disc.outLi, Cert.DiscReferenceIdeal.Disc.outLs, Cert.DiscReferenceIdeal.Disc.dlog, Cert.DiscReferenceIdeal.Disc.dang, Cert.DiscReferenceIdeal.Disc.ta, Cert.DiscReferenceIdeal.Disc.tb, Cert.DiscReferenceIdeal.Disc.dd, Cert.DiscReferenceIdeal.Disc.hi, Cert.DiscReferenceIdeal.Disc.hr, Cert.DiscReferenceIdeal.Disc.numi, Cert.DiscReferenceIdeal.Disc.numr, Cert.DiscReferenceIdeal.Disc.den, Cert.DiscReferenceIdeal.Disc.ai, Cert.DiscReferenceIdeal.Disc.ar1, Cert.DiscReferenceIdeal.Disc.one, Cert.DiscReferenceIdeal.Disc.mag, Cert.DiscReferenceIdeal.Disc.sn, Cert.DiscReferenceIdeal.Disc.cs, Cert.DiscReferenceIdeal.Disc.stp]
  simp only [pay37_eq, pay40_eq]

theorem outLs_eq (i : Fin 64) : outLs a0 a1 (col a2) (wide a3) (wide a4) a5 a6 (wide a7) (wide a8) (ix2 i 0)
    = Cert.DiscReferenceIdeal.Disc.outLs a0 a1 a2 a3 a4 a5 a6 a7 a8 (ix2 i 0) := by
  pointwise [k0_pay2, k0_pay1, k0_pay3, k0_pay4, k0_pay5, k0_pay14, k0_pay16, k0_pay21, k0_pay24, k0_pay26, k0_pay27, k0_pay38, k0_pay39, k0_pay41, k0_pay42, k0_pay43, k0_pay44, k0_pay45, k0_pay46, k0_pay47, k0_pay48, k0_pay49,
    k0_pay9, k0_pay10, k0_pay11, k0_pay12, k0_pay13, k0_pay15, k0_pay17, k0_pay18, k0_pay19, k0_pay20, k0_pay23, zero_sub,
    Cert.DiscReferenceIdeal.Disc.outLr, Cert.DiscReferenceIdeal.Disc.outLi, Cert.DiscReferenceIdeal.Disc.outLs, Cert.DiscReferenceIdeal.Disc.dlog, Cert.DiscReferenceIdeal.Disc.dang, Cert.DiscReferenceIdeal.Disc.ta, Cert.DiscReferenceIdeal.Disc.tb, Cert.DiscReferenceIdeal.Disc.dd, Cert.DiscReferenceIdeal.Disc.hi, Cert.DiscReferenceIdeal.Disc.hr, Cert.DiscReferenceIdeal.Disc.numi, Cert.DiscReferenceIdeal.Disc.numr, Cert.DiscReferenceIdeal.Disc.den, Cert.DiscReferenceIdeal.Disc.ai, Cert.DiscReferenceIdeal.Disc.ar1, Cert.DiscReferenceIdeal.Disc.one, Cert.DiscReferenceIdeal.Disc.mag, Cert.DiscReferenceIdeal.Disc.sn, Cert.DiscReferenceIdeal.Disc.cs, Cert.DiscReferenceIdeal.Disc.stp]
  simp only [pay37_eq, pay40_eq]
  rw [Fin.sum_univ_one]

theorem outLs_eq' (y : S64x1.Idx) : outLs a0 a1 (col a2) (wide a3) (wide a4) a5 a6 (wide a7) (wide a8) y
    = Cert.DiscReferenceIdeal.Disc.outLs a0 a1 a2 a3 a4 a5 a6 a7 a8 y := by
  have z : y = ix2 (y 0) 0 := by
    rw [eq_ix2 y]
    exact congrArg (ix2 (y 0)) (Subsingleton.elim (α := Fin 1) _ _)
  rw [z]
  exact outLs_eq a0 a1 a2 a3 a4 a5 a6 a7 a8 (y 0)
end

end Cert.DiscKernelIdeal.Disc
end
-- ==== Proof.DiscValue.lean ====
/-
  The S5 discretisation's gradient: the kernel's five result arrays are the reference's five terms, and the claim.
-/
module

public import proofs.«01_k».proof.Defs
public import proofs.«01_k».proof.Proof.Gen.DiscKernelIdeal.Value
public import proofs.«01_k».proof.Proof.Gen.DiscReferenceIdeal.Run
public import proofs.«01_k».proof.Proof.DiscPure
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.DiscKernelIdeal.Disc

open Cert.DiscKernelIdeal Cert.DiscKernelIdeal.Gen

variable (m : (ℓ : Loc nD τ sig) → Buf (Elt Ideal) ℓ)

/-! ## The blocks: the one grid point stages every array whole -/

theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0, 0]
    ∧ win0_6.index t = ![0, 0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0] :=
  (by decide +kernel : ∀ t : Fin grid0.N, _)

abbrev A0 (c : Dev nD) := m ((c.tc : Thread nD τ).loc main_arg0)
abbrev A1 (c : Dev nD) := m ((c.tc : Thread nD τ).loc main_arg1)
abbrev A2 (c : Dev nD) := m ((c.tc : Thread nD τ).loc main_arg2)
abbrev A3 (c : Dev nD) := m ((c.tc : Thread nD τ).loc main_arg3)
abbrev A4 (c : Dev nD) := m ((c.tc : Thread nD τ).loc main_arg4)
abbrev A5 (c : Dev nD) := m ((c.tc : Thread nD τ).loc main_arg5)
abbrev A6 (c : Dev nD) := m ((c.tc : Thread nD τ).loc main_arg6)
abbrev A7 (c : Dev nD) := m ((c.tc : Thread nD τ).loc main_arg7)
abbrev A8 (c : Dev nD) := m ((c.tc : Thread nD τ).loc main_arg8)

theorem entry0 (c : Dev nD) : V m c main_v0 = col (A2 m c) := by entry_read; rfl
theorem entry1 (c : Dev nD) : V m c main_v1 = wide (A3 m c) := by entry_read; rfl
theorem entry2 (c : Dev nD) : V m c main_v2 = wide (A4 m c) := by entry_read; rfl
theorem entry3 (c : Dev nD) : V m c main_v3 = wide (A7 m c) := by entry_read; rfl
theorem entry4 (c : Dev nD) : V m c main_v4 = wide (A8 m c) := by entry_read; rfl

theorem blk0 (c : Dev nD) (t : Fin cfg0.N) : iblk m c 0 t = A0 m c := by blk_ext! [iblk, V, idx t]
theorem blk1 (c : Dev nD) (t : Fin cfg0.N) : iblk m c 1 t = A1 m c := by blk_ext! [iblk, V, idx t]
theorem blk2' (c : Dev nD) (t : Fin cfg0.N) : iblk m c 2 t = V m c main_v0 := by blk_ext! [iblk, idx t]
theorem blk2 (c : Dev nD) (t : Fin cfg0.N) : iblk m c 2 t = col (A2 m c) := (blk2' m c t).trans (entry0 m c)
theorem blk3' (c : Dev nD) (t : Fin cfg0.N) : iblk m c 3 t = V m c main_v1 := by blk_ext! [iblk, idx t]
theorem blk3 (c : Dev nD) (t : Fin cfg0.N) : iblk m c 3 t = wide (A3 m c) := (blk3' m c t).trans (entry1 m c)
theorem blk4' (c : Dev nD) (t : Fin cfg0.N) : iblk m c 4 t = V m c main_v2 := by blk_ext! [iblk, idx t]
theorem blk4 (c : Dev nD) (t : Fin cfg0.N) : iblk m c 4 t = wide (A4 m c) := (blk4' m c t).trans (entry2 m c)
theorem blk5 (c : Dev nD) (t : Fin cfg0.N) : iblk m c 5 t = A5 m c := by blk_ext! [iblk, V, idx t]
theorem blk6 (c : Dev nD) (t : Fin cfg0.N) : iblk m c 6 t = A6 m c := by blk_ext! [iblk, V, idx t]
theorem blk7' (c : Dev nD) (t : Fin cfg0.N) : iblk m c 7 t = V m c main_v3 := by blk_ext! [iblk, idx t]
theorem blk7 (c : Dev nD) (t : Fin cfg0.N) : iblk m c 7 t = wide (A7 m c) := (blk7' m c t).trans (entry3 m c)
theorem blk8' (c : Dev nD) (t : Fin cfg0.N) : iblk m c 8 t = V m c main_v4 := by blk_ext! [iblk, idx t]
theorem blk8 (c : Dev nD) (t : Fin cfg0.N) : iblk m c 8 t = wide (A8 m c) := (blk8' m c t).trans (entry4 m c)

/-! ## The result arrays -/

theorem final_9 (c : Dev nD) : (dats m 0 c).arrAt 9 (cfgs 0).N
    = Cert.DiscReferenceIdeal.Disc.outLr (A0 m c) (A1 m c) (A2 m c) (A3 m c) (A4 m c) (A5 m c) (A6 m c) (A7 m c) (A8 m c) := by
  refine (dats m 0 c).arrAt_eq_of_covers 9 _ (by decide +kernel) fun t hf y => ?_
  blk_simp; rw [after0_9]; dsimp only [Gen.outsAt0]; frame_out
  rw [blk0, blk1, blk2, blk3, blk4, blk5, blk6, blk7, blk8]
  have e : ((View.whole main_v5_0).slice (win0_9.rect t)).emb y = y := by blk_ext! [idx t]
  rw [e, eq_ix2 y]
  exact outLr_eq _ _ _ _ _ _ _ _ _ _ _

theorem final_10 (c : Dev nD) : (dats m 0 c).arrAt 10 (cfgs 0).N
    = Cert.DiscReferenceIdeal.Disc.outLi (A0 m c) (A1 m c) (A2 m c) (A3 m c) (A4 m c) (A5 m c) (A6 m c) (A7 m c) (A8 m c) := by
  refine (dats m 0 c).arrAt_eq_of_covers 10 _ (by decide +kernel) fun t hf y => ?_
  blk_simp; rw [after0_10]; dsimp only [Gen.outsAt0]; frame_out
  rw [blk0, blk1, blk2, blk3, blk4, blk5, blk6, blk7, blk8]
  have e : ((View.whole main_v5_1).slice (win0_10.rect t)).emb y = y := by blk_ext! [idx t]
  rw [e, eq_ix2 y]
  exact outLi_eq _ _ _ _ _ _ _ _ _ _ _

theorem final_11 (c : Dev nD) : (dats m 0 c).arrAt 11 (cfgs 0).N
    = Cert.DiscReferenceIdeal.Disc.outLs (A0 m c) (A1 m c) (A2 m c) (A3 m c) (A4 m c) (A5 m c) (A6 m c) (A7 m c) (A8 m c) := by
  refine (dats m 0 c).arrAt_eq_of_covers 11 _ (by decide +kernel) fun t hf y => ?_
  blk_simp; rw [after0_11]; dsimp only [Gen.outsAt0]; frame_out
  rw [blk0, blk1, blk2, blk3, blk4, blk5, blk6, blk7, blk8]
  have e : ((View.whole main_v5_2).slice (win0_11.rect t)).emb y = y := by blk_ext! [idx t]
  rw [e]
  exact outLs_eq' _ _ _ _ _ _ _ _ _ y

theorem final_12 (c : Dev nD) : (dats m 0 c).arrAt 12 (cfgs 0).N
    = Cert.DiscReferenceIdeal.Disc.outBr (A0 m c) (A1 m c) (A2 m c) (A7 m c) (A8 m c) := by
  refine (dats m 0 c).arrAt_eq_of_covers 12 _ (by decide +kernel) fun t hf y => ?_
  blk_simp; rw [after0_12]; dsimp only [Gen.outsAt0]; frame_out
  rw [blk0, blk1, blk2, blk7, blk8]
  have e : ((View.whole main_v5_3).slice (win0_12.rect t)).emb y = y := by blk_ext! [idx t]
  rw [e, eq_ix2 y]
  exact outBr_eq _ _ _ _ _ _ _

theorem final_13 (c : Dev nD) : (dats m 0 c).arrAt 13 (cfgs 0).N
    = Cert.DiscReferenceIdeal.Disc.outBi (A0 m c) (A1 m c) (A2 m c) (A7 m c) (A8 m c) := by
  refine (dats m 0 c).arrAt_eq_of_covers 13 _ (by decide +kernel) fun t hf y => ?_
  blk_simp; rw [after0_13]; dsimp only [Gen.outsAt0]; frame_out
  rw [blk0, blk1, blk2, blk7, blk8]
  have e : ((View.whole main_v5_4).slice (win0_13.rect t)).emb y = y := by blk_ext! [idx t]
  rw [e, eq_ix2 y]
  exact outBi_eq _ _ _ _ _ _ _

end Cert.DiscKernelIdeal.Disc

end
-- ==== Proof.DiscClaim.lean ====
/-
  The S5 discretisation's gradient: the algebraic claim.
-/
module

public import proofs.«01_k».proof.Defs
public import proofs.«01_k».proof.Proof.Gen.DiscKernelIdeal.Value
public import proofs.«01_k».proof.Proof.Gen.DiscReferenceIdeal.Run
public import proofs.«01_k».proof.Proof.DiscValue
public import Idealize.ShloMosaic.Lib.Pipeline.ValueKit
public import Idealize.ShloMosaic.Lib.Pointwise
public import Idealize.ShloMosaic.Lib.Claim

@[expose] public section

set_option maxRecDepth 16384

noncomputable section

set_option maxHeartbeats 1600000

open Idealize.ShloMosaic Idealize.ShloMosaic.TcCoe Idealize.SL.Sem

namespace Cert.Proof

/-- The kernel's five results are the reference's, on all extended reals. -/
theorem disc_algebraic : Cert.algebraic_DiscKernelIdeal_DiscReferenceIdeal (hDiscKernelIdeal := Cert.DiscKernelIdeal.Gen.facts) (hDiscReferenceIdeal := Cert.DiscReferenceIdeal.Gen.facts) := by
  intro m g m' g' _ hagree
  refine ⟨fun c => (Cert.DiscKernelIdeal.Gen.dats m 0 c).arrAt 9 (Cert.DiscKernelIdeal.cfgs 0).N,
    fun c => (Cert.DiscKernelIdeal.Gen.dats m 0 c).arrAt 10 (Cert.DiscKernelIdeal.cfgs 0).N,
    fun c => (Cert.DiscKernelIdeal.Gen.dats m 0 c).arrAt 11 (Cert.DiscKernelIdeal.cfgs 0).N,
    fun c => (Cert.DiscKernelIdeal.Gen.dats m 0 c).arrAt 12 (Cert.DiscKernelIdeal.cfgs 0).N,
    fun c => (Cert.DiscKernelIdeal.Gen.dats m 0 c).arrAt 13 (Cert.DiscKernelIdeal.cfgs 0).N,
    Cert.DiscKernelIdeal.Value.run_blocks m g, ?_⟩
  have hr := Cert.DiscReferenceIdeal.Value.run (F := Ideal) m' g'
  refine (θ_run (Cert.DiscReferenceIdeal.defs (F := Ideal)) _ _).mono ?_ hr
  clear hr
  intro r h c
  obtain ⟨e0, e1, e2, e3, e4, e5, e6, e7, e8, e9⟩ := hagree c
  have hc := h c
  refine ⟨hc.1.trans ?_, hc.2.1.trans ?_, hc.2.2.1.trans ?_, hc.2.2.2.1.trans ?_, hc.2.2.2.2.1.trans ?_, hc.2.2.2.2.2⟩
  · rw [Cert.DiscReferenceIdeal.Disc.resLr, e0, e1, e2, e3, e4, e5, e6, e7, e8]
    exact (Cert.DiscKernelIdeal.Disc.final_9 m c).symm
  · rw [Cert.DiscReferenceIdeal.Disc.resLi, e0, e1, e2, e3, e4, e5, e6, e7, e8]
    exact (Cert.DiscKernelIdeal.Disc.final_10 m c).symm
  · rw [Cert.DiscReferenceIdeal.Disc.resLs, e0, e1, e2, e3, e4, e5, e6, e7, e8]
    exact (Cert.DiscKernelIdeal.Disc.final_11 m c).symm
  · rw [e0, e1, e2, e7, e8]
    exact (Cert.DiscKernelIdeal.Disc.final_12 m c).symm
  · rw [e0, e1, e2, e7, e8]
    exact (Cert.DiscKernelIdeal.Disc.final_13 m c).symm

end Cert.Proof
end
-- ==== Proof.DiscFrame.lean ====
/-
  The S5 discretisation's gradient: the reference's own run.
-/
module

public import proofs.«01_k».proof.Defs
public import proofs.«01_k».proof.Proof.Gen.DiscReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem disc_reference_frame : Cert.quiescent_DiscReferenceIdeal (hDiscReferenceIdeal := Cert.DiscReferenceIdeal.Gen.facts) := by
  intro m g _
  hlo_run
  · intro c; simp only [and_self]
  · exact sem_eq_zero_of_no_sems (sig := Cert.DiscReferenceIdeal.sig) (by decide) _

end Cert.Proof
end
-- ==== Proof.FfnPure.lean ====
/-
  The mathematics of the mixer-output and FFN backward call: what the kernel's body stores, read at an index, is the
  reference's composed term read there. The kernel's hidden dimension is padded from 8 blocks of 352 to 8 of 384 and is
  walked in three tiles of 1024; a padded unit has weight zero, so it adds nothing.
-/
module

public import proofs.«01_k».proof.Proof.Gen.FfnKernelIdeal.Skeleton
public import proofs.«01_k».proof.Proof.Gen.FfnReferenceIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped BigOperators

/-! ## The reference's terms, over its argument arrays -/

namespace Cert.FfnReferenceIdeal.Ffn

open Cert.FfnReferenceIdeal Cert.FfnReferenceIdeal.Gen

variable (a0 a1 : FVec Ideal S2048x1024 .f32) (a2 : FVec Ideal S2048x1024 .f32) (a3 : FVec Ideal S1024 .f32)
  (a4 a5 : FVec Ideal S1024x2816 .f32) (a6 : FVec Ideal S2816x1024 .f32)

/-- The mean square of a token, plus the small constant. -/
def msq : FVec Ideal S2048x1 .f32 := addf (Host.divf (broadcastInDim S2048x1 ![0] bcast_S2048_S2048x1_0 (Host.reduceAdd (mulf a0 a0) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))
/-- The token, scaled to mean square one. -/
def xh : FVec Ideal S2048x1024 .f32 := mulf a0 (broadcastInDim S2048x1024 ![0, 1] bcast_S2048x1_S2048x1024_0_1 (Host.rsqrt (msq a0)))
def gain : FVec Ideal S2048x1024 .f32 := broadcastInDim S2048x1024 ![0, 1] bcast_S1x1024_S2048x1024_0_1 (broadcastInDim S1x1024 ![1] bcast_S1024_S1x1024_1 a3)
def hn : FVec Ideal S2048x1024 .f32 := mulf (xh a0) (gain a3)
def gt : FVec Ideal S2048x2816 .f32 := Host.dotGeneral dot_S2048x1024_S1024x2816_S2048x2816_1_0_0_1_n_n none (hn a0 a3) a4
/-- The cotangent of the hidden activation. -/
def dh : FVec Ideal S2048x2816 .f32 := Host.dotGeneral dot_S2048x1024_S2816x1024_S2048x2816_1_1_0_0_n_n none (shapeCast _ a1 shapeCasts_S2048x1024_S2048x1024) a6
def one : FVec Ideal S2048x2816 .f32 := broadcastInDim S2048x2816 ![] bcast_S_S2048x2816 (constant S_ .f32 0x3F800000#32)
def sgm : FVec Ideal S2048x2816 .f32 := Host.divf one (addf one (Host.exp (Host.negf (gt a0 a3 a4))))
def dup : FVec Ideal S2048x2816 .f32 := mulf (mulf (gt a0 a3 a4) (sgm a0 a3 a4)) (dh a1 a6)
def dgu : FVec Ideal S2048x2816 .f32 := mulf (dh a1 a6) (gt a0 a3 a5)
def dgt : FVec Ideal S2048x2816 .f32 := addf (mulf (dgu a0 a1 a3 a5 a6) (sgm a0 a3 a4)) (mulf (mulf (gt a0 a3 a4) (dgu a0 a1 a3 a5 a6)) (mulf (sgm a0 a3 a4) (subf one (sgm a0 a3 a4))))
/-- The cotangent of the normalised token. -/
def dhn : FVec Ideal S2048x1024 .f32 := addf (Host.dotGeneral dot_S2048x2816_S1024x2816_S2048x1024_1_1_0_0_n_n none (dup a0 a1 a3 a4 a6) a5) (Host.dotGeneral dot_S2048x2816_S1024x2816_S2048x1024_1_1_0_0_n_n none (dgt a0 a1 a3 a4 a5 a6) a4)
def dhg : FVec Ideal S2048x1024 .f32 := mulf (dhn a0 a1 a3 a4 a5 a6) (gain a3)
/-- The cotangent of the mean square. -/
def dms : FVec Ideal S2048x1 .f32 := Host.divf (mulf (shapeCast _ (Host.reduceAdd (mulf a0 (dhg a0 a1 a3 a4 a5 a6)) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (msq a0)) (msq a0)))) (broadcastInDim S2048x1 ![] bcast_S_S2048x1 (constant S_ .f32 0x44800000#32))
def dsq : FVec Ideal S2048x1024 .f32 := broadcastInDim S2048x1024 ![0] bcast_S2048_S2048x1024_0 (Host.reduceAdd (dms a0 a1 a3 a4 a5 a6) (constant S_ .f32 0x00000000#32) reducesTo_S2048x1_S2048_d1 h_S_)
def outX : FVec Ideal S2048x1024 .f32 := addf (addf (addf a1 (mulf (dhg a0 a1 a3 a4 a5 a6) (broadcastInDim S2048x1024 ![0, 1] bcast_S2048x1_S2048x1024_0_1 (Host.rsqrt (msq a0))))) (mulf a0 (dsq a0 a1 a3 a4 a5 a6))) (mulf (dsq a0 a1 a3 a4 a5 a6) a0)
def dcat : FVec Ideal S2048x2048 .f32 := Host.dotGeneral dot_S2048x1024_S2048x1024_S2048x2048_1_1_0_0_n_n none (outX a0 a1 a3 a4 a5 a6) a2
def outA : FVec Ideal S2048x1024 .f32 := extractStridedSlice S2048x1024 ![0, 0] (dcat a0 a1 a2 a3 a4 a5 a6) slices_S2048x2048_S2048x1024_0_0
def outB : FVec Ideal S2048x1024 .f32 := extractStridedSlice S2048x1024 ![0, 1024] (dcat a0 a1 a2 a3 a4 a5 a6) slices_S2048x2048_S2048x1024_0_1024
def outG : FVec Ideal S1x1024 .f32 := shapeCast _ (Host.reduceAdd (shapeCast _ (Host.reduceAdd (mulf (xh a0) (dhn a0 a1 a3 a4 a5 a6)) (constant S_ .f32 0x00000000#32) reducesTo_S2048x1024_S1024_d0 h_S_) shapeCasts_S1024_S1x1024) (constant S_ .f32 0x00000000#32) reducesTo_S1x1024_S1024_d0 h_S_) shapeCasts_S1024_S1x1024

variable (m : (ℓ : Loc nD τ sig) → Buf (Elt Ideal) ℓ) (c : Dev nD)

theorem resX : Value.res_main_v50 m c = outX (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := rfl
theorem resA : Value.res_main_v55 m c = outA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl
theorem resB : Value.res_main_v56 m c = outB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl
theorem resG : Value.res_main_v57 m c = outG (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := rfl

end Cert.FfnReferenceIdeal.Ffn

/-! ## The padded hidden dimension -/

namespace Cert.FfnKernelIdeal.Ffn

open Cert.FfnKernelIdeal Cert.FfnKernelIdeal.Gen

/-- A function of the 2816 hidden units, at a padded place: zero where the place is padding. -/
def unpad (F : Fin 2816 → EReal) (q : Fin 3072) : EReal :=
  if h : q.val % 384 < 352 then F ⟨q.val / 384 * 352 + q.val % 384, by have := q.isLt; omega⟩ else 0

/-- The three tiles of 1024 padded places together are the 2816 hidden units. -/
theorem sum_unpad (F : Fin 2816 → EReal) :
    (∑ j : Fin 1024, unpad F ⟨0 + j.val, by omega⟩) + (∑ j : Fin 1024, unpad F ⟨1024 + j.val, by omega⟩) + (∑ j : Fin 1024, unpad F ⟨2048 + j.val, by omega⟩) = ∑ n, F n := by
  have h1 := Fin.sum_univ_tiles 3 1024 (N := 3072) rfl (unpad F)
  have h2 := Fin.sum_univ_tiles 8 384 (N := 3072) rfl (unpad F)
  have h3 := Fin.sum_univ_tiles 8 352 (N := 2816) rfl F
  rw [Fin.sum_univ_three] at h1
  refine Eq.trans ?_ (h1.symm.trans (h2.trans ?_))
  · refine congrArg₂ (· + ·) (congrArg₂ (· + ·) ?_ ?_) ?_ <;> exact Finset.sum_congr rfl fun j _ => congrArg (unpad F) (Fin.ext (by simp))
  · rw [h3]
    refine Finset.sum_congr rfl fun b _ => ?_
    have h4 := Fin.sum_univ_add (a := 352) (b := 32) fun l : Fin 384 => unpad F ⟨b.val * 384 + l.val, by omega⟩
    refine h4.trans ?_
    rw [show (∑ l : Fin 32, unpad F ⟨b.val * 384 + (Fin.natAdd 352 l : Fin 384).val, by omega⟩) = 0 from Finset.sum_eq_zero fun l _ => by
      refine dif_neg ?_
      simp only [Fin.natAdd, not_lt]; omega, add_zero]
    refine Finset.sum_congr rfl fun l _ => ?_
    have hl := l.isLt
    refine (dif_pos (by simp only [Fin.val_castAdd]; omega)).trans (congrArg F (Fin.ext ?_))
    simp only [Fin.val_castAdd]; omega

/-- A weight's 2816 rows, cut in 8 blocks of 352, each padded with 32 rows of zeros. -/
def padded (w : FVec Ideal S8x352x1024 .f32) : FVec Ideal S3072x1024 .bf16 :=
  shapeCast S3072x1024 (pad S8x384x1024 ![0, 0, 0] ![0, 32, 0] ![0, 0, 0] (truncf .bf16 w bitsLt_bf16_f32) (sitofp .bf16 (constantI S_ 32 0#32)) pads_S8x352x1024_S8x384x1024_000_0320_000 h_S_) shapeCasts_S8x384x1024_S3072x1024

theorem padded_apply (w : FVec Ideal S8x352x1024 .f32) (q : Fin 3072) (k : Fin 1024) :
    padded w (ix2 q k) = unpad (fun n => w (ix3 ⟨n.val / 352, by omega⟩ ⟨n.val % 352, by omega⟩ k)) q := by
  pointwise [padded]
  unfold unpad
  have hq := q.isLt
  by_cases h : q.val % 384 < 352
  · rw [dif_pos ⟨by omega, h⟩, dif_pos h]
    exact congrArg w (congrArg₂ (fun a b => ix3 a b k) (Fin.ext (by simp only []; omega)) (Fin.ext (by simp only []; omega)))
  · rw [dif_neg (fun hh => h hh.2), dif_neg h]
    show (((0#32).toInt : ℝ) : EReal) = 0
    norm_num

/-- A padded place is either a hidden unit's or padding. -/
theorem unpad_cases (q : Fin 3072) : (∃ n, ∀ F, unpad F q = F n) ∨ ∀ F, unpad F q = 0 := by
  by_cases h : q.val % 384 < 352
  · exact Or.inl ⟨_, fun F => dif_pos h⟩
  · exact Or.inr fun F => dif_neg h

/-! ## One row of a block -/

section
variable (x d : Vec Ideal S256x1024 .f32) (g : Vec Ideal S1x1024 .f32)

/-- The cotangents of a tile's gate and up projections. -/
abbrev dG (wg wu wd : Vec Ideal S1024x1024 .bf16) := k0_pay30 (k0_pay1 d) (k0_pay22 (k0_pay7 x g) wg) (k0_pay23 (k0_pay7 x g) wu) (k0_pay24 (k0_pay7 x g) wg) (k0_pay25 (k0_pay7 x g) wg) wd
abbrev dU (wg wd : Vec Ideal S1024x1024 .bf16) := k0_pay29 (k0_pay1 d) (k0_pay26 (k0_pay7 x g) wg) wd

variable (wg0 wg1 wg2 wu0 wu1 wu2 wd0 wd1 wd2 : Vec Ideal S1024x1024 .bf16)

/-- The sum of the cotangent of the normalised token after one, two and three tiles. -/
abbrev v59 := k0_pay21 (k0_pay1 d) k0_pay8 (k0_pay9 x g wg0) (k0_pay10 x g wu0) (k0_pay11 x g wg0) (k0_pay12 x g wg0) (k0_pay13 x g wg0) wd0 wg0 wu0
abbrev v96 := k0_pay34 (k0_pay1 d) (v59 x d g wg0 wu0 wd0) (k0_pay22 (k0_pay7 x g) wg1) (k0_pay23 (k0_pay7 x g) wu1) (k0_pay24 (k0_pay7 x g) wg1) (k0_pay25 (k0_pay7 x g) wg1) (k0_pay26 (k0_pay7 x g) wg1) wd1 wg1 wu1
abbrev v133 := k0_pay46 (k0_pay1 d) (v96 x d g wg0 wg1 wu0 wu1 wd0 wd1) (k0_pay35 (k0_pay7 x g) wg2) (k0_pay36 (k0_pay7 x g) wu2) (k0_pay37 (k0_pay7 x g) wg2) (k0_pay38 (k0_pay7 x g) wg2) (k0_pay39 (k0_pay7 x g) wg2) wd2 wg2 wu2
abbrev v136 := k0_pay47 (k0_pay1 d) (k0_pay6 x) (v96 x d g wg0 wg1 wu0 wu1 wd0 wd1) (k0_pay35 (k0_pay7 x g) wg2) (k0_pay36 (k0_pay7 x g) wu2) (k0_pay37 (k0_pay7 x g) wg2) (k0_pay38 (k0_pay7 x g) wg2) (k0_pay39 (k0_pay7 x g) wg2) wd2 wg2 wu2
abbrev v143 := k0_pay49 (k0_pay1 d) (k0_pay2 g) (k0_pay4 x) (v96 x d g wg0 wg1 wu0 wu1 wd0 wd1) (k0_pay35 (k0_pay7 x g) wg2) (k0_pay36 (k0_pay7 x g) wu2) (k0_pay37 (k0_pay7 x g) wg2) (k0_pay38 (k0_pay7 x g) wg2) (k0_pay39 (k0_pay7 x g) wg2) wd2 wg2 wu2
abbrev v146 := k0_pay50 (k0_pay1 d) x (k0_pay2 g) (k0_pay5 x) (v96 x d g wg0 wg1 wu0 wu1 wd0 wd1) (k0_pay35 (k0_pay7 x g) wg2) (k0_pay36 (k0_pay7 x g) wu2) (k0_pay37 (k0_pay7 x g) wg2) (k0_pay38 (k0_pay7 x g) wg2) (k0_pay39 (k0_pay7 x g) wg2) wd2 wg2 wu2

theorem v133_sum (i : Fin 256) (k : Fin 1024) : v133 x d g wg0 wg1 wg2 wu0 wu1 wu2 wd0 wd1 wd2 (ix2 i k)
    = (∑ j, dG x d g wg0 wu0 wd0 (ix2 i j) * wg0 (ix2 j k)) + (∑ j, dU x d g wg0 wd0 (ix2 i j) * wu0 (ix2 j k))
      + (∑ j, dG x d g wg1 wu1 wd1 (ix2 i j) * wg1 (ix2 j k)) + (∑ j, dU x d g wg1 wd1 (ix2 i j) * wu1 (ix2 j k))
      + (∑ j, dG x d g wg2 wu2 wd2 (ix2 i j) * wg2 (ix2 j k)) + (∑ j, dU x d g wg2 wd2 (ix2 i j) * wu2 (ix2 j k)) := by
  pointwise [k0_pay46, k0_pay34, k0_pay21, k0_pay8]
  rfl

variable (a0 a1 : FVec Ideal S2048x1024 .f32) (a3 : FVec Ideal S1024 .f32)
  (a4 a5 : FVec Ideal Cert.FfnReferenceIdeal.S1024x2816 .f32) (a6 : FVec Ideal Cert.FfnReferenceIdeal.S2816x1024 .f32)
  (i : Fin 256) (r : Fin 2048)
  (hx : ∀ k : Fin 1024, x (ix2 i k) = a0 (ix2 r k)) (hd : ∀ k : Fin 1024, d (ix2 i k) = a1 (ix2 r k)) (hg : ∀ k : Fin 1024, g (ix2 0 k) = a3 (ix1 k))

include hx hg in
theorem hn_eq (k : Fin 1024) : k0_pay7 x g (ix2 i k) = Cert.FfnReferenceIdeal.Ffn.hn a0 a3 (ix2 r k) := by
  pointwise [k0_pay7, k0_pay6, k0_pay4, k0_pay3, k0_pay2, Cert.FfnReferenceIdeal.Ffn.hn, Cert.FfnReferenceIdeal.Ffn.xh, Cert.FfnReferenceIdeal.Ffn.msq, Cert.FfnReferenceIdeal.Ffn.gain]
  simp only [hx, hg]

include hx hg in
theorem gt_eq (w : Vec Ideal S1024x1024 .bf16) (j : Fin 1024) (n : Fin 2816) (hw : ∀ k : Fin 1024, w (ix2 j k) = a4 (ix2 k n)) :
    k0_pay22 (k0_pay7 x g) w (ix2 i j) = Cert.FfnReferenceIdeal.Ffn.gt a0 a3 a4 (ix2 r n) := by
  pointwise [k0_pay22, Cert.FfnReferenceIdeal.Ffn.gt]
  simp only [hn_eq x g a0 a3 i r hx hg, hw]

include hd in
theorem dh_eq (w : Vec Ideal S1024x1024 .bf16) (j : Fin 1024) (n : Fin 2816) (hw : ∀ k : Fin 1024, w (ix2 j k) = a6 (ix2 n k)) :
    k0_pay28 (k0_pay1 d) w (ix2 i j) = Cert.FfnReferenceIdeal.Ffn.dh a1 a6 (ix2 r n) := by
  pointwise [k0_pay28, k0_pay1, Cert.FfnReferenceIdeal.Ffn.dh]
  simp only [hd, hw]

include hx hd hg in
theorem dG_eq (wg wu wd : Vec Ideal S1024x1024 .bf16) (j : Fin 1024) (n : Fin 2816) (hwg : ∀ k : Fin 1024, wg (ix2 j k) = a4 (ix2 k n))
    (hwu : ∀ k : Fin 1024, wu (ix2 j k) = a5 (ix2 k n)) (hwd : ∀ k : Fin 1024, wd (ix2 j k) = a6 (ix2 n k)) :
    dG x d g wg wu wd (ix2 i j) = Cert.FfnReferenceIdeal.Ffn.dgt a0 a1 a3 a4 a5 a6 (ix2 r n) := by
  have e1 := gt_eq x g a0 a3 a4 i r hx hg wg j n hwg
  have e2 : k0_pay23 (k0_pay7 x g) wu (ix2 i j) = _ := gt_eq x g a0 a3 a5 i r hx hg wu j n hwu
  have e3 := dh_eq d a1 a6 i r hd wd j n hwd
  pointwise [k0_pay30, k0_pay24, k0_pay25, Cert.FfnReferenceIdeal.Ffn.dgt, Cert.FfnReferenceIdeal.Ffn.dgu, Cert.FfnReferenceIdeal.Ffn.sgm, Cert.FfnReferenceIdeal.Ffn.one]
  rw [e1, e2, e3]
  rfl

include hx hd hg in
theorem dU_eq (wg wd : Vec Ideal S1024x1024 .bf16) (j : Fin 1024) (n : Fin 2816) (hwg : ∀ k : Fin 1024, wg (ix2 j k) = a4 (ix2 k n))
    (hwd : ∀ k : Fin 1024, wd (ix2 j k) = a6 (ix2 n k)) :
    dU x d g wg wd (ix2 i j) = Cert.FfnReferenceIdeal.Ffn.dup a0 a1 a3 a4 a6 (ix2 r n) := by
  have e1 := gt_eq x g a0 a3 a4 i r hx hg wg j n hwg
  have e3 := dh_eq d a1 a6 i r hd wd j n hwd
  pointwise [k0_pay29, k0_pay26, k0_pay24, Cert.FfnReferenceIdeal.Ffn.dup, Cert.FfnReferenceIdeal.Ffn.sgm, Cert.FfnReferenceIdeal.Ffn.one]
  rw [e1, e3]
  rfl

include hx hd hg in
/-- A tile's two sums, over the hidden units. -/
theorem tile_eq (wg wu wd : Vec Ideal S1024x1024 .bf16) (q : Fin 1024 → Fin 3072)
    (hwg : ∀ j k : Fin 1024, wg (ix2 j k) = unpad (fun n => a4 (ix2 k n)) (q j))
    (hwu : ∀ j k : Fin 1024, wu (ix2 j k) = unpad (fun n => a5 (ix2 k n)) (q j))
    (hwd : ∀ j k : Fin 1024, wd (ix2 j k) = unpad (fun n => a6 (ix2 n k)) (q j)) (k : Fin 1024) :
    (∑ j, dG x d g wg wu wd (ix2 i j) * wg (ix2 j k)) = ∑ j, unpad (fun n => Cert.FfnReferenceIdeal.Ffn.dgt a0 a1 a3 a4 a5 a6 (ix2 r n) * a4 (ix2 k n)) (q j)
    ∧ (∑ j, dU x d g wg wd (ix2 i j) * wu (ix2 j k)) = ∑ j, unpad (fun n => Cert.FfnReferenceIdeal.Ffn.dup a0 a1 a3 a4 a6 (ix2 r n) * a5 (ix2 k n)) (q j) := by
  constructor
  · refine Finset.sum_congr rfl fun j _ => ?_
    rcases unpad_cases (q j) with ⟨n, hn⟩ | h0
    · rw [hn, dG_eq x d g a0 a1 a3 a4 a5 a6 i r hx hd hg wg wu wd j n (fun k => (hwg j k).trans (hn _)) (fun k => (hwu j k).trans (hn _)) (fun k => (hwd j k).trans (hn _)), hwg j k, hn]
    · rw [h0, hwg j k, h0, mul_zero]
  · refine Finset.sum_congr rfl fun j _ => ?_
    rcases unpad_cases (q j) with ⟨n, hn⟩ | h0
    · rw [hn, dU_eq x d g a0 a1 a3 a4 a6 i r hx hd hg wg wd j n (fun k => (hwg j k).trans (hn _)) (fun k => (hwd j k).trans (hn _)), hwu j k, hn]
    · rw [h0, hwu j k, h0, mul_zero]

/-- Row `i` of the block is row `r` of the arrays, and the nine weight tiles are the padded weights'. -/
structure Row : Prop where
  hx : ∀ k : Fin 1024, x (ix2 i k) = a0 (ix2 r k)
  hd : ∀ k : Fin 1024, d (ix2 i k) = a1 (ix2 r k)
  hg : ∀ k : Fin 1024, g (ix2 0 k) = a3 (ix1 k)
  hwg0 : ∀ j k : Fin 1024, wg0 (ix2 j k) = unpad (fun n => a4 (ix2 k n)) ⟨0 + j.val, by omega⟩
  hwg1 : ∀ j k : Fin 1024, wg1 (ix2 j k) = unpad (fun n => a4 (ix2 k n)) ⟨1024 + j.val, by omega⟩
  hwg2 : ∀ j k : Fin 1024, wg2 (ix2 j k) = unpad (fun n => a4 (ix2 k n)) ⟨2048 + j.val, by omega⟩
  hwu0 : ∀ j k : Fin 1024, wu0 (ix2 j k) = unpad (fun n => a5 (ix2 k n)) ⟨0 + j.val, by omega⟩
  hwu1 : ∀ j k : Fin 1024, wu1 (ix2 j k) = unpad (fun n => a5 (ix2 k n)) ⟨1024 + j.val, by omega⟩
  hwu2 : ∀ j k : Fin 1024, wu2 (ix2 j k) = unpad (fun n => a5 (ix2 k n)) ⟨2048 + j.val, by omega⟩
  hwd0 : ∀ j k : Fin 1024, wd0 (ix2 j k) = unpad (fun n => a6 (ix2 n k)) ⟨0 + j.val, by omega⟩
  hwd1 : ∀ j k : Fin 1024, wd1 (ix2 j k) = unpad (fun n => a6 (ix2 n k)) ⟨1024 + j.val, by omega⟩
  hwd2 : ∀ j k : Fin 1024, wd2 (ix2 j k) = unpad (fun n => a6 (ix2 n k)) ⟨2048 + j.val, by omega⟩

variable (H : Row x d g wg0 wg1 wg2 wu0 wu1 wu2 wd0 wd1 wd2 a0 a1 a3 a4 a5 a6 i r)

include H in
theorem v133_eq (k : Fin 1024) : v133 x d g wg0 wg1 wg2 wu0 wu1 wu2 wd0 wd1 wd2 (ix2 i k) = Cert.FfnReferenceIdeal.Ffn.dhn a0 a1 a3 a4 a5 a6 (ix2 r k) := by
  have t0 := tile_eq x d g a0 a1 a3 a4 a5 a6 i r H.hx H.hd H.hg wg0 wu0 wd0 _ H.hwg0 H.hwu0 H.hwd0 k
  have t1 := tile_eq x d g a0 a1 a3 a4 a5 a6 i r H.hx H.hd H.hg wg1 wu1 wd1 _ H.hwg1 H.hwu1 H.hwd1 k
  have t2 := tile_eq x d g a0 a1 a3 a4 a5 a6 i r H.hx H.hd H.hg wg2 wu2 wd2 _ H.hwg2 H.hwu2 H.hwd2 k
  rw [v133_sum, t0.1, t0.2, t1.1, t1.2, t2.1, t2.2]
  have e1 := sum_unpad fun n => Cert.FfnReferenceIdeal.Ffn.dgt a0 a1 a3 a4 a5 a6 (ix2 r n) * a4 (ix2 k n)
  have e2 := sum_unpad fun n => Cert.FfnReferenceIdeal.Ffn.dup a0 a1 a3 a4 a6 (ix2 r n) * a5 (ix2 k n)
  have e : Cert.FfnReferenceIdeal.Ffn.dhn a0 a1 a3 a4 a5 a6 (ix2 r k) = (∑ n, Cert.FfnReferenceIdeal.Ffn.dup a0 a1 a3 a4 a6 (ix2 r n) * a5 (ix2 k n)) + ∑ n, Cert.FfnReferenceIdeal.Ffn.dgt a0 a1 a3 a4 a5 a6 (ix2 r n) * a4 (ix2 k n) := by
    pointwise [Cert.FfnReferenceIdeal.Ffn.dhn]
  rw [e, ← e1, ← e2]
  simp only [Nat.zero_add, Nat.add_assoc]
  ac_rfl

include H in
theorem dhg_eq (k : Fin 1024) : k0_pay48 (k0_pay1 d) (k0_pay2 g) (v96 x d g wg0 wg1 wu0 wu1 wd0 wd1) (k0_pay35 (k0_pay7 x g) wg2) (k0_pay36 (k0_pay7 x g) wu2) (k0_pay37 (k0_pay7 x g) wg2) (k0_pay38 (k0_pay7 x g) wg2) (k0_pay39 (k0_pay7 x g) wg2) wd2 wg2 wu2 (ix2 i k) = Cert.FfnReferenceIdeal.Ffn.dhg a0 a1 a3 a4 a5 a6 (ix2 r k) := by
  have e := v133_eq x d g wg0 wg1 wg2 wu0 wu1 wu2 wd0 wd1 wd2 a0 a1 a3 a4 a5 a6 i r H k
  pointwise [k0_pay48, k0_pay2, Cert.FfnReferenceIdeal.Ffn.dhg, Cert.FfnReferenceIdeal.Ffn.gain]
  rw [H.hg]
  exact congrArg₂ (· * ·) e rfl

include H in
theorem dms_eq : v146 x d g wg0 wg1 wg2 wu0 wu1 wu2 wd0 wd1 wd2 (ix2 i 0) = Cert.FfnReferenceIdeal.Ffn.dms a0 a1 a3 a4 a5 a6 (ix2 r 0) := by
  have e := dhg_eq x d g wg0 wg1 wg2 wu0 wu1 wu2 wd0 wd1 wd2 a0 a1 a3 a4 a5 a6 i r H
  pointwise [v146, k0_pay50, k0_pay5, k0_pay4, k0_pay3, Cert.FfnReferenceIdeal.Ffn.dms, Cert.FfnReferenceIdeal.Ffn.msq]
  simp only [H.hx, e]

include H in
theorem v143_eq (k : Fin 1024) : v143 x d g wg0 wg1 wg2 wu0 wu1 wu2 wd0 wd1 wd2 (ix2 i k) = Cert.FfnReferenceIdeal.Ffn.dhg a0 a1 a3 a4 a5 a6 (ix2 r k) * Ideal.rsqrt (Cert.FfnReferenceIdeal.Ffn.msq a0 (ix2 r 0)) := by
  have e := dhg_eq x d g wg0 wg1 wg2 wu0 wu1 wu2 wd0 wd1 wd2 a0 a1 a3 a4 a5 a6 i r H
  pointwise [v143, k0_pay49, k0_pay4, k0_pay3, Cert.FfnReferenceIdeal.Ffn.msq]
  simp only [H.hx, e]

include H in
/-- The cotangent of the mixer's output. -/
theorem outX_eq (k : Fin 1024) : k0_pay51 d x (v143 x d g wg0 wg1 wg2 wu0 wu1 wu2 wd0 wd1 wd2) (v146 x d g wg0 wg1 wg2 wu0 wu1 wu2 wd0 wd1 wd2) (ix2 i k) = Cert.FfnReferenceIdeal.Ffn.outX a0 a1 a3 a4 a5 a6 (ix2 r k) := by
  have e := v143_eq x d g wg0 wg1 wg2 wu0 wu1 wu2 wd0 wd1 wd2 a0 a1 a3 a4 a5 a6 i r H
  have e' := dms_eq x d g wg0 wg1 wg2 wu0 wu1 wu2 wd0 wd1 wd2 a0 a1 a3 a4 a5 a6 i r H
  pointwise [k0_pay51, Cert.FfnReferenceIdeal.Ffn.outX, Cert.FfnReferenceIdeal.Ffn.dsq]
  simp only [H.hx, H.hd, e, Fin.sum_univ_one, Fin.isValue, e', add_assoc]

include H in
/-- The cotangent of the first mixer's output. -/
theorem outA_eq (a2 : FVec Ideal S2048x1024 .f32) (w : Vec Ideal S1024x1024 .bf16) (hw : ∀ j k : Fin 1024, w (ix2 j k) = a2 (ix2 ⟨0 + j.val, by omega⟩ k)) (k : Fin 1024) :
    k0_pay53 d x (v143 x d g wg0 wg1 wg2 wu0 wu1 wu2 wd0 wd1 wd2) (v146 x d g wg0 wg1 wg2 wu0 wu1 wu2 wd0 wd1 wd2) w (ix2 i k) = Cert.FfnReferenceIdeal.Ffn.outA a0 a1 a2 a3 a4 a5 a6 (ix2 r k) := by
  have e := outX_eq x d g wg0 wg1 wg2 wu0 wu1 wu2 wd0 wd1 wd2 a0 a1 a3 a4 a5 a6 i r H
  pointwise [k0_pay53, k0_pay52, Cert.FfnReferenceIdeal.Ffn.outA, Cert.FfnReferenceIdeal.Ffn.dcat]
  simp only [e, hw, Nat.zero_add]

include H in
/-- The cotangent of the second mixer's output. -/
theorem outB_eq (a2 : FVec Ideal S2048x1024 .f32) (w : Vec Ideal S1024x1024 .bf16) (hw : ∀ j k : Fin 1024, w (ix2 j k) = a2 (ix2 ⟨1024 + j.val, by omega⟩ k)) (k : Fin 1024) :
    k0_pay54 d x (v143 x d g wg0 wg1 wg2 wu0 wu1 wu2 wd0 wd1 wd2) (v146 x d g wg0 wg1 wg2 wu0 wu1 wu2 wd0 wd1 wd2) w (ix2 i k) = Cert.FfnReferenceIdeal.Ffn.outB a0 a1 a2 a3 a4 a5 a6 (ix2 r k) := by
  have e := outX_eq x d g wg0 wg1 wg2 wu0 wu1 wu2 wd0 wd1 wd2 a0 a1 a3 a4 a5 a6 i r H
  pointwise [k0_pay54, k0_pay52, Cert.FfnReferenceIdeal.Ffn.outB, Cert.FfnReferenceIdeal.Ffn.dcat]
  simp only [e, hw]

/-- A block's share of the gain's gradient. -/
theorem gainRow_eq (r' : Fin 256 → Fin 2048) (H : ∀ i, Row x d g wg0 wg1 wg2 wu0 wu1 wu2 wd0 wd1 wd2 a0 a1 a3 a4 a5 a6 i (r' i)) (k : Fin 1024) :
    v136 x d g wg0 wg1 wg2 wu0 wu1 wu2 wd0 wd1 wd2 (ix2 0 k) = ∑ i, Cert.FfnReferenceIdeal.Ffn.xh a0 (ix2 (r' i) k) * Cert.FfnReferenceIdeal.Ffn.dhn a0 a1 a3 a4 a5 a6 (ix2 (r' i) k) := by
  have e := fun i => v133_eq x d g wg0 wg1 wg2 wu0 wu1 wu2 wd0 wd1 wd2 a0 a1 a3 a4 a5 a6 i (r' i) (H i) k
  have hx := fun i => (H i).hx
  pointwise [v136, k0_pay47, k0_pay6, k0_pay4, k0_pay3, Cert.FfnReferenceIdeal.Ffn.xh, Cert.FfnReferenceIdeal.Ffn.msq]
  refine Finset.sum_congr rfl fun i _ => ?_
  simp only [hx]
  exact congrArg₂ (· * ·) rfl (e i)

theorem outG_apply (k : Fin 1024) : Cert.FfnReferenceIdeal.Ffn.outG a0 a1 a3 a4 a5 a6 (ix2 0 k) = ∑ r, Cert.FfnReferenceIdeal.Ffn.xh a0 (ix2 r k) * Cert.FfnReferenceIdeal.Ffn.dhn a0 a1 a3 a4 a5 a6 (ix2 r k) := by
  pointwise [Cert.FfnReferenceIdeal.Ffn.outG]
  exact Fin.sum_univ_one _

end

end Cert.FfnKernelIdeal.Ffn

end
-- ==== Proof.FfnValue.lean ====
/-
  The mixer-output and FFN backward call: the blocks of a grid point, and what the result arrays hold after the run.
-/
module

public import proofs.«01_k».proof.Defs
public import proofs.«01_k».proof.Proof.Gen.FfnKernelIdeal.Value
public import proofs.«01_k».proof.Proof.Gen.FfnReferenceIdeal.Run
public import proofs.«01_k».proof.Proof.FfnPure
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.FfnKernelIdeal.Ffn

open Cert.FfnKernelIdeal Cert.FfnKernelIdeal.Gen

variable (m : (ℓ : Loc nD τ sig) → Buf (Elt Ideal) ℓ)

/-! ## The blocks of a grid point -/

theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![t.val, 0]
    ∧ win0_8.index t = ![t.val, 0]
    ∧ win0_9.index t = ![t.val, 0]
    ∧ win0_16.index t = ![0, 0] :=
  (by decide +kernel : ∀ t : Fin grid0.N, _)

abbrev A0 (c : Dev nD) := m ((c.tc : Thread nD τ).loc main_arg0)
abbrev A1 (c : Dev nD) := m ((c.tc : Thread nD τ).loc main_arg1)
abbrev A2 (c : Dev nD) := m ((c.tc : Thread nD τ).loc main_arg2)
abbrev A3 (c : Dev nD) := m ((c.tc : Thread nD τ).loc main_arg3)
abbrev A4 (c : Dev nD) := m ((c.tc : Thread nD τ).loc main_arg4)
abbrev A5 (c : Dev nD) := m ((c.tc : Thread nD τ).loc main_arg5)
abbrev A6 (c : Dev nD) := m ((c.tc : Thread nD τ).loc main_arg6)

theorem entry0 (c : Dev nD) (q : Fin 2048) (k : Fin 1024) : (V m c main_v0 : FVec Ideal S2048x1024 .bf16) (ix2 q k) = (A2 m c (ix2 q k) : EReal) := by
  show StableHlo.after _ _ _ _ = _
  simp only [List.flatten_cons, List.flatten_nil, List.append_nil, List.cons_append, List.nil_append, hostOps0, hostOps0_1, hostOps0_2, hostOps0_3, hostOps0_4, hostOps0_5, hostOps0_6]
  entry_read
  rfl
theorem entry1 (c : Dev nD) (k : Fin 1024) : (V m c main_v1 : FVec Ideal S1x1024 .f32) (ix2 0 k) = (A3 m c (ix1 k) : EReal) := by
  show StableHlo.after _ _ _ _ = _
  simp only [List.flatten_cons, List.flatten_nil, List.append_nil, List.cons_append, List.nil_append, hostOps0, hostOps0_1, hostOps0_2, hostOps0_3, hostOps0_4, hostOps0_5, hostOps0_6]
  entry_read
  pointwise []
theorem entry6 (c : Dev nD) (q : Fin 3072) (k : Fin 1024) : (V m c main_v6 : FVec Ideal S3072x1024 .bf16) (ix2 q k) = (padded (shapeCast _ (transpose S2816x1024 [1, 0] (A4 m c) transposes_S1024x2816_S2816x1024_1_0) shapeCasts_S2816x1024_S8x352x1024) (ix2 q k) : EReal) := by
  show StableHlo.after _ _ _ _ = _
  simp only [List.flatten_cons, List.flatten_nil, List.append_nil, List.cons_append, List.nil_append, hostOps0, hostOps0_1, hostOps0_2, hostOps0_3, hostOps0_4, hostOps0_5, hostOps0_6]
  entry_read
  rfl
theorem entry11 (c : Dev nD) (q : Fin 3072) (k : Fin 1024) : (V m c main_v11 : FVec Ideal S3072x1024 .bf16) (ix2 q k) = (padded (shapeCast _ (transpose S2816x1024 [1, 0] (A5 m c) transposes_S1024x2816_S2816x1024_1_0) shapeCasts_S2816x1024_S8x352x1024) (ix2 q k) : EReal) := by
  show StableHlo.after _ _ _ _ = _
  simp only [List.flatten_cons, List.flatten_nil, List.append_nil, List.cons_append, List.nil_append, hostOps0, hostOps0_1, hostOps0_2, hostOps0_3, hostOps0_4, hostOps0_5, hostOps0_6]
  entry_read
  rfl
theorem entry15 (c : Dev nD) (q : Fin 3072) (k : Fin 1024) : (V m c main_v15 : FVec Ideal S3072x1024 .bf16) (ix2 q k) = (padded (shapeCast _ (A6 m c) shapeCasts_S2816x1024_S8x352x1024) (ix2 q k) : EReal) := by
  show StableHlo.after _ _ _ _ = _
  simp only [List.flatten_cons, List.flatten_nil, List.append_nil, List.cons_append, List.nil_append, hostOps0, hostOps0_1, hostOps0_2, hostOps0_3, hostOps0_4, hostOps0_5, hostOps0_6]
  entry_read
  rfl

/-! ## The weight tiles -/

theorem split_t (w : FVec Ideal S1024x2816 .f32) (k : Fin 1024) (q : Fin 3072) :
    unpad (fun n => shapeCast S8x352x1024 (transpose S2816x1024 [1, 0] w transposes_S1024x2816_S2816x1024_1_0) shapeCasts_S2816x1024_S8x352x1024 (ix3 ⟨n.val / 352, by omega⟩ ⟨n.val % 352, by omega⟩ k)) q
    = unpad (fun n => w (ix2 k n)) q := by
  refine congrArg (fun F => unpad F q) (funext fun n => ?_)
  pointwise []

theorem split_d (w : FVec Ideal S2816x1024 .f32) (k : Fin 1024) (q : Fin 3072) :
    unpad (fun n => shapeCast S8x352x1024 w shapeCasts_S2816x1024_S8x352x1024 (ix3 ⟨n.val / 352, by omega⟩ ⟨n.val % 352, by omega⟩ k)) q
    = unpad (fun n => w (ix2 n k)) q := by
  refine congrArg (fun F => unpad F q) (funext fun n => ?_)
  pointwise []

variable (c : Dev nD) (t : Fin cfg0.N)

theorem ld_S3072x1024_0 (X : FVec Ideal S3072x1024 .bf16) (j k : Fin 1024) : View.ld (Val := Elt Ideal) (e' := .bf16) X (Rect.unit (s := S3072x1024) ![0, 0] S1024x1024.size inb_S3072x1024_S1024x1024_0_0) (ix2 j k) = (X (ix2 ⟨0 + j.val, by omega⟩ k) : EReal) := by
  refine congrArg X ?_
  blk_ext! []
  all_goals refine (Rect.idx_unit_val _ _ _ _ _).trans ?_
  all_goals first | rfl | exact Nat.zero_add _
theorem ld_S3072x1024_1024 (X : FVec Ideal S3072x1024 .bf16) (j k : Fin 1024) : View.ld (Val := Elt Ideal) (e' := .bf16) X (Rect.unit (s := S3072x1024) ![1024, 0] S1024x1024.size inb_S3072x1024_S1024x1024_1024_0) (ix2 j k) = (X (ix2 ⟨1024 + j.val, by omega⟩ k) : EReal) := by
  refine congrArg X ?_
  blk_ext! []
  all_goals refine (Rect.idx_unit_val _ _ _ _ _).trans ?_
  all_goals first | rfl | exact Nat.zero_add _
theorem ld_S3072x1024_2048 (X : FVec Ideal S3072x1024 .bf16) (j k : Fin 1024) : View.ld (Val := Elt Ideal) (e' := .bf16) X (Rect.unit (s := S3072x1024) ![2048, 0] S1024x1024.size inb_S3072x1024_S1024x1024_2048_0) (ix2 j k) = (X (ix2 ⟨2048 + j.val, by omega⟩ k) : EReal) := by
  refine congrArg X ?_
  blk_ext! []
  all_goals refine (Rect.idx_unit_val _ _ _ _ _).trans ?_
  all_goals first | rfl | exact Nat.zero_add _
theorem ld_S2048x1024_0 (X : FVec Ideal S2048x1024 .bf16) (j k : Fin 1024) : View.ld (Val := Elt Ideal) (e' := .bf16) X (Rect.unit (s := S2048x1024) ![0, 0] S1024x1024.size inb_S2048x1024_S1024x1024_0_0) (ix2 j k) = (X (ix2 ⟨0 + j.val, by omega⟩ k) : EReal) := by
  refine congrArg X ?_
  blk_ext! []
  all_goals refine (Rect.idx_unit_val _ _ _ _ _).trans ?_
  all_goals first | rfl | exact Nat.zero_add _
theorem ld_S2048x1024_1024 (X : FVec Ideal S2048x1024 .bf16) (j k : Fin 1024) : View.ld (Val := Elt Ideal) (e' := .bf16) X (Rect.unit (s := S2048x1024) ![1024, 0] S1024x1024.size inb_S2048x1024_S1024x1024_1024_0) (ix2 j k) = (X (ix2 ⟨1024 + j.val, by omega⟩ k) : EReal) := by
  refine congrArg X ?_
  blk_ext! []
  all_goals refine (Rect.idx_unit_val _ _ _ _ _).trans ?_
  all_goals first | rfl | exact Nat.zero_add _

theorem blk2 : iblk m c 2 t = (V m c main_v0 : FVec Ideal S2048x1024 .bf16) := by blk_ext! [iblk, idx t]
theorem blk4 : iblk m c 4 t = (V m c main_v6 : FVec Ideal S3072x1024 .bf16) := by blk_ext! [iblk, idx t]
theorem blk5 : iblk m c 5 t = (V m c main_v11 : FVec Ideal S3072x1024 .bf16) := by blk_ext! [iblk, idx t]
theorem blk6 : iblk m c 6 t = (V m c main_v15 : FVec Ideal S3072x1024 .bf16) := by blk_ext! [iblk, idx t]

theorem tile4_0 (j k : Fin 1024) : (View.ld (iblk m c 4 t) (Rect.unit (s := S3072x1024) ![0, 0] S1024x1024.size inb_S3072x1024_S1024x1024_0_0)) (ix2 j k) = unpad (fun n => A4 m c (ix2 k n)) ⟨0 + j.val, by omega⟩ := by
  rw [ld_S3072x1024_0, blk4, entry6, padded_apply]
  exact split_t _ _ _
theorem tile4_1 (j k : Fin 1024) : (View.ld (iblk m c 4 t) (Rect.unit (s := S3072x1024) ![1024, 0] S1024x1024.size inb_S3072x1024_S1024x1024_1024_0)) (ix2 j k) = unpad (fun n => A4 m c (ix2 k n)) ⟨1024 + j.val, by omega⟩ := by
  rw [ld_S3072x1024_1024, blk4, entry6, padded_apply]
  exact split_t _ _ _
theorem tile4_2 (j k : Fin 1024) : (View.ld (iblk m c 4 t) (Rect.unit (s := S3072x1024) ![2048, 0] S1024x1024.size inb_S3072x1024_S1024x1024_2048_0)) (ix2 j k) = unpad (fun n => A4 m c (ix2 k n)) ⟨2048 + j.val, by omega⟩ := by
  rw [ld_S3072x1024_2048, blk4, entry6, padded_apply]
  exact split_t _ _ _
theorem tile5_0 (j k : Fin 1024) : (View.ld (iblk m c 5 t) (Rect.unit (s := S3072x1024) ![0, 0] S1024x1024.size inb_S3072x1024_S1024x1024_0_0)) (ix2 j k) = unpad (fun n => A5 m c (ix2 k n)) ⟨0 + j.val, by omega⟩ := by
  rw [ld_S3072x1024_0, blk5, entry11, padded_apply]
  exact split_t _ _ _
theorem tile5_1 (j k : Fin 1024) : (View.ld (iblk m c 5 t) (Rect.unit (s := S3072x1024) ![1024, 0] S1024x1024.size inb_S3072x1024_S1024x1024_1024_0)) (ix2 j k) = unpad (fun n => A5 m c (ix2 k n)) ⟨1024 + j.val, by omega⟩ := by
  rw [ld_S3072x1024_1024, blk5, entry11, padded_apply]
  exact split_t _ _ _
theorem tile5_2 (j k : Fin 1024) : (View.ld (iblk m c 5 t) (Rect.unit (s := S3072x1024) ![2048, 0] S1024x1024.size inb_S3072x1024_S1024x1024_2048_0)) (ix2 j k) = unpad (fun n => A5 m c (ix2 k n)) ⟨2048 + j.val, by omega⟩ := by
  rw [ld_S3072x1024_2048, blk5, entry11, padded_apply]
  exact split_t _ _ _
theorem tile6_0 (j k : Fin 1024) : (View.ld (iblk m c 6 t) (Rect.unit (s := S3072x1024) ![0, 0] S1024x1024.size inb_S3072x1024_S1024x1024_0_0)) (ix2 j k) = unpad (fun n => A6 m c (ix2 n k)) ⟨0 + j.val, by omega⟩ := by
  rw [ld_S3072x1024_0, blk6, entry15, padded_apply]
  exact split_d _ _ _
theorem tile6_1 (j k : Fin 1024) : (View.ld (iblk m c 6 t) (Rect.unit (s := S3072x1024) ![1024, 0] S1024x1024.size inb_S3072x1024_S1024x1024_1024_0)) (ix2 j k) = unpad (fun n => A6 m c (ix2 n k)) ⟨1024 + j.val, by omega⟩ := by
  rw [ld_S3072x1024_1024, blk6, entry15, padded_apply]
  exact split_d _ _ _
theorem tile6_2 (j k : Fin 1024) : (View.ld (iblk m c 6 t) (Rect.unit (s := S3072x1024) ![2048, 0] S1024x1024.size inb_S3072x1024_S1024x1024_2048_0)) (ix2 j k) = unpad (fun n => A6 m c (ix2 n k)) ⟨2048 + j.val, by omega⟩ := by
  rw [ld_S3072x1024_2048, blk6, entry15, padded_apply]
  exact split_d _ _ _
theorem tile2_0 (j k : Fin 1024) : (View.ld (iblk m c 2 t) (Rect.unit (s := S2048x1024) ![0, 0] S1024x1024.size inb_S2048x1024_S1024x1024_0_0)) (ix2 j k) = A2 m c (ix2 ⟨0 + j.val, by omega⟩ k) := by
  rw [ld_S2048x1024_0, blk2, entry0]
theorem tile2_1 (j k : Fin 1024) : (View.ld (iblk m c 2 t) (Rect.unit (s := S2048x1024) ![1024, 0] S1024x1024.size inb_S2048x1024_S1024x1024_1024_0)) (ix2 j k) = A2 m c (ix2 ⟨1024 + j.val, by omega⟩ k) := by
  rw [ld_S2048x1024_1024, blk2, entry0]

theorem row_lt (t : Fin cfg0.N) (i : Fin 256) : t.val * 256 + i.val < 2048 := by
  have := t.isLt; have h : cfg0.N = 8 := by decide
  omega

/-- A row of a point's blocks is a row of the arrays. -/
theorem row (i : Fin 256) : Row (iblk m c 0 t) (iblk m c 1 t) (iblk m c 3 t) (View.ld (iblk m c 4 t) (Rect.unit (s := S3072x1024) ![0, 0] S1024x1024.size inb_S3072x1024_S1024x1024_0_0)) (View.ld (iblk m c 4 t) (Rect.unit (s := S3072x1024) ![1024, 0] S1024x1024.size inb_S3072x1024_S1024x1024_1024_0)) (View.ld (iblk m c 4 t) (Rect.unit (s := S3072x1024) ![2048, 0] S1024x1024.size inb_S3072x1024_S1024x1024_2048_0)) (View.ld (iblk m c 5 t) (Rect.unit (s := S3072x1024) ![0, 0] S1024x1024.size inb_S3072x1024_S1024x1024_0_0)) (View.ld (iblk m c 5 t) (Rect.unit (s := S3072x1024) ![1024, 0] S1024x1024.size inb_S3072x1024_S1024x1024_1024_0)) (View.ld (iblk m c 5 t) (Rect.unit (s := S3072x1024) ![2048, 0] S1024x1024.size inb_S3072x1024_S1024x1024_2048_0)) (View.ld (iblk m c 6 t) (Rect.unit (s := S3072x1024) ![0, 0] S1024x1024.size inb_S3072x1024_S1024x1024_0_0)) (View.ld (iblk m c 6 t) (Rect.unit (s := S3072x1024) ![1024, 0] S1024x1024.size inb_S3072x1024_S1024x1024_1024_0)) (View.ld (iblk m c 6 t) (Rect.unit (s := S3072x1024) ![2048, 0] S1024x1024.size inb_S3072x1024_S1024x1024_2048_0)) (A0 m c) (A1 m c) (A3 m c) (A4 m c) (A5 m c) (A6 m c) i ⟨t.val * 256 + i.val, row_lt t i⟩ where
  hx k := by blk_ext! [iblk, V, idx t]
  hd k := by blk_ext! [iblk, V, idx t]
  hg k := by
    have e : iblk m c 3 t (ix2 0 k) = (V m c main_v1 : FVec Ideal S1x1024 .f32) (ix2 0 k) := by blk_ext! [iblk, idx t]
    rw [e, entry1]
  hwg0 := tile4_0 m c t
  hwg1 := tile4_1 m c t
  hwg2 := tile4_2 m c t
  hwu0 := tile5_0 m c t
  hwu1 := tile5_1 m c t
  hwu2 := tile5_2 m c t
  hwd0 := tile6_0 m c t
  hwd1 := tile6_1 m c t
  hwd2 := tile6_2 m c t

/-! ## The result arrays -/

theorem final_7 : (dats m 0 c).arrAt 7 (cfgs 0).N = Cert.FfnReferenceIdeal.Ffn.outX (A0 m c) (A1 m c) (A3 m c) (A4 m c) (A5 m c) (A6 m c) := by
  refine (dats m 0 c).arrAt_eq_of_covers 7 _ (by decide +kernel) fun t hf y => ?_
  have e : ((View.whole main_v16_0).slice (win0_7.rect t)).emb y = ix2 (⟨t.val * 256 + (y 0).val, row_lt t (y 0)⟩ : Fin 2048) (y 1) := by blk_ext! [idx t]
  by_cases h0 : t.val % 8 = 0
  · blk_simp; rw [after0_7, outsAt0_A m c t h0]; frame_out
    rw [e, eq_ix2 y]
    exact outX_eq _ _ _ _ _ _ _ _ _ _ _ _ _ _ _ _ _ _ _ _ (row m c t _) _
  · blk_simp; rw [after0_7, outsAt0_B m c t h0]; frame_out
    rw [e, eq_ix2 y]
    exact outX_eq _ _ _ _ _ _ _ _ _ _ _ _ _ _ _ _ _ _ _ _ (row m c t _) _

theorem final_8 : (dats m 0 c).arrAt 8 (cfgs 0).N = Cert.FfnReferenceIdeal.Ffn.outA (A0 m c) (A1 m c) (A2 m c) (A3 m c) (A4 m c) (A5 m c) (A6 m c) := by
  refine (dats m 0 c).arrAt_eq_of_covers 8 _ (by decide +kernel) fun t hf y => ?_
  have e : ((View.whole main_v16_1).slice (win0_8.rect t)).emb y = ix2 (⟨t.val * 256 + (y 0).val, row_lt t (y 0)⟩ : Fin 2048) (y 1) := by blk_ext! [idx t]
  by_cases h0 : t.val % 8 = 0
  · blk_simp; rw [after0_8, outsAt0_A m c t h0]; frame_out
    rw [e, eq_ix2 y]
    exact outA_eq _ _ _ _ _ _ _ _ _ _ _ _ _ _ _ _ _ _ _ _ (row m c t _) _ _ (tile2_0 m c t) _
  · blk_simp; rw [after0_8, outsAt0_B m c t h0]; frame_out
    rw [e, eq_ix2 y]
    exact outA_eq _ _ _ _ _ _ _ _ _ _ _ _ _ _ _ _ _ _ _ _ (row m c t _) _ _ (tile2_0 m c t) _

theorem final_9 : (dats m 0 c).arrAt 9 (cfgs 0).N = Cert.FfnReferenceIdeal.Ffn.outB (A0 m c) (A1 m c) (A2 m c) (A3 m c) (A4 m c) (A5 m c) (A6 m c) := by
  refine (dats m 0 c).arrAt_eq_of_covers 9 _ (by decide +kernel) fun t hf y => ?_
  have e : ((View.whole main_v16_2).slice (win0_9.rect t)).emb y = ix2 (⟨t.val * 256 + (y 0).val, row_lt t (y 0)⟩ : Fin 2048) (y 1) := by blk_ext! [idx t]
  by_cases h0 : t.val % 8 = 0
  · blk_simp; rw [after0_9, outsAt0_A m c t h0]; frame_out
    rw [e, eq_ix2 y]
    exact outB_eq _ _ _ _ _ _ _ _ _ _ _ _ _ _ _ _ _ _ _ _ (row m c t _) _ _ (tile2_1 m c t) _
  · blk_simp; rw [after0_9, outsAt0_B m c t h0]; frame_out
    rw [e, eq_ix2 y]
    exact outB_eq _ _ _ _ _ _ _ _ _ _ _ _ _ _ _ _ _ _ _ _ (row m c t _) _ _ (tile2_1 m c t) _

/-- A point adds its rows' share of the gain's gradient. -/
theorem gain_point (k : Fin 1024) : v136 (iblk m c 0 t) (iblk m c 1 t) (iblk m c 3 t) (View.ld (iblk m c 4 t) (Rect.unit (s := S3072x1024) ![0, 0] S1024x1024.size inb_S3072x1024_S1024x1024_0_0)) (View.ld (iblk m c 4 t) (Rect.unit (s := S3072x1024) ![1024, 0] S1024x1024.size inb_S3072x1024_S1024x1024_1024_0)) (View.ld (iblk m c 4 t) (Rect.unit (s := S3072x1024) ![2048, 0] S1024x1024.size inb_S3072x1024_S1024x1024_2048_0)) (View.ld (iblk m c 5 t) (Rect.unit (s := S3072x1024) ![0, 0] S1024x1024.size inb_S3072x1024_S1024x1024_0_0)) (View.ld (iblk m c 5 t) (Rect.unit (s := S3072x1024) ![1024, 0] S1024x1024.size inb_S3072x1024_S1024x1024_1024_0)) (View.ld (iblk m c 5 t) (Rect.unit (s := S3072x1024) ![2048, 0] S1024x1024.size inb_S3072x1024_S1024x1024_2048_0)) (View.ld (iblk m c 6 t) (Rect.unit (s := S3072x1024) ![0, 0] S1024x1024.size inb_S3072x1024_S1024x1024_0_0)) (View.ld (iblk m c 6 t) (Rect.unit (s := S3072x1024) ![1024, 0] S1024x1024.size inb_S3072x1024_S1024x1024_1024_0)) (View.ld (iblk m c 6 t) (Rect.unit (s := S3072x1024) ![2048, 0] S1024x1024.size inb_S3072x1024_S1024x1024_2048_0)) (ix2 0 k)
    = ∑ i : Fin 256, (fun r : Fin 2048 => Cert.FfnReferenceIdeal.Ffn.xh (A0 m c) (ix2 r k) * Cert.FfnReferenceIdeal.Ffn.dhn (A0 m c) (A1 m c) (A3 m c) (A4 m c) (A5 m c) (A6 m c) (ix2 r k)) ⟨t.val * 256 + i.val, row_lt t i⟩ :=
  gainRow_eq _ _ _ _ _ _ _ _ _ _ _ _ _ _ _ _ _ _ _ (row m c t) k

end Cert.FfnKernelIdeal.Ffn
end
-- ==== Proof.FfnGain.lean ====
/-
  The mixer-output and FFN backward call: the gain's gradient, which the grid points add up.
-/
module

public import proofs.«01_k».proof.Defs
public import proofs.«01_k».proof.Proof.Gen.FfnKernelIdeal.Value
public import proofs.«01_k».proof.Proof.Gen.FfnReferenceIdeal.Run
public import proofs.«01_k».proof.Proof.FfnValue
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.FfnKernelIdeal.Ffn

open Cert.FfnKernelIdeal Cert.FfnKernelIdeal.Gen

variable (m : (ℓ : Loc nD τ sig) → Buf (Elt Ideal) ℓ)

theorem add_apply (v p : Vec Ideal S1x1024 .f32) (j : S1x1024.Idx) : k0_pay56 v p j = p j + v j := by
  rw [eq_ix2 j]; pointwise [k0_pay56]

theorem zero_apply (j : S1x1024.Idx) : k0_pay55 (F := Ideal) j = 0 := by
  rw [eq_ix2 j]; pointwise [k0_pay55]

/-- A point's share of the gain's gradient. -/
def share (c : Dev nD) (t : Fin cfg0.N) : S1x1024.Idx → EReal := fun j => v136 (iblk m c 0 t) (iblk m c 1 t) (iblk m c 3 t) (View.ld (iblk m c 4 t) (Rect.unit (s := S3072x1024) ![0, 0] S1024x1024.size inb_S3072x1024_S1024x1024_0_0)) (View.ld (iblk m c 4 t) (Rect.unit (s := S3072x1024) ![1024, 0] S1024x1024.size inb_S3072x1024_S1024x1024_1024_0)) (View.ld (iblk m c 4 t) (Rect.unit (s := S3072x1024) ![2048, 0] S1024x1024.size inb_S3072x1024_S1024x1024_2048_0)) (View.ld (iblk m c 5 t) (Rect.unit (s := S3072x1024) ![0, 0] S1024x1024.size inb_S3072x1024_S1024x1024_0_0)) (View.ld (iblk m c 5 t) (Rect.unit (s := S3072x1024) ![1024, 0] S1024x1024.size inb_S3072x1024_S1024x1024_1024_0)) (View.ld (iblk m c 5 t) (Rect.unit (s := S3072x1024) ![2048, 0] S1024x1024.size inb_S3072x1024_S1024x1024_2048_0)) (View.ld (iblk m c 6 t) (Rect.unit (s := S3072x1024) ![0, 0] S1024x1024.size inb_S3072x1024_S1024x1024_0_0)) (View.ld (iblk m c 6 t) (Rect.unit (s := S3072x1024) ![1024, 0] S1024x1024.size inb_S3072x1024_S1024x1024_1024_0)) (View.ld (iblk m c 6 t) (Rect.unit (s := S3072x1024) ![2048, 0] S1024x1024.size inb_S3072x1024_S1024x1024_2048_0)) j

/-- The points' shares together are the reference's gradient. -/
theorem share_sum (c : Dev nD) (j : S1x1024.Idx) : (∑ p, share m c p j) = Cert.FfnReferenceIdeal.Ffn.outG (A0 m c) (A1 m c) (A3 m c) (A4 m c) (A5 m c) (A6 m c) j := by
  obtain ⟨k, hk⟩ : ∃ k : Fin 1024, j = ix2 0 k := ⟨j 1, by blk_ext! []⟩
  rw [hk, outG_apply, Fin.sum_univ_tiles 8 256 (N := 2048) rfl]
  exact Finset.sum_congr rfl fun t _ => gain_point m c t k

theorem final_16 (c : Dev nD) : (dats m 0 c).arrAt 16 (cfgs 0).N = Cert.FfnReferenceIdeal.Ffn.outG (A0 m c) (A1 m c) (A3 m c) (A4 m c) (A5 m c) (A6 m c) := by
  refine (dats m 0 c).arrAt_eq_of_after_last 16 t0_7 (by decide +kernel) _ fun j => ?_
  blk_simp; rw [after0_16]
  rw [Pipeline.eq_sum_fin_of_reset_step_apply_last (fun n h => (outsAt0 m c n h).2.2.2.2.2.2.2.2.2) 8 (fun _ => 0) (share m c)
    (fun t h j => by rw [outsAt0_A m c t h]; frame_out; rw [add_apply, zero_apply]; rfl)
    (fun t h j => by rw [outsAt0_B m c t h]; frame_out; rw [add_apply]; rfl)
    (le_of_eq N_0) t0_7 rfl j, zero_add]
  exact share_sum m c j

end Cert.FfnKernelIdeal.Ffn
end
-- ==== Proof.FfnClaim.lean ====
/-
  The mixer-output and FFN backward call: the algebraic claim.
-/
module

public import proofs.«01_k».proof.Defs
public import proofs.«01_k».proof.Proof.FfnValue
public import proofs.«01_k».proof.Proof.FfnGain
public import Idealize.ShloMosaic.Lib.Claim

@[expose] public section

set_option maxRecDepth 16384

noncomputable section

set_option maxHeartbeats 1600000

open Idealize.ShloMosaic Idealize.ShloMosaic.TcCoe Idealize.SL.Sem

namespace Cert.Proof

/-- The kernel's four results are the reference's, on all extended reals. -/
theorem ffn_algebraic : Cert.algebraic_FfnKernelIdeal_FfnReferenceIdeal (hFfnKernelIdeal := Cert.FfnKernelIdeal.Gen.facts) (hFfnReferenceIdeal := Cert.FfnReferenceIdeal.Gen.facts) := by
  intro m g m' g' _ hagree
  refine ⟨fun c => (Cert.FfnKernelIdeal.Gen.dats m 0 c).arrAt 7 (Cert.FfnKernelIdeal.cfgs 0).N,
    fun c => (Cert.FfnKernelIdeal.Gen.dats m 0 c).arrAt 8 (Cert.FfnKernelIdeal.cfgs 0).N,
    fun c => (Cert.FfnKernelIdeal.Gen.dats m 0 c).arrAt 9 (Cert.FfnKernelIdeal.cfgs 0).N,
    fun c => (Cert.FfnKernelIdeal.Gen.dats m 0 c).arrAt 16 (Cert.FfnKernelIdeal.cfgs 0).N, ?_, ?_⟩
  · refine (θ_run (Cert.FfnKernelIdeal.defs (F := Ideal)) _ _).mono ?_ (Cert.FfnKernelIdeal.Value.run_blocks m g)
    intro r h c
    obtain ⟨h7, h8, h9, _, _, _, _, _, _, h16, hk⟩ := h c
    exact ⟨h7, h8, h9, h16, hk⟩
  have hr := Cert.FfnReferenceIdeal.Value.run (F := Ideal) m' g'
  refine (θ_run (Cert.FfnReferenceIdeal.defs (F := Ideal)) _ _).mono ?_ hr
  clear hr
  intro r h c
  obtain ⟨e0, e1, e2, e3, e4, e5, e6, e7⟩ := hagree c
  have hc := h c
  refine ⟨hc.1.trans ?_, hc.2.1.trans ?_, hc.2.2.1.trans ?_, hc.2.2.2.1.trans ?_, hc.2.2.2.2⟩
  · rw [Cert.FfnReferenceIdeal.Ffn.resX, e0, e1, e3, e4, e5, e6]
    exact (Cert.FfnKernelIdeal.Ffn.final_7 m c).symm
  · rw [Cert.FfnReferenceIdeal.Ffn.resA, e0, e1, e2, e3, e4, e5, e6]
    exact (Cert.FfnKernelIdeal.Ffn.final_8 m c).symm
  · rw [Cert.FfnReferenceIdeal.Ffn.resB, e0, e1, e2, e3, e4, e5, e6]
    exact (Cert.FfnKernelIdeal.Ffn.final_9 m c).symm
  · rw [Cert.FfnReferenceIdeal.Ffn.resG, e0, e1, e3, e4, e5, e6]
    exact (Cert.FfnKernelIdeal.Ffn.final_16 m c).symm

end Cert.Proof
end
-- ==== Proof.FfnFrame.lean ====
/-
  The mixer-output and FFN backward call: the reference's own run.
-/
module

public import proofs.«01_k».proof.Defs
public import proofs.«01_k».proof.Proof.Gen.FfnReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem ffn_reference_frame : Cert.quiescent_FfnReferenceIdeal (hFfnReferenceIdeal := Cert.FfnReferenceIdeal.Gen.facts) := by
  intro m g _
  hlo_run
  · intro c; simp only [and_self]
  · exact sem_eq_zero_of_no_sems (sig := Cert.FfnReferenceIdeal.sig) (by decide) _

end Cert.Proof
end
-- ==== Proof.FwdPure.lean ====
/-
  The mathematics of the mixer-output and feed-forward call of the forward pass: what the kernel's body stores, read at
  an index, is the reference's composed term read there. The kernel's hidden dimension is padded from 8 blocks of 352 to
  8 of 384; a padded unit has weight zero, so it adds nothing.
-/
module

public import proofs.«01_k».proof.Proof.Gen.FwdKernelIdeal.Skeleton
public import proofs.«01_k».proof.Proof.Gen.FwdReferenceIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped BigOperators

/-! ## The reference's terms, over its argument arrays -/

namespace Cert.FwdReferenceIdeal.Fwd

open Cert.FwdReferenceIdeal Cert.FwdReferenceIdeal.Gen

variable (a0 a1 a2 : FVec Ideal S2048x1024 .f32) (a3 : FVec Ideal S2048x1024 .f32) (a4 : FVec Ideal S1024 .f32)
  (a5 a6 : FVec Ideal S1024x2816 .f32) (a7 : FVec Ideal S2816x1024 .f32)

/-- The residual stream after the mixers. -/
def x1 : FVec Ideal S2048x1024 .f32 := addf a0 (Host.dotGeneral dot_S2048x2048_S2048x1024_S2048x1024_1_0_0_1_n_n none (concatenate S2048x2048 1 [⟨S2048x1024, a1⟩, ⟨S2048x1024, a2⟩] concatenates_S2048x1024_S2048x1024_S2048x2048_d1) a3)
/-- Its norm, times the gain. -/
def hn : FVec Ideal S2048x1024 .f32 := mulf (mulf (x1 a0 a1 a2 a3) (broadcastInDim S2048x1024 ![0, 1] bcast_S2048x1_S2048x1024_0_1 (Host.rsqrt (addf (Host.divf (broadcastInDim S2048x1 ![0] bcast_S2048_S2048x1_0 (Host.reduceAdd (mulf (x1 a0 a1 a2 a3) (x1 a0 a1 a2 a3)) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 (broadcastInDim S1x1024 ![1] bcast_S1024_S1x1024_1 a4))
def gt : FVec Ideal S2048x2816 .f32 := Host.dotGeneral dot_S2048x1024_S1024x2816_S2048x2816_1_0_0_1_n_n none (hn a0 a1 a2 a3 a4) a5
def one : FVec Ideal S2048x2816 .f32 := broadcastInDim S2048x2816 ![] bcast_S_S2048x2816 (constant S_ .f32 0x3F800000#32)
/-- The hidden activation. -/
def act : FVec Ideal S2048x2816 .f32 := mulf (mulf (gt a0 a1 a2 a3 a4 a5) (Host.divf one (addf one (Host.exp (Host.negf (gt a0 a1 a2 a3 a4 a5)))))) (gt a0 a1 a2 a3 a4 a6)
def x2 : FVec Ideal S2048x1024 .f32 := addf (x1 a0 a1 a2 a3) (Host.dotGeneral dot_S2048x2816_S2816x1024_S2048x1024_1_0_0_1_n_n none (act a0 a1 a2 a3 a4 a5 a6) a7)

variable (m : (ℓ : Loc nD τ sig) → Buf (Elt Ideal) ℓ) (c : Dev nD)

theorem resX2 : Value.res_main_v21 m c = x2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

end Cert.FwdReferenceIdeal.Fwd

/-! ## The padded hidden dimension -/

namespace Cert.FwdKernelIdeal.Fwd

open Cert.FwdKernelIdeal Cert.FwdKernelIdeal.Gen

/-- A function of the 2816 hidden units, at a padded place: zero where the place is padding. -/
def unpad (F : Fin 2816 → EReal) (q : Fin 3072) : EReal :=
  if h : q.val % 384 < 352 then F ⟨q.val / 384 * 352 + q.val % 384, by have := q.isLt; omega⟩ else 0

/-- The 3072 padded places together are the 2816 hidden units. -/
theorem sum_unpad (F : Fin 2816 → EReal) : (∑ q, unpad F q) = ∑ n, F n := by
  have h2 := Fin.sum_univ_tiles 8 384 (N := 3072) rfl (unpad F)
  have h3 := Fin.sum_univ_tiles 8 352 (N := 2816) rfl F
  rw [h2, h3]
  refine Finset.sum_congr rfl fun b _ => ?_
  have h4 := Fin.sum_univ_add (a := 352) (b := 32) fun l : Fin 384 => unpad F ⟨b.val * 384 + l.val, by omega⟩
  refine h4.trans ?_
  rw [show (∑ l : Fin 32, unpad F ⟨b.val * 384 + (Fin.natAdd 352 l : Fin 384).val, by omega⟩) = 0 from Finset.sum_eq_zero fun l _ => by
    refine dif_neg ?_
    simp only [Fin.natAdd, not_lt]; omega, add_zero]
  refine Finset.sum_congr rfl fun l _ => ?_
  have hl := l.isLt
  refine (dif_pos (by simp only [Fin.val_castAdd]; omega)).trans (congrArg F (Fin.ext ?_))
  simp only [Fin.val_castAdd]; omega

/-- A weight's 2816 rows, cut in 8 blocks of 352, each padded with 32 rows of zeros. -/
def padded (w : FVec Ideal S8x352x1024 .f32) : FVec Ideal S3072x1024 .bf16 :=
  shapeCast S3072x1024 (pad S8x384x1024 ![0, 0, 0] ![0, 32, 0] ![0, 0, 0] (truncf .bf16 w bitsLt_bf16_f32) (sitofp .bf16 (constantI S_ 32 0#32)) pads_S8x352x1024_S8x384x1024_000_0320_000 h_S_) shapeCasts_S8x384x1024_S3072x1024

theorem padded_apply (w : FVec Ideal S8x352x1024 .f32) (q : Fin 3072) (k : Fin 1024) :
    padded w (ix2 q k) = unpad (fun n => w (ix3 ⟨n.val / 352, by omega⟩ ⟨n.val % 352, by omega⟩ k)) q := by
  pointwise [padded]
  unfold unpad
  have hq := q.isLt
  by_cases h : q.val % 384 < 352
  · rw [dif_pos ⟨by omega, h⟩, dif_pos h]
    exact congrArg w (congrArg₂ (fun a b => ix3 a b k) (Fin.ext (by simp only []; omega)) (Fin.ext (by simp only []; omega)))
  · rw [dif_neg (fun hh => h hh.2), dif_neg h]
    show (((0#32).toInt : ℝ) : EReal) = 0
    norm_num

/-- A padded place is either a hidden unit's or padding. -/
theorem unpad_cases (q : Fin 3072) : (∃ n, ∀ F, unpad F q = F n) ∨ ∀ F, unpad F q = 0 := by
  by_cases h : q.val % 384 < 352
  · exact Or.inl ⟨_, fun F => dif_pos h⟩
  · exact Or.inr fun F => dif_neg h

/-! ## One row of a block -/

section
variable (x : Vec Ideal S256x1024 .f32) (u v : Vec Ideal S256x1024 .bf16) (wa wb : Vec Ideal S1024x1024 .bf16) (g : Vec Ideal S1x1024 .f32)
  (wg wu wd : Vec Ideal S3072x1024 .bf16)

variable (a0 a1 a2 : FVec Ideal S2048x1024 .f32) (a3 : FVec Ideal S2048x1024 .f32) (a4 : FVec Ideal S1024 .f32)
  (a5 a6 : FVec Ideal Cert.FwdReferenceIdeal.S1024x2816 .f32) (a7 : FVec Ideal Cert.FwdReferenceIdeal.S2816x1024 .f32)
  (i : Fin 256) (r : Fin 2048)

/-- Row `i` of the block is row `r` of the arrays, and the weights are the padded ones. -/
structure Row : Prop where
  hx : ∀ k : Fin 1024, x (ix2 i k) = a0 (ix2 r k)
  hu : ∀ k : Fin 1024, u (ix2 i k) = a1 (ix2 r k)
  hv : ∀ k : Fin 1024, v (ix2 i k) = a2 (ix2 r k)
  hwa : ∀ j k : Fin 1024, wa (ix2 j k) = a3 (ix2 ⟨0 + j.val, by omega⟩ k)
  hwb : ∀ j k : Fin 1024, wb (ix2 j k) = a3 (ix2 ⟨1024 + j.val, by omega⟩ k)
  hg : ∀ k : Fin 1024, g (ix2 0 k) = a4 (ix1 k)
  hwg : ∀ (q : Fin 3072) (k : Fin 1024), wg (ix2 q k) = unpad (fun n => a5 (ix2 k n)) q
  hwu : ∀ (q : Fin 3072) (k : Fin 1024), wu (ix2 q k) = unpad (fun n => a6 (ix2 k n)) q
  hwd : ∀ (q : Fin 3072) (k : Fin 1024), wd (ix2 q k) = unpad (fun n => a7 (ix2 n k)) q

/-- The mixer output's product, as the sum of its two halves. -/
theorem x1_apply (k : Fin 1024) : Cert.FwdReferenceIdeal.Fwd.x1 a0 a1 a2 a3 (ix2 r k)
    = a0 (ix2 r k) + ((∑ j : Fin 1024, a1 (ix2 r j) * a3 (ix2 ⟨0 + j.val, by omega⟩ k)) + ∑ j : Fin 1024, a2 (ix2 r j) * a3 (ix2 ⟨1024 + j.val, by omega⟩ k)) := by
  pointwise [Cert.FwdReferenceIdeal.Fwd.x1]

variable (H : Row x u v wa wb g wg wu wd a0 a1 a2 a3 a4 a5 a6 a7 i r)

include H in
theorem x1_eq (k : Fin 1024) : k0_pay2 x u wa v wb (ix2 i k) = Cert.FwdReferenceIdeal.Fwd.x1 a0 a1 a2 a3 (ix2 r k) := by
  rw [x1_apply]
  pointwise [k0_pay2]
  simp only [H.hx, H.hu, H.hv, H.hwa, H.hwb, add_assoc, Nat.zero_add]

include H in
theorem hn_eq (k : Fin 1024) : k0_pay3 x u wa v wb g (ix2 i k) = Cert.FwdReferenceIdeal.Fwd.hn a0 a1 a2 a3 a4 (ix2 r k) := by
  have e := x1_eq x u v wa wb g wg wu wd a0 a1 a2 a3 a4 a5 a6 a7 i r H
  pointwise [k0_pay3, Cert.FwdReferenceIdeal.Fwd.hn]
  simp only [e, H.hg]

include H in
theorem gt_eq (q : Fin 3072) (n : Fin 2816) (hn : ∀ F, unpad F q = F n) : k0_pay4 x u wa v wb g wg (ix2 i q) = Cert.FwdReferenceIdeal.Fwd.gt a0 a1 a2 a3 a4 a5 (ix2 r n) := by
  have e := hn_eq x u v wa wb g wg wu wd a0 a1 a2 a3 a4 a5 a6 a7 i r H
  pointwise [k0_pay4, Cert.FwdReferenceIdeal.Fwd.gt]
  simp only [e, H.hwg, hn]

include H in
theorem up_eq (q : Fin 3072) (n : Fin 2816) (hn : ∀ F, unpad F q = F n) : (∑ k, k0_pay3 x u wa v wb g (ix2 i k) * k0_pay5 wu (ix2 q k)) = Cert.FwdReferenceIdeal.Fwd.gt a0 a1 a2 a3 a4 a6 (ix2 r n) := by
  have e := hn_eq x u v wa wb g wg wu wd a0 a1 a2 a3 a4 a5 a6 a7 i r H
  pointwise [k0_pay5, Cert.FwdReferenceIdeal.Fwd.gt]
  simp only [e, H.hwu, hn]

/-- The hidden activation at a padded place. -/
abbrev hid (i : Fin 256) (q : Fin 3072) : EReal := k0_pay4 x u wa v wb g wg (ix2 i q) * Ideal.logistic (k0_pay4 x u wa v wb g wg (ix2 i q)) * ∑ k, k0_pay3 x u wa v wb g (ix2 i k) * k0_pay5 wu (ix2 q k)

theorem x2_pay (k : Fin 1024) : k0_pay1 (k0_pay2 x u wa v wb) (k0_pay3 x u wa v wb g) (k0_pay4 x u wa v wb g wg) (k0_pay5 wu) wd (ix2 i k)
    = k0_pay2 x u wa v wb (ix2 i k) + ∑ q, hid x u v wa wb g wg wu i q * wd (ix2 q k) := by
  pointwise [k0_pay1]

include H in
/-- The residual stream after the feed-forward layer. -/
theorem x2_eq (k : Fin 1024) : k0_pay1 (k0_pay2 x u wa v wb) (k0_pay3 x u wa v wb g) (k0_pay4 x u wa v wb g wg) (k0_pay5 wu) wd (ix2 i k) = Cert.FwdReferenceIdeal.Fwd.x2 a0 a1 a2 a3 a4 a5 a6 a7 (ix2 r k) := by
  rw [x2_pay]
  have e : (∑ q, hid x u v wa wb g wg wu i q * wd (ix2 q k)) = ∑ q, unpad (fun n => Cert.FwdReferenceIdeal.Fwd.act a0 a1 a2 a3 a4 a5 a6 (ix2 r n) * a7 (ix2 n k)) q := by
    refine Finset.sum_congr rfl fun q _ => ?_
    rcases unpad_cases q with ⟨n, hn⟩ | h0
    · rw [hn, H.hwd, hn]
      refine congrArg (· * _) ?_
      pointwise [Cert.FwdReferenceIdeal.Fwd.act, Cert.FwdReferenceIdeal.Fwd.one]
      rw [hid, gt_eq x u v wa wb g wg wu wd a0 a1 a2 a3 a4 a5 a6 a7 i r H q n hn, up_eq x u v wa wb g wg wu wd a0 a1 a2 a3 a4 a5 a6 a7 i r H q n hn]
      rfl
    · rw [h0, H.hwd, h0, mul_zero]
  rw [e, sum_unpad, x1_eq x u v wa wb g wg wu wd a0 a1 a2 a3 a4 a5 a6 a7 i r H]
  pointwise [Cert.FwdReferenceIdeal.Fwd.x2]

end

end Cert.FwdKernelIdeal.Fwd

end
-- ==== Proof.FwdValue.lean ====
/-
  The mixer-output and feed-forward call of the forward pass: the blocks of a grid point, and what the result arrays
  hold after the run.
-/
module

public import proofs.«01_k».proof.Defs
public import proofs.«01_k».proof.Proof.Gen.FwdKernelIdeal.Value
public import proofs.«01_k».proof.Proof.Gen.FwdReferenceIdeal.Run
public import proofs.«01_k».proof.Proof.FwdPure
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.FwdKernelIdeal.Fwd

open Cert.FwdKernelIdeal Cert.FwdKernelIdeal.Gen

variable (m : (ℓ : Loc nD τ sig) → Buf (Elt Ideal) ℓ)

/-! ## The blocks of a grid point -/

theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![t.val, 0]
    ∧ win0_9.index t = ![t.val, 0] :=
  (by decide +kernel : ∀ t : Fin grid0.N, _)

abbrev A0 (c : Dev nD) := m ((c.tc : Thread nD τ).loc main_arg0)
abbrev A1 (c : Dev nD) := m ((c.tc : Thread nD τ).loc main_arg1)
abbrev A2 (c : Dev nD) := m ((c.tc : Thread nD τ).loc main_arg2)
abbrev A3 (c : Dev nD) := m ((c.tc : Thread nD τ).loc main_arg3)
abbrev A4 (c : Dev nD) := m ((c.tc : Thread nD τ).loc main_arg4)
abbrev A5 (c : Dev nD) := m ((c.tc : Thread nD τ).loc main_arg5)
abbrev A6 (c : Dev nD) := m ((c.tc : Thread nD τ).loc main_arg6)
abbrev A7 (c : Dev nD) := m ((c.tc : Thread nD τ).loc main_arg7)

theorem entry0 (c : Dev nD) (q : Fin 2048) (k : Fin 1024) : (V m c main_v0 : FVec Ideal S2048x1024 .bf16) (ix2 q k) = (A1 m c (ix2 q k) : EReal) := by
  show StableHlo.after _ _ _ _ = _
  simp only [List.flatten_cons, List.flatten_nil, List.append_nil, List.cons_append, List.nil_append, hostOps0, hostOps0_1, hostOps0_2, hostOps0_3, hostOps0_4, hostOps0_5, hostOps0_6]
  entry_read
  rfl
theorem entry1 (c : Dev nD) (q : Fin 2048) (k : Fin 1024) : (V m c main_v1 : FVec Ideal S2048x1024 .bf16) (ix2 q k) = (A2 m c (ix2 q k) : EReal) := by
  show StableHlo.after _ _ _ _ = _
  simp only [List.flatten_cons, List.flatten_nil, List.append_nil, List.cons_append, List.nil_append, hostOps0, hostOps0_1, hostOps0_2, hostOps0_3, hostOps0_4, hostOps0_5, hostOps0_6]
  entry_read
  rfl
theorem entry2 (c : Dev nD) (q : Fin 2048) (k : Fin 1024) : (V m c main_v2 : FVec Ideal S2048x1024 .bf16) (ix2 q k) = (A3 m c (ix2 q k) : EReal) := by
  show StableHlo.after _ _ _ _ = _
  simp only [List.flatten_cons, List.flatten_nil, List.append_nil, List.cons_append, List.nil_append, hostOps0, hostOps0_1, hostOps0_2, hostOps0_3, hostOps0_4, hostOps0_5, hostOps0_6]
  entry_read
  rfl
theorem entry3 (c : Dev nD) (k : Fin 1024) : (V m c main_v3 : FVec Ideal S1x1024 .f32) (ix2 0 k) = (A4 m c (ix1 k) : EReal) := by
  show StableHlo.after _ _ _ _ = _
  simp only [List.flatten_cons, List.flatten_nil, List.append_nil, List.cons_append, List.nil_append, hostOps0, hostOps0_1, hostOps0_2, hostOps0_3, hostOps0_4, hostOps0_5, hostOps0_6]
  entry_read
  pointwise []
theorem entry8 (c : Dev nD) (q : Fin 3072) (k : Fin 1024) : (V m c main_v8 : FVec Ideal S3072x1024 .bf16) (ix2 q k) = (padded (shapeCast _ (transpose S2816x1024 [1, 0] (A5 m c) transposes_S1024x2816_S2816x1024_1_0) shapeCasts_S2816x1024_S8x352x1024) (ix2 q k) : EReal) := by
  show StableHlo.after _ _ _ _ = _
  simp only [List.flatten_cons, List.flatten_nil, List.append_nil, List.cons_append, List.nil_append, hostOps0, hostOps0_1, hostOps0_2, hostOps0_3, hostOps0_4, hostOps0_5, hostOps0_6]
  entry_read
  rfl
theorem entry13 (c : Dev nD) (q : Fin 3072) (k : Fin 1024) : (V m c main_v13 : FVec Ideal S3072x1024 .bf16) (ix2 q k) = (padded (shapeCast _ (transpose S2816x1024 [1, 0] (A6 m c) transposes_S1024x2816_S2816x1024_1_0) shapeCasts_S2816x1024_S8x352x1024) (ix2 q k) : EReal) := by
  show StableHlo.after _ _ _ _ = _
  simp only [List.flatten_cons, List.flatten_nil, List.append_nil, List.cons_append, List.nil_append, hostOps0, hostOps0_1, hostOps0_2, hostOps0_3, hostOps0_4, hostOps0_5, hostOps0_6]
  entry_read
  rfl
theorem entry17 (c : Dev nD) (q : Fin 3072) (k : Fin 1024) : (V m c main_v17 : FVec Ideal S3072x1024 .bf16) (ix2 q k) = (padded (shapeCast _ (A7 m c) shapeCasts_S2816x1024_S8x352x1024) (ix2 q k) : EReal) := by
  show StableHlo.after _ _ _ _ = _
  simp only [List.flatten_cons, List.flatten_nil, List.append_nil, List.cons_append, List.nil_append, hostOps0, hostOps0_1, hostOps0_2, hostOps0_3, hostOps0_4, hostOps0_5, hostOps0_6]
  entry_read
  rfl

/-! ## The weights -/

theorem split_t (w : FVec Ideal S1024x2816 .f32) (k : Fin 1024) (q : Fin 3072) :
    unpad (fun n => shapeCast S8x352x1024 (transpose S2816x1024 [1, 0] w transposes_S1024x2816_S2816x1024_1_0) shapeCasts_S2816x1024_S8x352x1024 (ix3 ⟨n.val / 352, by omega⟩ ⟨n.val % 352, by omega⟩ k)) q
    = unpad (fun n => w (ix2 k n)) q := by
  refine congrArg (fun F => unpad F q) (funext fun n => ?_)
  pointwise []

theorem split_d (w : FVec Ideal S2816x1024 .f32) (k : Fin 1024) (q : Fin 3072) :
    unpad (fun n => shapeCast S8x352x1024 w shapeCasts_S2816x1024_S8x352x1024 (ix3 ⟨n.val / 352, by omega⟩ ⟨n.val % 352, by omega⟩ k)) q
    = unpad (fun n => w (ix2 n k)) q := by
  refine congrArg (fun F => unpad F q) (funext fun n => ?_)
  pointwise []

variable (c : Dev nD) (t : Fin cfg0.N)

theorem ld_S2048x1024_0 (X : FVec Ideal S2048x1024 .bf16) (j k : Fin 1024) : View.ld (Val := Elt Ideal) (e' := .bf16) X (Rect.unit (s := S2048x1024) ![0, 0] S1024x1024.size inb_S2048x1024_S1024x1024_0_0) (ix2 j k) = (X (ix2 ⟨0 + j.val, by omega⟩ k) : EReal) := by
  refine congrArg X ?_
  blk_ext! []
  all_goals refine (Rect.idx_unit_val _ _ _ _ _).trans ?_
  all_goals first | rfl | exact Nat.zero_add _
theorem ld_S2048x1024_1024 (X : FVec Ideal S2048x1024 .bf16) (j k : Fin 1024) : View.ld (Val := Elt Ideal) (e' := .bf16) X (Rect.unit (s := S2048x1024) ![1024, 0] S1024x1024.size inb_S2048x1024_S1024x1024_1024_0) (ix2 j k) = (X (ix2 ⟨1024 + j.val, by omega⟩ k) : EReal) := by
  refine congrArg X ?_
  blk_ext! []
  all_goals refine (Rect.idx_unit_val _ _ _ _ _).trans ?_
  all_goals first | rfl | exact Nat.zero_add _

theorem blk3 : iblk m c 3 t = (V m c main_v2 : FVec Ideal S2048x1024 .bf16) := by blk_ext! [iblk, idx t]
theorem blk5 : iblk m c 5 t = (V m c main_v8 : FVec Ideal S3072x1024 .bf16) := by blk_ext! [iblk, idx t]
theorem blk6 : iblk m c 6 t = (V m c main_v13 : FVec Ideal S3072x1024 .bf16) := by blk_ext! [iblk, idx t]
theorem blk7 : iblk m c 7 t = (V m c main_v17 : FVec Ideal S3072x1024 .bf16) := by blk_ext! [iblk, idx t]

theorem row_lt (t : Fin cfg0.N) (i : Fin 256) : t.val * 256 + i.val < 2048 := by
  have := t.isLt; have h : cfg0.N = 8 := by decide
  omega

/-- A row of a point's blocks is a row of the arrays. -/
theorem row (i : Fin 256) : Row (iblk m c 0 t) (iblk m c 1 t) (iblk m c 2 t) (View.ld (iblk m c 3 t) (Rect.unit (s := S2048x1024) ![0, 0] S1024x1024.size inb_S2048x1024_S1024x1024_0_0)) (View.ld (iblk m c 3 t) (Rect.unit (s := S2048x1024) ![1024, 0] S1024x1024.size inb_S2048x1024_S1024x1024_1024_0)) (iblk m c 4 t) (iblk m c 5 t) (iblk m c 6 t) (iblk m c 7 t) (A0 m c) (A1 m c) (A2 m c) (A3 m c) (A4 m c) (A5 m c) (A6 m c) (A7 m c) i ⟨t.val * 256 + i.val, row_lt t i⟩ where
  hx k := by blk_ext! [iblk, V, idx t]
  hu k := by
    have e : iblk m c 1 t (ix2 i k) = (V m c main_v0 : FVec Ideal S2048x1024 .bf16) (ix2 ⟨t.val * 256 + i.val, row_lt t i⟩ k) := by blk_ext! [iblk, idx t]
    rw [e, entry0]
  hv k := by
    have e : iblk m c 2 t (ix2 i k) = (V m c main_v1 : FVec Ideal S2048x1024 .bf16) (ix2 ⟨t.val * 256 + i.val, row_lt t i⟩ k) := by blk_ext! [iblk, idx t]
    rw [e, entry1]
  hwa j k := by rw [ld_S2048x1024_0, blk3, entry2]
  hwb j k := by rw [ld_S2048x1024_1024, blk3, entry2]
  hg k := by
    have e : iblk m c 4 t (ix2 0 k) = (V m c main_v3 : FVec Ideal S1x1024 .f32) (ix2 0 k) := by blk_ext! [iblk, idx t]
    rw [e, entry3]
  hwg q k := by rw [blk5, entry8, padded_apply]; exact split_t _ _ _
  hwu q k := by rw [blk6, entry13, padded_apply]; exact split_t _ _ _
  hwd q k := by rw [blk7, entry17, padded_apply]; exact split_d _ _ _

/-! ## The result arrays -/

theorem final_8 : (dats m 0 c).arrAt 8 (cfgs 0).N = Cert.FwdReferenceIdeal.Fwd.x1 (A0 m c) (A1 m c) (A2 m c) (A3 m c) := by
  refine (dats m 0 c).arrAt_eq_of_covers 8 _ (by decide +kernel) fun t hf y => ?_
  have e : ((View.whole main_v18_0).slice (win0_8.rect t)).emb y = ix2 (⟨t.val * 256 + (y 0).val, row_lt t (y 0)⟩ : Fin 2048) (y 1) := by blk_ext! [idx t]
  blk_simp; rw [after0_8]; frame_out
  rw [e, eq_ix2 y]
  exact x1_eq _ _ _ _ _ _ _ _ _ _ _ _ _ _ _ _ _ _ _ (row m c t _) _

theorem final_9 : (dats m 0 c).arrAt 9 (cfgs 0).N = Cert.FwdReferenceIdeal.Fwd.x2 (A0 m c) (A1 m c) (A2 m c) (A3 m c) (A4 m c) (A5 m c) (A6 m c) (A7 m c) := by
  refine (dats m 0 c).arrAt_eq_of_covers 9 _ (by decide +kernel) fun t hf y => ?_
  have e : ((View.whole main_v18_1).slice (win0_9.rect t)).emb y = ix2 (⟨t.val * 256 + (y 0).val, row_lt t (y 0)⟩ : Fin 2048) (y 1) := by blk_ext! [idx t]
  blk_simp; rw [after0_9]; frame_out
  rw [e, eq_ix2 y]
  exact x2_eq _ _ _ _ _ _ _ _ _ _ _ _ _ _ _ _ _ _ _ (row m c t _) _

end Cert.FwdKernelIdeal.Fwd
end
-- ==== Proof.FwdClaim.lean ====
/-
  The mixer-output and feed-forward call of the forward pass: the algebraic claim.
-/
module

public import proofs.«01_k».proof.Defs
public import proofs.«01_k».proof.Proof.Gen.FwdKernelIdeal.Value
public import proofs.«01_k».proof.Proof.Gen.FwdReferenceIdeal.Run
public import Idealize.ShloMosaic.Lib.Pipeline.ValueKit
public import Idealize.ShloMosaic.Lib.Pointwise
public import proofs.«01_k».proof.Proof.FwdValue
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

set_option maxHeartbeats 1600000

namespace Cert.Proof

/-- The kernel's two results are the reference's, on all extended reals. -/
theorem fwd_algebraic : Cert.algebraic_FwdKernelIdeal_FwdReferenceIdeal (hFwdKernelIdeal := Cert.FwdKernelIdeal.Gen.facts) (hFwdReferenceIdeal := Cert.FwdReferenceIdeal.Gen.facts) := by
  intro m g m' g' _ hagree
  refine ⟨fun c => (Cert.FwdKernelIdeal.Gen.dats m 0 c).arrAt 8 (Cert.FwdKernelIdeal.cfgs 0).N,
    fun c => (Cert.FwdKernelIdeal.Gen.dats m 0 c).arrAt 9 (Cert.FwdKernelIdeal.cfgs 0).N, Cert.FwdKernelIdeal.Value.run_blocks m g, ?_⟩
  have hr := Cert.FwdReferenceIdeal.Value.run (F := Ideal) m' g'
  refine (θ_run (Cert.FwdReferenceIdeal.defs (F := Ideal)) _ _).mono ?_ hr
  clear hr
  intro r h c
  obtain ⟨e0, e1, e2, e3, e4, e5, e6, e7⟩ := hagree c
  have hc := h c
  refine ⟨hc.1.trans ?_, hc.2.1.trans ?_, hc.2.2⟩
  · rw [e0, e1, e2, e3]
    exact (Cert.FwdKernelIdeal.Fwd.final_8 m c).symm
  · rw [Cert.FwdReferenceIdeal.Fwd.resX2, e0, e1, e2, e3, e4, e5, e6, e7]
    exact (Cert.FwdKernelIdeal.Fwd.final_9 m c).symm

end Cert.Proof
end
-- ==== Proof.FwdFrame.lean ====
/-
  The mixer-output and feed-forward call of the forward pass: the reference's own run.
-/
module

public import proofs.«01_k».proof.Defs
public import proofs.«01_k».proof.Proof.Gen.FwdReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem fwd_reference_frame : Cert.quiescent_FwdReferenceIdeal (hFwdReferenceIdeal := Cert.FwdReferenceIdeal.Gen.facts) := by
  intro m g _
  hlo_run
  · intro c; simp only [and_self]
  · exact sem_eq_zero_of_no_sems (sig := Cert.FwdReferenceIdeal.sig) (by decide) _

end Cert.Proof
end
-- ==== Proof.WdnClaim.lean ====
/-
  The weight-gradient call of the down projection: each grid point's product is the reference's, for one block of 352 hidden units.
-/
module

public import proofs.«01_k».proof.Defs
public import proofs.«01_k».proof.Proof.Gen.WdnKernelIdeal.Value
public import proofs.«01_k».proof.Proof.Gen.WdnReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.WdnReferenceIdeal.Wdn

open Cert.WdnReferenceIdeal Cert.WdnReferenceIdeal.Gen

/-- The reference's term. -/
def grad (a : FVec Ideal S2048x2816 .f32) (d : FVec Ideal S2048x1024 .f32) : FVec Ideal S8x352x1024 .bf16 :=
  truncf .bf16 (shapeCast _ (transpose S2816x1024 [1, 0] (Host.dotGeneral dot_S2048x1024_S2048x2816_S1024x2816_0_0_1_1_n_n none d a) transposes_S1024x2816_S2816x1024_1_0) shapeCasts_S2816x1024_S8x352x1024) bitsLt_bf16_f32

theorem grad_apply (a : FVec Ideal S2048x2816 .f32) (d : FVec Ideal S2048x1024 .f32) (b : Fin 8) (l : Fin 352) (k : Fin 1024) :
    grad a d (ix3 b l k) = ∑ r : Fin 2048, d (ix2 r k) * a (ix2 r ⟨b.val * 352 + l.val, by omega⟩) := by
  pointwise [grad]

end Cert.WdnReferenceIdeal.Wdn

namespace Cert.WdnKernelIdeal.Wdn

open Cert.WdnKernelIdeal Cert.WdnKernelIdeal.Gen
open Cert.WdnReferenceIdeal.Wdn (grad grad_apply)

/-- The 2816 hidden units in 8 blocks of 352, each padded with 32 columns of zeros. -/
def padded (w : FVec Ideal S2048x2816 .f32) : FVec Ideal S2048x3072 .bf16 :=
  shapeCast S2048x3072 (pad S2048x8x384 ![0, 0, 0] ![0, 0, 32] ![0, 0, 0] (truncf .bf16 (shapeCast S2048x8x352 w shapeCasts_S2048x2816_S2048x8x352) bitsLt_bf16_f32) (sitofp .bf16 (constantI S_ 32 0#32)) pads_S2048x8x352_S2048x8x384_000_000_0320 h_S_) shapeCasts_S2048x8x384_S2048x3072

theorem padded_apply (w : FVec Ideal S2048x2816 .f32) (r : Fin 2048) (q : Fin 3072) (n : Fin 2816) (h : q.val % 384 < 352) (hn : n.val = q.val / 384 * 352 + q.val % 384) :
    padded w (ix2 r q) = (w (ix2 r n) : EReal) := by
  pointwise [padded]
  have hq := q.isLt
  rw [dif_pos ⟨by omega, h⟩]
  exact congrArg w (congrArg (ix2 r) (Fin.ext (by simp only []; omega)))

/-- A block's product, read at an index: the sum over the tokens. -/
theorem pay_apply (x : Vec Ideal S2048x384 .bf16) (d : Vec Ideal S2048x1024 .bf16) (l : Fin 352) (k : Fin 1024) :
    k0_pay1 x d (ix3 0 l k) = ∑ r : Fin 2048, x (ix2 r ⟨l.val, by omega⟩) * d (ix2 r k) := by
  pointwise [k0_pay1]

variable (m : (ℓ : Loc nD τ sig) → Buf (Elt Ideal) ℓ) (c : Dev nD) (t : Fin cfg0.N)

abbrev A0 := m ((c.tc : Thread nD τ).loc main_arg0)
abbrev A1 := m ((c.tc : Thread nD τ).loc main_arg1)

theorem idx : ∀ t : Fin cfg0.N, win0_0.index t = ![0, t.val] ∧ win0_1.index t = ![0, 0] ∧ win0_2.index t = ![t.val, 0, 0] :=
  (by decide +kernel : ∀ t : Fin grid0.N, _)

theorem lt : t.val < 8 := lt_of_lt_of_eq t.isLt N_0

theorem entry3 (r : Fin 2048) (q : Fin 3072) : (V m c main_v3 : FVec Ideal S2048x3072 .bf16) (ix2 r q) = (padded (A0 m c) (ix2 r q) : EReal) := by
  show StableHlo.after _ _ _ _ = _
  simp only [List.flatten_cons, List.flatten_nil, List.append_nil, List.cons_append, List.nil_append, hostOps0, hostOps0_1, hostOps0_2]
  entry_read
  rfl
theorem entry4 (r : Fin 2048) (k : Fin 1024) : (V m c main_v4 : FVec Ideal S2048x1024 .bf16) (ix2 r k) = (A1 m c (ix2 r k) : EReal) := by
  show StableHlo.after _ _ _ _ = _
  simp only [List.flatten_cons, List.flatten_nil, List.append_nil, List.cons_append, List.nil_append, hostOps0, hostOps0_1, hostOps0_2]
  entry_read
  rfl

theorem blk0 (r : Fin 2048) (l : Fin 352) : iblk m c 0 t (ix2 r (⟨l.val, by omega⟩ : Fin 384)) = A0 m c (ix2 r (⟨t.val * 352 + l.val, by have := lt t; omega⟩ : Fin 2816)) := by
  have e : iblk m c 0 t (ix2 r (⟨l.val, by omega⟩ : Fin 384)) = (V m c main_v3 : FVec Ideal S2048x3072 .bf16) (ix2 r (⟨t.val * 384 + l.val, by have := lt t; omega⟩ : Fin 3072)) := by blk_ext! [iblk, idx t]
  have hl := l.isLt
  rw [e, entry3, padded_apply (A0 m c) r _ ⟨t.val * 352 + l.val, by have := lt t; omega⟩ (by simp only []; omega) (by simp only []; omega)]

theorem blk1 (r : Fin 2048) (k : Fin 1024) : iblk m c 1 t (ix2 r k) = A1 m c (ix2 r k) := by
  have e : iblk m c 1 t (ix2 r k) = (V m c main_v4 : FVec Ideal S2048x1024 .bf16) (ix2 r k) := by blk_ext! [iblk, idx t]
  rw [e, entry4]

/-- The result array: one block of hidden units per grid point. -/
theorem final : (dats m 0 c).arrAt 2 (cfgs 0).N = grad (A0 m c) (A1 m c) := by
  refine (dats m 0 c).arrAt_eq_of_covers 2 _ (by decide +kernel) fun t hf y => ?_
  obtain ⟨l, k, ey⟩ : ∃ (l : Fin 352) (k : Fin 1024), y = ix3 (0 : Fin 1) l k := ⟨y 1, y 2, by blk_ext! []⟩
  have e : ((View.whole main_v5).slice (win0_2.rect t)).emb (ix3 (0 : Fin 1) l k) = ix3 (⟨t.val, lt t⟩ : Fin 8) l k := by blk_ext! [idx t]
  blk_simp; rw [after0_2]; frame_out
  rw [ey, e]
  refine (pay_apply _ _ _ _).trans ((Finset.sum_congr rfl fun r _ => ?_).trans (grad_apply _ _ _ _ _).symm)
  rw [blk0, blk1, mul_comm]

end Cert.WdnKernelIdeal.Wdn

set_option maxHeartbeats 1600000

namespace Cert.Proof

/-- The kernel's result is the reference's, on all extended reals. -/
theorem wdn_algebraic : Cert.algebraic_WdnKernelIdeal_WdnReferenceIdeal (hWdnKernelIdeal := Cert.WdnKernelIdeal.Gen.facts) (hWdnReferenceIdeal := Cert.WdnReferenceIdeal.Gen.facts) := by
  intro m g m' g' _ hagree
  refine ⟨fun c => (Cert.WdnKernelIdeal.Gen.dats m 0 c).arrAt 2 (Cert.WdnKernelIdeal.cfgs 0).N, Cert.WdnKernelIdeal.Value.run_blocks m g, ?_⟩
  have hr := Cert.WdnReferenceIdeal.Value.run (F := Ideal) m' g'
  refine (θ_run (Cert.WdnReferenceIdeal.defs (F := Ideal)) _ _).mono ?_ hr
  clear hr
  intro r h c
  obtain ⟨e0, e1⟩ := hagree c
  have hc := h c
  refine ⟨hc.1.trans ?_, hc.2⟩
  rw [e0, e1]
  exact (Cert.WdnKernelIdeal.Wdn.final m c).symm

end Cert.Proof
end
-- ==== Proof.WdnFrame.lean ====
/-
  The weight-gradient call of the down projection: each grid point's product is the reference's, for one block of 352 hidden units: the reference's own run.
-/
module

public import proofs.«01_k».proof.Defs
public import proofs.«01_k».proof.Proof.Gen.WdnReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem wdn_reference_frame : Cert.quiescent_WdnReferenceIdeal (hWdnReferenceIdeal := Cert.WdnReferenceIdeal.Gen.facts) := by
  intro m g _
  hlo_run
  · intro c; simp only [and_self]
  · exact sem_eq_zero_of_no_sems (sig := Cert.WdnReferenceIdeal.sig) (by decide) _

end Cert.Proof
end
-- ==== Proof.WgtClaim.lean ====
/-
  The weight-gradient call of the gate and up projections: each grid point's product is the reference's, for one block of 352 hidden units.
-/
module

public import proofs.«01_k».proof.Defs
public import proofs.«01_k».proof.Proof.Gen.WgtKernelIdeal.Value
public import proofs.«01_k».proof.Proof.Gen.WgtReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.WgtReferenceIdeal.Wgt

open Cert.WgtReferenceIdeal Cert.WgtReferenceIdeal.Gen

/-- The reference's term. -/
def grad (a : FVec Ideal S2048x2816 .f32) (d : FVec Ideal S2048x1024 .f32) : FVec Ideal S8x352x1024 .bf16 :=
  truncf .bf16 (shapeCast _ (transpose S2816x1024 [1, 0] (transpose S1024x2816 [1, 0] (Host.dotGeneral dot_S2048x2816_S2048x1024_S2816x1024_0_0_1_1_n_n none a d) transposes_S2816x1024_S1024x2816_1_0) transposes_S1024x2816_S2816x1024_1_0) shapeCasts_S2816x1024_S8x352x1024) bitsLt_bf16_f32

theorem grad_apply (a : FVec Ideal S2048x2816 .f32) (d : FVec Ideal S2048x1024 .f32) (b : Fin 8) (l : Fin 352) (k : Fin 1024) :
    grad a d (ix3 b l k) = ∑ r : Fin 2048, a (ix2 r ⟨b.val * 352 + l.val, by omega⟩) * d (ix2 r k) := by
  pointwise [grad]

end Cert.WgtReferenceIdeal.Wgt

namespace Cert.WgtKernelIdeal.Wgt

open Cert.WgtKernelIdeal Cert.WgtKernelIdeal.Gen
open Cert.WgtReferenceIdeal.Wgt (grad grad_apply)

/-- The 2816 hidden units in 8 blocks of 352, each padded with 32 columns of zeros. -/
def padded (w : FVec Ideal S2048x2816 .f32) : FVec Ideal S2048x3072 .bf16 :=
  shapeCast S2048x3072 (pad S2048x8x384 ![0, 0, 0] ![0, 0, 32] ![0, 0, 0] (truncf .bf16 (shapeCast S2048x8x352 w shapeCasts_S2048x2816_S2048x8x352) bitsLt_bf16_f32) (sitofp .bf16 (constantI S_ 32 0#32)) pads_S2048x8x352_S2048x8x384_000_000_0320 h_S_) shapeCasts_S2048x8x384_S2048x3072

theorem padded_apply (w : FVec Ideal S2048x2816 .f32) (r : Fin 2048) (q : Fin 3072) (n : Fin 2816) (h : q.val % 384 < 352) (hn : n.val = q.val / 384 * 352 + q.val % 384) :
    padded w (ix2 r q) = (w (ix2 r n) : EReal) := by
  pointwise [padded]
  have hq := q.isLt
  rw [dif_pos ⟨by omega, h⟩]
  exact congrArg w (congrArg (ix2 r) (Fin.ext (by simp only []; omega)))

/-- A block's product, read at an index: the sum over the tokens. -/
theorem pay_apply (x : Vec Ideal S2048x384 .bf16) (d : Vec Ideal S2048x1024 .bf16) (l : Fin 352) (k : Fin 1024) :
    k0_pay1 x d (ix3 0 l k) = ∑ r : Fin 2048, x (ix2 r ⟨l.val, by omega⟩) * d (ix2 r k) := by
  pointwise [k0_pay1]

variable (m : (ℓ : Loc nD τ sig) → Buf (Elt Ideal) ℓ) (c : Dev nD) (t : Fin cfg0.N)

abbrev A0 := m ((c.tc : Thread nD τ).loc main_arg0)
abbrev A1 := m ((c.tc : Thread nD τ).loc main_arg1)

theorem idx : ∀ t : Fin cfg0.N, win0_0.index t = ![0, t.val] ∧ win0_1.index t = ![0, 0] ∧ win0_2.index t = ![t.val, 0, 0] :=
  (by decide +kernel : ∀ t : Fin grid0.N, _)

theorem lt : t.val < 8 := lt_of_lt_of_eq t.isLt N_0

theorem entry3 (r : Fin 2048) (q : Fin 3072) : (V m c main_v3 : FVec Ideal S2048x3072 .bf16) (ix2 r q) = (padded (A0 m c) (ix2 r q) : EReal) := by
  show StableHlo.after _ _ _ _ = _
  simp only [List.flatten_cons, List.flatten_nil, List.append_nil, List.cons_append, List.nil_append, hostOps0, hostOps0_1, hostOps0_2]
  entry_read
  rfl
theorem entry4 (r : Fin 2048) (k : Fin 1024) : (V m c main_v4 : FVec Ideal S2048x1024 .bf16) (ix2 r k) = (A1 m c (ix2 r k) : EReal) := by
  show StableHlo.after _ _ _ _ = _
  simp only [List.flatten_cons, List.flatten_nil, List.append_nil, List.cons_append, List.nil_append, hostOps0, hostOps0_1, hostOps0_2]
  entry_read
  rfl

theorem blk0 (r : Fin 2048) (l : Fin 352) : iblk m c 0 t (ix2 r (⟨l.val, by omega⟩ : Fin 384)) = A0 m c (ix2 r (⟨t.val * 352 + l.val, by have := lt t; omega⟩ : Fin 2816)) := by
  have e : iblk m c 0 t (ix2 r (⟨l.val, by omega⟩ : Fin 384)) = (V m c main_v3 : FVec Ideal S2048x3072 .bf16) (ix2 r (⟨t.val * 384 + l.val, by have := lt t; omega⟩ : Fin 3072)) := by blk_ext! [iblk, idx t]
  have hl := l.isLt
  rw [e, entry3, padded_apply (A0 m c) r _ ⟨t.val * 352 + l.val, by have := lt t; omega⟩ (by simp only []; omega) (by simp only []; omega)]

theorem blk1 (r : Fin 2048) (k : Fin 1024) : iblk m c 1 t (ix2 r k) = A1 m c (ix2 r k) := by
  have e : iblk m c 1 t (ix2 r k) = (V m c main_v4 : FVec Ideal S2048x1024 .bf16) (ix2 r k) := by blk_ext! [iblk, idx t]
  rw [e, entry4]

/-- The result array: one block of hidden units per grid point. -/
theorem final : (dats m 0 c).arrAt 2 (cfgs 0).N = grad (A0 m c) (A1 m c) := by
  refine (dats m 0 c).arrAt_eq_of_covers 2 _ (by decide +kernel) fun t hf y => ?_
  obtain ⟨l, k, ey⟩ : ∃ (l : Fin 352) (k : Fin 1024), y = ix3 (0 : Fin 1) l k := ⟨y 1, y 2, by blk_ext! []⟩
  have e : ((View.whole main_v5).slice (win0_2.rect t)).emb (ix3 (0 : Fin 1) l k) = ix3 (⟨t.val, lt t⟩ : Fin 8) l k := by blk_ext! [idx t]
  blk_simp; rw [after0_2]; frame_out
  rw [ey, e]
  refine (pay_apply _ _ _ _).trans ((Finset.sum_congr rfl fun r _ => ?_).trans (grad_apply _ _ _ _ _).symm)
  rw [blk0, blk1]

end Cert.WgtKernelIdeal.Wgt

set_option maxHeartbeats 1600000

namespace Cert.Proof

/-- The kernel's result is the reference's, on all extended reals. -/
theorem wgt_algebraic : Cert.algebraic_WgtKernelIdeal_WgtReferenceIdeal (hWgtKernelIdeal := Cert.WgtKernelIdeal.Gen.facts) (hWgtReferenceIdeal := Cert.WgtReferenceIdeal.Gen.facts) := by
  intro m g m' g' _ hagree
  refine ⟨fun c => (Cert.WgtKernelIdeal.Gen.dats m 0 c).arrAt 2 (Cert.WgtKernelIdeal.cfgs 0).N, Cert.WgtKernelIdeal.Value.run_blocks m g, ?_⟩
  have hr := Cert.WgtReferenceIdeal.Value.run (F := Ideal) m' g'
  refine (θ_run (Cert.WgtReferenceIdeal.defs (F := Ideal)) _ _).mono ?_ hr
  clear hr
  intro r h c
  obtain ⟨e0, e1⟩ := hagree c
  have hc := h c
  refine ⟨hc.1.trans ?_, hc.2⟩
  rw [e0, e1]
  exact (Cert.WgtKernelIdeal.Wgt.final m c).symm

end Cert.Proof
end
-- ==== Proof.WgtFrame.lean ====
/-
  The weight-gradient call of the gate and up projections: each grid point's product is the reference's, for one block of 352 hidden units: the reference's own run.
-/
module

public import proofs.«01_k».proof.Defs
public import proofs.«01_k».proof.Proof.Gen.WgtReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem wgt_reference_frame : Cert.quiescent_WgtReferenceIdeal (hWgtReferenceIdeal := Cert.WgtReferenceIdeal.Gen.facts) := by
  intro m g _
  hlo_run
  · intro c; simp only [and_self]
  · exact sem_eq_zero_of_no_sems (sig := Cert.WgtReferenceIdeal.sig) (by decide) _

end Cert.Proof
end
-- ==== Proof.InbPure.lean ====
/-
  The mathematics of the input projection's backward call: what the kernel's body stores, read at an index, is the
  reference's composed term read there. The kernel adds four products, one per branch of the projection; the reference
  takes one product over all 3600 columns, the branches' cotangents padded with zeros to their places.
-/
module

public import proofs.«01_k».proof.Proof.Gen.InbKernelIdeal.Skeleton
public import proofs.«01_k».proof.Proof.Gen.InbReferenceIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped BigOperators

/-! ## The reference's terms, over its argument arrays -/

namespace Cert.InbReferenceIdeal.Inb

open Cert.InbReferenceIdeal Cert.InbReferenceIdeal.Gen

variable (a0 : FVec Ideal S2048x1024 .f32) (a1 : FVec Ideal S1024 .f32) (a2 : FVec Ideal S1024x3600 .f32)
  (a3 a4 : FVec Ideal S2048x1024 .f32) (a5 : FVec Ideal S2048x1536 .f32) (a6 : FVec Ideal S2048x16 .f32) (a7 : FVec Ideal S2048x1024 .f32)

/-- The mean square of a token, plus the small constant. -/
def msq : FVec Ideal S2048x1 .f32 := addf (Host.divf (broadcastInDim S2048x1 ![0] bcast_S2048_S2048x1_0 (Host.reduceAdd (mulf a0 a0) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))
/-- The token, scaled to mean square one. -/
def xh : FVec Ideal S2048x1024 .f32 := mulf a0 (broadcastInDim S2048x1024 ![0, 1] bcast_S2048x1_S2048x1024_0_1 (Host.rsqrt (msq a0)))
def gain : FVec Ideal S2048x1024 .f32 := broadcastInDim S2048x1024 ![0, 1] bcast_S1x1024_S2048x1024_0_1 (broadcastInDim S1x1024 ![1] bcast_S1024_S1x1024_1 a1)
def outH : FVec Ideal S2048x1024 .bf16 := truncf .bf16 (mulf (xh a0) (gain a1)) bitsLt_bf16_f32
/-- The branches' cotangents, each padded with zeros to its columns of the projection. -/
def dproj : FVec Ideal S2048x3600 .f32 := addf (addf (addf (pad S2048x3600 ![0, 3584] ![0, 0] ![0, 0] a6 (constant S_ .f32 0x00000000#32) pads_S2048x16_S2048x3600_000_358400 h_S_) (pad S2048x3600 ![0, 2048] ![0, 16] ![0, 0] a5 (constant S_ .f32 0x00000000#32) pads_S2048x1536_S2048x3600_000_2048160 h_S_)) (pad S2048x3600 ![0, 1024] ![0, 1552] ![0, 0] a4 (constant S_ .f32 0x00000000#32) pads_S2048x1024_S2048x3600_000_102415520 h_S_)) (pad S2048x3600 ![0, 0] ![0, 2576] ![0, 0] a3 (constant S_ .f32 0x00000000#32) pads_S2048x1024_S2048x3600_000_025760 h_S_)
/-- The cotangent of the normalised token. -/
def dhn : FVec Ideal S2048x1024 .f32 := Host.dotGeneral dot_S2048x3600_S1024x3600_S2048x1024_1_1_0_0_n_n none (dproj a3 a4 a5 a6) a2
def dhg : FVec Ideal S2048x1024 .f32 := mulf (dhn a2 a3 a4 a5 a6) (gain a1)
/-- The cotangent of the mean square. -/
def dms : FVec Ideal S2048x1 .f32 := Host.divf (mulf (shapeCast _ (Host.reduceAdd (mulf a0 (dhg a1 a2 a3 a4 a5 a6)) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (msq a0)) (msq a0)))) (broadcastInDim S2048x1 ![] bcast_S_S2048x1 (constant S_ .f32 0x44800000#32))
def dsq : FVec Ideal S2048x1024 .f32 := broadcastInDim S2048x1024 ![0] bcast_S2048_S2048x1024_0 (Host.reduceAdd (dms a0 a1 a2 a3 a4 a5 a6) (constant S_ .f32 0x00000000#32) reducesTo_S2048x1_S2048_d1 h_S_)
def outX : FVec Ideal S2048x1024 .f32 := addf a7 (addf (addf (mulf (dhg a1 a2 a3 a4 a5 a6) (broadcastInDim S2048x1024 ![0, 1] bcast_S2048x1_S2048x1024_0_1 (Host.rsqrt (msq a0)))) (mulf a0 (dsq a0 a1 a2 a3 a4 a5 a6))) (mulf (dsq a0 a1 a2 a3 a4 a5 a6) a0))
def outG : FVec Ideal S1x1024 .f32 := shapeCast _ (Host.reduceAdd (shapeCast _ (Host.reduceAdd (mulf (xh a0) (dhn a2 a3 a4 a5 a6)) (constant S_ .f32 0x00000000#32) reducesTo_S2048x1024_S1024_d0 h_S_) shapeCasts_S1024_S1x1024) (constant S_ .f32 0x00000000#32) reducesTo_S1x1024_S1024_d0 h_S_) shapeCasts_S1024_S1x1024

variable (m : (ℓ : Loc nD τ sig) → Buf (Elt Ideal) ℓ) (c : Dev nD)

theorem resX : Value.res_main_v49 m c = outX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

/-- A sum over the 3600 columns, branch by branch. -/
theorem sum_cols (F : Fin 3600 → EReal) : (∑ q, F q) = (∑ j : Fin 1024, F ⟨j.val, by omega⟩) + (∑ j : Fin 1024, F ⟨1024 + j.val, by omega⟩) + (∑ j : Fin 1536, F ⟨2048 + j.val, by omega⟩) + ∑ j : Fin 16, F ⟨3584 + j.val, by omega⟩ := by
  have h1 := Fin.sum_univ_add (a := 3584) (b := 16) F
  have h2 := Fin.sum_univ_add (a := 2048) (b := 1536) fun q : Fin 3584 => F ⟨q.val, by omega⟩
  have h3 := Fin.sum_univ_add (a := 1024) (b := 1024) fun q : Fin 2048 => F ⟨q.val, by omega⟩
  refine h1.trans (congrArg₂ (· + ·) (h2.trans (congrArg₂ (· + ·) h3 ?_)) ?_) <;> rfl

theorem dproj_u (r : Fin 2048) (j : Fin 1024) : dproj a3 a4 a5 a6 (ix2 r ⟨j.val, by omega⟩) = a3 (ix2 r j) := by
  have hj := j.isLt
  pointwise [dproj]
  split_ifs
  all_goals first | omega | exact (‹False ∧ _›).1.elim | simp only [zero_add, add_zero, Nat.add_sub_cancel_left, Fin.eta]
theorem dproj_z (r : Fin 2048) (j : Fin 1024) : dproj a3 a4 a5 a6 (ix2 r ⟨1024 + j.val, by omega⟩) = a4 (ix2 r j) := by
  have hj := j.isLt
  pointwise [dproj]
  split_ifs
  all_goals first | omega | exact (‹False ∧ _›).1.elim | simp only [zero_add, add_zero, Nat.add_sub_cancel_left, Fin.eta]
theorem dproj_x (r : Fin 2048) (j : Fin 1536) : dproj a3 a4 a5 a6 (ix2 r ⟨2048 + j.val, by omega⟩) = a5 (ix2 r j) := by
  have hj := j.isLt
  pointwise [dproj]
  split_ifs
  all_goals first | omega | exact (‹False ∧ _›).1.elim | simp only [zero_add, add_zero, Nat.add_sub_cancel_left, Fin.eta]
theorem dproj_d (r : Fin 2048) (j : Fin 16) : dproj a3 a4 a5 a6 (ix2 r ⟨3584 + j.val, by omega⟩) = a6 (ix2 r j) := by
  have hj := j.isLt
  pointwise [dproj]
  split_ifs
  all_goals first | omega | exact (‹False ∧ _›).1.elim | simp only [zero_add, add_zero, Nat.add_sub_cancel_left, Fin.eta]

/-- The one product over all columns is the sum of the branches' four. -/
theorem dhn_apply (r : Fin 2048) (k : Fin 1024) : dhn a2 a3 a4 a5 a6 (ix2 r k)
    = (∑ j : Fin 1024, a3 (ix2 r j) * a2 (ix2 k ⟨j.val, by omega⟩)) + (∑ j : Fin 1024, a4 (ix2 r j) * a2 (ix2 k ⟨1024 + j.val, by omega⟩))
      + (∑ j : Fin 1536, a5 (ix2 r j) * a2 (ix2 k ⟨2048 + j.val, by omega⟩)) + ∑ j : Fin 16, a6 (ix2 r j) * a2 (ix2 k ⟨3584 + j.val, by omega⟩) := by
  have e : dhn a2 a3 a4 a5 a6 (ix2 r k) = ∑ q : Fin 3600, dproj a3 a4 a5 a6 (ix2 r q) * a2 (ix2 k q) := by pointwise [dhn]
  rw [e, sum_cols]
  simp only [dproj_u, dproj_z, dproj_x, dproj_d]

theorem outG_apply (k : Fin 1024) : outG a0 a2 a3 a4 a5 a6 (ix2 0 k) = ∑ r, xh a0 (ix2 r k) * dhn a2 a3 a4 a5 a6 (ix2 r k) := by
  pointwise [outG]
  exact Fin.sum_univ_one _

end Cert.InbReferenceIdeal.Inb

/-! ## One row of a block -/

namespace Cert.InbKernelIdeal.Inb

open Cert.InbKernelIdeal Cert.InbKernelIdeal.Gen

section
variable (x : Vec Ideal S256x1024 .f32) (g : Vec Ideal S1x1024 .f32) (du dz : Vec Ideal S256x1024 .bf16) (dx : Vec Ideal S256x1536 .bf16) (dt : Vec Ideal S256x128 .bf16)
  (dr : Vec Ideal S256x1024 .f32) (wu wz : Vec Ideal S1024x1024 .bf16) (wx : Vec Ideal S1024x1536 .bf16) (wd : Vec Ideal S1024x128 .bf16)
variable (a0 : FVec Ideal S2048x1024 .f32) (a1 : FVec Ideal S1024 .f32) (a2 : FVec Ideal S1024x3600 .f32)
  (a3 a4 : FVec Ideal S2048x1024 .f32) (a5 : FVec Ideal S2048x1536 .f32) (a6 : FVec Ideal S2048x16 .f32) (a7 : FVec Ideal S2048x1024 .f32)
  (i : Fin 256) (r : Fin 2048)

/-- Row `i` of the blocks is row `r` of the arrays; the weights are the projection's columns, the last of them padded. -/
structure Row : Prop where
  hx : ∀ k : Fin 1024, x (ix2 i k) = a0 (ix2 r k)
  hg : ∀ k : Fin 1024, g (ix2 0 k) = a1 (ix1 k)
  hdu : ∀ k : Fin 1024, du (ix2 i k) = a3 (ix2 r k)
  hdz : ∀ k : Fin 1024, dz (ix2 i k) = a4 (ix2 r k)
  hdx : ∀ k : Fin 1536, dx (ix2 i k) = a5 (ix2 r k)
  hdt : ∀ k : Fin 16, dt (ix2 i ⟨k.val, by omega⟩) = a6 (ix2 r k)
  hdt0 : ∀ k : Fin 128, 16 ≤ k.val → dt (ix2 i k) = 0
  hdr : ∀ k : Fin 1024, dr (ix2 i k) = a7 (ix2 r k)
  hwu : ∀ (k j : Fin 1024), wu (ix2 k j) = a2 (ix2 k ⟨j.val, by omega⟩)
  hwz : ∀ (k j : Fin 1024), wz (ix2 k j) = a2 (ix2 k ⟨1024 + j.val, by omega⟩)
  hwx : ∀ (k : Fin 1024) (j : Fin 1536), wx (ix2 k j) = a2 (ix2 k ⟨2048 + j.val, by omega⟩)
  hwd : ∀ (k : Fin 1024) (j : Fin 16), wd (ix2 k ⟨j.val, by omega⟩) = a2 (ix2 k ⟨3584 + j.val, by omega⟩)

/-- The kernel's sum of four products. -/
abbrev dh := k0_pay1 du wu dz wz dx wx dt wd

variable (H : Row x g du dz dx dt dr wu wz wx wd a0 a1 a2 a3 a4 a5 a6 a7 i r)

include H in
theorem dt_sum (k : Fin 1024) : (∑ j, dt (ix2 i j) * wd (ix2 k j)) = ∑ j : Fin 16, a6 (ix2 r j) * a2 (ix2 k ⟨3584 + j.val, by omega⟩) := by
  refine (Fin.sum_univ_add (a := 16) (b := 112) fun j : Fin 128 => dt (ix2 i j) * wd (ix2 k j)).trans ?_
  rw [show (∑ j : Fin 112, dt (ix2 i (Fin.natAdd 16 j)) * wd (ix2 k (Fin.natAdd 16 j))) = 0 from Finset.sum_eq_zero fun j _ => by
    rw [H.hdt0 _ (by simp only [Fin.val_natAdd]; omega), zero_mul], add_zero]
  exact Finset.sum_congr rfl fun j _ => congrArg₂ (· * ·) (H.hdt j) (H.hwd k j)

include H in
theorem dh_eq (k : Fin 1024) : dh du dz dx dt wu wz wx wd (ix2 i k) = Cert.InbReferenceIdeal.Inb.dhn a2 a3 a4 a5 a6 (ix2 r k) := by
  have e := dt_sum x g du dz dx dt dr wu wz wx wd a0 a1 a2 a3 a4 a5 a6 a7 i r H k
  rw [Cert.InbReferenceIdeal.Inb.dhn_apply]
  pointwise [dh, k0_pay1]
  rw [e]
  simp only [H.hdu, H.hdz, H.hdx, H.hwu, H.hwz, H.hwx]

include H in
theorem outX_eq (k : Fin 1024) : k0_pay8 (dh du dz dx dt wu wz wx wd) x (k0_pay2 g) (k0_pay3 x) k0_pay4 dr (ix2 i k) = Cert.InbReferenceIdeal.Inb.outX a0 a1 a2 a3 a4 a5 a6 a7 (ix2 r k) := by
  have e := dh_eq x g du dz dx dt dr wu wz wx wd a0 a1 a2 a3 a4 a5 a6 a7 i r H
  pointwise [k0_pay8, k0_pay2, k0_pay3, k0_pay4, k0_pay5, k0_pay6, Cert.InbReferenceIdeal.Inb.outX, Cert.InbReferenceIdeal.Inb.dsq, Cert.InbReferenceIdeal.Inb.dms, Cert.InbReferenceIdeal.Inb.dhg, Cert.InbReferenceIdeal.Inb.gain, Cert.InbReferenceIdeal.Inb.msq]
  simp only [H.hx, H.hdr, H.hg, e]

include H in
/-- The normalised token. -/
theorem outH_eq (k : Fin 1024) : k0_pay9 x (k0_pay2 g) (k0_pay3 x) k0_pay4 (ix2 i k) = Cert.InbReferenceIdeal.Inb.outH a0 a1 (ix2 r k) := by
  pointwise [k0_pay9, k0_pay7, k0_pay2, k0_pay3, k0_pay4, k0_pay5, k0_pay6, Cert.InbReferenceIdeal.Inb.outH, Cert.InbReferenceIdeal.Inb.xh, Cert.InbReferenceIdeal.Inb.gain, Cert.InbReferenceIdeal.Inb.msq]
  simp only [H.hx, H.hg]

/-- A block adds its rows' share of the gain's gradient. -/
theorem gain_eq (r' : Fin 256 → Fin 2048) (H : ∀ i, Row x g du dz dx dt dr wu wz wx wd a0 a1 a2 a3 a4 a5 a6 a7 i (r' i)) (v : Vec Ideal S1x1024 .f32) (k : Fin 1024) :
    k0_pay11 (dh du dz dx dt wu wz wx wd) x (k0_pay3 x) k0_pay4 v (ix2 0 k) = v (ix2 0 k) + ∑ i, Cert.InbReferenceIdeal.Inb.xh a0 (ix2 (r' i) k) * Cert.InbReferenceIdeal.Inb.dhn a2 a3 a4 a5 a6 (ix2 (r' i) k) := by
  have e := fun i => dh_eq x g du dz dx dt dr wu wz wx wd a0 a1 a2 a3 a4 a5 a6 a7 i (r' i) (H i)
  have hx := fun i => (H i).hx
  pointwise [k0_pay11, k0_pay7, k0_pay3, k0_pay4, k0_pay5, k0_pay6, Cert.InbReferenceIdeal.Inb.xh, Cert.InbReferenceIdeal.Inb.msq]
  simp only [hx, e]

theorem zero_apply (j : S1x1024.Idx) : k0_pay10 (F := Ideal) j = 0 := by
  rw [eq_ix2 j]; pointwise [k0_pay10]

end

end Cert.InbKernelIdeal.Inb

end
-- ==== Proof.InbValue.lean ====
/-
  The input projection's backward call: the blocks of a grid point, and what the result arrays hold after the run.
-/
module

public import proofs.«01_k».proof.Defs
public import proofs.«01_k».proof.Proof.Gen.InbKernelIdeal.Value
public import proofs.«01_k».proof.Proof.Gen.InbReferenceIdeal.Run
public import proofs.«01_k».proof.Proof.InbPure
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.InbKernelIdeal.Inb

open Cert.InbKernelIdeal Cert.InbKernelIdeal.Gen

variable (m : (ℓ : Loc nD τ sig) → Buf (Elt Ideal) ℓ)

/-! ## The blocks of a grid point -/

theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![0, 0]
    ∧ win0_8.index t = ![0, 0]
    ∧ win0_9.index t = ![0, 0]
    ∧ win0_10.index t = ![0, 0]
    ∧ win0_11.index t = ![t.val, 0]
    ∧ win0_12.index t = ![t.val, 0]
    ∧ win0_13.index t = ![0, 0] :=
  (by decide +kernel : ∀ t : Fin grid0.N, _)

abbrev A0 (c : Dev nD) := m ((c.tc : Thread nD τ).loc main_arg0)
abbrev A1 (c : Dev nD) := m ((c.tc : Thread nD τ).loc main_arg1)
abbrev A2 (c : Dev nD) := m ((c.tc : Thread nD τ).loc main_arg2)
abbrev A3 (c : Dev nD) := m ((c.tc : Thread nD τ).loc main_arg3)
abbrev A4 (c : Dev nD) := m ((c.tc : Thread nD τ).loc main_arg4)
abbrev A5 (c : Dev nD) := m ((c.tc : Thread nD τ).loc main_arg5)
abbrev A6 (c : Dev nD) := m ((c.tc : Thread nD τ).loc main_arg6)
abbrev A7 (c : Dev nD) := m ((c.tc : Thread nD τ).loc main_arg7)

/-- The step sizes' columns of the weight, padded with zeros from 16 to 128. -/
theorem padW_apply (w : FVec Ideal S1024x3600 .f32) (k : Fin 1024) (j : Fin 16) :
    pad S1024x128 ![0, 0] ![0, 112] ![0, 0] (extractStridedSlice S1024x16 ![0, 3584] (truncf .bf16 w bitsLt_bf16_f32) slices_S1024x3600_S1024x16_0_3584) (sitofp .bf16 (constantI S_ 32 0#32)) pads_S1024x16_S1024x128_000_01120 h_S_ (ix2 k (⟨j.val, by omega⟩ : Fin 128))
    = (w (ix2 k ⟨3584 + j.val, by omega⟩) : EReal) := by
  pointwise []

/-- The step sizes' cotangents, padded with zeros from 16 to 128 columns. -/
def padD (d : FVec Ideal S2048x16 .f32) : FVec Ideal S2048x128 .bf16 := pad S2048x128 ![0, 0] ![0, 112] ![0, 0] (truncf .bf16 d bitsLt_bf16_f32) (sitofp .bf16 (constantI S_ 32 0#32)) pads_S2048x16_S2048x128_000_01120 h_S_
theorem padD_lo (d : FVec Ideal S2048x16 .f32) (r : Fin 2048) (j : Fin 16) : padD d (ix2 r ⟨j.val, by omega⟩) = (d (ix2 r j) : EReal) := by
  pointwise [padD]
theorem padD_hi (d : FVec Ideal S2048x16 .f32) (r : Fin 2048) (j : Fin 128) (h : 16 ≤ j.val) : padD d (ix2 r j) = (0 : EReal) := by
  pointwise [padD]
  rw [dif_neg (by omega)]
  show (((0#32).toInt : ℝ) : EReal) = 0
  norm_num

theorem entry1 (c : Dev nD) (k : Fin 1024) (j : Fin 1024) : (V m c main_v1 : FVec Ideal S1024x1024 .bf16) (ix2 k j) = (A2 m c (ix2 k ⟨j.val, by omega⟩) : EReal) := by
  show StableHlo.after _ _ _ _ = _
  simp only [List.flatten_cons, List.flatten_nil, List.append_nil, List.cons_append, List.nil_append, hostOps0, hostOps0_1, hostOps0_2, hostOps0_3]
  entry_read
  pointwise []
theorem entry2 (c : Dev nD) (k : Fin 1024) (j : Fin 1024) : (V m c main_v2 : FVec Ideal S1024x1024 .bf16) (ix2 k j) = (A2 m c (ix2 k ⟨1024 + j.val, by omega⟩) : EReal) := by
  show StableHlo.after _ _ _ _ = _
  simp only [List.flatten_cons, List.flatten_nil, List.append_nil, List.cons_append, List.nil_append, hostOps0, hostOps0_1, hostOps0_2, hostOps0_3]
  entry_read
  pointwise []
theorem entry3 (c : Dev nD) (k : Fin 1024) (j : Fin 1536) : (V m c main_v3 : FVec Ideal S1024x1536 .bf16) (ix2 k j) = (A2 m c (ix2 k ⟨2048 + j.val, by omega⟩) : EReal) := by
  show StableHlo.after _ _ _ _ = _
  simp only [List.flatten_cons, List.flatten_nil, List.append_nil, List.cons_append, List.nil_append, hostOps0, hostOps0_1, hostOps0_2, hostOps0_3]
  entry_read
  pointwise []
theorem entry5 (c : Dev nD) (k : Fin 1024) (j : Fin 16) : (V m c main_v5 : FVec Ideal S1024x128 .bf16) (ix2 k ⟨j.val, by omega⟩) = (A2 m c (ix2 k ⟨3584 + j.val, by omega⟩) : EReal) := by
  show StableHlo.after _ _ _ _ = _
  simp only [List.flatten_cons, List.flatten_nil, List.append_nil, List.cons_append, List.nil_append, hostOps0, hostOps0_1, hostOps0_2, hostOps0_3]
  entry_read
  exact padW_apply _ _ _
theorem entry6 (c : Dev nD) (k : Fin 1024) : (V m c main_v6 : FVec Ideal S1x1024 .f32) (ix2 0 k) = (A1 m c (ix1 k) : EReal) := by
  show StableHlo.after _ _ _ _ = _
  simp only [List.flatten_cons, List.flatten_nil, List.append_nil, List.cons_append, List.nil_append, hostOps0, hostOps0_1, hostOps0_2, hostOps0_3]
  entry_read
  pointwise []
theorem entry7 (c : Dev nD) (q : Fin 2048) (k : Fin 1024) : (V m c main_v7 : FVec Ideal S2048x1024 .bf16) (ix2 q k) = (A3 m c (ix2 q k) : EReal) := by
  show StableHlo.after _ _ _ _ = _
  simp only [List.flatten_cons, List.flatten_nil, List.append_nil, List.cons_append, List.nil_append, hostOps0, hostOps0_1, hostOps0_2, hostOps0_3]
  entry_read
  rfl
theorem entry8 (c : Dev nD) (q : Fin 2048) (k : Fin 1024) : (V m c main_v8 : FVec Ideal S2048x1024 .bf16) (ix2 q k) = (A4 m c (ix2 q k) : EReal) := by
  show StableHlo.after _ _ _ _ = _
  simp only [List.flatten_cons, List.flatten_nil, List.append_nil, List.cons_append, List.nil_append, hostOps0, hostOps0_1, hostOps0_2, hostOps0_3]
  entry_read
  rfl
theorem entry9 (c : Dev nD) (q : Fin 2048) (k : Fin 1536) : (V m c main_v9 : FVec Ideal S2048x1536 .bf16) (ix2 q k) = (A5 m c (ix2 q k) : EReal) := by
  show StableHlo.after _ _ _ _ = _
  simp only [List.flatten_cons, List.flatten_nil, List.append_nil, List.cons_append, List.nil_append, hostOps0, hostOps0_1, hostOps0_2, hostOps0_3]
  entry_read
  rfl
theorem entry11 (c : Dev nD) (q : Fin 2048) (k : Fin 128) : (V m c main_v11 : FVec Ideal S2048x128 .bf16) (ix2 q k) = (padD (A6 m c) (ix2 q k) : EReal) := by
  show StableHlo.after _ _ _ _ = _
  simp only [List.flatten_cons, List.flatten_nil, List.append_nil, List.cons_append, List.nil_append, hostOps0, hostOps0_1, hostOps0_2, hostOps0_3]
  entry_read
  rfl

variable (c : Dev nD) (t : Fin cfg0.N)

theorem row_lt (t : Fin cfg0.N) (i : Fin 256) : t.val * 256 + i.val < 2048 := by
  have := t.isLt; have h : cfg0.N = 8 := by decide
  omega

theorem blk2 (i : Fin 256) (k : Fin 1024) : iblk m c 2 t (ix2 i k) = (V m c main_v7 : FVec Ideal S2048x1024 .bf16) (ix2 ⟨t.val * 256 + i.val, row_lt t i⟩ k) := by blk_ext! [iblk, idx t]
theorem blk3 (i : Fin 256) (k : Fin 1024) : iblk m c 3 t (ix2 i k) = (V m c main_v8 : FVec Ideal S2048x1024 .bf16) (ix2 ⟨t.val * 256 + i.val, row_lt t i⟩ k) := by blk_ext! [iblk, idx t]
theorem blk4 (i : Fin 256) (k : Fin 1536) : iblk m c 4 t (ix2 i k) = (V m c main_v9 : FVec Ideal S2048x1536 .bf16) (ix2 ⟨t.val * 256 + i.val, row_lt t i⟩ k) := by blk_ext! [iblk, idx t]
theorem blk5 (i : Fin 256) (k : Fin 128) : iblk m c 5 t (ix2 i k) = (V m c main_v11 : FVec Ideal S2048x128 .bf16) (ix2 ⟨t.val * 256 + i.val, row_lt t i⟩ k) := by blk_ext! [iblk, idx t]
theorem blk7 : iblk m c 7 t = (V m c main_v1 : FVec Ideal S1024x1024 .bf16) := by blk_ext! [iblk, idx t]
theorem blk8 : iblk m c 8 t = (V m c main_v2 : FVec Ideal S1024x1024 .bf16) := by blk_ext! [iblk, idx t]
theorem blk9 : iblk m c 9 t = (V m c main_v3 : FVec Ideal S1024x1536 .bf16) := by blk_ext! [iblk, idx t]
theorem blk10 : iblk m c 10 t = (V m c main_v5 : FVec Ideal S1024x128 .bf16) := by blk_ext! [iblk, idx t]

/-- A row of a point's blocks is a row of the arrays. -/
theorem row (i : Fin 256) : Row (iblk m c 0 t) (iblk m c 1 t) (iblk m c 2 t) (iblk m c 3 t) (iblk m c 4 t) (iblk m c 5 t) (iblk m c 6 t) (iblk m c 7 t) (iblk m c 8 t) (iblk m c 9 t) (iblk m c 10 t) (A0 m c) (A1 m c) (A2 m c) (A3 m c) (A4 m c) (A5 m c) (A6 m c) (A7 m c) i ⟨t.val * 256 + i.val, row_lt t i⟩ where
  hx k := by blk_ext! [iblk, V, idx t]
  hdr k := by blk_ext! [iblk, V, idx t]
  hg k := by
    have e : iblk m c 1 t (ix2 0 k) = (V m c main_v6 : FVec Ideal S1x1024 .f32) (ix2 0 k) := by blk_ext! [iblk, idx t]
    rw [e, entry6]
  hdu k := by
    rw [blk2, entry7]
  hdz k := by
    rw [blk3, entry8]
  hdx k := by
    rw [blk4, entry9]
  hdt k := by
    rw [blk5, entry11, padD_lo]
  hdt0 k hk := by
    rw [blk5, entry11, padD_hi _ _ _ hk]
  hwu k j := by rw [blk7, entry1]
  hwz k j := by rw [blk8, entry2]
  hwx k j := by rw [blk9, entry3]
  hwd k j := by rw [blk10, entry5]

/-! ## The result arrays -/

theorem final_11 : (dats m 0 c).arrAt 11 (cfgs 0).N = Cert.InbReferenceIdeal.Inb.outX (A0 m c) (A1 m c) (A2 m c) (A3 m c) (A4 m c) (A5 m c) (A6 m c) (A7 m c) := by
  refine (dats m 0 c).arrAt_eq_of_covers 11 _ (by decide +kernel) fun t hf y => ?_
  have e : ((View.whole main_v12_0).slice (win0_11.rect t)).emb y = ix2 (⟨t.val * 256 + (y 0).val, row_lt t (y 0)⟩ : Fin 2048) (y 1) := by blk_ext! [idx t]
  by_cases h0 : t.val % 8 = 0
  · blk_simp; rw [after0_11, outsAt0_A m c t h0]; frame_out
    rw [e, eq_ix2 y]
    exact outX_eq _ _ _ _ _ _ _ _ _ _ _ _ _ _ _ _ _ _ _ _ _ (row m c t _) _
  · blk_simp; rw [after0_11, outsAt0_B m c t h0]; frame_out
    rw [e, eq_ix2 y]
    exact outX_eq _ _ _ _ _ _ _ _ _ _ _ _ _ _ _ _ _ _ _ _ _ (row m c t _) _

theorem final_12 : (dats m 0 c).arrAt 12 (cfgs 0).N = Cert.InbReferenceIdeal.Inb.outH (A0 m c) (A1 m c) := by
  refine (dats m 0 c).arrAt_eq_of_covers 12 _ (by decide +kernel) fun t hf y => ?_
  have e : ((View.whole main_v12_1).slice (win0_12.rect t)).emb y = ix2 (⟨t.val * 256 + (y 0).val, row_lt t (y 0)⟩ : Fin 2048) (y 1) := by blk_ext! [idx t]
  by_cases h0 : t.val % 8 = 0
  · blk_simp; rw [after0_12, outsAt0_A m c t h0]; frame_out
    rw [e, eq_ix2 y]
    exact outH_eq _ _ _ _ _ _ _ _ _ _ _ _ _ _ _ _ _ _ _ _ _ (row m c t _) _
  · blk_simp; rw [after0_12, outsAt0_B m c t h0]; frame_out
    rw [e, eq_ix2 y]
    exact outH_eq _ _ _ _ _ _ _ _ _ _ _ _ _ _ _ _ _ _ _ _ _ (row m c t _) _

/-- A point's share of the gain's gradient. -/
def share (t : Fin cfg0.N) (j : S1x1024.Idx) : EReal := ∑ i : Fin 256, (fun r : Fin 2048 => Cert.InbReferenceIdeal.Inb.xh (A0 m c) (ix2 r (j 1)) * Cert.InbReferenceIdeal.Inb.dhn (A2 m c) (A3 m c) (A4 m c) (A5 m c) (A6 m c) (ix2 r (j 1))) ⟨t.val * 256 + i.val, row_lt t i⟩

theorem add_apply (v : Vec Ideal S1x1024 .f32) (j : S1x1024.Idx) :
    k0_pay11 (dh (iblk m c 2 t) (iblk m c 3 t) (iblk m c 4 t) (iblk m c 5 t) (iblk m c 7 t) (iblk m c 8 t) (iblk m c 9 t) (iblk m c 10 t)) (iblk m c 0 t) (k0_pay3 (iblk m c 0 t)) k0_pay4 v j = v j + share m c t j := by
  obtain ⟨k, hk⟩ : ∃ k : Fin 1024, j = ix2 0 k := ⟨j 1, by blk_ext! []⟩
  rw [hk]
  exact gain_eq _ _ _ _ _ _ _ _ _ _ _ _ _ _ _ _ _ _ _ _ (row m c t) v k

/-- The points' shares together are the reference's gradient. -/
theorem share_sum (j : S1x1024.Idx) : (∑ p, share m c p j) = Cert.InbReferenceIdeal.Inb.outG (A0 m c) (A2 m c) (A3 m c) (A4 m c) (A5 m c) (A6 m c) j := by
  obtain ⟨k, hk⟩ : ∃ k : Fin 1024, j = ix2 0 k := ⟨j 1, by blk_ext! []⟩
  rw [hk, Cert.InbReferenceIdeal.Inb.outG_apply, Fin.sum_univ_tiles 8 256 (N := 2048) rfl]
  rfl

theorem final_13 : (dats m 0 c).arrAt 13 (cfgs 0).N = Cert.InbReferenceIdeal.Inb.outG (A0 m c) (A2 m c) (A3 m c) (A4 m c) (A5 m c) (A6 m c) := by
  refine (dats m 0 c).arrAt_eq_of_after_last 13 t0_7 (by decide +kernel) _ fun j => ?_
  blk_simp; rw [after0_13]
  rw [Pipeline.eq_sum_fin_of_reset_step_apply_last (fun n h => (outsAt0 m c n h).2.2) 8 (fun _ => 0) (share m c)
    (fun t h j => by rw [outsAt0_A m c t h]; frame_out; rw [add_apply, zero_apply])
    (fun t h j => by rw [outsAt0_B m c t h]; frame_out; rw [add_apply])
    (le_of_eq N_0) t0_7 rfl j, zero_add]
  exact share_sum m c j

end Cert.InbKernelIdeal.Inb
end
-- ==== Proof.InbClaim.lean ====
/-
  The input projection's backward call: the algebraic claim.
-/
module

public import proofs.«01_k».proof.Defs
public import proofs.«01_k».proof.Proof.Gen.InbKernelIdeal.Value
public import proofs.«01_k».proof.Proof.Gen.InbReferenceIdeal.Run
public import Idealize.ShloMosaic.Lib.Pipeline.ValueKit
public import Idealize.ShloMosaic.Lib.Pointwise
public import proofs.«01_k».proof.Proof.InbValue
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

set_option maxHeartbeats 1600000

namespace Cert.Proof

/-- The kernel's three results are the reference's, on all extended reals. -/
theorem inb_algebraic : Cert.algebraic_InbKernelIdeal_InbReferenceIdeal (hInbKernelIdeal := Cert.InbKernelIdeal.Gen.facts) (hInbReferenceIdeal := Cert.InbReferenceIdeal.Gen.facts) := by
  intro m g m' g' _ hagree
  refine ⟨fun c => (Cert.InbKernelIdeal.Gen.dats m 0 c).arrAt 11 (Cert.InbKernelIdeal.cfgs 0).N,
    fun c => (Cert.InbKernelIdeal.Gen.dats m 0 c).arrAt 12 (Cert.InbKernelIdeal.cfgs 0).N,
    fun c => (Cert.InbKernelIdeal.Gen.dats m 0 c).arrAt 13 (Cert.InbKernelIdeal.cfgs 0).N, Cert.InbKernelIdeal.Value.run_blocks m g, ?_⟩
  have hr := Cert.InbReferenceIdeal.Value.run (F := Ideal) m' g'
  refine (θ_run (Cert.InbReferenceIdeal.defs (F := Ideal)) _ _).mono ?_ hr
  clear hr
  intro r h c
  obtain ⟨e0, e1, e2, e3, e4, e5, e6, e7⟩ := hagree c
  have hc := h c
  refine ⟨hc.1.trans ?_, hc.2.1.trans ?_, hc.2.2.1.trans ?_, hc.2.2.2⟩
  · rw [Cert.InbReferenceIdeal.Inb.resX, e0, e1, e2, e3, e4, e5, e6, e7]
    exact (Cert.InbKernelIdeal.Inb.final_11 m c).symm
  · rw [e0, e1]
    exact (Cert.InbKernelIdeal.Inb.final_12 m c).symm
  · rw [e0, e2, e3, e4, e5, e6]
    exact (Cert.InbKernelIdeal.Inb.final_13 m c).symm

end Cert.Proof
end
-- ==== Proof.InbFrame.lean ====
/-
  The input projection's backward call: the reference's own run.
-/
module

public import proofs.«01_k».proof.Defs
public import proofs.«01_k».proof.Proof.Gen.InbReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem inb_reference_frame : Cert.quiescent_InbReferenceIdeal (hInbReferenceIdeal := Cert.InbReferenceIdeal.Gen.facts) := by
  intro m g _
  hlo_run
  · intro c; simp only [and_self]
  · exact sem_eq_zero_of_no_sems (sig := Cert.InbReferenceIdeal.sig) (by decide) _

end Cert.Proof
end
-- ==== Proof.InfPure.lean ====
/-
  The mathematics of the input projection's forward call: what the kernel's body stores, read at an index, is the
  reference's composed term read there. The kernel makes one product per branch of the projection; the reference takes
  one product over all 3600 columns and cuts it.
-/
module

public import proofs.«01_k».proof.Proof.Gen.InfKernelIdeal.Skeleton
public import proofs.«01_k».proof.Proof.Gen.InfReferenceIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped BigOperators

/-! ## The reference's terms, over its argument arrays -/

namespace Cert.InfReferenceIdeal.Inf

open Cert.InfReferenceIdeal Cert.InfReferenceIdeal.Gen

variable (a0 : FVec Ideal S2048x1024 .f32) (a1 : FVec Ideal S1024 .f32) (a2 : FVec Ideal S1024x3600 .f32)

/-- The mean square of a token, plus the small constant. -/
def msq : FVec Ideal S2048x1 .f32 := addf (Host.divf (broadcastInDim S2048x1 ![0] bcast_S2048_S2048x1_0 (Host.reduceAdd (mulf a0 a0) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))
def gain : FVec Ideal S2048x1024 .f32 := broadcastInDim S2048x1024 ![0, 1] bcast_S1x1024_S2048x1024_0_1 (broadcastInDim S1x1024 ![1] bcast_S1024_S1x1024_1 a1)
/-- The normalised tokens. -/
def hn : FVec Ideal S2048x1024 .f32 := mulf (mulf a0 (broadcastInDim S2048x1024 ![0, 1] bcast_S2048x1_S2048x1024_0_1 (Host.rsqrt (msq a0)))) (gain a1)
/-- The projection of all branches. -/
def proj : FVec Ideal S2048x3600 .f32 := Host.dotGeneral dot_S2048x1024_S1024x3600_S2048x3600_1_0_0_1_n_n none (hn a0 a1) a2
def outU : FVec Ideal S2048x1024 .f32 := extractStridedSlice S2048x1024 ![0, 0] (proj a0 a1 a2) slices_S2048x3600_S2048x1024_0_0
def outZ : FVec Ideal S2048x1024 .f32 := extractStridedSlice S2048x1024 ![0, 1024] (proj a0 a1 a2) slices_S2048x3600_S2048x1024_0_1024
def outC : FVec Ideal S2048x1536 .f32 := extractStridedSlice S2048x1536 ![0, 2048] (proj a0 a1 a2) slices_S2048x3600_S2048x1536_0_2048
def outD : FVec Ideal S2048x128 .f32 := pad S2048x128 ![0, 0] ![0, 112] ![0, 0] (extractStridedSlice S2048x16 ![0, 3584] (proj a0 a1 a2) slices_S2048x3600_S2048x16_0_3584) (sitofp .f32 (constantI S_ 32 0#32)) pads_S2048x16_S2048x128_000_01120 h_S_

theorem outU_apply (r : Fin 2048) (j : Fin 1024) : outU a0 a1 a2 (ix2 r j) = ∑ k : Fin 1024, hn a0 a1 (ix2 r k) * a2 (ix2 k ⟨j.val, by omega⟩) := by
  pointwise [outU, proj]
theorem outZ_apply (r : Fin 2048) (j : Fin 1024) : outZ a0 a1 a2 (ix2 r j) = ∑ k : Fin 1024, hn a0 a1 (ix2 r k) * a2 (ix2 k ⟨1024 + j.val, by omega⟩) := by
  pointwise [outZ, proj]
theorem outC_apply (r : Fin 2048) (j : Fin 1536) : outC a0 a1 a2 (ix2 r j) = ∑ k : Fin 1024, hn a0 a1 (ix2 r k) * a2 (ix2 k ⟨2048 + j.val, by omega⟩) := by
  pointwise [outC, proj]
theorem outD_lo (r : Fin 2048) (j : Fin 128) (h : j.val < 16) : outD a0 a1 a2 (ix2 r j) = ∑ k : Fin 1024, hn a0 a1 (ix2 r k) * a2 (ix2 k ⟨3584 + j.val, by omega⟩) := by
  pointwise [outD, proj]
  rw [dif_pos (by omega)]
theorem outD_hi (r : Fin 2048) (j : Fin 128) (h : 16 ≤ j.val) : outD a0 a1 a2 (ix2 r j) = 0 := by
  pointwise [outD, proj]
  rw [dif_neg (by omega)]
  show (((0#32).toInt : ℝ) : EReal) = 0
  norm_num

end Cert.InfReferenceIdeal.Inf

/-! ## One row of a block -/

namespace Cert.InfKernelIdeal.Inf

open Cert.InfKernelIdeal Cert.InfKernelIdeal.Gen

section
variable (x : Vec Ideal S256x1024 .f32) (g : Vec Ideal S1x1024 .f32) (wu wz : Vec Ideal S1024x1024 .bf16) (wx : Vec Ideal S1024x1536 .bf16) (wd : Vec Ideal S1024x128 .bf16)
variable (a0 : FVec Ideal S2048x1024 .f32) (a1 : FVec Ideal S1024 .f32) (a2 : FVec Ideal S1024x3600 .f32) (i : Fin 256) (r : Fin 2048)

/-- Row `i` of the blocks is row `r` of the arrays; the weights are the projection's columns, the last of them padded with zeros. -/
structure Row : Prop where
  hx : ∀ k : Fin 1024, x (ix2 i k) = a0 (ix2 r k)
  hg : ∀ k : Fin 1024, g (ix2 0 k) = a1 (ix1 k)
  hwu : ∀ (k j : Fin 1024), wu (ix2 k j) = a2 (ix2 k ⟨j.val, by omega⟩)
  hwz : ∀ (k j : Fin 1024), wz (ix2 k j) = a2 (ix2 k ⟨1024 + j.val, by omega⟩)
  hwx : ∀ (k : Fin 1024) (j : Fin 1536), wx (ix2 k j) = a2 (ix2 k ⟨2048 + j.val, by omega⟩)
  hwd : ∀ (k : Fin 1024) (j : Fin 128) (h : j.val < 16), wd (ix2 k j) = a2 (ix2 k ⟨3584 + j.val, by omega⟩)
  hwd0 : ∀ (k : Fin 1024) (j : Fin 128), 16 ≤ j.val → wd (ix2 k j) = 0

variable (H : Row x g wu wz wx wd a0 a1 a2 i r)

include H in
theorem hn_eq (k : Fin 1024) : k0_pay1 x g (ix2 i k) = Cert.InfReferenceIdeal.Inf.hn a0 a1 (ix2 r k) := by
  pointwise [k0_pay1, Cert.InfReferenceIdeal.Inf.hn, Cert.InfReferenceIdeal.Inf.gain, Cert.InfReferenceIdeal.Inf.msq]
  simp only [H.hx, H.hg]

include H in
theorem outU_eq (j : Fin 1024) : k0_pay2 x g wu (ix2 i j) = Cert.InfReferenceIdeal.Inf.outU a0 a1 a2 (ix2 r j) := by
  have e := hn_eq x g wu wz wx wd a0 a1 a2 i r H
  rw [Cert.InfReferenceIdeal.Inf.outU_apply]
  pointwise [k0_pay2]
  simp only [e, H.hwu]
include H in
theorem outZ_eq (j : Fin 1024) : k0_pay3 x g wz (ix2 i j) = Cert.InfReferenceIdeal.Inf.outZ a0 a1 a2 (ix2 r j) := by
  have e := hn_eq x g wu wz wx wd a0 a1 a2 i r H
  rw [Cert.InfReferenceIdeal.Inf.outZ_apply]
  pointwise [k0_pay3]
  simp only [e, H.hwz]
include H in
theorem outC_eq (j : Fin 1536) : k0_pay4 x g wx (ix2 i j) = Cert.InfReferenceIdeal.Inf.outC a0 a1 a2 (ix2 r j) := by
  have e := hn_eq x g wu wz wx wd a0 a1 a2 i r H
  rw [Cert.InfReferenceIdeal.Inf.outC_apply]
  pointwise [k0_pay4]
  simp only [e, H.hwx]
include H in
theorem outD_eq (j : Fin 128) : k0_pay5 x g wd (ix2 i j) = Cert.InfReferenceIdeal.Inf.outD a0 a1 a2 (ix2 r j) := by
  have e := hn_eq x g wu wz wx wd a0 a1 a2 i r H
  have e5 : k0_pay5 x g wd (ix2 i j) = ∑ k : Fin 1024, k0_pay1 x g (ix2 i k) * wd (ix2 k j) := by pointwise [k0_pay5]
  rw [e5]
  by_cases h : j.val < 16
  · rw [Cert.InfReferenceIdeal.Inf.outD_lo _ _ _ _ _ h]
    exact Finset.sum_congr rfl fun k _ => congrArg₂ (· * ·) (e k) (H.hwd k j h)
  · rw [Cert.InfReferenceIdeal.Inf.outD_hi _ _ _ _ _ (by omega)]
    exact Finset.sum_eq_zero fun k _ => by rw [H.hwd0 k j (by omega), mul_zero]

end

end Cert.InfKernelIdeal.Inf

end
-- ==== Proof.InfValue.lean ====
/-
  The input projection's forward call: the blocks of a grid point, and what the result arrays hold after the run.
-/
module

public import proofs.«01_k».proof.Defs
public import proofs.«01_k».proof.Proof.Gen.InfKernelIdeal.Value
public import proofs.«01_k».proof.Proof.Gen.InfReferenceIdeal.Run
public import proofs.«01_k».proof.Proof.InfPure
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.InfKernelIdeal.Inf

open Cert.InfKernelIdeal Cert.InfKernelIdeal.Gen

variable (m : (ℓ : Loc nD τ sig) → Buf (Elt Ideal) ℓ)

/-! ## The blocks of a grid point -/

theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![t.val, 0] :=
  (by decide +kernel : ∀ t : Fin grid0.N, _)

abbrev A0 (c : Dev nD) := m ((c.tc : Thread nD τ).loc main_arg0)
abbrev A1 (c : Dev nD) := m ((c.tc : Thread nD τ).loc main_arg1)
abbrev A2 (c : Dev nD) := m ((c.tc : Thread nD τ).loc main_arg2)

/-- The step sizes' columns of the weight, padded with zeros from 16 to 128. -/
def padW (w : FVec Ideal S1024x3600 .f32) : FVec Ideal S1024x128 .bf16 := pad S1024x128 ![0, 0] ![0, 112] ![0, 0] (extractStridedSlice S1024x16 ![0, 3584] (truncf .bf16 w bitsLt_bf16_f32) slices_S1024x3600_S1024x16_0_3584) (sitofp .bf16 (constantI S_ 32 0#32)) pads_S1024x16_S1024x128_000_01120 h_S_
theorem padW_lo (w : FVec Ideal S1024x3600 .f32) (k : Fin 1024) (j : Fin 128) (h : j.val < 16) : padW w (ix2 k j) = (w (ix2 k ⟨3584 + j.val, by omega⟩) : EReal) := by
  pointwise [padW]
  rw [dif_pos (by omega)]
theorem padW_hi (w : FVec Ideal S1024x3600 .f32) (k : Fin 1024) (j : Fin 128) (h : 16 ≤ j.val) : padW w (ix2 k j) = (0 : EReal) := by
  pointwise [padW]
  rw [dif_neg (by omega)]
  show (((0#32).toInt : ℝ) : EReal) = 0
  norm_num

theorem entry1 (c : Dev nD) (k : Fin 1024) (j : Fin 1024) : (V m c main_v1 : FVec Ideal S1024x1024 .bf16) (ix2 k j) = (A2 m c (ix2 k ⟨j.val, by omega⟩) : EReal) := by
  show StableHlo.after _ _ _ _ = _
  simp only [List.flatten_cons, List.flatten_nil, List.append_nil, List.cons_append, List.nil_append, hostOps0, hostOps0_1, hostOps0_2]
  entry_read
  pointwise []
theorem entry2 (c : Dev nD) (k : Fin 1024) (j : Fin 1024) : (V m c main_v2 : FVec Ideal S1024x1024 .bf16) (ix2 k j) = (A2 m c (ix2 k ⟨1024 + j.val, by omega⟩) : EReal) := by
  show StableHlo.after _ _ _ _ = _
  simp only [List.flatten_cons, List.flatten_nil, List.append_nil, List.cons_append, List.nil_append, hostOps0, hostOps0_1, hostOps0_2]
  entry_read
  pointwise []
theorem entry3 (c : Dev nD) (k : Fin 1024) (j : Fin 1536) : (V m c main_v3 : FVec Ideal S1024x1536 .bf16) (ix2 k j) = (A2 m c (ix2 k ⟨2048 + j.val, by omega⟩) : EReal) := by
  show StableHlo.after _ _ _ _ = _
  simp only [List.flatten_cons, List.flatten_nil, List.append_nil, List.cons_append, List.nil_append, hostOps0, hostOps0_1, hostOps0_2]
  entry_read
  pointwise []
theorem entry5 (c : Dev nD) (k : Fin 1024) (j : Fin 128) : (V m c main_v5 : FVec Ideal S1024x128 .bf16) (ix2 k j) = (padW (A2 m c) (ix2 k j) : EReal) := by
  show StableHlo.after _ _ _ _ = _
  simp only [List.flatten_cons, List.flatten_nil, List.append_nil, List.cons_append, List.nil_append, hostOps0, hostOps0_1, hostOps0_2]
  entry_read
  rfl
theorem entry6 (c : Dev nD) (k : Fin 1024) : (V m c main_v6 : FVec Ideal S1x1024 .f32) (ix2 0 k) = (A1 m c (ix1 k) : EReal) := by
  show StableHlo.after _ _ _ _ = _
  simp only [List.flatten_cons, List.flatten_nil, List.append_nil, List.cons_append, List.nil_append, hostOps0, hostOps0_1, hostOps0_2]
  entry_read
  pointwise []

variable (c : Dev nD) (t : Fin cfg0.N)

theorem row_lt (t : Fin cfg0.N) (i : Fin 256) : t.val * 256 + i.val < 2048 := by
  have := t.isLt; have h : cfg0.N = 8 := by decide
  omega

theorem blk2 : iblk m c 2 t = (V m c main_v1 : FVec Ideal S1024x1024 .bf16) := by blk_ext! [iblk, idx t]
theorem blk3 : iblk m c 3 t = (V m c main_v2 : FVec Ideal S1024x1024 .bf16) := by blk_ext! [iblk, idx t]
theorem blk4 : iblk m c 4 t = (V m c main_v3 : FVec Ideal S1024x1536 .bf16) := by blk_ext! [iblk, idx t]
theorem blk5 : iblk m c 5 t = (V m c main_v5 : FVec Ideal S1024x128 .bf16) := by blk_ext! [iblk, idx t]

/-- A row of a point's blocks is a row of the arrays. -/
theorem row (i : Fin 256) : Row (iblk m c 0 t) (iblk m c 1 t) (iblk m c 2 t) (iblk m c 3 t) (iblk m c 4 t) (iblk m c 5 t) (A0 m c) (A1 m c) (A2 m c) i ⟨t.val * 256 + i.val, row_lt t i⟩ where
  hx k := by blk_ext! [iblk, V, idx t]
  hg k := by
    have e : iblk m c 1 t (ix2 0 k) = (V m c main_v6 : FVec Ideal S1x1024 .f32) (ix2 0 k) := by blk_ext! [iblk, idx t]
    rw [e, entry6]
  hwu k j := by rw [blk2, entry1]
  hwz k j := by rw [blk3, entry2]
  hwx k j := by rw [blk4, entry3]
  hwd k j h := by rw [blk5, entry5, padW_lo _ _ _ h]
  hwd0 k j h := by rw [blk5, entry5, padW_hi _ _ _ h]

/-! ## The result arrays -/

theorem final_6 : (dats m 0 c).arrAt 6 (cfgs 0).N = Cert.InfReferenceIdeal.Inf.outU (A0 m c) (A1 m c) (A2 m c) := by
  refine (dats m 0 c).arrAt_eq_of_covers 6 _ (by decide +kernel) fun t hf y => ?_
  have e : ((View.whole main_v7_0).slice (win0_6.rect t)).emb y = ix2 (⟨t.val * 256 + (y 0).val, row_lt t (y 0)⟩ : Fin 2048) (y 1) := by blk_ext! [idx t]
  blk_simp; rw [after0_6]; frame_out
  rw [e, eq_ix2 y]
  exact outU_eq _ _ _ _ _ _ _ _ _ _ _ (row m c t _) _

theorem final_7 : (dats m 0 c).arrAt 7 (cfgs 0).N = Cert.InfReferenceIdeal.Inf.outZ (A0 m c) (A1 m c) (A2 m c) := by
  refine (dats m 0 c).arrAt_eq_of_covers 7 _ (by decide +kernel) fun t hf y => ?_
  have e : ((View.whole main_v7_1).slice (win0_7.rect t)).emb y = ix2 (⟨t.val * 256 + (y 0).val, row_lt t (y 0)⟩ : Fin 2048) (y 1) := by blk_ext! [idx t]
  blk_simp; rw [after0_7]; frame_out
  rw [e, eq_ix2 y]
  exact outZ_eq _ _ _ _ _ _ _ _ _ _ _ (row m c t _) _

theorem final_8 : (dats m 0 c).arrAt 8 (cfgs 0).N = Cert.InfReferenceIdeal.Inf.outC (A0 m c) (A1 m c) (A2 m c) := by
  refine (dats m 0 c).arrAt_eq_of_covers 8 _ (by decide +kernel) fun t hf y => ?_
  have e : ((View.whole main_v7_2).slice (win0_8.rect t)).emb y = ix2 (⟨t.val * 256 + (y 0).val, row_lt t (y 0)⟩ : Fin 2048) (y 1) := by blk_ext! [idx t]
  blk_simp; rw [after0_8]; frame_out
  rw [e, eq_ix2 y]
  exact outC_eq _ _ _ _ _ _ _ _ _ _ _ (row m c t _) _

theorem final_9 : (dats m 0 c).arrAt 9 (cfgs 0).N = Cert.InfReferenceIdeal.Inf.outD (A0 m c) (A1 m c) (A2 m c) := by
  refine (dats m 0 c).arrAt_eq_of_covers 9 _ (by decide +kernel) fun t hf y => ?_
  have e : ((View.whole main_v7_3).slice (win0_9.rect t)).emb y = ix2 (⟨t.val * 256 + (y 0).val, row_lt t (y 0)⟩ : Fin 2048) (y 1) := by blk_ext! [idx t]
  blk_simp; rw [after0_9]; frame_out
  rw [e, eq_ix2 y]
  exact outD_eq _ _ _ _ _ _ _ _ _ _ _ (row m c t _) _

end Cert.InfKernelIdeal.Inf
end
-- ==== Proof.InfClaim.lean ====
/-
  The input projection's forward call: the algebraic claim.
-/
module

public import proofs.«01_k».proof.Defs
public import proofs.«01_k».proof.Proof.Gen.InfKernelIdeal.Value
public import proofs.«01_k».proof.Proof.Gen.InfReferenceIdeal.Run
public import Idealize.ShloMosaic.Lib.Pipeline.ValueKit
public import Idealize.ShloMosaic.Lib.Pointwise
public import proofs.«01_k».proof.Proof.InfValue
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

set_option maxHeartbeats 1600000

namespace Cert.Proof

/-- The kernel's four results are the reference's, on all extended reals. -/
theorem inf_algebraic : Cert.algebraic_InfKernelIdeal_InfReferenceIdeal (hInfKernelIdeal := Cert.InfKernelIdeal.Gen.facts) (hInfReferenceIdeal := Cert.InfReferenceIdeal.Gen.facts) := by
  intro m g m' g' _ hagree
  refine ⟨fun c => (Cert.InfKernelIdeal.Gen.dats m 0 c).arrAt 6 (Cert.InfKernelIdeal.cfgs 0).N,
    fun c => (Cert.InfKernelIdeal.Gen.dats m 0 c).arrAt 7 (Cert.InfKernelIdeal.cfgs 0).N,
    fun c => (Cert.InfKernelIdeal.Gen.dats m 0 c).arrAt 8 (Cert.InfKernelIdeal.cfgs 0).N,
    fun c => (Cert.InfKernelIdeal.Gen.dats m 0 c).arrAt 9 (Cert.InfKernelIdeal.cfgs 0).N, Cert.InfKernelIdeal.Value.run_blocks m g, ?_⟩
  have hr := Cert.InfReferenceIdeal.Value.run (F := Ideal) m' g'
  refine (θ_run (Cert.InfReferenceIdeal.defs (F := Ideal)) _ _).mono ?_ hr
  clear hr
  intro r h c
  obtain ⟨e0, e1, e2⟩ := hagree c
  have hc := h c
  refine ⟨hc.1.trans ?_, hc.2.1.trans ?_, hc.2.2.1.trans ?_, hc.2.2.2.1.trans ?_, hc.2.2.2.2⟩ <;> rw [e0, e1, e2]
  · exact (Cert.InfKernelIdeal.Inf.final_6 m c).symm
  · exact (Cert.InfKernelIdeal.Inf.final_7 m c).symm
  · exact (Cert.InfKernelIdeal.Inf.final_8 m c).symm
  · exact (Cert.InfKernelIdeal.Inf.final_9 m c).symm

end Cert.Proof
end
-- ==== Proof.InfFrame.lean ====
/-
  The input projection's forward call: the reference's own run.
-/
module

public import proofs.«01_k».proof.Defs
public import proofs.«01_k».proof.Proof.Gen.InfReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem inf_reference_frame : Cert.quiescent_InfReferenceIdeal (hInfReferenceIdeal := Cert.InfReferenceIdeal.Gen.facts) := by
  intro m g _
  hlo_run
  · intro c; simp only [and_self]
  · exact sem_eq_zero_of_no_sems (sig := Cert.InfReferenceIdeal.sig) (by decide) _

end Cert.Proof
end
-- ==== Proof.WiuClaim.lean ====
/-
  The weight-gradient call of a projection from 1024 to 1024: each grid point's product is the reference's, for 512 rows.
-/
module

public import proofs.«01_k».proof.Defs
public import proofs.«01_k».proof.Proof.Gen.WiuKernelIdeal.Value
public import proofs.«01_k».proof.Proof.Gen.WiuReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.WiuReferenceIdeal.Wiu

open Cert.WiuReferenceIdeal Cert.WiuReferenceIdeal.Gen

/-- The reference's term. -/
def grad (a : FVec Ideal S2048x1024 .f32) (d : FVec Ideal S2048x1024 .f32) : FVec Ideal S1024x1024 .bf16 :=
  truncf .bf16 (transpose S1024x1024 [1, 0] (Host.dotGeneral dot_S2048x1024_S2048x1024_S1024x1024_0_0_1_1_n_n none d a) transposes_S1024x1024_S1024x1024_1_0) bitsLt_bf16_f32

theorem grad_apply (a : FVec Ideal S2048x1024 .f32) (d : FVec Ideal S2048x1024 .f32) (k : Fin 1024) (j : Fin 1024) :
    grad a d (ix2 k j) = ∑ r : Fin 2048, d (ix2 r j) * a (ix2 r k) := by
  pointwise [grad]

end Cert.WiuReferenceIdeal.Wiu

namespace Cert.WiuKernelIdeal.Wiu

open Cert.WiuKernelIdeal Cert.WiuKernelIdeal.Gen
open Cert.WiuReferenceIdeal.Wiu

/-- A block's product, read at an index: the sum over the tokens. -/
theorem pay_apply (x : Vec Ideal S2048x512 .bf16) (d : Vec Ideal S2048x1024 .bf16) (l : Fin 512) (j : Fin 1024) :
    k0_pay1 x d (ix2 l j) = ∑ r : Fin 2048, x (ix2 r l) * d (ix2 r j) := by
  pointwise [k0_pay1]

variable (m : (ℓ : Loc nD τ sig) → Buf (Elt Ideal) ℓ) (c : Dev nD) (t : Fin cfg0.N)

abbrev A0 := m ((c.tc : Thread nD τ).loc main_arg0)
abbrev A1 := m ((c.tc : Thread nD τ).loc main_arg1)

theorem idx : ∀ t : Fin cfg0.N, win0_0.index t = ![0, t.val] ∧ win0_1.index t = ![0, 0] ∧ win0_2.index t = ![t.val, 0] :=
  (by decide +kernel : ∀ t : Fin grid0.N, _)

theorem lt : t.val < 2 := lt_of_lt_of_eq t.isLt N_0

theorem entry0 (r : Fin 2048) (k : Fin 1024) : (V m c main_v0 : FVec Ideal S2048x1024 .bf16) (ix2 r k) = (A0 m c (ix2 r k) : EReal) := by
  show StableHlo.after _ _ _ _ = _
  simp only [List.flatten_cons, List.flatten_nil, List.append_nil, List.cons_append, List.nil_append, hostOps0]
  entry_read
  rfl
theorem entry1 (r : Fin 2048) (j : Fin 1024) : (V m c main_v1 : FVec Ideal S2048x1024 .bf16) (ix2 r j) = (A1 m c (ix2 r j) : EReal) := by
  show StableHlo.after _ _ _ _ = _
  simp only [List.flatten_cons, List.flatten_nil, List.append_nil, List.cons_append, List.nil_append, hostOps0]
  entry_read
  rfl

theorem blk0 (r : Fin 2048) (l : Fin 512) : iblk m c 0 t (ix2 r l) = A0 m c (ix2 r (⟨t.val * 512 + l.val, by have := lt t; omega⟩ : Fin 1024)) := by
  have e : iblk m c 0 t (ix2 r l) = (V m c main_v0 : FVec Ideal S2048x1024 .bf16) (ix2 r (⟨t.val * 512 + l.val, by have := lt t; omega⟩ : Fin 1024)) := by blk_ext! [iblk, idx t]
  rw [e, entry0]

theorem blk1 (r : Fin 2048) (j : Fin 1024) : iblk m c 1 t (ix2 r j) = A1 m c (ix2 r j) := by
  have e : iblk m c 1 t (ix2 r j) = (V m c main_v1 : FVec Ideal S2048x1024 .bf16) (ix2 r j) := by blk_ext! [iblk, idx t]
  rw [e, entry1]

/-- A block's product is the reference's, at an index. -/
theorem pay_eq (l : Fin 512) (j : Fin 1024) : k0_pay1 (iblk m c 0 t) (iblk m c 1 t) (ix2 l j) = grad (A0 m c) (A1 m c) (ix2 (⟨t.val * 512 + l.val, by have := lt t; omega⟩ : Fin 1024) j) := by
  rw [pay_apply, grad_apply]
  exact Finset.sum_congr rfl fun r _ => by rw [blk0, blk1, mul_comm]

/-- The result array: 512 rows per grid point. -/
theorem final : (dats m 0 c).arrAt 2 (cfgs 0).N = grad (A0 m c) (A1 m c) := by
  refine (dats m 0 c).arrAt_eq_of_covers 2 _ (by decide +kernel) fun t hf y => ?_
  obtain ⟨l, j, ey⟩ : ∃ (l : Fin 512) (j : Fin 1024), y = ix2 l j := ⟨y 0, y 1, by blk_ext! []⟩
  have e : ((View.whole main_v2).slice (win0_2.rect t)).emb (ix2 l j) = ix2 (⟨t.val * 512 + l.val, by have := lt t; omega⟩ : Fin 1024) j := by blk_ext! [idx t]
  blk_simp; rw [after0_2]; frame_out
  rw [ey, e]
  exact pay_eq m c t l j

end Cert.WiuKernelIdeal.Wiu

set_option maxHeartbeats 1600000

namespace Cert.Proof

/-- The kernel's result is the reference's, on all extended reals. -/
theorem wiu_algebraic : Cert.algebraic_WiuKernelIdeal_WiuReferenceIdeal (hWiuKernelIdeal := Cert.WiuKernelIdeal.Gen.facts) (hWiuReferenceIdeal := Cert.WiuReferenceIdeal.Gen.facts) := by
  intro m g m' g' _ hagree
  refine ⟨fun c => (Cert.WiuKernelIdeal.Gen.dats m 0 c).arrAt 2 (Cert.WiuKernelIdeal.cfgs 0).N, Cert.WiuKernelIdeal.Value.run_blocks m g, ?_⟩
  have hr := Cert.WiuReferenceIdeal.Value.run (F := Ideal) m' g'
  refine (θ_run (Cert.WiuReferenceIdeal.defs (F := Ideal)) _ _).mono ?_ hr
  clear hr
  intro r h c
  obtain ⟨e0, e1⟩ := hagree c
  have hc := h c
  refine ⟨hc.1.trans ?_, hc.2⟩
  rw [e0, e1]
  exact (Cert.WiuKernelIdeal.Wiu.final m c).symm

end Cert.Proof
end
-- ==== Proof.WiuFrame.lean ====
/-
  The weight-gradient call of a projection from 1024 to 1024: each grid point's product is the reference's, for 512 rows: the reference's own run.
-/
module

public import proofs.«01_k».proof.Defs
public import proofs.«01_k».proof.Proof.Gen.WiuReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem wiu_reference_frame : Cert.quiescent_WiuReferenceIdeal (hWiuReferenceIdeal := Cert.WiuReferenceIdeal.Gen.facts) := by
  intro m g _
  hlo_run
  · intro c; simp only [and_self]
  · exact sem_eq_zero_of_no_sems (sig := Cert.WiuReferenceIdeal.sig) (by decide) _

end Cert.Proof
end
-- ==== Proof.WixClaim.lean ====
/-
  The weight-gradient call of the input projection's columns for x, B and C: each grid point's product is the reference's, for 512 rows.
-/
module

public import proofs.«01_k».proof.Defs
public import proofs.«01_k».proof.Proof.Gen.WixKernelIdeal.Value
public import proofs.«01_k».proof.Proof.Gen.WixReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.WixReferenceIdeal.Wix

open Cert.WixReferenceIdeal Cert.WixReferenceIdeal.Gen

/-- The reference's term. -/
def grad (a : FVec Ideal S2048x1024 .f32) (d : FVec Ideal S2048x1536 .f32) : FVec Ideal S1024x1536 .bf16 :=
  truncf .bf16 (transpose S1024x1536 [1, 0] (Host.dotGeneral dot_S2048x1536_S2048x1024_S1536x1024_0_0_1_1_n_n none d a) transposes_S1536x1024_S1024x1536_1_0) bitsLt_bf16_f32

theorem grad_apply (a : FVec Ideal S2048x1024 .f32) (d : FVec Ideal S2048x1536 .f32) (k : Fin 1024) (j : Fin 1536) :
    grad a d (ix2 k j) = ∑ r : Fin 2048, d (ix2 r j) * a (ix2 r k) := by
  pointwise [grad]

end Cert.WixReferenceIdeal.Wix

namespace Cert.WixKernelIdeal.Wix

open Cert.WixKernelIdeal Cert.WixKernelIdeal.Gen
open Cert.WixReferenceIdeal.Wix

/-- A block's product, read at an index: the sum over the tokens. -/
theorem pay_apply (x : Vec Ideal S2048x512 .bf16) (d : Vec Ideal S2048x1536 .bf16) (l : Fin 512) (j : Fin 1536) :
    k0_pay1 x d (ix2 l j) = ∑ r : Fin 2048, x (ix2 r l) * d (ix2 r j) := by
  pointwise [k0_pay1]

variable (m : (ℓ : Loc nD τ sig) → Buf (Elt Ideal) ℓ) (c : Dev nD) (t : Fin cfg0.N)

abbrev A0 := m ((c.tc : Thread nD τ).loc main_arg0)
abbrev A1 := m ((c.tc : Thread nD τ).loc main_arg1)

theorem idx : ∀ t : Fin cfg0.N, win0_0.index t = ![0, t.val] ∧ win0_1.index t = ![0, 0] ∧ win0_2.index t = ![t.val, 0] :=
  (by decide +kernel : ∀ t : Fin grid0.N, _)

theorem lt : t.val < 2 := lt_of_lt_of_eq t.isLt N_0

theorem entry0 (r : Fin 2048) (k : Fin 1024) : (V m c main_v0 : FVec Ideal S2048x1024 .bf16) (ix2 r k) = (A0 m c (ix2 r k) : EReal) := by
  show StableHlo.after _ _ _ _ = _
  simp only [List.flatten_cons, List.flatten_nil, List.append_nil, List.cons_append, List.nil_append, hostOps0]
  entry_read
  rfl
theorem entry1 (r : Fin 2048) (j : Fin 1536) : (V m c main_v1 : FVec Ideal S2048x1536 .bf16) (ix2 r j) = (A1 m c (ix2 r j) : EReal) := by
  show StableHlo.after _ _ _ _ = _
  simp only [List.flatten_cons, List.flatten_nil, List.append_nil, List.cons_append, List.nil_append, hostOps0]
  entry_read
  rfl

theorem blk0 (r : Fin 2048) (l : Fin 512) : iblk m c 0 t (ix2 r l) = A0 m c (ix2 r (⟨t.val * 512 + l.val, by have := lt t; omega⟩ : Fin 1024)) := by
  have e : iblk m c 0 t (ix2 r l) = (V m c main_v0 : FVec Ideal S2048x1024 .bf16) (ix2 r (⟨t.val * 512 + l.val, by have := lt t; omega⟩ : Fin 1024)) := by blk_ext! [iblk, idx t]
  rw [e, entry0]

theorem blk1 (r : Fin 2048) (j : Fin 1536) : iblk m c 1 t (ix2 r j) = A1 m c (ix2 r j) := by
  have e : iblk m c 1 t (ix2 r j) = (V m c main_v1 : FVec Ideal S2048x1536 .bf16) (ix2 r j) := by blk_ext! [iblk, idx t]
  rw [e, entry1]

/-- A block's product is the reference's, at an index. -/
theorem pay_eq (l : Fin 512) (j : Fin 1536) : k0_pay1 (iblk m c 0 t) (iblk m c 1 t) (ix2 l j) = grad (A0 m c) (A1 m c) (ix2 (⟨t.val * 512 + l.val, by have := lt t; omega⟩ : Fin 1024) j) := by
  rw [pay_apply, grad_apply]
  exact Finset.sum_congr rfl fun r _ => by rw [blk0, blk1, mul_comm]

/-- The result array: 512 rows per grid point. -/
theorem final : (dats m 0 c).arrAt 2 (cfgs 0).N = grad (A0 m c) (A1 m c) := by
  refine (dats m 0 c).arrAt_eq_of_covers 2 _ (by decide +kernel) fun t hf y => ?_
  obtain ⟨l, j, ey⟩ : ∃ (l : Fin 512) (j : Fin 1536), y = ix2 l j := ⟨y 0, y 1, by blk_ext! []⟩
  have e : ((View.whole main_v2).slice (win0_2.rect t)).emb (ix2 l j) = ix2 (⟨t.val * 512 + l.val, by have := lt t; omega⟩ : Fin 1024) j := by blk_ext! [idx t]
  blk_simp; rw [after0_2]; frame_out
  rw [ey, e]
  exact pay_eq m c t l j

end Cert.WixKernelIdeal.Wix

set_option maxHeartbeats 1600000

namespace Cert.Proof

/-- The kernel's result is the reference's, on all extended reals. -/
theorem wix_algebraic : Cert.algebraic_WixKernelIdeal_WixReferenceIdeal (hWixKernelIdeal := Cert.WixKernelIdeal.Gen.facts) (hWixReferenceIdeal := Cert.WixReferenceIdeal.Gen.facts) := by
  intro m g m' g' _ hagree
  refine ⟨fun c => (Cert.WixKernelIdeal.Gen.dats m 0 c).arrAt 2 (Cert.WixKernelIdeal.cfgs 0).N, Cert.WixKernelIdeal.Value.run_blocks m g, ?_⟩
  have hr := Cert.WixReferenceIdeal.Value.run (F := Ideal) m' g'
  refine (θ_run (Cert.WixReferenceIdeal.defs (F := Ideal)) _ _).mono ?_ hr
  clear hr
  intro r h c
  obtain ⟨e0, e1⟩ := hagree c
  have hc := h c
  refine ⟨hc.1.trans ?_, hc.2⟩
  rw [e0, e1]
  exact (Cert.WixKernelIdeal.Wix.final m c).symm

end Cert.Proof
end
-- ==== Proof.WixFrame.lean ====
/-
  The weight-gradient call of the input projection's columns for x, B and C: each grid point's product is the reference's, for 512 rows: the reference's own run.
-/
module

public import proofs.«01_k».proof.Defs
public import proofs.«01_k».proof.Proof.Gen.WixReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem wix_reference_frame : Cert.quiescent_WixReferenceIdeal (hWixReferenceIdeal := Cert.WixReferenceIdeal.Gen.facts) := by
  intro m g _
  hlo_run
  · intro c; simp only [and_self]
  · exact sem_eq_zero_of_no_sems (sig := Cert.WixReferenceIdeal.sig) (by decide) _

end Cert.Proof
end
-- ==== Proof.WidClaim.lean ====
/-
  The weight-gradient call of the input projection's columns for the step sizes: each grid point's product is the reference's, for 512 rows.
-/
module

public import proofs.«01_k».proof.Defs
public import proofs.«01_k».proof.Proof.Gen.WidKernelIdeal.Value
public import proofs.«01_k».proof.Proof.Gen.WidReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.WidReferenceIdeal.Wid

open Cert.WidReferenceIdeal Cert.WidReferenceIdeal.Gen

/-- The reference's term. -/
def grad (a : FVec Ideal S2048x1024 .f32) (d : FVec Ideal S2048x16 .f32) : FVec Ideal S1024x128 .bf16 :=
  truncf .bf16 (pad S1024x128 ![0, 0] ![0, 112] ![0, 0] (transpose S1024x16 [1, 0] (Host.dotGeneral dot_S2048x16_S2048x1024_S16x1024_0_0_1_1_n_n none d a) transposes_S16x1024_S1024x16_1_0) (sitofp .f32 (constantI S_ 32 0#32)) pads_S1024x16_S1024x128_000_01120 h_S_) bitsLt_bf16_f32

theorem grad_lo (a : FVec Ideal S2048x1024 .f32) (d : FVec Ideal S2048x16 .f32) (k : Fin 1024) (j : Fin 128) (h : j.val < 16) :
    grad a d (ix2 k j) = ∑ r : Fin 2048, d (ix2 r ⟨j.val, h⟩) * a (ix2 r k) := by
  pointwise [grad]
  rw [dif_pos (by omega)]
theorem grad_hi (a : FVec Ideal S2048x1024 .f32) (d : FVec Ideal S2048x16 .f32) (k : Fin 1024) (j : Fin 128) (h : 16 ≤ j.val) : grad a d (ix2 k j) = 0 := by
  pointwise [grad]
  rw [dif_neg (by omega)]
  show (((0#32).toInt : ℝ) : EReal) = 0
  norm_num

end Cert.WidReferenceIdeal.Wid

namespace Cert.WidKernelIdeal.Wid

open Cert.WidKernelIdeal Cert.WidKernelIdeal.Gen
open Cert.WidReferenceIdeal.Wid

/-- A block's product, read at an index: the sum over the tokens. -/
theorem pay_apply (x : Vec Ideal S2048x512 .bf16) (d : Vec Ideal S2048x128 .bf16) (l : Fin 512) (j : Fin 128) :
    k0_pay1 x d (ix2 l j) = ∑ r : Fin 2048, x (ix2 r l) * d (ix2 r j) := by
  pointwise [k0_pay1]

variable (m : (ℓ : Loc nD τ sig) → Buf (Elt Ideal) ℓ) (c : Dev nD) (t : Fin cfg0.N)

abbrev A0 := m ((c.tc : Thread nD τ).loc main_arg0)
abbrev A1 := m ((c.tc : Thread nD τ).loc main_arg1)

theorem idx : ∀ t : Fin cfg0.N, win0_0.index t = ![0, t.val] ∧ win0_1.index t = ![0, 0] ∧ win0_2.index t = ![t.val, 0] :=
  (by decide +kernel : ∀ t : Fin grid0.N, _)

theorem lt : t.val < 2 := lt_of_lt_of_eq t.isLt N_0

/-- The step sizes' cotangents, padded with zeros from 16 to 128 columns. -/
def padded (d : FVec Ideal S2048x16 .f32) : FVec Ideal S2048x128 .bf16 := pad S2048x128 ![0, 0] ![0, 112] ![0, 0] (truncf .bf16 d bitsLt_bf16_f32) (sitofp .bf16 (constantI S_ 32 0#32)) pads_S2048x16_S2048x128_000_01120 h_S_
theorem padded_lo (d : FVec Ideal S2048x16 .f32) (r : Fin 2048) (j : Fin 128) (h : j.val < 16) : padded d (ix2 r j) = (d (ix2 r ⟨j.val, h⟩) : EReal) := by
  pointwise [padded]
  rw [dif_pos (by omega)]
theorem padded_hi (d : FVec Ideal S2048x16 .f32) (r : Fin 2048) (j : Fin 128) (h : 16 ≤ j.val) : padded d (ix2 r j) = (0 : EReal) := by
  pointwise [padded]
  rw [dif_neg (by omega)]
  show (((0#32).toInt : ℝ) : EReal) = 0
  norm_num

theorem entry2 (r : Fin 2048) (k : Fin 1024) : (V m c main_v2 : FVec Ideal S2048x1024 .bf16) (ix2 r k) = (A0 m c (ix2 r k) : EReal) := by
  show StableHlo.after _ _ _ _ = _
  simp only [List.flatten_cons, List.flatten_nil, List.append_nil, List.cons_append, List.nil_append, hostOps0, hostOps0_1, hostOps0_2]
  entry_read
  rfl
theorem entry1 (r : Fin 2048) (j : Fin 128) : (V m c main_v1 : FVec Ideal S2048x128 .bf16) (ix2 r j) = (padded (A1 m c) (ix2 r j) : EReal) := by
  show StableHlo.after _ _ _ _ = _
  simp only [List.flatten_cons, List.flatten_nil, List.append_nil, List.cons_append, List.nil_append, hostOps0, hostOps0_1, hostOps0_2]
  entry_read
  rfl

theorem blk0 (r : Fin 2048) (l : Fin 512) : iblk m c 0 t (ix2 r l) = A0 m c (ix2 r (⟨t.val * 512 + l.val, by have := lt t; omega⟩ : Fin 1024)) := by
  have e : iblk m c 0 t (ix2 r l) = (V m c main_v2 : FVec Ideal S2048x1024 .bf16) (ix2 r (⟨t.val * 512 + l.val, by have := lt t; omega⟩ : Fin 1024)) := by blk_ext! [iblk, idx t]
  rw [e, entry2]

theorem blk1 (r : Fin 2048) (j : Fin 128) : iblk m c 1 t (ix2 r j) = padded (A1 m c) (ix2 r j) := by
  have e : iblk m c 1 t (ix2 r j) = (V m c main_v1 : FVec Ideal S2048x128 .bf16) (ix2 r j) := by blk_ext! [iblk, idx t]
  rw [e, entry1]

/-- A block's product is the reference's, at an index. -/
theorem pay_eq (l : Fin 512) (j : Fin 128) : k0_pay1 (iblk m c 0 t) (iblk m c 1 t) (ix2 l j) = grad (A0 m c) (A1 m c) (ix2 (⟨t.val * 512 + l.val, by have := lt t; omega⟩ : Fin 1024) j) := by
  rw [pay_apply]
  by_cases h : j.val < 16
  · rw [grad_lo _ _ _ _ h]
    exact Finset.sum_congr rfl fun r _ => by rw [blk0, blk1, padded_lo _ _ _ h, mul_comm]
  · rw [grad_hi _ _ _ _ (by omega)]
    exact Finset.sum_eq_zero fun r _ => by rw [blk1, padded_hi _ _ _ (by omega), mul_zero]

/-- The result array: 512 rows per grid point. -/
theorem final : (dats m 0 c).arrAt 2 (cfgs 0).N = grad (A0 m c) (A1 m c) := by
  refine (dats m 0 c).arrAt_eq_of_covers 2 _ (by decide +kernel) fun t hf y => ?_
  obtain ⟨l, j, ey⟩ : ∃ (l : Fin 512) (j : Fin 128), y = ix2 l j := ⟨y 0, y 1, by blk_ext! []⟩
  have e : ((View.whole main_v3).slice (win0_2.rect t)).emb (ix2 l j) = ix2 (⟨t.val * 512 + l.val, by have := lt t; omega⟩ : Fin 1024) j := by blk_ext! [idx t]
  blk_simp; rw [after0_2]; frame_out
  rw [ey, e]
  exact pay_eq m c t l j

end Cert.WidKernelIdeal.Wid

set_option maxHeartbeats 1600000

namespace Cert.Proof

/-- The kernel's result is the reference's, on all extended reals. -/
theorem wid_algebraic : Cert.algebraic_WidKernelIdeal_WidReferenceIdeal (hWidKernelIdeal := Cert.WidKernelIdeal.Gen.facts) (hWidReferenceIdeal := Cert.WidReferenceIdeal.Gen.facts) := by
  intro m g m' g' _ hagree
  refine ⟨fun c => (Cert.WidKernelIdeal.Gen.dats m 0 c).arrAt 2 (Cert.WidKernelIdeal.cfgs 0).N, Cert.WidKernelIdeal.Value.run_blocks m g, ?_⟩
  have hr := Cert.WidReferenceIdeal.Value.run (F := Ideal) m' g'
  refine (θ_run (Cert.WidReferenceIdeal.defs (F := Ideal)) _ _).mono ?_ hr
  clear hr
  intro r h c
  obtain ⟨e0, e1⟩ := hagree c
  have hc := h c
  refine ⟨hc.1.trans ?_, hc.2⟩
  rw [e0, e1]
  exact (Cert.WidKernelIdeal.Wid.final m c).symm

end Cert.Proof
end
-- ==== Proof.WidFrame.lean ====
/-
  The weight-gradient call of the input projection's columns for the step sizes: each grid point's product is the reference's, for 512 rows: the reference's own run.
-/
module

public import proofs.«01_k».proof.Defs
public import proofs.«01_k».proof.Proof.Gen.WidReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem wid_reference_frame : Cert.quiescent_WidReferenceIdeal (hWidReferenceIdeal := Cert.WidReferenceIdeal.Gen.facts) := by
  intro m g _
  hlo_run
  · intro c; simp only [and_self]
  · exact sem_eq_zero_of_no_sems (sig := Cert.WidReferenceIdeal.sig) (by decide) _

end Cert.Proof
end
-- ==== Proof.WopClaim.lean ====
/-
  The weight-gradient call of the mixer output's projection: each grid point's product is the reference's, for 512 rows of one half.
-/
module

public import proofs.«01_k».proof.Defs
public import proofs.«01_k».proof.Proof.Gen.WopKernelIdeal.Value
public import proofs.«01_k».proof.Proof.Gen.WopReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.WopReferenceIdeal.Wop

open Cert.WopReferenceIdeal Cert.WopReferenceIdeal.Gen

/-- The reference's term. -/
def grad (a0 a1 d : FVec Ideal S2048x1024 .f32) : FVec Ideal S2x1024x1024 .bf16 :=
  truncf .bf16 (shapeCast _ (transpose S2048x1024 [1, 0] (Host.dotGeneral dot_S2048x1024_S2048x2048_S1024x2048_0_0_1_1_n_n none d (concatenate S2048x2048 1 [⟨S2048x1024, a0⟩, ⟨S2048x1024, a1⟩] concatenates_S2048x1024_S2048x1024_S2048x2048_d1)) transposes_S1024x2048_S2048x1024_1_0) shapeCasts_S2048x1024_S2x1024x1024) bitsLt_bf16_f32

theorem grad_a (a0 a1 d : FVec Ideal S2048x1024 .f32) (b : Fin 2) (k j : Fin 1024) (h : b.val = 0) :
    grad a0 a1 d (ix3 b k j) = ∑ r : Fin 2048, d (ix2 r j) * a0 (ix2 r k) := by
  obtain rfl : b = 0 := Fin.ext h
  pointwise [grad]
theorem grad_b (a0 a1 d : FVec Ideal S2048x1024 .f32) (b : Fin 2) (k j : Fin 1024) (h : b.val = 1) :
    grad a0 a1 d (ix3 b k j) = ∑ r : Fin 2048, d (ix2 r j) * a1 (ix2 r k) := by
  obtain rfl : b = 1 := Fin.ext h
  pointwise [grad]

end Cert.WopReferenceIdeal.Wop

namespace Cert.WopKernelIdeal.Wop

open Cert.WopKernelIdeal Cert.WopKernelIdeal.Gen
open Cert.WopReferenceIdeal.Wop

/-- A block's product, read at an index: the sum over the tokens. -/
theorem pay1_apply (x : Vec Ideal S2048x512 .bf16) (d : Vec Ideal S2048x1024 .bf16) (l : Fin 512) (j : Fin 1024) :
    k0_pay1 x d (ix3 0 l j) = ∑ r : Fin 2048, x (ix2 r l) * d (ix2 r j) := by
  pointwise [k0_pay1]
theorem pay2_apply (x : Vec Ideal S2048x512 .bf16) (d : Vec Ideal S2048x1024 .bf16) (l : Fin 512) (j : Fin 1024) :
    k0_pay2 x d (ix3 0 l j) = ∑ r : Fin 2048, x (ix2 r l) * d (ix2 r j) := by
  pointwise [k0_pay2]

variable (m : (ℓ : Loc nD τ sig) → Buf (Elt Ideal) ℓ) (c : Dev nD) (t : Fin cfg0.N)

abbrev A0 := m ((c.tc : Thread nD τ).loc main_arg0)
abbrev A1 := m ((c.tc : Thread nD τ).loc main_arg1)
abbrev A2 := m ((c.tc : Thread nD τ).loc main_arg2)

theorem idx : ∀ t : Fin cfg0.N, win0_0.index t = ![0, min t.val 1] ∧ win0_1.index t = ![0, t.val - 2] ∧ win0_2.index t = ![0, 0] ∧ win0_3.index t = ![t.val / 2, t.val % 2, 0] :=
  (by decide +kernel : ∀ t : Fin grid0.N, _)

theorem lt : t.val < 4 := lt_of_lt_of_eq t.isLt N_0

theorem entry0 (r : Fin 2048) (k : Fin 1024) : (V m c main_v0 : FVec Ideal S2048x1024 .bf16) (ix2 r k) = (A0 m c (ix2 r k) : EReal) := by
  show StableHlo.after _ _ _ _ = _
  simp only [List.flatten_cons, List.flatten_nil, List.append_nil, List.cons_append, List.nil_append, hostOps0]
  entry_read
  rfl
theorem entry1 (r : Fin 2048) (k : Fin 1024) : (V m c main_v1 : FVec Ideal S2048x1024 .bf16) (ix2 r k) = (A1 m c (ix2 r k) : EReal) := by
  show StableHlo.after _ _ _ _ = _
  simp only [List.flatten_cons, List.flatten_nil, List.append_nil, List.cons_append, List.nil_append, hostOps0]
  entry_read
  rfl
theorem entry2 (r : Fin 2048) (k : Fin 1024) : (V m c main_v2 : FVec Ideal S2048x1024 .bf16) (ix2 r k) = (A2 m c (ix2 r k) : EReal) := by
  show StableHlo.after _ _ _ _ = _
  simp only [List.flatten_cons, List.flatten_nil, List.append_nil, List.cons_append, List.nil_append, hostOps0]
  entry_read
  rfl

theorem blk0 (r : Fin 2048) (l : Fin 512) : iblk m c 0 t (ix2 r l) = A0 m c (ix2 r (⟨min t.val 1 * 512 + l.val, by omega⟩ : Fin 1024)) := by
  have e : iblk m c 0 t (ix2 r l) = (V m c main_v0 : FVec Ideal S2048x1024 .bf16) (ix2 r (⟨min t.val 1 * 512 + l.val, by omega⟩ : Fin 1024)) := by blk_ext! [iblk, idx t]
  rw [e, entry0]
theorem blk1 (r : Fin 2048) (l : Fin 512) : iblk m c 1 t (ix2 r l) = A1 m c (ix2 r (⟨(t.val - 2) * 512 + l.val, by have := lt t; omega⟩ : Fin 1024)) := by
  have e : iblk m c 1 t (ix2 r l) = (V m c main_v1 : FVec Ideal S2048x1024 .bf16) (ix2 r (⟨(t.val - 2) * 512 + l.val, by have := lt t; omega⟩ : Fin 1024)) := by blk_ext! [iblk, idx t]
  rw [e, entry1]
theorem blk2 (r : Fin 2048) (j : Fin 1024) : iblk m c 2 t (ix2 r j) = A2 m c (ix2 r j) := by
  have e : iblk m c 2 t (ix2 r j) = (V m c main_v2 : FVec Ideal S2048x1024 .bf16) (ix2 r j) := by blk_ext! [iblk, idx t]
  rw [e, entry2]

/-- The result array: the first two grid points write the first half's gradient, the last two the second's. -/
theorem final : (dats m 0 c).arrAt 3 (cfgs 0).N = grad (A0 m c) (A1 m c) (A2 m c) := by
  refine (dats m 0 c).arrAt_eq_of_covers 3 _ (by decide +kernel) fun t hf y => ?_
  have ht := lt t
  obtain ⟨l, j, ey⟩ : ∃ (l : Fin 512) (j : Fin 1024), y = ix3 (0 : Fin 1) l j := ⟨y 1, y 2, by blk_ext! []⟩
  have e : ((View.whole main_v3).slice (win0_3.rect t)).emb (ix3 (0 : Fin 1) l j) = ix3 (⟨t.val / 2, by omega⟩ : Fin 2) (⟨t.val % 2 * 512 + l.val, by omega⟩ : Fin 1024) j := by blk_ext! [idx t]
  by_cases h0 : t.val < 2
  · blk_simp; rw [after0_3, outsAt0_A m c t h0 (by omega)]; frame_out
    rw [ey, e]
    refine (pay1_apply _ _ _ _).trans ((Finset.sum_congr rfl fun r _ => ?_).trans (grad_a _ _ _ _ _ _ (by simp only []; omega)).symm)
    rw [blk0, blk2, mul_comm]
    exact congrArg₂ (· * ·) rfl (congrArg (A0 m c) (congrArg (ix2 r) (Fin.ext (by simp only []; omega))))
  · blk_simp; rw [after0_3, outsAt0_B m c t h0 (by omega)]; frame_out
    rw [ey, e]
    refine (pay2_apply _ _ _ _).trans ((Finset.sum_congr rfl fun r _ => ?_).trans (grad_b _ _ _ _ _ _ (by simp only []; omega)).symm)
    rw [blk1, blk2, mul_comm]
    exact congrArg₂ (· * ·) rfl (congrArg (A1 m c) (congrArg (ix2 r) (Fin.ext (by simp only []; omega))))

end Cert.WopKernelIdeal.Wop

set_option maxHeartbeats 1600000

namespace Cert.Proof

/-- The kernel's result is the reference's, on all extended reals. -/
theorem wop_algebraic : Cert.algebraic_WopKernelIdeal_WopReferenceIdeal (hWopKernelIdeal := Cert.WopKernelIdeal.Gen.facts) (hWopReferenceIdeal := Cert.WopReferenceIdeal.Gen.facts) := by
  intro m g m' g' _ hagree
  refine ⟨fun c => (Cert.WopKernelIdeal.Gen.dats m 0 c).arrAt 3 (Cert.WopKernelIdeal.cfgs 0).N, Cert.WopKernelIdeal.Value.run_blocks m g, ?_⟩
  have hr := Cert.WopReferenceIdeal.Value.run (F := Ideal) m' g'
  refine (θ_run (Cert.WopReferenceIdeal.defs (F := Ideal)) _ _).mono ?_ hr
  clear hr
  intro r h c
  obtain ⟨e0, e1, e2⟩ := hagree c
  have hc := h c
  refine ⟨hc.1.trans ?_, hc.2⟩
  rw [e0, e1, e2]
  exact (Cert.WopKernelIdeal.Wop.final m c).symm

end Cert.Proof
end
-- ==== Proof.WopFrame.lean ====
/-
  The weight-gradient call of the mixer output's projection: each grid point's product is the reference's, for 512 rows of one half: the reference's own run.
-/
module

public import proofs.«01_k».proof.Defs
public import proofs.«01_k».proof.Proof.Gen.WopReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem wop_reference_frame : Cert.quiescent_WopReferenceIdeal (hWopReferenceIdeal := Cert.WopReferenceIdeal.Gen.facts) := by
  intro m g _
  hlo_run
  · intro c; simp only [and_self]
  · exact sem_eq_zero_of_no_sems (sig := Cert.WopReferenceIdeal.sig) (by decide) _

end Cert.Proof
end
-- ==== Proof.LosPure.lean ====
/-
  The mathematics of the loss head: what the kernel's body stores, read at an index, is the reference's composed term
  read there. The kernel scales an error by a half and by 1/1024 and adds the two halves of the square's derivative; the
  reference divides by 1024 and doubles. The kernel halves each block's loss; the reference halves their sum.
-/
module

public import proofs.«01_k».proof.Proof.Gen.LosKernelIdeal.Skeleton
public import proofs.«01_k».proof.Proof.Gen.LosReferenceIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped BigOperators

/-! ## Constants and sums on the extended reals -/

namespace Cert.LossHead

theorem half : Ideal.ofBits .f32 0x3F000000#32 = ((1 / 2 : ℝ) : EReal) := by
  simp [Ideal.ofBits, Ideal.ieee, -EReal.coe_mul]; norm_num
theorem inv1024 : Ideal.ofBits .f32 0x3A800000#32 = ((1 / 1024 : ℝ) : EReal) := by
  simp [Ideal.ofBits, Ideal.ieee, -EReal.coe_mul]; norm_num
theorem c1024 : Ideal.ofBits .f32 0x44800000#32 = ((1024 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num

/-- A division by 1024 is the product with its inverse. -/
theorem div1024 (x : EReal) : Ideal.div x (Ideal.ofBits .f32 0x44800000#32) = x * Ideal.ofBits .f32 0x3A800000#32 := by
  rw [c1024, inv1024, Ideal.div_coe (by norm_num)]

/-- A half distributes over a sum. -/
theorem half_add (a b : EReal) : Ideal.ofBits .f32 0x3F000000#32 * (a + b) = Ideal.ofBits .f32 0x3F000000#32 * a + Ideal.ofBits .f32 0x3F000000#32 * b := by
  rw [half]
  exact EReal.left_distrib_of_nonneg_of_ne_top (EReal.coe_nonneg.mpr (by norm_num)) (EReal.coe_ne_top _) _ _
theorem half_sum {n : ℕ} (f : Fin n → EReal) : Ideal.ofBits .f32 0x3F000000#32 * (∑ i, f i) = ∑ i, Ideal.ofBits .f32 0x3F000000#32 * f i := by
  induction n with
  | zero => simp only [Finset.univ_eq_empty, Finset.sum_empty, mul_zero]
  | succ n ih => rw [Fin.sum_univ_succ, Fin.sum_univ_succ, half_add, ih]

/-- The two halves of a square's derivative together. -/
theorem twice (e : EReal) :
    e * (Ideal.ofBits .f32 0x3F000000#32 * Ideal.ofBits .f32 0x3A800000#32) + Ideal.ofBits .f32 0x3F000000#32 * Ideal.ofBits .f32 0x3A800000#32 * e
      = Ideal.ofBits .f32 0x3F000000#32 * Ideal.ofBits .f32 0x3A800000#32 * (Ideal.ofBits .f32 0x40000000#32 * e) := by
  rw [half, inv1024, c2, ← EReal.coe_mul, mul_comm e, ← mul_assoc, ← EReal.coe_mul]
  rw [← EReal.right_distrib_of_nonneg (EReal.coe_nonneg.mpr (by norm_num)) (EReal.coe_nonneg.mpr (by norm_num)), ← EReal.coe_add]
  norm_num

end Cert.LossHead

/-! ## The reference's terms, over its argument arrays -/

namespace Cert.LosReferenceIdeal.Los

open Cert.LosReferenceIdeal Cert.LosReferenceIdeal.Gen

variable (a0 : FVec Ideal S2048x1024 .f32) (a1 : FVec Ideal S1024 .f32) (a2 : FVec Ideal S2048x1024 .f32)

/-- The mean square of a token, plus the small constant. -/
def msq : FVec Ideal S2048x1 .f32 := addf (Host.divf (broadcastInDim S2048x1 ![0] bcast_S2048_S2048x1_0 (Host.reduceAdd (mulf a0 a0) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))
/-- The token, scaled to mean square one. -/
def xh : FVec Ideal S2048x1024 .f32 := mulf a0 (broadcastInDim S2048x1024 ![0, 1] bcast_S2048x1_S2048x1024_0_1 (Host.rsqrt (msq a0)))
def gain : FVec Ideal S2048x1024 .f32 := broadcastInDim S2048x1024 ![0, 1] bcast_S1x1024_S2048x1024_0_1 (broadcastInDim S1x1024 ![1] bcast_S1024_S1x1024_1 a1)
/-- The error: the normalised token less the target. -/
def err : FVec Ideal S2048x1024 .f32 := subf (mulf (xh a0) (gain a1)) a2
/-- The cotangent of the normalised token. -/
def de : FVec Ideal S2048x1024 .f32 := mulf (broadcastInDim S2048x1024 ![0] bcast_S2048_S2048x1024_0 (Host.divf (broadcastInDim S2048 ![] bcast_S_S2048 (mulf (constant S_ .f32 0x3F000000#32) (constant S_ .f32 0x3F800000#32))) (broadcastInDim S2048 ![] bcast_S_S2048 (constant S_ .f32 0x44800000#32)))) (mulf (broadcastInDim S2048x1024 ![] bcast_S_S2048x1024 (constant S_ .f32 0x40000000#32)) (err a0 a1 a2))
def dhg : FVec Ideal S2048x1024 .f32 := mulf (de a0 a1 a2) (gain a1)
/-- The cotangent of the mean square. -/
def dms : FVec Ideal S2048x1 .f32 := Host.divf (mulf (shapeCast _ (Host.reduceAdd (mulf a0 (dhg a0 a1 a2)) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (msq a0)) (msq a0)))) (broadcastInDim S2048x1 ![] bcast_S_S2048x1 (constant S_ .f32 0x44800000#32))
def dsq : FVec Ideal S2048x1024 .f32 := broadcastInDim S2048x1024 ![0] bcast_S2048_S2048x1024_0 (Host.reduceAdd (dms a0 a1 a2) (constant S_ .f32 0x00000000#32) reducesTo_S2048x1_S2048_d1 h_S_)
def outX : FVec Ideal S2048x1024 .f32 := addf (addf (mulf (dhg a0 a1 a2) (broadcastInDim S2048x1024 ![0, 1] bcast_S2048x1_S2048x1024_0_1 (Host.rsqrt (msq a0)))) (mulf a0 (dsq a0 a1 a2))) (mulf (dsq a0 a1 a2) a0)
def outG : FVec Ideal S1x1024 .f32 := shapeCast _ (Host.reduceAdd (shapeCast _ (Host.reduceAdd (mulf (xh a0) (de a0 a1 a2)) (constant S_ .f32 0x00000000#32) reducesTo_S2048x1024_S1024_d0 h_S_) shapeCasts_S1024_S1x1024) (constant S_ .f32 0x00000000#32) reducesTo_S1x1024_S1024_d0 h_S_) shapeCasts_S1024_S1x1024
/-- The loss, in every entry. -/
def outL : FVec Ideal S8x128 .f32 := broadcastInDim S8x128 ![] bcast_S_S8x128 (mulf (constant S_ .f32 0x3F000000#32) (Host.reduceAdd (Host.divf (Host.reduceAdd (mulf (err a0 a1 a2) (err a0 a1 a2)) (constant S_ .f32 0x00000000#32) reducesTo_S2048x1024_S2048_d1 h_S_) (broadcastInDim S2048 ![] bcast_S_S2048 (constant S_ .f32 0x44800000#32))) (constant S_ .f32 0x00000000#32) reducesTo_S2048_S_d0 h_S_))

variable (m : (ℓ : Loc nD τ sig) → Buf (Elt Ideal) ℓ) (c : Dev nD)

theorem resX : Value.res_main_v50 m c = outX (m ((c.tc : Thread nD τ).loc main_arg0)) (m ((c.tc : Thread nD τ).loc main_arg1)) (m ((c.tc : Thread nD τ).loc main_arg2)) := rfl

theorem de_apply (r : Fin 2048) (k : Fin 1024) : de a0 a1 a2 (ix2 r k) = Ideal.ofBits .f32 0x3F000000#32 * Ideal.ofBits .f32 0x3A800000#32 * (Ideal.ofBits .f32 0x40000000#32 * err a0 a1 a2 (ix2 r k)) := by
  rw [← Cert.LossHead.div1024]
  pointwise [de]

theorem outG_apply (k : Fin 1024) : outG a0 a1 a2 (ix2 0 k) = ∑ r, xh a0 (ix2 r k) * de a0 a1 a2 (ix2 r k) := by
  pointwise [outG]
  exact Fin.sum_univ_one _

/-- A token's share of the loss. -/
def tokenLoss (r : Fin 2048) : EReal := Ideal.ofBits .f32 0x3F000000#32 * ((∑ k : Fin 1024, err a0 a1 a2 (ix2 r k) * err a0 a1 a2 (ix2 r k)) * Ideal.ofBits .f32 0x3A800000#32)

theorem outL_apply (p : Fin 8) (q : Fin 128) : outL a0 a1 a2 (ix2 p q) = ∑ r, tokenLoss a0 a1 a2 r := by
  simp only [tokenLoss]
  rw [← Cert.LossHead.half_sum]
  simp only [← Cert.LossHead.div1024]
  pointwise [outL]

end Cert.LosReferenceIdeal.Los

/-! ## One row of a block -/

namespace Cert.LosKernelIdeal.Los

open Cert.LosKernelIdeal Cert.LosKernelIdeal.Gen

section
variable (x : Vec Ideal S256x1024 .f32) (g : Vec Ideal S1x1024 .f32) (y : Vec Ideal S256x1024 .f32)
variable (a0 : FVec Ideal S2048x1024 .f32) (a1 : FVec Ideal S1024 .f32) (a2 : FVec Ideal S2048x1024 .f32) (i : Fin 256) (r : Fin 2048)

/-- Row `i` of the blocks is row `r` of the arrays. -/
structure Row : Prop where
  hx : ∀ k : Fin 1024, x (ix2 i k) = a0 (ix2 r k)
  hg : ∀ k : Fin 1024, g (ix2 0 k) = a1 (ix1 k)
  hy : ∀ k : Fin 1024, y (ix2 i k) = a2 (ix2 r k)

variable (H : Row x g y a0 a1 a2 i r)

include H in
theorem err_eq (k : Fin 1024) : k0_pay6 y x g (ix2 i k) = Cert.LosReferenceIdeal.Los.err a0 a1 a2 (ix2 r k) := by
  pointwise [k0_pay6, k0_pay5, k0_pay3, k0_pay2, k0_pay1, Cert.LosReferenceIdeal.Los.err, Cert.LosReferenceIdeal.Los.xh, Cert.LosReferenceIdeal.Los.gain, Cert.LosReferenceIdeal.Los.msq]
  simp only [H.hx, H.hg, H.hy]

include H in
theorem de_eq (k : Fin 1024) : k0_pay9 (k0_pay6 y x g) k0_pay8 (ix2 i k) = Cert.LosReferenceIdeal.Los.de a0 a1 a2 (ix2 r k) := by
  rw [Cert.LosReferenceIdeal.Los.de_apply, ← err_eq x g y a0 a1 a2 i r H, ← Cert.LossHead.twice]
  pointwise [k0_pay9, k0_pay8]
  simp only [Fin.sum_univ_one, mul_one]

include H in
theorem outX_eq (k : Fin 1024) : k0_pay10 x (k0_pay1 g) (k0_pay3 x) (k0_pay4 x) (k0_pay6 y x g) k0_pay8 (ix2 i k) = Cert.LosReferenceIdeal.Los.outX a0 a1 a2 (ix2 r k) := by
  have e := de_eq x g y a0 a1 a2 i r H
  pointwise [k0_pay10, k0_pay1, k0_pay2, k0_pay3, k0_pay4, Cert.LosReferenceIdeal.Los.outX, Cert.LosReferenceIdeal.Los.dsq, Cert.LosReferenceIdeal.Los.dms, Cert.LosReferenceIdeal.Los.dhg, Cert.LosReferenceIdeal.Los.gain, Cert.LosReferenceIdeal.Los.msq]
  simp only [H.hx, H.hg, e]

/-- A block adds its rows' share of the gain's gradient. -/
theorem gain_eq (r' : Fin 256 → Fin 2048) (H : ∀ i, Row x g y a0 a1 a2 i (r' i)) (v : Vec Ideal S1x1024 .f32) (k : Fin 1024) :
    k0_pay13 (k0_pay5 x) (k0_pay6 y x g) k0_pay8 v (ix2 0 k) = v (ix2 0 k) + ∑ i, Cert.LosReferenceIdeal.Los.xh a0 (ix2 (r' i) k) * Cert.LosReferenceIdeal.Los.de a0 a1 a2 (ix2 (r' i) k) := by
  have e := fun i => de_eq x g y a0 a1 a2 i (r' i) (H i)
  have hx := fun i => (H i).hx
  pointwise [k0_pay13, k0_pay5, k0_pay3, k0_pay2, Cert.LosReferenceIdeal.Los.xh, Cert.LosReferenceIdeal.Los.msq]
  simp only [hx, e]

/-- A block adds its rows' share of the loss. -/
theorem loss_eq (r' : Fin 256 → Fin 2048) (H : ∀ i, Row x g y a0 a1 a2 i (r' i)) (v : Vec Ideal S8x128 .f32) (p : Fin 8) (q : Fin 128) :
    k0_pay14 (k0_pay7 y x g) v (ix2 p q) = v (ix2 p q) + ∑ i, Cert.LosReferenceIdeal.Los.tokenLoss a0 a1 a2 (r' i) := by
  have e := fun i => err_eq x g y a0 a1 a2 i (r' i) (H i)
  simp only [Cert.LosReferenceIdeal.Los.tokenLoss]
  rw [← Cert.LossHead.half_sum]
  pointwise [k0_pay14, k0_pay7]
  simp only [e]

theorem zero_apply (j : S1x1024.Idx) : k0_pay11 (F := Ideal) j = 0 := by
  rw [eq_ix2 j]; pointwise [k0_pay11]

theorem zeroL_apply (j : S8x128.Idx) : k0_pay12 (F := Ideal) j = 0 := by
  rw [eq_ix2 j]; pointwise [k0_pay12]

end

end Cert.LosKernelIdeal.Los

end
-- ==== Proof.LosValue.lean ====
/-
  The loss head: the blocks of a grid point, and what the result arrays hold after the run.
-/
module

public import proofs.«01_k».proof.Defs
public import proofs.«01_k».proof.Proof.Gen.LosKernelIdeal.Value
public import proofs.«01_k».proof.Proof.Gen.LosReferenceIdeal.Run
public import proofs.«01_k».proof.Proof.LosPure
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.LosKernelIdeal.Los

open Cert.LosKernelIdeal Cert.LosKernelIdeal.Gen

variable (m : (ℓ : Loc nD τ sig) → Buf (Elt Ideal) ℓ)

/-! ## The blocks of a grid point -/

theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![0, 0] :=
  (by decide +kernel : ∀ t : Fin grid0.N, _)

abbrev A0 (c : Dev nD) := m ((c.tc : Thread nD τ).loc main_arg0)
abbrev A1 (c : Dev nD) := m ((c.tc : Thread nD τ).loc main_arg1)
abbrev A2 (c : Dev nD) := m ((c.tc : Thread nD τ).loc main_arg2)

theorem entry0 (c : Dev nD) (k : Fin 1024) : (V m c main_v0 : FVec Ideal S1x1024 .f32) (ix2 0 k) = (A1 m c (ix1 k) : EReal) := by
  show StableHlo.after _ _ _ _ = _
  simp only [List.flatten_cons, List.flatten_nil, List.append_nil, List.cons_append, List.nil_append, hostOps0]
  entry_read
  pointwise []

variable (c : Dev nD) (t : Fin cfg0.N)

theorem row_lt (t : Fin cfg0.N) (i : Fin 256) : t.val * 256 + i.val < 2048 := by
  have := t.isLt; have h : cfg0.N = 8 := by decide
  omega

/-- A row of a point's blocks is a row of the arrays. -/
theorem row (i : Fin 256) : Row (iblk m c 0 t) (iblk m c 1 t) (iblk m c 2 t) (A0 m c) (A1 m c) (A2 m c) i ⟨t.val * 256 + i.val, row_lt t i⟩ where
  hx k := by blk_ext! [iblk, V, idx t]
  hy k := by blk_ext! [iblk, V, idx t]
  hg k := by
    have e : iblk m c 1 t (ix2 0 k) = (V m c main_v0 : FVec Ideal S1x1024 .f32) (ix2 0 k) := by blk_ext! [iblk, idx t]
    rw [e, entry0]

/-! ## The result arrays -/

theorem final_4 : (dats m 0 c).arrAt 4 (cfgs 0).N = Cert.LosReferenceIdeal.Los.outX (A0 m c) (A1 m c) (A2 m c) := by
  refine (dats m 0 c).arrAt_eq_of_covers 4 _ (by decide +kernel) fun t hf y => ?_
  have e : ((View.whole main_v1_1).slice (win0_4.rect t)).emb y = ix2 (⟨t.val * 256 + (y 0).val, row_lt t (y 0)⟩ : Fin 2048) (y 1) := by blk_ext! [idx t]
  by_cases h0 : t.val % 8 = 0
  · blk_simp; rw [after0_4, outsAt0_A m c t h0]; frame_out
    rw [e, eq_ix2 y]
    exact outX_eq _ _ _ _ _ _ _ _ (row m c t _) _
  · blk_simp; rw [after0_4, outsAt0_B m c t h0]; frame_out
    rw [e, eq_ix2 y]
    exact outX_eq _ _ _ _ _ _ _ _ (row m c t _) _

/-- A point's share of the loss. -/
def shareL (t : Fin cfg0.N) : EReal := ∑ i : Fin 256, Cert.LosReferenceIdeal.Los.tokenLoss (A0 m c) (A1 m c) (A2 m c) ⟨t.val * 256 + i.val, row_lt t i⟩

theorem addL_apply (v : Vec Ideal S8x128 .f32) (j : S8x128.Idx) :
    k0_pay14 (k0_pay7 (iblk m c 2 t) (iblk m c 0 t) (iblk m c 1 t)) v j = v j + shareL m c t := by
  rw [eq_ix2 j]
  exact loss_eq _ _ _ _ _ _ _ (row m c t) v _ _

theorem shareL_sum (j : S8x128.Idx) : (∑ p, shareL m c p) = Cert.LosReferenceIdeal.Los.outL (A0 m c) (A1 m c) (A2 m c) j := by
  obtain ⟨a, b, hj⟩ : ∃ (a : Fin 8) (b : Fin 128), j = ix2 a b := ⟨j 0, j 1, eq_ix2 j⟩
  rw [hj, Cert.LosReferenceIdeal.Los.outL_apply, Fin.sum_univ_tiles 8 256 (N := 2048) rfl]
  rfl

theorem final_3 : (dats m 0 c).arrAt 3 (cfgs 0).N = Cert.LosReferenceIdeal.Los.outL (A0 m c) (A1 m c) (A2 m c) := by
  refine (dats m 0 c).arrAt_eq_of_after_last 3 t0_7 (by decide +kernel) _ fun j => ?_
  blk_simp; rw [after0_3]
  rw [Pipeline.eq_sum_fin_of_reset_step_apply_last (fun n h => (outsAt0 m c n h).1) 8 (fun _ => 0) (fun t _ => shareL m c t)
    (fun t h j => by rw [outsAt0_A m c t h]; frame_out; rw [addL_apply, zeroL_apply])
    (fun t h j => by rw [outsAt0_B m c t h]; frame_out; rw [addL_apply])
    (le_of_eq N_0) t0_7 rfl j, zero_add]
  exact shareL_sum m c j

/-- A point's share of the gain's gradient. -/
def share (t : Fin cfg0.N) (j : S1x1024.Idx) : EReal := ∑ i : Fin 256, (fun r : Fin 2048 => Cert.LosReferenceIdeal.Los.xh (A0 m c) (ix2 r (j 1)) * Cert.LosReferenceIdeal.Los.de (A0 m c) (A1 m c) (A2 m c) (ix2 r (j 1))) ⟨t.val * 256 + i.val, row_lt t i⟩

theorem add_apply (v : Vec Ideal S1x1024 .f32) (j : S1x1024.Idx) :
    k0_pay13 (k0_pay5 (iblk m c 0 t)) (k0_pay6 (iblk m c 2 t) (iblk m c 0 t) (iblk m c 1 t)) k0_pay8 v j = v j + share m c t j := by
  obtain ⟨k, hk⟩ : ∃ k : Fin 1024, j = ix2 0 k := ⟨j 1, by blk_ext! []⟩
  rw [hk]
  exact gain_eq _ _ _ _ _ _ _ (row m c t) v k

/-- The points' shares together are the reference's gradient. -/
theorem share_sum (j : S1x1024.Idx) : (∑ p, share m c p j) = Cert.LosReferenceIdeal.Los.outG (A0 m c) (A1 m c) (A2 m c) j := by
  obtain ⟨k, hk⟩ : ∃ k : Fin 1024, j = ix2 0 k := ⟨j 1, by blk_ext! []⟩
  rw [hk, Cert.LosReferenceIdeal.Los.outG_apply, Fin.sum_univ_tiles 8 256 (N := 2048) rfl]
  rfl

theorem final_5 : (dats m 0 c).arrAt 5 (cfgs 0).N = Cert.LosReferenceIdeal.Los.outG (A0 m c) (A1 m c) (A2 m c) := by
  refine (dats m 0 c).arrAt_eq_of_after_last 5 t0_7 (by decide +kernel) _ fun j => ?_
  blk_simp; rw [after0_5]
  rw [Pipeline.eq_sum_fin_of_reset_step_apply_last (fun n h => (outsAt0 m c n h).2.2) 8 (fun _ => 0) (share m c)
    (fun t h j => by rw [outsAt0_A m c t h]; frame_out; rw [add_apply, zero_apply])
    (fun t h j => by rw [outsAt0_B m c t h]; frame_out; rw [add_apply])
    (le_of_eq N_0) t0_7 rfl j, zero_add]
  exact share_sum m c j

end Cert.LosKernelIdeal.Los
end
-- ==== Proof.LosClaim.lean ====
/-
  The loss head: the algebraic claim.
-/
module

public import proofs.«01_k».proof.Defs
public import proofs.«01_k».proof.Proof.Gen.LosKernelIdeal.Value
public import proofs.«01_k».proof.Proof.Gen.LosReferenceIdeal.Run
public import Idealize.ShloMosaic.Lib.Pipeline.ValueKit
public import Idealize.ShloMosaic.Lib.Pointwise
public import proofs.«01_k».proof.Proof.LosValue
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

set_option maxHeartbeats 1600000

namespace Cert.Proof

/-- The kernel's three results are the reference's, on all extended reals. -/
theorem los_algebraic : Cert.algebraic_LosKernelIdeal_LosReferenceIdeal (hLosKernelIdeal := Cert.LosKernelIdeal.Gen.facts) (hLosReferenceIdeal := Cert.LosReferenceIdeal.Gen.facts) := by
  intro m g m' g' _ hagree
  refine ⟨fun c => (Cert.LosKernelIdeal.Gen.dats m 0 c).arrAt 3 (Cert.LosKernelIdeal.cfgs 0).N,
    fun c => (Cert.LosKernelIdeal.Gen.dats m 0 c).arrAt 4 (Cert.LosKernelIdeal.cfgs 0).N,
    fun c => (Cert.LosKernelIdeal.Gen.dats m 0 c).arrAt 5 (Cert.LosKernelIdeal.cfgs 0).N, Cert.LosKernelIdeal.Value.run_blocks m g, ?_⟩
  have hr := Cert.LosReferenceIdeal.Value.run (F := Ideal) m' g'
  refine (θ_run (Cert.LosReferenceIdeal.defs (F := Ideal)) _ _).mono ?_ hr
  clear hr
  intro r h c
  obtain ⟨e0, e1, e2⟩ := hagree c
  have hc := h c
  refine ⟨hc.1.trans ?_, hc.2.1.trans ?_, hc.2.2.1.trans ?_, hc.2.2.2⟩
  · rw [e0, e1, e2]
    exact (Cert.LosKernelIdeal.Los.final_3 m c).symm
  · rw [Cert.LosReferenceIdeal.Los.resX, e0, e1, e2]
    exact (Cert.LosKernelIdeal.Los.final_4 m c).symm
  · rw [e0, e1, e2]
    exact (Cert.LosKernelIdeal.Los.final_5 m c).symm

end Cert.Proof
end
-- ==== Proof.LosFrame.lean ====
/-
  The loss head: the reference's own run.
-/
module

public import proofs.«01_k».proof.Defs
public import proofs.«01_k».proof.Proof.Gen.LosReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem los_reference_frame : Cert.quiescent_LosReferenceIdeal (hLosReferenceIdeal := Cert.LosReferenceIdeal.Gen.facts) := by
  intro m g _
  hlo_run
  · intro c; simp only [and_self]
  · exact sem_eq_zero_of_no_sems (sig := Cert.LosReferenceIdeal.sig) (by decide) _

end Cert.Proof
end
-- ==== Proof.AdNClaim.lean ====
/-
  The optimiser's call for the weights of shape 2 by 1024: each grid point's three results are the reference's.
-/
module

public import proofs.«01_k».proof.Defs
public import proofs.«01_k».proof.Proof.Gen.AdNKernelIdeal.Value
public import proofs.«01_k».proof.Proof.Gen.AdNReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdNReferenceIdeal.AdN

open Cert.AdNReferenceIdeal Cert.AdNReferenceIdeal.Gen

/-- The step of the weights. -/
def delta (w : FVec Ideal S2x1024 .f32) (g : FVec Ideal S2x1024 .f32) (m : FVec Ideal S2x1024 .f32) (v : FVec Ideal S2x1024 .f32) : FVec Ideal S2x1024 .f32 :=
  mulf (broadcastInDim S2x1024 ![] bcast_S_S2x1024 (constant S_ .f32 0xBA83126F#32)) (addf (Host.divf (Host.divf (addf (mulf (broadcastInDim S2x1024 ![] bcast_S_S2x1024 (constant S_ .f32 0x3F666666#32)) m) (mulf (broadcastInDim S2x1024 ![] bcast_S_S2x1024 (constant S_ .f32 0x3DCCCCCD#32)) g)) (broadcastInDim S2x1024 ![] bcast_S_S2x1024 (constant S_ .f32 0x3F26BD02#32))) (addf (Host.sqrt (Host.divf (addf (mulf (broadcastInDim S2x1024 ![] bcast_S_S2x1024 (constant S_ .f32 0x3F7FBE77#32)) v) (mulf (broadcastInDim S2x1024 ![] bcast_S_S2x1024 (constant S_ .f32 0x3A83126F#32)) (mulf g g))) (broadcastInDim S2x1024 ![] bcast_S_S2x1024 (constant S_ .f32 0x3C231ACC#32)))) (broadcastInDim S2x1024 ![] bcast_S_S2x1024 (constant S_ .f32 0x322BCC77#32)))) (mulf (broadcastInDim S2x1024 ![] bcast_S_S2x1024 (constant S_ .f32 0x3C23D70A#32)) w))

/-- The new first moment. -/
def mean (g : FVec Ideal S2x1024 .f32) (m : FVec Ideal S2x1024 .f32) : FVec Ideal S2x1024 .f32 :=
  addf (mulf (broadcastInDim S2x1024 ![] bcast_S_S2x1024 (constant S_ .f32 0x3F666666#32)) m) (mulf (broadcastInDim S2x1024 ![] bcast_S_S2x1024 (constant S_ .f32 0x3DCCCCCD#32)) g)

/-- The new second moment. -/
def square (g : FVec Ideal S2x1024 .f32) (v : FVec Ideal S2x1024 .f32) : FVec Ideal S2x1024 .f32 :=
  addf (mulf (broadcastInDim S2x1024 ![] bcast_S_S2x1024 (constant S_ .f32 0x3F7FBE77#32)) v) (mulf (broadcastInDim S2x1024 ![] bcast_S_S2x1024 (constant S_ .f32 0x3A83126F#32)) (mulf g g))

/-- An argument as the kernel's rows. -/
def rows (x : FVec Ideal S2x1024 .f32) : FVec Ideal S2x1024 .f32 := x

end Cert.AdNReferenceIdeal.AdN

namespace Cert.AdNKernelIdeal.AdN

open Cert.AdNKernelIdeal Cert.AdNKernelIdeal.Gen
open Cert.AdNReferenceIdeal.AdN

/-- The step of the weights. Equal at equal arguments. -/
theorem pay4 (w : FVec Ideal S2x1024 .f32) (g : FVec Ideal S2x1024 .f32) (m : FVec Ideal S2x1024 .f32) (v : FVec Ideal S2x1024 .f32) (wb : Vec Ideal S2x1024 .f32) (gb : Vec Ideal S2x1024 .f32) (mb : Vec Ideal S2x1024 .f32) (vb : Vec Ideal S2x1024 .f32) (y : S2x1024.Idx) (i : S2x1024.Idx) (hw : wb y = rows w i) (hg : gb y = rows g i) (hm : mb y = rows m i) (hv : vb y = rows v i) :
    k0_pay3 wb gb mb vb y = delta w g m v i := by
  pointwise [k0_pay1, k0_pay2, k0_pay3, delta]
  rw [hw, hg, hm, hv]
  rfl

/-- The new first moment. Equal at equal arguments. -/
theorem pay5 (g : FVec Ideal S2x1024 .f32) (m : FVec Ideal S2x1024 .f32) (gb : Vec Ideal S2x1024 .f32) (mb : Vec Ideal S2x1024 .f32) (y : S2x1024.Idx) (i : S2x1024.Idx) (hg : gb y = rows g i) (hm : mb y = rows m i) :
    k0_pay1 gb mb y = mean g m i := by
  pointwise [k0_pay1, k0_pay2, k0_pay3, mean]
  rw [hg, hm]
  rfl

/-- The new second moment. Equal at equal arguments. -/
theorem pay6 (g : FVec Ideal S2x1024 .f32) (v : FVec Ideal S2x1024 .f32) (gb : Vec Ideal S2x1024 .f32) (vb : Vec Ideal S2x1024 .f32) (y : S2x1024.Idx) (i : S2x1024.Idx) (hg : gb y = rows g i) (hv : vb y = rows v i) :
    k0_pay2 gb vb y = square g v i := by
  pointwise [k0_pay1, k0_pay2, k0_pay3, square]
  rw [hg, hv]
  rfl

variable (m : (ℓ : Loc nD τ sig) → Buf (Elt Ideal) ℓ) (c : Dev nD) (t : Fin cfg0.N)

abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem lt : t.val < 1 := lt_of_lt_of_eq t.isLt N_0

theorem blk0 (r : Fin 2) (k : Fin 1024) : iblk m c 0 t (ix2 r k) = rows (A1 m c) (ix2 (⟨t.val * 2 + r.val, by have := lt t; omega⟩ : Fin 2) k) := by
  show _ = A1 m c (ix2 (⟨t.val * 2 + r.val, by have := lt t; omega⟩ : Fin 2) k)
  blk_ext! [iblk, V, idx t]

theorem blk1 (r : Fin 2) (k : Fin 1024) : iblk m c 1 t (ix2 r k) = rows (A0 m c) (ix2 (⟨t.val * 2 + r.val, by have := lt t; omega⟩ : Fin 2) k) := by
  show _ = A0 m c (ix2 (⟨t.val * 2 + r.val, by have := lt t; omega⟩ : Fin 2) k)
  blk_ext! [iblk, V, idx t]

theorem blk2 (r : Fin 2) (k : Fin 1024) : iblk m c 2 t (ix2 r k) = rows (A2 m c) (ix2 (⟨t.val * 2 + r.val, by have := lt t; omega⟩ : Fin 2) k) := by
  show _ = A2 m c (ix2 (⟨t.val * 2 + r.val, by have := lt t; omega⟩ : Fin 2) k)
  blk_ext! [iblk, V, idx t]

theorem blk3 (r : Fin 2) (k : Fin 1024) : iblk m c 3 t (ix2 r k) = rows (A3 m c) (ix2 (⟨t.val * 2 + r.val, by have := lt t; omega⟩ : Fin 2) k) := by
  show _ = A3 m c (ix2 (⟨t.val * 2 + r.val, by have := lt t; omega⟩ : Fin 2) k)
  blk_ext! [iblk, V, idx t]

/-- The step of the weights. The whole array. -/
theorem final4 : (dats m 0 c).arrAt 4 (cfgs 0).N = delta (A0 m c) (A1 m c) (A2 m c) (A3 m c) := by
  refine (dats m 0 c).arrAt_eq_of_covers 4 _ (by decide +kernel) fun t hf y => ?_
  obtain ⟨r, k, ey⟩ : ∃ (r : Fin 2) (k : Fin 1024), y = ix2 r k := ⟨y 0, y 1, by blk_ext! []⟩
  have e : ((View.whole main_v0_0).slice (win0_4.rect t)).emb (ix2 r k) = ix2 (⟨t.val * 2 + r.val, by have := lt t; omega⟩ : Fin 2) k := by blk_ext! [idx t]
  blk_simp; rw [after0_4]; frame_out
  rw [ey, e]
  exact pay4 (A0 m c) (A1 m c) (A2 m c) (A3 m c) _ _ _ _ _ _ (blk1 m c t r k) (blk0 m c t r k) (blk2 m c t r k) (blk3 m c t r k)

/-- The new first moment. The whole array. -/
theorem final5 : (dats m 0 c).arrAt 5 (cfgs 0).N = mean (A1 m c) (A2 m c) := by
  refine (dats m 0 c).arrAt_eq_of_covers 5 _ (by decide +kernel) fun t hf y => ?_
  obtain ⟨r, k, ey⟩ : ∃ (r : Fin 2) (k : Fin 1024), y = ix2 r k := ⟨y 0, y 1, by blk_ext! []⟩
  have e : ((View.whole main_v0_1).slice (win0_5.rect t)).emb (ix2 r k) = ix2 (⟨t.val * 2 + r.val, by have := lt t; omega⟩ : Fin 2) k := by blk_ext! [idx t]
  blk_simp; rw [after0_5]; frame_out
  rw [ey, e]
  exact pay5 (A1 m c) (A2 m c) _ _ _ _ (blk0 m c t r k) (blk2 m c t r k)

/-- The new second moment. The whole array. -/
theorem final6 : (dats m 0 c).arrAt 6 (cfgs 0).N = square (A1 m c) (A3 m c) := by
  refine (dats m 0 c).arrAt_eq_of_covers 6 _ (by decide +kernel) fun t hf y => ?_
  obtain ⟨r, k, ey⟩ : ∃ (r : Fin 2) (k : Fin 1024), y = ix2 r k := ⟨y 0, y 1, by blk_ext! []⟩
  have e : ((View.whole main_v0_2).slice (win0_6.rect t)).emb (ix2 r k) = ix2 (⟨t.val * 2 + r.val, by have := lt t; omega⟩ : Fin 2) k := by blk_ext! [idx t]
  blk_simp; rw [after0_6]; frame_out
  rw [ey, e]
  exact pay6 (A1 m c) (A3 m c) _ _ _ _ (blk0 m c t r k) (blk3 m c t r k)

end Cert.AdNKernelIdeal.AdN

set_option maxHeartbeats 1600000

namespace Cert.Proof

/-- The kernel's three results are the reference's, on all extended reals. -/
theorem adN_algebraic : Cert.algebraic_AdNKernelIdeal_AdNReferenceIdeal (hAdNKernelIdeal := Cert.AdNKernelIdeal.Gen.facts) (hAdNReferenceIdeal := Cert.AdNReferenceIdeal.Gen.facts) := by
  intro m g m' g' _ hagree
  refine ⟨fun c => (Cert.AdNKernelIdeal.Gen.dats m 0 c).arrAt 4 (Cert.AdNKernelIdeal.cfgs 0).N, fun c => (Cert.AdNKernelIdeal.Gen.dats m 0 c).arrAt 5 (Cert.AdNKernelIdeal.cfgs 0).N, fun c => (Cert.AdNKernelIdeal.Gen.dats m 0 c).arrAt 6 (Cert.AdNKernelIdeal.cfgs 0).N, Cert.AdNKernelIdeal.Value.run_blocks m g, ?_⟩
  have hr := Cert.AdNReferenceIdeal.Value.run (F := Ideal) m' g'
  refine (θ_run (Cert.AdNReferenceIdeal.defs (F := Ideal)) _ _).mono ?_ hr
  clear hr
  intro r h c
  obtain ⟨e0, e1, e2, e3⟩ := hagree c
  have hc := h c
  refine ⟨hc.1.trans ?_, hc.2.1.trans ?_, hc.2.2.1.trans ?_, hc.2.2.2⟩
  · rw [e0, e1, e2, e3]; exact (Cert.AdNKernelIdeal.AdN.final4 m c).symm
  · rw [e1, e2]; exact (Cert.AdNKernelIdeal.AdN.final5 m c).symm
  · rw [e1, e3]; exact (Cert.AdNKernelIdeal.AdN.final6 m c).symm

end Cert.Proof
end
-- ==== Proof.AdNFrame.lean ====
/-
  The optimiser's call for the weights of shape 2 by 1024: each grid point's three results are the reference's: the reference's own run.
-/
module

public import proofs.«01_k».proof.Defs
public import proofs.«01_k».proof.Proof.Gen.AdNReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem adN_reference_frame : Cert.quiescent_AdNReferenceIdeal (hAdNReferenceIdeal := Cert.AdNReferenceIdeal.Gen.facts) := by
  intro m g _
  hlo_run
  · intro c; simp only [and_self]
  · exact sem_eq_zero_of_no_sems (sig := Cert.AdNReferenceIdeal.sig) (by decide) _

end Cert.Proof
end
-- ==== Proof.AdLClaim.lean ====
/-
  The optimiser's call for the weights of shape 2 by 64 by 64, as 128 rows: each grid point's three results are the reference's.
-/
module

public import proofs.«01_k».proof.Defs
public import proofs.«01_k».proof.Proof.Gen.AdLKernelIdeal.Value
public import proofs.«01_k».proof.Proof.Gen.AdLReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdLReferenceIdeal.AdL

open Cert.AdLReferenceIdeal Cert.AdLReferenceIdeal.Gen

/-- The step of the weights. -/
def delta (w : FVec Ideal S2x64x64 .f32) (g : FVec Ideal S2x64x64 .f32) (m : FVec Ideal S2x64x64 .f32) (v : FVec Ideal S2x64x64 .f32) : FVec Ideal S128x64 .f32 :=
  shapeCast _ (mulf (broadcastInDim S2x64x64 ![] bcast_S_S2x64x64 (constant S_ .f32 0xBA83126F#32)) (addf (Host.divf (Host.divf (addf (mulf (broadcastInDim S2x64x64 ![] bcast_S_S2x64x64 (constant S_ .f32 0x3F666666#32)) m) (mulf (broadcastInDim S2x64x64 ![] bcast_S_S2x64x64 (constant S_ .f32 0x3DCCCCCD#32)) g)) (broadcastInDim S2x64x64 ![] bcast_S_S2x64x64 (constant S_ .f32 0x3F26BD02#32))) (addf (Host.sqrt (Host.divf (addf (mulf (broadcastInDim S2x64x64 ![] bcast_S_S2x64x64 (constant S_ .f32 0x3F7FBE77#32)) v) (mulf (broadcastInDim S2x64x64 ![] bcast_S_S2x64x64 (constant S_ .f32 0x3A83126F#32)) (mulf g g))) (broadcastInDim S2x64x64 ![] bcast_S_S2x64x64 (constant S_ .f32 0x3C231ACC#32)))) (broadcastInDim S2x64x64 ![] bcast_S_S2x64x64 (constant S_ .f32 0x322BCC77#32)))) (mulf (broadcastInDim S2x64x64 ![] bcast_S_S2x64x64 (constant S_ .f32 0x3C23D70A#32)) w))) shapeCasts_S2x64x64_S128x64

/-- The new first moment. -/
def mean (g : FVec Ideal S2x64x64 .f32) (m : FVec Ideal S2x64x64 .f32) : FVec Ideal S128x64 .f32 :=
  shapeCast _ (addf (mulf (broadcastInDim S2x64x64 ![] bcast_S_S2x64x64 (constant S_ .f32 0x3F666666#32)) m) (mulf (broadcastInDim S2x64x64 ![] bcast_S_S2x64x64 (constant S_ .f32 0x3DCCCCCD#32)) g)) shapeCasts_S2x64x64_S128x64

/-- The new second moment. -/
def square (g : FVec Ideal S2x64x64 .f32) (v : FVec Ideal S2x64x64 .f32) : FVec Ideal S128x64 .f32 :=
  shapeCast _ (addf (mulf (broadcastInDim S2x64x64 ![] bcast_S_S2x64x64 (constant S_ .f32 0x3F7FBE77#32)) v) (mulf (broadcastInDim S2x64x64 ![] bcast_S_S2x64x64 (constant S_ .f32 0x3A83126F#32)) (mulf g g))) shapeCasts_S2x64x64_S128x64

/-- An argument as the kernel's rows. -/
def rows (x : FVec Ideal S2x64x64 .f32) : FVec Ideal S128x64 .f32 := shapeCast S128x64 x shapeCasts_S2x64x64_S128x64

end Cert.AdLReferenceIdeal.AdL

namespace Cert.AdLKernelIdeal.AdL

open Cert.AdLKernelIdeal Cert.AdLKernelIdeal.Gen
open Cert.AdLReferenceIdeal.AdL

/-- The step of the weights. Equal at equal arguments. -/
theorem pay4 (w : FVec Ideal S2x64x64 .f32) (g : FVec Ideal S2x64x64 .f32) (m : FVec Ideal S2x64x64 .f32) (v : FVec Ideal S2x64x64 .f32) (wb : Vec Ideal S128x64 .f32) (gb : Vec Ideal S128x64 .f32) (mb : Vec Ideal S128x64 .f32) (vb : Vec Ideal S128x64 .f32) (y : S128x64.Idx) (i : S128x64.Idx) (hw : wb y = rows w i) (hg : gb y = rows g i) (hm : mb y = rows m i) (hv : vb y = rows v i) :
    k0_pay4 wb gb mb vb y = delta w g m v i := by
  pointwise [k0_pay1, k0_pay2, k0_pay3, k0_pay4, delta]
  rw [hw, hg, hm, hv]
  pointwise [rows]

/-- The new first moment. Equal at equal arguments. -/
theorem pay5 (g : FVec Ideal S2x64x64 .f32) (m : FVec Ideal S2x64x64 .f32) (gb : Vec Ideal S128x64 .f32) (mb : Vec Ideal S128x64 .f32) (y : S128x64.Idx) (i : S128x64.Idx) (hg : gb y = rows g i) (hm : mb y = rows m i) :
    k0_pay2 gb mb y = mean g m i := by
  pointwise [k0_pay1, k0_pay2, k0_pay3, k0_pay4, mean]
  rw [hg, hm]
  pointwise [rows]

/-- The new second moment. Equal at equal arguments. -/
theorem pay6 (g : FVec Ideal S2x64x64 .f32) (v : FVec Ideal S2x64x64 .f32) (gb : Vec Ideal S128x64 .f32) (vb : Vec Ideal S128x64 .f32) (y : S128x64.Idx) (i : S128x64.Idx) (hg : gb y = rows g i) (hv : vb y = rows v i) :
    k0_pay3 gb vb y = square g v i := by
  pointwise [k0_pay1, k0_pay2, k0_pay3, k0_pay4, square]
  rw [hg, hv]
  pointwise [rows]

variable (m : (ℓ : Loc nD τ sig) → Buf (Elt Ideal) ℓ) (c : Dev nD) (t : Fin cfg0.N)

abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem lt : t.val < 1 := lt_of_lt_of_eq t.isLt N_0

theorem entry0 (r : Fin 128) (k : Fin 64) : (V m c main_v0 : FVec Ideal S128x64 .f32) (ix2 r k) = rows (A1 m c) (ix2 r k) := by
  show StableHlo.after _ _ _ _ = _
  simp only [List.flatten_cons, List.flatten_nil, List.append_nil, List.cons_append, List.nil_append, hostOps0]
  entry_read
  rfl

theorem blk0 (r : Fin 128) (k : Fin 64) : iblk m c 0 t (ix2 r k) = rows (A1 m c) (ix2 (⟨t.val * 128 + r.val, by have := lt t; omega⟩ : Fin 128) k) := by
  have e : iblk m c 0 t (ix2 r k) = (V m c main_v0 : FVec Ideal S128x64 .f32) (ix2 (⟨t.val * 128 + r.val, by have := lt t; omega⟩ : Fin 128) k) := by blk_ext! [iblk, idx t]
  rw [e, entry0]

theorem entry1 (r : Fin 128) (k : Fin 64) : (V m c main_v1 : FVec Ideal S128x64 .f32) (ix2 r k) = rows (A0 m c) (ix2 r k) := by
  show StableHlo.after _ _ _ _ = _
  simp only [List.flatten_cons, List.flatten_nil, List.append_nil, List.cons_append, List.nil_append, hostOps0]
  entry_read
  rfl

theorem blk1 (r : Fin 128) (k : Fin 64) : iblk m c 1 t (ix2 r k) = rows (A0 m c) (ix2 (⟨t.val * 128 + r.val, by have := lt t; omega⟩ : Fin 128) k) := by
  have e : iblk m c 1 t (ix2 r k) = (V m c main_v1 : FVec Ideal S128x64 .f32) (ix2 (⟨t.val * 128 + r.val, by have := lt t; omega⟩ : Fin 128) k) := by blk_ext! [iblk, idx t]
  rw [e, entry1]

theorem entry2 (r : Fin 128) (k : Fin 64) : (V m c main_v2 : FVec Ideal S128x64 .f32) (ix2 r k) = rows (A2 m c) (ix2 r k) := by
  show StableHlo.after _ _ _ _ = _
  simp only [List.flatten_cons, List.flatten_nil, List.append_nil, List.cons_append, List.nil_append, hostOps0]
  entry_read
  rfl

theorem blk2 (r : Fin 128) (k : Fin 64) : iblk m c 2 t (ix2 r k) = rows (A2 m c) (ix2 (⟨t.val * 128 + r.val, by have := lt t; omega⟩ : Fin 128) k) := by
  have e : iblk m c 2 t (ix2 r k) = (V m c main_v2 : FVec Ideal S128x64 .f32) (ix2 (⟨t.val * 128 + r.val, by have := lt t; omega⟩ : Fin 128) k) := by blk_ext! [iblk, idx t]
  rw [e, entry2]

theorem entry3 (r : Fin 128) (k : Fin 64) : (V m c main_v3 : FVec Ideal S128x64 .f32) (ix2 r k) = rows (A3 m c) (ix2 r k) := by
  show StableHlo.after _ _ _ _ = _
  simp only [List.flatten_cons, List.flatten_nil, List.append_nil, List.cons_append, List.nil_append, hostOps0]
  entry_read
  rfl

theorem blk3 (r : Fin 128) (k : Fin 64) : iblk m c 3 t (ix2 r k) = rows (A3 m c) (ix2 (⟨t.val * 128 + r.val, by have := lt t; omega⟩ : Fin 128) k) := by
  have e : iblk m c 3 t (ix2 r k) = (V m c main_v3 : FVec Ideal S128x64 .f32) (ix2 (⟨t.val * 128 + r.val, by have := lt t; omega⟩ : Fin 128) k) := by blk_ext! [iblk, idx t]
  rw [e, entry3]

/-- The step of the weights. The whole array. -/
theorem final4 : (dats m 0 c).arrAt 4 (cfgs 0).N = delta (A0 m c) (A1 m c) (A2 m c) (A3 m c) := by
  refine (dats m 0 c).arrAt_eq_of_covers 4 _ (by decide +kernel) fun t hf y => ?_
  obtain ⟨r, k, ey⟩ : ∃ (r : Fin 128) (k : Fin 64), y = ix2 r k := ⟨y 0, y 1, by blk_ext! []⟩
  have e : ((View.whole main_v4_0).slice (win0_4.rect t)).emb (ix2 r k) = ix2 (⟨t.val * 128 + r.val, by have := lt t; omega⟩ : Fin 128) k := by blk_ext! [idx t]
  blk_simp; rw [after0_4]; frame_out
  rw [ey, e]
  exact pay4 (A0 m c) (A1 m c) (A2 m c) (A3 m c) _ _ _ _ _ _ (blk1 m c t r k) (blk0 m c t r k) (blk2 m c t r k) (blk3 m c t r k)

/-- The new first moment. The whole array. -/
theorem final5 : (dats m 0 c).arrAt 5 (cfgs 0).N = mean (A1 m c) (A2 m c) := by
  refine (dats m 0 c).arrAt_eq_of_covers 5 _ (by decide +kernel) fun t hf y => ?_
  obtain ⟨r, k, ey⟩ : ∃ (r : Fin 128) (k : Fin 64), y = ix2 r k := ⟨y 0, y 1, by blk_ext! []⟩
  have e : ((View.whole main_v4_1).slice (win0_5.rect t)).emb (ix2 r k) = ix2 (⟨t.val * 128 + r.val, by have := lt t; omega⟩ : Fin 128) k := by blk_ext! [idx t]
  blk_simp; rw [after0_5]; frame_out
  rw [ey, e]
  exact pay5 (A1 m c) (A2 m c) _ _ _ _ (blk0 m c t r k) (blk2 m c t r k)

/-- The new second moment. The whole array. -/
theorem final6 : (dats m 0 c).arrAt 6 (cfgs 0).N = square (A1 m c) (A3 m c) := by
  refine (dats m 0 c).arrAt_eq_of_covers 6 _ (by decide +kernel) fun t hf y => ?_
  obtain ⟨r, k, ey⟩ : ∃ (r : Fin 128) (k : Fin 64), y = ix2 r k := ⟨y 0, y 1, by blk_ext! []⟩
  have e : ((View.whole main_v4_2).slice (win0_6.rect t)).emb (ix2 r k) = ix2 (⟨t.val * 128 + r.val, by have := lt t; omega⟩ : Fin 128) k := by blk_ext! [idx t]
  blk_simp; rw [after0_6]; frame_out
  rw [ey, e]
  exact pay6 (A1 m c) (A3 m c) _ _ _ _ (blk0 m c t r k) (blk3 m c t r k)

end Cert.AdLKernelIdeal.AdL

set_option maxHeartbeats 1600000

namespace Cert.Proof

/-- The kernel's three results are the reference's, on all extended reals. -/
theorem adL_algebraic : Cert.algebraic_AdLKernelIdeal_AdLReferenceIdeal (hAdLKernelIdeal := Cert.AdLKernelIdeal.Gen.facts) (hAdLReferenceIdeal := Cert.AdLReferenceIdeal.Gen.facts) := by
  intro m g m' g' _ hagree
  refine ⟨fun c => (Cert.AdLKernelIdeal.Gen.dats m 0 c).arrAt 4 (Cert.AdLKernelIdeal.cfgs 0).N, fun c => (Cert.AdLKernelIdeal.Gen.dats m 0 c).arrAt 5 (Cert.AdLKernelIdeal.cfgs 0).N, fun c => (Cert.AdLKernelIdeal.Gen.dats m 0 c).arrAt 6 (Cert.AdLKernelIdeal.cfgs 0).N, Cert.AdLKernelIdeal.Value.run_blocks m g, ?_⟩
  have hr := Cert.AdLReferenceIdeal.Value.run (F := Ideal) m' g'
  refine (θ_run (Cert.AdLReferenceIdeal.defs (F := Ideal)) _ _).mono ?_ hr
  clear hr
  intro r h c
  obtain ⟨e0, e1, e2, e3⟩ := hagree c
  have hc := h c
  refine ⟨hc.1.trans ?_, hc.2.1.trans ?_, hc.2.2.1.trans ?_, hc.2.2.2⟩
  · rw [e0, e1, e2, e3]; exact (Cert.AdLKernelIdeal.AdL.final4 m c).symm
  · rw [e1, e2]; exact (Cert.AdLKernelIdeal.AdL.final5 m c).symm
  · rw [e1, e3]; exact (Cert.AdLKernelIdeal.AdL.final6 m c).symm

end Cert.Proof
end
-- ==== Proof.AdLFrame.lean ====
/-
  The optimiser's call for the weights of shape 2 by 64 by 64, as 128 rows: each grid point's three results are the reference's: the reference's own run.
-/
module

public import proofs.«01_k».proof.Defs
public import proofs.«01_k».proof.Proof.Gen.AdLReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem adL_reference_frame : Cert.quiescent_AdLReferenceIdeal (hAdLReferenceIdeal := Cert.AdLReferenceIdeal.Gen.facts) := by
  intro m g _
  hlo_run
  · intro c; simp only [and_self]
  · exact sem_eq_zero_of_no_sems (sig := Cert.AdLReferenceIdeal.sig) (by decide) _

end Cert.Proof
end
-- ==== Proof.AdSClaim.lean ====
/-
  The optimiser's call for the weights of shape 2 by 64: each grid point's three results are the reference's.
-/
module

public import proofs.«01_k».proof.Defs
public import proofs.«01_k».proof.Proof.Gen.AdSKernelIdeal.Value
public import proofs.«01_k».proof.Proof.Gen.AdSReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdSReferenceIdeal.AdS

open Cert.AdSReferenceIdeal Cert.AdSReferenceIdeal.Gen

/-- The step of the weights. -/
def delta (w : FVec Ideal S2x64 .f32) (g : FVec Ideal S2x64 .f32) (m : FVec Ideal S2x64 .f32) (v : FVec Ideal S2x64 .f32) : FVec Ideal S2x64 .f32 :=
  mulf (broadcastInDim S2x64 ![] bcast_S_S2x64 (constant S_ .f32 0xBA83126F#32)) (addf (Host.divf (Host.divf (addf (mulf (broadcastInDim S2x64 ![] bcast_S_S2x64 (constant S_ .f32 0x3F666666#32)) m) (mulf (broadcastInDim S2x64 ![] bcast_S_S2x64 (constant S_ .f32 0x3DCCCCCD#32)) g)) (broadcastInDim S2x64 ![] bcast_S_S2x64 (constant S_ .f32 0x3F26BD02#32))) (addf (Host.sqrt (Host.divf (addf (mulf (broadcastInDim S2x64 ![] bcast_S_S2x64 (constant S_ .f32 0x3F7FBE77#32)) v) (mulf (broadcastInDim S2x64 ![] bcast_S_S2x64 (constant S_ .f32 0x3A83126F#32)) (mulf g g))) (broadcastInDim S2x64 ![] bcast_S_S2x64 (constant S_ .f32 0x3C231ACC#32)))) (broadcastInDim S2x64 ![] bcast_S_S2x64 (constant S_ .f32 0x322BCC77#32)))) (mulf (broadcastInDim S2x64 ![] bcast_S_S2x64 (constant S_ .f32 0x3C23D70A#32)) w))

/-- The new first moment. -/
def mean (g : FVec Ideal S2x64 .f32) (m : FVec Ideal S2x64 .f32) : FVec Ideal S2x64 .f32 :=
  addf (mulf (broadcastInDim S2x64 ![] bcast_S_S2x64 (constant S_ .f32 0x3F666666#32)) m) (mulf (broadcastInDim S2x64 ![] bcast_S_S2x64 (constant S_ .f32 0x3DCCCCCD#32)) g)

/-- The new second moment. -/
def square (g : FVec Ideal S2x64 .f32) (v : FVec Ideal S2x64 .f32) : FVec Ideal S2x64 .f32 :=
  addf (mulf (broadcastInDim S2x64 ![] bcast_S_S2x64 (constant S_ .f32 0x3F7FBE77#32)) v) (mulf (broadcastInDim S2x64 ![] bcast_S_S2x64 (constant S_ .f32 0x3A83126F#32)) (mulf g g))

/-- An argument as the kernel's rows. -/
def rows (x : FVec Ideal S2x64 .f32) : FVec Ideal S2x64 .f32 := x

end Cert.AdSReferenceIdeal.AdS

namespace Cert.AdSKernelIdeal.AdS

open Cert.AdSKernelIdeal Cert.AdSKernelIdeal.Gen
open Cert.AdSReferenceIdeal.AdS

/-- The step of the weights. Equal at equal arguments. -/
theorem pay4 (w : FVec Ideal S2x64 .f32) (g : FVec Ideal S2x64 .f32) (m : FVec Ideal S2x64 .f32) (v : FVec Ideal S2x64 .f32) (wb : Vec Ideal S2x64 .f32) (gb : Vec Ideal S2x64 .f32) (mb : Vec Ideal S2x64 .f32) (vb : Vec Ideal S2x64 .f32) (y : S2x64.Idx) (i : S2x64.Idx) (hw : wb y = rows w i) (hg : gb y = rows g i) (hm : mb y = rows m i) (hv : vb y = rows v i) :
    k0_pay3 wb gb mb vb y = delta w g m v i := by
  pointwise [k0_pay1, k0_pay2, k0_pay3, delta]
  rw [hw, hg, hm, hv]
  rfl

/-- The new first moment. Equal at equal arguments. -/
theorem pay5 (g : FVec Ideal S2x64 .f32) (m : FVec Ideal S2x64 .f32) (gb : Vec Ideal S2x64 .f32) (mb : Vec Ideal S2x64 .f32) (y : S2x64.Idx) (i : S2x64.Idx) (hg : gb y = rows g i) (hm : mb y = rows m i) :
    k0_pay1 gb mb y = mean g m i := by
  pointwise [k0_pay1, k0_pay2, k0_pay3, mean]
  rw [hg, hm]
  rfl

/-- The new second moment. Equal at equal arguments. -/
theorem pay6 (g : FVec Ideal S2x64 .f32) (v : FVec Ideal S2x64 .f32) (gb : Vec Ideal S2x64 .f32) (vb : Vec Ideal S2x64 .f32) (y : S2x64.Idx) (i : S2x64.Idx) (hg : gb y = rows g i) (hv : vb y = rows v i) :
    k0_pay2 gb vb y = square g v i := by
  pointwise [k0_pay1, k0_pay2, k0_pay3, square]
  rw [hg, hv]
  rfl

variable (m : (ℓ : Loc nD τ sig) → Buf (Elt Ideal) ℓ) (c : Dev nD) (t : Fin cfg0.N)

abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem lt : t.val < 1 := lt_of_lt_of_eq t.isLt N_0

theorem blk0 (r : Fin 2) (k : Fin 64) : iblk m c 0 t (ix2 r k) = rows (A1 m c) (ix2 (⟨t.val * 2 + r.val, by have := lt t; omega⟩ : Fin 2) k) := by
  show _ = A1 m c (ix2 (⟨t.val * 2 + r.val, by have := lt t; omega⟩ : Fin 2) k)
  blk_ext! [iblk, V, idx t]

theorem blk1 (r : Fin 2) (k : Fin 64) : iblk m c 1 t (ix2 r k) = rows (A0 m c) (ix2 (⟨t.val * 2 + r.val, by have := lt t; omega⟩ : Fin 2) k) := by
  show _ = A0 m c (ix2 (⟨t.val * 2 + r.val, by have := lt t; omega⟩ : Fin 2) k)
  blk_ext! [iblk, V, idx t]

theorem blk2 (r : Fin 2) (k : Fin 64) : iblk m c 2 t (ix2 r k) = rows (A2 m c) (ix2 (⟨t.val * 2 + r.val, by have := lt t; omega⟩ : Fin 2) k) := by
  show _ = A2 m c (ix2 (⟨t.val * 2 + r.val, by have := lt t; omega⟩ : Fin 2) k)
  blk_ext! [iblk, V, idx t]

theorem blk3 (r : Fin 2) (k : Fin 64) : iblk m c 3 t (ix2 r k) = rows (A3 m c) (ix2 (⟨t.val * 2 + r.val, by have := lt t; omega⟩ : Fin 2) k) := by
  show _ = A3 m c (ix2 (⟨t.val * 2 + r.val, by have := lt t; omega⟩ : Fin 2) k)
  blk_ext! [iblk, V, idx t]

/-- The step of the weights. The whole array. -/
theorem final4 : (dats m 0 c).arrAt 4 (cfgs 0).N = delta (A0 m c) (A1 m c) (A2 m c) (A3 m c) := by
  refine (dats m 0 c).arrAt_eq_of_covers 4 _ (by decide +kernel) fun t hf y => ?_
  obtain ⟨r, k, ey⟩ : ∃ (r : Fin 2) (k : Fin 64), y = ix2 r k := ⟨y 0, y 1, by blk_ext! []⟩
  have e : ((View.whole main_v0_0).slice (win0_4.rect t)).emb (ix2 r k) = ix2 (⟨t.val * 2 + r.val, by have := lt t; omega⟩ : Fin 2) k := by blk_ext! [idx t]
  blk_simp; rw [after0_4]; frame_out
  rw [ey, e]
  exact pay4 (A0 m c) (A1 m c) (A2 m c) (A3 m c) _ _ _ _ _ _ (blk1 m c t r k) (blk0 m c t r k) (blk2 m c t r k) (blk3 m c t r k)

/-- The new first moment. The whole array. -/
theorem final5 : (dats m 0 c).arrAt 5 (cfgs 0).N = mean (A1 m c) (A2 m c) := by
  refine (dats m 0 c).arrAt_eq_of_covers 5 _ (by decide +kernel) fun t hf y => ?_
  obtain ⟨r, k, ey⟩ : ∃ (r : Fin 2) (k : Fin 64), y = ix2 r k := ⟨y 0, y 1, by blk_ext! []⟩
  have e : ((View.whole main_v0_1).slice (win0_5.rect t)).emb (ix2 r k) = ix2 (⟨t.val * 2 + r.val, by have := lt t; omega⟩ : Fin 2) k := by blk_ext! [idx t]
  blk_simp; rw [after0_5]; frame_out
  rw [ey, e]
  exact pay5 (A1 m c) (A2 m c) _ _ _ _ (blk0 m c t r k) (blk2 m c t r k)

/-- The new second moment. The whole array. -/
theorem final6 : (dats m 0 c).arrAt 6 (cfgs 0).N = square (A1 m c) (A3 m c) := by
  refine (dats m 0 c).arrAt_eq_of_covers 6 _ (by decide +kernel) fun t hf y => ?_
  obtain ⟨r, k, ey⟩ : ∃ (r : Fin 2) (k : Fin 64), y = ix2 r k := ⟨y 0, y 1, by blk_ext! []⟩
  have e : ((View.whole main_v0_2).slice (win0_6.rect t)).emb (ix2 r k) = ix2 (⟨t.val * 2 + r.val, by have := lt t; omega⟩ : Fin 2) k := by blk_ext! [idx t]
  blk_simp; rw [after0_6]; frame_out
  rw [ey, e]
  exact pay6 (A1 m c) (A3 m c) _ _ _ _ (blk0 m c t r k) (blk3 m c t r k)

end Cert.AdSKernelIdeal.AdS

set_option maxHeartbeats 1600000

namespace Cert.Proof

/-- The kernel's three results are the reference's, on all extended reals. -/
theorem adS_algebraic : Cert.algebraic_AdSKernelIdeal_AdSReferenceIdeal (hAdSKernelIdeal := Cert.AdSKernelIdeal.Gen.facts) (hAdSReferenceIdeal := Cert.AdSReferenceIdeal.Gen.facts) := by
  intro m g m' g' _ hagree
  refine ⟨fun c => (Cert.AdSKernelIdeal.Gen.dats m 0 c).arrAt 4 (Cert.AdSKernelIdeal.cfgs 0).N, fun c => (Cert.AdSKernelIdeal.Gen.dats m 0 c).arrAt 5 (Cert.AdSKernelIdeal.cfgs 0).N, fun c => (Cert.AdSKernelIdeal.Gen.dats m 0 c).arrAt 6 (Cert.AdSKernelIdeal.cfgs 0).N, Cert.AdSKernelIdeal.Value.run_blocks m g, ?_⟩
  have hr := Cert.AdSReferenceIdeal.Value.run (F := Ideal) m' g'
  refine (θ_run (Cert.AdSReferenceIdeal.defs (F := Ideal)) _ _).mono ?_ hr
  clear hr
  intro r h c
  obtain ⟨e0, e1, e2, e3⟩ := hagree c
  have hc := h c
  refine ⟨hc.1.trans ?_, hc.2.1.trans ?_, hc.2.2.1.trans ?_, hc.2.2.2⟩
  · rw [e0, e1, e2, e3]; exact (Cert.AdSKernelIdeal.AdS.final4 m c).symm
  · rw [e1, e2]; exact (Cert.AdSKernelIdeal.AdS.final5 m c).symm
  · rw [e1, e3]; exact (Cert.AdSKernelIdeal.AdS.final6 m c).symm

end Cert.Proof
end
-- ==== Proof.AdSFrame.lean ====
/-
  The optimiser's call for the weights of shape 2 by 64: each grid point's three results are the reference's: the reference's own run.
-/
module

public import proofs.«01_k».proof.Defs
public import proofs.«01_k».proof.Proof.Gen.AdSReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem adS_reference_frame : Cert.quiescent_AdSReferenceIdeal (hAdSReferenceIdeal := Cert.AdSReferenceIdeal.Gen.facts) := by
  intro m g _
  hlo_run
  · intro c; simp only [and_self]
  · exact sem_eq_zero_of_no_sems (sig := Cert.AdSReferenceIdeal.sig) (by decide) _

end Cert.Proof
end
-- ==== Proof.AdBClaim.lean ====
/-
  The optimiser's call for the weights of shape 2 by 64 by 64 by 16, as 8192 rows, 1024 of them per grid point: each grid point's three results are the reference's.
-/
module

public import proofs.«01_k».proof.Defs
public import proofs.«01_k».proof.Proof.Gen.AdBKernelIdeal.Value
public import proofs.«01_k».proof.Proof.Gen.AdBReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdBReferenceIdeal.AdB

open Cert.AdBReferenceIdeal Cert.AdBReferenceIdeal.Gen

/-- The step of the weights. -/
def delta (w : FVec Ideal S2x64x64x16 .f32) (g : FVec Ideal S2x64x64x16 .f32) (m : FVec Ideal S2x64x64x16 .f32) (v : FVec Ideal S2x64x64x16 .f32) : FVec Ideal S8192x16 .f32 :=
  shapeCast _ (mulf (broadcastInDim S2x64x64x16 ![] bcast_S_S2x64x64x16 (constant S_ .f32 0xBA83126F#32)) (addf (Host.divf (Host.divf (addf (mulf (broadcastInDim S2x64x64x16 ![] bcast_S_S2x64x64x16 (constant S_ .f32 0x3F666666#32)) m) (mulf (broadcastInDim S2x64x64x16 ![] bcast_S_S2x64x64x16 (constant S_ .f32 0x3DCCCCCD#32)) g)) (broadcastInDim S2x64x64x16 ![] bcast_S_S2x64x64x16 (constant S_ .f32 0x3F26BD02#32))) (addf (Host.sqrt (Host.divf (addf (mulf (broadcastInDim S2x64x64x16 ![] bcast_S_S2x64x64x16 (constant S_ .f32 0x3F7FBE77#32)) v) (mulf (broadcastInDim S2x64x64x16 ![] bcast_S_S2x64x64x16 (constant S_ .f32 0x3A83126F#32)) (mulf g g))) (broadcastInDim S2x64x64x16 ![] bcast_S_S2x64x64x16 (constant S_ .f32 0x3C231ACC#32)))) (broadcastInDim S2x64x64x16 ![] bcast_S_S2x64x64x16 (constant S_ .f32 0x322BCC77#32)))) (mulf (broadcastInDim S2x64x64x16 ![] bcast_S_S2x64x64x16 (constant S_ .f32 0x3C23D70A#32)) w))) shapeCasts_S2x64x64x16_S8192x16

/-- The new first moment. -/
def mean (g : FVec Ideal S2x64x64x16 .f32) (m : FVec Ideal S2x64x64x16 .f32) : FVec Ideal S8192x16 .f32 :=
  shapeCast _ (addf (mulf (broadcastInDim S2x64x64x16 ![] bcast_S_S2x64x64x16 (constant S_ .f32 0x3F666666#32)) m) (mulf (broadcastInDim S2x64x64x16 ![] bcast_S_S2x64x64x16 (constant S_ .f32 0x3DCCCCCD#32)) g)) shapeCasts_S2x64x64x16_S8192x16

/-- The new second moment. -/
def square (g : FVec Ideal S2x64x64x16 .f32) (v : FVec Ideal S2x64x64x16 .f32) : FVec Ideal S8192x16 .f32 :=
  shapeCast _ (addf (mulf (broadcastInDim S2x64x64x16 ![] bcast_S_S2x64x64x16 (constant S_ .f32 0x3F7FBE77#32)) v) (mulf (broadcastInDim S2x64x64x16 ![] bcast_S_S2x64x64x16 (constant S_ .f32 0x3A83126F#32)) (mulf g g))) shapeCasts_S2x64x64x16_S8192x16

/-- An argument as the kernel's rows. -/
def rows (x : FVec Ideal S2x64x64x16 .f32) : FVec Ideal S8192x16 .f32 := shapeCast S8192x16 x shapeCasts_S2x64x64x16_S8192x16

end Cert.AdBReferenceIdeal.AdB

namespace Cert.AdBKernelIdeal.AdB

open Cert.AdBKernelIdeal Cert.AdBKernelIdeal.Gen
open Cert.AdBReferenceIdeal.AdB

/-- The step of the weights. Equal at equal arguments. -/
theorem pay4 (w : FVec Ideal S2x64x64x16 .f32) (g : FVec Ideal S2x64x64x16 .f32) (m : FVec Ideal S2x64x64x16 .f32) (v : FVec Ideal S2x64x64x16 .f32) (wb : Vec Ideal S1024x16 .f32) (gb : Vec Ideal S1024x16 .f32) (mb : Vec Ideal S1024x16 .f32) (vb : Vec Ideal S1024x16 .f32) (y : S1024x16.Idx) (i : S8192x16.Idx) (hw : wb y = rows w i) (hg : gb y = rows g i) (hm : mb y = rows m i) (hv : vb y = rows v i) :
    k0_pay4 wb gb mb vb y = delta w g m v i := by
  pointwise [k0_pay1, k0_pay2, k0_pay3, k0_pay4, delta]
  rw [hw, hg, hm, hv]
  pointwise [rows]

/-- The new first moment. Equal at equal arguments. -/
theorem pay5 (g : FVec Ideal S2x64x64x16 .f32) (m : FVec Ideal S2x64x64x16 .f32) (gb : Vec Ideal S1024x16 .f32) (mb : Vec Ideal S1024x16 .f32) (y : S1024x16.Idx) (i : S8192x16.Idx) (hg : gb y = rows g i) (hm : mb y = rows m i) :
    k0_pay2 gb mb y = mean g m i := by
  pointwise [k0_pay1, k0_pay2, k0_pay3, k0_pay4, mean]
  rw [hg, hm]
  pointwise [rows]

/-- The new second moment. Equal at equal arguments. -/
theorem pay6 (g : FVec Ideal S2x64x64x16 .f32) (v : FVec Ideal S2x64x64x16 .f32) (gb : Vec Ideal S1024x16 .f32) (vb : Vec Ideal S1024x16 .f32) (y : S1024x16.Idx) (i : S8192x16.Idx) (hg : gb y = rows g i) (hv : vb y = rows v i) :
    k0_pay3 gb vb y = square g v i := by
  pointwise [k0_pay1, k0_pay2, k0_pay3, k0_pay4, square]
  rw [hg, hv]
  pointwise [rows]

variable (m : (ℓ : Loc nD τ sig) → Buf (Elt Ideal) ℓ) (c : Dev nD) (t : Fin cfg0.N)

abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem lt : t.val < 8 := lt_of_lt_of_eq t.isLt N_0

theorem entry0 (r : Fin 8192) (k : Fin 16) : (V m c main_v0 : FVec Ideal S8192x16 .f32) (ix2 r k) = rows (A1 m c) (ix2 r k) := by
  show StableHlo.after _ _ _ _ = _
  simp only [List.flatten_cons, List.flatten_nil, List.append_nil, List.cons_append, List.nil_append, hostOps0]
  entry_read
  rfl

theorem blk0 (r : Fin 1024) (k : Fin 16) : iblk m c 0 t (ix2 r k) = rows (A1 m c) (ix2 (⟨t.val * 1024 + r.val, by have := lt t; omega⟩ : Fin 8192) k) := by
  have e : iblk m c 0 t (ix2 r k) = (V m c main_v0 : FVec Ideal S8192x16 .f32) (ix2 (⟨t.val * 1024 + r.val, by have := lt t; omega⟩ : Fin 8192) k) := by blk_ext! [iblk, idx t]
  rw [e, entry0]

theorem entry1 (r : Fin 8192) (k : Fin 16) : (V m c main_v1 : FVec Ideal S8192x16 .f32) (ix2 r k) = rows (A0 m c) (ix2 r k) := by
  show StableHlo.after _ _ _ _ = _
  simp only [List.flatten_cons, List.flatten_nil, List.append_nil, List.cons_append, List.nil_append, hostOps0]
  entry_read
  rfl

theorem blk1 (r : Fin 1024) (k : Fin 16) : iblk m c 1 t (ix2 r k) = rows (A0 m c) (ix2 (⟨t.val * 1024 + r.val, by have := lt t; omega⟩ : Fin 8192) k) := by
  have e : iblk m c 1 t (ix2 r k) = (V m c main_v1 : FVec Ideal S8192x16 .f32) (ix2 (⟨t.val * 1024 + r.val, by have := lt t; omega⟩ : Fin 8192) k) := by blk_ext! [iblk, idx t]
  rw [e, entry1]

theorem entry2 (r : Fin 8192) (k : Fin 16) : (V m c main_v2 : FVec Ideal S8192x16 .f32) (ix2 r k) = rows (A2 m c) (ix2 r k) := by
  show StableHlo.after _ _ _ _ = _
  simp only [List.flatten_cons, List.flatten_nil, List.append_nil, List.cons_append, List.nil_append, hostOps0]
  entry_read
  rfl

theorem blk2 (r : Fin 1024) (k : Fin 16) : iblk m c 2 t (ix2 r k) = rows (A2 m c) (ix2 (⟨t.val * 1024 + r.val, by have := lt t; omega⟩ : Fin 8192) k) := by
  have e : iblk m c 2 t (ix2 r k) = (V m c main_v2 : FVec Ideal S8192x16 .f32) (ix2 (⟨t.val * 1024 + r.val, by have := lt t; omega⟩ : Fin 8192) k) := by blk_ext! [iblk, idx t]
  rw [e, entry2]

theorem entry3 (r : Fin 8192) (k : Fin 16) : (V m c main_v3 : FVec Ideal S8192x16 .f32) (ix2 r k) = rows (A3 m c) (ix2 r k) := by
  show StableHlo.after _ _ _ _ = _
  simp only [List.flatten_cons, List.flatten_nil, List.append_nil, List.cons_append, List.nil_append, hostOps0]
  entry_read
  rfl

theorem blk3 (r : Fin 1024) (k : Fin 16) : iblk m c 3 t (ix2 r k) = rows (A3 m c) (ix2 (⟨t.val * 1024 + r.val, by have := lt t; omega⟩ : Fin 8192) k) := by
  have e : iblk m c 3 t (ix2 r k) = (V m c main_v3 : FVec Ideal S8192x16 .f32) (ix2 (⟨t.val * 1024 + r.val, by have := lt t; omega⟩ : Fin 8192) k) := by blk_ext! [iblk, idx t]
  rw [e, entry3]

/-- The step of the weights. The whole array. -/
theorem final4 : (dats m 0 c).arrAt 4 (cfgs 0).N = delta (A0 m c) (A1 m c) (A2 m c) (A3 m c) := by
  refine (dats m 0 c).arrAt_eq_of_covers 4 _ (by decide +kernel) fun t hf y => ?_
  obtain ⟨r, k, ey⟩ : ∃ (r : Fin 1024) (k : Fin 16), y = ix2 r k := ⟨y 0, y 1, by blk_ext! []⟩
  have e : ((View.whole main_v4_0).slice (win0_4.rect t)).emb (ix2 r k) = ix2 (⟨t.val * 1024 + r.val, by have := lt t; omega⟩ : Fin 8192) k := by blk_ext! [idx t]
  blk_simp; rw [after0_4]; frame_out
  rw [ey, e]
  exact pay4 (A0 m c) (A1 m c) (A2 m c) (A3 m c) _ _ _ _ _ _ (blk1 m c t r k) (blk0 m c t r k) (blk2 m c t r k) (blk3 m c t r k)

/-- The new first moment. The whole array. -/
theorem final5 : (dats m 0 c).arrAt 5 (cfgs 0).N = mean (A1 m c) (A2 m c) := by
  refine (dats m 0 c).arrAt_eq_of_covers 5 _ (by decide +kernel) fun t hf y => ?_
  obtain ⟨r, k, ey⟩ : ∃ (r : Fin 1024) (k : Fin 16), y = ix2 r k := ⟨y 0, y 1, by blk_ext! []⟩
  have e : ((View.whole main_v4_1).slice (win0_5.rect t)).emb (ix2 r k) = ix2 (⟨t.val * 1024 + r.val, by have := lt t; omega⟩ : Fin 8192) k := by blk_ext! [idx t]
  blk_simp; rw [after0_5]; frame_out
  rw [ey, e]
  exact pay5 (A1 m c) (A2 m c) _ _ _ _ (blk0 m c t r k) (blk2 m c t r k)

/-- The new second moment. The whole array. -/
theorem final6 : (dats m 0 c).arrAt 6 (cfgs 0).N = square (A1 m c) (A3 m c) := by
  refine (dats m 0 c).arrAt_eq_of_covers 6 _ (by decide +kernel) fun t hf y => ?_
  obtain ⟨r, k, ey⟩ : ∃ (r : Fin 1024) (k : Fin 16), y = ix2 r k := ⟨y 0, y 1, by blk_ext! []⟩
  have e : ((View.whole main_v4_2).slice (win0_6.rect t)).emb (ix2 r k) = ix2 (⟨t.val * 1024 + r.val, by have := lt t; omega⟩ : Fin 8192) k := by blk_ext! [idx t]
  blk_simp; rw [after0_6]; frame_out
  rw [ey, e]
  exact pay6 (A1 m c) (A3 m c) _ _ _ _ (blk0 m c t r k) (blk3 m c t r k)

end Cert.AdBKernelIdeal.AdB

set_option maxHeartbeats 1600000

namespace Cert.Proof

/-- The kernel's three results are the reference's, on all extended reals. -/
theorem adB_algebraic : Cert.algebraic_AdBKernelIdeal_AdBReferenceIdeal (hAdBKernelIdeal := Cert.AdBKernelIdeal.Gen.facts) (hAdBReferenceIdeal := Cert.AdBReferenceIdeal.Gen.facts) := by
  intro m g m' g' _ hagree
  refine ⟨fun c => (Cert.AdBKernelIdeal.Gen.dats m 0 c).arrAt 4 (Cert.AdBKernelIdeal.cfgs 0).N, fun c => (Cert.AdBKernelIdeal.Gen.dats m 0 c).arrAt 5 (Cert.AdBKernelIdeal.cfgs 0).N, fun c => (Cert.AdBKernelIdeal.Gen.dats m 0 c).arrAt 6 (Cert.AdBKernelIdeal.cfgs 0).N, Cert.AdBKernelIdeal.Value.run_blocks m g, ?_⟩
  have hr := Cert.AdBReferenceIdeal.Value.run (F := Ideal) m' g'
  refine (θ_run (Cert.AdBReferenceIdeal.defs (F := Ideal)) _ _).mono ?_ hr
  clear hr
  intro r h c
  obtain ⟨e0, e1, e2, e3⟩ := hagree c
  have hc := h c
  refine ⟨hc.1.trans ?_, hc.2.1.trans ?_, hc.2.2.1.trans ?_, hc.2.2.2⟩
  · rw [e0, e1, e2, e3]; exact (Cert.AdBKernelIdeal.AdB.final4 m c).symm
  · rw [e1, e2]; exact (Cert.AdBKernelIdeal.AdB.final5 m c).symm
  · rw [e1, e3]; exact (Cert.AdBKernelIdeal.AdB.final6 m c).symm

end Cert.Proof
end
-- ==== Proof.AdBFrame.lean ====
/-
  The optimiser's call for the weights of shape 2 by 64 by 64 by 16, as 8192 rows, 1024 of them per grid point: each grid point's three results are the reference's: the reference's own run.
-/
module

public import proofs.«01_k».proof.Defs
public import proofs.«01_k».proof.Proof.Gen.AdBReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem adB_reference_frame : Cert.quiescent_AdBReferenceIdeal (hAdBReferenceIdeal := Cert.AdBReferenceIdeal.Gen.facts) := by
  intro m g _
  hlo_run
  · intro c; simp only [and_self]
  · exact sem_eq_zero_of_no_sems (sig := Cert.AdBReferenceIdeal.sig) (by decide) _

end Cert.Proof
end
-- ==== Proof.AdCClaim.lean ====
/-
  The optimiser's call for the weights of shape 2 by 64 by 16 by 64, as 2048 rows, 1024 of them per grid point: each grid point's three results are the reference's.
-/
module

public import proofs.«01_k».proof.Defs
public import proofs.«01_k».proof.Proof.Gen.AdCKernelIdeal.Value
public import proofs.«01_k».proof.Proof.Gen.AdCReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdCReferenceIdeal.AdC

open Cert.AdCReferenceIdeal Cert.AdCReferenceIdeal.Gen

/-- The step of the weights. -/
def delta (w : FVec Ideal S2x64x16x64 .f32) (g : FVec Ideal S2x64x16x64 .f32) (m : FVec Ideal S2x64x16x64 .f32) (v : FVec Ideal S2x64x16x64 .f32) : FVec Ideal S2048x64 .f32 :=
  shapeCast _ (mulf (broadcastInDim S2x64x16x64 ![] bcast_S_S2x64x16x64 (constant S_ .f32 0xBA83126F#32)) (addf (Host.divf (Host.divf (addf (mulf (broadcastInDim S2x64x16x64 ![] bcast_S_S2x64x16x64 (constant S_ .f32 0x3F666666#32)) m) (mulf (broadcastInDim S2x64x16x64 ![] bcast_S_S2x64x16x64 (constant S_ .f32 0x3DCCCCCD#32)) g)) (broadcastInDim S2x64x16x64 ![] bcast_S_S2x64x16x64 (constant S_ .f32 0x3F26BD02#32))) (addf (Host.sqrt (Host.divf (addf (mulf (broadcastInDim S2x64x16x64 ![] bcast_S_S2x64x16x64 (constant S_ .f32 0x3F7FBE77#32)) v) (mulf (broadcastInDim S2x64x16x64 ![] bcast_S_S2x64x16x64 (constant S_ .f32 0x3A83126F#32)) (mulf g g))) (broadcastInDim S2x64x16x64 ![] bcast_S_S2x64x16x64 (constant S_ .f32 0x3C231ACC#32)))) (broadcastInDim S2x64x16x64 ![] bcast_S_S2x64x16x64 (constant S_ .f32 0x322BCC77#32)))) (mulf (broadcastInDim S2x64x16x64 ![] bcast_S_S2x64x16x64 (constant S_ .f32 0x3C23D70A#32)) w))) shapeCasts_S2x64x16x64_S2048x64

/-- The new first moment. -/
def mean (g : FVec Ideal S2x64x16x64 .f32) (m : FVec Ideal S2x64x16x64 .f32) : FVec Ideal S2048x64 .f32 :=
  shapeCast _ (addf (mulf (broadcastInDim S2x64x16x64 ![] bcast_S_S2x64x16x64 (constant S_ .f32 0x3F666666#32)) m) (mulf (broadcastInDim S2x64x16x64 ![] bcast_S_S2x64x16x64 (constant S_ .f32 0x3DCCCCCD#32)) g)) shapeCasts_S2x64x16x64_S2048x64

/-- The new second moment. -/
def square (g : FVec Ideal S2x64x16x64 .f32) (v : FVec Ideal S2x64x16x64 .f32) : FVec Ideal S2048x64 .f32 :=
  shapeCast _ (addf (mulf (broadcastInDim S2x64x16x64 ![] bcast_S_S2x64x16x64 (constant S_ .f32 0x3F7FBE77#32)) v) (mulf (broadcastInDim S2x64x16x64 ![] bcast_S_S2x64x16x64 (constant S_ .f32 0x3A83126F#32)) (mulf g g))) shapeCasts_S2x64x16x64_S2048x64

/-- An argument as the kernel's rows. -/
def rows (x : FVec Ideal S2x64x16x64 .f32) : FVec Ideal S2048x64 .f32 := shapeCast S2048x64 x shapeCasts_S2x64x16x64_S2048x64

end Cert.AdCReferenceIdeal.AdC

namespace Cert.AdCKernelIdeal.AdC

open Cert.AdCKernelIdeal Cert.AdCKernelIdeal.Gen
open Cert.AdCReferenceIdeal.AdC

/-- The step of the weights. Equal at equal arguments. -/
theorem pay4 (w : FVec Ideal S2x64x16x64 .f32) (g : FVec Ideal S2x64x16x64 .f32) (m : FVec Ideal S2x64x16x64 .f32) (v : FVec Ideal S2x64x16x64 .f32) (wb : Vec Ideal S1024x64 .f32) (gb : Vec Ideal S1024x64 .f32) (mb : Vec Ideal S1024x64 .f32) (vb : Vec Ideal S1024x64 .f32) (y : S1024x64.Idx) (i : S2048x64.Idx) (hw : wb y = rows w i) (hg : gb y = rows g i) (hm : mb y = rows m i) (hv : vb y = rows v i) :
    k0_pay4 wb gb mb vb y = delta w g m v i := by
  pointwise [k0_pay1, k0_pay2, k0_pay3, k0_pay4, delta]
  rw [hw, hg, hm, hv]
  pointwise [rows]

/-- The new first moment. Equal at equal arguments. -/
theorem pay5 (g : FVec Ideal S2x64x16x64 .f32) (m : FVec Ideal S2x64x16x64 .f32) (gb : Vec Ideal S1024x64 .f32) (mb : Vec Ideal S1024x64 .f32) (y : S1024x64.Idx) (i : S2048x64.Idx) (hg : gb y = rows g i) (hm : mb y = rows m i) :
    k0_pay2 gb mb y = mean g m i := by
  pointwise [k0_pay1, k0_pay2, k0_pay3, k0_pay4, mean]
  rw [hg, hm]
  pointwise [rows]

/-- The new second moment. Equal at equal arguments. -/
theorem pay6 (g : FVec Ideal S2x64x16x64 .f32) (v : FVec Ideal S2x64x16x64 .f32) (gb : Vec Ideal S1024x64 .f32) (vb : Vec Ideal S1024x64 .f32) (y : S1024x64.Idx) (i : S2048x64.Idx) (hg : gb y = rows g i) (hv : vb y = rows v i) :
    k0_pay3 gb vb y = square g v i := by
  pointwise [k0_pay1, k0_pay2, k0_pay3, k0_pay4, square]
  rw [hg, hv]
  pointwise [rows]

variable (m : (ℓ : Loc nD τ sig) → Buf (Elt Ideal) ℓ) (c : Dev nD) (t : Fin cfg0.N)

abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem lt : t.val < 2 := lt_of_lt_of_eq t.isLt N_0

theorem entry0 (r : Fin 2048) (k : Fin 64) : (V m c main_v0 : FVec Ideal S2048x64 .f32) (ix2 r k) = rows (A1 m c) (ix2 r k) := by
  show StableHlo.after _ _ _ _ = _
  simp only [List.flatten_cons, List.flatten_nil, List.append_nil, List.cons_append, List.nil_append, hostOps0]
  entry_read
  rfl

theorem blk0 (r : Fin 1024) (k : Fin 64) : iblk m c 0 t (ix2 r k) = rows (A1 m c) (ix2 (⟨t.val * 1024 + r.val, by have := lt t; omega⟩ : Fin 2048) k) := by
  have e : iblk m c 0 t (ix2 r k) = (V m c main_v0 : FVec Ideal S2048x64 .f32) (ix2 (⟨t.val * 1024 + r.val, by have := lt t; omega⟩ : Fin 2048) k) := by blk_ext! [iblk, idx t]
  rw [e, entry0]

theorem entry1 (r : Fin 2048) (k : Fin 64) : (V m c main_v1 : FVec Ideal S2048x64 .f32) (ix2 r k) = rows (A0 m c) (ix2 r k) := by
  show StableHlo.after _ _ _ _ = _
  simp only [List.flatten_cons, List.flatten_nil, List.append_nil, List.cons_append, List.nil_append, hostOps0]
  entry_read
  rfl

theorem blk1 (r : Fin 1024) (k : Fin 64) : iblk m c 1 t (ix2 r k) = rows (A0 m c) (ix2 (⟨t.val * 1024 + r.val, by have := lt t; omega⟩ : Fin 2048) k) := by
  have e : iblk m c 1 t (ix2 r k) = (V m c main_v1 : FVec Ideal S2048x64 .f32) (ix2 (⟨t.val * 1024 + r.val, by have := lt t; omega⟩ : Fin 2048) k) := by blk_ext! [iblk, idx t]
  rw [e, entry1]

theorem entry2 (r : Fin 2048) (k : Fin 64) : (V m c main_v2 : FVec Ideal S2048x64 .f32) (ix2 r k) = rows (A2 m c) (ix2 r k) := by
  show StableHlo.after _ _ _ _ = _
  simp only [List.flatten_cons, List.flatten_nil, List.append_nil, List.cons_append, List.nil_append, hostOps0]
  entry_read
  rfl

theorem blk2 (r : Fin 1024) (k : Fin 64) : iblk m c 2 t (ix2 r k) = rows (A2 m c) (ix2 (⟨t.val * 1024 + r.val, by have := lt t; omega⟩ : Fin 2048) k) := by
  have e : iblk m c 2 t (ix2 r k) = (V m c main_v2 : FVec Ideal S2048x64 .f32) (ix2 (⟨t.val * 1024 + r.val, by have := lt t; omega⟩ : Fin 2048) k) := by blk_ext! [iblk, idx t]
  rw [e, entry2]

theorem entry3 (r : Fin 2048) (k : Fin 64) : (V m c main_v3 : FVec Ideal S2048x64 .f32) (ix2 r k) = rows (A3 m c) (ix2 r k) := by
  show StableHlo.after _ _ _ _ = _
  simp only [List.flatten_cons, List.flatten_nil, List.append_nil, List.cons_append, List.nil_append, hostOps0]
  entry_read
  rfl

theorem blk3 (r : Fin 1024) (k : Fin 64) : iblk m c 3 t (ix2 r k) = rows (A3 m c) (ix2 (⟨t.val * 1024 + r.val, by have := lt t; omega⟩ : Fin 2048) k) := by
  have e : iblk m c 3 t (ix2 r k) = (V m c main_v3 : FVec Ideal S2048x64 .f32) (ix2 (⟨t.val * 1024 + r.val, by have := lt t; omega⟩ : Fin 2048) k) := by blk_ext! [iblk, idx t]
  rw [e, entry3]

/-- The step of the weights. The whole array. -/
theorem final4 : (dats m 0 c).arrAt 4 (cfgs 0).N = delta (A0 m c) (A1 m c) (A2 m c) (A3 m c) := by
  refine (dats m 0 c).arrAt_eq_of_covers 4 _ (by decide +kernel) fun t hf y => ?_
  obtain ⟨r, k, ey⟩ : ∃ (r : Fin 1024) (k : Fin 64), y = ix2 r k := ⟨y 0, y 1, by blk_ext! []⟩
  have e : ((View.whole main_v4_0).slice (win0_4.rect t)).emb (ix2 r k) = ix2 (⟨t.val * 1024 + r.val, by have := lt t; omega⟩ : Fin 2048) k := by blk_ext! [idx t]
  blk_simp; rw [after0_4]; frame_out
  rw [ey, e]
  exact pay4 (A0 m c) (A1 m c) (A2 m c) (A3 m c) _ _ _ _ _ _ (blk1 m c t r k) (blk0 m c t r k) (blk2 m c t r k) (blk3 m c t r k)

/-- The new first moment. The whole array. -/
theorem final5 : (dats m 0 c).arrAt 5 (cfgs 0).N = mean (A1 m c) (A2 m c) := by
  refine (dats m 0 c).arrAt_eq_of_covers 5 _ (by decide +kernel) fun t hf y => ?_
  obtain ⟨r, k, ey⟩ : ∃ (r : Fin 1024) (k : Fin 64), y = ix2 r k := ⟨y 0, y 1, by blk_ext! []⟩
  have e : ((View.whole main_v4_1).slice (win0_5.rect t)).emb (ix2 r k) = ix2 (⟨t.val * 1024 + r.val, by have := lt t; omega⟩ : Fin 2048) k := by blk_ext! [idx t]
  blk_simp; rw [after0_5]; frame_out
  rw [ey, e]
  exact pay5 (A1 m c) (A2 m c) _ _ _ _ (blk0 m c t r k) (blk2 m c t r k)

/-- The new second moment. The whole array. -/
theorem final6 : (dats m 0 c).arrAt 6 (cfgs 0).N = square (A1 m c) (A3 m c) := by
  refine (dats m 0 c).arrAt_eq_of_covers 6 _ (by decide +kernel) fun t hf y => ?_
  obtain ⟨r, k, ey⟩ : ∃ (r : Fin 1024) (k : Fin 64), y = ix2 r k := ⟨y 0, y 1, by blk_ext! []⟩
  have e : ((View.whole main_v4_2).slice (win0_6.rect t)).emb (ix2 r k) = ix2 (⟨t.val * 1024 + r.val, by have := lt t; omega⟩ : Fin 2048) k := by blk_ext! [idx t]
  blk_simp; rw [after0_6]; frame_out
  rw [ey, e]
  exact pay6 (A1 m c) (A3 m c) _ _ _ _ (blk0 m c t r k) (blk3 m c t r k)

end Cert.AdCKernelIdeal.AdC

set_option maxHeartbeats 1600000

namespace Cert.Proof

/-- The kernel's three results are the reference's, on all extended reals. -/
theorem adC_algebraic : Cert.algebraic_AdCKernelIdeal_AdCReferenceIdeal (hAdCKernelIdeal := Cert.AdCKernelIdeal.Gen.facts) (hAdCReferenceIdeal := Cert.AdCReferenceIdeal.Gen.facts) := by
  intro m g m' g' _ hagree
  refine ⟨fun c => (Cert.AdCKernelIdeal.Gen.dats m 0 c).arrAt 4 (Cert.AdCKernelIdeal.cfgs 0).N, fun c => (Cert.AdCKernelIdeal.Gen.dats m 0 c).arrAt 5 (Cert.AdCKernelIdeal.cfgs 0).N, fun c => (Cert.AdCKernelIdeal.Gen.dats m 0 c).arrAt 6 (Cert.AdCKernelIdeal.cfgs 0).N, Cert.AdCKernelIdeal.Value.run_blocks m g, ?_⟩
  have hr := Cert.AdCReferenceIdeal.Value.run (F := Ideal) m' g'
  refine (θ_run (Cert.AdCReferenceIdeal.defs (F := Ideal)) _ _).mono ?_ hr
  clear hr
  intro r h c
  obtain ⟨e0, e1, e2, e3⟩ := hagree c
  have hc := h c
  refine ⟨hc.1.trans ?_, hc.2.1.trans ?_, hc.2.2.1.trans ?_, hc.2.2.2⟩
  · rw [e0, e1, e2, e3]; exact (Cert.AdCKernelIdeal.AdC.final4 m c).symm
  · rw [e1, e2]; exact (Cert.AdCKernelIdeal.AdC.final5 m c).symm
  · rw [e1, e3]; exact (Cert.AdCKernelIdeal.AdC.final6 m c).symm

end Cert.Proof
end
-- ==== Proof.AdCFrame.lean ====
/-
  The optimiser's call for the weights of shape 2 by 64 by 16 by 64, as 2048 rows, 1024 of them per grid point: each grid point's three results are the reference's: the reference's own run.
-/
module

public import proofs.«01_k».proof.Defs
public import proofs.«01_k».proof.Proof.Gen.AdCReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem adC_reference_frame : Cert.quiescent_AdCReferenceIdeal (hAdCReferenceIdeal := Cert.AdCReferenceIdeal.Gen.facts) := by
  intro m g _
  hlo_run
  · intro c; simp only [and_self]
  · exact sem_eq_zero_of_no_sems (sig := Cert.AdCReferenceIdeal.sig) (by decide) _

end Cert.Proof
end
-- ==== Proof.AdVClaim.lean ====
/-
  The optimiser's call for the weights of shape 2 by 1536: each grid point's three results are the reference's.
-/
module

public import proofs.«01_k».proof.Defs
public import proofs.«01_k».proof.Proof.Gen.AdVKernelIdeal.Value
public import proofs.«01_k».proof.Proof.Gen.AdVReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdVReferenceIdeal.AdV

open Cert.AdVReferenceIdeal Cert.AdVReferenceIdeal.Gen

/-- The step of the weights. -/
def delta (w : FVec Ideal S2x1536 .f32) (g : FVec Ideal S2x1536 .f32) (m : FVec Ideal S2x1536 .f32) (v : FVec Ideal S2x1536 .f32) : FVec Ideal S2x1536 .f32 :=
  mulf (broadcastInDim S2x1536 ![] bcast_S_S2x1536 (constant S_ .f32 0xBA83126F#32)) (addf (Host.divf (Host.divf (addf (mulf (broadcastInDim S2x1536 ![] bcast_S_S2x1536 (constant S_ .f32 0x3F666666#32)) m) (mulf (broadcastInDim S2x1536 ![] bcast_S_S2x1536 (constant S_ .f32 0x3DCCCCCD#32)) g)) (broadcastInDim S2x1536 ![] bcast_S_S2x1536 (constant S_ .f32 0x3F26BD02#32))) (addf (Host.sqrt (Host.divf (addf (mulf (broadcastInDim S2x1536 ![] bcast_S_S2x1536 (constant S_ .f32 0x3F7FBE77#32)) v) (mulf (broadcastInDim S2x1536 ![] bcast_S_S2x1536 (constant S_ .f32 0x3A83126F#32)) (mulf g g))) (broadcastInDim S2x1536 ![] bcast_S_S2x1536 (constant S_ .f32 0x3C231ACC#32)))) (broadcastInDim S2x1536 ![] bcast_S_S2x1536 (constant S_ .f32 0x322BCC77#32)))) (mulf (broadcastInDim S2x1536 ![] bcast_S_S2x1536 (constant S_ .f32 0x3C23D70A#32)) w))

/-- The new first moment. -/
def mean (g : FVec Ideal S2x1536 .f32) (m : FVec Ideal S2x1536 .f32) : FVec Ideal S2x1536 .f32 :=
  addf (mulf (broadcastInDim S2x1536 ![] bcast_S_S2x1536 (constant S_ .f32 0x3F666666#32)) m) (mulf (broadcastInDim S2x1536 ![] bcast_S_S2x1536 (constant S_ .f32 0x3DCCCCCD#32)) g)

/-- The new second moment. -/
def square (g : FVec Ideal S2x1536 .f32) (v : FVec Ideal S2x1536 .f32) : FVec Ideal S2x1536 .f32 :=
  addf (mulf (broadcastInDim S2x1536 ![] bcast_S_S2x1536 (constant S_ .f32 0x3F7FBE77#32)) v) (mulf (broadcastInDim S2x1536 ![] bcast_S_S2x1536 (constant S_ .f32 0x3A83126F#32)) (mulf g g))

/-- An argument as the kernel's rows. -/
def rows (x : FVec Ideal S2x1536 .f32) : FVec Ideal S2x1536 .f32 := x

end Cert.AdVReferenceIdeal.AdV

namespace Cert.AdVKernelIdeal.AdV

open Cert.AdVKernelIdeal Cert.AdVKernelIdeal.Gen
open Cert.AdVReferenceIdeal.AdV

/-- The step of the weights. Equal at equal arguments. -/
theorem pay4 (w : FVec Ideal S2x1536 .f32) (g : FVec Ideal S2x1536 .f32) (m : FVec Ideal S2x1536 .f32) (v : FVec Ideal S2x1536 .f32) (wb : Vec Ideal S2x1536 .f32) (gb : Vec Ideal S2x1536 .f32) (mb : Vec Ideal S2x1536 .f32) (vb : Vec Ideal S2x1536 .f32) (y : S2x1536.Idx) (i : S2x1536.Idx) (hw : wb y = rows w i) (hg : gb y = rows g i) (hm : mb y = rows m i) (hv : vb y = rows v i) :
    k0_pay3 wb gb mb vb y = delta w g m v i := by
  pointwise [k0_pay1, k0_pay2, k0_pay3, delta]
  rw [hw, hg, hm, hv]
  rfl

/-- The new first moment. Equal at equal arguments. -/
theorem pay5 (g : FVec Ideal S2x1536 .f32) (m : FVec Ideal S2x1536 .f32) (gb : Vec Ideal S2x1536 .f32) (mb : Vec Ideal S2x1536 .f32) (y : S2x1536.Idx) (i : S2x1536.Idx) (hg : gb y = rows g i) (hm : mb y = rows m i) :
    k0_pay1 gb mb y = mean g m i := by
  pointwise [k0_pay1, k0_pay2, k0_pay3, mean]
  rw [hg, hm]
  rfl

/-- The new second moment. Equal at equal arguments. -/
theorem pay6 (g : FVec Ideal S2x1536 .f32) (v : FVec Ideal S2x1536 .f32) (gb : Vec Ideal S2x1536 .f32) (vb : Vec Ideal S2x1536 .f32) (y : S2x1536.Idx) (i : S2x1536.Idx) (hg : gb y = rows g i) (hv : vb y = rows v i) :
    k0_pay2 gb vb y = square g v i := by
  pointwise [k0_pay1, k0_pay2, k0_pay3, square]
  rw [hg, hv]
  rfl

variable (m : (ℓ : Loc nD τ sig) → Buf (Elt Ideal) ℓ) (c : Dev nD) (t : Fin cfg0.N)

abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem lt : t.val < 1 := lt_of_lt_of_eq t.isLt N_0

theorem blk0 (r : Fin 2) (k : Fin 1536) : iblk m c 0 t (ix2 r k) = rows (A1 m c) (ix2 (⟨t.val * 2 + r.val, by have := lt t; omega⟩ : Fin 2) k) := by
  show _ = A1 m c (ix2 (⟨t.val * 2 + r.val, by have := lt t; omega⟩ : Fin 2) k)
  blk_ext! [iblk, V, idx t]

theorem blk1 (r : Fin 2) (k : Fin 1536) : iblk m c 1 t (ix2 r k) = rows (A0 m c) (ix2 (⟨t.val * 2 + r.val, by have := lt t; omega⟩ : Fin 2) k) := by
  show _ = A0 m c (ix2 (⟨t.val * 2 + r.val, by have := lt t; omega⟩ : Fin 2) k)
  blk_ext! [iblk, V, idx t]

theorem blk2 (r : Fin 2) (k : Fin 1536) : iblk m c 2 t (ix2 r k) = rows (A2 m c) (ix2 (⟨t.val * 2 + r.val, by have := lt t; omega⟩ : Fin 2) k) := by
  show _ = A2 m c (ix2 (⟨t.val * 2 + r.val, by have := lt t; omega⟩ : Fin 2) k)
  blk_ext! [iblk, V, idx t]

theorem blk3 (r : Fin 2) (k : Fin 1536) : iblk m c 3 t (ix2 r k) = rows (A3 m c) (ix2 (⟨t.val * 2 + r.val, by have := lt t; omega⟩ : Fin 2) k) := by
  show _ = A3 m c (ix2 (⟨t.val * 2 + r.val, by have := lt t; omega⟩ : Fin 2) k)
  blk_ext! [iblk, V, idx t]

/-- The step of the weights. The whole array. -/
theorem final4 : (dats m 0 c).arrAt 4 (cfgs 0).N = delta (A0 m c) (A1 m c) (A2 m c) (A3 m c) := by
  refine (dats m 0 c).arrAt_eq_of_covers 4 _ (by decide +kernel) fun t hf y => ?_
  obtain ⟨r, k, ey⟩ : ∃ (r : Fin 2) (k : Fin 1536), y = ix2 r k := ⟨y 0, y 1, by blk_ext! []⟩
  have e : ((View.whole main_v0_0).slice (win0_4.rect t)).emb (ix2 r k) = ix2 (⟨t.val * 2 + r.val, by have := lt t; omega⟩ : Fin 2) k := by blk_ext! [idx t]
  blk_simp; rw [after0_4]; frame_out
  rw [ey, e]
  exact pay4 (A0 m c) (A1 m c) (A2 m c) (A3 m c) _ _ _ _ _ _ (blk1 m c t r k) (blk0 m c t r k) (blk2 m c t r k) (blk3 m c t r k)

/-- The new first moment. The whole array. -/
theorem final5 : (dats m 0 c).arrAt 5 (cfgs 0).N = mean (A1 m c) (A2 m c) := by
  refine (dats m 0 c).arrAt_eq_of_covers 5 _ (by decide +kernel) fun t hf y => ?_
  obtain ⟨r, k, ey⟩ : ∃ (r : Fin 2) (k : Fin 1536), y = ix2 r k := ⟨y 0, y 1, by blk_ext! []⟩
  have e : ((View.whole main_v0_1).slice (win0_5.rect t)).emb (ix2 r k) = ix2 (⟨t.val * 2 + r.val, by have := lt t; omega⟩ : Fin 2) k := by blk_ext! [idx t]
  blk_simp; rw [after0_5]; frame_out
  rw [ey, e]
  exact pay5 (A1 m c) (A2 m c) _ _ _ _ (blk0 m c t r k) (blk2 m c t r k)

/-- The new second moment. The whole array. -/
theorem final6 : (dats m 0 c).arrAt 6 (cfgs 0).N = square (A1 m c) (A3 m c) := by
  refine (dats m 0 c).arrAt_eq_of_covers 6 _ (by decide +kernel) fun t hf y => ?_
  obtain ⟨r, k, ey⟩ : ∃ (r : Fin 2) (k : Fin 1536), y = ix2 r k := ⟨y 0, y 1, by blk_ext! []⟩
  have e : ((View.whole main_v0_2).slice (win0_6.rect t)).emb (ix2 r k) = ix2 (⟨t.val * 2 + r.val, by have := lt t; omega⟩ : Fin 2) k := by blk_ext! [idx t]
  blk_simp; rw [after0_6]; frame_out
  rw [ey, e]
  exact pay6 (A1 m c) (A3 m c) _ _ _ _ (blk0 m c t r k) (blk3 m c t r k)

end Cert.AdVKernelIdeal.AdV

set_option maxHeartbeats 1600000

namespace Cert.Proof

/-- The kernel's three results are the reference's, on all extended reals. -/
theorem adV_algebraic : Cert.algebraic_AdVKernelIdeal_AdVReferenceIdeal (hAdVKernelIdeal := Cert.AdVKernelIdeal.Gen.facts) (hAdVReferenceIdeal := Cert.AdVReferenceIdeal.Gen.facts) := by
  intro m g m' g' _ hagree
  refine ⟨fun c => (Cert.AdVKernelIdeal.Gen.dats m 0 c).arrAt 4 (Cert.AdVKernelIdeal.cfgs 0).N, fun c => (Cert.AdVKernelIdeal.Gen.dats m 0 c).arrAt 5 (Cert.AdVKernelIdeal.cfgs 0).N, fun c => (Cert.AdVKernelIdeal.Gen.dats m 0 c).arrAt 6 (Cert.AdVKernelIdeal.cfgs 0).N, Cert.AdVKernelIdeal.Value.run_blocks m g, ?_⟩
  have hr := Cert.AdVReferenceIdeal.Value.run (F := Ideal) m' g'
  refine (θ_run (Cert.AdVReferenceIdeal.defs (F := Ideal)) _ _).mono ?_ hr
  clear hr
  intro r h c
  obtain ⟨e0, e1, e2, e3⟩ := hagree c
  have hc := h c
  refine ⟨hc.1.trans ?_, hc.2.1.trans ?_, hc.2.2.1.trans ?_, hc.2.2.2⟩
  · rw [e0, e1, e2, e3]; exact (Cert.AdVKernelIdeal.AdV.final4 m c).symm
  · rw [e1, e2]; exact (Cert.AdVKernelIdeal.AdV.final5 m c).symm
  · rw [e1, e3]; exact (Cert.AdVKernelIdeal.AdV.final6 m c).symm

end Cert.Proof
end
-- ==== Proof.AdVFrame.lean ====
/-
  The optimiser's call for the weights of shape 2 by 1536: each grid point's three results are the reference's: the reference's own run.
-/
module

public import proofs.«01_k».proof.Defs
public import proofs.«01_k».proof.Proof.Gen.AdVReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem adV_reference_frame : Cert.quiescent_AdVReferenceIdeal (hAdVReferenceIdeal := Cert.AdVReferenceIdeal.Gen.facts) := by
  intro m g _
  hlo_run
  · intro c; simp only [and_self]
  · exact sem_eq_zero_of_no_sems (sig := Cert.AdVReferenceIdeal.sig) (by decide) _

end Cert.Proof
end
-- ==== Proof.AdHClaim.lean ====
/-
  The optimiser's call for the weights of shape 2 by 16: each grid point's three results are the reference's.
-/
module

public import proofs.«01_k».proof.Defs
public import proofs.«01_k».proof.Proof.Gen.AdHKernelIdeal.Value
public import proofs.«01_k».proof.Proof.Gen.AdHReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdHReferenceIdeal.AdH

open Cert.AdHReferenceIdeal Cert.AdHReferenceIdeal.Gen

/-- The step of the weights. -/
def delta (w : FVec Ideal S2x16 .f32) (g : FVec Ideal S2x16 .f32) (m : FVec Ideal S2x16 .f32) (v : FVec Ideal S2x16 .f32) : FVec Ideal S2x16 .f32 :=
  mulf (broadcastInDim S2x16 ![] bcast_S_S2x16 (constant S_ .f32 0xBA83126F#32)) (addf (Host.divf (Host.divf (addf (mulf (broadcastInDim S2x16 ![] bcast_S_S2x16 (constant S_ .f32 0x3F666666#32)) m) (mulf (broadcastInDim S2x16 ![] bcast_S_S2x16 (constant S_ .f32 0x3DCCCCCD#32)) g)) (broadcastInDim S2x16 ![] bcast_S_S2x16 (constant S_ .f32 0x3F26BD02#32))) (addf (Host.sqrt (Host.divf (addf (mulf (broadcastInDim S2x16 ![] bcast_S_S2x16 (constant S_ .f32 0x3F7FBE77#32)) v) (mulf (broadcastInDim S2x16 ![] bcast_S_S2x16 (constant S_ .f32 0x3A83126F#32)) (mulf g g))) (broadcastInDim S2x16 ![] bcast_S_S2x16 (constant S_ .f32 0x3C231ACC#32)))) (broadcastInDim S2x16 ![] bcast_S_S2x16 (constant S_ .f32 0x322BCC77#32)))) (mulf (broadcastInDim S2x16 ![] bcast_S_S2x16 (constant S_ .f32 0x3C23D70A#32)) w))

/-- The new first moment. -/
def mean (g : FVec Ideal S2x16 .f32) (m : FVec Ideal S2x16 .f32) : FVec Ideal S2x16 .f32 :=
  addf (mulf (broadcastInDim S2x16 ![] bcast_S_S2x16 (constant S_ .f32 0x3F666666#32)) m) (mulf (broadcastInDim S2x16 ![] bcast_S_S2x16 (constant S_ .f32 0x3DCCCCCD#32)) g)

/-- The new second moment. -/
def square (g : FVec Ideal S2x16 .f32) (v : FVec Ideal S2x16 .f32) : FVec Ideal S2x16 .f32 :=
  addf (mulf (broadcastInDim S2x16 ![] bcast_S_S2x16 (constant S_ .f32 0x3F7FBE77#32)) v) (mulf (broadcastInDim S2x16 ![] bcast_S_S2x16 (constant S_ .f32 0x3A83126F#32)) (mulf g g))

/-- An argument as the kernel's rows. -/
def rows (x : FVec Ideal S2x16 .f32) : FVec Ideal S2x16 .f32 := x

end Cert.AdHReferenceIdeal.AdH

namespace Cert.AdHKernelIdeal.AdH

open Cert.AdHKernelIdeal Cert.AdHKernelIdeal.Gen
open Cert.AdHReferenceIdeal.AdH

/-- The step of the weights. Equal at equal arguments. -/
theorem pay4 (w : FVec Ideal S2x16 .f32) (g : FVec Ideal S2x16 .f32) (m : FVec Ideal S2x16 .f32) (v : FVec Ideal S2x16 .f32) (wb : Vec Ideal S2x16 .f32) (gb : Vec Ideal S2x16 .f32) (mb : Vec Ideal S2x16 .f32) (vb : Vec Ideal S2x16 .f32) (y : S2x16.Idx) (i : S2x16.Idx) (hw : wb y = rows w i) (hg : gb y = rows g i) (hm : mb y = rows m i) (hv : vb y = rows v i) :
    k0_pay3 wb gb mb vb y = delta w g m v i := by
  pointwise [k0_pay1, k0_pay2, k0_pay3, delta]
  rw [hw, hg, hm, hv]
  rfl

/-- The new first moment. Equal at equal arguments. -/
theorem pay5 (g : FVec Ideal S2x16 .f32) (m : FVec Ideal S2x16 .f32) (gb : Vec Ideal S2x16 .f32) (mb : Vec Ideal S2x16 .f32) (y : S2x16.Idx) (i : S2x16.Idx) (hg : gb y = rows g i) (hm : mb y = rows m i) :
    k0_pay1 gb mb y = mean g m i := by
  pointwise [k0_pay1, k0_pay2, k0_pay3, mean]
  rw [hg, hm]
  rfl

/-- The new second moment. Equal at equal arguments. -/
theorem pay6 (g : FVec Ideal S2x16 .f32) (v : FVec Ideal S2x16 .f32) (gb : Vec Ideal S2x16 .f32) (vb : Vec Ideal S2x16 .f32) (y : S2x16.Idx) (i : S2x16.Idx) (hg : gb y = rows g i) (hv : vb y = rows v i) :
    k0_pay2 gb vb y = square g v i := by
  pointwise [k0_pay1, k0_pay2, k0_pay3, square]
  rw [hg, hv]
  rfl

variable (m : (ℓ : Loc nD τ sig) → Buf (Elt Ideal) ℓ) (c : Dev nD) (t : Fin cfg0.N)

abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem lt : t.val < 1 := lt_of_lt_of_eq t.isLt N_0

theorem blk0 (r : Fin 2) (k : Fin 16) : iblk m c 0 t (ix2 r k) = rows (A1 m c) (ix2 (⟨t.val * 2 + r.val, by have := lt t; omega⟩ : Fin 2) k) := by
  show _ = A1 m c (ix2 (⟨t.val * 2 + r.val, by have := lt t; omega⟩ : Fin 2) k)
  blk_ext! [iblk, V, idx t]

theorem blk1 (r : Fin 2) (k : Fin 16) : iblk m c 1 t (ix2 r k) = rows (A0 m c) (ix2 (⟨t.val * 2 + r.val, by have := lt t; omega⟩ : Fin 2) k) := by
  show _ = A0 m c (ix2 (⟨t.val * 2 + r.val, by have := lt t; omega⟩ : Fin 2) k)
  blk_ext! [iblk, V, idx t]

theorem blk2 (r : Fin 2) (k : Fin 16) : iblk m c 2 t (ix2 r k) = rows (A2 m c) (ix2 (⟨t.val * 2 + r.val, by have := lt t; omega⟩ : Fin 2) k) := by
  show _ = A2 m c (ix2 (⟨t.val * 2 + r.val, by have := lt t; omega⟩ : Fin 2) k)
  blk_ext! [iblk, V, idx t]

theorem blk3 (r : Fin 2) (k : Fin 16) : iblk m c 3 t (ix2 r k) = rows (A3 m c) (ix2 (⟨t.val * 2 + r.val, by have := lt t; omega⟩ : Fin 2) k) := by
  show _ = A3 m c (ix2 (⟨t.val * 2 + r.val, by have := lt t; omega⟩ : Fin 2) k)
  blk_ext! [iblk, V, idx t]

/-- The step of the weights. The whole array. -/
theorem final4 : (dats m 0 c).arrAt 4 (cfgs 0).N = delta (A0 m c) (A1 m c) (A2 m c) (A3 m c) := by
  refine (dats m 0 c).arrAt_eq_of_covers 4 _ (by decide +kernel) fun t hf y => ?_
  obtain ⟨r, k, ey⟩ : ∃ (r : Fin 2) (k : Fin 16), y = ix2 r k := ⟨y 0, y 1, by blk_ext! []⟩
  have e : ((View.whole main_v0_0).slice (win0_4.rect t)).emb (ix2 r k) = ix2 (⟨t.val * 2 + r.val, by have := lt t; omega⟩ : Fin 2) k := by blk_ext! [idx t]
  blk_simp; rw [after0_4]; frame_out
  rw [ey, e]
  exact pay4 (A0 m c) (A1 m c) (A2 m c) (A3 m c) _ _ _ _ _ _ (blk1 m c t r k) (blk0 m c t r k) (blk2 m c t r k) (blk3 m c t r k)

/-- The new first moment. The whole array. -/
theorem final5 : (dats m 0 c).arrAt 5 (cfgs 0).N = mean (A1 m c) (A2 m c) := by
  refine (dats m 0 c).arrAt_eq_of_covers 5 _ (by decide +kernel) fun t hf y => ?_
  obtain ⟨r, k, ey⟩ : ∃ (r : Fin 2) (k : Fin 16), y = ix2 r k := ⟨y 0, y 1, by blk_ext! []⟩
  have e : ((View.whole main_v0_1).slice (win0_5.rect t)).emb (ix2 r k) = ix2 (⟨t.val * 2 + r.val, by have := lt t; omega⟩ : Fin 2) k := by blk_ext! [idx t]
  blk_simp; rw [after0_5]; frame_out
  rw [ey, e]
  exact pay5 (A1 m c) (A2 m c) _ _ _ _ (blk0 m c t r k) (blk2 m c t r k)

/-- The new second moment. The whole array. -/
theorem final6 : (dats m 0 c).arrAt 6 (cfgs 0).N = square (A1 m c) (A3 m c) := by
  refine (dats m 0 c).arrAt_eq_of_covers 6 _ (by decide +kernel) fun t hf y => ?_
  obtain ⟨r, k, ey⟩ : ∃ (r : Fin 2) (k : Fin 16), y = ix2 r k := ⟨y 0, y 1, by blk_ext! []⟩
  have e : ((View.whole main_v0_2).slice (win0_6.rect t)).emb (ix2 r k) = ix2 (⟨t.val * 2 + r.val, by have := lt t; omega⟩ : Fin 2) k := by blk_ext! [idx t]
  blk_simp; rw [after0_6]; frame_out
  rw [ey, e]
  exact pay6 (A1 m c) (A3 m c) _ _ _ _ (blk0 m c t r k) (blk3 m c t r k)

end Cert.AdHKernelIdeal.AdH

set_option maxHeartbeats 1600000

namespace Cert.Proof

/-- The kernel's three results are the reference's, on all extended reals. -/
theorem adH_algebraic : Cert.algebraic_AdHKernelIdeal_AdHReferenceIdeal (hAdHKernelIdeal := Cert.AdHKernelIdeal.Gen.facts) (hAdHReferenceIdeal := Cert.AdHReferenceIdeal.Gen.facts) := by
  intro m g m' g' _ hagree
  refine ⟨fun c => (Cert.AdHKernelIdeal.Gen.dats m 0 c).arrAt 4 (Cert.AdHKernelIdeal.cfgs 0).N, fun c => (Cert.AdHKernelIdeal.Gen.dats m 0 c).arrAt 5 (Cert.AdHKernelIdeal.cfgs 0).N, fun c => (Cert.AdHKernelIdeal.Gen.dats m 0 c).arrAt 6 (Cert.AdHKernelIdeal.cfgs 0).N, Cert.AdHKernelIdeal.Value.run_blocks m g, ?_⟩
  have hr := Cert.AdHReferenceIdeal.Value.run (F := Ideal) m' g'
  refine (θ_run (Cert.AdHReferenceIdeal.defs (F := Ideal)) _ _).mono ?_ hr
  clear hr
  intro r h c
  obtain ⟨e0, e1, e2, e3⟩ := hagree c
  have hc := h c
  refine ⟨hc.1.trans ?_, hc.2.1.trans ?_, hc.2.2.1.trans ?_, hc.2.2.2⟩
  · rw [e0, e1, e2, e3]; exact (Cert.AdHKernelIdeal.AdH.final4 m c).symm
  · rw [e1, e2]; exact (Cert.AdHKernelIdeal.AdH.final5 m c).symm
  · rw [e1, e3]; exact (Cert.AdHKernelIdeal.AdH.final6 m c).symm

end Cert.Proof
end
-- ==== Proof.AdHFrame.lean ====
/-
  The optimiser's call for the weights of shape 2 by 16: each grid point's three results are the reference's: the reference's own run.
-/
module

public import proofs.«01_k».proof.Defs
public import proofs.«01_k».proof.Proof.Gen.AdHReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem adH_reference_frame : Cert.quiescent_AdHReferenceIdeal (hAdHReferenceIdeal := Cert.AdHReferenceIdeal.Gen.facts) := by
  intro m g _
  hlo_run
  · intro c; simp only [and_self]
  · exact sem_eq_zero_of_no_sems (sig := Cert.AdHReferenceIdeal.sig) (by decide) _

end Cert.Proof
end
-- ==== Proof.AdFClaim.lean ====
/-
  The optimiser's call for the weight of shape 1024, as one row: each grid point's three results are the reference's.
-/
module

public import proofs.«01_k».proof.Defs
public import proofs.«01_k».proof.Proof.Gen.AdFKernelIdeal.Value
public import proofs.«01_k».proof.Proof.Gen.AdFReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdFReferenceIdeal.AdF

open Cert.AdFReferenceIdeal Cert.AdFReferenceIdeal.Gen

/-- The step of the weights. -/
def delta (w : FVec Ideal S1024 .f32) (g : FVec Ideal S1024 .f32) (m : FVec Ideal S1024 .f32) (v : FVec Ideal S1024 .f32) : FVec Ideal S1x1024 .f32 :=
  shapeCast _ (mulf (broadcastInDim S1024 ![] bcast_S_S1024 (constant S_ .f32 0xBA83126F#32)) (addf (Host.divf (Host.divf (addf (mulf (broadcastInDim S1024 ![] bcast_S_S1024 (constant S_ .f32 0x3F666666#32)) m) (mulf (broadcastInDim S1024 ![] bcast_S_S1024 (constant S_ .f32 0x3DCCCCCD#32)) g)) (broadcastInDim S1024 ![] bcast_S_S1024 (constant S_ .f32 0x3F26BD02#32))) (addf (Host.sqrt (Host.divf (addf (mulf (broadcastInDim S1024 ![] bcast_S_S1024 (constant S_ .f32 0x3F7FBE77#32)) v) (mulf (broadcastInDim S1024 ![] bcast_S_S1024 (constant S_ .f32 0x3A83126F#32)) (mulf g g))) (broadcastInDim S1024 ![] bcast_S_S1024 (constant S_ .f32 0x3C231ACC#32)))) (broadcastInDim S1024 ![] bcast_S_S1024 (constant S_ .f32 0x322BCC77#32)))) (mulf (broadcastInDim S1024 ![] bcast_S_S1024 (constant S_ .f32 0x3C23D70A#32)) w))) shapeCasts_S1024_S1x1024

/-- The new first moment. -/
def mean (g : FVec Ideal S1024 .f32) (m : FVec Ideal S1024 .f32) : FVec Ideal S1x1024 .f32 :=
  shapeCast _ (addf (mulf (broadcastInDim S1024 ![] bcast_S_S1024 (constant S_ .f32 0x3F666666#32)) m) (mulf (broadcastInDim S1024 ![] bcast_S_S1024 (constant S_ .f32 0x3DCCCCCD#32)) g)) shapeCasts_S1024_S1x1024

/-- The new second moment. -/
def square (g : FVec Ideal S1024 .f32) (v : FVec Ideal S1024 .f32) : FVec Ideal S1x1024 .f32 :=
  shapeCast _ (addf (mulf (broadcastInDim S1024 ![] bcast_S_S1024 (constant S_ .f32 0x3F7FBE77#32)) v) (mulf (broadcastInDim S1024 ![] bcast_S_S1024 (constant S_ .f32 0x3A83126F#32)) (mulf g g))) shapeCasts_S1024_S1x1024

/-- An argument as the kernel's rows. -/
def rows (x : FVec Ideal S1024 .f32) : FVec Ideal S1x1024 .f32 := shapeCast S1x1024 x shapeCasts_S1024_S1x1024

end Cert.AdFReferenceIdeal.AdF

namespace Cert.AdFKernelIdeal.AdF

open Cert.AdFKernelIdeal Cert.AdFKernelIdeal.Gen
open Cert.AdFReferenceIdeal.AdF

/-- The step of the weights. Equal at equal arguments. -/
theorem pay4 (w : FVec Ideal S1024 .f32) (g : FVec Ideal S1024 .f32) (m : FVec Ideal S1024 .f32) (v : FVec Ideal S1024 .f32) (wb : Vec Ideal S1x1024 .f32) (gb : Vec Ideal S1x1024 .f32) (mb : Vec Ideal S1x1024 .f32) (vb : Vec Ideal S1x1024 .f32) (y : S1x1024.Idx) (i : S1x1024.Idx) (hw : wb y = rows w i) (hg : gb y = rows g i) (hm : mb y = rows m i) (hv : vb y = rows v i) :
    k0_pay4 wb gb mb vb y = delta w g m v i := by
  pointwise [k0_pay1, k0_pay2, k0_pay3, k0_pay4, delta]
  rw [hw, hg, hm, hv]
  pointwise [rows]

/-- The new first moment. Equal at equal arguments. -/
theorem pay5 (g : FVec Ideal S1024 .f32) (m : FVec Ideal S1024 .f32) (gb : Vec Ideal S1x1024 .f32) (mb : Vec Ideal S1x1024 .f32) (y : S1x1024.Idx) (i : S1x1024.Idx) (hg : gb y = rows g i) (hm : mb y = rows m i) :
    k0_pay2 gb mb y = mean g m i := by
  pointwise [k0_pay1, k0_pay2, k0_pay3, k0_pay4, mean]
  rw [hg, hm]
  pointwise [rows]

/-- The new second moment. Equal at equal arguments. -/
theorem pay6 (g : FVec Ideal S1024 .f32) (v : FVec Ideal S1024 .f32) (gb : Vec Ideal S1x1024 .f32) (vb : Vec Ideal S1x1024 .f32) (y : S1x1024.Idx) (i : S1x1024.Idx) (hg : gb y = rows g i) (hv : vb y = rows v i) :
    k0_pay3 gb vb y = square g v i := by
  pointwise [k0_pay1, k0_pay2, k0_pay3, k0_pay4, square]
  rw [hg, hv]
  pointwise [rows]

variable (m : (ℓ : Loc nD τ sig) → Buf (Elt Ideal) ℓ) (c : Dev nD) (t : Fin cfg0.N)

abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem lt : t.val < 1 := lt_of_lt_of_eq t.isLt N_0

theorem entry0 (r : Fin 1) (k : Fin 1024) : (V m c main_v0 : FVec Ideal S1x1024 .f32) (ix2 r k) = rows (A1 m c) (ix2 r k) := by
  show StableHlo.after _ _ _ _ = _
  simp only [List.flatten_cons, List.flatten_nil, List.append_nil, List.cons_append, List.nil_append, hostOps0]
  entry_read
  rfl

theorem blk0 (r : Fin 1) (k : Fin 1024) : iblk m c 0 t (ix2 r k) = rows (A1 m c) (ix2 (⟨t.val * 1 + r.val, by have := lt t; omega⟩ : Fin 1) k) := by
  have e : iblk m c 0 t (ix2 r k) = (V m c main_v0 : FVec Ideal S1x1024 .f32) (ix2 (⟨t.val * 1 + r.val, by have := lt t; omega⟩ : Fin 1) k) := by blk_ext! [iblk, idx t]
  rw [e, entry0]

theorem entry1 (r : Fin 1) (k : Fin 1024) : (V m c main_v1 : FVec Ideal S1x1024 .f32) (ix2 r k) = rows (A0 m c) (ix2 r k) := by
  show StableHlo.after _ _ _ _ = _
  simp only [List.flatten_cons, List.flatten_nil, List.append_nil, List.cons_append, List.nil_append, hostOps0]
  entry_read
  rfl

theorem blk1 (r : Fin 1) (k : Fin 1024) : iblk m c 1 t (ix2 r k) = rows (A0 m c) (ix2 (⟨t.val * 1 + r.val, by have := lt t; omega⟩ : Fin 1) k) := by
  have e : iblk m c 1 t (ix2 r k) = (V m c main_v1 : FVec Ideal S1x1024 .f32) (ix2 (⟨t.val * 1 + r.val, by have := lt t; omega⟩ : Fin 1) k) := by blk_ext! [iblk, idx t]
  rw [e, entry1]

theorem entry2 (r : Fin 1) (k : Fin 1024) : (V m c main_v2 : FVec Ideal S1x1024 .f32) (ix2 r k) = rows (A2 m c) (ix2 r k) := by
  show StableHlo.after _ _ _ _ = _
  simp only [List.flatten_cons, List.flatten_nil, List.append_nil, List.cons_append, List.nil_append, hostOps0]
  entry_read
  rfl

theorem blk2 (r : Fin 1) (k : Fin 1024) : iblk m c 2 t (ix2 r k) = rows (A2 m c) (ix2 (⟨t.val * 1 + r.val, by have := lt t; omega⟩ : Fin 1) k) := by
  have e : iblk m c 2 t (ix2 r k) = (V m c main_v2 : FVec Ideal S1x1024 .f32) (ix2 (⟨t.val * 1 + r.val, by have := lt t; omega⟩ : Fin 1) k) := by blk_ext! [iblk, idx t]
  rw [e, entry2]

theorem entry3 (r : Fin 1) (k : Fin 1024) : (V m c main_v3 : FVec Ideal S1x1024 .f32) (ix2 r k) = rows (A3 m c) (ix2 r k) := by
  show StableHlo.after _ _ _ _ = _
  simp only [List.flatten_cons, List.flatten_nil, List.append_nil, List.cons_append, List.nil_append, hostOps0]
  entry_read
  rfl

theorem blk3 (r : Fin 1) (k : Fin 1024) : iblk m c 3 t (ix2 r k) = rows (A3 m c) (ix2 (⟨t.val * 1 + r.val, by have := lt t; omega⟩ : Fin 1) k) := by
  have e : iblk m c 3 t (ix2 r k) = (V m c main_v3 : FVec Ideal S1x1024 .f32) (ix2 (⟨t.val * 1 + r.val, by have := lt t; omega⟩ : Fin 1) k) := by blk_ext! [iblk, idx t]
  rw [e, entry3]

/-- The step of the weights. The whole array. -/
theorem final4 : (dats m 0 c).arrAt 4 (cfgs 0).N = delta (A0 m c) (A1 m c) (A2 m c) (A3 m c) := by
  refine (dats m 0 c).arrAt_eq_of_covers 4 _ (by decide +kernel) fun t hf y => ?_
  obtain ⟨r, k, ey⟩ : ∃ (r : Fin 1) (k : Fin 1024), y = ix2 r k := ⟨y 0, y 1, by blk_ext! []⟩
  have e : ((View.whole main_v4_0).slice (win0_4.rect t)).emb (ix2 r k) = ix2 (⟨t.val * 1 + r.val, by have := lt t; omega⟩ : Fin 1) k := by blk_ext! [idx t]
  blk_simp; rw [after0_4]; frame_out
  rw [ey, e]
  exact pay4 (A0 m c) (A1 m c) (A2 m c) (A3 m c) _ _ _ _ _ _ (blk1 m c t r k) (blk0 m c t r k) (blk2 m c t r k) (blk3 m c t r k)

/-- The new first moment. The whole array. -/
theorem final5 : (dats m 0 c).arrAt 5 (cfgs 0).N = mean (A1 m c) (A2 m c) := by
  refine (dats m 0 c).arrAt_eq_of_covers 5 _ (by decide +kernel) fun t hf y => ?_
  obtain ⟨r, k, ey⟩ : ∃ (r : Fin 1) (k : Fin 1024), y = ix2 r k := ⟨y 0, y 1, by blk_ext! []⟩
  have e : ((View.whole main_v4_1).slice (win0_5.rect t)).emb (ix2 r k) = ix2 (⟨t.val * 1 + r.val, by have := lt t; omega⟩ : Fin 1) k := by blk_ext! [idx t]
  blk_simp; rw [after0_5]; frame_out
  rw [ey, e]
  exact pay5 (A1 m c) (A2 m c) _ _ _ _ (blk0 m c t r k) (blk2 m c t r k)

/-- The new second moment. The whole array. -/
theorem final6 : (dats m 0 c).arrAt 6 (cfgs 0).N = square (A1 m c) (A3 m c) := by
  refine (dats m 0 c).arrAt_eq_of_covers 6 _ (by decide +kernel) fun t hf y => ?_
  obtain ⟨r, k, ey⟩ : ∃ (r : Fin 1) (k : Fin 1024), y = ix2 r k := ⟨y 0, y 1, by blk_ext! []⟩
  have e : ((View.whole main_v4_2).slice (win0_6.rect t)).emb (ix2 r k) = ix2 (⟨t.val * 1 + r.val, by have := lt t; omega⟩ : Fin 1) k := by blk_ext! [idx t]
  blk_simp; rw [after0_6]; frame_out
  rw [ey, e]
  exact pay6 (A1 m c) (A3 m c) _ _ _ _ (blk0 m c t r k) (blk3 m c t r k)

end Cert.AdFKernelIdeal.AdF

set_option maxHeartbeats 1600000

namespace Cert.Proof

/-- The kernel's three results are the reference's, on all extended reals. -/
theorem adF_algebraic : Cert.algebraic_AdFKernelIdeal_AdFReferenceIdeal (hAdFKernelIdeal := Cert.AdFKernelIdeal.Gen.facts) (hAdFReferenceIdeal := Cert.AdFReferenceIdeal.Gen.facts) := by
  intro m g m' g' _ hagree
  refine ⟨fun c => (Cert.AdFKernelIdeal.Gen.dats m 0 c).arrAt 4 (Cert.AdFKernelIdeal.cfgs 0).N, fun c => (Cert.AdFKernelIdeal.Gen.dats m 0 c).arrAt 5 (Cert.AdFKernelIdeal.cfgs 0).N, fun c => (Cert.AdFKernelIdeal.Gen.dats m 0 c).arrAt 6 (Cert.AdFKernelIdeal.cfgs 0).N, Cert.AdFKernelIdeal.Value.run_blocks m g, ?_⟩
  have hr := Cert.AdFReferenceIdeal.Value.run (F := Ideal) m' g'
  refine (θ_run (Cert.AdFReferenceIdeal.defs (F := Ideal)) _ _).mono ?_ hr
  clear hr
  intro r h c
  obtain ⟨e0, e1, e2, e3⟩ := hagree c
  have hc := h c
  refine ⟨hc.1.trans ?_, hc.2.1.trans ?_, hc.2.2.1.trans ?_, hc.2.2.2⟩
  · rw [e0, e1, e2, e3]; exact (Cert.AdFKernelIdeal.AdF.final4 m c).symm
  · rw [e1, e2]; exact (Cert.AdFKernelIdeal.AdF.final5 m c).symm
  · rw [e1, e3]; exact (Cert.AdFKernelIdeal.AdF.final6 m c).symm

end Cert.Proof
end
-- ==== Proof.AdFFrame.lean ====
/-
  The optimiser's call for the weight of shape 1024, as one row: each grid point's three results are the reference's: the reference's own run.
-/
module

public import proofs.«01_k».proof.Defs
public import proofs.«01_k».proof.Proof.Gen.AdFReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem adF_reference_frame : Cert.quiescent_AdFReferenceIdeal (hAdFReferenceIdeal := Cert.AdFReferenceIdeal.Gen.facts) := by
  intro m g _
  hlo_run
  · intro c; simp only [and_self]
  · exact sem_eq_zero_of_no_sems (sig := Cert.AdFReferenceIdeal.sig) (by decide) _

end Cert.Proof
end
-- ==== Proof.AdGClaim.lean ====
/-
  The optimiser's call for the gate and up projections, 256 rows of a layer per grid point: each grid point's three results are the reference's.
-/
module

public import proofs.«01_k».proof.Defs
public import proofs.«01_k».proof.Proof.Gen.AdGKernelIdeal.Value
public import proofs.«01_k».proof.Proof.Gen.AdGReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdGReferenceIdeal.AdG

open Cert.AdGReferenceIdeal Cert.AdGReferenceIdeal.Gen

/-- The step of the weights. -/
def delta (w : FVec Ideal S2x1024x352 .f32) (g : FVec Ideal S2x1024x352 .f32) (m : FVec Ideal S2x1024x352 .f32) (v : FVec Ideal S2x1024x352 .f32) : FVec Ideal S2x1024x352 .f32 :=
  mulf (broadcastInDim S2x1024x352 ![] bcast_S_S2x1024x352 (constant S_ .f32 0xBA83126F#32)) (addf (Host.divf (Host.divf (addf (mulf (broadcastInDim S2x1024x352 ![] bcast_S_S2x1024x352 (constant S_ .f32 0x3F666666#32)) m) (mulf (broadcastInDim S2x1024x352 ![] bcast_S_S2x1024x352 (constant S_ .f32 0x3DCCCCCD#32)) g)) (broadcastInDim S2x1024x352 ![] bcast_S_S2x1024x352 (constant S_ .f32 0x3F26BD02#32))) (addf (Host.sqrt (Host.divf (addf (mulf (broadcastInDim S2x1024x352 ![] bcast_S_S2x1024x352 (constant S_ .f32 0x3F7FBE77#32)) v) (mulf (broadcastInDim S2x1024x352 ![] bcast_S_S2x1024x352 (constant S_ .f32 0x3A83126F#32)) (mulf g g))) (broadcastInDim S2x1024x352 ![] bcast_S_S2x1024x352 (constant S_ .f32 0x3C231ACC#32)))) (broadcastInDim S2x1024x352 ![] bcast_S_S2x1024x352 (constant S_ .f32 0x322BCC77#32)))) (mulf (broadcastInDim S2x1024x352 ![] bcast_S_S2x1024x352 (constant S_ .f32 0x3C23D70A#32)) w))

/-- The new first moment. -/
def mean (g : FVec Ideal S2x1024x352 .f32) (m : FVec Ideal S2x1024x352 .f32) : FVec Ideal S2x1024x352 .f32 :=
  addf (mulf (broadcastInDim S2x1024x352 ![] bcast_S_S2x1024x352 (constant S_ .f32 0x3F666666#32)) m) (mulf (broadcastInDim S2x1024x352 ![] bcast_S_S2x1024x352 (constant S_ .f32 0x3DCCCCCD#32)) g)

/-- The new second moment. -/
def square (g : FVec Ideal S2x1024x352 .f32) (v : FVec Ideal S2x1024x352 .f32) : FVec Ideal S2x1024x352 .f32 :=
  addf (mulf (broadcastInDim S2x1024x352 ![] bcast_S_S2x1024x352 (constant S_ .f32 0x3F7FBE77#32)) v) (mulf (broadcastInDim S2x1024x352 ![] bcast_S_S2x1024x352 (constant S_ .f32 0x3A83126F#32)) (mulf g g))

/-- An argument as the kernel's rows. -/
def rows (x : FVec Ideal S2x1024x352 .f32) : FVec Ideal S2x1024x352 .f32 := x

end Cert.AdGReferenceIdeal.AdG

namespace Cert.AdGKernelIdeal.AdG

open Cert.AdGKernelIdeal Cert.AdGKernelIdeal.Gen
open Cert.AdGReferenceIdeal.AdG

/-- The step of the weights. Equal at equal arguments. -/
theorem pay4 (w : FVec Ideal S2x1024x352 .f32) (g : FVec Ideal S2x1024x352 .f32) (m : FVec Ideal S2x1024x352 .f32) (v : FVec Ideal S2x1024x352 .f32) (wb : Vec Ideal S1x256x352 .f32) (gb : Vec Ideal S1x256x352 .f32) (mb : Vec Ideal S1x256x352 .f32) (vb : Vec Ideal S1x256x352 .f32) (r : Fin 256) (k : Fin 352) (i : S2x1024x352.Idx) (hw : wb (ix3 (0 : Fin 1) r k) = rows w i) (hg : gb (ix3 (0 : Fin 1) r k) = rows g i) (hm : mb (ix3 (0 : Fin 1) r k) = rows m i) (hv : vb (ix3 (0 : Fin 1) r k) = rows v i) :
    k0_pay1 (k0_pay7 wb gb mb vb) (ix3 (0 : Fin 1) r k) = delta w g m v i := by
  pointwise [k0_pay1, k0_pay2, k0_pay3, k0_pay4, k0_pay5, k0_pay6, k0_pay7, delta]
  rw [hw, hg, hm, hv]
  rfl

/-- The new first moment. Equal at equal arguments. -/
theorem pay5 (g : FVec Ideal S2x1024x352 .f32) (m : FVec Ideal S2x1024x352 .f32) (gb : Vec Ideal S1x256x352 .f32) (mb : Vec Ideal S1x256x352 .f32) (r : Fin 256) (k : Fin 352) (i : S2x1024x352.Idx) (hg : gb (ix3 (0 : Fin 1) r k) = rows g i) (hm : mb (ix3 (0 : Fin 1) r k) = rows m i) :
    k0_pay2 (k0_pay5 gb mb) (ix3 (0 : Fin 1) r k) = mean g m i := by
  pointwise [k0_pay1, k0_pay2, k0_pay3, k0_pay4, k0_pay5, k0_pay6, k0_pay7, mean]
  rw [hg, hm]
  rfl

/-- The new second moment. Equal at equal arguments. -/
theorem pay6 (g : FVec Ideal S2x1024x352 .f32) (v : FVec Ideal S2x1024x352 .f32) (gb : Vec Ideal S1x256x352 .f32) (vb : Vec Ideal S1x256x352 .f32) (r : Fin 256) (k : Fin 352) (i : S2x1024x352.Idx) (hg : gb (ix3 (0 : Fin 1) r k) = rows g i) (hv : vb (ix3 (0 : Fin 1) r k) = rows v i) :
    k0_pay3 (k0_pay6 gb vb) (ix3 (0 : Fin 1) r k) = square g v i := by
  pointwise [k0_pay1, k0_pay2, k0_pay3, k0_pay4, k0_pay5, k0_pay6, k0_pay7, square]
  rw [hg, hv]
  rfl

variable (m : (ℓ : Loc nD τ sig) → Buf (Elt Ideal) ℓ) (c : Dev nD) (t : Fin cfg0.N)

abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)

theorem idx : ∀ t : Fin cfg0.N, win0_0.index t = ![t.val / 4, t.val % 4, 0] ∧ win0_1.index t = ![t.val / 4, t.val % 4, 0] ∧ win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] :=
  (by decide +kernel : ∀ t : Fin grid0.N, _)

theorem lt : t.val < 8 := lt_of_lt_of_eq t.isLt N_0

theorem blk0 (r : Fin 256) (k : Fin 352) : iblk m c 0 t (ix3 (0 : Fin 1) r k) = rows (A1 m c) (ix3 (⟨t.val / 4, by have := lt t; omega⟩ : Fin 2) (⟨t.val % 4 * 256 + r.val, by omega⟩ : Fin 1024) k) := by
  show _ = A1 m c (ix3 (⟨t.val / 4, by have := lt t; omega⟩ : Fin 2) (⟨t.val % 4 * 256 + r.val, by omega⟩ : Fin 1024) k)
  blk_ext! [iblk, V, idx t]

theorem blk1 (r : Fin 256) (k : Fin 352) : iblk m c 1 t (ix3 (0 : Fin 1) r k) = rows (A0 m c) (ix3 (⟨t.val / 4, by have := lt t; omega⟩ : Fin 2) (⟨t.val % 4 * 256 + r.val, by omega⟩ : Fin 1024) k) := by
  show _ = A0 m c (ix3 (⟨t.val / 4, by have := lt t; omega⟩ : Fin 2) (⟨t.val % 4 * 256 + r.val, by omega⟩ : Fin 1024) k)
  blk_ext! [iblk, V, idx t]

theorem blk2 (r : Fin 256) (k : Fin 352) : iblk m c 2 t (ix3 (0 : Fin 1) r k) = rows (A2 m c) (ix3 (⟨t.val / 4, by have := lt t; omega⟩ : Fin 2) (⟨t.val % 4 * 256 + r.val, by omega⟩ : Fin 1024) k) := by
  show _ = A2 m c (ix3 (⟨t.val / 4, by have := lt t; omega⟩ : Fin 2) (⟨t.val % 4 * 256 + r.val, by omega⟩ : Fin 1024) k)
  blk_ext! [iblk, V, idx t]

theorem blk3 (r : Fin 256) (k : Fin 352) : iblk m c 3 t (ix3 (0 : Fin 1) r k) = rows (A3 m c) (ix3 (⟨t.val / 4, by have := lt t; omega⟩ : Fin 2) (⟨t.val % 4 * 256 + r.val, by omega⟩ : Fin 1024) k) := by
  show _ = A3 m c (ix3 (⟨t.val / 4, by have := lt t; omega⟩ : Fin 2) (⟨t.val % 4 * 256 + r.val, by omega⟩ : Fin 1024) k)
  blk_ext! [iblk, V, idx t]

/-- The step of the weights. The whole array. -/
theorem final4 : (dats m 0 c).arrAt 4 (cfgs 0).N = delta (A0 m c) (A1 m c) (A2 m c) (A3 m c) := by
  refine (dats m 0 c).arrAt_eq_of_covers 4 _ (by decide +kernel) fun t hf y => ?_
  obtain ⟨r, k, ey⟩ : ∃ (r : Fin 256) (k : Fin 352), y = ix3 (0 : Fin 1) r k := ⟨y 1, y 2, by blk_ext! []⟩
  have e : ((View.whole main_v0_0).slice (win0_4.rect t)).emb (ix3 (0 : Fin 1) r k) = ix3 (⟨t.val / 4, by have := lt t; omega⟩ : Fin 2) (⟨t.val % 4 * 256 + r.val, by omega⟩ : Fin 1024) k := by blk_ext! [idx t]
  blk_simp; rw [after0_4]; frame_out
  rw [ey, e]
  exact pay4 (A0 m c) (A1 m c) (A2 m c) (A3 m c) _ _ _ _ r k _ (blk1 m c t r k) (blk0 m c t r k) (blk2 m c t r k) (blk3 m c t r k)

/-- The new first moment. The whole array. -/
theorem final5 : (dats m 0 c).arrAt 5 (cfgs 0).N = mean (A1 m c) (A2 m c) := by
  refine (dats m 0 c).arrAt_eq_of_covers 5 _ (by decide +kernel) fun t hf y => ?_
  obtain ⟨r, k, ey⟩ : ∃ (r : Fin 256) (k : Fin 352), y = ix3 (0 : Fin 1) r k := ⟨y 1, y 2, by blk_ext! []⟩
  have e : ((View.whole main_v0_1).slice (win0_5.rect t)).emb (ix3 (0 : Fin 1) r k) = ix3 (⟨t.val / 4, by have := lt t; omega⟩ : Fin 2) (⟨t.val % 4 * 256 + r.val, by omega⟩ : Fin 1024) k := by blk_ext! [idx t]
  blk_simp; rw [after0_5]; frame_out
  rw [ey, e]
  exact pay5 (A1 m c) (A2 m c) _ _ r k _ (blk0 m c t r k) (blk2 m c t r k)

/-- The new second moment. The whole array. -/
theorem final6 : (dats m 0 c).arrAt 6 (cfgs 0).N = square (A1 m c) (A3 m c) := by
  refine (dats m 0 c).arrAt_eq_of_covers 6 _ (by decide +kernel) fun t hf y => ?_
  obtain ⟨r, k, ey⟩ : ∃ (r : Fin 256) (k : Fin 352), y = ix3 (0 : Fin 1) r k := ⟨y 1, y 2, by blk_ext! []⟩
  have e : ((View.whole main_v0_2).slice (win0_6.rect t)).emb (ix3 (0 : Fin 1) r k) = ix3 (⟨t.val / 4, by have := lt t; omega⟩ : Fin 2) (⟨t.val % 4 * 256 + r.val, by omega⟩ : Fin 1024) k := by blk_ext! [idx t]
  blk_simp; rw [after0_6]; frame_out
  rw [ey, e]
  exact pay6 (A1 m c) (A3 m c) _ _ r k _ (blk0 m c t r k) (blk3 m c t r k)

end Cert.AdGKernelIdeal.AdG

set_option maxHeartbeats 1600000

namespace Cert.Proof

/-- The kernel's three results are the reference's, on all extended reals. -/
theorem adG_algebraic : Cert.algebraic_AdGKernelIdeal_AdGReferenceIdeal (hAdGKernelIdeal := Cert.AdGKernelIdeal.Gen.facts) (hAdGReferenceIdeal := Cert.AdGReferenceIdeal.Gen.facts) := by
  intro m g m' g' _ hagree
  refine ⟨fun c => (Cert.AdGKernelIdeal.Gen.dats m 0 c).arrAt 4 (Cert.AdGKernelIdeal.cfgs 0).N, fun c => (Cert.AdGKernelIdeal.Gen.dats m 0 c).arrAt 5 (Cert.AdGKernelIdeal.cfgs 0).N, fun c => (Cert.AdGKernelIdeal.Gen.dats m 0 c).arrAt 6 (Cert.AdGKernelIdeal.cfgs 0).N, Cert.AdGKernelIdeal.Value.run_blocks m g, ?_⟩
  have hr := Cert.AdGReferenceIdeal.Value.run (F := Ideal) m' g'
  refine (θ_run (Cert.AdGReferenceIdeal.defs (F := Ideal)) _ _).mono ?_ hr
  clear hr
  intro r h c
  obtain ⟨e0, e1, e2, e3⟩ := hagree c
  have hc := h c
  refine ⟨hc.1.trans ?_, hc.2.1.trans ?_, hc.2.2.1.trans ?_, hc.2.2.2⟩
  · rw [e0, e1, e2, e3]; exact (Cert.AdGKernelIdeal.AdG.final4 m c).symm
  · rw [e1, e2]; exact (Cert.AdGKernelIdeal.AdG.final5 m c).symm
  · rw [e1, e3]; exact (Cert.AdGKernelIdeal.AdG.final6 m c).symm

end Cert.Proof
end
-- ==== Proof.AdGFrame.lean ====
/-
  The optimiser's call for the gate and up projections, 256 rows of a layer per grid point: each grid point's three results are the reference's: the reference's own run.
-/
module

public import proofs.«01_k».proof.Defs
public import proofs.«01_k».proof.Proof.Gen.AdGReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem adG_reference_frame : Cert.quiescent_AdGReferenceIdeal (hAdGReferenceIdeal := Cert.AdGReferenceIdeal.Gen.facts) := by
  intro m g _
  hlo_run
  · intro c; simp only [and_self]
  · exact sem_eq_zero_of_no_sems (sig := Cert.AdGReferenceIdeal.sig) (by decide) _

end Cert.Proof
end
-- ==== Proof.SmIClaim.lean ====
/-
  The optimiser's call for the input projection, layer 0: the sum of the devices' shares of the gradient and the AdamW step of it are the
  reference's; layer 1 is left as it was.
-/
module

public import proofs.«01_k».proof.Defs
public import proofs.«01_k».proof.Proof.Gen.SmIKernelIdeal.Value
public import proofs.«01_k».proof.Proof.Gen.SmIReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.SmIReferenceIdeal.SmI

open Cert.SmIReferenceIdeal Cert.SmIReferenceIdeal.Gen

/-- Layer 0 of an array of two layers. -/
def layer0 (x : FVec Ideal S2x1024x450 .f32) : FVec Ideal S1024x450 .f32 := shapeCast _ (extractStridedSlice S1x1024x450 ![0, 0, 0] x slices_S2x1024x450_S1x1024x450_0_0_0) shapeCasts_S1x1024x450_S1024x450
/-- Two layers: the first computed, the second that of an array. -/
def stack (z : FVec Ideal S1024x450 .f32) (y : FVec Ideal S2x1024x450 .f32) : FVec Ideal S2x1024x450 .f32 := concatenate S2x1024x450 0 [⟨S1x1024x450, (broadcastInDim S1x1024x450 ![1, 2] bcast_S1024x450_S1x1024x450_1_2 z)⟩, ⟨S1x1024x450, (broadcastInDim S1x1024x450 ![1, 2] bcast_S1024x450_S1x1024x450_1_2 (shapeCast _ (extractStridedSlice S1x1024x450 ![1, 0, 0] y slices_S2x1024x450_S1x1024x450_1_0_0) shapeCasts_S1x1024x450_S1024x450))⟩] concatenates_S1x1024x450_S1x1024x450_S2x1024x450_d0
/-- The sum of the devices' shares. -/
def total (a : FVec Ideal S8x1024x450 .f32) : FVec Ideal S1024x450 .f32 := Host.reduceAdd a (constant S_ .f32 0x00000000#32) reducesTo_S8x1024x450_S1024x450_d0 h_S_
/-- The new first moment. -/
def mean (g : FVec Ideal S1024x450 .f32) (m : FVec Ideal S1024x450 .f32) : FVec Ideal S1024x450 .f32 := addf (mulf (broadcastInDim S1024x450 ![] bcast_S_S1024x450 (constant S_ .f32 0x3F666666#32)) m) (mulf (broadcastInDim S1024x450 ![] bcast_S_S1024x450 (constant S_ .f32 0x3DCCCCCD#32)) g)
/-- The new second moment. -/
def square (g : FVec Ideal S1024x450 .f32) (v : FVec Ideal S1024x450 .f32) : FVec Ideal S1024x450 .f32 := addf (mulf (broadcastInDim S1024x450 ![] bcast_S_S1024x450 (constant S_ .f32 0x3F7FBE77#32)) v) (mulf (broadcastInDim S1024x450 ![] bcast_S_S1024x450 (constant S_ .f32 0x3A83126F#32)) (mulf g g))
/-- The step of the weights. -/
def delta (g : FVec Ideal S1024x450 .f32) (w : FVec Ideal S1024x450 .f32) (m : FVec Ideal S1024x450 .f32) (v : FVec Ideal S1024x450 .f32) : FVec Ideal S1024x450 .f32 := mulf (broadcastInDim S1024x450 ![] bcast_S_S1024x450 (constant S_ .f32 0xBA83126F#32)) (addf (Host.divf (Host.divf (mean g m) (broadcastInDim S1024x450 ![] bcast_S_S1024x450 (constant S_ .f32 0x3F26BD02#32))) (addf (Host.sqrt (Host.divf (square g v) (broadcastInDim S1024x450 ![] bcast_S_S1024x450 (constant S_ .f32 0x3C231ACC#32)))) (broadcastInDim S1024x450 ![] bcast_S_S1024x450 (constant S_ .f32 0x322BCC77#32)))) (mulf (broadcastInDim S1024x450 ![] bcast_S_S1024x450 (constant S_ .f32 0x3C23D70A#32)) w))

theorem layer0_apply (x : FVec Ideal S2x1024x450 .f32) (r : Fin 1024) (k : Fin 450) : layer0 x (ix2 r k) = x (ix3 (0 : Fin 2) r k) := by
  pointwise [layer0]
theorem stack_first (z : FVec Ideal S1024x450 .f32) (y : FVec Ideal S2x1024x450 .f32) (r : Fin 1024) (k : Fin 450) : stack z y (ix3 (0 : Fin 2) r k) = z (ix2 r k) := by
  pointwise [stack]
theorem stack_second (z : FVec Ideal S1024x450 .f32) (y : FVec Ideal S2x1024x450 .f32) (r : Fin 1024) (k : Fin 450) : stack z y (ix3 (1 : Fin 2) r k) = y (ix3 (1 : Fin 2) r k) := by
  pointwise [stack]
theorem total_apply (a : FVec Ideal S8x1024x450 .f32) (r : Fin 1024) (k : Fin 450) : total a (ix2 r k) = ∑ j : Fin 8, a (ix3 j r k) := by
  pointwise [total]

end Cert.SmIReferenceIdeal.SmI

namespace Cert.SmIKernelIdeal.SmI

open Cert.SmIKernelIdeal Cert.SmIKernelIdeal.Gen
open Cert.SmIReferenceIdeal.SmI

section
variable (x : Vec Ideal S8x256x450 .bf16) (wb mb vb : Vec Ideal S1x256x450 .f32) (g : FVec Ideal S256x450 .f32)
variable (a : FVec Ideal S8x1024x450 .f32) (w m v : FVec Ideal S2x1024x450 .f32) (G : FVec Ideal Cert.SmIReferenceIdeal.S1024x450 .f32) (r : Fin 256) (k : Fin 450) (r' : Fin 1024)

/-- The sum of a block's eight shares. -/
theorem sum_eq (hx : ∀ j : Fin 8, x (ix3 j r k) = a (ix3 j r' k)) :
    k0_pay3 (View.ld x (Rect.unit ![0, 0, 0] ![1, 256, 450] inb_S8x256x450_S1x256x450_0_0_0)) (View.ld x (Rect.unit ![1, 0, 0] ![1, 256, 450] inb_S8x256x450_S1x256x450_1_0_0)) (View.ld x (Rect.unit ![2, 0, 0] ![1, 256, 450] inb_S8x256x450_S1x256x450_2_0_0)) (View.ld x (Rect.unit ![3, 0, 0] ![1, 256, 450] inb_S8x256x450_S1x256x450_3_0_0)) (View.ld x (Rect.unit ![4, 0, 0] ![1, 256, 450] inb_S8x256x450_S1x256x450_4_0_0)) (View.ld x (Rect.unit ![5, 0, 0] ![1, 256, 450] inb_S8x256x450_S1x256x450_5_0_0)) (View.ld x (Rect.unit ![6, 0, 0] ![1, 256, 450] inb_S8x256x450_S1x256x450_6_0_0)) (View.ld x (Rect.unit ![7, 0, 0] ![1, 256, 450] inb_S8x256x450_S1x256x450_7_0_0)) (ix2 r k) = total a (ix2 r' k) := by
  rw [total_apply]
  simp only [← hx, Fin.sum_univ_eight]
  pointwise [k0_pay1, k0_pay2, k0_pay3, k0_pay4, k0_pay5, k0_pay6, k0_pay7]

theorem grad_eq (hx : ∀ j : Fin 8, x (ix3 j r k) = a (ix3 j r' k)) :
    k0_pay4 (k0_pay3 (View.ld x (Rect.unit ![0, 0, 0] ![1, 256, 450] inb_S8x256x450_S1x256x450_0_0_0)) (View.ld x (Rect.unit ![1, 0, 0] ![1, 256, 450] inb_S8x256x450_S1x256x450_1_0_0)) (View.ld x (Rect.unit ![2, 0, 0] ![1, 256, 450] inb_S8x256x450_S1x256x450_2_0_0)) (View.ld x (Rect.unit ![3, 0, 0] ![1, 256, 450] inb_S8x256x450_S1x256x450_3_0_0)) (View.ld x (Rect.unit ![4, 0, 0] ![1, 256, 450] inb_S8x256x450_S1x256x450_4_0_0)) (View.ld x (Rect.unit ![5, 0, 0] ![1, 256, 450] inb_S8x256x450_S1x256x450_5_0_0)) (View.ld x (Rect.unit ![6, 0, 0] ![1, 256, 450] inb_S8x256x450_S1x256x450_6_0_0)) (View.ld x (Rect.unit ![7, 0, 0] ![1, 256, 450] inb_S8x256x450_S1x256x450_7_0_0))) (ix3 (0 : Fin 1) r k) = total a (ix2 r' k) := by
  rw [← sum_eq x a r k r' hx]
  pointwise [k0_pay1, k0_pay2, k0_pay3, k0_pay4, k0_pay5, k0_pay6, k0_pay7]

theorem mean_eq (hg : g (ix2 r k) = G (ix2 r' k)) (hm : mb (ix3 (0 : Fin 1) r k) = m (ix3 (0 : Fin 2) r' k)) :
    k0_pay1 (k0_pay5 g mb) (ix3 (0 : Fin 1) r k) = mean G (layer0 m) (ix2 r' k) := by
  pointwise [k0_pay1, k0_pay2, k0_pay3, k0_pay4, k0_pay5, k0_pay6, k0_pay7, mean, layer0]
  rw [hg, hm]

theorem square_eq (hg : g (ix2 r k) = G (ix2 r' k)) (hv : vb (ix3 (0 : Fin 1) r k) = v (ix3 (0 : Fin 2) r' k)) :
    k0_pay2 (k0_pay6 g vb) (ix3 (0 : Fin 1) r k) = square G (layer0 v) (ix2 r' k) := by
  pointwise [k0_pay1, k0_pay2, k0_pay3, k0_pay4, k0_pay5, k0_pay6, k0_pay7, square, layer0]
  rw [hg, hv]

theorem delta_eq (hg : g (ix2 r k) = G (ix2 r' k)) (hw : wb (ix3 (0 : Fin 1) r k) = w (ix3 (0 : Fin 2) r' k)) (hm : mb (ix3 (0 : Fin 1) r k) = m (ix3 (0 : Fin 2) r' k)) (hv : vb (ix3 (0 : Fin 1) r k) = v (ix3 (0 : Fin 2) r' k)) :
    k0_pay7 g wb mb vb (ix3 (0 : Fin 1) r k) = delta G (layer0 w) (layer0 m) (layer0 v) (ix2 r' k) := by
  pointwise [k0_pay1, k0_pay2, k0_pay3, k0_pay4, k0_pay5, k0_pay6, k0_pay7, delta, mean, square, layer0]
  rw [hg, hw, hm, hv]
end

variable (m : (ℓ : Loc nD τ sig) → Buf (Elt Ideal) ℓ) (c : Dev nD) (t : Fin cfg0.N)

abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)
abbrev A4 := m ((c.tc : Thread nD τ).loc main_arg4)
abbrev A5 := m ((c.tc : Thread nD τ).loc main_arg5)
abbrev A6 := m ((c.tc : Thread nD τ).loc main_arg6)
abbrev A7 := m ((c.tc : Thread nD τ).loc main_arg7)

theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

theorem lt : t.val < 4 := lt_of_lt_of_eq t.isLt N_0

/-- A block's row in the arrays. -/
abbrev row (r : Fin 256) : Fin 1024 := ⟨t.val * 256 + r.val, by have := lt t; omega⟩

theorem entry0 (j : Fin 8) (r : Fin 1024) (k : Fin 450) : (V m c main_v0 : FVec Ideal S8x1024x450 .bf16) (ix3 j r k) = (A0 m c (ix3 j r k) : EReal) := by
  show StableHlo.after _ _ _ _ = _
  simp only [List.flatten_cons, List.flatten_nil, List.append_nil, List.cons_append, List.nil_append, hostOps0]
  entry_read
  rfl
theorem blk0 (j : Fin 8) (r : Fin 256) (k : Fin 450) : iblk m c 0 t (ix3 j r k) = A0 m c (ix3 j (row t r) k) := by
  have e : iblk m c 0 t (ix3 j r k) = (V m c main_v0 : FVec Ideal S8x1024x450 .bf16) (ix3 j (row t r) k) := by blk_ext! [iblk, idx t]
  rw [e, entry0]
theorem blk1 (r : Fin 256) (k : Fin 450) : iblk m c 1 t (ix3 (0 : Fin 1) r k) = A1 m c (ix3 (0 : Fin 2) (row t r) k) := by
  blk_ext! [iblk, V, idx t]
theorem blk2 (r : Fin 256) (k : Fin 450) : iblk m c 2 t (ix3 (0 : Fin 1) r k) = A2 m c (ix3 (0 : Fin 2) (row t r) k) := by
  blk_ext! [iblk, V, idx t]
theorem blk3 (r : Fin 256) (k : Fin 450) : iblk m c 3 t (ix3 (0 : Fin 1) r k) = A3 m c (ix3 (0 : Fin 2) (row t r) k) := by
  blk_ext! [iblk, V, idx t]

theorem entry4 : V m c main_v1_0 = A4 m c := by
  unfold V; after_results; try rfl

/-- The result array of the gradient: layer 0 computed, layer 1 kept. -/
theorem final4 : (dats m 0 c).arrAt 4 (cfgs 0).N = stack (total (A0 m c)) (A4 m c) := by
  refine ((dats m 0 c).arrAt_eq_of_coversWhere 4 (stack (total (A0 m c)) (A4 m c)) (P := fun i => (i 0 : ℕ) < 1) (fun β => β 0 < 1) (by decide +kernel) (fun t hf y => ?_)
    (fun j => by blk_simp [Pipeline.Window.cell_apply]; omega)).trans (funext fun i => ?_)
  · obtain ⟨r, k, ey⟩ : ∃ (r : Fin 256) (k : Fin 450), y = ix3 (0 : Fin 1) r k := ⟨y 1, y 2, by blk_ext! []⟩
    have e : ((View.whole main_v1_0).slice (win0_4.rect t)).emb (ix3 (0 : Fin 1) r k) = ix3 (0 : Fin 2) (row t r) k := by blk_ext! [idx t]
    blk_simp; rw [after0_4]; unfold outsAt0; dsimp only; unfold out0_A_4; frame_out
    rw [ey, e, stack_first]
    exact grad_eq (iblk m c 0 t) (A0 m c) r k (row t r) (fun j => blk0 m c t j r k)
  · split
    · rfl
    · rename_i h
      obtain ⟨r, k, ei⟩ : ∃ (r : Fin 1024) (k : Fin 450), i = ix3 (1 : Fin 2) r k := ⟨i 1, i 2, by blk_ext! []⟩
      rw [ei, stack_second]
      exact congrFun (entry4 m c) _

theorem entry5 : V m c main_v1_1 = A5 m c := by
  unfold V; after_results; try rfl

/-- The result array of the step: layer 0 computed, layer 1 kept. -/
theorem final5 : (dats m 0 c).arrAt 5 (cfgs 0).N = stack (delta (total (A0 m c)) (layer0 (A1 m c)) (layer0 (A2 m c)) (layer0 (A3 m c))) (A5 m c) := by
  refine ((dats m 0 c).arrAt_eq_of_coversWhere 5 (stack (delta (total (A0 m c)) (layer0 (A1 m c)) (layer0 (A2 m c)) (layer0 (A3 m c))) (A5 m c)) (P := fun i => (i 0 : ℕ) < 1) (fun β => β 0 < 1) (by decide +kernel) (fun t hf y => ?_)
    (fun j => by blk_simp [Pipeline.Window.cell_apply]; omega)).trans (funext fun i => ?_)
  · obtain ⟨r, k, ey⟩ : ∃ (r : Fin 256) (k : Fin 450), y = ix3 (0 : Fin 1) r k := ⟨y 1, y 2, by blk_ext! []⟩
    have e : ((View.whole main_v1_1).slice (win0_5.rect t)).emb (ix3 (0 : Fin 1) r k) = ix3 (0 : Fin 2) (row t r) k := by blk_ext! [idx t]
    blk_simp; rw [after0_5]; unfold outsAt0; dsimp only; unfold out0_A_5; frame_out
    rw [ey, e, stack_first]
    exact delta_eq (iblk m c 1 t) (iblk m c 2 t) (iblk m c 3 t) _ (A1 m c) (A2 m c) (A3 m c) (total (A0 m c)) r k (row t r) (sum_eq (iblk m c 0 t) (A0 m c) r k (row t r) (fun j => blk0 m c t j r k)) (blk1 m c t r k) (blk2 m c t r k) (blk3 m c t r k)
  · split
    · rfl
    · rename_i h
      obtain ⟨r, k, ei⟩ : ∃ (r : Fin 1024) (k : Fin 450), i = ix3 (1 : Fin 2) r k := ⟨i 1, i 2, by blk_ext! []⟩
      rw [ei, stack_second]
      exact congrFun (entry5 m c) _

theorem entry6 : V m c main_v1_2 = A6 m c := by
  unfold V; after_results; try rfl

/-- The result array of the first moment: layer 0 computed, layer 1 kept. -/
theorem final6 : (dats m 0 c).arrAt 6 (cfgs 0).N = stack (mean (total (A0 m c)) (layer0 (A2 m c))) (A6 m c) := by
  refine ((dats m 0 c).arrAt_eq_of_coversWhere 6 (stack (mean (total (A0 m c)) (layer0 (A2 m c))) (A6 m c)) (P := fun i => (i 0 : ℕ) < 1) (fun β => β 0 < 1) (by decide +kernel) (fun t hf y => ?_)
    (fun j => by blk_simp [Pipeline.Window.cell_apply]; omega)).trans (funext fun i => ?_)
  · obtain ⟨r, k, ey⟩ : ∃ (r : Fin 256) (k : Fin 450), y = ix3 (0 : Fin 1) r k := ⟨y 1, y 2, by blk_ext! []⟩
    have e : ((View.whole main_v1_2).slice (win0_6.rect t)).emb (ix3 (0 : Fin 1) r k) = ix3 (0 : Fin 2) (row t r) k := by blk_ext! [idx t]
    blk_simp; rw [after0_6]; unfold outsAt0; dsimp only; unfold out0_A_6; frame_out
    rw [ey, e, stack_first]
    exact mean_eq (iblk m c 2 t) _ (A2 m c) (total (A0 m c)) r k (row t r) (sum_eq (iblk m c 0 t) (A0 m c) r k (row t r) (fun j => blk0 m c t j r k)) (blk2 m c t r k)
  · split
    · rfl
    · rename_i h
      obtain ⟨r, k, ei⟩ : ∃ (r : Fin 1024) (k : Fin 450), i = ix3 (1 : Fin 2) r k := ⟨i 1, i 2, by blk_ext! []⟩
      rw [ei, stack_second]
      exact congrFun (entry6 m c) _

theorem entry7 : V m c main_v1_3 = A7 m c := by
  unfold V; after_results; try rfl

/-- The result array of the second moment: layer 0 computed, layer 1 kept. -/
theorem final7 : (dats m 0 c).arrAt 7 (cfgs 0).N = stack (square (total (A0 m c)) (layer0 (A3 m c))) (A7 m c) := by
  refine ((dats m 0 c).arrAt_eq_of_coversWhere 7 (stack (square (total (A0 m c)) (layer0 (A3 m c))) (A7 m c)) (P := fun i => (i 0 : ℕ) < 1) (fun β => β 0 < 1) (by decide +kernel) (fun t hf y => ?_)
    (fun j => by blk_simp [Pipeline.Window.cell_apply]; omega)).trans (funext fun i => ?_)
  · obtain ⟨r, k, ey⟩ : ∃ (r : Fin 256) (k : Fin 450), y = ix3 (0 : Fin 1) r k := ⟨y 1, y 2, by blk_ext! []⟩
    have e : ((View.whole main_v1_3).slice (win0_7.rect t)).emb (ix3 (0 : Fin 1) r k) = ix3 (0 : Fin 2) (row t r) k := by blk_ext! [idx t]
    blk_simp; rw [after0_7]; unfold outsAt0; dsimp only; unfold out0_A_7; frame_out
    rw [ey, e, stack_first]
    exact square_eq (iblk m c 3 t) _ (A3 m c) (total (A0 m c)) r k (row t r) (sum_eq (iblk m c 0 t) (A0 m c) r k (row t r) (fun j => blk0 m c t j r k)) (blk3 m c t r k)
  · split
    · rfl
    · rename_i h
      obtain ⟨r, k, ei⟩ : ∃ (r : Fin 1024) (k : Fin 450), i = ix3 (1 : Fin 2) r k := ⟨i 1, i 2, by blk_ext! []⟩
      rw [ei, stack_second]
      exact congrFun (entry7 m c) _

end Cert.SmIKernelIdeal.SmI

set_option maxHeartbeats 1600000

namespace Cert.Proof

/-- The kernel's four results are the reference's, on all extended reals. -/
theorem smI_algebraic : Cert.algebraic_SmIKernelIdeal_SmIReferenceIdeal (hSmIKernelIdeal := Cert.SmIKernelIdeal.Gen.facts) (hSmIReferenceIdeal := Cert.SmIReferenceIdeal.Gen.facts) := by
  intro m g m' g' _ hagree
  refine ⟨fun c => (Cert.SmIKernelIdeal.Gen.dats m 0 c).arrAt 4 (Cert.SmIKernelIdeal.cfgs 0).N, fun c => (Cert.SmIKernelIdeal.Gen.dats m 0 c).arrAt 5 (Cert.SmIKernelIdeal.cfgs 0).N, fun c => (Cert.SmIKernelIdeal.Gen.dats m 0 c).arrAt 6 (Cert.SmIKernelIdeal.cfgs 0).N, fun c => (Cert.SmIKernelIdeal.Gen.dats m 0 c).arrAt 7 (Cert.SmIKernelIdeal.cfgs 0).N, Cert.SmIKernelIdeal.Value.run_blocks m g, ?_⟩
  have hr := Cert.SmIReferenceIdeal.Value.run (F := Ideal) m' g'
  refine (θ_run (Cert.SmIReferenceIdeal.defs (F := Ideal)) _ _).mono ?_ hr
  clear hr
  intro r h c
  obtain ⟨e0, e1, e2, e3, e4, e5, e6, e7⟩ := hagree c
  have hc := h c
  refine ⟨hc.1.trans ?_, hc.2.1.trans ?_, hc.2.2.1.trans ?_, hc.2.2.2.1.trans ?_, hc.2.2.2.2⟩
  · rw [e0, e4]; exact (Cert.SmIKernelIdeal.SmI.final4 m c).symm
  · rw [e0, e1, e2, e3, e5]; exact (Cert.SmIKernelIdeal.SmI.final5 m c).symm
  · rw [e0, e2, e6]; exact (Cert.SmIKernelIdeal.SmI.final6 m c).symm
  · rw [e0, e3, e7]; exact (Cert.SmIKernelIdeal.SmI.final7 m c).symm

end Cert.Proof
end
-- ==== Proof.SmIFrame.lean ====
/-
  The optimiser's call for the input projection, layer 0: the reference's own run.
-/
module

public import proofs.«01_k».proof.Defs
public import proofs.«01_k».proof.Proof.Gen.SmIReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem smI_reference_frame : Cert.quiescent_SmIReferenceIdeal (hSmIReferenceIdeal := Cert.SmIReferenceIdeal.Gen.facts) := by
  intro m g _
  hlo_run
  · intro c; simp only [and_self]
  · exact sem_eq_zero_of_no_sems (sig := Cert.SmIReferenceIdeal.sig) (by decide) _

end Cert.Proof
end
-- ==== Proof.SmUClaim.lean ====
/-
  The optimiser's call for the S5 gate, layer 0: the sum of the devices' shares of the gradient and the AdamW step of it are the
  reference's; layer 1 is left as it was.
-/
module

public import proofs.«01_k».proof.Defs
public import proofs.«01_k».proof.Proof.Gen.SmUKernelIdeal.Value
public import proofs.«01_k».proof.Proof.Gen.SmUReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.SmUReferenceIdeal.SmU

open Cert.SmUReferenceIdeal Cert.SmUReferenceIdeal.Gen

/-- Layer 0 of an array of two layers. -/
def layer0 (x : FVec Ideal S2x128x1024 .f32) : FVec Ideal S128x1024 .f32 := shapeCast _ (extractStridedSlice S1x128x1024 ![0, 0, 0] x slices_S2x128x1024_S1x128x1024_0_0_0) shapeCasts_S1x128x1024_S128x1024
/-- Two layers: the first computed, the second that of an array. -/
def stack (z : FVec Ideal S128x1024 .f32) (y : FVec Ideal S2x128x1024 .f32) : FVec Ideal S2x128x1024 .f32 := concatenate S2x128x1024 0 [⟨S1x128x1024, (broadcastInDim S1x128x1024 ![1, 2] bcast_S128x1024_S1x128x1024_1_2 z)⟩, ⟨S1x128x1024, (broadcastInDim S1x128x1024 ![1, 2] bcast_S128x1024_S1x128x1024_1_2 (shapeCast _ (extractStridedSlice S1x128x1024 ![1, 0, 0] y slices_S2x128x1024_S1x128x1024_1_0_0) shapeCasts_S1x128x1024_S128x1024))⟩] concatenates_S1x128x1024_S1x128x1024_S2x128x1024_d0
/-- The sum of the devices' shares. -/
def total (a : FVec Ideal S8x128x1024 .f32) : FVec Ideal S128x1024 .f32 := Host.reduceAdd a (constant S_ .f32 0x00000000#32) reducesTo_S8x128x1024_S128x1024_d0 h_S_
/-- The new first moment. -/
def mean (g : FVec Ideal S128x1024 .f32) (m : FVec Ideal S128x1024 .f32) : FVec Ideal S128x1024 .f32 := addf (mulf (broadcastInDim S128x1024 ![] bcast_S_S128x1024 (constant S_ .f32 0x3F666666#32)) m) (mulf (broadcastInDim S128x1024 ![] bcast_S_S128x1024 (constant S_ .f32 0x3DCCCCCD#32)) g)
/-- The new second moment. -/
def square (g : FVec Ideal S128x1024 .f32) (v : FVec Ideal S128x1024 .f32) : FVec Ideal S128x1024 .f32 := addf (mulf (broadcastInDim S128x1024 ![] bcast_S_S128x1024 (constant S_ .f32 0x3F7FBE77#32)) v) (mulf (broadcastInDim S128x1024 ![] bcast_S_S128x1024 (constant S_ .f32 0x3A83126F#32)) (mulf g g))
/-- The step of the weights. -/
def delta (g : FVec Ideal S128x1024 .f32) (w : FVec Ideal S128x1024 .f32) (m : FVec Ideal S128x1024 .f32) (v : FVec Ideal S128x1024 .f32) : FVec Ideal S128x1024 .f32 := mulf (broadcastInDim S128x1024 ![] bcast_S_S128x1024 (constant S_ .f32 0xBA83126F#32)) (addf (Host.divf (Host.divf (mean g m) (broadcastInDim S128x1024 ![] bcast_S_S128x1024 (constant S_ .f32 0x3F26BD02#32))) (addf (Host.sqrt (Host.divf (square g v) (broadcastInDim S128x1024 ![] bcast_S_S128x1024 (constant S_ .f32 0x3C231ACC#32)))) (broadcastInDim S128x1024 ![] bcast_S_S128x1024 (constant S_ .f32 0x322BCC77#32)))) (mulf (broadcastInDim S128x1024 ![] bcast_S_S128x1024 (constant S_ .f32 0x3C23D70A#32)) w))

theorem layer0_apply (x : FVec Ideal S2x128x1024 .f32) (r : Fin 128) (k : Fin 1024) : layer0 x (ix2 r k) = x (ix3 (0 : Fin 2) r k) := by
  pointwise [layer0]
theorem stack_first (z : FVec Ideal S128x1024 .f32) (y : FVec Ideal S2x128x1024 .f32) (r : Fin 128) (k : Fin 1024) : stack z y (ix3 (0 : Fin 2) r k) = z (ix2 r k) := by
  pointwise [stack]
theorem stack_second (z : FVec Ideal S128x1024 .f32) (y : FVec Ideal S2x128x1024 .f32) (r : Fin 128) (k : Fin 1024) : stack z y (ix3 (1 : Fin 2) r k) = y (ix3 (1 : Fin 2) r k) := by
  pointwise [stack]
theorem total_apply (a : FVec Ideal S8x128x1024 .f32) (r : Fin 128) (k : Fin 1024) : total a (ix2 r k) = ∑ j : Fin 8, a (ix3 j r k) := by
  pointwise [total]

end Cert.SmUReferenceIdeal.SmU

namespace Cert.SmUKernelIdeal.SmU

open Cert.SmUKernelIdeal Cert.SmUKernelIdeal.Gen
open Cert.SmUReferenceIdeal.SmU

section
variable (x : Vec Ideal S8x128x1024 .bf16) (wb mb vb : Vec Ideal S1x128x1024 .f32) (g : FVec Ideal S128x1024 .f32)
variable (a : FVec Ideal S8x128x1024 .f32) (w m v : FVec Ideal S2x128x1024 .f32) (G : FVec Ideal Cert.SmUReferenceIdeal.S128x1024 .f32) (r : Fin 128) (k : Fin 1024) (r' : Fin 128)

/-- The sum of a block's eight shares. -/
theorem sum_eq (hx : ∀ j : Fin 8, x (ix3 j r k) = a (ix3 j r' k)) :
    k0_pay3 (View.ld x (Rect.unit ![0, 0, 0] ![1, 128, 1024] inb_S8x128x1024_S1x128x1024_0_0_0)) (View.ld x (Rect.unit ![1, 0, 0] ![1, 128, 1024] inb_S8x128x1024_S1x128x1024_1_0_0)) (View.ld x (Rect.unit ![2, 0, 0] ![1, 128, 1024] inb_S8x128x1024_S1x128x1024_2_0_0)) (View.ld x (Rect.unit ![3, 0, 0] ![1, 128, 1024] inb_S8x128x1024_S1x128x1024_3_0_0)) (View.ld x (Rect.unit ![4, 0, 0] ![1, 128, 1024] inb_S8x128x1024_S1x128x1024_4_0_0)) (View.ld x (Rect.unit ![5, 0, 0] ![1, 128, 1024] inb_S8x128x1024_S1x128x1024_5_0_0)) (View.ld x (Rect.unit ![6, 0, 0] ![1, 128, 1024] inb_S8x128x1024_S1x128x1024_6_0_0)) (View.ld x (Rect.unit ![7, 0, 0] ![1, 128, 1024] inb_S8x128x1024_S1x128x1024_7_0_0)) (ix2 r k) = total a (ix2 r' k) := by
  rw [total_apply]
  simp only [← hx, Fin.sum_univ_eight]
  pointwise [k0_pay1, k0_pay2, k0_pay3, k0_pay4, k0_pay5, k0_pay6, k0_pay7]

theorem grad_eq (hx : ∀ j : Fin 8, x (ix3 j r k) = a (ix3 j r' k)) :
    k0_pay4 (k0_pay3 (View.ld x (Rect.unit ![0, 0, 0] ![1, 128, 1024] inb_S8x128x1024_S1x128x1024_0_0_0)) (View.ld x (Rect.unit ![1, 0, 0] ![1, 128, 1024] inb_S8x128x1024_S1x128x1024_1_0_0)) (View.ld x (Rect.unit ![2, 0, 0] ![1, 128, 1024] inb_S8x128x1024_S1x128x1024_2_0_0)) (View.ld x (Rect.unit ![3, 0, 0] ![1, 128, 1024] inb_S8x128x1024_S1x128x1024_3_0_0)) (View.ld x (Rect.unit ![4, 0, 0] ![1, 128, 1024] inb_S8x128x1024_S1x128x1024_4_0_0)) (View.ld x (Rect.unit ![5, 0, 0] ![1, 128, 1024] inb_S8x128x1024_S1x128x1024_5_0_0)) (View.ld x (Rect.unit ![6, 0, 0] ![1, 128, 1024] inb_S8x128x1024_S1x128x1024_6_0_0)) (View.ld x (Rect.unit ![7, 0, 0] ![1, 128, 1024] inb_S8x128x1024_S1x128x1024_7_0_0))) (ix3 (0 : Fin 1) r k) = total a (ix2 r' k) := by
  rw [← sum_eq x a r k r' hx]
  pointwise [k0_pay1, k0_pay2, k0_pay3, k0_pay4, k0_pay5, k0_pay6, k0_pay7]

theorem mean_eq (hg : g (ix2 r k) = G (ix2 r' k)) (hm : mb (ix3 (0 : Fin 1) r k) = m (ix3 (0 : Fin 2) r' k)) :
    k0_pay1 (k0_pay5 g mb) (ix3 (0 : Fin 1) r k) = mean G (layer0 m) (ix2 r' k) := by
  pointwise [k0_pay1, k0_pay2, k0_pay3, k0_pay4, k0_pay5, k0_pay6, k0_pay7, mean, layer0]
  rw [hg, hm]

theorem square_eq (hg : g (ix2 r k) = G (ix2 r' k)) (hv : vb (ix3 (0 : Fin 1) r k) = v (ix3 (0 : Fin 2) r' k)) :
    k0_pay2 (k0_pay6 g vb) (ix3 (0 : Fin 1) r k) = square G (layer0 v) (ix2 r' k) := by
  pointwise [k0_pay1, k0_pay2, k0_pay3, k0_pay4, k0_pay5, k0_pay6, k0_pay7, square, layer0]
  rw [hg, hv]

theorem delta_eq (hg : g (ix2 r k) = G (ix2 r' k)) (hw : wb (ix3 (0 : Fin 1) r k) = w (ix3 (0 : Fin 2) r' k)) (hm : mb (ix3 (0 : Fin 1) r k) = m (ix3 (0 : Fin 2) r' k)) (hv : vb (ix3 (0 : Fin 1) r k) = v (ix3 (0 : Fin 2) r' k)) :
    k0_pay7 g wb mb vb (ix3 (0 : Fin 1) r k) = delta G (layer0 w) (layer0 m) (layer0 v) (ix2 r' k) := by
  pointwise [k0_pay1, k0_pay2, k0_pay3, k0_pay4, k0_pay5, k0_pay6, k0_pay7, delta, mean, square, layer0]
  rw [hg, hw, hm, hv]
end

variable (m : (ℓ : Loc nD τ sig) → Buf (Elt Ideal) ℓ) (c : Dev nD) (t : Fin cfg0.N)

abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)
abbrev A4 := m ((c.tc : Thread nD τ).loc main_arg4)
abbrev A5 := m ((c.tc : Thread nD τ).loc main_arg5)
abbrev A6 := m ((c.tc : Thread nD τ).loc main_arg6)
abbrev A7 := m ((c.tc : Thread nD τ).loc main_arg7)

theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

theorem lt : t.val < 1 := lt_of_lt_of_eq t.isLt N_0

/-- A block's row in the arrays. -/
abbrev row (r : Fin 128) : Fin 128 := ⟨t.val * 128 + r.val, by have := lt t; omega⟩

theorem entry0 (j : Fin 8) (r : Fin 128) (k : Fin 1024) : (V m c main_v0 : FVec Ideal S8x128x1024 .bf16) (ix3 j r k) = (A0 m c (ix3 j r k) : EReal) := by
  show StableHlo.after _ _ _ _ = _
  simp only [List.flatten_cons, List.flatten_nil, List.append_nil, List.cons_append, List.nil_append, hostOps0]
  entry_read
  rfl
theorem blk0 (j : Fin 8) (r : Fin 128) (k : Fin 1024) : iblk m c 0 t (ix3 j r k) = A0 m c (ix3 j (row t r) k) := by
  have e : iblk m c 0 t (ix3 j r k) = (V m c main_v0 : FVec Ideal S8x128x1024 .bf16) (ix3 j (row t r) k) := by blk_ext! [iblk, idx t]
  rw [e, entry0]
theorem blk1 (r : Fin 128) (k : Fin 1024) : iblk m c 1 t (ix3 (0 : Fin 1) r k) = A1 m c (ix3 (0 : Fin 2) (row t r) k) := by
  blk_ext! [iblk, V, idx t]
theorem blk2 (r : Fin 128) (k : Fin 1024) : iblk m c 2 t (ix3 (0 : Fin 1) r k) = A2 m c (ix3 (0 : Fin 2) (row t r) k) := by
  blk_ext! [iblk, V, idx t]
theorem blk3 (r : Fin 128) (k : Fin 1024) : iblk m c 3 t (ix3 (0 : Fin 1) r k) = A3 m c (ix3 (0 : Fin 2) (row t r) k) := by
  blk_ext! [iblk, V, idx t]

theorem entry4 : V m c main_v1_0 = A4 m c := by
  unfold V; after_results; try rfl

/-- The result array of the gradient: layer 0 computed, layer 1 kept. -/
theorem final4 : (dats m 0 c).arrAt 4 (cfgs 0).N = stack (total (A0 m c)) (A4 m c) := by
  refine ((dats m 0 c).arrAt_eq_of_coversWhere 4 (stack (total (A0 m c)) (A4 m c)) (P := fun i => (i 0 : ℕ) < 1) (fun β => β 0 < 1) (by decide +kernel) (fun t hf y => ?_)
    (fun j => by blk_simp [Pipeline.Window.cell_apply]; omega)).trans (funext fun i => ?_)
  · obtain ⟨r, k, ey⟩ : ∃ (r : Fin 128) (k : Fin 1024), y = ix3 (0 : Fin 1) r k := ⟨y 1, y 2, by blk_ext! []⟩
    have e : ((View.whole main_v1_0).slice (win0_4.rect t)).emb (ix3 (0 : Fin 1) r k) = ix3 (0 : Fin 2) (row t r) k := by blk_ext! [idx t]
    blk_simp; rw [after0_4]; unfold outsAt0; dsimp only; unfold out0_A_4; frame_out
    rw [ey, e, stack_first]
    exact grad_eq (iblk m c 0 t) (A0 m c) r k (row t r) (fun j => blk0 m c t j r k)
  · split
    · rfl
    · rename_i h
      obtain ⟨r, k, ei⟩ : ∃ (r : Fin 128) (k : Fin 1024), i = ix3 (1 : Fin 2) r k := ⟨i 1, i 2, by blk_ext! []⟩
      rw [ei, stack_second]
      exact congrFun (entry4 m c) _

theorem entry5 : V m c main_v1_1 = A5 m c := by
  unfold V; after_results; try rfl

/-- The result array of the step: layer 0 computed, layer 1 kept. -/
theorem final5 : (dats m 0 c).arrAt 5 (cfgs 0).N = stack (delta (total (A0 m c)) (layer0 (A1 m c)) (layer0 (A2 m c)) (layer0 (A3 m c))) (A5 m c) := by
  refine ((dats m 0 c).arrAt_eq_of_coversWhere 5 (stack (delta (total (A0 m c)) (layer0 (A1 m c)) (layer0 (A2 m c)) (layer0 (A3 m c))) (A5 m c)) (P := fun i => (i 0 : ℕ) < 1) (fun β => β 0 < 1) (by decide +kernel) (fun t hf y => ?_)
    (fun j => by blk_simp [Pipeline.Window.cell_apply]; omega)).trans (funext fun i => ?_)
  · obtain ⟨r, k, ey⟩ : ∃ (r : Fin 128) (k : Fin 1024), y = ix3 (0 : Fin 1) r k := ⟨y 1, y 2, by blk_ext! []⟩
    have e : ((View.whole main_v1_1).slice (win0_5.rect t)).emb (ix3 (0 : Fin 1) r k) = ix3 (0 : Fin 2) (row t r) k := by blk_ext! [idx t]
    blk_simp; rw [after0_5]; unfold outsAt0; dsimp only; unfold out0_A_5; frame_out
    rw [ey, e, stack_first]
    exact delta_eq (iblk m c 1 t) (iblk m c 2 t) (iblk m c 3 t) _ (A1 m c) (A2 m c) (A3 m c) (total (A0 m c)) r k (row t r) (sum_eq (iblk m c 0 t) (A0 m c) r k (row t r) (fun j => blk0 m c t j r k)) (blk1 m c t r k) (blk2 m c t r k) (blk3 m c t r k)
  · split
    · rfl
    · rename_i h
      obtain ⟨r, k, ei⟩ : ∃ (r : Fin 128) (k : Fin 1024), i = ix3 (1 : Fin 2) r k := ⟨i 1, i 2, by blk_ext! []⟩
      rw [ei, stack_second]
      exact congrFun (entry5 m c) _

theorem entry6 : V m c main_v1_2 = A6 m c := by
  unfold V; after_results; try rfl

/-- The result array of the first moment: layer 0 computed, layer 1 kept. -/
theorem final6 : (dats m 0 c).arrAt 6 (cfgs 0).N = stack (mean (total (A0 m c)) (layer0 (A2 m c))) (A6 m c) := by
  refine ((dats m 0 c).arrAt_eq_of_coversWhere 6 (stack (mean (total (A0 m c)) (layer0 (A2 m c))) (A6 m c)) (P := fun i => (i 0 : ℕ) < 1) (fun β => β 0 < 1) (by decide +kernel) (fun t hf y => ?_)
    (fun j => by blk_simp [Pipeline.Window.cell_apply]; omega)).trans (funext fun i => ?_)
  · obtain ⟨r, k, ey⟩ : ∃ (r : Fin 128) (k : Fin 1024), y = ix3 (0 : Fin 1) r k := ⟨y 1, y 2, by blk_ext! []⟩
    have e : ((View.whole main_v1_2).slice (win0_6.rect t)).emb (ix3 (0 : Fin 1) r k) = ix3 (0 : Fin 2) (row t r) k := by blk_ext! [idx t]
    blk_simp; rw [after0_6]; unfold outsAt0; dsimp only; unfold out0_A_6; frame_out
    rw [ey, e, stack_first]
    exact mean_eq (iblk m c 2 t) _ (A2 m c) (total (A0 m c)) r k (row t r) (sum_eq (iblk m c 0 t) (A0 m c) r k (row t r) (fun j => blk0 m c t j r k)) (blk2 m c t r k)
  · split
    · rfl
    · rename_i h
      obtain ⟨r, k, ei⟩ : ∃ (r : Fin 128) (k : Fin 1024), i = ix3 (1 : Fin 2) r k := ⟨i 1, i 2, by blk_ext! []⟩
      rw [ei, stack_second]
      exact congrFun (entry6 m c) _

theorem entry7 : V m c main_v1_3 = A7 m c := by
  unfold V; after_results; try rfl

/-- The result array of the second moment: layer 0 computed, layer 1 kept. -/
theorem final7 : (dats m 0 c).arrAt 7 (cfgs 0).N = stack (square (total (A0 m c)) (layer0 (A3 m c))) (A7 m c) := by
  refine ((dats m 0 c).arrAt_eq_of_coversWhere 7 (stack (square (total (A0 m c)) (layer0 (A3 m c))) (A7 m c)) (P := fun i => (i 0 : ℕ) < 1) (fun β => β 0 < 1) (by decide +kernel) (fun t hf y => ?_)
    (fun j => by blk_simp [Pipeline.Window.cell_apply]; omega)).trans (funext fun i => ?_)
  · obtain ⟨r, k, ey⟩ : ∃ (r : Fin 128) (k : Fin 1024), y = ix3 (0 : Fin 1) r k := ⟨y 1, y 2, by blk_ext! []⟩
    have e : ((View.whole main_v1_3).slice (win0_7.rect t)).emb (ix3 (0 : Fin 1) r k) = ix3 (0 : Fin 2) (row t r) k := by blk_ext! [idx t]
    blk_simp; rw [after0_7]; unfold outsAt0; dsimp only; unfold out0_A_7; frame_out
    rw [ey, e, stack_first]
    exact square_eq (iblk m c 3 t) _ (A3 m c) (total (A0 m c)) r k (row t r) (sum_eq (iblk m c 0 t) (A0 m c) r k (row t r) (fun j => blk0 m c t j r k)) (blk3 m c t r k)
  · split
    · rfl
    · rename_i h
      obtain ⟨r, k, ei⟩ : ∃ (r : Fin 128) (k : Fin 1024), i = ix3 (1 : Fin 2) r k := ⟨i 1, i 2, by blk_ext! []⟩
      rw [ei, stack_second]
      exact congrFun (entry7 m c) _

end Cert.SmUKernelIdeal.SmU

set_option maxHeartbeats 1600000

namespace Cert.Proof

/-- The kernel's four results are the reference's, on all extended reals. -/
theorem smU_algebraic : Cert.algebraic_SmUKernelIdeal_SmUReferenceIdeal (hSmUKernelIdeal := Cert.SmUKernelIdeal.Gen.facts) (hSmUReferenceIdeal := Cert.SmUReferenceIdeal.Gen.facts) := by
  intro m g m' g' _ hagree
  refine ⟨fun c => (Cert.SmUKernelIdeal.Gen.dats m 0 c).arrAt 4 (Cert.SmUKernelIdeal.cfgs 0).N, fun c => (Cert.SmUKernelIdeal.Gen.dats m 0 c).arrAt 5 (Cert.SmUKernelIdeal.cfgs 0).N, fun c => (Cert.SmUKernelIdeal.Gen.dats m 0 c).arrAt 6 (Cert.SmUKernelIdeal.cfgs 0).N, fun c => (Cert.SmUKernelIdeal.Gen.dats m 0 c).arrAt 7 (Cert.SmUKernelIdeal.cfgs 0).N, Cert.SmUKernelIdeal.Value.run_blocks m g, ?_⟩
  have hr := Cert.SmUReferenceIdeal.Value.run (F := Ideal) m' g'
  refine (θ_run (Cert.SmUReferenceIdeal.defs (F := Ideal)) _ _).mono ?_ hr
  clear hr
  intro r h c
  obtain ⟨e0, e1, e2, e3, e4, e5, e6, e7⟩ := hagree c
  have hc := h c
  refine ⟨hc.1.trans ?_, hc.2.1.trans ?_, hc.2.2.1.trans ?_, hc.2.2.2.1.trans ?_, hc.2.2.2.2⟩
  · rw [e0, e4]; exact (Cert.SmUKernelIdeal.SmU.final4 m c).symm
  · rw [e0, e1, e2, e3, e5]; exact (Cert.SmUKernelIdeal.SmU.final5 m c).symm
  · rw [e0, e2, e6]; exact (Cert.SmUKernelIdeal.SmU.final6 m c).symm
  · rw [e0, e3, e7]; exact (Cert.SmUKernelIdeal.SmU.final7 m c).symm

end Cert.Proof
end
-- ==== Proof.SmUFrame.lean ====
/-
  The optimiser's call for the S5 gate, layer 0: the reference's own run.
-/
module

public import proofs.«01_k».proof.Defs
public import proofs.«01_k».proof.Proof.Gen.SmUReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem smU_reference_frame : Cert.quiescent_SmUReferenceIdeal (hSmUReferenceIdeal := Cert.SmUReferenceIdeal.Gen.facts) := by
  intro m g _
  hlo_run
  · intro c; simp only [and_self]
  · exact sem_eq_zero_of_no_sems (sig := Cert.SmUReferenceIdeal.sig) (by decide) _

end Cert.Proof
end
-- ==== Proof.SmVClaim.lean ====
/-
  The optimiser's call for the convolution, layer 0: the sum of the devices' shares of the gradient and the AdamW step of it are the
  reference's; layer 1 is left as it was.
-/
module

public import proofs.«01_k».proof.Defs
public import proofs.«01_k».proof.Proof.Gen.SmVKernelIdeal.Value
public import proofs.«01_k».proof.Proof.Gen.SmVReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.SmVReferenceIdeal.SmV

open Cert.SmVReferenceIdeal Cert.SmVReferenceIdeal.Gen

/-- Layer 0 of an array of two layers. -/
def layer0 (x : FVec Ideal S2x4x192 .f32) : FVec Ideal S4x192 .f32 := shapeCast _ (extractStridedSlice S1x4x192 ![0, 0, 0] x slices_S2x4x192_S1x4x192_0_0_0) shapeCasts_S1x4x192_S4x192
/-- Two layers: the first computed, the second that of an array. -/
def stack (z : FVec Ideal S4x192 .f32) (y : FVec Ideal S2x4x192 .f32) : FVec Ideal S2x4x192 .f32 := concatenate S2x4x192 0 [⟨S1x4x192, (broadcastInDim S1x4x192 ![1, 2] bcast_S4x192_S1x4x192_1_2 z)⟩, ⟨S1x4x192, (broadcastInDim S1x4x192 ![1, 2] bcast_S4x192_S1x4x192_1_2 (shapeCast _ (extractStridedSlice S1x4x192 ![1, 0, 0] y slices_S2x4x192_S1x4x192_1_0_0) shapeCasts_S1x4x192_S4x192))⟩] concatenates_S1x4x192_S1x4x192_S2x4x192_d0
/-- The sum of the devices' shares. -/
def total (a : FVec Ideal S8x4x192 .f32) : FVec Ideal S4x192 .f32 := Host.reduceAdd a (constant S_ .f32 0x00000000#32) reducesTo_S8x4x192_S4x192_d0 h_S_
/-- The new first moment. -/
def mean (g : FVec Ideal S4x192 .f32) (m : FVec Ideal S4x192 .f32) : FVec Ideal S4x192 .f32 := addf (mulf (broadcastInDim S4x192 ![] bcast_S_S4x192 (constant S_ .f32 0x3F666666#32)) m) (mulf (broadcastInDim S4x192 ![] bcast_S_S4x192 (constant S_ .f32 0x3DCCCCCD#32)) g)
/-- The new second moment. -/
def square (g : FVec Ideal S4x192 .f32) (v : FVec Ideal S4x192 .f32) : FVec Ideal S4x192 .f32 := addf (mulf (broadcastInDim S4x192 ![] bcast_S_S4x192 (constant S_ .f32 0x3F7FBE77#32)) v) (mulf (broadcastInDim S4x192 ![] bcast_S_S4x192 (constant S_ .f32 0x3A83126F#32)) (mulf g g))
/-- The step of the weights. -/
def delta (g : FVec Ideal S4x192 .f32) (w : FVec Ideal S4x192 .f32) (m : FVec Ideal S4x192 .f32) (v : FVec Ideal S4x192 .f32) : FVec Ideal S4x192 .f32 := mulf (broadcastInDim S4x192 ![] bcast_S_S4x192 (constant S_ .f32 0xBA83126F#32)) (addf (Host.divf (Host.divf (mean g m) (broadcastInDim S4x192 ![] bcast_S_S4x192 (constant S_ .f32 0x3F26BD02#32))) (addf (Host.sqrt (Host.divf (square g v) (broadcastInDim S4x192 ![] bcast_S_S4x192 (constant S_ .f32 0x3C231ACC#32)))) (broadcastInDim S4x192 ![] bcast_S_S4x192 (constant S_ .f32 0x322BCC77#32)))) (mulf (broadcastInDim S4x192 ![] bcast_S_S4x192 (constant S_ .f32 0x3C23D70A#32)) w))

theorem layer0_apply (x : FVec Ideal S2x4x192 .f32) (r : Fin 4) (k : Fin 192) : layer0 x (ix2 r k) = x (ix3 (0 : Fin 2) r k) := by
  pointwise [layer0]
theorem stack_first (z : FVec Ideal S4x192 .f32) (y : FVec Ideal S2x4x192 .f32) (r : Fin 4) (k : Fin 192) : stack z y (ix3 (0 : Fin 2) r k) = z (ix2 r k) := by
  pointwise [stack]
theorem stack_second (z : FVec Ideal S4x192 .f32) (y : FVec Ideal S2x4x192 .f32) (r : Fin 4) (k : Fin 192) : stack z y (ix3 (1 : Fin 2) r k) = y (ix3 (1 : Fin 2) r k) := by
  pointwise [stack]
theorem total_apply (a : FVec Ideal S8x4x192 .f32) (r : Fin 4) (k : Fin 192) : total a (ix2 r k) = ∑ j : Fin 8, a (ix3 j r k) := by
  pointwise [total]

end Cert.SmVReferenceIdeal.SmV

namespace Cert.SmVKernelIdeal.SmV

open Cert.SmVKernelIdeal Cert.SmVKernelIdeal.Gen
open Cert.SmVReferenceIdeal.SmV

section
variable (x : Vec Ideal S8x4x192 .f32) (wb mb vb : Vec Ideal S1x4x192 .f32) (g : FVec Ideal S4x192 .f32)
variable (a : FVec Ideal S8x4x192 .f32) (w m v : FVec Ideal S2x4x192 .f32) (G : FVec Ideal Cert.SmVReferenceIdeal.S4x192 .f32) (r : Fin 4) (k : Fin 192) (r' : Fin 4)

/-- The sum of a block's eight shares. -/
theorem sum_eq (hx : ∀ j : Fin 8, x (ix3 j r k) = a (ix3 j r' k)) :
    k0_pay2 (View.ld x (Rect.unit ![0, 0, 0] ![1, 4, 192] inb_S8x4x192_S1x4x192_0_0_0)) (View.ld x (Rect.unit ![1, 0, 0] ![1, 4, 192] inb_S8x4x192_S1x4x192_1_0_0)) (View.ld x (Rect.unit ![2, 0, 0] ![1, 4, 192] inb_S8x4x192_S1x4x192_2_0_0)) (View.ld x (Rect.unit ![3, 0, 0] ![1, 4, 192] inb_S8x4x192_S1x4x192_3_0_0)) (View.ld x (Rect.unit ![4, 0, 0] ![1, 4, 192] inb_S8x4x192_S1x4x192_4_0_0)) (View.ld x (Rect.unit ![5, 0, 0] ![1, 4, 192] inb_S8x4x192_S1x4x192_5_0_0)) (View.ld x (Rect.unit ![6, 0, 0] ![1, 4, 192] inb_S8x4x192_S1x4x192_6_0_0)) (View.ld x (Rect.unit ![7, 0, 0] ![1, 4, 192] inb_S8x4x192_S1x4x192_7_0_0)) (ix2 r k) = total a (ix2 r' k) := by
  rw [total_apply]
  simp only [← hx, Fin.sum_univ_eight]
  pointwise [k0_pay1, k0_pay2, k0_pay3, k0_pay4, k0_pay5, k0_pay6, k0_pay7, k0_pay8]

theorem grad_eq (hx : ∀ j : Fin 8, x (ix3 j r k) = a (ix3 j r' k)) :
    k0_pay3 (View.ld x (Rect.unit ![0, 0, 0] ![1, 4, 192] inb_S8x4x192_S1x4x192_0_0_0)) (View.ld x (Rect.unit ![1, 0, 0] ![1, 4, 192] inb_S8x4x192_S1x4x192_1_0_0)) (View.ld x (Rect.unit ![2, 0, 0] ![1, 4, 192] inb_S8x4x192_S1x4x192_2_0_0)) (View.ld x (Rect.unit ![3, 0, 0] ![1, 4, 192] inb_S8x4x192_S1x4x192_3_0_0)) (View.ld x (Rect.unit ![4, 0, 0] ![1, 4, 192] inb_S8x4x192_S1x4x192_4_0_0)) (View.ld x (Rect.unit ![5, 0, 0] ![1, 4, 192] inb_S8x4x192_S1x4x192_5_0_0)) (View.ld x (Rect.unit ![6, 0, 0] ![1, 4, 192] inb_S8x4x192_S1x4x192_6_0_0)) (View.ld x (Rect.unit ![7, 0, 0] ![1, 4, 192] inb_S8x4x192_S1x4x192_7_0_0)) (ix3 (0 : Fin 1) r k) = total a (ix2 r' k) := by
  rw [← sum_eq x a r k r' hx]
  pointwise [k0_pay1, k0_pay2, k0_pay3, k0_pay4, k0_pay5, k0_pay6, k0_pay7, k0_pay8]

theorem mean_eq (hg : g (ix2 r k) = G (ix2 r' k)) (hm : mb (ix3 (0 : Fin 1) r k) = m (ix3 (0 : Fin 2) r' k)) :
    k0_pay8 g mb (ix3 (0 : Fin 1) r k) = mean G (layer0 m) (ix2 r' k) := by
  pointwise [k0_pay1, k0_pay2, k0_pay3, k0_pay4, k0_pay5, k0_pay6, k0_pay7, k0_pay8, mean, layer0]
  rw [hg, hm]

theorem square_eq (hg : g (ix2 r k) = G (ix2 r' k)) (hv : vb (ix3 (0 : Fin 1) r k) = v (ix3 (0 : Fin 2) r' k)) :
    k0_pay1 (k0_pay6 g vb) (ix3 (0 : Fin 1) r k) = square G (layer0 v) (ix2 r' k) := by
  pointwise [k0_pay1, k0_pay2, k0_pay3, k0_pay4, k0_pay5, k0_pay6, k0_pay7, k0_pay8, square, layer0]
  rw [hg, hv]

theorem delta_eq (hg : g (ix2 r k) = G (ix2 r' k)) (hw : wb (ix3 (0 : Fin 1) r k) = w (ix3 (0 : Fin 2) r' k)) (hm : mb (ix3 (0 : Fin 1) r k) = m (ix3 (0 : Fin 2) r' k)) (hv : vb (ix3 (0 : Fin 1) r k) = v (ix3 (0 : Fin 2) r' k)) :
    k0_pay7 g (k0_pay4 wb) mb vb (ix3 (0 : Fin 1) r k) = delta G (layer0 w) (layer0 m) (layer0 v) (ix2 r' k) := by
  pointwise [k0_pay1, k0_pay2, k0_pay3, k0_pay4, k0_pay5, k0_pay6, k0_pay7, k0_pay8, delta, mean, square, layer0]
  rw [hg, hw, hm, hv]
end

variable (m : (ℓ : Loc nD τ sig) → Buf (Elt Ideal) ℓ) (c : Dev nD) (t : Fin cfg0.N)

abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)
abbrev A4 := m ((c.tc : Thread nD τ).loc main_arg4)
abbrev A5 := m ((c.tc : Thread nD τ).loc main_arg5)
abbrev A6 := m ((c.tc : Thread nD τ).loc main_arg6)
abbrev A7 := m ((c.tc : Thread nD τ).loc main_arg7)

theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

theorem lt : t.val < 1 := lt_of_lt_of_eq t.isLt N_0

/-- A block's row in the arrays. -/
abbrev row (r : Fin 4) : Fin 4 := ⟨t.val * 4 + r.val, by have := lt t; omega⟩

theorem blk0 (j : Fin 8) (r : Fin 4) (k : Fin 192) : iblk m c 0 t (ix3 j r k) = A0 m c (ix3 j (row t r) k) := by
  blk_ext! [iblk, V, idx t]
theorem blk1 (r : Fin 4) (k : Fin 192) : iblk m c 1 t (ix3 (0 : Fin 1) r k) = A1 m c (ix3 (0 : Fin 2) (row t r) k) := by
  blk_ext! [iblk, V, idx t]
theorem blk2 (r : Fin 4) (k : Fin 192) : iblk m c 2 t (ix3 (0 : Fin 1) r k) = A2 m c (ix3 (0 : Fin 2) (row t r) k) := by
  blk_ext! [iblk, V, idx t]
theorem blk3 (r : Fin 4) (k : Fin 192) : iblk m c 3 t (ix3 (0 : Fin 1) r k) = A3 m c (ix3 (0 : Fin 2) (row t r) k) := by
  blk_ext! [iblk, V, idx t]

theorem entry4 : V m c main_v0_0 = A4 m c := by
  unfold V; after_results; try rfl

/-- The result array of the gradient: layer 0 computed, layer 1 kept. -/
theorem final4 : (dats m 0 c).arrAt 4 (cfgs 0).N = stack (total (A0 m c)) (A4 m c) := by
  refine ((dats m 0 c).arrAt_eq_of_coversWhere 4 (stack (total (A0 m c)) (A4 m c)) (P := fun i => (i 0 : ℕ) < 1) (fun β => β 0 < 1) (by decide +kernel) (fun t hf y => ?_)
    (fun j => by blk_simp [Pipeline.Window.cell_apply]; omega)).trans (funext fun i => ?_)
  · obtain ⟨r, k, ey⟩ : ∃ (r : Fin 4) (k : Fin 192), y = ix3 (0 : Fin 1) r k := ⟨y 1, y 2, by blk_ext! []⟩
    have e : ((View.whole main_v0_0).slice (win0_4.rect t)).emb (ix3 (0 : Fin 1) r k) = ix3 (0 : Fin 2) (row t r) k := by blk_ext! [idx t]
    blk_simp; rw [after0_4]; unfold outsAt0; dsimp only; unfold out0_A_4; frame_out
    rw [ey, e, stack_first]
    exact grad_eq (iblk m c 0 t) (A0 m c) r k (row t r) (fun j => blk0 m c t j r k)
  · split
    · rfl
    · rename_i h
      obtain ⟨r, k, ei⟩ : ∃ (r : Fin 4) (k : Fin 192), i = ix3 (1 : Fin 2) r k := ⟨i 1, i 2, by blk_ext! []⟩
      rw [ei, stack_second]
      exact congrFun (entry4 m c) _

theorem entry5 : V m c main_v0_1 = A5 m c := by
  unfold V; after_results; try rfl

/-- The result array of the step: layer 0 computed, layer 1 kept. -/
theorem final5 : (dats m 0 c).arrAt 5 (cfgs 0).N = stack (delta (total (A0 m c)) (layer0 (A1 m c)) (layer0 (A2 m c)) (layer0 (A3 m c))) (A5 m c) := by
  refine ((dats m 0 c).arrAt_eq_of_coversWhere 5 (stack (delta (total (A0 m c)) (layer0 (A1 m c)) (layer0 (A2 m c)) (layer0 (A3 m c))) (A5 m c)) (P := fun i => (i 0 : ℕ) < 1) (fun β => β 0 < 1) (by decide +kernel) (fun t hf y => ?_)
    (fun j => by blk_simp [Pipeline.Window.cell_apply]; omega)).trans (funext fun i => ?_)
  · obtain ⟨r, k, ey⟩ : ∃ (r : Fin 4) (k : Fin 192), y = ix3 (0 : Fin 1) r k := ⟨y 1, y 2, by blk_ext! []⟩
    have e : ((View.whole main_v0_1).slice (win0_5.rect t)).emb (ix3 (0 : Fin 1) r k) = ix3 (0 : Fin 2) (row t r) k := by blk_ext! [idx t]
    blk_simp; rw [after0_5]; unfold outsAt0; dsimp only; unfold out0_A_5; frame_out
    rw [ey, e, stack_first]
    exact delta_eq (iblk m c 1 t) (iblk m c 2 t) (iblk m c 3 t) _ (A1 m c) (A2 m c) (A3 m c) (total (A0 m c)) r k (row t r) (sum_eq (iblk m c 0 t) (A0 m c) r k (row t r) (fun j => blk0 m c t j r k)) (blk1 m c t r k) (blk2 m c t r k) (blk3 m c t r k)
  · split
    · rfl
    · rename_i h
      obtain ⟨r, k, ei⟩ : ∃ (r : Fin 4) (k : Fin 192), i = ix3 (1 : Fin 2) r k := ⟨i 1, i 2, by blk_ext! []⟩
      rw [ei, stack_second]
      exact congrFun (entry5 m c) _

theorem entry6 : V m c main_v0_2 = A6 m c := by
  unfold V; after_results; try rfl

/-- The result array of the first moment: layer 0 computed, layer 1 kept. -/
theorem final6 : (dats m 0 c).arrAt 6 (cfgs 0).N = stack (mean (total (A0 m c)) (layer0 (A2 m c))) (A6 m c) := by
  refine ((dats m 0 c).arrAt_eq_of_coversWhere 6 (stack (mean (total (A0 m c)) (layer0 (A2 m c))) (A6 m c)) (P := fun i => (i 0 : ℕ) < 1) (fun β => β 0 < 1) (by decide +kernel) (fun t hf y => ?_)
    (fun j => by blk_simp [Pipeline.Window.cell_apply]; omega)).trans (funext fun i => ?_)
  · obtain ⟨r, k, ey⟩ : ∃ (r : Fin 4) (k : Fin 192), y = ix3 (0 : Fin 1) r k := ⟨y 1, y 2, by blk_ext! []⟩
    have e : ((View.whole main_v0_2).slice (win0_6.rect t)).emb (ix3 (0 : Fin 1) r k) = ix3 (0 : Fin 2) (row t r) k := by blk_ext! [idx t]
    blk_simp; rw [after0_6]; unfold outsAt0; dsimp only; unfold out0_A_6; frame_out
    rw [ey, e, stack_first]
    exact mean_eq (iblk m c 2 t) _ (A2 m c) (total (A0 m c)) r k (row t r) (sum_eq (iblk m c 0 t) (A0 m c) r k (row t r) (fun j => blk0 m c t j r k)) (blk2 m c t r k)
  · split
    · rfl
    · rename_i h
      obtain ⟨r, k, ei⟩ : ∃ (r : Fin 4) (k : Fin 192), i = ix3 (1 : Fin 2) r k := ⟨i 1, i 2, by blk_ext! []⟩
      rw [ei, stack_second]
      exact congrFun (entry6 m c) _

theorem entry7 : V m c main_v0_3 = A7 m c := by
  unfold V; after_results; try rfl

/-- The result array of the second moment: layer 0 computed, layer 1 kept. -/
theorem final7 : (dats m 0 c).arrAt 7 (cfgs 0).N = stack (square (total (A0 m c)) (layer0 (A3 m c))) (A7 m c) := by
  refine ((dats m 0 c).arrAt_eq_of_coversWhere 7 (stack (square (total (A0 m c)) (layer0 (A3 m c))) (A7 m c)) (P := fun i => (i 0 : ℕ) < 1) (fun β => β 0 < 1) (by decide +kernel) (fun t hf y => ?_)
    (fun j => by blk_simp [Pipeline.Window.cell_apply]; omega)).trans (funext fun i => ?_)
  · obtain ⟨r, k, ey⟩ : ∃ (r : Fin 4) (k : Fin 192), y = ix3 (0 : Fin 1) r k := ⟨y 1, y 2, by blk_ext! []⟩
    have e : ((View.whole main_v0_3).slice (win0_7.rect t)).emb (ix3 (0 : Fin 1) r k) = ix3 (0 : Fin 2) (row t r) k := by blk_ext! [idx t]
    blk_simp; rw [after0_7]; unfold outsAt0; dsimp only; unfold out0_A_7; frame_out
    rw [ey, e, stack_first]
    exact square_eq (iblk m c 3 t) _ (A3 m c) (total (A0 m c)) r k (row t r) (sum_eq (iblk m c 0 t) (A0 m c) r k (row t r) (fun j => blk0 m c t j r k)) (blk3 m c t r k)
  · split
    · rfl
    · rename_i h
      obtain ⟨r, k, ei⟩ : ∃ (r : Fin 4) (k : Fin 192), i = ix3 (1 : Fin 2) r k := ⟨i 1, i 2, by blk_ext! []⟩
      rw [ei, stack_second]
      exact congrFun (entry7 m c) _

end Cert.SmVKernelIdeal.SmV

set_option maxHeartbeats 1600000

namespace Cert.Proof

/-- The kernel's four results are the reference's, on all extended reals. -/
theorem smV_algebraic : Cert.algebraic_SmVKernelIdeal_SmVReferenceIdeal (hSmVKernelIdeal := Cert.SmVKernelIdeal.Gen.facts) (hSmVReferenceIdeal := Cert.SmVReferenceIdeal.Gen.facts) := by
  intro m g m' g' _ hagree
  refine ⟨fun c => (Cert.SmVKernelIdeal.Gen.dats m 0 c).arrAt 4 (Cert.SmVKernelIdeal.cfgs 0).N, fun c => (Cert.SmVKernelIdeal.Gen.dats m 0 c).arrAt 5 (Cert.SmVKernelIdeal.cfgs 0).N, fun c => (Cert.SmVKernelIdeal.Gen.dats m 0 c).arrAt 6 (Cert.SmVKernelIdeal.cfgs 0).N, fun c => (Cert.SmVKernelIdeal.Gen.dats m 0 c).arrAt 7 (Cert.SmVKernelIdeal.cfgs 0).N, Cert.SmVKernelIdeal.Value.run_blocks m g, ?_⟩
  have hr := Cert.SmVReferenceIdeal.Value.run (F := Ideal) m' g'
  refine (θ_run (Cert.SmVReferenceIdeal.defs (F := Ideal)) _ _).mono ?_ hr
  clear hr
  intro r h c
  obtain ⟨e0, e1, e2, e3, e4, e5, e6, e7⟩ := hagree c
  have hc := h c
  refine ⟨hc.1.trans ?_, hc.2.1.trans ?_, hc.2.2.1.trans ?_, hc.2.2.2.1.trans ?_, hc.2.2.2.2⟩
  · rw [e0, e4]; exact (Cert.SmVKernelIdeal.SmV.final4 m c).symm
  · rw [e0, e1, e2, e3, e5]; exact (Cert.SmVKernelIdeal.SmV.final5 m c).symm
  · rw [e0, e2, e6]; exact (Cert.SmVKernelIdeal.SmV.final6 m c).symm
  · rw [e0, e3, e7]; exact (Cert.SmVKernelIdeal.SmV.final7 m c).symm

end Cert.Proof
end
-- ==== Proof.SmVFrame.lean ====
/-
  The optimiser's call for the convolution, layer 0: the reference's own run.
-/
module

public import proofs.«01_k».proof.Defs
public import proofs.«01_k».proof.Proof.Gen.SmVReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem smV_reference_frame : Cert.quiescent_SmVReferenceIdeal (hSmVReferenceIdeal := Cert.SmVReferenceIdeal.Gen.facts) := by
  intro m g _
  hlo_run
  · intro c; simp only [and_self]
  · exact sem_eq_zero_of_no_sems (sig := Cert.SmVReferenceIdeal.sig) (by decide) _

end Cert.Proof
end
-- ==== Proof.SmOClaim.lean ====
/-
  The optimiser's call for the mixer output, layer 0: the sum of the devices' shares of the gradient and the AdamW step of it are the
  reference's; layer 1 is left as it was.
-/
module

public import proofs.«01_k».proof.Defs
public import proofs.«01_k».proof.Proof.Gen.SmOKernelIdeal.Value
public import proofs.«01_k».proof.Proof.Gen.SmOReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.SmOReferenceIdeal.SmO

open Cert.SmOReferenceIdeal Cert.SmOReferenceIdeal.Gen

/-- Layer 0 of an array of two layers. -/
def layer0 (x : FVec Ideal S2x256x1024 .f32) : FVec Ideal S256x1024 .f32 := shapeCast _ (extractStridedSlice S1x256x1024 ![0, 0, 0] x slices_S2x256x1024_S1x256x1024_0_0_0) shapeCasts_S1x256x1024_S256x1024
/-- Two layers: the first computed, the second that of an array. -/
def stack (z : FVec Ideal S256x1024 .f32) (y : FVec Ideal S2x256x1024 .f32) : FVec Ideal S2x256x1024 .f32 := concatenate S2x256x1024 0 [⟨S1x256x1024, (broadcastInDim S1x256x1024 ![1, 2] bcast_S256x1024_S1x256x1024_1_2 z)⟩, ⟨S1x256x1024, (broadcastInDim S1x256x1024 ![1, 2] bcast_S256x1024_S1x256x1024_1_2 (shapeCast _ (extractStridedSlice S1x256x1024 ![1, 0, 0] y slices_S2x256x1024_S1x256x1024_1_0_0) shapeCasts_S1x256x1024_S256x1024))⟩] concatenates_S1x256x1024_S1x256x1024_S2x256x1024_d0
/-- The sum of the devices' shares. -/
def total (a : FVec Ideal S8x256x1024 .f32) : FVec Ideal S256x1024 .f32 := Host.reduceAdd a (constant S_ .f32 0x00000000#32) reducesTo_S8x256x1024_S256x1024_d0 h_S_
/-- The new first moment. -/
def mean (g : FVec Ideal S256x1024 .f32) (m : FVec Ideal S256x1024 .f32) : FVec Ideal S256x1024 .f32 := addf (mulf (broadcastInDim S256x1024 ![] bcast_S_S256x1024 (constant S_ .f32 0x3F666666#32)) m) (mulf (broadcastInDim S256x1024 ![] bcast_S_S256x1024 (constant S_ .f32 0x3DCCCCCD#32)) g)
/-- The new second moment. -/
def square (g : FVec Ideal S256x1024 .f32) (v : FVec Ideal S256x1024 .f32) : FVec Ideal S256x1024 .f32 := addf (mulf (broadcastInDim S256x1024 ![] bcast_S_S256x1024 (constant S_ .f32 0x3F7FBE77#32)) v) (mulf (broadcastInDim S256x1024 ![] bcast_S_S256x1024 (constant S_ .f32 0x3A83126F#32)) (mulf g g))
/-- The step of the weights. -/
def delta (g : FVec Ideal S256x1024 .f32) (w : FVec Ideal S256x1024 .f32) (m : FVec Ideal S256x1024 .f32) (v : FVec Ideal S256x1024 .f32) : FVec Ideal S256x1024 .f32 := mulf (broadcastInDim S256x1024 ![] bcast_S_S256x1024 (constant S_ .f32 0xBA83126F#32)) (addf (Host.divf (Host.divf (mean g m) (broadcastInDim S256x1024 ![] bcast_S_S256x1024 (constant S_ .f32 0x3F26BD02#32))) (addf (Host.sqrt (Host.divf (square g v) (broadcastInDim S256x1024 ![] bcast_S_S256x1024 (constant S_ .f32 0x3C231ACC#32)))) (broadcastInDim S256x1024 ![] bcast_S_S256x1024 (constant S_ .f32 0x322BCC77#32)))) (mulf (broadcastInDim S256x1024 ![] bcast_S_S256x1024 (constant S_ .f32 0x3C23D70A#32)) w))

theorem layer0_apply (x : FVec Ideal S2x256x1024 .f32) (r : Fin 256) (k : Fin 1024) : layer0 x (ix2 r k) = x (ix3 (0 : Fin 2) r k) := by
  pointwise [layer0]
theorem stack_first (z : FVec Ideal S256x1024 .f32) (y : FVec Ideal S2x256x1024 .f32) (r : Fin 256) (k : Fin 1024) : stack z y (ix3 (0 : Fin 2) r k) = z (ix2 r k) := by
  pointwise [stack]
theorem stack_second (z : FVec Ideal S256x1024 .f32) (y : FVec Ideal S2x256x1024 .f32) (r : Fin 256) (k : Fin 1024) : stack z y (ix3 (1 : Fin 2) r k) = y (ix3 (1 : Fin 2) r k) := by
  pointwise [stack]
theorem total_apply (a : FVec Ideal S8x256x1024 .f32) (r : Fin 256) (k : Fin 1024) : total a (ix2 r k) = ∑ j : Fin 8, a (ix3 j r k) := by
  pointwise [total]

end Cert.SmOReferenceIdeal.SmO

namespace Cert.SmOKernelIdeal.SmO

open Cert.SmOKernelIdeal Cert.SmOKernelIdeal.Gen
open Cert.SmOReferenceIdeal.SmO

section
variable (x : Vec Ideal S8x256x1024 .bf16) (wb mb vb : Vec Ideal S1x256x1024 .f32) (g : FVec Ideal S256x1024 .f32)
variable (a : FVec Ideal S8x256x1024 .f32) (w m v : FVec Ideal S2x256x1024 .f32) (G : FVec Ideal Cert.SmOReferenceIdeal.S256x1024 .f32) (r : Fin 256) (k : Fin 1024) (r' : Fin 256)

/-- The sum of a block's eight shares. -/
theorem sum_eq (hx : ∀ j : Fin 8, x (ix3 j r k) = a (ix3 j r' k)) :
    k0_pay3 (View.ld x (Rect.unit ![0, 0, 0] ![1, 256, 1024] inb_S8x256x1024_S1x256x1024_0_0_0)) (View.ld x (Rect.unit ![1, 0, 0] ![1, 256, 1024] inb_S8x256x1024_S1x256x1024_1_0_0)) (View.ld x (Rect.unit ![2, 0, 0] ![1, 256, 1024] inb_S8x256x1024_S1x256x1024_2_0_0)) (View.ld x (Rect.unit ![3, 0, 0] ![1, 256, 1024] inb_S8x256x1024_S1x256x1024_3_0_0)) (View.ld x (Rect.unit ![4, 0, 0] ![1, 256, 1024] inb_S8x256x1024_S1x256x1024_4_0_0)) (View.ld x (Rect.unit ![5, 0, 0] ![1, 256, 1024] inb_S8x256x1024_S1x256x1024_5_0_0)) (View.ld x (Rect.unit ![6, 0, 0] ![1, 256, 1024] inb_S8x256x1024_S1x256x1024_6_0_0)) (View.ld x (Rect.unit ![7, 0, 0] ![1, 256, 1024] inb_S8x256x1024_S1x256x1024_7_0_0)) (ix2 r k) = total a (ix2 r' k) := by
  rw [total_apply]
  simp only [← hx, Fin.sum_univ_eight]
  pointwise [k0_pay1, k0_pay2, k0_pay3, k0_pay4, k0_pay5, k0_pay6, k0_pay7]

theorem grad_eq (hx : ∀ j : Fin 8, x (ix3 j r k) = a (ix3 j r' k)) :
    k0_pay4 (k0_pay3 (View.ld x (Rect.unit ![0, 0, 0] ![1, 256, 1024] inb_S8x256x1024_S1x256x1024_0_0_0)) (View.ld x (Rect.unit ![1, 0, 0] ![1, 256, 1024] inb_S8x256x1024_S1x256x1024_1_0_0)) (View.ld x (Rect.unit ![2, 0, 0] ![1, 256, 1024] inb_S8x256x1024_S1x256x1024_2_0_0)) (View.ld x (Rect.unit ![3, 0, 0] ![1, 256, 1024] inb_S8x256x1024_S1x256x1024_3_0_0)) (View.ld x (Rect.unit ![4, 0, 0] ![1, 256, 1024] inb_S8x256x1024_S1x256x1024_4_0_0)) (View.ld x (Rect.unit ![5, 0, 0] ![1, 256, 1024] inb_S8x256x1024_S1x256x1024_5_0_0)) (View.ld x (Rect.unit ![6, 0, 0] ![1, 256, 1024] inb_S8x256x1024_S1x256x1024_6_0_0)) (View.ld x (Rect.unit ![7, 0, 0] ![1, 256, 1024] inb_S8x256x1024_S1x256x1024_7_0_0))) (ix3 (0 : Fin 1) r k) = total a (ix2 r' k) := by
  rw [← sum_eq x a r k r' hx]
  pointwise [k0_pay1, k0_pay2, k0_pay3, k0_pay4, k0_pay5, k0_pay6, k0_pay7]

theorem mean_eq (hg : g (ix2 r k) = G (ix2 r' k)) (hm : mb (ix3 (0 : Fin 1) r k) = m (ix3 (0 : Fin 2) r' k)) :
    k0_pay1 (k0_pay5 g mb) (ix3 (0 : Fin 1) r k) = mean G (layer0 m) (ix2 r' k) := by
  pointwise [k0_pay1, k0_pay2, k0_pay3, k0_pay4, k0_pay5, k0_pay6, k0_pay7, mean, layer0]
  rw [hg, hm]

theorem square_eq (hg : g (ix2 r k) = G (ix2 r' k)) (hv : vb (ix3 (0 : Fin 1) r k) = v (ix3 (0 : Fin 2) r' k)) :
    k0_pay2 (k0_pay6 g vb) (ix3 (0 : Fin 1) r k) = square G (layer0 v) (ix2 r' k) := by
  pointwise [k0_pay1, k0_pay2, k0_pay3, k0_pay4, k0_pay5, k0_pay6, k0_pay7, square, layer0]
  rw [hg, hv]

theorem delta_eq (hg : g (ix2 r k) = G (ix2 r' k)) (hw : wb (ix3 (0 : Fin 1) r k) = w (ix3 (0 : Fin 2) r' k)) (hm : mb (ix3 (0 : Fin 1) r k) = m (ix3 (0 : Fin 2) r' k)) (hv : vb (ix3 (0 : Fin 1) r k) = v (ix3 (0 : Fin 2) r' k)) :
    k0_pay7 g wb mb vb (ix3 (0 : Fin 1) r k) = delta G (layer0 w) (layer0 m) (layer0 v) (ix2 r' k) := by
  pointwise [k0_pay1, k0_pay2, k0_pay3, k0_pay4, k0_pay5, k0_pay6, k0_pay7, delta, mean, square, layer0]
  rw [hg, hw, hm, hv]
end

variable (m : (ℓ : Loc nD τ sig) → Buf (Elt Ideal) ℓ) (c : Dev nD) (t : Fin cfg0.N)

abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)
abbrev A4 := m ((c.tc : Thread nD τ).loc main_arg4)
abbrev A5 := m ((c.tc : Thread nD τ).loc main_arg5)
abbrev A6 := m ((c.tc : Thread nD τ).loc main_arg6)
abbrev A7 := m ((c.tc : Thread nD τ).loc main_arg7)

theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

theorem lt : t.val < 1 := lt_of_lt_of_eq t.isLt N_0

/-- A block's row in the arrays. -/
abbrev row (r : Fin 256) : Fin 256 := ⟨t.val * 256 + r.val, by have := lt t; omega⟩

theorem entry0 (j : Fin 8) (r : Fin 256) (k : Fin 1024) : (V m c main_v0 : FVec Ideal S8x256x1024 .bf16) (ix3 j r k) = (A0 m c (ix3 j r k) : EReal) := by
  show StableHlo.after _ _ _ _ = _
  simp only [List.flatten_cons, List.flatten_nil, List.append_nil, List.cons_append, List.nil_append, hostOps0]
  entry_read
  rfl
theorem blk0 (j : Fin 8) (r : Fin 256) (k : Fin 1024) : iblk m c 0 t (ix3 j r k) = A0 m c (ix3 j (row t r) k) := by
  have e : iblk m c 0 t (ix3 j r k) = (V m c main_v0 : FVec Ideal S8x256x1024 .bf16) (ix3 j (row t r) k) := by blk_ext! [iblk, idx t]
  rw [e, entry0]
theorem blk1 (r : Fin 256) (k : Fin 1024) : iblk m c 1 t (ix3 (0 : Fin 1) r k) = A1 m c (ix3 (0 : Fin 2) (row t r) k) := by
  blk_ext! [iblk, V, idx t]
theorem blk2 (r : Fin 256) (k : Fin 1024) : iblk m c 2 t (ix3 (0 : Fin 1) r k) = A2 m c (ix3 (0 : Fin 2) (row t r) k) := by
  blk_ext! [iblk, V, idx t]
theorem blk3 (r : Fin 256) (k : Fin 1024) : iblk m c 3 t (ix3 (0 : Fin 1) r k) = A3 m c (ix3 (0 : Fin 2) (row t r) k) := by
  blk_ext! [iblk, V, idx t]

theorem entry4 : V m c main_v1_0 = A4 m c := by
  unfold V; after_results; try rfl

/-- The result array of the gradient: layer 0 computed, layer 1 kept. -/
theorem final4 : (dats m 0 c).arrAt 4 (cfgs 0).N = stack (total (A0 m c)) (A4 m c) := by
  refine ((dats m 0 c).arrAt_eq_of_coversWhere 4 (stack (total (A0 m c)) (A4 m c)) (P := fun i => (i 0 : ℕ) < 1) (fun β => β 0 < 1) (by decide +kernel) (fun t hf y => ?_)
    (fun j => by blk_simp [Pipeline.Window.cell_apply]; omega)).trans (funext fun i => ?_)
  · obtain ⟨r, k, ey⟩ : ∃ (r : Fin 256) (k : Fin 1024), y = ix3 (0 : Fin 1) r k := ⟨y 1, y 2, by blk_ext! []⟩
    have e : ((View.whole main_v1_0).slice (win0_4.rect t)).emb (ix3 (0 : Fin 1) r k) = ix3 (0 : Fin 2) (row t r) k := by blk_ext! [idx t]
    blk_simp; rw [after0_4]; unfold outsAt0; dsimp only; unfold out0_A_4; frame_out
    rw [ey, e, stack_first]
    exact grad_eq (iblk m c 0 t) (A0 m c) r k (row t r) (fun j => blk0 m c t j r k)
  · split
    · rfl
    · rename_i h
      obtain ⟨r, k, ei⟩ : ∃ (r : Fin 256) (k : Fin 1024), i = ix3 (1 : Fin 2) r k := ⟨i 1, i 2, by blk_ext! []⟩
      rw [ei, stack_second]
      exact congrFun (entry4 m c) _

theorem entry5 : V m c main_v1_1 = A5 m c := by
  unfold V; after_results; try rfl

/-- The result array of the step: layer 0 computed, layer 1 kept. -/
theorem final5 : (dats m 0 c).arrAt 5 (cfgs 0).N = stack (delta (total (A0 m c)) (layer0 (A1 m c)) (layer0 (A2 m c)) (layer0 (A3 m c))) (A5 m c) := by
  refine ((dats m 0 c).arrAt_eq_of_coversWhere 5 (stack (delta (total (A0 m c)) (layer0 (A1 m c)) (layer0 (A2 m c)) (layer0 (A3 m c))) (A5 m c)) (P := fun i => (i 0 : ℕ) < 1) (fun β => β 0 < 1) (by decide +kernel) (fun t hf y => ?_)
    (fun j => by blk_simp [Pipeline.Window.cell_apply]; omega)).trans (funext fun i => ?_)
  · obtain ⟨r, k, ey⟩ : ∃ (r : Fin 256) (k : Fin 1024), y = ix3 (0 : Fin 1) r k := ⟨y 1, y 2, by blk_ext! []⟩
    have e : ((View.whole main_v1_1).slice (win0_5.rect t)).emb (ix3 (0 : Fin 1) r k) = ix3 (0 : Fin 2) (row t r) k := by blk_ext! [idx t]
    blk_simp; rw [after0_5]; unfold outsAt0; dsimp only; unfold out0_A_5; frame_out
    rw [ey, e, stack_first]
    exact delta_eq (iblk m c 1 t) (iblk m c 2 t) (iblk m c 3 t) _ (A1 m c) (A2 m c) (A3 m c) (total (A0 m c)) r k (row t r) (sum_eq (iblk m c 0 t) (A0 m c) r k (row t r) (fun j => blk0 m c t j r k)) (blk1 m c t r k) (blk2 m c t r k) (blk3 m c t r k)
  · split
    · rfl
    · rename_i h
      obtain ⟨r, k, ei⟩ : ∃ (r : Fin 256) (k : Fin 1024), i = ix3 (1 : Fin 2) r k := ⟨i 1, i 2, by blk_ext! []⟩
      rw [ei, stack_second]
      exact congrFun (entry5 m c) _

theorem entry6 : V m c main_v1_2 = A6 m c := by
  unfold V; after_results; try rfl

/-- The result array of the first moment: layer 0 computed, layer 1 kept. -/
theorem final6 : (dats m 0 c).arrAt 6 (cfgs 0).N = stack (mean (total (A0 m c)) (layer0 (A2 m c))) (A6 m c) := by
  refine ((dats m 0 c).arrAt_eq_of_coversWhere 6 (stack (mean (total (A0 m c)) (layer0 (A2 m c))) (A6 m c)) (P := fun i => (i 0 : ℕ) < 1) (fun β => β 0 < 1) (by decide +kernel) (fun t hf y => ?_)
    (fun j => by blk_simp [Pipeline.Window.cell_apply]; omega)).trans (funext fun i => ?_)
  · obtain ⟨r, k, ey⟩ : ∃ (r : Fin 256) (k : Fin 1024), y = ix3 (0 : Fin 1) r k := ⟨y 1, y 2, by blk_ext! []⟩
    have e : ((View.whole main_v1_2).slice (win0_6.rect t)).emb (ix3 (0 : Fin 1) r k) = ix3 (0 : Fin 2) (row t r) k := by blk_ext! [idx t]
    blk_simp; rw [after0_6]; unfold outsAt0; dsimp only; unfold out0_A_6; frame_out
    rw [ey, e, stack_first]
    exact mean_eq (iblk m c 2 t) _ (A2 m c) (total (A0 m c)) r k (row t r) (sum_eq (iblk m c 0 t) (A0 m c) r k (row t r) (fun j => blk0 m c t j r k)) (blk2 m c t r k)
  · split
    · rfl
    · rename_i h
      obtain ⟨r, k, ei⟩ : ∃ (r : Fin 256) (k : Fin 1024), i = ix3 (1 : Fin 2) r k := ⟨i 1, i 2, by blk_ext! []⟩
      rw [ei, stack_second]
      exact congrFun (entry6 m c) _

theorem entry7 : V m c main_v1_3 = A7 m c := by
  unfold V; after_results; try rfl

/-- The result array of the second moment: layer 0 computed, layer 1 kept. -/
theorem final7 : (dats m 0 c).arrAt 7 (cfgs 0).N = stack (square (total (A0 m c)) (layer0 (A3 m c))) (A7 m c) := by
  refine ((dats m 0 c).arrAt_eq_of_coversWhere 7 (stack (square (total (A0 m c)) (layer0 (A3 m c))) (A7 m c)) (P := fun i => (i 0 : ℕ) < 1) (fun β => β 0 < 1) (by decide +kernel) (fun t hf y => ?_)
    (fun j => by blk_simp [Pipeline.Window.cell_apply]; omega)).trans (funext fun i => ?_)
  · obtain ⟨r, k, ey⟩ : ∃ (r : Fin 256) (k : Fin 1024), y = ix3 (0 : Fin 1) r k := ⟨y 1, y 2, by blk_ext! []⟩
    have e : ((View.whole main_v1_3).slice (win0_7.rect t)).emb (ix3 (0 : Fin 1) r k) = ix3 (0 : Fin 2) (row t r) k := by blk_ext! [idx t]
    blk_simp; rw [after0_7]; unfold outsAt0; dsimp only; unfold out0_A_7; frame_out
    rw [ey, e, stack_first]
    exact square_eq (iblk m c 3 t) _ (A3 m c) (total (A0 m c)) r k (row t r) (sum_eq (iblk m c 0 t) (A0 m c) r k (row t r) (fun j => blk0 m c t j r k)) (blk3 m c t r k)
  · split
    · rfl
    · rename_i h
      obtain ⟨r, k, ei⟩ : ∃ (r : Fin 256) (k : Fin 1024), i = ix3 (1 : Fin 2) r k := ⟨i 1, i 2, by blk_ext! []⟩
      rw [ei, stack_second]
      exact congrFun (entry7 m c) _

end Cert.SmOKernelIdeal.SmO

set_option maxHeartbeats 1600000

namespace Cert.Proof

/-- The kernel's four results are the reference's, on all extended reals. -/
theorem smO_algebraic : Cert.algebraic_SmOKernelIdeal_SmOReferenceIdeal (hSmOKernelIdeal := Cert.SmOKernelIdeal.Gen.facts) (hSmOReferenceIdeal := Cert.SmOReferenceIdeal.Gen.facts) := by
  intro m g m' g' _ hagree
  refine ⟨fun c => (Cert.SmOKernelIdeal.Gen.dats m 0 c).arrAt 4 (Cert.SmOKernelIdeal.cfgs 0).N, fun c => (Cert.SmOKernelIdeal.Gen.dats m 0 c).arrAt 5 (Cert.SmOKernelIdeal.cfgs 0).N, fun c => (Cert.SmOKernelIdeal.Gen.dats m 0 c).arrAt 6 (Cert.SmOKernelIdeal.cfgs 0).N, fun c => (Cert.SmOKernelIdeal.Gen.dats m 0 c).arrAt 7 (Cert.SmOKernelIdeal.cfgs 0).N, Cert.SmOKernelIdeal.Value.run_blocks m g, ?_⟩
  have hr := Cert.SmOReferenceIdeal.Value.run (F := Ideal) m' g'
  refine (θ_run (Cert.SmOReferenceIdeal.defs (F := Ideal)) _ _).mono ?_ hr
  clear hr
  intro r h c
  obtain ⟨e0, e1, e2, e3, e4, e5, e6, e7⟩ := hagree c
  have hc := h c
  refine ⟨hc.1.trans ?_, hc.2.1.trans ?_, hc.2.2.1.trans ?_, hc.2.2.2.1.trans ?_, hc.2.2.2.2⟩
  · rw [e0, e4]; exact (Cert.SmOKernelIdeal.SmO.final4 m c).symm
  · rw [e0, e1, e2, e3, e5]; exact (Cert.SmOKernelIdeal.SmO.final5 m c).symm
  · rw [e0, e2, e6]; exact (Cert.SmOKernelIdeal.SmO.final6 m c).symm
  · rw [e0, e3, e7]; exact (Cert.SmOKernelIdeal.SmO.final7 m c).symm

end Cert.Proof
end
-- ==== Proof.SmOFrame.lean ====
/-
  The optimiser's call for the mixer output, layer 0: the reference's own run.
-/
module

public import proofs.«01_k».proof.Defs
public import proofs.«01_k».proof.Proof.Gen.SmOReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem smO_reference_frame : Cert.quiescent_SmOReferenceIdeal (hSmOReferenceIdeal := Cert.SmOReferenceIdeal.Gen.facts) := by
  intro m g _
  hlo_run
  · intro c; simp only [and_self]
  · exact sem_eq_zero_of_no_sems (sig := Cert.SmOReferenceIdeal.sig) (by decide) _

end Cert.Proof
end
-- ==== Proof.SmDClaim.lean ====
/-
  The optimiser's call for the down projection, layer 0: the sum of the devices' shares of the gradient and the AdamW step of it are the
  reference's; layer 1 is left as it was.
-/
module

public import proofs.«01_k».proof.Defs
public import proofs.«01_k».proof.Proof.Gen.SmDKernelIdeal.Value
public import proofs.«01_k».proof.Proof.Gen.SmDReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.SmDReferenceIdeal.SmD

open Cert.SmDReferenceIdeal Cert.SmDReferenceIdeal.Gen

/-- Layer 0 of an array of two layers. -/
def layer0 (x : FVec Ideal S2x352x1024 .f32) : FVec Ideal S352x1024 .f32 := shapeCast _ (extractStridedSlice S1x352x1024 ![0, 0, 0] x slices_S2x352x1024_S1x352x1024_0_0_0) shapeCasts_S1x352x1024_S352x1024
/-- Two layers: the first computed, the second that of an array. -/
def stack (z : FVec Ideal S352x1024 .f32) (y : FVec Ideal S2x352x1024 .f32) : FVec Ideal S2x352x1024 .f32 := concatenate S2x352x1024 0 [⟨S1x352x1024, (broadcastInDim S1x352x1024 ![1, 2] bcast_S352x1024_S1x352x1024_1_2 z)⟩, ⟨S1x352x1024, (broadcastInDim S1x352x1024 ![1, 2] bcast_S352x1024_S1x352x1024_1_2 (shapeCast _ (extractStridedSlice S1x352x1024 ![1, 0, 0] y slices_S2x352x1024_S1x352x1024_1_0_0) shapeCasts_S1x352x1024_S352x1024))⟩] concatenates_S1x352x1024_S1x352x1024_S2x352x1024_d0
/-- The sum of the devices' shares. -/
def total (a : FVec Ideal S8x352x1024 .f32) : FVec Ideal S352x1024 .f32 := Host.reduceAdd a (constant S_ .f32 0x00000000#32) reducesTo_S8x352x1024_S352x1024_d0 h_S_
/-- The new first moment. -/
def mean (g : FVec Ideal S352x1024 .f32) (m : FVec Ideal S352x1024 .f32) : FVec Ideal S352x1024 .f32 := addf (mulf (broadcastInDim S352x1024 ![] bcast_S_S352x1024 (constant S_ .f32 0x3F666666#32)) m) (mulf (broadcastInDim S352x1024 ![] bcast_S_S352x1024 (constant S_ .f32 0x3DCCCCCD#32)) g)
/-- The new second moment. -/
def square (g : FVec Ideal S352x1024 .f32) (v : FVec Ideal S352x1024 .f32) : FVec Ideal S352x1024 .f32 := addf (mulf (broadcastInDim S352x1024 ![] bcast_S_S352x1024 (constant S_ .f32 0x3F7FBE77#32)) v) (mulf (broadcastInDim S352x1024 ![] bcast_S_S352x1024 (constant S_ .f32 0x3A83126F#32)) (mulf g g))
/-- The step of the weights. -/
def delta (g : FVec Ideal S352x1024 .f32) (w : FVec Ideal S352x1024 .f32) (m : FVec Ideal S352x1024 .f32) (v : FVec Ideal S352x1024 .f32) : FVec Ideal S352x1024 .f32 := mulf (broadcastInDim S352x1024 ![] bcast_S_S352x1024 (constant S_ .f32 0xBA83126F#32)) (addf (Host.divf (Host.divf (mean g m) (broadcastInDim S352x1024 ![] bcast_S_S352x1024 (constant S_ .f32 0x3F26BD02#32))) (addf (Host.sqrt (Host.divf (square g v) (broadcastInDim S352x1024 ![] bcast_S_S352x1024 (constant S_ .f32 0x3C231ACC#32)))) (broadcastInDim S352x1024 ![] bcast_S_S352x1024 (constant S_ .f32 0x322BCC77#32)))) (mulf (broadcastInDim S352x1024 ![] bcast_S_S352x1024 (constant S_ .f32 0x3C23D70A#32)) w))

theorem layer0_apply (x : FVec Ideal S2x352x1024 .f32) (r : Fin 352) (k : Fin 1024) : layer0 x (ix2 r k) = x (ix3 (0 : Fin 2) r k) := by
  pointwise [layer0]
theorem stack_first (z : FVec Ideal S352x1024 .f32) (y : FVec Ideal S2x352x1024 .f32) (r : Fin 352) (k : Fin 1024) : stack z y (ix3 (0 : Fin 2) r k) = z (ix2 r k) := by
  pointwise [stack]
theorem stack_second (z : FVec Ideal S352x1024 .f32) (y : FVec Ideal S2x352x1024 .f32) (r : Fin 352) (k : Fin 1024) : stack z y (ix3 (1 : Fin 2) r k) = y (ix3 (1 : Fin 2) r k) := by
  pointwise [stack]
theorem total_apply (a : FVec Ideal S8x352x1024 .f32) (r : Fin 352) (k : Fin 1024) : total a (ix2 r k) = ∑ j : Fin 8, a (ix3 j r k) := by
  pointwise [total]

end Cert.SmDReferenceIdeal.SmD

namespace Cert.SmDKernelIdeal.SmD

open Cert.SmDKernelIdeal Cert.SmDKernelIdeal.Gen
open Cert.SmDReferenceIdeal.SmD

section
variable (x : Vec Ideal S8x176x1024 .bf16) (wb mb vb : Vec Ideal S1x176x1024 .f32) (g : FVec Ideal S176x1024 .f32)
variable (a : FVec Ideal S8x352x1024 .f32) (w m v : FVec Ideal S2x352x1024 .f32) (G : FVec Ideal Cert.SmDReferenceIdeal.S352x1024 .f32) (r : Fin 176) (k : Fin 1024) (r' : Fin 352)

/-- The sum of a block's eight shares. -/
theorem sum_eq (hx : ∀ j : Fin 8, x (ix3 j r k) = a (ix3 j r' k)) :
    k0_pay3 (View.ld x (Rect.unit ![0, 0, 0] ![1, 176, 1024] inb_S8x176x1024_S1x176x1024_0_0_0)) (View.ld x (Rect.unit ![1, 0, 0] ![1, 176, 1024] inb_S8x176x1024_S1x176x1024_1_0_0)) (View.ld x (Rect.unit ![2, 0, 0] ![1, 176, 1024] inb_S8x176x1024_S1x176x1024_2_0_0)) (View.ld x (Rect.unit ![3, 0, 0] ![1, 176, 1024] inb_S8x176x1024_S1x176x1024_3_0_0)) (View.ld x (Rect.unit ![4, 0, 0] ![1, 176, 1024] inb_S8x176x1024_S1x176x1024_4_0_0)) (View.ld x (Rect.unit ![5, 0, 0] ![1, 176, 1024] inb_S8x176x1024_S1x176x1024_5_0_0)) (View.ld x (Rect.unit ![6, 0, 0] ![1, 176, 1024] inb_S8x176x1024_S1x176x1024_6_0_0)) (View.ld x (Rect.unit ![7, 0, 0] ![1, 176, 1024] inb_S8x176x1024_S1x176x1024_7_0_0)) (ix2 r k) = total a (ix2 r' k) := by
  rw [total_apply]
  simp only [← hx, Fin.sum_univ_eight]
  pointwise [k0_pay1, k0_pay2, k0_pay3, k0_pay4, k0_pay5, k0_pay6, k0_pay7]

theorem grad_eq (hx : ∀ j : Fin 8, x (ix3 j r k) = a (ix3 j r' k)) :
    k0_pay4 (k0_pay3 (View.ld x (Rect.unit ![0, 0, 0] ![1, 176, 1024] inb_S8x176x1024_S1x176x1024_0_0_0)) (View.ld x (Rect.unit ![1, 0, 0] ![1, 176, 1024] inb_S8x176x1024_S1x176x1024_1_0_0)) (View.ld x (Rect.unit ![2, 0, 0] ![1, 176, 1024] inb_S8x176x1024_S1x176x1024_2_0_0)) (View.ld x (Rect.unit ![3, 0, 0] ![1, 176, 1024] inb_S8x176x1024_S1x176x1024_3_0_0)) (View.ld x (Rect.unit ![4, 0, 0] ![1, 176, 1024] inb_S8x176x1024_S1x176x1024_4_0_0)) (View.ld x (Rect.unit ![5, 0, 0] ![1, 176, 1024] inb_S8x176x1024_S1x176x1024_5_0_0)) (View.ld x (Rect.unit ![6, 0, 0] ![1, 176, 1024] inb_S8x176x1024_S1x176x1024_6_0_0)) (View.ld x (Rect.unit ![7, 0, 0] ![1, 176, 1024] inb_S8x176x1024_S1x176x1024_7_0_0))) (ix3 (0 : Fin 1) r k) = total a (ix2 r' k) := by
  rw [← sum_eq x a r k r' hx]
  pointwise [k0_pay1, k0_pay2, k0_pay3, k0_pay4, k0_pay5, k0_pay6, k0_pay7]

theorem mean_eq (hg : g (ix2 r k) = G (ix2 r' k)) (hm : mb (ix3 (0 : Fin 1) r k) = m (ix3 (0 : Fin 2) r' k)) :
    k0_pay1 (k0_pay5 g mb) (ix3 (0 : Fin 1) r k) = mean G (layer0 m) (ix2 r' k) := by
  pointwise [k0_pay1, k0_pay2, k0_pay3, k0_pay4, k0_pay5, k0_pay6, k0_pay7, mean, layer0]
  rw [hg, hm]

theorem square_eq (hg : g (ix2 r k) = G (ix2 r' k)) (hv : vb (ix3 (0 : Fin 1) r k) = v (ix3 (0 : Fin 2) r' k)) :
    k0_pay2 (k0_pay6 g vb) (ix3 (0 : Fin 1) r k) = square G (layer0 v) (ix2 r' k) := by
  pointwise [k0_pay1, k0_pay2, k0_pay3, k0_pay4, k0_pay5, k0_pay6, k0_pay7, square, layer0]
  rw [hg, hv]

theorem delta_eq (hg : g (ix2 r k) = G (ix2 r' k)) (hw : wb (ix3 (0 : Fin 1) r k) = w (ix3 (0 : Fin 2) r' k)) (hm : mb (ix3 (0 : Fin 1) r k) = m (ix3 (0 : Fin 2) r' k)) (hv : vb (ix3 (0 : Fin 1) r k) = v (ix3 (0 : Fin 2) r' k)) :
    k0_pay7 g wb mb vb (ix3 (0 : Fin 1) r k) = delta G (layer0 w) (layer0 m) (layer0 v) (ix2 r' k) := by
  pointwise [k0_pay1, k0_pay2, k0_pay3, k0_pay4, k0_pay5, k0_pay6, k0_pay7, delta, mean, square, layer0]
  rw [hg, hw, hm, hv]
end

variable (m : (ℓ : Loc nD τ sig) → Buf (Elt Ideal) ℓ) (c : Dev nD) (t : Fin cfg0.N)

abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)
abbrev A4 := m ((c.tc : Thread nD τ).loc main_arg4)
abbrev A5 := m ((c.tc : Thread nD τ).loc main_arg5)
abbrev A6 := m ((c.tc : Thread nD τ).loc main_arg6)
abbrev A7 := m ((c.tc : Thread nD τ).loc main_arg7)

theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

theorem lt : t.val < 2 := lt_of_lt_of_eq t.isLt N_0

/-- A block's row in the arrays. -/
abbrev row (r : Fin 176) : Fin 352 := ⟨t.val * 176 + r.val, by have := lt t; omega⟩

theorem entry0 (j : Fin 8) (r : Fin 352) (k : Fin 1024) : (V m c main_v0 : FVec Ideal S8x352x1024 .bf16) (ix3 j r k) = (A0 m c (ix3 j r k) : EReal) := by
  show StableHlo.after _ _ _ _ = _
  simp only [List.flatten_cons, List.flatten_nil, List.append_nil, List.cons_append, List.nil_append, hostOps0]
  entry_read
  rfl
theorem blk0 (j : Fin 8) (r : Fin 176) (k : Fin 1024) : iblk m c 0 t (ix3 j r k) = A0 m c (ix3 j (row t r) k) := by
  have e : iblk m c 0 t (ix3 j r k) = (V m c main_v0 : FVec Ideal S8x352x1024 .bf16) (ix3 j (row t r) k) := by blk_ext! [iblk, idx t]
  rw [e, entry0]
theorem blk1 (r : Fin 176) (k : Fin 1024) : iblk m c 1 t (ix3 (0 : Fin 1) r k) = A1 m c (ix3 (0 : Fin 2) (row t r) k) := by
  blk_ext! [iblk, V, idx t]
theorem blk2 (r : Fin 176) (k : Fin 1024) : iblk m c 2 t (ix3 (0 : Fin 1) r k) = A2 m c (ix3 (0 : Fin 2) (row t r) k) := by
  blk_ext! [iblk, V, idx t]
theorem blk3 (r : Fin 176) (k : Fin 1024) : iblk m c 3 t (ix3 (0 : Fin 1) r k) = A3 m c (ix3 (0 : Fin 2) (row t r) k) := by
  blk_ext! [iblk, V, idx t]

theorem entry4 : V m c main_v1_0 = A4 m c := by
  unfold V; after_results; try rfl

/-- The result array of the gradient: layer 0 computed, layer 1 kept. -/
theorem final4 : (dats m 0 c).arrAt 4 (cfgs 0).N = stack (total (A0 m c)) (A4 m c) := by
  refine ((dats m 0 c).arrAt_eq_of_coversWhere 4 (stack (total (A0 m c)) (A4 m c)) (P := fun i => (i 0 : ℕ) < 1) (fun β => β 0 < 1) (by decide +kernel) (fun t hf y => ?_)
    (fun j => by blk_simp [Pipeline.Window.cell_apply]; omega)).trans (funext fun i => ?_)
  · obtain ⟨r, k, ey⟩ : ∃ (r : Fin 176) (k : Fin 1024), y = ix3 (0 : Fin 1) r k := ⟨y 1, y 2, by blk_ext! []⟩
    have e : ((View.whole main_v1_0).slice (win0_4.rect t)).emb (ix3 (0 : Fin 1) r k) = ix3 (0 : Fin 2) (row t r) k := by blk_ext! [idx t]
    blk_simp; rw [after0_4]; unfold outsAt0; dsimp only; unfold out0_A_4; frame_out
    rw [ey, e, stack_first]
    exact grad_eq (iblk m c 0 t) (A0 m c) r k (row t r) (fun j => blk0 m c t j r k)
  · split
    · rfl
    · rename_i h
      obtain ⟨r, k, ei⟩ : ∃ (r : Fin 352) (k : Fin 1024), i = ix3 (1 : Fin 2) r k := ⟨i 1, i 2, by blk_ext! []⟩
      rw [ei, stack_second]
      exact congrFun (entry4 m c) _

theorem entry5 : V m c main_v1_1 = A5 m c := by
  unfold V; after_results; try rfl

/-- The result array of the step: layer 0 computed, layer 1 kept. -/
theorem final5 : (dats m 0 c).arrAt 5 (cfgs 0).N = stack (delta (total (A0 m c)) (layer0 (A1 m c)) (layer0 (A2 m c)) (layer0 (A3 m c))) (A5 m c) := by
  refine ((dats m 0 c).arrAt_eq_of_coversWhere 5 (stack (delta (total (A0 m c)) (layer0 (A1 m c)) (layer0 (A2 m c)) (layer0 (A3 m c))) (A5 m c)) (P := fun i => (i 0 : ℕ) < 1) (fun β => β 0 < 1) (by decide +kernel) (fun t hf y => ?_)
    (fun j => by blk_simp [Pipeline.Window.cell_apply]; omega)).trans (funext fun i => ?_)
  · obtain ⟨r, k, ey⟩ : ∃ (r : Fin 176) (k : Fin 1024), y = ix3 (0 : Fin 1) r k := ⟨y 1, y 2, by blk_ext! []⟩
    have e : ((View.whole main_v1_1).slice (win0_5.rect t)).emb (ix3 (0 : Fin 1) r k) = ix3 (0 : Fin 2) (row t r) k := by blk_ext! [idx t]
    blk_simp; rw [after0_5]; unfold outsAt0; dsimp only; unfold out0_A_5; frame_out
    rw [ey, e, stack_first]
    exact delta_eq (iblk m c 1 t) (iblk m c 2 t) (iblk m c 3 t) _ (A1 m c) (A2 m c) (A3 m c) (total (A0 m c)) r k (row t r) (sum_eq (iblk m c 0 t) (A0 m c) r k (row t r) (fun j => blk0 m c t j r k)) (blk1 m c t r k) (blk2 m c t r k) (blk3 m c t r k)
  · split
    · rfl
    · rename_i h
      obtain ⟨r, k, ei⟩ : ∃ (r : Fin 352) (k : Fin 1024), i = ix3 (1 : Fin 2) r k := ⟨i 1, i 2, by blk_ext! []⟩
      rw [ei, stack_second]
      exact congrFun (entry5 m c) _

theorem entry6 : V m c main_v1_2 = A6 m c := by
  unfold V; after_results; try rfl

/-- The result array of the first moment: layer 0 computed, layer 1 kept. -/
theorem final6 : (dats m 0 c).arrAt 6 (cfgs 0).N = stack (mean (total (A0 m c)) (layer0 (A2 m c))) (A6 m c) := by
  refine ((dats m 0 c).arrAt_eq_of_coversWhere 6 (stack (mean (total (A0 m c)) (layer0 (A2 m c))) (A6 m c)) (P := fun i => (i 0 : ℕ) < 1) (fun β => β 0 < 1) (by decide +kernel) (fun t hf y => ?_)
    (fun j => by blk_simp [Pipeline.Window.cell_apply]; omega)).trans (funext fun i => ?_)
  · obtain ⟨r, k, ey⟩ : ∃ (r : Fin 176) (k : Fin 1024), y = ix3 (0 : Fin 1) r k := ⟨y 1, y 2, by blk_ext! []⟩
    have e : ((View.whole main_v1_2).slice (win0_6.rect t)).emb (ix3 (0 : Fin 1) r k) = ix3 (0 : Fin 2) (row t r) k := by blk_ext! [idx t]
    blk_simp; rw [after0_6]; unfold outsAt0; dsimp only; unfold out0_A_6; frame_out
    rw [ey, e, stack_first]
    exact mean_eq (iblk m c 2 t) _ (A2 m c) (total (A0 m c)) r k (row t r) (sum_eq (iblk m c 0 t) (A0 m c) r k (row t r) (fun j => blk0 m c t j r k)) (blk2 m c t r k)
  · split
    · rfl
    · rename_i h
      obtain ⟨r, k, ei⟩ : ∃ (r : Fin 352) (k : Fin 1024), i = ix3 (1 : Fin 2) r k := ⟨i 1, i 2, by blk_ext! []⟩
      rw [ei, stack_second]
      exact congrFun (entry6 m c) _

theorem entry7 : V m c main_v1_3 = A7 m c := by
  unfold V; after_results; try rfl

/-- The result array of the second moment: layer 0 computed, layer 1 kept. -/
theorem final7 : (dats m 0 c).arrAt 7 (cfgs 0).N = stack (square (total (A0 m c)) (layer0 (A3 m c))) (A7 m c) := by
  refine ((dats m 0 c).arrAt_eq_of_coversWhere 7 (stack (square (total (A0 m c)) (layer0 (A3 m c))) (A7 m c)) (P := fun i => (i 0 : ℕ) < 1) (fun β => β 0 < 1) (by decide +kernel) (fun t hf y => ?_)
    (fun j => by blk_simp [Pipeline.Window.cell_apply]; omega)).trans (funext fun i => ?_)
  · obtain ⟨r, k, ey⟩ : ∃ (r : Fin 176) (k : Fin 1024), y = ix3 (0 : Fin 1) r k := ⟨y 1, y 2, by blk_ext! []⟩
    have e : ((View.whole main_v1_3).slice (win0_7.rect t)).emb (ix3 (0 : Fin 1) r k) = ix3 (0 : Fin 2) (row t r) k := by blk_ext! [idx t]
    blk_simp; rw [after0_7]; unfold outsAt0; dsimp only; unfold out0_A_7; frame_out
    rw [ey, e, stack_first]
    exact square_eq (iblk m c 3 t) _ (A3 m c) (total (A0 m c)) r k (row t r) (sum_eq (iblk m c 0 t) (A0 m c) r k (row t r) (fun j => blk0 m c t j r k)) (blk3 m c t r k)
  · split
    · rfl
    · rename_i h
      obtain ⟨r, k, ei⟩ : ∃ (r : Fin 352) (k : Fin 1024), i = ix3 (1 : Fin 2) r k := ⟨i 1, i 2, by blk_ext! []⟩
      rw [ei, stack_second]
      exact congrFun (entry7 m c) _

end Cert.SmDKernelIdeal.SmD

set_option maxHeartbeats 1600000

namespace Cert.Proof

/-- The kernel's four results are the reference's, on all extended reals. -/
theorem smD_algebraic : Cert.algebraic_SmDKernelIdeal_SmDReferenceIdeal (hSmDKernelIdeal := Cert.SmDKernelIdeal.Gen.facts) (hSmDReferenceIdeal := Cert.SmDReferenceIdeal.Gen.facts) := by
  intro m g m' g' _ hagree
  refine ⟨fun c => (Cert.SmDKernelIdeal.Gen.dats m 0 c).arrAt 4 (Cert.SmDKernelIdeal.cfgs 0).N, fun c => (Cert.SmDKernelIdeal.Gen.dats m 0 c).arrAt 5 (Cert.SmDKernelIdeal.cfgs 0).N, fun c => (Cert.SmDKernelIdeal.Gen.dats m 0 c).arrAt 6 (Cert.SmDKernelIdeal.cfgs 0).N, fun c => (Cert.SmDKernelIdeal.Gen.dats m 0 c).arrAt 7 (Cert.SmDKernelIdeal.cfgs 0).N, Cert.SmDKernelIdeal.Value.run_blocks m g, ?_⟩
  have hr := Cert.SmDReferenceIdeal.Value.run (F := Ideal) m' g'
  refine (θ_run (Cert.SmDReferenceIdeal.defs (F := Ideal)) _ _).mono ?_ hr
  clear hr
  intro r h c
  obtain ⟨e0, e1, e2, e3, e4, e5, e6, e7⟩ := hagree c
  have hc := h c
  refine ⟨hc.1.trans ?_, hc.2.1.trans ?_, hc.2.2.1.trans ?_, hc.2.2.2.1.trans ?_, hc.2.2.2.2⟩
  · rw [e0, e4]; exact (Cert.SmDKernelIdeal.SmD.final4 m c).symm
  · rw [e0, e1, e2, e3, e5]; exact (Cert.SmDKernelIdeal.SmD.final5 m c).symm
  · rw [e0, e2, e6]; exact (Cert.SmDKernelIdeal.SmD.final6 m c).symm
  · rw [e0, e3, e7]; exact (Cert.SmDKernelIdeal.SmD.final7 m c).symm

end Cert.Proof
end
-- ==== Proof.SmDFrame.lean ====
/-
  The optimiser's call for the down projection, layer 0: the reference's own run.
-/
module

public import proofs.«01_k».proof.Defs
public import proofs.«01_k».proof.Proof.Gen.SmDReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem smD_reference_frame : Cert.quiescent_SmDReferenceIdeal (hSmDReferenceIdeal := Cert.SmDReferenceIdeal.Gen.facts) := by
  intro m g _
  hlo_run
  · intro c; simp only [and_self]
  · exact sem_eq_zero_of_no_sems (sig := Cert.SmDReferenceIdeal.sig) (by decide) _

end Cert.Proof
end
-- ==== Proof.SmGClaim.lean ====
/-
  The sum of the devices' shares of a layer's gradient: each grid point's sum is the reference's.
-/
module

public import proofs.«01_k».proof.Defs
public import proofs.«01_k».proof.Proof.Gen.SmGKernelIdeal.Value
public import proofs.«01_k».proof.Proof.Gen.SmGReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.SmGReferenceIdeal.SmG

open Cert.SmGReferenceIdeal Cert.SmGReferenceIdeal.Gen

/-- The sum of the devices' shares. -/
def total (a : FVec Ideal S8x352x1024 .f32) : FVec Ideal S352x1024 .f32 := Host.reduceAdd a (constant S_ .f32 0x00000000#32) reducesTo_S8x352x1024_S352x1024_d0 h_S_
theorem total_apply (a : FVec Ideal S8x352x1024 .f32) (r : Fin 352) (k : Fin 1024) : total a (ix2 r k) = ∑ j : Fin 8, a (ix3 j r k) := by
  pointwise [total]

end Cert.SmGReferenceIdeal.SmG

namespace Cert.SmGKernelIdeal.SmG

open Cert.SmGKernelIdeal Cert.SmGKernelIdeal.Gen
open Cert.SmGReferenceIdeal.SmG

/-- The sum of a block's eight shares. -/
theorem sum_eq (x : Vec Ideal S8x176x1024 .bf16) (a : FVec Ideal S8x352x1024 .f32) (r : Fin 176) (k : Fin 1024) (r' : Fin 352) (hx : ∀ j : Fin 8, x (ix3 j r k) = a (ix3 j r' k)) :
    k0_pay1 (View.ld x r0_0) (View.ld x r0_1) (View.ld x r0_2) (View.ld x r0_3) (View.ld x r0_4) (View.ld x r0_5) (View.ld x r0_6) (View.ld x r0_7) (ix2 r k) = total a (ix2 r' k) := by
  rw [total_apply]
  simp only [← hx, Fin.sum_univ_eight]
  pointwise [k0_pay1]

variable (m : (ℓ : Loc nD τ sig) → Buf (Elt Ideal) ℓ) (c : Dev nD) (t : Fin cfg0.N)

abbrev A0 := m ((c.tc : Thread nD τ).loc main_arg0)

theorem idx : ∀ t : Fin cfg0.N, win0_0.index t = ![0, t.val, 0] ∧ win0_1.index t = ![t.val, 0] :=
  (by decide +kernel : ∀ t : Fin grid0.N, _)

theorem lt : t.val < 2 := lt_of_lt_of_eq t.isLt N_0

/-- A block's row in the arrays. -/
abbrev row (r : Fin 176) : Fin 352 := ⟨t.val * 176 + r.val, by have := lt t; omega⟩

theorem entry0 (j : Fin 8) (r : Fin 352) (k : Fin 1024) : (V m c main_v0 : FVec Ideal S8x352x1024 .bf16) (ix3 j r k) = (A0 m c (ix3 j r k) : EReal) := by
  show StableHlo.after _ _ _ _ = _
  simp only [List.flatten_cons, List.flatten_nil, List.append_nil, List.cons_append, List.nil_append, hostOps0]
  entry_read
  rfl
theorem blk0 (j : Fin 8) (r : Fin 176) (k : Fin 1024) : iblk m c 0 t (ix3 j r k) = A0 m c (ix3 j (row t r) k) := by
  have e : iblk m c 0 t (ix3 j r k) = (V m c main_v0 : FVec Ideal S8x352x1024 .bf16) (ix3 j (row t r) k) := by blk_ext! [iblk, idx t]
  rw [e, entry0]

/-- The result array. -/
theorem final : (dats m 0 c).arrAt 1 (cfgs 0).N = total (A0 m c) := by
  refine (dats m 0 c).arrAt_eq_of_covers 1 _ (by decide +kernel) fun t hf y => ?_
  obtain ⟨r, k, ey⟩ : ∃ (r : Fin 176) (k : Fin 1024), y = ix2 r k := ⟨y 0, y 1, by blk_ext! []⟩
  have e : ((View.whole main_v1).slice (win0_1.rect t)).emb (ix2 r k) = ix2 (row t r) k := by blk_ext! [idx t]
  blk_simp; rw [after0_1]; frame_out
  rw [ey, e]
  exact sum_eq (iblk m c 0 t) (A0 m c) r k (row t r) (fun j => blk0 m c t j r k)

end Cert.SmGKernelIdeal.SmG

set_option maxHeartbeats 1600000

namespace Cert.Proof

/-- The kernel's result is the reference's, on all extended reals. -/
theorem smG_algebraic : Cert.algebraic_SmGKernelIdeal_SmGReferenceIdeal (hSmGKernelIdeal := Cert.SmGKernelIdeal.Gen.facts) (hSmGReferenceIdeal := Cert.SmGReferenceIdeal.Gen.facts) := by
  intro m g m' g' _ hagree
  refine ⟨fun c => (Cert.SmGKernelIdeal.Gen.dats m 0 c).arrAt 1 (Cert.SmGKernelIdeal.cfgs 0).N, Cert.SmGKernelIdeal.Value.run_blocks m g, ?_⟩
  have hr := Cert.SmGReferenceIdeal.Value.run (F := Ideal) m' g'
  refine (θ_run (Cert.SmGReferenceIdeal.defs (F := Ideal)) _ _).mono ?_ hr
  clear hr
  intro r h c
  have e0 := hagree c
  have hc := h c
  refine ⟨hc.1.trans ?_, hc.2⟩
  rw [e0]
  exact (Cert.SmGKernelIdeal.SmG.final m c).symm

end Cert.Proof
end
-- ==== Proof.SmGFrame.lean ====
/-
  The sum of the devices' shares of a layer's gradient: each grid point's sum is the reference's: the reference's own run.
-/
module

public import proofs.«01_k».proof.Defs
public import proofs.«01_k».proof.Proof.Gen.SmGReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 3200000 in
/-- The reference runs, keeps its arguments and ends with every semaphore at zero. -/
theorem smG_reference_frame : Cert.quiescent_SmGReferenceIdeal (hSmGReferenceIdeal := Cert.SmGReferenceIdeal.Gen.facts) := by
  intro m g _
  hlo_run
  · intro c; simp only [and_self]
  · exact sem_eq_zero_of_no_sems (sig := Cert.SmGReferenceIdeal.sig) (by decide) _

end Cert.Proof
end
-- ==== Proof.lean ====
module

public import proofs.«01_k».proof.Defs
public import proofs.«01_k».proof.Proof.Gen.DiscKernel
public import proofs.«01_k».proof.Proof.Gen.DiscKernel.Skeleton
public import proofs.«01_k».proof.Proof.Gen.DiscKernel.Launch
public import proofs.«01_k».proof.Proof.Gen.DiscKernel.Points
public import proofs.«01_k».proof.Proof.Gen.DiscKernel.Frame
public import proofs.«01_k».proof.Proof.Gen.DiscKernelIdeal
public import proofs.«01_k».proof.Proof.Gen.DiscKernelIdeal.Skeleton
public import proofs.«01_k».proof.Proof.Gen.DiscKernelIdeal.Launch
public import proofs.«01_k».proof.Proof.Gen.DiscKernelIdeal.Points
public import proofs.«01_k».proof.Proof.Gen.DiscKernelIdeal.Frame
public import proofs.«01_k».proof.Proof.Gen.DiscReferenceIdeal
public import proofs.«01_k».proof.Proof.DiscClaim
public import proofs.«01_k».proof.Proof.DiscFrame
public import proofs.«01_k».proof.Proof.Gen.DiscKernelIdeal.Value
public import proofs.«01_k».proof.Proof.Gen.DiscReferenceIdeal.Run
public import proofs.«01_k».proof.Proof.FfnClaim
public import proofs.«01_k».proof.Proof.FfnFrame
public import proofs.«01_k».proof.Proof.Gen.FfnKernelIdeal.Value
public import proofs.«01_k».proof.Proof.Gen.FfnReferenceIdeal.Run
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.FwdClaim
public import proofs.«01_k».proof.Proof.FwdFrame
public import proofs.«01_k».proof.Proof.Gen.FwdKernel
public import proofs.«01_k».proof.Proof.Gen.FwdKernel.Skeleton
public import proofs.«01_k».proof.Proof.Gen.FwdKernel.Launch
public import proofs.«01_k».proof.Proof.Gen.FwdKernel.Points
public import proofs.«01_k».proof.Proof.Gen.FwdKernel.Frame
public import proofs.«01_k».proof.Proof.Gen.FwdKernelIdeal
public import proofs.«01_k».proof.Proof.Gen.FwdKernelIdeal.Skeleton
public import proofs.«01_k».proof.Proof.Gen.FwdKernelIdeal.Launch
public import proofs.«01_k».proof.Proof.Gen.FwdKernelIdeal.Points
public import proofs.«01_k».proof.Proof.Gen.FwdKernelIdeal.Frame
public import proofs.«01_k».proof.Proof.Gen.FwdReferenceIdeal
public import proofs.«01_k».proof.Proof.Gen.FwdKernelIdeal.Value
public import proofs.«01_k».proof.Proof.Gen.FwdReferenceIdeal.Run
public import proofs.«01_k».proof.Proof.WdnClaim
public import proofs.«01_k».proof.Proof.WdnFrame
public import proofs.«01_k».proof.Proof.Gen.WdnKernel
public import proofs.«01_k».proof.Proof.Gen.WdnKernel.Skeleton
public import proofs.«01_k».proof.Proof.Gen.WdnKernel.Launch
public import proofs.«01_k».proof.Proof.Gen.WdnKernel.Points
public import proofs.«01_k».proof.Proof.Gen.WdnKernel.Frame
public import proofs.«01_k».proof.Proof.Gen.WdnKernelIdeal
public import proofs.«01_k».proof.Proof.Gen.WdnKernelIdeal.Skeleton
public import proofs.«01_k».proof.Proof.Gen.WdnKernelIdeal.Launch
public import proofs.«01_k».proof.Proof.Gen.WdnKernelIdeal.Points
public import proofs.«01_k».proof.Proof.Gen.WdnKernelIdeal.Frame
public import proofs.«01_k».proof.Proof.Gen.WdnReferenceIdeal
public import proofs.«01_k».proof.Proof.Gen.WdnKernelIdeal.Value
public import proofs.«01_k».proof.Proof.Gen.WdnReferenceIdeal.Run
public import proofs.«01_k».proof.Proof.WgtClaim
public import proofs.«01_k».proof.Proof.WgtFrame
public import proofs.«01_k».proof.Proof.Gen.WgtKernel
public import proofs.«01_k».proof.Proof.Gen.WgtKernel.Skeleton
public import proofs.«01_k».proof.Proof.Gen.WgtKernel.Launch
public import proofs.«01_k».proof.Proof.Gen.WgtKernel.Points
public import proofs.«01_k».proof.Proof.Gen.WgtKernel.Frame
public import proofs.«01_k».proof.Proof.Gen.WgtKernelIdeal
public import proofs.«01_k».proof.Proof.Gen.WgtKernelIdeal.Skeleton
public import proofs.«01_k».proof.Proof.Gen.WgtKernelIdeal.Launch
public import proofs.«01_k».proof.Proof.Gen.WgtKernelIdeal.Points
public import proofs.«01_k».proof.Proof.Gen.WgtKernelIdeal.Frame
public import proofs.«01_k».proof.Proof.Gen.WgtReferenceIdeal
public import proofs.«01_k».proof.Proof.Gen.WgtKernelIdeal.Value
public import proofs.«01_k».proof.Proof.Gen.WgtReferenceIdeal.Run
public import proofs.«01_k».proof.Proof.InbClaim
public import proofs.«01_k».proof.Proof.InbFrame
public import proofs.«01_k».proof.Proof.Gen.InbKernel
public import proofs.«01_k».proof.Proof.Gen.InbKernel.Skeleton
public import proofs.«01_k».proof.Proof.Gen.InbKernel.Launch
public import proofs.«01_k».proof.Proof.Gen.InbKernel.Points
public import proofs.«01_k».proof.Proof.Gen.InbKernel.Frame
public import proofs.«01_k».proof.Proof.Gen.InbKernelIdeal
public import proofs.«01_k».proof.Proof.Gen.InbKernelIdeal.Skeleton
public import proofs.«01_k».proof.Proof.Gen.InbKernelIdeal.Launch
public import proofs.«01_k».proof.Proof.Gen.InbKernelIdeal.Points
public import proofs.«01_k».proof.Proof.Gen.InbKernelIdeal.Frame
public import proofs.«01_k».proof.Proof.Gen.InbReferenceIdeal
public import proofs.«01_k».proof.Proof.Gen.InbKernelIdeal.Value
public import proofs.«01_k».proof.Proof.Gen.InbReferenceIdeal.Run
public import proofs.«01_k».proof.Proof.InfClaim
public import proofs.«01_k».proof.Proof.InfFrame
public import proofs.«01_k».proof.Proof.Gen.InfKernel
public import proofs.«01_k».proof.Proof.Gen.InfKernel.Skeleton
public import proofs.«01_k».proof.Proof.Gen.InfKernel.Launch
public import proofs.«01_k».proof.Proof.Gen.InfKernel.Points
public import proofs.«01_k».proof.Proof.Gen.InfKernel.Frame
public import proofs.«01_k».proof.Proof.Gen.InfKernelIdeal
public import proofs.«01_k».proof.Proof.Gen.InfKernelIdeal.Skeleton
public import proofs.«01_k».proof.Proof.Gen.InfKernelIdeal.Launch
public import proofs.«01_k».proof.Proof.Gen.InfKernelIdeal.Points
public import proofs.«01_k».proof.Proof.Gen.InfKernelIdeal.Frame
public import proofs.«01_k».proof.Proof.Gen.InfReferenceIdeal
public import proofs.«01_k».proof.Proof.Gen.InfKernelIdeal.Value
public import proofs.«01_k».proof.Proof.Gen.InfReferenceIdeal.Run
public import proofs.«01_k».proof.Proof.WiuClaim
public import proofs.«01_k».proof.Proof.WiuFrame
public import proofs.«01_k».proof.Proof.Gen.WiuKernel
public import proofs.«01_k».proof.Proof.Gen.WiuKernel.Skeleton
public import proofs.«01_k».proof.Proof.Gen.WiuKernel.Launch
public import proofs.«01_k».proof.Proof.Gen.WiuKernel.Points
public import proofs.«01_k».proof.Proof.Gen.WiuKernel.Frame
public import proofs.«01_k».proof.Proof.Gen.WiuKernelIdeal
public import proofs.«01_k».proof.Proof.Gen.WiuKernelIdeal.Skeleton
public import proofs.«01_k».proof.Proof.Gen.WiuKernelIdeal.Launch
public import proofs.«01_k».proof.Proof.Gen.WiuKernelIdeal.Points
public import proofs.«01_k».proof.Proof.Gen.WiuKernelIdeal.Frame
public import proofs.«01_k».proof.Proof.Gen.WiuReferenceIdeal
public import proofs.«01_k».proof.Proof.Gen.WiuKernelIdeal.Value
public import proofs.«01_k».proof.Proof.Gen.WiuReferenceIdeal.Run
public import proofs.«01_k».proof.Proof.WixClaim
public import proofs.«01_k».proof.Proof.WixFrame
public import proofs.«01_k».proof.Proof.Gen.WixKernel
public import proofs.«01_k».proof.Proof.Gen.WixKernel.Skeleton
public import proofs.«01_k».proof.Proof.Gen.WixKernel.Launch
public import proofs.«01_k».proof.Proof.Gen.WixKernel.Points
public import proofs.«01_k».proof.Proof.Gen.WixKernel.Frame
public import proofs.«01_k».proof.Proof.Gen.WixKernelIdeal
public import proofs.«01_k».proof.Proof.Gen.WixKernelIdeal.Skeleton
public import proofs.«01_k».proof.Proof.Gen.WixKernelIdeal.Launch
public import proofs.«01_k».proof.Proof.Gen.WixKernelIdeal.Points
public import proofs.«01_k».proof.Proof.Gen.WixKernelIdeal.Frame
public import proofs.«01_k».proof.Proof.Gen.WixReferenceIdeal
public import proofs.«01_k».proof.Proof.Gen.WixKernelIdeal.Value
public import proofs.«01_k».proof.Proof.Gen.WixReferenceIdeal.Run
public import proofs.«01_k».proof.Proof.WidClaim
public import proofs.«01_k».proof.Proof.WidFrame
public import proofs.«01_k».proof.Proof.Gen.WidKernel
public import proofs.«01_k».proof.Proof.Gen.WidKernel.Skeleton
public import proofs.«01_k».proof.Proof.Gen.WidKernel.Launch
public import proofs.«01_k».proof.Proof.Gen.WidKernel.Points
public import proofs.«01_k».proof.Proof.Gen.WidKernel.Frame
public import proofs.«01_k».proof.Proof.Gen.WidKernelIdeal
public import proofs.«01_k».proof.Proof.Gen.WidKernelIdeal.Skeleton
public import proofs.«01_k».proof.Proof.Gen.WidKernelIdeal.Launch
public import proofs.«01_k».proof.Proof.Gen.WidKernelIdeal.Points
public import proofs.«01_k».proof.Proof.Gen.WidKernelIdeal.Frame
public import proofs.«01_k».proof.Proof.Gen.WidReferenceIdeal
public import proofs.«01_k».proof.Proof.Gen.WidKernelIdeal.Value
public import proofs.«01_k».proof.Proof.Gen.WidReferenceIdeal.Run
public import proofs.«01_k».proof.Proof.WopClaim
public import proofs.«01_k».proof.Proof.WopFrame
public import proofs.«01_k».proof.Proof.Gen.WopKernel
public import proofs.«01_k».proof.Proof.Gen.WopKernel.Skeleton
public import proofs.«01_k».proof.Proof.Gen.WopKernel.Launch
public import proofs.«01_k».proof.Proof.Gen.WopKernel.Points
public import proofs.«01_k».proof.Proof.Gen.WopKernel.Frame
public import proofs.«01_k».proof.Proof.Gen.WopKernelIdeal
public import proofs.«01_k».proof.Proof.Gen.WopKernelIdeal.Skeleton
public import proofs.«01_k».proof.Proof.Gen.WopKernelIdeal.Launch
public import proofs.«01_k».proof.Proof.Gen.WopKernelIdeal.Points
public import proofs.«01_k».proof.Proof.Gen.WopKernelIdeal.Frame
public import proofs.«01_k».proof.Proof.Gen.WopReferenceIdeal
public import proofs.«01_k».proof.Proof.Gen.WopKernelIdeal.Value
public import proofs.«01_k».proof.Proof.Gen.WopReferenceIdeal.Run
public import proofs.«01_k».proof.Proof.LosClaim
public import proofs.«01_k».proof.Proof.LosFrame
public import proofs.«01_k».proof.Proof.Gen.LosKernel
public import proofs.«01_k».proof.Proof.Gen.LosKernel.Skeleton
public import proofs.«01_k».proof.Proof.Gen.LosKernel.Launch
public import proofs.«01_k».proof.Proof.Gen.LosKernel.Points
public import proofs.«01_k».proof.Proof.Gen.LosKernel.Frame
public import proofs.«01_k».proof.Proof.Gen.LosKernelIdeal
public import proofs.«01_k».proof.Proof.Gen.LosKernelIdeal.Skeleton
public import proofs.«01_k».proof.Proof.Gen.LosKernelIdeal.Launch
public import proofs.«01_k».proof.Proof.Gen.LosKernelIdeal.Points
public import proofs.«01_k».proof.Proof.Gen.LosKernelIdeal.Frame
public import proofs.«01_k».proof.Proof.Gen.LosReferenceIdeal
public import proofs.«01_k».proof.Proof.Gen.LosKernelIdeal.Value
public import proofs.«01_k».proof.Proof.Gen.LosReferenceIdeal.Run
public import proofs.«01_k».proof.Proof.AdNClaim
public import proofs.«01_k».proof.Proof.AdNFrame
public import proofs.«01_k».proof.Proof.Gen.AdNKernel
public import proofs.«01_k».proof.Proof.Gen.AdNKernel.Skeleton
public import proofs.«01_k».proof.Proof.Gen.AdNKernel.Launch
public import proofs.«01_k».proof.Proof.Gen.AdNKernel.Points
public import proofs.«01_k».proof.Proof.Gen.AdNKernel.Frame
public import proofs.«01_k».proof.Proof.Gen.AdNKernelIdeal
public import proofs.«01_k».proof.Proof.Gen.AdNKernelIdeal.Skeleton
public import proofs.«01_k».proof.Proof.Gen.AdNKernelIdeal.Launch
public import proofs.«01_k».proof.Proof.Gen.AdNKernelIdeal.Points
public import proofs.«01_k».proof.Proof.Gen.AdNKernelIdeal.Frame
public import proofs.«01_k».proof.Proof.Gen.AdNReferenceIdeal
public import proofs.«01_k».proof.Proof.Gen.AdNKernelIdeal.Value
public import proofs.«01_k».proof.Proof.Gen.AdNReferenceIdeal.Run
public import proofs.«01_k».proof.Proof.AdLClaim
public import proofs.«01_k».proof.Proof.AdLFrame
public import proofs.«01_k».proof.Proof.Gen.AdLKernel
public import proofs.«01_k».proof.Proof.Gen.AdLKernel.Skeleton
public import proofs.«01_k».proof.Proof.Gen.AdLKernel.Launch
public import proofs.«01_k».proof.Proof.Gen.AdLKernel.Points
public import proofs.«01_k».proof.Proof.Gen.AdLKernel.Frame
public import proofs.«01_k».proof.Proof.Gen.AdLKernelIdeal
public import proofs.«01_k».proof.Proof.Gen.AdLKernelIdeal.Skeleton
public import proofs.«01_k».proof.Proof.Gen.AdLKernelIdeal.Launch
public import proofs.«01_k».proof.Proof.Gen.AdLKernelIdeal.Points
public import proofs.«01_k».proof.Proof.Gen.AdLKernelIdeal.Frame
public import proofs.«01_k».proof.Proof.Gen.AdLReferenceIdeal
public import proofs.«01_k».proof.Proof.Gen.AdLKernelIdeal.Value
public import proofs.«01_k».proof.Proof.Gen.AdLReferenceIdeal.Run
public import proofs.«01_k».proof.Proof.AdSClaim
public import proofs.«01_k».proof.Proof.AdSFrame
public import proofs.«01_k».proof.Proof.Gen.AdSKernel
public import proofs.«01_k».proof.Proof.Gen.AdSKernel.Skeleton
public import proofs.«01_k».proof.Proof.Gen.AdSKernel.Launch
public import proofs.«01_k».proof.Proof.Gen.AdSKernel.Points
public import proofs.«01_k».proof.Proof.Gen.AdSKernel.Frame
public import proofs.«01_k».proof.Proof.Gen.AdSKernelIdeal
public import proofs.«01_k».proof.Proof.Gen.AdSKernelIdeal.Skeleton
public import proofs.«01_k».proof.Proof.Gen.AdSKernelIdeal.Launch
public import proofs.«01_k».proof.Proof.Gen.AdSKernelIdeal.Points
public import proofs.«01_k».proof.Proof.Gen.AdSKernelIdeal.Frame
public import proofs.«01_k».proof.Proof.Gen.AdSReferenceIdeal
public import proofs.«01_k».proof.Proof.Gen.AdSKernelIdeal.Value
public import proofs.«01_k».proof.Proof.Gen.AdSReferenceIdeal.Run
public import proofs.«01_k».proof.Proof.AdBClaim
public import proofs.«01_k».proof.Proof.AdBFrame
public import proofs.«01_k».proof.Proof.Gen.AdBKernel
public import proofs.«01_k».proof.Proof.Gen.AdBKernel.Skeleton
public import proofs.«01_k».proof.Proof.Gen.AdBKernel.Launch
public import proofs.«01_k».proof.Proof.Gen.AdBKernel.Points
public import proofs.«01_k».proof.Proof.Gen.AdBKernel.Frame
public import proofs.«01_k».proof.Proof.Gen.AdBKernelIdeal
public import proofs.«01_k».proof.Proof.Gen.AdBKernelIdeal.Skeleton
public import proofs.«01_k».proof.Proof.Gen.AdBKernelIdeal.Launch
public import proofs.«01_k».proof.Proof.Gen.AdBKernelIdeal.Points
public import proofs.«01_k».proof.Proof.Gen.AdBKernelIdeal.Frame
public import proofs.«01_k».proof.Proof.Gen.AdBReferenceIdeal
public import proofs.«01_k».proof.Proof.Gen.AdBKernelIdeal.Value
public import proofs.«01_k».proof.Proof.Gen.AdBReferenceIdeal.Run
public import proofs.«01_k».proof.Proof.AdCClaim
public import proofs.«01_k».proof.Proof.AdCFrame
public import proofs.«01_k».proof.Proof.Gen.AdCKernel
public import proofs.«01_k».proof.Proof.Gen.AdCKernel.Skeleton
public import proofs.«01_k».proof.Proof.Gen.AdCKernel.Launch
public import proofs.«01_k».proof.Proof.Gen.AdCKernel.Points
public import proofs.«01_k».proof.Proof.Gen.AdCKernel.Frame
public import proofs.«01_k».proof.Proof.Gen.AdCKernelIdeal
public import proofs.«01_k».proof.Proof.Gen.AdCKernelIdeal.Skeleton
public import proofs.«01_k».proof.Proof.Gen.AdCKernelIdeal.Launch
public import proofs.«01_k».proof.Proof.Gen.AdCKernelIdeal.Points
public import proofs.«01_k».proof.Proof.Gen.AdCKernelIdeal.Frame
public import proofs.«01_k».proof.Proof.Gen.AdCReferenceIdeal
public import proofs.«01_k».proof.Proof.Gen.AdCKernelIdeal.Value
public import proofs.«01_k».proof.Proof.Gen.AdCReferenceIdeal.Run
public import proofs.«01_k».proof.Proof.AdVClaim
public import proofs.«01_k».proof.Proof.AdVFrame
public import proofs.«01_k».proof.Proof.Gen.AdVKernel
public import proofs.«01_k».proof.Proof.Gen.AdVKernel.Skeleton
public import proofs.«01_k».proof.Proof.Gen.AdVKernel.Launch
public import proofs.«01_k».proof.Proof.Gen.AdVKernel.Points
public import proofs.«01_k».proof.Proof.Gen.AdVKernel.Frame
public import proofs.«01_k».proof.Proof.Gen.AdVKernelIdeal
public import proofs.«01_k».proof.Proof.Gen.AdVKernelIdeal.Skeleton
public import proofs.«01_k».proof.Proof.Gen.AdVKernelIdeal.Launch
public import proofs.«01_k».proof.Proof.Gen.AdVKernelIdeal.Points
public import proofs.«01_k».proof.Proof.Gen.AdVKernelIdeal.Frame
public import proofs.«01_k».proof.Proof.Gen.AdVReferenceIdeal
public import proofs.«01_k».proof.Proof.Gen.AdVKernelIdeal.Value
public import proofs.«01_k».proof.Proof.Gen.AdVReferenceIdeal.Run
public import proofs.«01_k».proof.Proof.AdHClaim
public import proofs.«01_k».proof.Proof.AdHFrame
public import proofs.«01_k».proof.Proof.Gen.AdHKernel
public import proofs.«01_k».proof.Proof.Gen.AdHKernel.Skeleton
public import proofs.«01_k».proof.Proof.Gen.AdHKernel.Launch
public import proofs.«01_k».proof.Proof.Gen.AdHKernel.Points
public import proofs.«01_k».proof.Proof.Gen.AdHKernel.Frame
public import proofs.«01_k».proof.Proof.Gen.AdHKernelIdeal
public import proofs.«01_k».proof.Proof.Gen.AdHKernelIdeal.Skeleton
public import proofs.«01_k».proof.Proof.Gen.AdHKernelIdeal.Launch
public import proofs.«01_k».proof.Proof.Gen.AdHKernelIdeal.Points
public import proofs.«01_k».proof.Proof.Gen.AdHKernelIdeal.Frame
public import proofs.«01_k».proof.Proof.Gen.AdHReferenceIdeal
public import proofs.«01_k».proof.Proof.Gen.AdHKernelIdeal.Value
public import proofs.«01_k».proof.Proof.Gen.AdHReferenceIdeal.Run
public import proofs.«01_k».proof.Proof.AdFClaim
public import proofs.«01_k».proof.Proof.AdFFrame
public import proofs.«01_k».proof.Proof.Gen.AdFKernel
public import proofs.«01_k».proof.Proof.Gen.AdFKernel.Skeleton
public import proofs.«01_k».proof.Proof.Gen.AdFKernel.Launch
public import proofs.«01_k».proof.Proof.Gen.AdFKernel.Points
public import proofs.«01_k».proof.Proof.Gen.AdFKernel.Frame
public import proofs.«01_k».proof.Proof.Gen.AdFKernelIdeal
public import proofs.«01_k».proof.Proof.Gen.AdFKernelIdeal.Skeleton
public import proofs.«01_k».proof.Proof.Gen.AdFKernelIdeal.Launch
public import proofs.«01_k».proof.Proof.Gen.AdFKernelIdeal.Points
public import proofs.«01_k».proof.Proof.Gen.AdFKernelIdeal.Frame
public import proofs.«01_k».proof.Proof.Gen.AdFReferenceIdeal
public import proofs.«01_k».proof.Proof.Gen.AdFKernelIdeal.Value
public import proofs.«01_k».proof.Proof.Gen.AdFReferenceIdeal.Run
public import proofs.«01_k».proof.Proof.AdGClaim
public import proofs.«01_k».proof.Proof.AdGFrame
public import proofs.«01_k».proof.Proof.Gen.AdGKernel
public import proofs.«01_k».proof.Proof.Gen.AdGKernel.Skeleton
public import proofs.«01_k».proof.Proof.Gen.AdGKernel.Launch
public import proofs.«01_k».proof.Proof.Gen.AdGKernel.Points
public import proofs.«01_k».proof.Proof.Gen.AdGKernel.Frame
public import proofs.«01_k».proof.Proof.Gen.AdGKernelIdeal
public import proofs.«01_k».proof.Proof.Gen.AdGKernelIdeal.Skeleton
public import proofs.«01_k».proof.Proof.Gen.AdGKernelIdeal.Launch
public import proofs.«01_k».proof.Proof.Gen.AdGKernelIdeal.Points
public import proofs.«01_k».proof.Proof.Gen.AdGKernelIdeal.Frame
public import proofs.«01_k».proof.Proof.Gen.AdGReferenceIdeal
public import proofs.«01_k».proof.Proof.Gen.AdGKernelIdeal.Value
public import proofs.«01_k».proof.Proof.Gen.AdGReferenceIdeal.Run
public import proofs.«01_k».proof.Proof.SmIClaim
public import proofs.«01_k».proof.Proof.SmIFrame
public import proofs.«01_k».proof.Proof.Gen.SmIKernel
public import proofs.«01_k».proof.Proof.Gen.SmIKernel.Skeleton
public import proofs.«01_k».proof.Proof.Gen.SmIKernel.Launch
public import proofs.«01_k».proof.Proof.Gen.SmIKernel.Points
public import proofs.«01_k».proof.Proof.Gen.SmIKernel.Frame
public import proofs.«01_k».proof.Proof.Gen.SmIKernelIdeal
public import proofs.«01_k».proof.Proof.Gen.SmIKernelIdeal.Skeleton
public import proofs.«01_k».proof.Proof.Gen.SmIKernelIdeal.Launch
public import proofs.«01_k».proof.Proof.Gen.SmIKernelIdeal.Points
public import proofs.«01_k».proof.Proof.Gen.SmIKernelIdeal.Frame
public import proofs.«01_k».proof.Proof.Gen.SmIReferenceIdeal
public import proofs.«01_k».proof.Proof.Gen.SmIKernelIdeal.Value
public import proofs.«01_k».proof.Proof.Gen.SmIReferenceIdeal.Run
public import proofs.«01_k».proof.Proof.SmUClaim
public import proofs.«01_k».proof.Proof.SmUFrame
public import proofs.«01_k».proof.Proof.Gen.SmUKernel
public import proofs.«01_k».proof.Proof.Gen.SmUKernel.Skeleton
public import proofs.«01_k».proof.Proof.Gen.SmUKernel.Launch
public import proofs.«01_k».proof.Proof.Gen.SmUKernel.Points
public import proofs.«01_k».proof.Proof.Gen.SmUKernel.Frame
public import proofs.«01_k».proof.Proof.Gen.SmUKernelIdeal
public import proofs.«01_k».proof.Proof.Gen.SmUKernelIdeal.Skeleton
public import proofs.«01_k».proof.Proof.Gen.SmUKernelIdeal.Launch
public import proofs.«01_k».proof.Proof.Gen.SmUKernelIdeal.Points
public import proofs.«01_k».proof.Proof.Gen.SmUKernelIdeal.Frame
public import proofs.«01_k».proof.Proof.Gen.SmUReferenceIdeal
public import proofs.«01_k».proof.Proof.Gen.SmUKernelIdeal.Value
public import proofs.«01_k».proof.Proof.Gen.SmUReferenceIdeal.Run
public import proofs.«01_k».proof.Proof.SmVClaim
public import proofs.«01_k».proof.Proof.SmVFrame
public import proofs.«01_k».proof.Proof.Gen.SmVKernel
public import proofs.«01_k».proof.Proof.Gen.SmVKernel.Skeleton
public import proofs.«01_k».proof.Proof.Gen.SmVKernel.Launch
public import proofs.«01_k».proof.Proof.Gen.SmVKernel.Points
public import proofs.«01_k».proof.Proof.Gen.SmVKernel.Frame
public import proofs.«01_k».proof.Proof.Gen.SmVKernelIdeal
public import proofs.«01_k».proof.Proof.Gen.SmVKernelIdeal.Skeleton
public import proofs.«01_k».proof.Proof.Gen.SmVKernelIdeal.Launch
public import proofs.«01_k».proof.Proof.Gen.SmVKernelIdeal.Points
public import proofs.«01_k».proof.Proof.Gen.SmVKernelIdeal.Frame
public import proofs.«01_k».proof.Proof.Gen.SmVReferenceIdeal
public import proofs.«01_k».proof.Proof.Gen.SmVKernelIdeal.Value
public import proofs.«01_k».proof.Proof.Gen.SmVReferenceIdeal.Run
public import proofs.«01_k».proof.Proof.SmOClaim
public import proofs.«01_k».proof.Proof.SmOFrame
public import proofs.«01_k».proof.Proof.Gen.SmOKernel
public import proofs.«01_k».proof.Proof.Gen.SmOKernel.Skeleton
public import proofs.«01_k».proof.Proof.Gen.SmOKernel.Launch
public import proofs.«01_k».proof.Proof.Gen.SmOKernel.Points
public import proofs.«01_k».proof.Proof.Gen.SmOKernel.Frame
public import proofs.«01_k».proof.Proof.Gen.SmOKernelIdeal
public import proofs.«01_k».proof.Proof.Gen.SmOKernelIdeal.Skeleton
public import proofs.«01_k».proof.Proof.Gen.SmOKernelIdeal.Launch
public import proofs.«01_k».proof.Proof.Gen.SmOKernelIdeal.Points
public import proofs.«01_k».proof.Proof.Gen.SmOKernelIdeal.Frame
public import proofs.«01_k».proof.Proof.Gen.SmOReferenceIdeal
public import proofs.«01_k».proof.Proof.Gen.SmOKernelIdeal.Value
public import proofs.«01_k».proof.Proof.Gen.SmOReferenceIdeal.Run
public import proofs.«01_k».proof.Proof.SmDClaim
public import proofs.«01_k».proof.Proof.SmDFrame
public import proofs.«01_k».proof.Proof.Gen.SmDKernel
public import proofs.«01_k».proof.Proof.Gen.SmDKernel.Skeleton
public import proofs.«01_k».proof.Proof.Gen.SmDKernel.Launch
public import proofs.«01_k».proof.Proof.Gen.SmDKernel.Points
public import proofs.«01_k».proof.Proof.Gen.SmDKernel.Frame
public import proofs.«01_k».proof.Proof.Gen.SmDKernelIdeal
public import proofs.«01_k».proof.Proof.Gen.SmDKernelIdeal.Skeleton
public import proofs.«01_k».proof.Proof.Gen.SmDKernelIdeal.Launch
public import proofs.«01_k».proof.Proof.Gen.SmDKernelIdeal.Points
public import proofs.«01_k».proof.Proof.Gen.SmDKernelIdeal.Frame
public import proofs.«01_k».proof.Proof.Gen.SmDReferenceIdeal
public import proofs.«01_k».proof.Proof.Gen.SmDKernelIdeal.Value
public import proofs.«01_k».proof.Proof.Gen.SmDReferenceIdeal.Run
public import proofs.«01_k».proof.Proof.SmGClaim
public import proofs.«01_k».proof.Proof.SmGFrame
public import proofs.«01_k».proof.Proof.Gen.SmGKernel
public import proofs.«01_k».proof.Proof.Gen.SmGKernel.Skeleton
public import proofs.«01_k».proof.Proof.Gen.SmGKernel.Launch
public import proofs.«01_k».proof.Proof.Gen.SmGKernel.Points
public import proofs.«01_k».proof.Proof.Gen.SmGKernel.Frame
public import proofs.«01_k».proof.Proof.Gen.SmGKernelIdeal
public import proofs.«01_k».proof.Proof.Gen.SmGKernelIdeal.Skeleton
public import proofs.«01_k».proof.Proof.Gen.SmGKernelIdeal.Launch
public import proofs.«01_k».proof.Proof.Gen.SmGKernelIdeal.Points
public import proofs.«01_k».proof.Proof.Gen.SmGKernelIdeal.Frame
public import proofs.«01_k».proof.Proof.Gen.SmGReferenceIdeal
public import proofs.«01_k».proof.Proof.Gen.SmGKernelIdeal.Value
public import proofs.«01_k».proof.Proof.Gen.SmGReferenceIdeal.Run
public import Idealize.ShloMosaic.Adequacy
public import Idealize.ShloMosaic.Init

@[expose] public section

noncomputable section

namespace Cert.Proof

open Idealize.ShloMosaic Idealize.SL.Sem Cert.DiscKernel

theorem claim : Cert.Claim := ⟨Cert.DiscKernel.Gen.facts, Cert.DiscKernelIdeal.Gen.facts, Cert.DiscReferenceIdeal.Gen.facts, Cert.FfnKernel.Gen.facts, Cert.FfnKernelIdeal.Gen.facts, Cert.FfnReferenceIdeal.Gen.facts, Cert.FwdKernel.Gen.facts, Cert.FwdKernelIdeal.Gen.facts, Cert.FwdReferenceIdeal.Gen.facts, Cert.WdnKernel.Gen.facts, Cert.WdnKernelIdeal.Gen.facts, Cert.WdnReferenceIdeal.Gen.facts, Cert.WgtKernel.Gen.facts, Cert.WgtKernelIdeal.Gen.facts, Cert.WgtReferenceIdeal.Gen.facts, Cert.InbKernel.Gen.facts, Cert.InbKernelIdeal.Gen.facts, Cert.InbReferenceIdeal.Gen.facts, Cert.InfKernel.Gen.facts, Cert.InfKernelIdeal.Gen.facts, Cert.InfReferenceIdeal.Gen.facts, Cert.WiuKernel.Gen.facts, Cert.WiuKernelIdeal.Gen.facts, Cert.WiuReferenceIdeal.Gen.facts, Cert.WixKernel.Gen.facts, Cert.WixKernelIdeal.Gen.facts, Cert.WixReferenceIdeal.Gen.facts, Cert.WidKernel.Gen.facts, Cert.WidKernelIdeal.Gen.facts, Cert.WidReferenceIdeal.Gen.facts, Cert.WopKernel.Gen.facts, Cert.WopKernelIdeal.Gen.facts, Cert.WopReferenceIdeal.Gen.facts, Cert.LosKernel.Gen.facts, Cert.LosKernelIdeal.Gen.facts, Cert.LosReferenceIdeal.Gen.facts, Cert.AdNKernel.Gen.facts, Cert.AdNKernelIdeal.Gen.facts, Cert.AdNReferenceIdeal.Gen.facts, Cert.AdLKernel.Gen.facts, Cert.AdLKernelIdeal.Gen.facts, Cert.AdLReferenceIdeal.Gen.facts, Cert.AdSKernel.Gen.facts, Cert.AdSKernelIdeal.Gen.facts, Cert.AdSReferenceIdeal.Gen.facts, Cert.AdBKernel.Gen.facts, Cert.AdBKernelIdeal.Gen.facts, Cert.AdBReferenceIdeal.Gen.facts, Cert.AdCKernel.Gen.facts, Cert.AdCKernelIdeal.Gen.facts, Cert.AdCReferenceIdeal.Gen.facts, Cert.AdVKernel.Gen.facts, Cert.AdVKernelIdeal.Gen.facts, Cert.AdVReferenceIdeal.Gen.facts, Cert.AdHKernel.Gen.facts, Cert.AdHKernelIdeal.Gen.facts, Cert.AdHReferenceIdeal.Gen.facts, Cert.AdFKernel.Gen.facts, Cert.AdFKernelIdeal.Gen.facts, Cert.AdFReferenceIdeal.Gen.facts, Cert.AdGKernel.Gen.facts, Cert.AdGKernelIdeal.Gen.facts, Cert.AdGReferenceIdeal.Gen.facts, Cert.SmIKernel.Gen.facts, Cert.SmIKernelIdeal.Gen.facts, Cert.SmIReferenceIdeal.Gen.facts, Cert.SmUKernel.Gen.facts, Cert.SmUKernelIdeal.Gen.facts, Cert.SmUReferenceIdeal.Gen.facts, Cert.SmVKernel.Gen.facts, Cert.SmVKernelIdeal.Gen.facts, Cert.SmVReferenceIdeal.Gen.facts, Cert.SmOKernel.Gen.facts, Cert.SmOKernelIdeal.Gen.facts, Cert.SmOReferenceIdeal.Gen.facts, Cert.SmDKernel.Gen.facts, Cert.SmDKernelIdeal.Gen.facts, Cert.SmDReferenceIdeal.Gen.facts, Cert.SmGKernel.Gen.facts, Cert.SmGKernelIdeal.Gen.facts, Cert.SmGReferenceIdeal.Gen.facts, by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun m g _ => Cert.DiscKernel.Gen.frame m g
  · exact fun m g _ => Cert.DiscKernelIdeal.Gen.frame m g
  · exact Cert.Proof.disc_reference_frame
  · exact fun m g _ => Cert.FfnKernel.Gen.frame m g
  · exact fun m g _ => Cert.FfnKernelIdeal.Gen.frame m g
  · exact Cert.Proof.ffn_reference_frame
  · exact fun m g _ => Cert.FwdKernel.Gen.frame m g
  · exact fun m g _ => Cert.FwdKernelIdeal.Gen.frame m g
  · exact Cert.Proof.fwd_reference_frame
  · exact fun m g _ => Cert.WdnKernel.Gen.frame m g
  · exact fun m g _ => Cert.WdnKernelIdeal.Gen.frame m g
  · exact Cert.Proof.wdn_reference_frame
  · exact fun m g _ => Cert.WgtKernel.Gen.frame m g
  · exact fun m g _ => Cert.WgtKernelIdeal.Gen.frame m g
  · exact Cert.Proof.wgt_reference_frame
  · exact fun m g _ => Cert.InbKernel.Gen.frame m g
  · exact fun m g _ => Cert.InbKernelIdeal.Gen.frame m g
  · exact Cert.Proof.inb_reference_frame
  · exact fun m g _ => Cert.InfKernel.Gen.frame m g
  · exact fun m g _ => Cert.InfKernelIdeal.Gen.frame m g
  · exact Cert.Proof.inf_reference_frame
  · exact fun m g _ => Cert.WiuKernel.Gen.frame m g
  · exact fun m g _ => Cert.WiuKernelIdeal.Gen.frame m g
  · exact Cert.Proof.wiu_reference_frame
  · exact fun m g _ => Cert.WixKernel.Gen.frame m g
  · exact fun m g _ => Cert.WixKernelIdeal.Gen.frame m g
  · exact Cert.Proof.wix_reference_frame
  · exact fun m g _ => Cert.WidKernel.Gen.frame m g
  · exact fun m g _ => Cert.WidKernelIdeal.Gen.frame m g
  · exact Cert.Proof.wid_reference_frame
  · exact fun m g _ => Cert.WopKernel.Gen.frame m g
  · exact fun m g _ => Cert.WopKernelIdeal.Gen.frame m g
  · exact Cert.Proof.wop_reference_frame
  · exact fun m g _ => Cert.LosKernel.Gen.frame m g
  · exact fun m g _ => Cert.LosKernelIdeal.Gen.frame m g
  · exact Cert.Proof.los_reference_frame
  · exact fun m g _ => Cert.AdNKernel.Gen.frame m g
  · exact fun m g _ => Cert.AdNKernelIdeal.Gen.frame m g
  · exact Cert.Proof.adN_reference_frame
  · exact fun m g _ => Cert.AdLKernel.Gen.frame m g
  · exact fun m g _ => Cert.AdLKernelIdeal.Gen.frame m g
  · exact Cert.Proof.adL_reference_frame
  · exact fun m g _ => Cert.AdSKernel.Gen.frame m g
  · exact fun m g _ => Cert.AdSKernelIdeal.Gen.frame m g
  · exact Cert.Proof.adS_reference_frame
  · exact fun m g _ => Cert.AdBKernel.Gen.frame m g
  · exact fun m g _ => Cert.AdBKernelIdeal.Gen.frame m g
  · exact Cert.Proof.adB_reference_frame
  · exact fun m g _ => Cert.AdCKernel.Gen.frame m g
  · exact fun m g _ => Cert.AdCKernelIdeal.Gen.frame m g
  · exact Cert.Proof.adC_reference_frame
  · exact fun m g _ => Cert.AdVKernel.Gen.frame m g
  · exact fun m g _ => Cert.AdVKernelIdeal.Gen.frame m g
  · exact Cert.Proof.adV_reference_frame
  · exact fun m g _ => Cert.AdHKernel.Gen.frame m g
  · exact fun m g _ => Cert.AdHKernelIdeal.Gen.frame m g
  · exact Cert.Proof.adH_reference_frame
  · exact fun m g _ => Cert.AdFKernel.Gen.frame m g
  · exact fun m g _ => Cert.AdFKernelIdeal.Gen.frame m g
  · exact Cert.Proof.adF_reference_frame
  · exact fun m g _ => Cert.AdGKernel.Gen.frame m g
  · exact fun m g _ => Cert.AdGKernelIdeal.Gen.frame m g
  · exact Cert.Proof.adG_reference_frame
  · exact fun m g _ => Cert.SmIKernel.Gen.frame m g
  · exact fun m g _ => Cert.SmIKernelIdeal.Gen.frame m g
  · exact Cert.Proof.smI_reference_frame
  · exact fun m g _ => Cert.SmUKernel.Gen.frame m g
  · exact fun m g _ => Cert.SmUKernelIdeal.Gen.frame m g
  · exact Cert.Proof.smU_reference_frame
  · exact fun m g _ => Cert.SmVKernel.Gen.frame m g
  · exact fun m g _ => Cert.SmVKernelIdeal.Gen.frame m g
  · exact Cert.Proof.smV_reference_frame
  · exact fun m g _ => Cert.SmOKernel.Gen.frame m g
  · exact fun m g _ => Cert.SmOKernelIdeal.Gen.frame m g
  · exact Cert.Proof.smO_reference_frame
  · exact fun m g _ => Cert.SmDKernel.Gen.frame m g
  · exact fun m g _ => Cert.SmDKernelIdeal.Gen.frame m g
  · exact Cert.Proof.smD_reference_frame
  · exact fun m g _ => Cert.SmGKernel.Gen.frame m g
  · exact fun m g _ => Cert.SmGKernelIdeal.Gen.frame m g
  · exact Cert.Proof.smG_reference_frame
  · trivial
  · exact Cert.Proof.disc_algebraic
  · trivial
  · exact Cert.Proof.ffn_algebraic
  · trivial
  · exact Cert.Proof.fwd_algebraic
  · trivial
  · exact Cert.Proof.wdn_algebraic
  · trivial
  · exact Cert.Proof.wgt_algebraic
  · trivial
  · exact Cert.Proof.inb_algebraic
  · trivial
  · exact Cert.Proof.inf_algebraic
  · trivial
  · exact Cert.Proof.wiu_algebraic
  · trivial
  · exact Cert.Proof.wix_algebraic
  · trivial
  · exact Cert.Proof.wid_algebraic
  · trivial
  · exact Cert.Proof.wop_algebraic
  · trivial
  · exact Cert.Proof.los_algebraic
  · trivial
  · exact Cert.Proof.adN_algebraic
  · trivial
  · exact Cert.Proof.adL_algebraic
  · trivial
  · exact Cert.Proof.adS_algebraic
  · trivial
  · exact Cert.Proof.adB_algebraic
  · trivial
  · exact Cert.Proof.adC_algebraic
  · trivial
  · exact Cert.Proof.adV_algebraic
  · trivial
  · exact Cert.Proof.adH_algebraic
  · trivial
  · exact Cert.Proof.adF_algebraic
  · trivial
  · exact Cert.Proof.adG_algebraic
  · trivial
  · exact Cert.Proof.smI_algebraic
  · trivial
  · exact Cert.Proof.smU_algebraic
  · trivial
  · exact Cert.Proof.smV_algebraic
  · trivial
  · exact Cert.Proof.smO_algebraic
  · trivial
  · exact Cert.Proof.smD_algebraic
  · trivial
  · exact Cert.Proof.smG_algebraic⟩

end Cert.Proof

end
